-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v803) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S131072x3 : Shape := ⟨2, ![131072, 3]⟩
abbrev S2097152x3 : Shape := ⟨2, ![2097152, 3]⟩
abbrev S132 : Shape := ⟨1, ![132]⟩
abbrev S_ : Shape := ⟨0, ![]⟩
abbrev S131 : Shape := ⟨1, ![131]⟩
abbrev S1 : Shape := ⟨1, ![1]⟩
abbrev S123 : Shape := ⟨1, ![123]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S132 : S_.BroadcastsInDim S132 (![] : Fin 0 → Fin S132.rank)
  reducesTo_S132_S_d0 : S132.ReducesTo [0] S_
  slices_S132_S131_0 : S132.Slices ![0] S131
  slices_S132_S131_1 : S132.Slices ![1] S131
  reducesTo_S131_S_d0 : S131.ReducesTo [0] S_
  slices_S132_S1_3 : S132.Slices ![3] S1
  shapeCasts_S1_S_ : S1.ShapeCasts S_
  slices_S132_S1_4 : S132.Slices ![4] S1
  slices_S132_S1_127 : S132.Slices ![127] S1
  slices_S132_S1_128 : S132.Slices ![128] S1
  slices_S132_S123_4 : S132.Slices ![4] S123
  bcast_S_S123 : S_.BroadcastsInDim S123 (![] : Fin 0 → Fin S123.rank)
  reducesTo_S123_S_d0 : S123.ReducesTo [0] S_
  slices_S132_S123_5 : S132.Slices ![5] S123

variable [Facts]

def fn_part6 {F : FTy → Type} [FloatOps F] (main_v81 : IVec S_ 1) (main_v85 : IVec S_ 1) (main_v89 : IVec S_ 1) (main_v100 : IVec S_ 1) (main_v108 : IVec S_ 1) (main_v114 : IVec S123 1) (main_c_26 : IVec S_ 1) : IVec S_ 1 :=
  let main_v115 : IVec S_ 1 := (fun x v => Host.reduce IntOp.andi x v reducesTo_S123_S_d0 h_S_) main_v114 main_c_26
  let main_v116 : IVec S_ 1 := andi main_v108 main_v115
  let main_v117 : IVec S_ 1 := andi main_v85 main_v89
  let main_v118 : IVec S_ 1 := andi main_v117 main_v100
  let main_v119 : IVec S_ 1 := andi main_v118 main_v116
  let main_v120 : IVec S_ 1 := andi main_v81 main_v119
  main_v120

def fn_part5 {F : FTy → Type} [FloatOps F] (main_arg4 : FVec F S132 .f32) (main_v81 : IVec S_ 1) (main_v85 : IVec S_ 1) (main_v89 : IVec S_ 1) (main_v94 : IVec S_ 1) (main_v96 : FVec F S_ .f32) : IVec S_ 1 :=
  let main_v97 : FVec F S1 .f32 := (extractStridedSlice S1 ![128] · slices_S132_S1_128) main_arg4
  let main_v98 : FVec F S_ .f32 := shapeCast S_ main_v97 shapeCasts_S1_S_
  let main_v99 : IVec S_ 1 := cmpf .olt main_v96 main_v98
  let main_v100 : IVec S_ 1 := andi main_v94 main_v99
  let main_v101 : FVec F S123 .f32 := sitofp .f32 (iotaInDim S123 32 0)
  let main_v102 : FVec F S123 .f32 := (extractStridedSlice S123 ![4] · slices_S132_S123_4) main_arg4
  let main_cst_21 : FVec F S_ .f32 := constant S_ .f32 0x42FA0000#32
  let main_v103 : FVec F S123 .f32 := broadcastInDim S123 ![] bcast_S_S123 main_cst_21
  let main_v104 : FVec F S123 .f32 := mulf main_v103 main_v102
  let main_cst_22 : FVec F S_ .f32 := constant S_ .f32 0x40000000#32
  let main_v105 : FVec F S123 .f32 := broadcastInDim S123 ![] bcast_S_S123 main_cst_22
  let main_v106 : FVec F S123 .f32 := addf main_v101 main_v105
  let main_v107 : IVec S123 1 := cmpf .ole main_v104 main_v106
  let main_c_23 : IVec S_ 1 := constantI S_ 1 1#1
  let main_v108 : IVec S_ 1 := (fun x v => Host.reduce IntOp.andi x v reducesTo_S123_S_d0 h_S_) main_v107 main_c_23
  let main_cst_24 : FVec F S_ .f32 := constant S_ .f32 0x3F800000#32
  let main_v109 : FVec F S123 .f32 := broadcastInDim S123 ![] bcast_S_S123 main_cst_24
  let main_v110 : FVec F S123 .f32 := addf main_v101 main_v109
  let main_v111 : FVec F S123 .f32 := (extractStridedSlice S123 ![5] · slices_S132_S123_5) main_arg4
  let main_cst_25 : FVec F S_ .f32 := constant S_ .f32 0x42FA0000#32
  let main_v112 : FVec F S123 .f32 := broadcastInDim S123 ![] bcast_S_S123 main_cst_25
  let main_v113 : FVec F S123 .f32 := mulf main_v112 main_v111
  let main_v114 : IVec S123 1 := cmpf .ole main_v110 main_v113
  let main_c_26 : IVec S_ 1 := constantI S_ 1 1#1
  fn_part6 (F := F) main_v81 main_v85 main_v89 main_v100 main_v108 main_v114 main_c_26

def fn_part4 {F : FTy → Type} [FloatOps F] (main_arg4 : FVec F S132 .f32) (main_v42 : IVec S_ 1) (main_v46 : IVec S_ 1) (main_v50 : IVec S_ 1) (main_v61 : IVec S_ 1) (main_v69 : IVec S_ 1) (main_v75 : IVec S123 1) (main_c_17 : IVec S_ 1) : IVec S_ 1 :=
  let main_v76 : IVec S_ 1 := (fun x v => Host.reduce IntOp.andi x v reducesTo_S123_S_d0 h_S_) main_v75 main_c_17
  let main_v77 : IVec S_ 1 := andi main_v69 main_v76
  let main_v78 : IVec S_ 1 := andi main_v46 main_v50
  let main_v79 : IVec S_ 1 := andi main_v78 main_v61
  let main_v80 : IVec S_ 1 := andi main_v79 main_v77
  let main_v81 : IVec S_ 1 := andi main_v42 main_v80
  let main_v82 : FVec F S132 .f32 := Host.absf main_arg4
  let main_cst_18 : FVec F S_ .f32 := constant S_ .f32 0x7F800000#32
  let main_v83 : FVec F S132 .f32 := broadcastInDim S132 ![] bcast_S_S132 main_cst_18
  let main_v84 : IVec S132 1 := cmpf .olt main_v82 main_v83
  let main_c_19 : IVec S_ 1 := constantI S_ 1 1#1
  let main_v85 : IVec S_ 1 := (fun x v => Host.reduce IntOp.andi x v reducesTo_S132_S_d0 h_S_) main_v84 main_c_19
  let main_v86 : FVec F S131 .f32 := (extractStridedSlice S131 ![0] · slices_S132_S131_0) main_arg4
  let main_v87 : FVec F S131 .f32 := (extractStridedSlice S131 ![1] · slices_S132_S131_1) main_arg4
  let main_v88 : IVec S131 1 := cmpf .ole main_v86 main_v87
  let main_c_20 : IVec S_ 1 := constantI S_ 1 1#1
  let main_v89 : IVec S_ 1 := (fun x v => Host.reduce IntOp.andi x v reducesTo_S131_S_d0 h_S_) main_v88 main_c_20
  let main_v90 : FVec F S1 .f32 := (extractStridedSlice S1 ![3] · slices_S132_S1_3) main_arg4
  let main_v91 : FVec F S_ .f32 := shapeCast S_ main_v90 shapeCasts_S1_S_
  let main_v92 : FVec F S1 .f32 := (extractStridedSlice S1 ![4] · slices_S132_S1_4) main_arg4
  let main_v93 : FVec F S_ .f32 := shapeCast S_ main_v92 shapeCasts_S1_S_
  let main_v94 : IVec S_ 1 := cmpf .olt main_v91 main_v93
  let main_v95 : FVec F S1 .f32 := (extractStridedSlice S1 ![127] · slices_S132_S1_127) main_arg4
  let main_v96 : FVec F S_ .f32 := shapeCast S_ main_v95 shapeCasts_S1_S_
  fn_part5 (F := F) main_arg4 main_v81 main_v85 main_v89 main_v94 main_v96

def fn_part3 {F : FTy → Type} [FloatOps F] (main_arg3 : FVec F S132 .f32) (main_arg4 : FVec F S132 .f32) (main_v42 : IVec S_ 1) (main_v46 : IVec S_ 1) (main_v50 : IVec S_ 1) (main_v55 : IVec S_ 1) (main_v57 : FVec F S_ .f32) : IVec S_ 1 :=
  let main_v58 : FVec F S1 .f32 := (extractStridedSlice S1 ![128] · slices_S132_S1_128) main_arg3
  let main_v59 : FVec F S_ .f32 := shapeCast S_ main_v58 shapeCasts_S1_S_
  let main_v60 : IVec S_ 1 := cmpf .olt main_v57 main_v59
  let main_v61 : IVec S_ 1 := andi main_v55 main_v60
  let main_v62 : FVec F S123 .f32 := sitofp .f32 (iotaInDim S123 32 0)
  let main_v63 : FVec F S123 .f32 := (extractStridedSlice S123 ![4] · slices_S132_S123_4) main_arg3
  let main_cst_12 : FVec F S_ .f32 := constant S_ .f32 0x42FA0000#32
  let main_v64 : FVec F S123 .f32 := broadcastInDim S123 ![] bcast_S_S123 main_cst_12
  let main_v65 : FVec F S123 .f32 := mulf main_v64 main_v63
  let main_cst_13 : FVec F S_ .f32 := constant S_ .f32 0x40000000#32
  let main_v66 : FVec F S123 .f32 := broadcastInDim S123 ![] bcast_S_S123 main_cst_13
  let main_v67 : FVec F S123 .f32 := addf main_v62 main_v66
  let main_v68 : IVec S123 1 := cmpf .ole main_v65 main_v67
  let main_c_14 : IVec S_ 1 := constantI S_ 1 1#1
  let main_v69 : IVec S_ 1 := (fun x v => Host.reduce IntOp.andi x v reducesTo_S123_S_d0 h_S_) main_v68 main_c_14
  let main_cst_15 : FVec F S_ .f32 := constant S_ .f32 0x3F800000#32
  let main_v70 : FVec F S123 .f32 := broadcastInDim S123 ![] bcast_S_S123 main_cst_15
  let main_v71 : FVec F S123 .f32 := addf main_v62 main_v70
  let main_v72 : FVec F S123 .f32 := (extractStridedSlice S123 ![5] · slices_S132_S123_5) main_arg3
  let main_cst_16 : FVec F S_ .f32 := constant S_ .f32 0x42FA0000#32
  let main_v73 : FVec F S123 .f32 := broadcastInDim S123 ![] bcast_S_S123 main_cst_16
  let main_v74 : FVec F S123 .f32 := mulf main_v73 main_v72
  let main_v75 : IVec S123 1 := cmpf .ole main_v71 main_v74
  let main_c_17 : IVec S_ 1 := constantI S_ 1 1#1
  fn_part4 (F := F) main_arg4 main_v42 main_v46 main_v50 main_v61 main_v69 main_v75 main_c_17

def fn_part2 {F : FTy → Type} [FloatOps F] (main_arg3 : FVec F S132 .f32) (main_arg4 : FVec F S132 .f32) (main_v3 : IVec S_ 1) (main_v7 : IVec S_ 1) (main_v11 : IVec S_ 1) (main_v22 : IVec S_ 1) (main_v30 : IVec S_ 1) (main_v36 : IVec S123 1) (main_c_8 : IVec S_ 1) : IVec S_ 1 :=
  let main_v37 : IVec S_ 1 := (fun x v => Host.reduce IntOp.andi x v reducesTo_S123_S_d0 h_S_) main_v36 main_c_8
  let main_v38 : IVec S_ 1 := andi main_v30 main_v37
  let main_v39 : IVec S_ 1 := andi main_v7 main_v11
  let main_v40 : IVec S_ 1 := andi main_v39 main_v22
  let main_v41 : IVec S_ 1 := andi main_v40 main_v38
  let main_v42 : IVec S_ 1 := andi main_v3 main_v41
  let main_v43 : FVec F S132 .f32 := Host.absf main_arg3
  let main_cst_9 : FVec F S_ .f32 := constant S_ .f32 0x7F800000#32
  let main_v44 : FVec F S132 .f32 := broadcastInDim S132 ![] bcast_S_S132 main_cst_9
  let main_v45 : IVec S132 1 := cmpf .olt main_v43 main_v44
  let main_c_10 : IVec S_ 1 := constantI S_ 1 1#1
  let main_v46 : IVec S_ 1 := (fun x v => Host.reduce IntOp.andi x v reducesTo_S132_S_d0 h_S_) main_v45 main_c_10
  let main_v47 : FVec F S131 .f32 := (extractStridedSlice S131 ![0] · slices_S132_S131_0) main_arg3
  let main_v48 : FVec F S131 .f32 := (extractStridedSlice S131 ![1] · slices_S132_S131_1) main_arg3
  let main_v49 : IVec S131 1 := cmpf .ole main_v47 main_v48
  let main_c_11 : IVec S_ 1 := constantI S_ 1 1#1
  let main_v50 : IVec S_ 1 := (fun x v => Host.reduce IntOp.andi x v reducesTo_S131_S_d0 h_S_) main_v49 main_c_11
  let main_v51 : FVec F S1 .f32 := (extractStridedSlice S1 ![3] · slices_S132_S1_3) main_arg3
  let main_v52 : FVec F S_ .f32 := shapeCast S_ main_v51 shapeCasts_S1_S_
  let main_v53 : FVec F S1 .f32 := (extractStridedSlice S1 ![4] · slices_S132_S1_4) main_arg3
  let main_v54 : FVec F S_ .f32 := shapeCast S_ main_v53 shapeCasts_S1_S_
  let main_v55 : IVec S_ 1 := cmpf .olt main_v52 main_v54
  let main_v56 : FVec F S1 .f32 := (extractStridedSlice S1 ![127] · slices_S132_S1_127) main_arg3
  let main_v57 : FVec F S_ .f32 := shapeCast S_ main_v56 shapeCasts_S1_S_
  fn_part3 (F := F) main_arg3 main_arg4 main_v42 main_v46 main_v50 main_v55 main_v57

def fn_part1 {F : FTy → Type} [FloatOps F] (main_arg2 : FVec F S132 .f32) (main_arg3 : FVec F S132 .f32) (main_arg4 : FVec F S132 .f32) (main_v3 : IVec S_ 1) (main_v7 : IVec S_ 1) (main_v11 : IVec S_ 1) (main_v16 : IVec S_ 1) (main_v18 : FVec F S_ .f32) : IVec S_ 1 :=
  let main_v19 : FVec F S1 .f32 := (extractStridedSlice S1 ![128] · slices_S132_S1_128) main_arg2
  let main_v20 : FVec F S_ .f32 := shapeCast S_ main_v19 shapeCasts_S1_S_
  let main_v21 : IVec S_ 1 := cmpf .olt main_v18 main_v20
  let main_v22 : IVec S_ 1 := andi main_v16 main_v21
  let main_v23 : FVec F S123 .f32 := sitofp .f32 (iotaInDim S123 32 0)
  let main_v24 : FVec F S123 .f32 := (extractStridedSlice S123 ![4] · slices_S132_S123_4) main_arg2
  let main_cst_3 : FVec F S_ .f32 := constant S_ .f32 0x42FA0000#32
  let main_v25 : FVec F S123 .f32 := broadcastInDim S123 ![] bcast_S_S123 main_cst_3
  let main_v26 : FVec F S123 .f32 := mulf main_v25 main_v24
  let main_cst_4 : FVec F S_ .f32 := constant S_ .f32 0x40000000#32
  let main_v27 : FVec F S123 .f32 := broadcastInDim S123 ![] bcast_S_S123 main_cst_4
  let main_v28 : FVec F S123 .f32 := addf main_v23 main_v27
  let main_v29 : IVec S123 1 := cmpf .ole main_v26 main_v28
  let main_c_5 : IVec S_ 1 := constantI S_ 1 1#1
  let main_v30 : IVec S_ 1 := (fun x v => Host.reduce IntOp.andi x v reducesTo_S123_S_d0 h_S_) main_v29 main_c_5
  let main_cst_6 : FVec F S_ .f32 := constant S_ .f32 0x3F800000#32
  let main_v31 : FVec F S123 .f32 := broadcastInDim S123 ![] bcast_S_S123 main_cst_6
  let main_v32 : FVec F S123 .f32 := addf main_v23 main_v31
  let main_v33 : FVec F S123 .f32 := (extractStridedSlice S123 ![5] · slices_S132_S123_5) main_arg2
  let main_cst_7 : FVec F S_ .f32 := constant S_ .f32 0x42FA0000#32
  let main_v34 : FVec F S123 .f32 := broadcastInDim S123 ![] bcast_S_S123 main_cst_7
  let main_v35 : FVec F S123 .f32 := mulf main_v34 main_v33
  let main_v36 : IVec S123 1 := cmpf .ole main_v32 main_v35
  let main_c_8 : IVec S_ 1 := constantI S_ 1 1#1
  fn_part2 (F := F) main_arg3 main_arg4 main_v3 main_v7 main_v11 main_v22 main_v30 main_v36 main_c_8

def fn {F : FTy → Type} [FloatOps F] (main_arg0 : FVec F S131072x3 .f32) (main_arg1 : FVec F S2097152x3 .f32) (main_arg2 : FVec F S132 .f32) (main_arg3 : FVec F S132 .f32) (main_arg4 : FVec F S132 .f32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S132 .f32 := Host.absf main_arg2
  let main_cst_0 : FVec F S_ .f32 := constant S_ .f32 0x7F800000#32
  let main_v5 : FVec F S132 .f32 := broadcastInDim S132 ![] bcast_S_S132 main_cst_0
  let main_v6 : IVec S132 1 := cmpf .olt main_v4 main_v5
  let main_c_1 : IVec S_ 1 := constantI S_ 1 1#1
  let main_v7 : IVec S_ 1 := (fun x v => Host.reduce IntOp.andi x v reducesTo_S132_S_d0 h_S_) main_v6 main_c_1
  let main_v8 : FVec F S131 .f32 := (extractStridedSlice S131 ![0] · slices_S132_S131_0) main_arg2
  let main_v9 : FVec F S131 .f32 := (extractStridedSlice S131 ![1] · slices_S132_S131_1) main_arg2
  let main_v10 : IVec S131 1 := cmpf .ole main_v8 main_v9
  let main_c_2 : IVec S_ 1 := constantI S_ 1 1#1
  let main_v11 : IVec S_ 1 := (fun x v => Host.reduce IntOp.andi x v reducesTo_S131_S_d0 h_S_) main_v10 main_c_2
  let main_v12 : FVec F S1 .f32 := (extractStridedSlice S1 ![3] · slices_S132_S1_3) main_arg2
  let main_v13 : FVec F S_ .f32 := shapeCast S_ main_v12 shapeCasts_S1_S_
  let main_v14 : FVec F S1 .f32 := (extractStridedSlice S1 ![4] · slices_S132_S1_4) main_arg2
  let main_v15 : FVec F S_ .f32 := shapeCast S_ main_v14 shapeCasts_S1_S_
  let main_v16 : IVec S_ 1 := cmpf .olt main_v13 main_v15
  let main_v17 : FVec F S1 .f32 := (extractStridedSlice S1 ![127] · slices_S132_S1_127) main_arg2
  let main_v18 : FVec F S_ .f32 := shapeCast S_ main_v17 shapeCasts_S1_S_
  fn_part1 (F := F) main_arg2 main_arg3 main_arg4 main_v3 main_v7 main_v11 main_v16 main_v18
-- ==== Kernel.lean ====
abbrev S131072x3 : Shape := ⟨2, ![131072, 3]⟩
abbrev S2097152x3 : Shape := ⟨2, ![2097152, 3]⟩
abbrev S132 : Shape := ⟨1, ![132]⟩
abbrev S524288x12 : Shape := ⟨2, ![524288, 12]⟩
abbrev S_ : Shape := ⟨0, ![]⟩
abbrev S524288x16 : Shape := ⟨2, ![524288, 16]⟩
abbrev S64x3 : Shape := ⟨2, ![64, 3]⟩
abbrev S16x128 : Shape := ⟨2, ![16, 128]⟩
abbrev S16x128x16 : Shape := ⟨3, ![16, 128, 16]⟩
abbrev S12x64 : Shape := ⟨2, ![12, 64]⟩
abbrev S64 : Shape := ⟨1, ![64]⟩
abbrev S16 : Shape := ⟨1, ![16]⟩
abbrev S1x16 : Shape := ⟨2, ![1, 16]⟩
abbrev S1x128x16 : Shape := ⟨3, ![1, 128, 16]⟩
abbrev S128x16 : Shape := ⟨2, ![128, 16]⟩
abbrev S1x128 : Shape := ⟨2, ![1, 128]⟩
abbrev S128 : Shape := ⟨1, ![128]⟩

abbrev nBuf : Table → Nat
  | .hbm => 10
  | .local .scVector .vmem => 9
  | _ => 0

abbrev bufTy : (tb : Table) → Fin (nBuf tb) → BufTy
  | .hbm, ⟨0, _⟩ => ⟨S131072x3, .f32⟩
  | .hbm, ⟨1, _⟩ => ⟨S2097152x3, .f32⟩
  | .hbm, ⟨2, _⟩ => ⟨S132, .f32⟩
  | .hbm, ⟨3, _⟩ => ⟨S132, .f32⟩
  | .hbm, ⟨4, _⟩ => ⟨S132, .f32⟩
  | .hbm, ⟨5, _⟩ => ⟨S524288x12, .f32⟩
  | .hbm, ⟨6, _⟩ => ⟨S_, .i32⟩
  | .hbm, ⟨7, _⟩ => ⟨S_, .f32⟩
  | .hbm, ⟨8, _⟩ => ⟨S524288x16, .f32⟩
  | .hbm, ⟨9, _⟩ => ⟨S131072x3, .f32⟩
  | .local .scVector .vmem, ⟨0, _⟩ => ⟨S132, .f32⟩
  | .local .scVector .vmem, ⟨1, _⟩ => ⟨S132, .f32⟩
  | .local .scVector .vmem, ⟨2, _⟩ => ⟨S132, .f32⟩
  | .local .scVector .vmem, ⟨3, _⟩ => ⟨S64x3, .f32⟩
  | .local .scVector .vmem, ⟨4, _⟩ => ⟨S16x128, .i32⟩
  | .local .scVector .vmem, ⟨5, _⟩ => ⟨S16x128x16, .f32⟩
  | .local .scVector .vmem, ⟨6, _⟩ => ⟨S12x64, .f32⟩
  | .local .scVector .vmem, ⟨7, _⟩ => ⟨S64, .i32⟩
  | .local .scVector .vmem, ⟨8, _⟩ => ⟨S64x3, .f32⟩
  | _, _ => ⟨S131072x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_arg0_scv : Ref sig .scVector := ⟨.hbm, 0, rfl⟩
abbrev main_v1_scv : Ref sig .scVector := ⟨.hbm, 8, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_v2_scv : Ref sig .scVector := ⟨.hbm, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c64_i32 : BitVec 32 := 64#32
  let v4 : BitVec 32 := Scalar.addi c0_i32 c64_i32
  let c1_i32 : BitVec 32 := 1#32
  ⟨c0_i32, v4, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_2 : BitVec 32 := 0#32
  let c0_i32 : BitVec 32 := 0#32
  let c1_i32 : BitVec 32 := 1#32
  let arg18 : BitVec 32 := Scf.iv c0_i32 c1_i32 k0_t1
  let c1_i32_1 : BitVec 32 := 1#32
  let v5 : BitVec 32 := Scalar.muli arg18 c1_i32_1
  let v6 : BitVec 32 := Scalar.addi c0_i32_2 v5
  let c64_i32_3 : BitVec 32 := 64#32
  let v7 : BitVec 32 := Scalar.muli v6 c64_i32_3
  let v8 : BitVec 32 := Scalar.addi v2 v7
  let c0_i32_1929_r3 : BitVec 32 := 0#32
  ![v8.toNat, 0]

def k0_chk1 (v10 : IVec S16 32) (v11 : IVec S16 32) : Prop :=
  (∀ a x, ((![v10, v11] : Fin 2 → IVec S16 32) a x).toNat < S64x3.size a)
theorem k0_idx1_inb : ∀ (v10 : IVec S16 32) (v11 : IVec S16 32) (k0_hw1 : k0_chk1 v10 v11), ∀ a x, ((![v10, v11] : Fin 2 → IVec S16 32) a x).toNat < S64x3.size a := fun v10 v11 k0_hw1 => k0_hw1

def k0_chk2 (v10 : IVec S16 32) (v13 : IVec S16 32) : Prop :=
  (∀ a x, ((![v10, v13] : Fin 2 → IVec S16 32) a x).toNat < S64x3.size a)
theorem k0_idx2_inb : ∀ (v10 : IVec S16 32) (v13 : IVec S16 32) (k0_hw2 : k0_chk2 v10 v13), ∀ a x, ((![v10, v13] : Fin 2 → IVec S16 32) a x).toNat < S64x3.size a := fun v10 v13 k0_hw2 => k0_hw2

def k0_chk3 (v10 : IVec S16 32) (v15 : IVec S16 32) : Prop :=
  (∀ a x, ((![v10, v15] : Fin 2 → IVec S16 32) a x).toNat < S64x3.size a)
theorem k0_idx3_inb : ∀ (v10 : IVec S16 32) (v15 : IVec S16 32) (k0_hw3 : k0_chk3 v10 v15), ∀ a x, ((![v10, v15] : Fin 2 → IVec S16 32) a x).toNat < S64x3.size a := fun v10 v15 k0_hw3 => k0_hw3

def k0_chk4 (v25 : IVec S16 32) : Prop :=
  (∀ a x, ((![v25] : Fin 1 → IVec S16 32) a x).toNat < S132.size a)
theorem k0_idx4_inb : ∀ (v25 : IVec S16 32) (k0_hw4 : k0_chk4 v25), ∀ a x, ((![v25] : Fin 1 → IVec S16 32) a x).toNat < S132.size a := fun v25 k0_hw4 => k0_hw4

def k0_chk5 (v28 : IVec S16 32) : Prop :=
  (∀ a x, ((![v28] : Fin 1 → IVec S16 32) a x).toNat < S132.size a)
theorem k0_idx5_inb : ∀ (v28 : IVec S16 32) (k0_hw5 : k0_chk5 v28), ∀ a x, ((![v28] : Fin 1 → IVec S16 32) a x).toNat < S132.size a := fun v28 k0_hw5 => k0_hw5

def k0_chk6 (v41 : IVec S16 32) : Prop :=
  (∀ a x, ((![v41] : Fin 1 → IVec S16 32) a x).toNat < S132.size a)
theorem k0_idx6_inb : ∀ (v41 : IVec S16 32) (k0_hw6 : k0_chk6 v41), ∀ a x, ((![v41] : Fin 1 → IVec S16 32) a x).toNat < S132.size a := fun v41 k0_hw6 => k0_hw6

def k0_chk7 (v44 : IVec S16 32) : Prop :=
  (∀ a x, ((![v44] : Fin 1 → IVec S16 32) a x).toNat < S132.size a)
theorem k0_idx7_inb : ∀ (v44 : IVec S16 32) (k0_hw7 : k0_chk7 v44), ∀ a x, ((![v44] : Fin 1 → IVec S16 32) a x).toNat < S132.size a := fun v44 k0_hw7 => k0_hw7

def k0_chk8 (v47 : IVec S16 32) : Prop :=
  (∀ a x, ((![v47] : Fin 1 → IVec S16 32) a x).toNat < S132.size a)
theorem k0_idx8_inb : ∀ (v47 : IVec S16 32) (k0_hw8 : k0_chk8 v47), ∀ a x, ((![v47] : Fin 1 → IVec S16 32) a x).toNat < S132.size a := fun v47 k0_hw8 => k0_hw8

def k0_chk9 (v50 : IVec S16 32) : Prop :=
  (∀ a x, ((![v50] : Fin 1 → IVec S16 32) a x).toNat < S132.size a)
theorem k0_idx9_inb : ∀ (v50 : IVec S16 32) (k0_hw9 : k0_chk9 v50), ∀ a x, ((![v50] : Fin 1 → IVec S16 32) a x).toNat < S132.size a := fun v50 k0_hw9 => k0_hw9

def k0_chk10 (v53 : IVec S16 32) : Prop :=
  (∀ a x, ((![v53] : Fin 1 → IVec S16 32) a x).toNat < S132.size a)
theorem k0_idx10_inb : ∀ (v53 : IVec S16 32) (k0_hw10 : k0_chk10 v53), ∀ a x, ((![v53] : Fin 1 → IVec S16 32) a x).toNat < S132.size a := fun v53 k0_hw10 => k0_hw10

def k0_chk11 (v56 : IVec S16 32) : Prop :=
  (∀ a x, ((![v56] : Fin 1 → IVec S16 32) a x).toNat < S132.size a)
theorem k0_idx11_inb : ∀ (v56 : IVec S16 32) (k0_hw11 : k0_chk11 v56), ∀ a x, ((![v56] : Fin 1 → IVec S16 32) a x).toNat < S132.size a := fun v56 k0_hw11 => k0_hw11

def k0_chk12 (v100 : IVec S16 32) : Prop :=
  (∀ a x, ((![v100] : Fin 1 → IVec S16 32) a x).toNat < S132.size a)
theorem k0_idx12_inb : ∀ (v100 : IVec S16 32) (k0_hw12 : k0_chk12 v100), ∀ a x, ((![v100] : Fin 1 → IVec S16 32) a x).toNat < S132.size a := fun v100 k0_hw12 => k0_hw12

def k0_chk13 (v103 : IVec S16 32) : Prop :=
  (∀ a x, ((![v103] : Fin 1 → IVec S16 32) a x).toNat < S132.size a)
theorem k0_idx13_inb : ∀ (v103 : IVec S16 32) (k0_hw13 : k0_chk13 v103), ∀ a x, ((![v103] : Fin 1 → IVec S16 32) a x).toNat < S132.size a := fun v103 k0_hw13 => k0_hw13

def k0_chk14 (v116 : IVec S16 32) : Prop :=
  (∀ a x, ((![v116] : Fin 1 → IVec S16 32) a x).toNat < S132.size a)
theorem k0_idx14_inb : ∀ (v116 : IVec S16 32) (k0_hw14 : k0_chk14 v116), ∀ a x, ((![v116] : Fin 1 → IVec S16 32) a x).toNat < S132.size a := fun v116 k0_hw14 => k0_hw14

def k0_chk15 (v119 : IVec S16 32) : Prop :=
  (∀ a x, ((![v119] : Fin 1 → IVec S16 32) a x).toNat < S132.size a)
theorem k0_idx15_inb : ∀ (v119 : IVec S16 32) (k0_hw15 : k0_chk15 v119), ∀ a x, ((![v119] : Fin 1 → IVec S16 32) a x).toNat < S132.size a := fun v119 k0_hw15 => k0_hw15

def k0_chk16 (v122 : IVec S16 32) : Prop :=
  (∀ a x, ((![v122] : Fin 1 → IVec S16 32) a x).toNat < S132.size a)
theorem k0_idx16_inb : ∀ (v122 : IVec S16 32) (k0_hw16 : k0_chk16 v122), ∀ a x, ((![v122] : Fin 1 → IVec S16 32) a x).toNat < S132.size a := fun v122 k0_hw16 => k0_hw16

def k0_chk17 (v125 : IVec S16 32) : Prop :=
  (∀ a x, ((![v125] : Fin 1 → IVec S16 32) a x).toNat < S132.size a)
theorem k0_idx17_inb : ∀ (v125 : IVec S16 32) (k0_hw17 : k0_chk17 v125), ∀ a x, ((![v125] : Fin 1 → IVec S16 32) a x).toNat < S132.size a := fun v125 k0_hw17 => k0_hw17

def k0_chk18 (v128 : IVec S16 32) : Prop :=
  (∀ a x, ((![v128] : Fin 1 → IVec S16 32) a x).toNat < S132.size a)
theorem k0_idx18_inb : ∀ (v128 : IVec S16 32) (k0_hw18 : k0_chk18 v128), ∀ a x, ((![v128] : Fin 1 → IVec S16 32) a x).toNat < S132.size a := fun v128 k0_hw18 => k0_hw18

def k0_chk19 (v131 : IVec S16 32) : Prop :=
  (∀ a x, ((![v131] : Fin 1 → IVec S16 32) a x).toNat < S132.size a)
theorem k0_idx19_inb : ∀ (v131 : IVec S16 32) (k0_hw19 : k0_chk19 v131), ∀ a x, ((![v131] : Fin 1 → IVec S16 32) a x).toNat < S132.size a := fun v131 k0_hw19 => k0_hw19

def k0_chk20 (v175 : IVec S16 32) : Prop :=
  (∀ a x, ((![v175] : Fin 1 → IVec S16 32) a x).toNat < S132.size a)
theorem k0_idx20_inb : ∀ (v175 : IVec S16 32) (k0_hw20 : k0_chk20 v175), ∀ a x, ((![v175] : Fin 1 → IVec S16 32) a x).toNat < S132.size a := fun v175 k0_hw20 => k0_hw20

def k0_chk21 (v178 : IVec S16 32) : Prop :=
  (∀ a x, ((![v178] : Fin 1 → IVec S16 32) a x).toNat < S132.size a)
theorem k0_idx21_inb : ∀ (v178 : IVec S16 32) (k0_hw21 : k0_chk21 v178), ∀ a x, ((![v178] : Fin 1 → IVec S16 32) a x).toNat < S132.size a := fun v178 k0_hw21 => k0_hw21

def k0_chk22 (v191 : IVec S16 32) : Prop :=
  (∀ a x, ((![v191] : Fin 1 → IVec S16 32) a x).toNat < S132.size a)
theorem k0_idx22_inb : ∀ (v191 : IVec S16 32) (k0_hw22 : k0_chk22 v191), ∀ a x, ((![v191] : Fin 1 → IVec S16 32) a x).toNat < S132.size a := fun v191 k0_hw22 => k0_hw22

def k0_chk23 (v194 : IVec S16 32) : Prop :=
  (∀ a x, ((![v194] : Fin 1 → IVec S16 32) a x).toNat < S132.size a)
theorem k0_idx23_inb : ∀ (v194 : IVec S16 32) (k0_hw23 : k0_chk23 v194), ∀ a x, ((![v194] : Fin 1 → IVec S16 32) a x).toNat < S132.size a := fun v194 k0_hw23 => k0_hw23

def k0_chk24 (v197 : IVec S16 32) : Prop :=
  (∀ a x, ((![v197] : Fin 1 → IVec S16 32) a x).toNat < S132.size a)
theorem k0_idx24_inb : ∀ (v197 : IVec S16 32) (k0_hw24 : k0_chk24 v197), ∀ a x, ((![v197] : Fin 1 → IVec S16 32) a x).toNat < S132.size a := fun v197 k0_hw24 => k0_hw24

def k0_chk25 (v200 : IVec S16 32) : Prop :=
  (∀ a x, ((![v200] : Fin 1 → IVec S16 32) a x).toNat < S132.size a)
theorem k0_idx25_inb : ∀ (v200 : IVec S16 32) (k0_hw25 : k0_chk25 v200), ∀ a x, ((![v200] : Fin 1 → IVec S16 32) a x).toNat < S132.size a := fun v200 k0_hw25 => k0_hw25

def k0_chk26 (v203 : IVec S16 32) : Prop :=
  (∀ a x, ((![v203] : Fin 1 → IVec S16 32) a x).toNat < S132.size a)
theorem k0_idx26_inb : ∀ (v203 : IVec S16 32) (k0_hw26 : k0_chk26 v203), ∀ a x, ((![v203] : Fin 1 → IVec S16 32) a x).toNat < S132.size a := fun v203 k0_hw26 => k0_hw26

def k0_chk27 (v206 : IVec S16 32) : Prop :=
  (∀ a x, ((![v206] : Fin 1 → IVec S16 32) a x).toNat < S132.size a)
theorem k0_idx27_inb : ∀ (v206 : IVec S16 32) (k0_hw27 : k0_chk27 v206), ∀ a x, ((![v206] : Fin 1 → IVec S16 32) a x).toNat < S132.size a := fun v206 k0_hw27 => k0_hw27

def k0_chk28 (v280 : IVec S16 32) (v287 : IVec S16 32) : Prop :=
  (∀ a x, ((![v287, v280] : Fin 2 → IVec S16 32) a x).toNat < S16x128.size a)
theorem k0_idx28_inb : ∀ (v280 : IVec S16 32) (v287 : IVec S16 32) (k0_hw28 : k0_chk28 v280 v287), ∀ a x, ((![v287, v280] : Fin 2 → IVec S16 32) a x).toNat < S16x128.size a := fun v280 v287 k0_hw28 => k0_hw28

def k0_chk29 (v288 : IVec S16 32) (v290 : IVec S16 32) : Prop :=
  (∀ a x, ((![v288, v290] : Fin 2 → IVec S16 32) a x).toNat < S16x128.size a)
theorem k0_idx29_inb : ∀ (v288 : IVec S16 32) (v290 : IVec S16 32) (k0_hw29 : k0_chk29 v288 v290), ∀ a x, ((![v288, v290] : Fin 2 → IVec S16 32) a x).toNat < S16x128.size a := fun v288 v290 k0_hw29 => k0_hw29

def k0_chk30 (v280 : IVec S16 32) (v297 : IVec S16 32) : Prop :=
  (∀ a x, ((![v297, v280] : Fin 2 → IVec S16 32) a x).toNat < S16x128.size a)
theorem k0_idx30_inb : ∀ (v280 : IVec S16 32) (v297 : IVec S16 32) (k0_hw30 : k0_chk30 v280 v297), ∀ a x, ((![v297, v280] : Fin 2 → IVec S16 32) a x).toNat < S16x128.size a := fun v280 v297 k0_hw30 => k0_hw30

def k0_chk31 (v298 : IVec S16 32) (v300 : IVec S16 32) : Prop :=
  (∀ a x, ((![v298, v300] : Fin 2 → IVec S16 32) a x).toNat < S16x128.size a)
theorem k0_idx31_inb : ∀ (v298 : IVec S16 32) (v300 : IVec S16 32) (k0_hw31 : k0_chk31 v298 v300), ∀ a x, ((![v298, v300] : Fin 2 → IVec S16 32) a x).toNat < S16x128.size a := fun v298 v300 k0_hw31 => k0_hw31

def k0_chk32 (v280 : IVec S16 32) (v307 : IVec S16 32) : Prop :=
  (∀ a x, ((![v307, v280] : Fin 2 → IVec S16 32) a x).toNat < S16x128.size a)
theorem k0_idx32_inb : ∀ (v280 : IVec S16 32) (v307 : IVec S16 32) (k0_hw32 : k0_chk32 v280 v307), ∀ a x, ((![v307, v280] : Fin 2 → IVec S16 32) a x).toNat < S16x128.size a := fun v280 v307 k0_hw32 => k0_hw32

def k0_chk33 (v308 : IVec S16 32) (v310 : IVec S16 32) : Prop :=
  (∀ a x, ((![v308, v310] : Fin 2 → IVec S16 32) a x).toNat < S16x128.size a)
theorem k0_idx33_inb : ∀ (v308 : IVec S16 32) (v310 : IVec S16 32) (k0_hw33 : k0_chk33 v308 v310), ∀ a x, ((![v308, v310] : Fin 2 → IVec S16 32) a x).toNat < S16x128.size a := fun v308 v310 k0_hw33 => k0_hw33

def k0_chk34 (v280 : IVec S16 32) (v317 : IVec S16 32) : Prop :=
  (∀ a x, ((![v317, v280] : Fin 2 → IVec S16 32) a x).toNat < S16x128.size a)
theorem k0_idx34_inb : ∀ (v280 : IVec S16 32) (v317 : IVec S16 32) (k0_hw34 : k0_chk34 v280 v317), ∀ a x, ((![v317, v280] : Fin 2 → IVec S16 32) a x).toNat < S16x128.size a := fun v280 v317 k0_hw34 => k0_hw34

def k0_chk35 (v318 : IVec S16 32) (v320 : IVec S16 32) : Prop :=
  (∀ a x, ((![v318, v320] : Fin 2 → IVec S16 32) a x).toNat < S16x128.size a)
theorem k0_idx35_inb : ∀ (v318 : IVec S16 32) (v320 : IVec S16 32) (k0_hw35 : k0_chk35 v318 v320), ∀ a x, ((![v318, v320] : Fin 2 → IVec S16 32) a x).toNat < S16x128.size a := fun v318 v320 k0_hw35 => k0_hw35

def k0_chk36 (v280 : IVec S16 32) (v327 : IVec S16 32) : Prop :=
  (∀ a x, ((![v327, v280] : Fin 2 → IVec S16 32) a x).toNat < S16x128.size a)
theorem k0_idx36_inb : ∀ (v280 : IVec S16 32) (v327 : IVec S16 32) (k0_hw36 : k0_chk36 v280 v327), ∀ a x, ((![v327, v280] : Fin 2 → IVec S16 32) a x).toNat < S16x128.size a := fun v280 v327 k0_hw36 => k0_hw36

def k0_chk37 (v328 : IVec S16 32) (v330 : IVec S16 32) : Prop :=
  (∀ a x, ((![v328, v330] : Fin 2 → IVec S16 32) a x).toNat < S16x128.size a)
theorem k0_idx37_inb : ∀ (v328 : IVec S16 32) (v330 : IVec S16 32) (k0_hw37 : k0_chk37 v328 v330), ∀ a x, ((![v328, v330] : Fin 2 → IVec S16 32) a x).toNat < S16x128.size a := fun v328 v330 k0_hw37 => k0_hw37

def k0_chk38 (v280 : IVec S16 32) (v337 : IVec S16 32) : Prop :=
  (∀ a x, ((![v337, v280] : Fin 2 → IVec S16 32) a x).toNat < S16x128.size a)
theorem k0_idx38_inb : ∀ (v280 : IVec S16 32) (v337 : IVec S16 32) (k0_hw38 : k0_chk38 v280 v337), ∀ a x, ((![v337, v280] : Fin 2 → IVec S16 32) a x).toNat < S16x128.size a := fun v280 v337 k0_hw38 => k0_hw38

def k0_chk39 (v338 : IVec S16 32) (v340 : IVec S16 32) : Prop :=
  (∀ a x, ((![v338, v340] : Fin 2 → IVec S16 32) a x).toNat < S16x128.size a)
theorem k0_idx39_inb : ∀ (v338 : IVec S16 32) (v340 : IVec S16 32) (k0_hw39 : k0_chk39 v338 v340), ∀ a x, ((![v338, v340] : Fin 2 → IVec S16 32) a x).toNat < S16x128.size a := fun v338 v340 k0_hw39 => k0_hw39

def k0_chk40 (v280 : IVec S16 32) (v347 : IVec S16 32) : Prop :=
  (∀ a x, ((![v347, v280] : Fin 2 → IVec S16 32) a x).toNat < S16x128.size a)
theorem k0_idx40_inb : ∀ (v280 : IVec S16 32) (v347 : IVec S16 32) (k0_hw40 : k0_chk40 v280 v347), ∀ a x, ((![v347, v280] : Fin 2 → IVec S16 32) a x).toNat < S16x128.size a := fun v280 v347 k0_hw40 => k0_hw40

def k0_chk41 (v348 : IVec S16 32) (v350 : IVec S16 32) : Prop :=
  (∀ a x, ((![v348, v350] : Fin 2 → IVec S16 32) a x).toNat < S16x128.size a)
theorem k0_idx41_inb : ∀ (v348 : IVec S16 32) (v350 : IVec S16 32) (k0_hw41 : k0_chk41 v348 v350), ∀ a x, ((![v348, v350] : Fin 2 → IVec S16 32) a x).toNat < S16x128.size a := fun v348 v350 k0_hw41 => k0_hw41

def k0_chk42 (v280 : IVec S16 32) (v357 : IVec S16 32) : Prop :=
  (∀ a x, ((![v357, v280] : Fin 2 → IVec S16 32) a x).toNat < S16x128.size a)
theorem k0_idx42_inb : ∀ (v280 : IVec S16 32) (v357 : IVec S16 32) (k0_hw42 : k0_chk42 v280 v357), ∀ a x, ((![v357, v280] : Fin 2 → IVec S16 32) a x).toNat < S16x128.size a := fun v280 v357 k0_hw42 => k0_hw42

def k0_chk43 (v358 : IVec S16 32) (v360 : IVec S16 32) : Prop :=
  (∀ a x, ((![v358, v360] : Fin 2 → IVec S16 32) a x).toNat < S16x128.size a)
theorem k0_idx43_inb : ∀ (v358 : IVec S16 32) (v360 : IVec S16 32) (k0_hw43 : k0_chk43 v358 v360), ∀ a x, ((![v358, v360] : Fin 2 → IVec S16 32) a x).toNat < S16x128.size a := fun v358 v360 k0_hw43 => k0_hw43

def k0_chk44 (v280 : IVec S16 32) (v367 : IVec S16 32) : Prop :=
  (∀ a x, ((![v367, v280] : Fin 2 → IVec S16 32) a x).toNat < S16x128.size a)
theorem k0_idx44_inb : ∀ (v280 : IVec S16 32) (v367 : IVec S16 32) (k0_hw44 : k0_chk44 v280 v367), ∀ a x, ((![v367, v280] : Fin 2 → IVec S16 32) a x).toNat < S16x128.size a := fun v280 v367 k0_hw44 => k0_hw44

def k0_chk45 (v368 : IVec S16 32) (v370 : IVec S16 32) : Prop :=
  (∀ a x, ((![v368, v370] : Fin 2 → IVec S16 32) a x).toNat < S16x128.size a)
theorem k0_idx45_inb : ∀ (v368 : IVec S16 32) (v370 : IVec S16 32) (k0_hw45 : k0_chk45 v368 v370), ∀ a x, ((![v368, v370] : Fin 2 → IVec S16 32) a x).toNat < S16x128.size a := fun v368 v370 k0_hw45 => k0_hw45

def k0_chk46 (v280 : IVec S16 32) (v377 : IVec S16 32) : Prop :=
  (∀ a x, ((![v377, v280] : Fin 2 → IVec S16 32) a x).toNat < S16x128.size a)
theorem k0_idx46_inb : ∀ (v280 : IVec S16 32) (v377 : IVec S16 32) (k0_hw46 : k0_chk46 v280 v377), ∀ a x, ((![v377, v280] : Fin 2 → IVec S16 32) a x).toNat < S16x128.size a := fun v280 v377 k0_hw46 => k0_hw46

def k0_chk47 (v378 : IVec S16 32) (v380 : IVec S16 32) : Prop :=
  (∀ a x, ((![v378, v380] : Fin 2 → IVec S16 32) a x).toNat < S16x128.size a)
theorem k0_idx47_inb : ∀ (v378 : IVec S16 32) (v380 : IVec S16 32) (k0_hw47 : k0_chk47 v378 v380), ∀ a x, ((![v378, v380] : Fin 2 → IVec S16 32) a x).toNat < S16x128.size a := fun v378 v380 k0_hw47 => k0_hw47

def k0_chk48 (v280 : IVec S16 32) (v387 : IVec S16 32) : Prop :=
  (∀ a x, ((![v387, v280] : Fin 2 → IVec S16 32) a x).toNat < S16x128.size a)
theorem k0_idx48_inb : ∀ (v280 : IVec S16 32) (v387 : IVec S16 32) (k0_hw48 : k0_chk48 v280 v387), ∀ a x, ((![v387, v280] : Fin 2 → IVec S16 32) a x).toNat < S16x128.size a := fun v280 v387 k0_hw48 => k0_hw48

def k0_chk49 (v388 : IVec S16 32) (v390 : IVec S16 32) : Prop :=
  (∀ a x, ((![v388, v390] : Fin 2 → IVec S16 32) a x).toNat < S16x128.size a)
theorem k0_idx49_inb : ∀ (v388 : IVec S16 32) (v390 : IVec S16 32) (k0_hw49 : k0_chk49 v388 v390), ∀ a x, ((![v388, v390] : Fin 2 → IVec S16 32) a x).toNat < S16x128.size a := fun v388 v390 k0_hw49 => k0_hw49

def k0_chk50 (v280 : IVec S16 32) (v397 : IVec S16 32) : Prop :=
  (∀ a x, ((![v397, v280] : Fin 2 → IVec S16 32) a x).toNat < S16x128.size a)
theorem k0_idx50_inb : ∀ (v280 : IVec S16 32) (v397 : IVec S16 32) (k0_hw50 : k0_chk50 v280 v397), ∀ a x, ((![v397, v280] : Fin 2 → IVec S16 32) a x).toNat < S16x128.size a := fun v280 v397 k0_hw50 => k0_hw50

def k0_chk51 (v398 : IVec S16 32) (v400 : IVec S16 32) : Prop :=
  (∀ a x, ((![v398, v400] : Fin 2 → IVec S16 32) a x).toNat < S16x128.size a)
theorem k0_idx51_inb : ∀ (v398 : IVec S16 32) (v400 : IVec S16 32) (k0_hw51 : k0_chk51 v398 v400), ∀ a x, ((![v398, v400] : Fin 2 → IVec S16 32) a x).toNat < S16x128.size a := fun v398 v400 k0_hw51 => k0_hw51

def k0_chk52 (v280 : IVec S16 32) (v407 : IVec S16 32) : Prop :=
  (∀ a x, ((![v407, v280] : Fin 2 → IVec S16 32) a x).toNat < S16x128.size a)
theorem k0_idx52_inb : ∀ (v280 : IVec S16 32) (v407 : IVec S16 32) (k0_hw52 : k0_chk52 v280 v407), ∀ a x, ((![v407, v280] : Fin 2 → IVec S16 32) a x).toNat < S16x128.size a := fun v280 v407 k0_hw52 => k0_hw52

def k0_chk53 (v408 : IVec S16 32) (v410 : IVec S16 32) : Prop :=
  (∀ a x, ((![v408, v410] : Fin 2 → IVec S16 32) a x).toNat < S16x128.size a)
theorem k0_idx53_inb : ∀ (v408 : IVec S16 32) (v410 : IVec S16 32) (k0_hw53 : k0_chk53 v408 v410), ∀ a x, ((![v408, v410] : Fin 2 → IVec S16 32) a x).toNat < S16x128.size a := fun v408 v410 k0_hw53 => k0_hw53

def k0_chk54 (v280 : IVec S16 32) (v417 : IVec S16 32) : Prop :=
  (∀ a x, ((![v417, v280] : Fin 2 → IVec S16 32) a x).toNat < S16x128.size a)
theorem k0_idx54_inb : ∀ (v280 : IVec S16 32) (v417 : IVec S16 32) (k0_hw54 : k0_chk54 v280 v417), ∀ a x, ((![v417, v280] : Fin 2 → IVec S16 32) a x).toNat < S16x128.size a := fun v280 v417 k0_hw54 => k0_hw54

def k0_chk55 (v418 : IVec S16 32) (v420 : IVec S16 32) : Prop :=
  (∀ a x, ((![v418, v420] : Fin 2 → IVec S16 32) a x).toNat < S16x128.size a)
theorem k0_idx55_inb : ∀ (v418 : IVec S16 32) (v420 : IVec S16 32) (k0_hw55 : k0_chk55 v418 v420), ∀ a x, ((![v418, v420] : Fin 2 → IVec S16 32) a x).toNat < S16x128.size a := fun v418 v420 k0_hw55 => k0_hw55

def k0_chk56 (v280 : IVec S16 32) (v427 : IVec S16 32) : Prop :=
  (∀ a x, ((![v427, v280] : Fin 2 → IVec S16 32) a x).toNat < S16x128.size a)
theorem k0_idx56_inb : ∀ (v280 : IVec S16 32) (v427 : IVec S16 32) (k0_hw56 : k0_chk56 v280 v427), ∀ a x, ((![v427, v280] : Fin 2 → IVec S16 32) a x).toNat < S16x128.size a := fun v280 v427 k0_hw56 => k0_hw56

def k0_chk57 (v428 : IVec S16 32) (v430 : IVec S16 32) : Prop :=
  (∀ a x, ((![v428, v430] : Fin 2 → IVec S16 32) a x).toNat < S16x128.size a)
theorem k0_idx57_inb : ∀ (v428 : IVec S16 32) (v430 : IVec S16 32) (k0_hw57 : k0_chk57 v428 v430), ∀ a x, ((![v428, v430] : Fin 2 → IVec S16 32) a x).toNat < S16x128.size a := fun v428 v430 k0_hw57 => k0_hw57

def k0_chk58 (v280 : IVec S16 32) (v437 : IVec S16 32) : Prop :=
  (∀ a x, ((![v437, v280] : Fin 2 → IVec S16 32) a x).toNat < S16x128.size a)
theorem k0_idx58_inb : ∀ (v280 : IVec S16 32) (v437 : IVec S16 32) (k0_hw58 : k0_chk58 v280 v437), ∀ a x, ((![v437, v280] : Fin 2 → IVec S16 32) a x).toNat < S16x128.size a := fun v280 v437 k0_hw58 => k0_hw58

def k0_chk59 (v438 : IVec S16 32) (v440 : IVec S16 32) : Prop :=
  (∀ a x, ((![v438, v440] : Fin 2 → IVec S16 32) a x).toNat < S16x128.size a)
theorem k0_idx59_inb : ∀ (v438 : IVec S16 32) (v440 : IVec S16 32) (k0_hw59 : k0_chk59 v438 v440), ∀ a x, ((![v438, v440] : Fin 2 → IVec S16 32) a x).toNat < S16x128.size a := fun v438 v440 k0_hw59 => k0_hw59

def k0_chk60 (v442 : IVec S16 32) (v443 : IVec S16 32) : Prop :=
  (∀ a x, ((![v442, v443] : Fin 2 → IVec S16 32) a x).toNat < S64x3.size a)
theorem k0_idx60_inb : ∀ (v442 : IVec S16 32) (v443 : IVec S16 32) (k0_hw60 : k0_chk60 v442 v443), ∀ a x, ((![v442, v443] : Fin 2 → IVec S16 32) a x).toNat < S64x3.size a := fun v442 v443 k0_hw60 => k0_hw60

def k0_chk61 (v442 : IVec S16 32) (v445 : IVec S16 32) : Prop :=
  (∀ a x, ((![v442, v445] : Fin 2 → IVec S16 32) a x).toNat < S64x3.size a)
theorem k0_idx61_inb : ∀ (v442 : IVec S16 32) (v445 : IVec S16 32) (k0_hw61 : k0_chk61 v442 v445), ∀ a x, ((![v442, v445] : Fin 2 → IVec S16 32) a x).toNat < S64x3.size a := fun v442 v445 k0_hw61 => k0_hw61

def k0_chk62 (v442 : IVec S16 32) (v447 : IVec S16 32) : Prop :=
  (∀ a x, ((![v442, v447] : Fin 2 → IVec S16 32) a x).toNat < S64x3.size a)
theorem k0_idx62_inb : ∀ (v442 : IVec S16 32) (v447 : IVec S16 32) (k0_hw62 : k0_chk62 v442 v447), ∀ a x, ((![v442, v447] : Fin 2 → IVec S16 32) a x).toNat < S64x3.size a := fun v442 v447 k0_hw62 => k0_hw62

def k0_chk63 (v457 : IVec S16 32) : Prop :=
  (∀ a x, ((![v457] : Fin 1 → IVec S16 32) a x).toNat < S132.size a)
theorem k0_idx63_inb : ∀ (v457 : IVec S16 32) (k0_hw63 : k0_chk63 v457), ∀ a x, ((![v457] : Fin 1 → IVec S16 32) a x).toNat < S132.size a := fun v457 k0_hw63 => k0_hw63

def k0_chk64 (v460 : IVec S16 32) : Prop :=
  (∀ a x, ((![v460] : Fin 1 → IVec S16 32) a x).toNat < S132.size a)
theorem k0_idx64_inb : ∀ (v460 : IVec S16 32) (k0_hw64 : k0_chk64 v460), ∀ a x, ((![v460] : Fin 1 → IVec S16 32) a x).toNat < S132.size a := fun v460 k0_hw64 => k0_hw64

def k0_chk65 (v473 : IVec S16 32) : Prop :=
  (∀ a x, ((![v473] : Fin 1 → IVec S16 32) a x).toNat < S132.size a)
theorem k0_idx65_inb : ∀ (v473 : IVec S16 32) (k0_hw65 : k0_chk65 v473), ∀ a x, ((![v473] : Fin 1 → IVec S16 32) a x).toNat < S132.size a := fun v473 k0_hw65 => k0_hw65

def k0_chk66 (v476 : IVec S16 32) : Prop :=
  (∀ a x, ((![v476] : Fin 1 → IVec S16 32) a x).toNat < S132.size a)
theorem k0_idx66_inb : ∀ (v476 : IVec S16 32) (k0_hw66 : k0_chk66 v476), ∀ a x, ((![v476] : Fin 1 → IVec S16 32) a x).toNat < S132.size a := fun v476 k0_hw66 => k0_hw66

def k0_chk67 (v479 : IVec S16 32) : Prop :=
  (∀ a x, ((![v479] : Fin 1 → IVec S16 32) a x).toNat < S132.size a)
theorem k0_idx67_inb : ∀ (v479 : IVec S16 32) (k0_hw67 : k0_chk67 v479), ∀ a x, ((![v479] : Fin 1 → IVec S16 32) a x).toNat < S132.size a := fun v479 k0_hw67 => k0_hw67

def k0_chk68 (v482 : IVec S16 32) : Prop :=
  (∀ a x, ((![v482] : Fin 1 → IVec S16 32) a x).toNat < S132.size a)
theorem k0_idx68_inb : ∀ (v482 : IVec S16 32) (k0_hw68 : k0_chk68 v482), ∀ a x, ((![v482] : Fin 1 → IVec S16 32) a x).toNat < S132.size a := fun v482 k0_hw68 => k0_hw68

def k0_chk69 (v485 : IVec S16 32) : Prop :=
  (∀ a x, ((![v485] : Fin 1 → IVec S16 32) a x).toNat < S132.size a)
theorem k0_idx69_inb : ∀ (v485 : IVec S16 32) (k0_hw69 : k0_chk69 v485), ∀ a x, ((![v485] : Fin 1 → IVec S16 32) a x).toNat < S132.size a := fun v485 k0_hw69 => k0_hw69

def k0_chk70 (v488 : IVec S16 32) : Prop :=
  (∀ a x, ((![v488] : Fin 1 → IVec S16 32) a x).toNat < S132.size a)
theorem k0_idx70_inb : ∀ (v488 : IVec S16 32) (k0_hw70 : k0_chk70 v488), ∀ a x, ((![v488] : Fin 1 → IVec S16 32) a x).toNat < S132.size a := fun v488 k0_hw70 => k0_hw70

def k0_chk71 (v532 : IVec S16 32) : Prop :=
  (∀ a x, ((![v532] : Fin 1 → IVec S16 32) a x).toNat < S132.size a)
theorem k0_idx71_inb : ∀ (v532 : IVec S16 32) (k0_hw71 : k0_chk71 v532), ∀ a x, ((![v532] : Fin 1 → IVec S16 32) a x).toNat < S132.size a := fun v532 k0_hw71 => k0_hw71

def k0_chk72 (v535 : IVec S16 32) : Prop :=
  (∀ a x, ((![v535] : Fin 1 → IVec S16 32) a x).toNat < S132.size a)
theorem k0_idx72_inb : ∀ (v535 : IVec S16 32) (k0_hw72 : k0_chk72 v535), ∀ a x, ((![v535] : Fin 1 → IVec S16 32) a x).toNat < S132.size a := fun v535 k0_hw72 => k0_hw72

def k0_chk73 (v548 : IVec S16 32) : Prop :=
  (∀ a x, ((![v548] : Fin 1 → IVec S16 32) a x).toNat < S132.size a)
theorem k0_idx73_inb : ∀ (v548 : IVec S16 32) (k0_hw73 : k0_chk73 v548), ∀ a x, ((![v548] : Fin 1 → IVec S16 32) a x).toNat < S132.size a := fun v548 k0_hw73 => k0_hw73

def k0_chk74 (v551 : IVec S16 32) : Prop :=
  (∀ a x, ((![v551] : Fin 1 → IVec S16 32) a x).toNat < S132.size a)
theorem k0_idx74_inb : ∀ (v551 : IVec S16 32) (k0_hw74 : k0_chk74 v551), ∀ a x, ((![v551] : Fin 1 → IVec S16 32) a x).toNat < S132.size a := fun v551 k0_hw74 => k0_hw74

def k0_chk75 (v554 : IVec S16 32) : Prop :=
  (∀ a x, ((![v554] : Fin 1 → IVec S16 32) a x).toNat < S132.size a)
theorem k0_idx75_inb : ∀ (v554 : IVec S16 32) (k0_hw75 : k0_chk75 v554), ∀ a x, ((![v554] : Fin 1 → IVec S16 32) a x).toNat < S132.size a := fun v554 k0_hw75 => k0_hw75

def k0_chk76 (v557 : IVec S16 32) : Prop :=
  (∀ a x, ((![v557] : Fin 1 → IVec S16 32) a x).toNat < S132.size a)
theorem k0_idx76_inb : ∀ (v557 : IVec S16 32) (k0_hw76 : k0_chk76 v557), ∀ a x, ((![v557] : Fin 1 → IVec S16 32) a x).toNat < S132.size a := fun v557 k0_hw76 => k0_hw76

def k0_chk77 (v560 : IVec S16 32) : Prop :=
  (∀ a x, ((![v560] : Fin 1 → IVec S16 32) a x).toNat < S132.size a)
theorem k0_idx77_inb : ∀ (v560 : IVec S16 32) (k0_hw77 : k0_chk77 v560), ∀ a x, ((![v560] : Fin 1 → IVec S16 32) a x).toNat < S132.size a := fun v560 k0_hw77 => k0_hw77

def k0_chk78 (v563 : IVec S16 32) : Prop :=
  (∀ a x, ((![v563] : Fin 1 → IVec S16 32) a x).toNat < S132.size a)
theorem k0_idx78_inb : ∀ (v563 : IVec S16 32) (k0_hw78 : k0_chk78 v563), ∀ a x, ((![v563] : Fin 1 → IVec S16 32) a x).toNat < S132.size a := fun v563 k0_hw78 => k0_hw78

def k0_chk79 (v607 : IVec S16 32) : Prop :=
  (∀ a x, ((![v607] : Fin 1 → IVec S16 32) a x).toNat < S132.size a)
theorem k0_idx79_inb : ∀ (v607 : IVec S16 32) (k0_hw79 : k0_chk79 v607), ∀ a x, ((![v607] : Fin 1 → IVec S16 32) a x).toNat < S132.size a := fun v607 k0_hw79 => k0_hw79

def k0_chk80 (v610 : IVec S16 32) : Prop :=
  (∀ a x, ((![v610] : Fin 1 → IVec S16 32) a x).toNat < S132.size a)
theorem k0_idx80_inb : ∀ (v610 : IVec S16 32) (k0_hw80 : k0_chk80 v610), ∀ a x, ((![v610] : Fin 1 → IVec S16 32) a x).toNat < S132.size a := fun v610 k0_hw80 => k0_hw80

def k0_chk81 (v623 : IVec S16 32) : Prop :=
  (∀ a x, ((![v623] : Fin 1 → IVec S16 32) a x).toNat < S132.size a)
theorem k0_idx81_inb : ∀ (v623 : IVec S16 32) (k0_hw81 : k0_chk81 v623), ∀ a x, ((![v623] : Fin 1 → IVec S16 32) a x).toNat < S132.size a := fun v623 k0_hw81 => k0_hw81

def k0_chk82 (v626 : IVec S16 32) : Prop :=
  (∀ a x, ((![v626] : Fin 1 → IVec S16 32) a x).toNat < S132.size a)
theorem k0_idx82_inb : ∀ (v626 : IVec S16 32) (k0_hw82 : k0_chk82 v626), ∀ a x, ((![v626] : Fin 1 → IVec S16 32) a x).toNat < S132.size a := fun v626 k0_hw82 => k0_hw82

def k0_chk83 (v629 : IVec S16 32) : Prop :=
  (∀ a x, ((![v629] : Fin 1 → IVec S16 32) a x).toNat < S132.size a)
theorem k0_idx83_inb : ∀ (v629 : IVec S16 32) (k0_hw83 : k0_chk83 v629), ∀ a x, ((![v629] : Fin 1 → IVec S16 32) a x).toNat < S132.size a := fun v629 k0_hw83 => k0_hw83

def k0_chk84 (v632 : IVec S16 32) : Prop :=
  (∀ a x, ((![v632] : Fin 1 → IVec S16 32) a x).toNat < S132.size a)
theorem k0_idx84_inb : ∀ (v632 : IVec S16 32) (k0_hw84 : k0_chk84 v632), ∀ a x, ((![v632] : Fin 1 → IVec S16 32) a x).toNat < S132.size a := fun v632 k0_hw84 => k0_hw84

def k0_chk85 (v635 : IVec S16 32) : Prop :=
  (∀ a x, ((![v635] : Fin 1 → IVec S16 32) a x).toNat < S132.size a)
theorem k0_idx85_inb : ∀ (v635 : IVec S16 32) (k0_hw85 : k0_chk85 v635), ∀ a x, ((![v635] : Fin 1 → IVec S16 32) a x).toNat < S132.size a := fun v635 k0_hw85 => k0_hw85

def k0_chk86 (v638 : IVec S16 32) : Prop :=
  (∀ a x, ((![v638] : Fin 1 → IVec S16 32) a x).toNat < S132.size a)
theorem k0_idx86_inb : ∀ (v638 : IVec S16 32) (k0_hw86 : k0_chk86 v638), ∀ a x, ((![v638] : Fin 1 → IVec S16 32) a x).toNat < S132.size a := fun v638 k0_hw86 => k0_hw86

def k0_chk87 (v712 : IVec S16 32) (v719 : IVec S16 32) : Prop :=
  (∀ a x, ((![v719, v712] : Fin 2 → IVec S16 32) a x).toNat < S16x128.size a)
theorem k0_idx87_inb : ∀ (v712 : IVec S16 32) (v719 : IVec S16 32) (k0_hw87 : k0_chk87 v712 v719), ∀ a x, ((![v719, v712] : Fin 2 → IVec S16 32) a x).toNat < S16x128.size a := fun v712 v719 k0_hw87 => k0_hw87

def k0_chk88 (v720 : IVec S16 32) (v722 : IVec S16 32) : Prop :=
  (∀ a x, ((![v720, v722] : Fin 2 → IVec S16 32) a x).toNat < S16x128.size a)
theorem k0_idx88_inb : ∀ (v720 : IVec S16 32) (v722 : IVec S16 32) (k0_hw88 : k0_chk88 v720 v722), ∀ a x, ((![v720, v722] : Fin 2 → IVec S16 32) a x).toNat < S16x128.size a := fun v720 v722 k0_hw88 => k0_hw88

def k0_chk89 (v712 : IVec S16 32) (v729 : IVec S16 32) : Prop :=
  (∀ a x, ((![v729, v712] : Fin 2 → IVec S16 32) a x).toNat < S16x128.size a)
theorem k0_idx89_inb : ∀ (v712 : IVec S16 32) (v729 : IVec S16 32) (k0_hw89 : k0_chk89 v712 v729), ∀ a x, ((![v729, v712] : Fin 2 → IVec S16 32) a x).toNat < S16x128.size a := fun v712 v729 k0_hw89 => k0_hw89

def k0_chk90 (v730 : IVec S16 32) (v732 : IVec S16 32) : Prop :=
  (∀ a x, ((![v730, v732] : Fin 2 → IVec S16 32) a x).toNat < S16x128.size a)
theorem k0_idx90_inb : ∀ (v730 : IVec S16 32) (v732 : IVec S16 32) (k0_hw90 : k0_chk90 v730 v732), ∀ a x, ((![v730, v732] : Fin 2 → IVec S16 32) a x).toNat < S16x128.size a := fun v730 v732 k0_hw90 => k0_hw90

def k0_chk91 (v712 : IVec S16 32) (v739 : IVec S16 32) : Prop :=
  (∀ a x, ((![v739, v712] : Fin 2 → IVec S16 32) a x).toNat < S16x128.size a)
theorem k0_idx91_inb : ∀ (v712 : IVec S16 32) (v739 : IVec S16 32) (k0_hw91 : k0_chk91 v712 v739), ∀ a x, ((![v739, v712] : Fin 2 → IVec S16 32) a x).toNat < S16x128.size a := fun v712 v739 k0_hw91 => k0_hw91

def k0_chk92 (v740 : IVec S16 32) (v742 : IVec S16 32) : Prop :=
  (∀ a x, ((![v740, v742] : Fin 2 → IVec S16 32) a x).toNat < S16x128.size a)
theorem k0_idx92_inb : ∀ (v740 : IVec S16 32) (v742 : IVec S16 32) (k0_hw92 : k0_chk92 v740 v742), ∀ a x, ((![v740, v742] : Fin 2 → IVec S16 32) a x).toNat < S16x128.size a := fun v740 v742 k0_hw92 => k0_hw92

def k0_chk93 (v712 : IVec S16 32) (v749 : IVec S16 32) : Prop :=
  (∀ a x, ((![v749, v712] : Fin 2 → IVec S16 32) a x).toNat < S16x128.size a)
theorem k0_idx93_inb : ∀ (v712 : IVec S16 32) (v749 : IVec S16 32) (k0_hw93 : k0_chk93 v712 v749), ∀ a x, ((![v749, v712] : Fin 2 → IVec S16 32) a x).toNat < S16x128.size a := fun v712 v749 k0_hw93 => k0_hw93

def k0_chk94 (v750 : IVec S16 32) (v752 : IVec S16 32) : Prop :=
  (∀ a x, ((![v750, v752] : Fin 2 → IVec S16 32) a x).toNat < S16x128.size a)
theorem k0_idx94_inb : ∀ (v750 : IVec S16 32) (v752 : IVec S16 32) (k0_hw94 : k0_chk94 v750 v752), ∀ a x, ((![v750, v752] : Fin 2 → IVec S16 32) a x).toNat < S16x128.size a := fun v750 v752 k0_hw94 => k0_hw94

def k0_chk95 (v712 : IVec S16 32) (v759 : IVec S16 32) : Prop :=
  (∀ a x, ((![v759, v712] : Fin 2 → IVec S16 32) a x).toNat < S16x128.size a)
theorem k0_idx95_inb : ∀ (v712 : IVec S16 32) (v759 : IVec S16 32) (k0_hw95 : k0_chk95 v712 v759), ∀ a x, ((![v759, v712] : Fin 2 → IVec S16 32) a x).toNat < S16x128.size a := fun v712 v759 k0_hw95 => k0_hw95

def k0_chk96 (v760 : IVec S16 32) (v762 : IVec S16 32) : Prop :=
  (∀ a x, ((![v760, v762] : Fin 2 → IVec S16 32) a x).toNat < S16x128.size a)
theorem k0_idx96_inb : ∀ (v760 : IVec S16 32) (v762 : IVec S16 32) (k0_hw96 : k0_chk96 v760 v762), ∀ a x, ((![v760, v762] : Fin 2 → IVec S16 32) a x).toNat < S16x128.size a := fun v760 v762 k0_hw96 => k0_hw96

def k0_chk97 (v712 : IVec S16 32) (v769 : IVec S16 32) : Prop :=
  (∀ a x, ((![v769, v712] : Fin 2 → IVec S16 32) a x).toNat < S16x128.size a)
theorem k0_idx97_inb : ∀ (v712 : IVec S16 32) (v769 : IVec S16 32) (k0_hw97 : k0_chk97 v712 v769), ∀ a x, ((![v769, v712] : Fin 2 → IVec S16 32) a x).toNat < S16x128.size a := fun v712 v769 k0_hw97 => k0_hw97

def k0_chk98 (v770 : IVec S16 32) (v772 : IVec S16 32) : Prop :=
  (∀ a x, ((![v770, v772] : Fin 2 → IVec S16 32) a x).toNat < S16x128.size a)
theorem k0_idx98_inb : ∀ (v770 : IVec S16 32) (v772 : IVec S16 32) (k0_hw98 : k0_chk98 v770 v772), ∀ a x, ((![v770, v772] : Fin 2 → IVec S16 32) a x).toNat < S16x128.size a := fun v770 v772 k0_hw98 => k0_hw98

def k0_chk99 (v712 : IVec S16 32) (v779 : IVec S16 32) : Prop :=
  (∀ a x, ((![v779, v712] : Fin 2 → IVec S16 32) a x).toNat < S16x128.size a)
theorem k0_idx99_inb : ∀ (v712 : IVec S16 32) (v779 : IVec S16 32) (k0_hw99 : k0_chk99 v712 v779), ∀ a x, ((![v779, v712] : Fin 2 → IVec S16 32) a x).toNat < S16x128.size a := fun v712 v779 k0_hw99 => k0_hw99

def k0_chk100 (v780 : IVec S16 32) (v782 : IVec S16 32) : Prop :=
  (∀ a x, ((![v780, v782] : Fin 2 → IVec S16 32) a x).toNat < S16x128.size a)
theorem k0_idx100_inb : ∀ (v780 : IVec S16 32) (v782 : IVec S16 32) (k0_hw100 : k0_chk100 v780 v782), ∀ a x, ((![v780, v782] : Fin 2 → IVec S16 32) a x).toNat < S16x128.size a := fun v780 v782 k0_hw100 => k0_hw100

def k0_chk101 (v712 : IVec S16 32) (v789 : IVec S16 32) : Prop :=
  (∀ a x, ((![v789, v712] : Fin 2 → IVec S16 32) a x).toNat < S16x128.size a)
theorem k0_idx101_inb : ∀ (v712 : IVec S16 32) (v789 : IVec S16 32) (k0_hw101 : k0_chk101 v712 v789), ∀ a x, ((![v789, v712] : Fin 2 → IVec S16 32) a x).toNat < S16x128.size a := fun v712 v789 k0_hw101 => k0_hw101

def k0_chk102 (v790 : IVec S16 32) (v792 : IVec S16 32) : Prop :=
  (∀ a x, ((![v790, v792] : Fin 2 → IVec S16 32) a x).toNat < S16x128.size a)
theorem k0_idx102_inb : ∀ (v790 : IVec S16 32) (v792 : IVec S16 32) (k0_hw102 : k0_chk102 v790 v792), ∀ a x, ((![v790, v792] : Fin 2 → IVec S16 32) a x).toNat < S16x128.size a := fun v790 v792 k0_hw102 => k0_hw102

def k0_chk103 (v712 : IVec S16 32) (v799 : IVec S16 32) : Prop :=
  (∀ a x, ((![v799, v712] : Fin 2 → IVec S16 32) a x).toNat < S16x128.size a)
theorem k0_idx103_inb : ∀ (v712 : IVec S16 32) (v799 : IVec S16 32) (k0_hw103 : k0_chk103 v712 v799), ∀ a x, ((![v799, v712] : Fin 2 → IVec S16 32) a x).toNat < S16x128.size a := fun v712 v799 k0_hw103 => k0_hw103

def k0_chk104 (v800 : IVec S16 32) (v802 : IVec S16 32) : Prop :=
  (∀ a x, ((![v800, v802] : Fin 2 → IVec S16 32) a x).toNat < S16x128.size a)
theorem k0_idx104_inb : ∀ (v800 : IVec S16 32) (v802 : IVec S16 32) (k0_hw104 : k0_chk104 v800 v802), ∀ a x, ((![v800, v802] : Fin 2 → IVec S16 32) a x).toNat < S16x128.size a := fun v800 v802 k0_hw104 => k0_hw104

def k0_chk105 (v712 : IVec S16 32) (v809 : IVec S16 32) : Prop :=
  (∀ a x, ((![v809, v712] : Fin 2 → IVec S16 32) a x).toNat < S16x128.size a)
theorem k0_idx105_inb : ∀ (v712 : IVec S16 32) (v809 : IVec S16 32) (k0_hw105 : k0_chk105 v712 v809), ∀ a x, ((![v809, v712] : Fin 2 → IVec S16 32) a x).toNat < S16x128.size a := fun v712 v809 k0_hw105 => k0_hw105

def k0_chk106 (v810 : IVec S16 32) (v812 : IVec S16 32) : Prop :=
  (∀ a x, ((![v810, v812] : Fin 2 → IVec S16 32) a x).toNat < S16x128.size a)
theorem k0_idx106_inb : ∀ (v810 : IVec S16 32) (v812 : IVec S16 32) (k0_hw106 : k0_chk106 v810 v812), ∀ a x, ((![v810, v812] : Fin 2 → IVec S16 32) a x).toNat < S16x128.size a := fun v810 v812 k0_hw106 => k0_hw106

def k0_chk107 (v712 : IVec S16 32) (v819 : IVec S16 32) : Prop :=
  (∀ a x, ((![v819, v712] : Fin 2 → IVec S16 32) a x).toNat < S16x128.size a)
theorem k0_idx107_inb : ∀ (v712 : IVec S16 32) (v819 : IVec S16 32) (k0_hw107 : k0_chk107 v712 v819), ∀ a x, ((![v819, v712] : Fin 2 → IVec S16 32) a x).toNat < S16x128.size a := fun v712 v819 k0_hw107 => k0_hw107

def k0_chk108 (v820 : IVec S16 32) (v822 : IVec S16 32) : Prop :=
  (∀ a x, ((![v820, v822] : Fin 2 → IVec S16 32) a x).toNat < S16x128.size a)
theorem k0_idx108_inb : ∀ (v820 : IVec S16 32) (v822 : IVec S16 32) (k0_hw108 : k0_chk108 v820 v822), ∀ a x, ((![v820, v822] : Fin 2 → IVec S16 32) a x).toNat < S16x128.size a := fun v820 v822 k0_hw108 => k0_hw108

def k0_chk109 (v712 : IVec S16 32) (v829 : IVec S16 32) : Prop :=
  (∀ a x, ((![v829, v712] : Fin 2 → IVec S16 32) a x).toNat < S16x128.size a)
theorem k0_idx109_inb : ∀ (v712 : IVec S16 32) (v829 : IVec S16 32) (k0_hw109 : k0_chk109 v712 v829), ∀ a x, ((![v829, v712] : Fin 2 → IVec S16 32) a x).toNat < S16x128.size a := fun v712 v829 k0_hw109 => k0_hw109

def k0_chk110 (v830 : IVec S16 32) (v832 : IVec S16 32) : Prop :=
  (∀ a x, ((![v830, v832] : Fin 2 → IVec S16 32) a x).toNat < S16x128.size a)
theorem k0_idx110_inb : ∀ (v830 : IVec S16 32) (v832 : IVec S16 32) (k0_hw110 : k0_chk110 v830 v832), ∀ a x, ((![v830, v832] : Fin 2 → IVec S16 32) a x).toNat < S16x128.size a := fun v830 v832 k0_hw110 => k0_hw110

def k0_chk111 (v712 : IVec S16 32) (v839 : IVec S16 32) : Prop :=
  (∀ a x, ((![v839, v712] : Fin 2 → IVec S16 32) a x).toNat < S16x128.size a)
theorem k0_idx111_inb : ∀ (v712 : IVec S16 32) (v839 : IVec S16 32) (k0_hw111 : k0_chk111 v712 v839), ∀ a x, ((![v839, v712] : Fin 2 → IVec S16 32) a x).toNat < S16x128.size a := fun v712 v839 k0_hw111 => k0_hw111

def k0_chk112 (v840 : IVec S16 32) (v842 : IVec S16 32) : Prop :=
  (∀ a x, ((![v840, v842] : Fin 2 → IVec S16 32) a x).toNat < S16x128.size a)
theorem k0_idx112_inb : ∀ (v840 : IVec S16 32) (v842 : IVec S16 32) (k0_hw112 : k0_chk112 v840 v842), ∀ a x, ((![v840, v842] : Fin 2 → IVec S16 32) a x).toNat < S16x128.size a := fun v840 v842 k0_hw112 => k0_hw112

def k0_chk113 (v712 : IVec S16 32) (v849 : IVec S16 32) : Prop :=
  (∀ a x, ((![v849, v712] : Fin 2 → IVec S16 32) a x).toNat < S16x128.size a)
theorem k0_idx113_inb : ∀ (v712 : IVec S16 32) (v849 : IVec S16 32) (k0_hw113 : k0_chk113 v712 v849), ∀ a x, ((![v849, v712] : Fin 2 → IVec S16 32) a x).toNat < S16x128.size a := fun v712 v849 k0_hw113 => k0_hw113

def k0_chk114 (v850 : IVec S16 32) (v852 : IVec S16 32) : Prop :=
  (∀ a x, ((![v850, v852] : Fin 2 → IVec S16 32) a x).toNat < S16x128.size a)
theorem k0_idx114_inb : ∀ (v850 : IVec S16 32) (v852 : IVec S16 32) (k0_hw114 : k0_chk114 v850 v852), ∀ a x, ((![v850, v852] : Fin 2 → IVec S16 32) a x).toNat < S16x128.size a := fun v850 v852 k0_hw114 => k0_hw114

def k0_chk115 (v712 : IVec S16 32) (v859 : IVec S16 32) : Prop :=
  (∀ a x, ((![v859, v712] : Fin 2 → IVec S16 32) a x).toNat < S16x128.size a)
theorem k0_idx115_inb : ∀ (v712 : IVec S16 32) (v859 : IVec S16 32) (k0_hw115 : k0_chk115 v712 v859), ∀ a x, ((![v859, v712] : Fin 2 → IVec S16 32) a x).toNat < S16x128.size a := fun v712 v859 k0_hw115 => k0_hw115

def k0_chk116 (v860 : IVec S16 32) (v862 : IVec S16 32) : Prop :=
  (∀ a x, ((![v860, v862] : Fin 2 → IVec S16 32) a x).toNat < S16x128.size a)
theorem k0_idx116_inb : ∀ (v860 : IVec S16 32) (v862 : IVec S16 32) (k0_hw116 : k0_chk116 v860 v862), ∀ a x, ((![v860, v862] : Fin 2 → IVec S16 32) a x).toNat < S16x128.size a := fun v860 v862 k0_hw116 => k0_hw116

def k0_chk117 (v712 : IVec S16 32) (v869 : IVec S16 32) : Prop :=
  (∀ a x, ((![v869, v712] : Fin 2 → IVec S16 32) a x).toNat < S16x128.size a)
theorem k0_idx117_inb : ∀ (v712 : IVec S16 32) (v869 : IVec S16 32) (k0_hw117 : k0_chk117 v712 v869), ∀ a x, ((![v869, v712] : Fin 2 → IVec S16 32) a x).toNat < S16x128.size a := fun v712 v869 k0_hw117 => k0_hw117

def k0_chk118 (v870 : IVec S16 32) (v872 : IVec S16 32) : Prop :=
  (∀ a x, ((![v870, v872] : Fin 2 → IVec S16 32) a x).toNat < S16x128.size a)
theorem k0_idx118_inb : ∀ (v870 : IVec S16 32) (v872 : IVec S16 32) (k0_hw118 : k0_chk118 v870 v872), ∀ a x, ((![v870, v872] : Fin 2 → IVec S16 32) a x).toNat < S16x128.size a := fun v870 v872 k0_hw118 => k0_hw118

def k0_chk119 (v874 : IVec S16 32) (v875 : IVec S16 32) : Prop :=
  (∀ a x, ((![v874, v875] : Fin 2 → IVec S16 32) a x).toNat < S64x3.size a)
theorem k0_idx119_inb : ∀ (v874 : IVec S16 32) (v875 : IVec S16 32) (k0_hw119 : k0_chk119 v874 v875), ∀ a x, ((![v874, v875] : Fin 2 → IVec S16 32) a x).toNat < S64x3.size a := fun v874 v875 k0_hw119 => k0_hw119

def k0_chk120 (v874 : IVec S16 32) (v877 : IVec S16 32) : Prop :=
  (∀ a x, ((![v874, v877] : Fin 2 → IVec S16 32) a x).toNat < S64x3.size a)
theorem k0_idx120_inb : ∀ (v874 : IVec S16 32) (v877 : IVec S16 32) (k0_hw120 : k0_chk120 v874 v877), ∀ a x, ((![v874, v877] : Fin 2 → IVec S16 32) a x).toNat < S64x3.size a := fun v874 v877 k0_hw120 => k0_hw120

def k0_chk121 (v874 : IVec S16 32) (v879 : IVec S16 32) : Prop :=
  (∀ a x, ((![v874, v879] : Fin 2 → IVec S16 32) a x).toNat < S64x3.size a)
theorem k0_idx121_inb : ∀ (v874 : IVec S16 32) (v879 : IVec S16 32) (k0_hw121 : k0_chk121 v874 v879), ∀ a x, ((![v874, v879] : Fin 2 → IVec S16 32) a x).toNat < S64x3.size a := fun v874 v879 k0_hw121 => k0_hw121

def k0_chk122 (v889 : IVec S16 32) : Prop :=
  (∀ a x, ((![v889] : Fin 1 → IVec S16 32) a x).toNat < S132.size a)
theorem k0_idx122_inb : ∀ (v889 : IVec S16 32) (k0_hw122 : k0_chk122 v889), ∀ a x, ((![v889] : Fin 1 → IVec S16 32) a x).toNat < S132.size a := fun v889 k0_hw122 => k0_hw122

def k0_chk123 (v892 : IVec S16 32) : Prop :=
  (∀ a x, ((![v892] : Fin 1 → IVec S16 32) a x).toNat < S132.size a)
theorem k0_idx123_inb : ∀ (v892 : IVec S16 32) (k0_hw123 : k0_chk123 v892), ∀ a x, ((![v892] : Fin 1 → IVec S16 32) a x).toNat < S132.size a := fun v892 k0_hw123 => k0_hw123

def k0_chk124 (v905 : IVec S16 32) : Prop :=
  (∀ a x, ((![v905] : Fin 1 → IVec S16 32) a x).toNat < S132.size a)
theorem k0_idx124_inb : ∀ (v905 : IVec S16 32) (k0_hw124 : k0_chk124 v905), ∀ a x, ((![v905] : Fin 1 → IVec S16 32) a x).toNat < S132.size a := fun v905 k0_hw124 => k0_hw124

def k0_chk125 (v908 : IVec S16 32) : Prop :=
  (∀ a x, ((![v908] : Fin 1 → IVec S16 32) a x).toNat < S132.size a)
theorem k0_idx125_inb : ∀ (v908 : IVec S16 32) (k0_hw125 : k0_chk125 v908), ∀ a x, ((![v908] : Fin 1 → IVec S16 32) a x).toNat < S132.size a := fun v908 k0_hw125 => k0_hw125

def k0_chk126 (v911 : IVec S16 32) : Prop :=
  (∀ a x, ((![v911] : Fin 1 → IVec S16 32) a x).toNat < S132.size a)
theorem k0_idx126_inb : ∀ (v911 : IVec S16 32) (k0_hw126 : k0_chk126 v911), ∀ a x, ((![v911] : Fin 1 → IVec S16 32) a x).toNat < S132.size a := fun v911 k0_hw126 => k0_hw126

def k0_chk127 (v914 : IVec S16 32) : Prop :=
  (∀ a x, ((![v914] : Fin 1 → IVec S16 32) a x).toNat < S132.size a)
theorem k0_idx127_inb : ∀ (v914 : IVec S16 32) (k0_hw127 : k0_chk127 v914), ∀ a x, ((![v914] : Fin 1 → IVec S16 32) a x).toNat < S132.size a := fun v914 k0_hw127 => k0_hw127

def k0_chk128 (v917 : IVec S16 32) : Prop :=
  (∀ a x, ((![v917] : Fin 1 → IVec S16 32) a x).toNat < S132.size a)
theorem k0_idx128_inb : ∀ (v917 : IVec S16 32) (k0_hw128 : k0_chk128 v917), ∀ a x, ((![v917] : Fin 1 → IVec S16 32) a x).toNat < S132.size a := fun v917 k0_hw128 => k0_hw128

def k0_chk129 (v920 : IVec S16 32) : Prop :=
  (∀ a x, ((![v920] : Fin 1 → IVec S16 32) a x).toNat < S132.size a)
theorem k0_idx129_inb : ∀ (v920 : IVec S16 32) (k0_hw129 : k0_chk129 v920), ∀ a x, ((![v920] : Fin 1 → IVec S16 32) a x).toNat < S132.size a := fun v920 k0_hw129 => k0_hw129

def k0_chk130 (v964 : IVec S16 32) : Prop :=
  (∀ a x, ((![v964] : Fin 1 → IVec S16 32) a x).toNat < S132.size a)
theorem k0_idx130_inb : ∀ (v964 : IVec S16 32) (k0_hw130 : k0_chk130 v964), ∀ a x, ((![v964] : Fin 1 → IVec S16 32) a x).toNat < S132.size a := fun v964 k0_hw130 => k0_hw130

def k0_chk131 (v967 : IVec S16 32) : Prop :=
  (∀ a x, ((![v967] : Fin 1 → IVec S16 32) a x).toNat < S132.size a)
theorem k0_idx131_inb : ∀ (v967 : IVec S16 32) (k0_hw131 : k0_chk131 v967), ∀ a x, ((![v967] : Fin 1 → IVec S16 32) a x).toNat < S132.size a := fun v967 k0_hw131 => k0_hw131

def k0_chk132 (v980 : IVec S16 32) : Prop :=
  (∀ a x, ((![v980] : Fin 1 → IVec S16 32) a x).toNat < S132.size a)
theorem k0_idx132_inb : ∀ (v980 : IVec S16 32) (k0_hw132 : k0_chk132 v980), ∀ a x, ((![v980] : Fin 1 → IVec S16 32) a x).toNat < S132.size a := fun v980 k0_hw132 => k0_hw132

def k0_chk133 (v983 : IVec S16 32) : Prop :=
  (∀ a x, ((![v983] : Fin 1 → IVec S16 32) a x).toNat < S132.size a)
theorem k0_idx133_inb : ∀ (v983 : IVec S16 32) (k0_hw133 : k0_chk133 v983), ∀ a x, ((![v983] : Fin 1 → IVec S16 32) a x).toNat < S132.size a := fun v983 k0_hw133 => k0_hw133

def k0_chk134 (v986 : IVec S16 32) : Prop :=
  (∀ a x, ((![v986] : Fin 1 → IVec S16 32) a x).toNat < S132.size a)
theorem k0_idx134_inb : ∀ (v986 : IVec S16 32) (k0_hw134 : k0_chk134 v986), ∀ a x, ((![v986] : Fin 1 → IVec S16 32) a x).toNat < S132.size a := fun v986 k0_hw134 => k0_hw134

def k0_chk135 (v989 : IVec S16 32) : Prop :=
  (∀ a x, ((![v989] : Fin 1 → IVec S16 32) a x).toNat < S132.size a)
theorem k0_idx135_inb : ∀ (v989 : IVec S16 32) (k0_hw135 : k0_chk135 v989), ∀ a x, ((![v989] : Fin 1 → IVec S16 32) a x).toNat < S132.size a := fun v989 k0_hw135 => k0_hw135

def k0_chk136 (v992 : IVec S16 32) : Prop :=
  (∀ a x, ((![v992] : Fin 1 → IVec S16 32) a x).toNat < S132.size a)
theorem k0_idx136_inb : ∀ (v992 : IVec S16 32) (k0_hw136 : k0_chk136 v992), ∀ a x, ((![v992] : Fin 1 → IVec S16 32) a x).toNat < S132.size a := fun v992 k0_hw136 => k0_hw136

def k0_chk137 (v995 : IVec S16 32) : Prop :=
  (∀ a x, ((![v995] : Fin 1 → IVec S16 32) a x).toNat < S132.size a)
theorem k0_idx137_inb : ∀ (v995 : IVec S16 32) (k0_hw137 : k0_chk137 v995), ∀ a x, ((![v995] : Fin 1 → IVec S16 32) a x).toNat < S132.size a := fun v995 k0_hw137 => k0_hw137

def k0_chk138 (v1039 : IVec S16 32) : Prop :=
  (∀ a x, ((![v1039] : Fin 1 → IVec S16 32) a x).toNat < S132.size a)
theorem k0_idx138_inb : ∀ (v1039 : IVec S16 32) (k0_hw138 : k0_chk138 v1039), ∀ a x, ((![v1039] : Fin 1 → IVec S16 32) a x).toNat < S132.size a := fun v1039 k0_hw138 => k0_hw138

def k0_chk139 (v1042 : IVec S16 32) : Prop :=
  (∀ a x, ((![v1042] : Fin 1 → IVec S16 32) a x).toNat < S132.size a)
theorem k0_idx139_inb : ∀ (v1042 : IVec S16 32) (k0_hw139 : k0_chk139 v1042), ∀ a x, ((![v1042] : Fin 1 → IVec S16 32) a x).toNat < S132.size a := fun v1042 k0_hw139 => k0_hw139

def k0_chk140 (v1055 : IVec S16 32) : Prop :=
  (∀ a x, ((![v1055] : Fin 1 → IVec S16 32) a x).toNat < S132.size a)
theorem k0_idx140_inb : ∀ (v1055 : IVec S16 32) (k0_hw140 : k0_chk140 v1055), ∀ a x, ((![v1055] : Fin 1 → IVec S16 32) a x).toNat < S132.size a := fun v1055 k0_hw140 => k0_hw140

def k0_chk141 (v1058 : IVec S16 32) : Prop :=
  (∀ a x, ((![v1058] : Fin 1 → IVec S16 32) a x).toNat < S132.size a)
theorem k0_idx141_inb : ∀ (v1058 : IVec S16 32) (k0_hw141 : k0_chk141 v1058), ∀ a x, ((![v1058] : Fin 1 → IVec S16 32) a x).toNat < S132.size a := fun v1058 k0_hw141 => k0_hw141

def k0_chk142 (v1061 : IVec S16 32) : Prop :=
  (∀ a x, ((![v1061] : Fin 1 → IVec S16 32) a x).toNat < S132.size a)
theorem k0_idx142_inb : ∀ (v1061 : IVec S16 32) (k0_hw142 : k0_chk142 v1061), ∀ a x, ((![v1061] : Fin 1 → IVec S16 32) a x).toNat < S132.size a := fun v1061 k0_hw142 => k0_hw142

def k0_chk143 (v1064 : IVec S16 32) : Prop :=
  (∀ a x, ((![v1064] : Fin 1 → IVec S16 32) a x).toNat < S132.size a)
theorem k0_idx143_inb : ∀ (v1064 : IVec S16 32) (k0_hw143 : k0_chk143 v1064), ∀ a x, ((![v1064] : Fin 1 → IVec S16 32) a x).toNat < S132.size a := fun v1064 k0_hw143 => k0_hw143

def k0_chk144 (v1067 : IVec S16 32) : Prop :=
  (∀ a x, ((![v1067] : Fin 1 → IVec S16 32) a x).toNat < S132.size a)
theorem k0_idx144_inb : ∀ (v1067 : IVec S16 32) (k0_hw144 : k0_chk144 v1067), ∀ a x, ((![v1067] : Fin 1 → IVec S16 32) a x).toNat < S132.size a := fun v1067 k0_hw144 => k0_hw144

def k0_chk145 (v1070 : IVec S16 32) : Prop :=
  (∀ a x, ((![v1070] : Fin 1 → IVec S16 32) a x).toNat < S132.size a)
theorem k0_idx145_inb : ∀ (v1070 : IVec S16 32) (k0_hw145 : k0_chk145 v1070), ∀ a x, ((![v1070] : Fin 1 → IVec S16 32) a x).toNat < S132.size a := fun v1070 k0_hw145 => k0_hw145

def k0_chk146 (v1144 : IVec S16 32) (v1151 : IVec S16 32) : Prop :=
  (∀ a x, ((![v1151, v1144] : Fin 2 → IVec S16 32) a x).toNat < S16x128.size a)
theorem k0_idx146_inb : ∀ (v1144 : IVec S16 32) (v1151 : IVec S16 32) (k0_hw146 : k0_chk146 v1144 v1151), ∀ a x, ((![v1151, v1144] : Fin 2 → IVec S16 32) a x).toNat < S16x128.size a := fun v1144 v1151 k0_hw146 => k0_hw146

def k0_chk147 (v1152 : IVec S16 32) (v1154 : IVec S16 32) : Prop :=
  (∀ a x, ((![v1152, v1154] : Fin 2 → IVec S16 32) a x).toNat < S16x128.size a)
theorem k0_idx147_inb : ∀ (v1152 : IVec S16 32) (v1154 : IVec S16 32) (k0_hw147 : k0_chk147 v1152 v1154), ∀ a x, ((![v1152, v1154] : Fin 2 → IVec S16 32) a x).toNat < S16x128.size a := fun v1152 v1154 k0_hw147 => k0_hw147

def k0_chk148 (v1144 : IVec S16 32) (v1161 : IVec S16 32) : Prop :=
  (∀ a x, ((![v1161, v1144] : Fin 2 → IVec S16 32) a x).toNat < S16x128.size a)
theorem k0_idx148_inb : ∀ (v1144 : IVec S16 32) (v1161 : IVec S16 32) (k0_hw148 : k0_chk148 v1144 v1161), ∀ a x, ((![v1161, v1144] : Fin 2 → IVec S16 32) a x).toNat < S16x128.size a := fun v1144 v1161 k0_hw148 => k0_hw148

def k0_chk149 (v1162 : IVec S16 32) (v1164 : IVec S16 32) : Prop :=
  (∀ a x, ((![v1162, v1164] : Fin 2 → IVec S16 32) a x).toNat < S16x128.size a)
theorem k0_idx149_inb : ∀ (v1162 : IVec S16 32) (v1164 : IVec S16 32) (k0_hw149 : k0_chk149 v1162 v1164), ∀ a x, ((![v1162, v1164] : Fin 2 → IVec S16 32) a x).toNat < S16x128.size a := fun v1162 v1164 k0_hw149 => k0_hw149

def k0_chk150 (v1144 : IVec S16 32) (v1171 : IVec S16 32) : Prop :=
  (∀ a x, ((![v1171, v1144] : Fin 2 → IVec S16 32) a x).toNat < S16x128.size a)
theorem k0_idx150_inb : ∀ (v1144 : IVec S16 32) (v1171 : IVec S16 32) (k0_hw150 : k0_chk150 v1144 v1171), ∀ a x, ((![v1171, v1144] : Fin 2 → IVec S16 32) a x).toNat < S16x128.size a := fun v1144 v1171 k0_hw150 => k0_hw150

def k0_chk151 (v1172 : IVec S16 32) (v1174 : IVec S16 32) : Prop :=
  (∀ a x, ((![v1172, v1174] : Fin 2 → IVec S16 32) a x).toNat < S16x128.size a)
theorem k0_idx151_inb : ∀ (v1172 : IVec S16 32) (v1174 : IVec S16 32) (k0_hw151 : k0_chk151 v1172 v1174), ∀ a x, ((![v1172, v1174] : Fin 2 → IVec S16 32) a x).toNat < S16x128.size a := fun v1172 v1174 k0_hw151 => k0_hw151

def k0_chk152 (v1144 : IVec S16 32) (v1181 : IVec S16 32) : Prop :=
  (∀ a x, ((![v1181, v1144] : Fin 2 → IVec S16 32) a x).toNat < S16x128.size a)
theorem k0_idx152_inb : ∀ (v1144 : IVec S16 32) (v1181 : IVec S16 32) (k0_hw152 : k0_chk152 v1144 v1181), ∀ a x, ((![v1181, v1144] : Fin 2 → IVec S16 32) a x).toNat < S16x128.size a := fun v1144 v1181 k0_hw152 => k0_hw152

def k0_chk153 (v1182 : IVec S16 32) (v1184 : IVec S16 32) : Prop :=
  (∀ a x, ((![v1182, v1184] : Fin 2 → IVec S16 32) a x).toNat < S16x128.size a)
theorem k0_idx153_inb : ∀ (v1182 : IVec S16 32) (v1184 : IVec S16 32) (k0_hw153 : k0_chk153 v1182 v1184), ∀ a x, ((![v1182, v1184] : Fin 2 → IVec S16 32) a x).toNat < S16x128.size a := fun v1182 v1184 k0_hw153 => k0_hw153

def k0_chk154 (v1144 : IVec S16 32) (v1191 : IVec S16 32) : Prop :=
  (∀ a x, ((![v1191, v1144] : Fin 2 → IVec S16 32) a x).toNat < S16x128.size a)
theorem k0_idx154_inb : ∀ (v1144 : IVec S16 32) (v1191 : IVec S16 32) (k0_hw154 : k0_chk154 v1144 v1191), ∀ a x, ((![v1191, v1144] : Fin 2 → IVec S16 32) a x).toNat < S16x128.size a := fun v1144 v1191 k0_hw154 => k0_hw154

def k0_chk155 (v1192 : IVec S16 32) (v1194 : IVec S16 32) : Prop :=
  (∀ a x, ((![v1192, v1194] : Fin 2 → IVec S16 32) a x).toNat < S16x128.size a)
theorem k0_idx155_inb : ∀ (v1192 : IVec S16 32) (v1194 : IVec S16 32) (k0_hw155 : k0_chk155 v1192 v1194), ∀ a x, ((![v1192, v1194] : Fin 2 → IVec S16 32) a x).toNat < S16x128.size a := fun v1192 v1194 k0_hw155 => k0_hw155

def k0_chk156 (v1144 : IVec S16 32) (v1201 : IVec S16 32) : Prop :=
  (∀ a x, ((![v1201, v1144] : Fin 2 → IVec S16 32) a x).toNat < S16x128.size a)
theorem k0_idx156_inb : ∀ (v1144 : IVec S16 32) (v1201 : IVec S16 32) (k0_hw156 : k0_chk156 v1144 v1201), ∀ a x, ((![v1201, v1144] : Fin 2 → IVec S16 32) a x).toNat < S16x128.size a := fun v1144 v1201 k0_hw156 => k0_hw156

def k0_chk157 (v1202 : IVec S16 32) (v1204 : IVec S16 32) : Prop :=
  (∀ a x, ((![v1202, v1204] : Fin 2 → IVec S16 32) a x).toNat < S16x128.size a)
theorem k0_idx157_inb : ∀ (v1202 : IVec S16 32) (v1204 : IVec S16 32) (k0_hw157 : k0_chk157 v1202 v1204), ∀ a x, ((![v1202, v1204] : Fin 2 → IVec S16 32) a x).toNat < S16x128.size a := fun v1202 v1204 k0_hw157 => k0_hw157

def k0_chk158 (v1144 : IVec S16 32) (v1211 : IVec S16 32) : Prop :=
  (∀ a x, ((![v1211, v1144] : Fin 2 → IVec S16 32) a x).toNat < S16x128.size a)
theorem k0_idx158_inb : ∀ (v1144 : IVec S16 32) (v1211 : IVec S16 32) (k0_hw158 : k0_chk158 v1144 v1211), ∀ a x, ((![v1211, v1144] : Fin 2 → IVec S16 32) a x).toNat < S16x128.size a := fun v1144 v1211 k0_hw158 => k0_hw158

def k0_chk159 (v1212 : IVec S16 32) (v1214 : IVec S16 32) : Prop :=
  (∀ a x, ((![v1212, v1214] : Fin 2 → IVec S16 32) a x).toNat < S16x128.size a)
theorem k0_idx159_inb : ∀ (v1212 : IVec S16 32) (v1214 : IVec S16 32) (k0_hw159 : k0_chk159 v1212 v1214), ∀ a x, ((![v1212, v1214] : Fin 2 → IVec S16 32) a x).toNat < S16x128.size a := fun v1212 v1214 k0_hw159 => k0_hw159

def k0_chk160 (v1144 : IVec S16 32) (v1221 : IVec S16 32) : Prop :=
  (∀ a x, ((![v1221, v1144] : Fin 2 → IVec S16 32) a x).toNat < S16x128.size a)
theorem k0_idx160_inb : ∀ (v1144 : IVec S16 32) (v1221 : IVec S16 32) (k0_hw160 : k0_chk160 v1144 v1221), ∀ a x, ((![v1221, v1144] : Fin 2 → IVec S16 32) a x).toNat < S16x128.size a := fun v1144 v1221 k0_hw160 => k0_hw160

def k0_chk161 (v1222 : IVec S16 32) (v1224 : IVec S16 32) : Prop :=
  (∀ a x, ((![v1222, v1224] : Fin 2 → IVec S16 32) a x).toNat < S16x128.size a)
theorem k0_idx161_inb : ∀ (v1222 : IVec S16 32) (v1224 : IVec S16 32) (k0_hw161 : k0_chk161 v1222 v1224), ∀ a x, ((![v1222, v1224] : Fin 2 → IVec S16 32) a x).toNat < S16x128.size a := fun v1222 v1224 k0_hw161 => k0_hw161

def k0_chk162 (v1144 : IVec S16 32) (v1231 : IVec S16 32) : Prop :=
  (∀ a x, ((![v1231, v1144] : Fin 2 → IVec S16 32) a x).toNat < S16x128.size a)
theorem k0_idx162_inb : ∀ (v1144 : IVec S16 32) (v1231 : IVec S16 32) (k0_hw162 : k0_chk162 v1144 v1231), ∀ a x, ((![v1231, v1144] : Fin 2 → IVec S16 32) a x).toNat < S16x128.size a := fun v1144 v1231 k0_hw162 => k0_hw162

def k0_chk163 (v1232 : IVec S16 32) (v1234 : IVec S16 32) : Prop :=
  (∀ a x, ((![v1232, v1234] : Fin 2 → IVec S16 32) a x).toNat < S16x128.size a)
theorem k0_idx163_inb : ∀ (v1232 : IVec S16 32) (v1234 : IVec S16 32) (k0_hw163 : k0_chk163 v1232 v1234), ∀ a x, ((![v1232, v1234] : Fin 2 → IVec S16 32) a x).toNat < S16x128.size a := fun v1232 v1234 k0_hw163 => k0_hw163

def k0_chk164 (v1144 : IVec S16 32) (v1241 : IVec S16 32) : Prop :=
  (∀ a x, ((![v1241, v1144] : Fin 2 → IVec S16 32) a x).toNat < S16x128.size a)
theorem k0_idx164_inb : ∀ (v1144 : IVec S16 32) (v1241 : IVec S16 32) (k0_hw164 : k0_chk164 v1144 v1241), ∀ a x, ((![v1241, v1144] : Fin 2 → IVec S16 32) a x).toNat < S16x128.size a := fun v1144 v1241 k0_hw164 => k0_hw164

def k0_chk165 (v1242 : IVec S16 32) (v1244 : IVec S16 32) : Prop :=
  (∀ a x, ((![v1242, v1244] : Fin 2 → IVec S16 32) a x).toNat < S16x128.size a)
theorem k0_idx165_inb : ∀ (v1242 : IVec S16 32) (v1244 : IVec S16 32) (k0_hw165 : k0_chk165 v1242 v1244), ∀ a x, ((![v1242, v1244] : Fin 2 → IVec S16 32) a x).toNat < S16x128.size a := fun v1242 v1244 k0_hw165 => k0_hw165

def k0_chk166 (v1144 : IVec S16 32) (v1251 : IVec S16 32) : Prop :=
  (∀ a x, ((![v1251, v1144] : Fin 2 → IVec S16 32) a x).toNat < S16x128.size a)
theorem k0_idx166_inb : ∀ (v1144 : IVec S16 32) (v1251 : IVec S16 32) (k0_hw166 : k0_chk166 v1144 v1251), ∀ a x, ((![v1251, v1144] : Fin 2 → IVec S16 32) a x).toNat < S16x128.size a := fun v1144 v1251 k0_hw166 => k0_hw166

def k0_chk167 (v1252 : IVec S16 32) (v1254 : IVec S16 32) : Prop :=
  (∀ a x, ((![v1252, v1254] : Fin 2 → IVec S16 32) a x).toNat < S16x128.size a)
theorem k0_idx167_inb : ∀ (v1252 : IVec S16 32) (v1254 : IVec S16 32) (k0_hw167 : k0_chk167 v1252 v1254), ∀ a x, ((![v1252, v1254] : Fin 2 → IVec S16 32) a x).toNat < S16x128.size a := fun v1252 v1254 k0_hw167 => k0_hw167

def k0_chk168 (v1144 : IVec S16 32) (v1261 : IVec S16 32) : Prop :=
  (∀ a x, ((![v1261, v1144] : Fin 2 → IVec S16 32) a x).toNat < S16x128.size a)
theorem k0_idx168_inb : ∀ (v1144 : IVec S16 32) (v1261 : IVec S16 32) (k0_hw168 : k0_chk168 v1144 v1261), ∀ a x, ((![v1261, v1144] : Fin 2 → IVec S16 32) a x).toNat < S16x128.size a := fun v1144 v1261 k0_hw168 => k0_hw168

def k0_chk169 (v1262 : IVec S16 32) (v1264 : IVec S16 32) : Prop :=
  (∀ a x, ((![v1262, v1264] : Fin 2 → IVec S16 32) a x).toNat < S16x128.size a)
theorem k0_idx169_inb : ∀ (v1262 : IVec S16 32) (v1264 : IVec S16 32) (k0_hw169 : k0_chk169 v1262 v1264), ∀ a x, ((![v1262, v1264] : Fin 2 → IVec S16 32) a x).toNat < S16x128.size a := fun v1262 v1264 k0_hw169 => k0_hw169

def k0_chk170 (v1144 : IVec S16 32) (v1271 : IVec S16 32) : Prop :=
  (∀ a x, ((![v1271, v1144] : Fin 2 → IVec S16 32) a x).toNat < S16x128.size a)
theorem k0_idx170_inb : ∀ (v1144 : IVec S16 32) (v1271 : IVec S16 32) (k0_hw170 : k0_chk170 v1144 v1271), ∀ a x, ((![v1271, v1144] : Fin 2 → IVec S16 32) a x).toNat < S16x128.size a := fun v1144 v1271 k0_hw170 => k0_hw170

def k0_chk171 (v1272 : IVec S16 32) (v1274 : IVec S16 32) : Prop :=
  (∀ a x, ((![v1272, v1274] : Fin 2 → IVec S16 32) a x).toNat < S16x128.size a)
theorem k0_idx171_inb : ∀ (v1272 : IVec S16 32) (v1274 : IVec S16 32) (k0_hw171 : k0_chk171 v1272 v1274), ∀ a x, ((![v1272, v1274] : Fin 2 → IVec S16 32) a x).toNat < S16x128.size a := fun v1272 v1274 k0_hw171 => k0_hw171

def k0_chk172 (v1144 : IVec S16 32) (v1281 : IVec S16 32) : Prop :=
  (∀ a x, ((![v1281, v1144] : Fin 2 → IVec S16 32) a x).toNat < S16x128.size a)
theorem k0_idx172_inb : ∀ (v1144 : IVec S16 32) (v1281 : IVec S16 32) (k0_hw172 : k0_chk172 v1144 v1281), ∀ a x, ((![v1281, v1144] : Fin 2 → IVec S16 32) a x).toNat < S16x128.size a := fun v1144 v1281 k0_hw172 => k0_hw172

def k0_chk173 (v1282 : IVec S16 32) (v1284 : IVec S16 32) : Prop :=
  (∀ a x, ((![v1282, v1284] : Fin 2 → IVec S16 32) a x).toNat < S16x128.size a)
theorem k0_idx173_inb : ∀ (v1282 : IVec S16 32) (v1284 : IVec S16 32) (k0_hw173 : k0_chk173 v1282 v1284), ∀ a x, ((![v1282, v1284] : Fin 2 → IVec S16 32) a x).toNat < S16x128.size a := fun v1282 v1284 k0_hw173 => k0_hw173

def k0_chk174 (v1144 : IVec S16 32) (v1291 : IVec S16 32) : Prop :=
  (∀ a x, ((![v1291, v1144] : Fin 2 → IVec S16 32) a x).toNat < S16x128.size a)
theorem k0_idx174_inb : ∀ (v1144 : IVec S16 32) (v1291 : IVec S16 32) (k0_hw174 : k0_chk174 v1144 v1291), ∀ a x, ((![v1291, v1144] : Fin 2 → IVec S16 32) a x).toNat < S16x128.size a := fun v1144 v1291 k0_hw174 => k0_hw174

def k0_chk175 (v1292 : IVec S16 32) (v1294 : IVec S16 32) : Prop :=
  (∀ a x, ((![v1292, v1294] : Fin 2 → IVec S16 32) a x).toNat < S16x128.size a)
theorem k0_idx175_inb : ∀ (v1292 : IVec S16 32) (v1294 : IVec S16 32) (k0_hw175 : k0_chk175 v1292 v1294), ∀ a x, ((![v1292, v1294] : Fin 2 → IVec S16 32) a x).toNat < S16x128.size a := fun v1292 v1294 k0_hw175 => k0_hw175

def k0_chk176 (v1144 : IVec S16 32) (v1301 : IVec S16 32) : Prop :=
  (∀ a x, ((![v1301, v1144] : Fin 2 → IVec S16 32) a x).toNat < S16x128.size a)
theorem k0_idx176_inb : ∀ (v1144 : IVec S16 32) (v1301 : IVec S16 32) (k0_hw176 : k0_chk176 v1144 v1301), ∀ a x, ((![v1301, v1144] : Fin 2 → IVec S16 32) a x).toNat < S16x128.size a := fun v1144 v1301 k0_hw176 => k0_hw176

def k0_chk177 (v1302 : IVec S16 32) (v1304 : IVec S16 32) : Prop :=
  (∀ a x, ((![v1302, v1304] : Fin 2 → IVec S16 32) a x).toNat < S16x128.size a)
theorem k0_idx177_inb : ∀ (v1302 : IVec S16 32) (v1304 : IVec S16 32) (k0_hw177 : k0_chk177 v1302 v1304), ∀ a x, ((![v1302, v1304] : Fin 2 → IVec S16 32) a x).toNat < S16x128.size a := fun v1302 v1304 k0_hw177 => k0_hw177

def k0_chk178 (v1306 : IVec S16 32) (v1307 : IVec S16 32) : Prop :=
  (∀ a x, ((![v1306, v1307] : Fin 2 → IVec S16 32) a x).toNat < S64x3.size a)
theorem k0_idx178_inb : ∀ (v1306 : IVec S16 32) (v1307 : IVec S16 32) (k0_hw178 : k0_chk178 v1306 v1307), ∀ a x, ((![v1306, v1307] : Fin 2 → IVec S16 32) a x).toNat < S64x3.size a := fun v1306 v1307 k0_hw178 => k0_hw178

def k0_chk179 (v1306 : IVec S16 32) (v1309 : IVec S16 32) : Prop :=
  (∀ a x, ((![v1306, v1309] : Fin 2 → IVec S16 32) a x).toNat < S64x3.size a)
theorem k0_idx179_inb : ∀ (v1306 : IVec S16 32) (v1309 : IVec S16 32) (k0_hw179 : k0_chk179 v1306 v1309), ∀ a x, ((![v1306, v1309] : Fin 2 → IVec S16 32) a x).toNat < S64x3.size a := fun v1306 v1309 k0_hw179 => k0_hw179

def k0_chk180 (v1306 : IVec S16 32) (v1311 : IVec S16 32) : Prop :=
  (∀ a x, ((![v1306, v1311] : Fin 2 → IVec S16 32) a x).toNat < S64x3.size a)
theorem k0_idx180_inb : ∀ (v1306 : IVec S16 32) (v1311 : IVec S16 32) (k0_hw180 : k0_chk180 v1306 v1311), ∀ a x, ((![v1306, v1311] : Fin 2 → IVec S16 32) a x).toNat < S64x3.size a := fun v1306 v1311 k0_hw180 => k0_hw180

def k0_chk181 (v1321 : IVec S16 32) : Prop :=
  (∀ a x, ((![v1321] : Fin 1 → IVec S16 32) a x).toNat < S132.size a)
theorem k0_idx181_inb : ∀ (v1321 : IVec S16 32) (k0_hw181 : k0_chk181 v1321), ∀ a x, ((![v1321] : Fin 1 → IVec S16 32) a x).toNat < S132.size a := fun v1321 k0_hw181 => k0_hw181

def k0_chk182 (v1324 : IVec S16 32) : Prop :=
  (∀ a x, ((![v1324] : Fin 1 → IVec S16 32) a x).toNat < S132.size a)
theorem k0_idx182_inb : ∀ (v1324 : IVec S16 32) (k0_hw182 : k0_chk182 v1324), ∀ a x, ((![v1324] : Fin 1 → IVec S16 32) a x).toNat < S132.size a := fun v1324 k0_hw182 => k0_hw182

def k0_chk183 (v1337 : IVec S16 32) : Prop :=
  (∀ a x, ((![v1337] : Fin 1 → IVec S16 32) a x).toNat < S132.size a)
theorem k0_idx183_inb : ∀ (v1337 : IVec S16 32) (k0_hw183 : k0_chk183 v1337), ∀ a x, ((![v1337] : Fin 1 → IVec S16 32) a x).toNat < S132.size a := fun v1337 k0_hw183 => k0_hw183

def k0_chk184 (v1340 : IVec S16 32) : Prop :=
  (∀ a x, ((![v1340] : Fin 1 → IVec S16 32) a x).toNat < S132.size a)
theorem k0_idx184_inb : ∀ (v1340 : IVec S16 32) (k0_hw184 : k0_chk184 v1340), ∀ a x, ((![v1340] : Fin 1 → IVec S16 32) a x).toNat < S132.size a := fun v1340 k0_hw184 => k0_hw184

def k0_chk185 (v1343 : IVec S16 32) : Prop :=
  (∀ a x, ((![v1343] : Fin 1 → IVec S16 32) a x).toNat < S132.size a)
theorem k0_idx185_inb : ∀ (v1343 : IVec S16 32) (k0_hw185 : k0_chk185 v1343), ∀ a x, ((![v1343] : Fin 1 → IVec S16 32) a x).toNat < S132.size a := fun v1343 k0_hw185 => k0_hw185

def k0_chk186 (v1346 : IVec S16 32) : Prop :=
  (∀ a x, ((![v1346] : Fin 1 → IVec S16 32) a x).toNat < S132.size a)
theorem k0_idx186_inb : ∀ (v1346 : IVec S16 32) (k0_hw186 : k0_chk186 v1346), ∀ a x, ((![v1346] : Fin 1 → IVec S16 32) a x).toNat < S132.size a := fun v1346 k0_hw186 => k0_hw186

def k0_chk187 (v1349 : IVec S16 32) : Prop :=
  (∀ a x, ((![v1349] : Fin 1 → IVec S16 32) a x).toNat < S132.size a)
theorem k0_idx187_inb : ∀ (v1349 : IVec S16 32) (k0_hw187 : k0_chk187 v1349), ∀ a x, ((![v1349] : Fin 1 → IVec S16 32) a x).toNat < S132.size a := fun v1349 k0_hw187 => k0_hw187

def k0_chk188 (v1352 : IVec S16 32) : Prop :=
  (∀ a x, ((![v1352] : Fin 1 → IVec S16 32) a x).toNat < S132.size a)
theorem k0_idx188_inb : ∀ (v1352 : IVec S16 32) (k0_hw188 : k0_chk188 v1352), ∀ a x, ((![v1352] : Fin 1 → IVec S16 32) a x).toNat < S132.size a := fun v1352 k0_hw188 => k0_hw188

def k0_chk189 (v1396 : IVec S16 32) : Prop :=
  (∀ a x, ((![v1396] : Fin 1 → IVec S16 32) a x).toNat < S132.size a)
theorem k0_idx189_inb : ∀ (v1396 : IVec S16 32) (k0_hw189 : k0_chk189 v1396), ∀ a x, ((![v1396] : Fin 1 → IVec S16 32) a x).toNat < S132.size a := fun v1396 k0_hw189 => k0_hw189

def k0_chk190 (v1399 : IVec S16 32) : Prop :=
  (∀ a x, ((![v1399] : Fin 1 → IVec S16 32) a x).toNat < S132.size a)
theorem k0_idx190_inb : ∀ (v1399 : IVec S16 32) (k0_hw190 : k0_chk190 v1399), ∀ a x, ((![v1399] : Fin 1 → IVec S16 32) a x).toNat < S132.size a := fun v1399 k0_hw190 => k0_hw190

def k0_chk191 (v1412 : IVec S16 32) : Prop :=
  (∀ a x, ((![v1412] : Fin 1 → IVec S16 32) a x).toNat < S132.size a)
theorem k0_idx191_inb : ∀ (v1412 : IVec S16 32) (k0_hw191 : k0_chk191 v1412), ∀ a x, ((![v1412] : Fin 1 → IVec S16 32) a x).toNat < S132.size a := fun v1412 k0_hw191 => k0_hw191

def k0_chk192 (v1415 : IVec S16 32) : Prop :=
  (∀ a x, ((![v1415] : Fin 1 → IVec S16 32) a x).toNat < S132.size a)
theorem k0_idx192_inb : ∀ (v1415 : IVec S16 32) (k0_hw192 : k0_chk192 v1415), ∀ a x, ((![v1415] : Fin 1 → IVec S16 32) a x).toNat < S132.size a := fun v1415 k0_hw192 => k0_hw192

def k0_chk193 (v1418 : IVec S16 32) : Prop :=
  (∀ a x, ((![v1418] : Fin 1 → IVec S16 32) a x).toNat < S132.size a)
theorem k0_idx193_inb : ∀ (v1418 : IVec S16 32) (k0_hw193 : k0_chk193 v1418), ∀ a x, ((![v1418] : Fin 1 → IVec S16 32) a x).toNat < S132.size a := fun v1418 k0_hw193 => k0_hw193

def k0_chk194 (v1421 : IVec S16 32) : Prop :=
  (∀ a x, ((![v1421] : Fin 1 → IVec S16 32) a x).toNat < S132.size a)
theorem k0_idx194_inb : ∀ (v1421 : IVec S16 32) (k0_hw194 : k0_chk194 v1421), ∀ a x, ((![v1421] : Fin 1 → IVec S16 32) a x).toNat < S132.size a := fun v1421 k0_hw194 => k0_hw194

def k0_chk195 (v1424 : IVec S16 32) : Prop :=
  (∀ a x, ((![v1424] : Fin 1 → IVec S16 32) a x).toNat < S132.size a)
theorem k0_idx195_inb : ∀ (v1424 : IVec S16 32) (k0_hw195 : k0_chk195 v1424), ∀ a x, ((![v1424] : Fin 1 → IVec S16 32) a x).toNat < S132.size a := fun v1424 k0_hw195 => k0_hw195

def k0_chk196 (v1427 : IVec S16 32) : Prop :=
  (∀ a x, ((![v1427] : Fin 1 → IVec S16 32) a x).toNat < S132.size a)
theorem k0_idx196_inb : ∀ (v1427 : IVec S16 32) (k0_hw196 : k0_chk196 v1427), ∀ a x, ((![v1427] : Fin 1 → IVec S16 32) a x).toNat < S132.size a := fun v1427 k0_hw196 => k0_hw196

def k0_chk197 (v1471 : IVec S16 32) : Prop :=
  (∀ a x, ((![v1471] : Fin 1 → IVec S16 32) a x).toNat < S132.size a)
theorem k0_idx197_inb : ∀ (v1471 : IVec S16 32) (k0_hw197 : k0_chk197 v1471), ∀ a x, ((![v1471] : Fin 1 → IVec S16 32) a x).toNat < S132.size a := fun v1471 k0_hw197 => k0_hw197

def k0_chk198 (v1474 : IVec S16 32) : Prop :=
  (∀ a x, ((![v1474] : Fin 1 → IVec S16 32) a x).toNat < S132.size a)
theorem k0_idx198_inb : ∀ (v1474 : IVec S16 32) (k0_hw198 : k0_chk198 v1474), ∀ a x, ((![v1474] : Fin 1 → IVec S16 32) a x).toNat < S132.size a := fun v1474 k0_hw198 => k0_hw198

def k0_chk199 (v1487 : IVec S16 32) : Prop :=
  (∀ a x, ((![v1487] : Fin 1 → IVec S16 32) a x).toNat < S132.size a)
theorem k0_idx199_inb : ∀ (v1487 : IVec S16 32) (k0_hw199 : k0_chk199 v1487), ∀ a x, ((![v1487] : Fin 1 → IVec S16 32) a x).toNat < S132.size a := fun v1487 k0_hw199 => k0_hw199

def k0_chk200 (v1490 : IVec S16 32) : Prop :=
  (∀ a x, ((![v1490] : Fin 1 → IVec S16 32) a x).toNat < S132.size a)
theorem k0_idx200_inb : ∀ (v1490 : IVec S16 32) (k0_hw200 : k0_chk200 v1490), ∀ a x, ((![v1490] : Fin 1 → IVec S16 32) a x).toNat < S132.size a := fun v1490 k0_hw200 => k0_hw200

def k0_chk201 (v1493 : IVec S16 32) : Prop :=
  (∀ a x, ((![v1493] : Fin 1 → IVec S16 32) a x).toNat < S132.size a)
theorem k0_idx201_inb : ∀ (v1493 : IVec S16 32) (k0_hw201 : k0_chk201 v1493), ∀ a x, ((![v1493] : Fin 1 → IVec S16 32) a x).toNat < S132.size a := fun v1493 k0_hw201 => k0_hw201

def k0_chk202 (v1496 : IVec S16 32) : Prop :=
  (∀ a x, ((![v1496] : Fin 1 → IVec S16 32) a x).toNat < S132.size a)
theorem k0_idx202_inb : ∀ (v1496 : IVec S16 32) (k0_hw202 : k0_chk202 v1496), ∀ a x, ((![v1496] : Fin 1 → IVec S16 32) a x).toNat < S132.size a := fun v1496 k0_hw202 => k0_hw202

def k0_chk203 (v1499 : IVec S16 32) : Prop :=
  (∀ a x, ((![v1499] : Fin 1 → IVec S16 32) a x).toNat < S132.size a)
theorem k0_idx203_inb : ∀ (v1499 : IVec S16 32) (k0_hw203 : k0_chk203 v1499), ∀ a x, ((![v1499] : Fin 1 → IVec S16 32) a x).toNat < S132.size a := fun v1499 k0_hw203 => k0_hw203

def k0_chk204 (v1502 : IVec S16 32) : Prop :=
  (∀ a x, ((![v1502] : Fin 1 → IVec S16 32) a x).toNat < S132.size a)
theorem k0_idx204_inb : ∀ (v1502 : IVec S16 32) (k0_hw204 : k0_chk204 v1502), ∀ a x, ((![v1502] : Fin 1 → IVec S16 32) a x).toNat < S132.size a := fun v1502 k0_hw204 => k0_hw204

def k0_chk205 (v1576 : IVec S16 32) (v1583 : IVec S16 32) : Prop :=
  (∀ a x, ((![v1583, v1576] : Fin 2 → IVec S16 32) a x).toNat < S16x128.size a)
theorem k0_idx205_inb : ∀ (v1576 : IVec S16 32) (v1583 : IVec S16 32) (k0_hw205 : k0_chk205 v1576 v1583), ∀ a x, ((![v1583, v1576] : Fin 2 → IVec S16 32) a x).toNat < S16x128.size a := fun v1576 v1583 k0_hw205 => k0_hw205

def k0_chk206 (v1584 : IVec S16 32) (v1586 : IVec S16 32) : Prop :=
  (∀ a x, ((![v1584, v1586] : Fin 2 → IVec S16 32) a x).toNat < S16x128.size a)
theorem k0_idx206_inb : ∀ (v1584 : IVec S16 32) (v1586 : IVec S16 32) (k0_hw206 : k0_chk206 v1584 v1586), ∀ a x, ((![v1584, v1586] : Fin 2 → IVec S16 32) a x).toNat < S16x128.size a := fun v1584 v1586 k0_hw206 => k0_hw206

def k0_chk207 (v1576 : IVec S16 32) (v1593 : IVec S16 32) : Prop :=
  (∀ a x, ((![v1593, v1576] : Fin 2 → IVec S16 32) a x).toNat < S16x128.size a)
theorem k0_idx207_inb : ∀ (v1576 : IVec S16 32) (v1593 : IVec S16 32) (k0_hw207 : k0_chk207 v1576 v1593), ∀ a x, ((![v1593, v1576] : Fin 2 → IVec S16 32) a x).toNat < S16x128.size a := fun v1576 v1593 k0_hw207 => k0_hw207

def k0_chk208 (v1594 : IVec S16 32) (v1596 : IVec S16 32) : Prop :=
  (∀ a x, ((![v1594, v1596] : Fin 2 → IVec S16 32) a x).toNat < S16x128.size a)
theorem k0_idx208_inb : ∀ (v1594 : IVec S16 32) (v1596 : IVec S16 32) (k0_hw208 : k0_chk208 v1594 v1596), ∀ a x, ((![v1594, v1596] : Fin 2 → IVec S16 32) a x).toNat < S16x128.size a := fun v1594 v1596 k0_hw208 => k0_hw208

def k0_chk209 (v1576 : IVec S16 32) (v1603 : IVec S16 32) : Prop :=
  (∀ a x, ((![v1603, v1576] : Fin 2 → IVec S16 32) a x).toNat < S16x128.size a)
theorem k0_idx209_inb : ∀ (v1576 : IVec S16 32) (v1603 : IVec S16 32) (k0_hw209 : k0_chk209 v1576 v1603), ∀ a x, ((![v1603, v1576] : Fin 2 → IVec S16 32) a x).toNat < S16x128.size a := fun v1576 v1603 k0_hw209 => k0_hw209

def k0_chk210 (v1604 : IVec S16 32) (v1606 : IVec S16 32) : Prop :=
  (∀ a x, ((![v1604, v1606] : Fin 2 → IVec S16 32) a x).toNat < S16x128.size a)
theorem k0_idx210_inb : ∀ (v1604 : IVec S16 32) (v1606 : IVec S16 32) (k0_hw210 : k0_chk210 v1604 v1606), ∀ a x, ((![v1604, v1606] : Fin 2 → IVec S16 32) a x).toNat < S16x128.size a := fun v1604 v1606 k0_hw210 => k0_hw210

def k0_chk211 (v1576 : IVec S16 32) (v1613 : IVec S16 32) : Prop :=
  (∀ a x, ((![v1613, v1576] : Fin 2 → IVec S16 32) a x).toNat < S16x128.size a)
theorem k0_idx211_inb : ∀ (v1576 : IVec S16 32) (v1613 : IVec S16 32) (k0_hw211 : k0_chk211 v1576 v1613), ∀ a x, ((![v1613, v1576] : Fin 2 → IVec S16 32) a x).toNat < S16x128.size a := fun v1576 v1613 k0_hw211 => k0_hw211

def k0_chk212 (v1614 : IVec S16 32) (v1616 : IVec S16 32) : Prop :=
  (∀ a x, ((![v1614, v1616] : Fin 2 → IVec S16 32) a x).toNat < S16x128.size a)
theorem k0_idx212_inb : ∀ (v1614 : IVec S16 32) (v1616 : IVec S16 32) (k0_hw212 : k0_chk212 v1614 v1616), ∀ a x, ((![v1614, v1616] : Fin 2 → IVec S16 32) a x).toNat < S16x128.size a := fun v1614 v1616 k0_hw212 => k0_hw212

def k0_chk213 (v1576 : IVec S16 32) (v1623 : IVec S16 32) : Prop :=
  (∀ a x, ((![v1623, v1576] : Fin 2 → IVec S16 32) a x).toNat < S16x128.size a)
theorem k0_idx213_inb : ∀ (v1576 : IVec S16 32) (v1623 : IVec S16 32) (k0_hw213 : k0_chk213 v1576 v1623), ∀ a x, ((![v1623, v1576] : Fin 2 → IVec S16 32) a x).toNat < S16x128.size a := fun v1576 v1623 k0_hw213 => k0_hw213

def k0_chk214 (v1624 : IVec S16 32) (v1626 : IVec S16 32) : Prop :=
  (∀ a x, ((![v1624, v1626] : Fin 2 → IVec S16 32) a x).toNat < S16x128.size a)
theorem k0_idx214_inb : ∀ (v1624 : IVec S16 32) (v1626 : IVec S16 32) (k0_hw214 : k0_chk214 v1624 v1626), ∀ a x, ((![v1624, v1626] : Fin 2 → IVec S16 32) a x).toNat < S16x128.size a := fun v1624 v1626 k0_hw214 => k0_hw214

def k0_chk215 (v1576 : IVec S16 32) (v1633 : IVec S16 32) : Prop :=
  (∀ a x, ((![v1633, v1576] : Fin 2 → IVec S16 32) a x).toNat < S16x128.size a)
theorem k0_idx215_inb : ∀ (v1576 : IVec S16 32) (v1633 : IVec S16 32) (k0_hw215 : k0_chk215 v1576 v1633), ∀ a x, ((![v1633, v1576] : Fin 2 → IVec S16 32) a x).toNat < S16x128.size a := fun v1576 v1633 k0_hw215 => k0_hw215

def k0_chk216 (v1634 : IVec S16 32) (v1636 : IVec S16 32) : Prop :=
  (∀ a x, ((![v1634, v1636] : Fin 2 → IVec S16 32) a x).toNat < S16x128.size a)
theorem k0_idx216_inb : ∀ (v1634 : IVec S16 32) (v1636 : IVec S16 32) (k0_hw216 : k0_chk216 v1634 v1636), ∀ a x, ((![v1634, v1636] : Fin 2 → IVec S16 32) a x).toNat < S16x128.size a := fun v1634 v1636 k0_hw216 => k0_hw216

def k0_chk217 (v1576 : IVec S16 32) (v1643 : IVec S16 32) : Prop :=
  (∀ a x, ((![v1643, v1576] : Fin 2 → IVec S16 32) a x).toNat < S16x128.size a)
theorem k0_idx217_inb : ∀ (v1576 : IVec S16 32) (v1643 : IVec S16 32) (k0_hw217 : k0_chk217 v1576 v1643), ∀ a x, ((![v1643, v1576] : Fin 2 → IVec S16 32) a x).toNat < S16x128.size a := fun v1576 v1643 k0_hw217 => k0_hw217

def k0_chk218 (v1644 : IVec S16 32) (v1646 : IVec S16 32) : Prop :=
  (∀ a x, ((![v1644, v1646] : Fin 2 → IVec S16 32) a x).toNat < S16x128.size a)
theorem k0_idx218_inb : ∀ (v1644 : IVec S16 32) (v1646 : IVec S16 32) (k0_hw218 : k0_chk218 v1644 v1646), ∀ a x, ((![v1644, v1646] : Fin 2 → IVec S16 32) a x).toNat < S16x128.size a := fun v1644 v1646 k0_hw218 => k0_hw218

def k0_chk219 (v1576 : IVec S16 32) (v1653 : IVec S16 32) : Prop :=
  (∀ a x, ((![v1653, v1576] : Fin 2 → IVec S16 32) a x).toNat < S16x128.size a)
theorem k0_idx219_inb : ∀ (v1576 : IVec S16 32) (v1653 : IVec S16 32) (k0_hw219 : k0_chk219 v1576 v1653), ∀ a x, ((![v1653, v1576] : Fin 2 → IVec S16 32) a x).toNat < S16x128.size a := fun v1576 v1653 k0_hw219 => k0_hw219

def k0_chk220 (v1654 : IVec S16 32) (v1656 : IVec S16 32) : Prop :=
  (∀ a x, ((![v1654, v1656] : Fin 2 → IVec S16 32) a x).toNat < S16x128.size a)
theorem k0_idx220_inb : ∀ (v1654 : IVec S16 32) (v1656 : IVec S16 32) (k0_hw220 : k0_chk220 v1654 v1656), ∀ a x, ((![v1654, v1656] : Fin 2 → IVec S16 32) a x).toNat < S16x128.size a := fun v1654 v1656 k0_hw220 => k0_hw220

def k0_chk221 (v1576 : IVec S16 32) (v1663 : IVec S16 32) : Prop :=
  (∀ a x, ((![v1663, v1576] : Fin 2 → IVec S16 32) a x).toNat < S16x128.size a)
theorem k0_idx221_inb : ∀ (v1576 : IVec S16 32) (v1663 : IVec S16 32) (k0_hw221 : k0_chk221 v1576 v1663), ∀ a x, ((![v1663, v1576] : Fin 2 → IVec S16 32) a x).toNat < S16x128.size a := fun v1576 v1663 k0_hw221 => k0_hw221

def k0_chk222 (v1664 : IVec S16 32) (v1666 : IVec S16 32) : Prop :=
  (∀ a x, ((![v1664, v1666] : Fin 2 → IVec S16 32) a x).toNat < S16x128.size a)
theorem k0_idx222_inb : ∀ (v1664 : IVec S16 32) (v1666 : IVec S16 32) (k0_hw222 : k0_chk222 v1664 v1666), ∀ a x, ((![v1664, v1666] : Fin 2 → IVec S16 32) a x).toNat < S16x128.size a := fun v1664 v1666 k0_hw222 => k0_hw222

def k0_chk223 (v1576 : IVec S16 32) (v1673 : IVec S16 32) : Prop :=
  (∀ a x, ((![v1673, v1576] : Fin 2 → IVec S16 32) a x).toNat < S16x128.size a)
theorem k0_idx223_inb : ∀ (v1576 : IVec S16 32) (v1673 : IVec S16 32) (k0_hw223 : k0_chk223 v1576 v1673), ∀ a x, ((![v1673, v1576] : Fin 2 → IVec S16 32) a x).toNat < S16x128.size a := fun v1576 v1673 k0_hw223 => k0_hw223

def k0_chk224 (v1674 : IVec S16 32) (v1676 : IVec S16 32) : Prop :=
  (∀ a x, ((![v1674, v1676] : Fin 2 → IVec S16 32) a x).toNat < S16x128.size a)
theorem k0_idx224_inb : ∀ (v1674 : IVec S16 32) (v1676 : IVec S16 32) (k0_hw224 : k0_chk224 v1674 v1676), ∀ a x, ((![v1674, v1676] : Fin 2 → IVec S16 32) a x).toNat < S16x128.size a := fun v1674 v1676 k0_hw224 => k0_hw224

def k0_chk225 (v1576 : IVec S16 32) (v1683 : IVec S16 32) : Prop :=
  (∀ a x, ((![v1683, v1576] : Fin 2 → IVec S16 32) a x).toNat < S16x128.size a)
theorem k0_idx225_inb : ∀ (v1576 : IVec S16 32) (v1683 : IVec S16 32) (k0_hw225 : k0_chk225 v1576 v1683), ∀ a x, ((![v1683, v1576] : Fin 2 → IVec S16 32) a x).toNat < S16x128.size a := fun v1576 v1683 k0_hw225 => k0_hw225

def k0_chk226 (v1684 : IVec S16 32) (v1686 : IVec S16 32) : Prop :=
  (∀ a x, ((![v1684, v1686] : Fin 2 → IVec S16 32) a x).toNat < S16x128.size a)
theorem k0_idx226_inb : ∀ (v1684 : IVec S16 32) (v1686 : IVec S16 32) (k0_hw226 : k0_chk226 v1684 v1686), ∀ a x, ((![v1684, v1686] : Fin 2 → IVec S16 32) a x).toNat < S16x128.size a := fun v1684 v1686 k0_hw226 => k0_hw226

def k0_chk227 (v1576 : IVec S16 32) (v1693 : IVec S16 32) : Prop :=
  (∀ a x, ((![v1693, v1576] : Fin 2 → IVec S16 32) a x).toNat < S16x128.size a)
theorem k0_idx227_inb : ∀ (v1576 : IVec S16 32) (v1693 : IVec S16 32) (k0_hw227 : k0_chk227 v1576 v1693), ∀ a x, ((![v1693, v1576] : Fin 2 → IVec S16 32) a x).toNat < S16x128.size a := fun v1576 v1693 k0_hw227 => k0_hw227

def k0_chk228 (v1694 : IVec S16 32) (v1696 : IVec S16 32) : Prop :=
  (∀ a x, ((![v1694, v1696] : Fin 2 → IVec S16 32) a x).toNat < S16x128.size a)
theorem k0_idx228_inb : ∀ (v1694 : IVec S16 32) (v1696 : IVec S16 32) (k0_hw228 : k0_chk228 v1694 v1696), ∀ a x, ((![v1694, v1696] : Fin 2 → IVec S16 32) a x).toNat < S16x128.size a := fun v1694 v1696 k0_hw228 => k0_hw228

def k0_chk229 (v1576 : IVec S16 32) (v1703 : IVec S16 32) : Prop :=
  (∀ a x, ((![v1703, v1576] : Fin 2 → IVec S16 32) a x).toNat < S16x128.size a)
theorem k0_idx229_inb : ∀ (v1576 : IVec S16 32) (v1703 : IVec S16 32) (k0_hw229 : k0_chk229 v1576 v1703), ∀ a x, ((![v1703, v1576] : Fin 2 → IVec S16 32) a x).toNat < S16x128.size a := fun v1576 v1703 k0_hw229 => k0_hw229

def k0_chk230 (v1704 : IVec S16 32) (v1706 : IVec S16 32) : Prop :=
  (∀ a x, ((![v1704, v1706] : Fin 2 → IVec S16 32) a x).toNat < S16x128.size a)
theorem k0_idx230_inb : ∀ (v1704 : IVec S16 32) (v1706 : IVec S16 32) (k0_hw230 : k0_chk230 v1704 v1706), ∀ a x, ((![v1704, v1706] : Fin 2 → IVec S16 32) a x).toNat < S16x128.size a := fun v1704 v1706 k0_hw230 => k0_hw230

def k0_chk231 (v1576 : IVec S16 32) (v1713 : IVec S16 32) : Prop :=
  (∀ a x, ((![v1713, v1576] : Fin 2 → IVec S16 32) a x).toNat < S16x128.size a)
theorem k0_idx231_inb : ∀ (v1576 : IVec S16 32) (v1713 : IVec S16 32) (k0_hw231 : k0_chk231 v1576 v1713), ∀ a x, ((![v1713, v1576] : Fin 2 → IVec S16 32) a x).toNat < S16x128.size a := fun v1576 v1713 k0_hw231 => k0_hw231

def k0_chk232 (v1714 : IVec S16 32) (v1716 : IVec S16 32) : Prop :=
  (∀ a x, ((![v1714, v1716] : Fin 2 → IVec S16 32) a x).toNat < S16x128.size a)
theorem k0_idx232_inb : ∀ (v1714 : IVec S16 32) (v1716 : IVec S16 32) (k0_hw232 : k0_chk232 v1714 v1716), ∀ a x, ((![v1714, v1716] : Fin 2 → IVec S16 32) a x).toNat < S16x128.size a := fun v1714 v1716 k0_hw232 => k0_hw232

def k0_chk233 (v1576 : IVec S16 32) (v1723 : IVec S16 32) : Prop :=
  (∀ a x, ((![v1723, v1576] : Fin 2 → IVec S16 32) a x).toNat < S16x128.size a)
theorem k0_idx233_inb : ∀ (v1576 : IVec S16 32) (v1723 : IVec S16 32) (k0_hw233 : k0_chk233 v1576 v1723), ∀ a x, ((![v1723, v1576] : Fin 2 → IVec S16 32) a x).toNat < S16x128.size a := fun v1576 v1723 k0_hw233 => k0_hw233

def k0_chk234 (v1724 : IVec S16 32) (v1726 : IVec S16 32) : Prop :=
  (∀ a x, ((![v1724, v1726] : Fin 2 → IVec S16 32) a x).toNat < S16x128.size a)
theorem k0_idx234_inb : ∀ (v1724 : IVec S16 32) (v1726 : IVec S16 32) (k0_hw234 : k0_chk234 v1724 v1726), ∀ a x, ((![v1724, v1726] : Fin 2 → IVec S16 32) a x).toNat < S16x128.size a := fun v1724 v1726 k0_hw234 => k0_hw234

def k0_chk235 (v1576 : IVec S16 32) (v1733 : IVec S16 32) : Prop :=
  (∀ a x, ((![v1733, v1576] : Fin 2 → IVec S16 32) a x).toNat < S16x128.size a)
theorem k0_idx235_inb : ∀ (v1576 : IVec S16 32) (v1733 : IVec S16 32) (k0_hw235 : k0_chk235 v1576 v1733), ∀ a x, ((![v1733, v1576] : Fin 2 → IVec S16 32) a x).toNat < S16x128.size a := fun v1576 v1733 k0_hw235 => k0_hw235

def k0_chk236 (v1734 : IVec S16 32) (v1736 : IVec S16 32) : Prop :=
  (∀ a x, ((![v1734, v1736] : Fin 2 → IVec S16 32) a x).toNat < S16x128.size a)
theorem k0_idx236_inb : ∀ (v1734 : IVec S16 32) (v1736 : IVec S16 32) (k0_hw236 : k0_chk236 v1734 v1736), ∀ a x, ((![v1734, v1736] : Fin 2 → IVec S16 32) a x).toNat < S16x128.size a := fun v1734 v1736 k0_hw236 => k0_hw236

def k0_chk237 (v1931 : IVec S16 32) (v1934 : IVec S16 32) (v2039 : IVec S16 32) : Prop :=
  (∀ a x, ((![v2039, v1931, v1934] : Fin 3 → IVec S16 32) a x).toNat < S16x128x16.size a)
theorem k0_idx237_inb : ∀ (v1931 : IVec S16 32) (v1934 : IVec S16 32) (v2039 : IVec S16 32) (k0_hw237 : k0_chk237 v1931 v1934 v2039), ∀ a x, ((![v2039, v1931, v1934] : Fin 3 → IVec S16 32) a x).toNat < S16x128x16.size a := fun v1931 v1934 v2039 k0_hw237 => k0_hw237

def k0_chk238 (v1940 : IVec S16 32) (v1943 : IVec S16 32) (v2043 : IVec S16 32) : Prop :=
  (∀ a x, ((![v2043, v1940, v1943] : Fin 3 → IVec S16 32) a x).toNat < S16x128x16.size a)
theorem k0_idx238_inb : ∀ (v1940 : IVec S16 32) (v1943 : IVec S16 32) (v2043 : IVec S16 32) (k0_hw238 : k0_chk238 v1940 v1943 v2043), ∀ a x, ((![v2043, v1940, v1943] : Fin 3 → IVec S16 32) a x).toNat < S16x128x16.size a := fun v1940 v1943 v2043 k0_hw238 => k0_hw238

def k0_chk239 (v1949 : IVec S16 32) (v1952 : IVec S16 32) (v2047 : IVec S16 32) : Prop :=
  (∀ a x, ((![v2047, v1949, v1952] : Fin 3 → IVec S16 32) a x).toNat < S16x128x16.size a)
theorem k0_idx239_inb : ∀ (v1949 : IVec S16 32) (v1952 : IVec S16 32) (v2047 : IVec S16 32) (k0_hw239 : k0_chk239 v1949 v1952 v2047), ∀ a x, ((![v2047, v1949, v1952] : Fin 3 → IVec S16 32) a x).toNat < S16x128x16.size a := fun v1949 v1952 v2047 k0_hw239 => k0_hw239

def k0_chk240 (v1958 : IVec S16 32) (v1961 : IVec S16 32) (v2052 : IVec S16 32) : Prop :=
  (∀ a x, ((![v2052, v1958, v1961] : Fin 3 → IVec S16 32) a x).toNat < S16x128x16.size a)
theorem k0_idx240_inb : ∀ (v1958 : IVec S16 32) (v1961 : IVec S16 32) (v2052 : IVec S16 32) (k0_hw240 : k0_chk240 v1958 v1961 v2052), ∀ a x, ((![v2052, v1958, v1961] : Fin 3 → IVec S16 32) a x).toNat < S16x128x16.size a := fun v1958 v1961 v2052 k0_hw240 => k0_hw240

def k0_chk241 (v1967 : IVec S16 32) (v1970 : IVec S16 32) (v2056 : IVec S16 32) : Prop :=
  (∀ a x, ((![v2056, v1967, v1970] : Fin 3 → IVec S16 32) a x).toNat < S16x128x16.size a)
theorem k0_idx241_inb : ∀ (v1967 : IVec S16 32) (v1970 : IVec S16 32) (v2056 : IVec S16 32) (k0_hw241 : k0_chk241 v1967 v1970 v2056), ∀ a x, ((![v2056, v1967, v1970] : Fin 3 → IVec S16 32) a x).toNat < S16x128x16.size a := fun v1967 v1970 v2056 k0_hw241 => k0_hw241

def k0_chk242 (v1976 : IVec S16 32) (v1979 : IVec S16 32) (v2060 : IVec S16 32) : Prop :=
  (∀ a x, ((![v2060, v1976, v1979] : Fin 3 → IVec S16 32) a x).toNat < S16x128x16.size a)
theorem k0_idx242_inb : ∀ (v1976 : IVec S16 32) (v1979 : IVec S16 32) (v2060 : IVec S16 32) (k0_hw242 : k0_chk242 v1976 v1979 v2060), ∀ a x, ((![v2060, v1976, v1979] : Fin 3 → IVec S16 32) a x).toNat < S16x128x16.size a := fun v1976 v1979 v2060 k0_hw242 => k0_hw242

def k0_chk243 (v1985 : IVec S16 32) (v1988 : IVec S16 32) (v2065 : IVec S16 32) : Prop :=
  (∀ a x, ((![v2065, v1985, v1988] : Fin 3 → IVec S16 32) a x).toNat < S16x128x16.size a)
theorem k0_idx243_inb : ∀ (v1985 : IVec S16 32) (v1988 : IVec S16 32) (v2065 : IVec S16 32) (k0_hw243 : k0_chk243 v1985 v1988 v2065), ∀ a x, ((![v2065, v1985, v1988] : Fin 3 → IVec S16 32) a x).toNat < S16x128x16.size a := fun v1985 v1988 v2065 k0_hw243 => k0_hw243

def k0_chk244 (v1994 : IVec S16 32) (v1997 : IVec S16 32) (v2069 : IVec S16 32) : Prop :=
  (∀ a x, ((![v2069, v1994, v1997] : Fin 3 → IVec S16 32) a x).toNat < S16x128x16.size a)
theorem k0_idx244_inb : ∀ (v1994 : IVec S16 32) (v1997 : IVec S16 32) (v2069 : IVec S16 32) (k0_hw244 : k0_chk244 v1994 v1997 v2069), ∀ a x, ((![v2069, v1994, v1997] : Fin 3 → IVec S16 32) a x).toNat < S16x128x16.size a := fun v1994 v1997 v2069 k0_hw244 => k0_hw244

def k0_chk245 (v2003 : IVec S16 32) (v2006 : IVec S16 32) (v2073 : IVec S16 32) : Prop :=
  (∀ a x, ((![v2073, v2003, v2006] : Fin 3 → IVec S16 32) a x).toNat < S16x128x16.size a)
theorem k0_idx245_inb : ∀ (v2003 : IVec S16 32) (v2006 : IVec S16 32) (v2073 : IVec S16 32) (k0_hw245 : k0_chk245 v2003 v2006 v2073), ∀ a x, ((![v2073, v2003, v2006] : Fin 3 → IVec S16 32) a x).toNat < S16x128x16.size a := fun v2003 v2006 v2073 k0_hw245 => k0_hw245

def k0_chk246 (v2012 : IVec S16 32) (v2015 : IVec S16 32) (v2078 : IVec S16 32) : Prop :=
  (∀ a x, ((![v2078, v2012, v2015] : Fin 3 → IVec S16 32) a x).toNat < S16x128x16.size a)
theorem k0_idx246_inb : ∀ (v2012 : IVec S16 32) (v2015 : IVec S16 32) (v2078 : IVec S16 32) (k0_hw246 : k0_chk246 v2012 v2015 v2078), ∀ a x, ((![v2078, v2012, v2015] : Fin 3 → IVec S16 32) a x).toNat < S16x128x16.size a := fun v2012 v2015 v2078 k0_hw246 => k0_hw246

def k0_chk247 (v2021 : IVec S16 32) (v2024 : IVec S16 32) (v2082 : IVec S16 32) : Prop :=
  (∀ a x, ((![v2082, v2021, v2024] : Fin 3 → IVec S16 32) a x).toNat < S16x128x16.size a)
theorem k0_idx247_inb : ∀ (v2021 : IVec S16 32) (v2024 : IVec S16 32) (v2082 : IVec S16 32) (k0_hw247 : k0_chk247 v2021 v2024 v2082), ∀ a x, ((![v2082, v2021, v2024] : Fin 3 → IVec S16 32) a x).toNat < S16x128x16.size a := fun v2021 v2024 v2082 k0_hw247 => k0_hw247

def k0_chk248 (v2030 : IVec S16 32) (v2033 : IVec S16 32) (v2086 : IVec S16 32) : Prop :=
  (∀ a x, ((![v2086, v2030, v2033] : Fin 3 → IVec S16 32) a x).toNat < S16x128x16.size a)
theorem k0_idx248_inb : ∀ (v2030 : IVec S16 32) (v2033 : IVec S16 32) (v2086 : IVec S16 32) (k0_hw248 : k0_chk248 v2030 v2033 v2086), ∀ a x, ((![v2086, v2030, v2033] : Fin 3 → IVec S16 32) a x).toNat < S16x128x16.size a := fun v2030 v2033 v2086 k0_hw248 => k0_hw248

def k0_chk249 (v1931 : IVec S16 32) (v1934 : IVec S16 32) (v2092 : IVec S16 32) : Prop :=
  (∀ a x, ((![v2092, v1931, v1934] : Fin 3 → IVec S16 32) a x).toNat < S16x128x16.size a)
theorem k0_idx249_inb : ∀ (v1931 : IVec S16 32) (v1934 : IVec S16 32) (v2092 : IVec S16 32) (k0_hw249 : k0_chk249 v1931 v1934 v2092), ∀ a x, ((![v2092, v1931, v1934] : Fin 3 → IVec S16 32) a x).toNat < S16x128x16.size a := fun v1931 v1934 v2092 k0_hw249 => k0_hw249

def k0_chk250 (v1940 : IVec S16 32) (v1943 : IVec S16 32) (v2096 : IVec S16 32) : Prop :=
  (∀ a x, ((![v2096, v1940, v1943] : Fin 3 → IVec S16 32) a x).toNat < S16x128x16.size a)
theorem k0_idx250_inb : ∀ (v1940 : IVec S16 32) (v1943 : IVec S16 32) (v2096 : IVec S16 32) (k0_hw250 : k0_chk250 v1940 v1943 v2096), ∀ a x, ((![v2096, v1940, v1943] : Fin 3 → IVec S16 32) a x).toNat < S16x128x16.size a := fun v1940 v1943 v2096 k0_hw250 => k0_hw250

def k0_chk251 (v1949 : IVec S16 32) (v1952 : IVec S16 32) (v2100 : IVec S16 32) : Prop :=
  (∀ a x, ((![v2100, v1949, v1952] : Fin 3 → IVec S16 32) a x).toNat < S16x128x16.size a)
theorem k0_idx251_inb : ∀ (v1949 : IVec S16 32) (v1952 : IVec S16 32) (v2100 : IVec S16 32) (k0_hw251 : k0_chk251 v1949 v1952 v2100), ∀ a x, ((![v2100, v1949, v1952] : Fin 3 → IVec S16 32) a x).toNat < S16x128x16.size a := fun v1949 v1952 v2100 k0_hw251 => k0_hw251

def k0_chk252 (v1958 : IVec S16 32) (v1961 : IVec S16 32) (v2105 : IVec S16 32) : Prop :=
  (∀ a x, ((![v2105, v1958, v1961] : Fin 3 → IVec S16 32) a x).toNat < S16x128x16.size a)
theorem k0_idx252_inb : ∀ (v1958 : IVec S16 32) (v1961 : IVec S16 32) (v2105 : IVec S16 32) (k0_hw252 : k0_chk252 v1958 v1961 v2105), ∀ a x, ((![v2105, v1958, v1961] : Fin 3 → IVec S16 32) a x).toNat < S16x128x16.size a := fun v1958 v1961 v2105 k0_hw252 => k0_hw252

def k0_chk253 (v1967 : IVec S16 32) (v1970 : IVec S16 32) (v2109 : IVec S16 32) : Prop :=
  (∀ a x, ((![v2109, v1967, v1970] : Fin 3 → IVec S16 32) a x).toNat < S16x128x16.size a)
theorem k0_idx253_inb : ∀ (v1967 : IVec S16 32) (v1970 : IVec S16 32) (v2109 : IVec S16 32) (k0_hw253 : k0_chk253 v1967 v1970 v2109), ∀ a x, ((![v2109, v1967, v1970] : Fin 3 → IVec S16 32) a x).toNat < S16x128x16.size a := fun v1967 v1970 v2109 k0_hw253 => k0_hw253

def k0_chk254 (v1976 : IVec S16 32) (v1979 : IVec S16 32) (v2113 : IVec S16 32) : Prop :=
  (∀ a x, ((![v2113, v1976, v1979] : Fin 3 → IVec S16 32) a x).toNat < S16x128x16.size a)
theorem k0_idx254_inb : ∀ (v1976 : IVec S16 32) (v1979 : IVec S16 32) (v2113 : IVec S16 32) (k0_hw254 : k0_chk254 v1976 v1979 v2113), ∀ a x, ((![v2113, v1976, v1979] : Fin 3 → IVec S16 32) a x).toNat < S16x128x16.size a := fun v1976 v1979 v2113 k0_hw254 => k0_hw254

def k0_chk255 (v1985 : IVec S16 32) (v1988 : IVec S16 32) (v2118 : IVec S16 32) : Prop :=
  (∀ a x, ((![v2118, v1985, v1988] : Fin 3 → IVec S16 32) a x).toNat < S16x128x16.size a)
theorem k0_idx255_inb : ∀ (v1985 : IVec S16 32) (v1988 : IVec S16 32) (v2118 : IVec S16 32) (k0_hw255 : k0_chk255 v1985 v1988 v2118), ∀ a x, ((![v2118, v1985, v1988] : Fin 3 → IVec S16 32) a x).toNat < S16x128x16.size a := fun v1985 v1988 v2118 k0_hw255 => k0_hw255

def k0_chk256 (v1994 : IVec S16 32) (v1997 : IVec S16 32) (v2122 : IVec S16 32) : Prop :=
  (∀ a x, ((![v2122, v1994, v1997] : Fin 3 → IVec S16 32) a x).toNat < S16x128x16.size a)
theorem k0_idx256_inb : ∀ (v1994 : IVec S16 32) (v1997 : IVec S16 32) (v2122 : IVec S16 32) (k0_hw256 : k0_chk256 v1994 v1997 v2122), ∀ a x, ((![v2122, v1994, v1997] : Fin 3 → IVec S16 32) a x).toNat < S16x128x16.size a := fun v1994 v1997 v2122 k0_hw256 => k0_hw256

def k0_chk257 (v2003 : IVec S16 32) (v2006 : IVec S16 32) (v2126 : IVec S16 32) : Prop :=
  (∀ a x, ((![v2126, v2003, v2006] : Fin 3 → IVec S16 32) a x).toNat < S16x128x16.size a)
theorem k0_idx257_inb : ∀ (v2003 : IVec S16 32) (v2006 : IVec S16 32) (v2126 : IVec S16 32) (k0_hw257 : k0_chk257 v2003 v2006 v2126), ∀ a x, ((![v2126, v2003, v2006] : Fin 3 → IVec S16 32) a x).toNat < S16x128x16.size a := fun v2003 v2006 v2126 k0_hw257 => k0_hw257

def k0_chk258 (v2012 : IVec S16 32) (v2015 : IVec S16 32) (v2131 : IVec S16 32) : Prop :=
  (∀ a x, ((![v2131, v2012, v2015] : Fin 3 → IVec S16 32) a x).toNat < S16x128x16.size a)
theorem k0_idx258_inb : ∀ (v2012 : IVec S16 32) (v2015 : IVec S16 32) (v2131 : IVec S16 32) (k0_hw258 : k0_chk258 v2012 v2015 v2131), ∀ a x, ((![v2131, v2012, v2015] : Fin 3 → IVec S16 32) a x).toNat < S16x128x16.size a := fun v2012 v2015 v2131 k0_hw258 => k0_hw258

def k0_chk259 (v2021 : IVec S16 32) (v2024 : IVec S16 32) (v2135 : IVec S16 32) : Prop :=
  (∀ a x, ((![v2135, v2021, v2024] : Fin 3 → IVec S16 32) a x).toNat < S16x128x16.size a)
theorem k0_idx259_inb : ∀ (v2021 : IVec S16 32) (v2024 : IVec S16 32) (v2135 : IVec S16 32) (k0_hw259 : k0_chk259 v2021 v2024 v2135), ∀ a x, ((![v2135, v2021, v2024] : Fin 3 → IVec S16 32) a x).toNat < S16x128x16.size a := fun v2021 v2024 v2135 k0_hw259 => k0_hw259

def k0_chk260 (v2030 : IVec S16 32) (v2033 : IVec S16 32) (v2139 : IVec S16 32) : Prop :=
  (∀ a x, ((![v2139, v2030, v2033] : Fin 3 → IVec S16 32) a x).toNat < S16x128x16.size a)
theorem k0_idx260_inb : ∀ (v2030 : IVec S16 32) (v2033 : IVec S16 32) (v2139 : IVec S16 32) (k0_hw260 : k0_chk260 v2030 v2033 v2139), ∀ a x, ((![v2139, v2030, v2033] : Fin 3 → IVec S16 32) a x).toNat < S16x128x16.size a := fun v2030 v2033 v2139 k0_hw260 => k0_hw260

def k0_chk261 (v1931 : IVec S16 32) (v1934 : IVec S16 32) (v2145 : IVec S16 32) : Prop :=
  (∀ a x, ((![v2145, v1931, v1934] : Fin 3 → IVec S16 32) a x).toNat < S16x128x16.size a)
theorem k0_idx261_inb : ∀ (v1931 : IVec S16 32) (v1934 : IVec S16 32) (v2145 : IVec S16 32) (k0_hw261 : k0_chk261 v1931 v1934 v2145), ∀ a x, ((![v2145, v1931, v1934] : Fin 3 → IVec S16 32) a x).toNat < S16x128x16.size a := fun v1931 v1934 v2145 k0_hw261 => k0_hw261

def k0_chk262 (v1940 : IVec S16 32) (v1943 : IVec S16 32) (v2149 : IVec S16 32) : Prop :=
  (∀ a x, ((![v2149, v1940, v1943] : Fin 3 → IVec S16 32) a x).toNat < S16x128x16.size a)
theorem k0_idx262_inb : ∀ (v1940 : IVec S16 32) (v1943 : IVec S16 32) (v2149 : IVec S16 32) (k0_hw262 : k0_chk262 v1940 v1943 v2149), ∀ a x, ((![v2149, v1940, v1943] : Fin 3 → IVec S16 32) a x).toNat < S16x128x16.size a := fun v1940 v1943 v2149 k0_hw262 => k0_hw262

def k0_chk263 (v1949 : IVec S16 32) (v1952 : IVec S16 32) (v2153 : IVec S16 32) : Prop :=
  (∀ a x, ((![v2153, v1949, v1952] : Fin 3 → IVec S16 32) a x).toNat < S16x128x16.size a)
theorem k0_idx263_inb : ∀ (v1949 : IVec S16 32) (v1952 : IVec S16 32) (v2153 : IVec S16 32) (k0_hw263 : k0_chk263 v1949 v1952 v2153), ∀ a x, ((![v2153, v1949, v1952] : Fin 3 → IVec S16 32) a x).toNat < S16x128x16.size a := fun v1949 v1952 v2153 k0_hw263 => k0_hw263

def k0_chk264 (v1958 : IVec S16 32) (v1961 : IVec S16 32) (v2158 : IVec S16 32) : Prop :=
  (∀ a x, ((![v2158, v1958, v1961] : Fin 3 → IVec S16 32) a x).toNat < S16x128x16.size a)
theorem k0_idx264_inb : ∀ (v1958 : IVec S16 32) (v1961 : IVec S16 32) (v2158 : IVec S16 32) (k0_hw264 : k0_chk264 v1958 v1961 v2158), ∀ a x, ((![v2158, v1958, v1961] : Fin 3 → IVec S16 32) a x).toNat < S16x128x16.size a := fun v1958 v1961 v2158 k0_hw264 => k0_hw264

def k0_chk265 (v1967 : IVec S16 32) (v1970 : IVec S16 32) (v2162 : IVec S16 32) : Prop :=
  (∀ a x, ((![v2162, v1967, v1970] : Fin 3 → IVec S16 32) a x).toNat < S16x128x16.size a)
theorem k0_idx265_inb : ∀ (v1967 : IVec S16 32) (v1970 : IVec S16 32) (v2162 : IVec S16 32) (k0_hw265 : k0_chk265 v1967 v1970 v2162), ∀ a x, ((![v2162, v1967, v1970] : Fin 3 → IVec S16 32) a x).toNat < S16x128x16.size a := fun v1967 v1970 v2162 k0_hw265 => k0_hw265

def k0_chk266 (v1976 : IVec S16 32) (v1979 : IVec S16 32) (v2166 : IVec S16 32) : Prop :=
  (∀ a x, ((![v2166, v1976, v1979] : Fin 3 → IVec S16 32) a x).toNat < S16x128x16.size a)
theorem k0_idx266_inb : ∀ (v1976 : IVec S16 32) (v1979 : IVec S16 32) (v2166 : IVec S16 32) (k0_hw266 : k0_chk266 v1976 v1979 v2166), ∀ a x, ((![v2166, v1976, v1979] : Fin 3 → IVec S16 32) a x).toNat < S16x128x16.size a := fun v1976 v1979 v2166 k0_hw266 => k0_hw266

def k0_chk267 (v1985 : IVec S16 32) (v1988 : IVec S16 32) (v2171 : IVec S16 32) : Prop :=
  (∀ a x, ((![v2171, v1985, v1988] : Fin 3 → IVec S16 32) a x).toNat < S16x128x16.size a)
theorem k0_idx267_inb : ∀ (v1985 : IVec S16 32) (v1988 : IVec S16 32) (v2171 : IVec S16 32) (k0_hw267 : k0_chk267 v1985 v1988 v2171), ∀ a x, ((![v2171, v1985, v1988] : Fin 3 → IVec S16 32) a x).toNat < S16x128x16.size a := fun v1985 v1988 v2171 k0_hw267 => k0_hw267

def k0_chk268 (v1994 : IVec S16 32) (v1997 : IVec S16 32) (v2175 : IVec S16 32) : Prop :=
  (∀ a x, ((![v2175, v1994, v1997] : Fin 3 → IVec S16 32) a x).toNat < S16x128x16.size a)
theorem k0_idx268_inb : ∀ (v1994 : IVec S16 32) (v1997 : IVec S16 32) (v2175 : IVec S16 32) (k0_hw268 : k0_chk268 v1994 v1997 v2175), ∀ a x, ((![v2175, v1994, v1997] : Fin 3 → IVec S16 32) a x).toNat < S16x128x16.size a := fun v1994 v1997 v2175 k0_hw268 => k0_hw268

def k0_chk269 (v2003 : IVec S16 32) (v2006 : IVec S16 32) (v2179 : IVec S16 32) : Prop :=
  (∀ a x, ((![v2179, v2003, v2006] : Fin 3 → IVec S16 32) a x).toNat < S16x128x16.size a)
theorem k0_idx269_inb : ∀ (v2003 : IVec S16 32) (v2006 : IVec S16 32) (v2179 : IVec S16 32) (k0_hw269 : k0_chk269 v2003 v2006 v2179), ∀ a x, ((![v2179, v2003, v2006] : Fin 3 → IVec S16 32) a x).toNat < S16x128x16.size a := fun v2003 v2006 v2179 k0_hw269 => k0_hw269

def k0_chk270 (v2012 : IVec S16 32) (v2015 : IVec S16 32) (v2184 : IVec S16 32) : Prop :=
  (∀ a x, ((![v2184, v2012, v2015] : Fin 3 → IVec S16 32) a x).toNat < S16x128x16.size a)
theorem k0_idx270_inb : ∀ (v2012 : IVec S16 32) (v2015 : IVec S16 32) (v2184 : IVec S16 32) (k0_hw270 : k0_chk270 v2012 v2015 v2184), ∀ a x, ((![v2184, v2012, v2015] : Fin 3 → IVec S16 32) a x).toNat < S16x128x16.size a := fun v2012 v2015 v2184 k0_hw270 => k0_hw270

def k0_chk271 (v2021 : IVec S16 32) (v2024 : IVec S16 32) (v2188 : IVec S16 32) : Prop :=
  (∀ a x, ((![v2188, v2021, v2024] : Fin 3 → IVec S16 32) a x).toNat < S16x128x16.size a)
theorem k0_idx271_inb : ∀ (v2021 : IVec S16 32) (v2024 : IVec S16 32) (v2188 : IVec S16 32) (k0_hw271 : k0_chk271 v2021 v2024 v2188), ∀ a x, ((![v2188, v2021, v2024] : Fin 3 → IVec S16 32) a x).toNat < S16x128x16.size a := fun v2021 v2024 v2188 k0_hw271 => k0_hw271

def k0_chk272 (v2030 : IVec S16 32) (v2033 : IVec S16 32) (v2192 : IVec S16 32) : Prop :=
  (∀ a x, ((![v2192, v2030, v2033] : Fin 3 → IVec S16 32) a x).toNat < S16x128x16.size a)
theorem k0_idx272_inb : ∀ (v2030 : IVec S16 32) (v2033 : IVec S16 32) (v2192 : IVec S16 32) (k0_hw272 : k0_chk272 v2030 v2033 v2192), ∀ a x, ((![v2192, v2030, v2033] : Fin 3 → IVec S16 32) a x).toNat < S16x128x16.size a := fun v2030 v2033 v2192 k0_hw272 => k0_hw272

def k0_chk273 (v1931 : IVec S16 32) (v1934 : IVec S16 32) (v2198 : IVec S16 32) : Prop :=
  (∀ a x, ((![v2198, v1931, v1934] : Fin 3 → IVec S16 32) a x).toNat < S16x128x16.size a)
theorem k0_idx273_inb : ∀ (v1931 : IVec S16 32) (v1934 : IVec S16 32) (v2198 : IVec S16 32) (k0_hw273 : k0_chk273 v1931 v1934 v2198), ∀ a x, ((![v2198, v1931, v1934] : Fin 3 → IVec S16 32) a x).toNat < S16x128x16.size a := fun v1931 v1934 v2198 k0_hw273 => k0_hw273

def k0_chk274 (v1940 : IVec S16 32) (v1943 : IVec S16 32) (v2202 : IVec S16 32) : Prop :=
  (∀ a x, ((![v2202, v1940, v1943] : Fin 3 → IVec S16 32) a x).toNat < S16x128x16.size a)
theorem k0_idx274_inb : ∀ (v1940 : IVec S16 32) (v1943 : IVec S16 32) (v2202 : IVec S16 32) (k0_hw274 : k0_chk274 v1940 v1943 v2202), ∀ a x, ((![v2202, v1940, v1943] : Fin 3 → IVec S16 32) a x).toNat < S16x128x16.size a := fun v1940 v1943 v2202 k0_hw274 => k0_hw274

def k0_chk275 (v1949 : IVec S16 32) (v1952 : IVec S16 32) (v2206 : IVec S16 32) : Prop :=
  (∀ a x, ((![v2206, v1949, v1952] : Fin 3 → IVec S16 32) a x).toNat < S16x128x16.size a)
theorem k0_idx275_inb : ∀ (v1949 : IVec S16 32) (v1952 : IVec S16 32) (v2206 : IVec S16 32) (k0_hw275 : k0_chk275 v1949 v1952 v2206), ∀ a x, ((![v2206, v1949, v1952] : Fin 3 → IVec S16 32) a x).toNat < S16x128x16.size a := fun v1949 v1952 v2206 k0_hw275 => k0_hw275

def k0_chk276 (v1958 : IVec S16 32) (v1961 : IVec S16 32) (v2211 : IVec S16 32) : Prop :=
  (∀ a x, ((![v2211, v1958, v1961] : Fin 3 → IVec S16 32) a x).toNat < S16x128x16.size a)
theorem k0_idx276_inb : ∀ (v1958 : IVec S16 32) (v1961 : IVec S16 32) (v2211 : IVec S16 32) (k0_hw276 : k0_chk276 v1958 v1961 v2211), ∀ a x, ((![v2211, v1958, v1961] : Fin 3 → IVec S16 32) a x).toNat < S16x128x16.size a := fun v1958 v1961 v2211 k0_hw276 => k0_hw276

def k0_chk277 (v1967 : IVec S16 32) (v1970 : IVec S16 32) (v2215 : IVec S16 32) : Prop :=
  (∀ a x, ((![v2215, v1967, v1970] : Fin 3 → IVec S16 32) a x).toNat < S16x128x16.size a)
theorem k0_idx277_inb : ∀ (v1967 : IVec S16 32) (v1970 : IVec S16 32) (v2215 : IVec S16 32) (k0_hw277 : k0_chk277 v1967 v1970 v2215), ∀ a x, ((![v2215, v1967, v1970] : Fin 3 → IVec S16 32) a x).toNat < S16x128x16.size a := fun v1967 v1970 v2215 k0_hw277 => k0_hw277

def k0_chk278 (v1976 : IVec S16 32) (v1979 : IVec S16 32) (v2219 : IVec S16 32) : Prop :=
  (∀ a x, ((![v2219, v1976, v1979] : Fin 3 → IVec S16 32) a x).toNat < S16x128x16.size a)
theorem k0_idx278_inb : ∀ (v1976 : IVec S16 32) (v1979 : IVec S16 32) (v2219 : IVec S16 32) (k0_hw278 : k0_chk278 v1976 v1979 v2219), ∀ a x, ((![v2219, v1976, v1979] : Fin 3 → IVec S16 32) a x).toNat < S16x128x16.size a := fun v1976 v1979 v2219 k0_hw278 => k0_hw278

def k0_chk279 (v1985 : IVec S16 32) (v1988 : IVec S16 32) (v2224 : IVec S16 32) : Prop :=
  (∀ a x, ((![v2224, v1985, v1988] : Fin 3 → IVec S16 32) a x).toNat < S16x128x16.size a)
theorem k0_idx279_inb : ∀ (v1985 : IVec S16 32) (v1988 : IVec S16 32) (v2224 : IVec S16 32) (k0_hw279 : k0_chk279 v1985 v1988 v2224), ∀ a x, ((![v2224, v1985, v1988] : Fin 3 → IVec S16 32) a x).toNat < S16x128x16.size a := fun v1985 v1988 v2224 k0_hw279 => k0_hw279

def k0_chk280 (v1994 : IVec S16 32) (v1997 : IVec S16 32) (v2228 : IVec S16 32) : Prop :=
  (∀ a x, ((![v2228, v1994, v1997] : Fin 3 → IVec S16 32) a x).toNat < S16x128x16.size a)
theorem k0_idx280_inb : ∀ (v1994 : IVec S16 32) (v1997 : IVec S16 32) (v2228 : IVec S16 32) (k0_hw280 : k0_chk280 v1994 v1997 v2228), ∀ a x, ((![v2228, v1994, v1997] : Fin 3 → IVec S16 32) a x).toNat < S16x128x16.size a := fun v1994 v1997 v2228 k0_hw280 => k0_hw280

def k0_chk281 (v2003 : IVec S16 32) (v2006 : IVec S16 32) (v2232 : IVec S16 32) : Prop :=
  (∀ a x, ((![v2232, v2003, v2006] : Fin 3 → IVec S16 32) a x).toNat < S16x128x16.size a)
theorem k0_idx281_inb : ∀ (v2003 : IVec S16 32) (v2006 : IVec S16 32) (v2232 : IVec S16 32) (k0_hw281 : k0_chk281 v2003 v2006 v2232), ∀ a x, ((![v2232, v2003, v2006] : Fin 3 → IVec S16 32) a x).toNat < S16x128x16.size a := fun v2003 v2006 v2232 k0_hw281 => k0_hw281

def k0_chk282 (v2012 : IVec S16 32) (v2015 : IVec S16 32) (v2237 : IVec S16 32) : Prop :=
  (∀ a x, ((![v2237, v2012, v2015] : Fin 3 → IVec S16 32) a x).toNat < S16x128x16.size a)
theorem k0_idx282_inb : ∀ (v2012 : IVec S16 32) (v2015 : IVec S16 32) (v2237 : IVec S16 32) (k0_hw282 : k0_chk282 v2012 v2015 v2237), ∀ a x, ((![v2237, v2012, v2015] : Fin 3 → IVec S16 32) a x).toNat < S16x128x16.size a := fun v2012 v2015 v2237 k0_hw282 => k0_hw282

def k0_chk283 (v2021 : IVec S16 32) (v2024 : IVec S16 32) (v2241 : IVec S16 32) : Prop :=
  (∀ a x, ((![v2241, v2021, v2024] : Fin 3 → IVec S16 32) a x).toNat < S16x128x16.size a)
theorem k0_idx283_inb : ∀ (v2021 : IVec S16 32) (v2024 : IVec S16 32) (v2241 : IVec S16 32) (k0_hw283 : k0_chk283 v2021 v2024 v2241), ∀ a x, ((![v2241, v2021, v2024] : Fin 3 → IVec S16 32) a x).toNat < S16x128x16.size a := fun v2021 v2024 v2241 k0_hw283 => k0_hw283

def k0_chk284 (v2030 : IVec S16 32) (v2033 : IVec S16 32) (v2245 : IVec S16 32) : Prop :=
  (∀ a x, ((![v2245, v2030, v2033] : Fin 3 → IVec S16 32) a x).toNat < S16x128x16.size a)
theorem k0_idx284_inb : ∀ (v2030 : IVec S16 32) (v2033 : IVec S16 32) (v2245 : IVec S16 32) (k0_hw284 : k0_chk284 v2030 v2033 v2245), ∀ a x, ((![v2245, v2030, v2033] : Fin 3 → IVec S16 32) a x).toNat < S16x128x16.size a := fun v2030 v2033 v2245 k0_hw284 => k0_hw284

def k0_chk285 (v1931 : IVec S16 32) (v1934 : IVec S16 32) (v2251 : IVec S16 32) : Prop :=
  (∀ a x, ((![v2251, v1931, v1934] : Fin 3 → IVec S16 32) a x).toNat < S16x128x16.size a)
theorem k0_idx285_inb : ∀ (v1931 : IVec S16 32) (v1934 : IVec S16 32) (v2251 : IVec S16 32) (k0_hw285 : k0_chk285 v1931 v1934 v2251), ∀ a x, ((![v2251, v1931, v1934] : Fin 3 → IVec S16 32) a x).toNat < S16x128x16.size a := fun v1931 v1934 v2251 k0_hw285 => k0_hw285

def k0_chk286 (v1940 : IVec S16 32) (v1943 : IVec S16 32) (v2255 : IVec S16 32) : Prop :=
  (∀ a x, ((![v2255, v1940, v1943] : Fin 3 → IVec S16 32) a x).toNat < S16x128x16.size a)
theorem k0_idx286_inb : ∀ (v1940 : IVec S16 32) (v1943 : IVec S16 32) (v2255 : IVec S16 32) (k0_hw286 : k0_chk286 v1940 v1943 v2255), ∀ a x, ((![v2255, v1940, v1943] : Fin 3 → IVec S16 32) a x).toNat < S16x128x16.size a := fun v1940 v1943 v2255 k0_hw286 => k0_hw286

def k0_chk287 (v1949 : IVec S16 32) (v1952 : IVec S16 32) (v2259 : IVec S16 32) : Prop :=
  (∀ a x, ((![v2259, v1949, v1952] : Fin 3 → IVec S16 32) a x).toNat < S16x128x16.size a)
theorem k0_idx287_inb : ∀ (v1949 : IVec S16 32) (v1952 : IVec S16 32) (v2259 : IVec S16 32) (k0_hw287 : k0_chk287 v1949 v1952 v2259), ∀ a x, ((![v2259, v1949, v1952] : Fin 3 → IVec S16 32) a x).toNat < S16x128x16.size a := fun v1949 v1952 v2259 k0_hw287 => k0_hw287

def k0_chk288 (v1958 : IVec S16 32) (v1961 : IVec S16 32) (v2264 : IVec S16 32) : Prop :=
  (∀ a x, ((![v2264, v1958, v1961] : Fin 3 → IVec S16 32) a x).toNat < S16x128x16.size a)
theorem k0_idx288_inb : ∀ (v1958 : IVec S16 32) (v1961 : IVec S16 32) (v2264 : IVec S16 32) (k0_hw288 : k0_chk288 v1958 v1961 v2264), ∀ a x, ((![v2264, v1958, v1961] : Fin 3 → IVec S16 32) a x).toNat < S16x128x16.size a := fun v1958 v1961 v2264 k0_hw288 => k0_hw288

def k0_chk289 (v1967 : IVec S16 32) (v1970 : IVec S16 32) (v2268 : IVec S16 32) : Prop :=
  (∀ a x, ((![v2268, v1967, v1970] : Fin 3 → IVec S16 32) a x).toNat < S16x128x16.size a)
theorem k0_idx289_inb : ∀ (v1967 : IVec S16 32) (v1970 : IVec S16 32) (v2268 : IVec S16 32) (k0_hw289 : k0_chk289 v1967 v1970 v2268), ∀ a x, ((![v2268, v1967, v1970] : Fin 3 → IVec S16 32) a x).toNat < S16x128x16.size a := fun v1967 v1970 v2268 k0_hw289 => k0_hw289

def k0_chk290 (v1976 : IVec S16 32) (v1979 : IVec S16 32) (v2272 : IVec S16 32) : Prop :=
  (∀ a x, ((![v2272, v1976, v1979] : Fin 3 → IVec S16 32) a x).toNat < S16x128x16.size a)
theorem k0_idx290_inb : ∀ (v1976 : IVec S16 32) (v1979 : IVec S16 32) (v2272 : IVec S16 32) (k0_hw290 : k0_chk290 v1976 v1979 v2272), ∀ a x, ((![v2272, v1976, v1979] : Fin 3 → IVec S16 32) a x).toNat < S16x128x16.size a := fun v1976 v1979 v2272 k0_hw290 => k0_hw290

def k0_chk291 (v1985 : IVec S16 32) (v1988 : IVec S16 32) (v2277 : IVec S16 32) : Prop :=
  (∀ a x, ((![v2277, v1985, v1988] : Fin 3 → IVec S16 32) a x).toNat < S16x128x16.size a)
theorem k0_idx291_inb : ∀ (v1985 : IVec S16 32) (v1988 : IVec S16 32) (v2277 : IVec S16 32) (k0_hw291 : k0_chk291 v1985 v1988 v2277), ∀ a x, ((![v2277, v1985, v1988] : Fin 3 → IVec S16 32) a x).toNat < S16x128x16.size a := fun v1985 v1988 v2277 k0_hw291 => k0_hw291

def k0_chk292 (v1994 : IVec S16 32) (v1997 : IVec S16 32) (v2281 : IVec S16 32) : Prop :=
  (∀ a x, ((![v2281, v1994, v1997] : Fin 3 → IVec S16 32) a x).toNat < S16x128x16.size a)
theorem k0_idx292_inb : ∀ (v1994 : IVec S16 32) (v1997 : IVec S16 32) (v2281 : IVec S16 32) (k0_hw292 : k0_chk292 v1994 v1997 v2281), ∀ a x, ((![v2281, v1994, v1997] : Fin 3 → IVec S16 32) a x).toNat < S16x128x16.size a := fun v1994 v1997 v2281 k0_hw292 => k0_hw292

def k0_chk293 (v2003 : IVec S16 32) (v2006 : IVec S16 32) (v2285 : IVec S16 32) : Prop :=
  (∀ a x, ((![v2285, v2003, v2006] : Fin 3 → IVec S16 32) a x).toNat < S16x128x16.size a)
theorem k0_idx293_inb : ∀ (v2003 : IVec S16 32) (v2006 : IVec S16 32) (v2285 : IVec S16 32) (k0_hw293 : k0_chk293 v2003 v2006 v2285), ∀ a x, ((![v2285, v2003, v2006] : Fin 3 → IVec S16 32) a x).toNat < S16x128x16.size a := fun v2003 v2006 v2285 k0_hw293 => k0_hw293

def k0_chk294 (v2012 : IVec S16 32) (v2015 : IVec S16 32) (v2290 : IVec S16 32) : Prop :=
  (∀ a x, ((![v2290, v2012, v2015] : Fin 3 → IVec S16 32) a x).toNat < S16x128x16.size a)
theorem k0_idx294_inb : ∀ (v2012 : IVec S16 32) (v2015 : IVec S16 32) (v2290 : IVec S16 32) (k0_hw294 : k0_chk294 v2012 v2015 v2290), ∀ a x, ((![v2290, v2012, v2015] : Fin 3 → IVec S16 32) a x).toNat < S16x128x16.size a := fun v2012 v2015 v2290 k0_hw294 => k0_hw294

def k0_chk295 (v2021 : IVec S16 32) (v2024 : IVec S16 32) (v2294 : IVec S16 32) : Prop :=
  (∀ a x, ((![v2294, v2021, v2024] : Fin 3 → IVec S16 32) a x).toNat < S16x128x16.size a)
theorem k0_idx295_inb : ∀ (v2021 : IVec S16 32) (v2024 : IVec S16 32) (v2294 : IVec S16 32) (k0_hw295 : k0_chk295 v2021 v2024 v2294), ∀ a x, ((![v2294, v2021, v2024] : Fin 3 → IVec S16 32) a x).toNat < S16x128x16.size a := fun v2021 v2024 v2294 k0_hw295 => k0_hw295

def k0_chk296 (v2030 : IVec S16 32) (v2033 : IVec S16 32) (v2298 : IVec S16 32) : Prop :=
  (∀ a x, ((![v2298, v2030, v2033] : Fin 3 → IVec S16 32) a x).toNat < S16x128x16.size a)
theorem k0_idx296_inb : ∀ (v2030 : IVec S16 32) (v2033 : IVec S16 32) (v2298 : IVec S16 32) (k0_hw296 : k0_chk296 v2030 v2033 v2298), ∀ a x, ((![v2298, v2030, v2033] : Fin 3 → IVec S16 32) a x).toNat < S16x128x16.size a := fun v2030 v2033 v2298 k0_hw296 => k0_hw296

def k0_chk297 (v1931 : IVec S16 32) (v1934 : IVec S16 32) (v2304 : IVec S16 32) : Prop :=
  (∀ a x, ((![v2304, v1931, v1934] : Fin 3 → IVec S16 32) a x).toNat < S16x128x16.size a)
theorem k0_idx297_inb : ∀ (v1931 : IVec S16 32) (v1934 : IVec S16 32) (v2304 : IVec S16 32) (k0_hw297 : k0_chk297 v1931 v1934 v2304), ∀ a x, ((![v2304, v1931, v1934] : Fin 3 → IVec S16 32) a x).toNat < S16x128x16.size a := fun v1931 v1934 v2304 k0_hw297 => k0_hw297

def k0_chk298 (v1940 : IVec S16 32) (v1943 : IVec S16 32) (v2308 : IVec S16 32) : Prop :=
  (∀ a x, ((![v2308, v1940, v1943] : Fin 3 → IVec S16 32) a x).toNat < S16x128x16.size a)
theorem k0_idx298_inb : ∀ (v1940 : IVec S16 32) (v1943 : IVec S16 32) (v2308 : IVec S16 32) (k0_hw298 : k0_chk298 v1940 v1943 v2308), ∀ a x, ((![v2308, v1940, v1943] : Fin 3 → IVec S16 32) a x).toNat < S16x128x16.size a := fun v1940 v1943 v2308 k0_hw298 => k0_hw298

def k0_chk299 (v1949 : IVec S16 32) (v1952 : IVec S16 32) (v2312 : IVec S16 32) : Prop :=
  (∀ a x, ((![v2312, v1949, v1952] : Fin 3 → IVec S16 32) a x).toNat < S16x128x16.size a)
theorem k0_idx299_inb : ∀ (v1949 : IVec S16 32) (v1952 : IVec S16 32) (v2312 : IVec S16 32) (k0_hw299 : k0_chk299 v1949 v1952 v2312), ∀ a x, ((![v2312, v1949, v1952] : Fin 3 → IVec S16 32) a x).toNat < S16x128x16.size a := fun v1949 v1952 v2312 k0_hw299 => k0_hw299

def k0_chk300 (v1958 : IVec S16 32) (v1961 : IVec S16 32) (v2317 : IVec S16 32) : Prop :=
  (∀ a x, ((![v2317, v1958, v1961] : Fin 3 → IVec S16 32) a x).toNat < S16x128x16.size a)
theorem k0_idx300_inb : ∀ (v1958 : IVec S16 32) (v1961 : IVec S16 32) (v2317 : IVec S16 32) (k0_hw300 : k0_chk300 v1958 v1961 v2317), ∀ a x, ((![v2317, v1958, v1961] : Fin 3 → IVec S16 32) a x).toNat < S16x128x16.size a := fun v1958 v1961 v2317 k0_hw300 => k0_hw300

def k0_chk301 (v1967 : IVec S16 32) (v1970 : IVec S16 32) (v2321 : IVec S16 32) : Prop :=
  (∀ a x, ((![v2321, v1967, v1970] : Fin 3 → IVec S16 32) a x).toNat < S16x128x16.size a)
theorem k0_idx301_inb : ∀ (v1967 : IVec S16 32) (v1970 : IVec S16 32) (v2321 : IVec S16 32) (k0_hw301 : k0_chk301 v1967 v1970 v2321), ∀ a x, ((![v2321, v1967, v1970] : Fin 3 → IVec S16 32) a x).toNat < S16x128x16.size a := fun v1967 v1970 v2321 k0_hw301 => k0_hw301

def k0_chk302 (v1976 : IVec S16 32) (v1979 : IVec S16 32) (v2325 : IVec S16 32) : Prop :=
  (∀ a x, ((![v2325, v1976, v1979] : Fin 3 → IVec S16 32) a x).toNat < S16x128x16.size a)
theorem k0_idx302_inb : ∀ (v1976 : IVec S16 32) (v1979 : IVec S16 32) (v2325 : IVec S16 32) (k0_hw302 : k0_chk302 v1976 v1979 v2325), ∀ a x, ((![v2325, v1976, v1979] : Fin 3 → IVec S16 32) a x).toNat < S16x128x16.size a := fun v1976 v1979 v2325 k0_hw302 => k0_hw302

def k0_chk303 (v1985 : IVec S16 32) (v1988 : IVec S16 32) (v2330 : IVec S16 32) : Prop :=
  (∀ a x, ((![v2330, v1985, v1988] : Fin 3 → IVec S16 32) a x).toNat < S16x128x16.size a)
theorem k0_idx303_inb : ∀ (v1985 : IVec S16 32) (v1988 : IVec S16 32) (v2330 : IVec S16 32) (k0_hw303 : k0_chk303 v1985 v1988 v2330), ∀ a x, ((![v2330, v1985, v1988] : Fin 3 → IVec S16 32) a x).toNat < S16x128x16.size a := fun v1985 v1988 v2330 k0_hw303 => k0_hw303

def k0_chk304 (v1994 : IVec S16 32) (v1997 : IVec S16 32) (v2334 : IVec S16 32) : Prop :=
  (∀ a x, ((![v2334, v1994, v1997] : Fin 3 → IVec S16 32) a x).toNat < S16x128x16.size a)
theorem k0_idx304_inb : ∀ (v1994 : IVec S16 32) (v1997 : IVec S16 32) (v2334 : IVec S16 32) (k0_hw304 : k0_chk304 v1994 v1997 v2334), ∀ a x, ((![v2334, v1994, v1997] : Fin 3 → IVec S16 32) a x).toNat < S16x128x16.size a := fun v1994 v1997 v2334 k0_hw304 => k0_hw304

def k0_chk305 (v2003 : IVec S16 32) (v2006 : IVec S16 32) (v2338 : IVec S16 32) : Prop :=
  (∀ a x, ((![v2338, v2003, v2006] : Fin 3 → IVec S16 32) a x).toNat < S16x128x16.size a)
theorem k0_idx305_inb : ∀ (v2003 : IVec S16 32) (v2006 : IVec S16 32) (v2338 : IVec S16 32) (k0_hw305 : k0_chk305 v2003 v2006 v2338), ∀ a x, ((![v2338, v2003, v2006] : Fin 3 → IVec S16 32) a x).toNat < S16x128x16.size a := fun v2003 v2006 v2338 k0_hw305 => k0_hw305

def k0_chk306 (v2012 : IVec S16 32) (v2015 : IVec S16 32) (v2343 : IVec S16 32) : Prop :=
  (∀ a x, ((![v2343, v2012, v2015] : Fin 3 → IVec S16 32) a x).toNat < S16x128x16.size a)
theorem k0_idx306_inb : ∀ (v2012 : IVec S16 32) (v2015 : IVec S16 32) (v2343 : IVec S16 32) (k0_hw306 : k0_chk306 v2012 v2015 v2343), ∀ a x, ((![v2343, v2012, v2015] : Fin 3 → IVec S16 32) a x).toNat < S16x128x16.size a := fun v2012 v2015 v2343 k0_hw306 => k0_hw306

def k0_chk307 (v2021 : IVec S16 32) (v2024 : IVec S16 32) (v2347 : IVec S16 32) : Prop :=
  (∀ a x, ((![v2347, v2021, v2024] : Fin 3 → IVec S16 32) a x).toNat < S16x128x16.size a)
theorem k0_idx307_inb : ∀ (v2021 : IVec S16 32) (v2024 : IVec S16 32) (v2347 : IVec S16 32) (k0_hw307 : k0_chk307 v2021 v2024 v2347), ∀ a x, ((![v2347, v2021, v2024] : Fin 3 → IVec S16 32) a x).toNat < S16x128x16.size a := fun v2021 v2024 v2347 k0_hw307 => k0_hw307

def k0_chk308 (v2030 : IVec S16 32) (v2033 : IVec S16 32) (v2351 : IVec S16 32) : Prop :=
  (∀ a x, ((![v2351, v2030, v2033] : Fin 3 → IVec S16 32) a x).toNat < S16x128x16.size a)
theorem k0_idx308_inb : ∀ (v2030 : IVec S16 32) (v2033 : IVec S16 32) (v2351 : IVec S16 32) (k0_hw308 : k0_chk308 v2030 v2033 v2351), ∀ a x, ((![v2351, v2030, v2033] : Fin 3 → IVec S16 32) a x).toNat < S16x128x16.size a := fun v2030 v2033 v2351 k0_hw308 => k0_hw308

def k0_chk309 (v1931 : IVec S16 32) (v1934 : IVec S16 32) (v2357 : IVec S16 32) : Prop :=
  (∀ a x, ((![v2357, v1931, v1934] : Fin 3 → IVec S16 32) a x).toNat < S16x128x16.size a)
theorem k0_idx309_inb : ∀ (v1931 : IVec S16 32) (v1934 : IVec S16 32) (v2357 : IVec S16 32) (k0_hw309 : k0_chk309 v1931 v1934 v2357), ∀ a x, ((![v2357, v1931, v1934] : Fin 3 → IVec S16 32) a x).toNat < S16x128x16.size a := fun v1931 v1934 v2357 k0_hw309 => k0_hw309

def k0_chk310 (v1940 : IVec S16 32) (v1943 : IVec S16 32) (v2361 : IVec S16 32) : Prop :=
  (∀ a x, ((![v2361, v1940, v1943] : Fin 3 → IVec S16 32) a x).toNat < S16x128x16.size a)
theorem k0_idx310_inb : ∀ (v1940 : IVec S16 32) (v1943 : IVec S16 32) (v2361 : IVec S16 32) (k0_hw310 : k0_chk310 v1940 v1943 v2361), ∀ a x, ((![v2361, v1940, v1943] : Fin 3 → IVec S16 32) a x).toNat < S16x128x16.size a := fun v1940 v1943 v2361 k0_hw310 => k0_hw310

def k0_chk311 (v1949 : IVec S16 32) (v1952 : IVec S16 32) (v2365 : IVec S16 32) : Prop :=
  (∀ a x, ((![v2365, v1949, v1952] : Fin 3 → IVec S16 32) a x).toNat < S16x128x16.size a)
theorem k0_idx311_inb : ∀ (v1949 : IVec S16 32) (v1952 : IVec S16 32) (v2365 : IVec S16 32) (k0_hw311 : k0_chk311 v1949 v1952 v2365), ∀ a x, ((![v2365, v1949, v1952] : Fin 3 → IVec S16 32) a x).toNat < S16x128x16.size a := fun v1949 v1952 v2365 k0_hw311 => k0_hw311

def k0_chk312 (v1958 : IVec S16 32) (v1961 : IVec S16 32) (v2370 : IVec S16 32) : Prop :=
  (∀ a x, ((![v2370, v1958, v1961] : Fin 3 → IVec S16 32) a x).toNat < S16x128x16.size a)
theorem k0_idx312_inb : ∀ (v1958 : IVec S16 32) (v1961 : IVec S16 32) (v2370 : IVec S16 32) (k0_hw312 : k0_chk312 v1958 v1961 v2370), ∀ a x, ((![v2370, v1958, v1961] : Fin 3 → IVec S16 32) a x).toNat < S16x128x16.size a := fun v1958 v1961 v2370 k0_hw312 => k0_hw312

def k0_chk313 (v1967 : IVec S16 32) (v1970 : IVec S16 32) (v2374 : IVec S16 32) : Prop :=
  (∀ a x, ((![v2374, v1967, v1970] : Fin 3 → IVec S16 32) a x).toNat < S16x128x16.size a)
theorem k0_idx313_inb : ∀ (v1967 : IVec S16 32) (v1970 : IVec S16 32) (v2374 : IVec S16 32) (k0_hw313 : k0_chk313 v1967 v1970 v2374), ∀ a x, ((![v2374, v1967, v1970] : Fin 3 → IVec S16 32) a x).toNat < S16x128x16.size a := fun v1967 v1970 v2374 k0_hw313 => k0_hw313

def k0_chk314 (v1976 : IVec S16 32) (v1979 : IVec S16 32) (v2378 : IVec S16 32) : Prop :=
  (∀ a x, ((![v2378, v1976, v1979] : Fin 3 → IVec S16 32) a x).toNat < S16x128x16.size a)
theorem k0_idx314_inb : ∀ (v1976 : IVec S16 32) (v1979 : IVec S16 32) (v2378 : IVec S16 32) (k0_hw314 : k0_chk314 v1976 v1979 v2378), ∀ a x, ((![v2378, v1976, v1979] : Fin 3 → IVec S16 32) a x).toNat < S16x128x16.size a := fun v1976 v1979 v2378 k0_hw314 => k0_hw314

def k0_chk315 (v1985 : IVec S16 32) (v1988 : IVec S16 32) (v2383 : IVec S16 32) : Prop :=
  (∀ a x, ((![v2383, v1985, v1988] : Fin 3 → IVec S16 32) a x).toNat < S16x128x16.size a)
theorem k0_idx315_inb : ∀ (v1985 : IVec S16 32) (v1988 : IVec S16 32) (v2383 : IVec S16 32) (k0_hw315 : k0_chk315 v1985 v1988 v2383), ∀ a x, ((![v2383, v1985, v1988] : Fin 3 → IVec S16 32) a x).toNat < S16x128x16.size a := fun v1985 v1988 v2383 k0_hw315 => k0_hw315

def k0_chk316 (v1994 : IVec S16 32) (v1997 : IVec S16 32) (v2387 : IVec S16 32) : Prop :=
  (∀ a x, ((![v2387, v1994, v1997] : Fin 3 → IVec S16 32) a x).toNat < S16x128x16.size a)
theorem k0_idx316_inb : ∀ (v1994 : IVec S16 32) (v1997 : IVec S16 32) (v2387 : IVec S16 32) (k0_hw316 : k0_chk316 v1994 v1997 v2387), ∀ a x, ((![v2387, v1994, v1997] : Fin 3 → IVec S16 32) a x).toNat < S16x128x16.size a := fun v1994 v1997 v2387 k0_hw316 => k0_hw316

def k0_chk317 (v2003 : IVec S16 32) (v2006 : IVec S16 32) (v2391 : IVec S16 32) : Prop :=
  (∀ a x, ((![v2391, v2003, v2006] : Fin 3 → IVec S16 32) a x).toNat < S16x128x16.size a)
theorem k0_idx317_inb : ∀ (v2003 : IVec S16 32) (v2006 : IVec S16 32) (v2391 : IVec S16 32) (k0_hw317 : k0_chk317 v2003 v2006 v2391), ∀ a x, ((![v2391, v2003, v2006] : Fin 3 → IVec S16 32) a x).toNat < S16x128x16.size a := fun v2003 v2006 v2391 k0_hw317 => k0_hw317

def k0_chk318 (v2012 : IVec S16 32) (v2015 : IVec S16 32) (v2396 : IVec S16 32) : Prop :=
  (∀ a x, ((![v2396, v2012, v2015] : Fin 3 → IVec S16 32) a x).toNat < S16x128x16.size a)
theorem k0_idx318_inb : ∀ (v2012 : IVec S16 32) (v2015 : IVec S16 32) (v2396 : IVec S16 32) (k0_hw318 : k0_chk318 v2012 v2015 v2396), ∀ a x, ((![v2396, v2012, v2015] : Fin 3 → IVec S16 32) a x).toNat < S16x128x16.size a := fun v2012 v2015 v2396 k0_hw318 => k0_hw318

def k0_chk319 (v2021 : IVec S16 32) (v2024 : IVec S16 32) (v2400 : IVec S16 32) : Prop :=
  (∀ a x, ((![v2400, v2021, v2024] : Fin 3 → IVec S16 32) a x).toNat < S16x128x16.size a)
theorem k0_idx319_inb : ∀ (v2021 : IVec S16 32) (v2024 : IVec S16 32) (v2400 : IVec S16 32) (k0_hw319 : k0_chk319 v2021 v2024 v2400), ∀ a x, ((![v2400, v2021, v2024] : Fin 3 → IVec S16 32) a x).toNat < S16x128x16.size a := fun v2021 v2024 v2400 k0_hw319 => k0_hw319

def k0_chk320 (v2030 : IVec S16 32) (v2033 : IVec S16 32) (v2404 : IVec S16 32) : Prop :=
  (∀ a x, ((![v2404, v2030, v2033] : Fin 3 → IVec S16 32) a x).toNat < S16x128x16.size a)
theorem k0_idx320_inb : ∀ (v2030 : IVec S16 32) (v2033 : IVec S16 32) (v2404 : IVec S16 32) (k0_hw320 : k0_chk320 v2030 v2033 v2404), ∀ a x, ((![v2404, v2030, v2033] : Fin 3 → IVec S16 32) a x).toNat < S16x128x16.size a := fun v2030 v2033 v2404 k0_hw320 => k0_hw320

def k0_chk321 (v1931 : IVec S16 32) (v1934 : IVec S16 32) (v2410 : IVec S16 32) : Prop :=
  (∀ a x, ((![v2410, v1931, v1934] : Fin 3 → IVec S16 32) a x).toNat < S16x128x16.size a)
theorem k0_idx321_inb : ∀ (v1931 : IVec S16 32) (v1934 : IVec S16 32) (v2410 : IVec S16 32) (k0_hw321 : k0_chk321 v1931 v1934 v2410), ∀ a x, ((![v2410, v1931, v1934] : Fin 3 → IVec S16 32) a x).toNat < S16x128x16.size a := fun v1931 v1934 v2410 k0_hw321 => k0_hw321

def k0_chk322 (v1940 : IVec S16 32) (v1943 : IVec S16 32) (v2414 : IVec S16 32) : Prop :=
  (∀ a x, ((![v2414, v1940, v1943] : Fin 3 → IVec S16 32) a x).toNat < S16x128x16.size a)
theorem k0_idx322_inb : ∀ (v1940 : IVec S16 32) (v1943 : IVec S16 32) (v2414 : IVec S16 32) (k0_hw322 : k0_chk322 v1940 v1943 v2414), ∀ a x, ((![v2414, v1940, v1943] : Fin 3 → IVec S16 32) a x).toNat < S16x128x16.size a := fun v1940 v1943 v2414 k0_hw322 => k0_hw322

def k0_chk323 (v1949 : IVec S16 32) (v1952 : IVec S16 32) (v2418 : IVec S16 32) : Prop :=
  (∀ a x, ((![v2418, v1949, v1952] : Fin 3 → IVec S16 32) a x).toNat < S16x128x16.size a)
theorem k0_idx323_inb : ∀ (v1949 : IVec S16 32) (v1952 : IVec S16 32) (v2418 : IVec S16 32) (k0_hw323 : k0_chk323 v1949 v1952 v2418), ∀ a x, ((![v2418, v1949, v1952] : Fin 3 → IVec S16 32) a x).toNat < S16x128x16.size a := fun v1949 v1952 v2418 k0_hw323 => k0_hw323

def k0_chk324 (v1958 : IVec S16 32) (v1961 : IVec S16 32) (v2423 : IVec S16 32) : Prop :=
  (∀ a x, ((![v2423, v1958, v1961] : Fin 3 → IVec S16 32) a x).toNat < S16x128x16.size a)
theorem k0_idx324_inb : ∀ (v1958 : IVec S16 32) (v1961 : IVec S16 32) (v2423 : IVec S16 32) (k0_hw324 : k0_chk324 v1958 v1961 v2423), ∀ a x, ((![v2423, v1958, v1961] : Fin 3 → IVec S16 32) a x).toNat < S16x128x16.size a := fun v1958 v1961 v2423 k0_hw324 => k0_hw324

def k0_chk325 (v1967 : IVec S16 32) (v1970 : IVec S16 32) (v2427 : IVec S16 32) : Prop :=
  (∀ a x, ((![v2427, v1967, v1970] : Fin 3 → IVec S16 32) a x).toNat < S16x128x16.size a)
theorem k0_idx325_inb : ∀ (v1967 : IVec S16 32) (v1970 : IVec S16 32) (v2427 : IVec S16 32) (k0_hw325 : k0_chk325 v1967 v1970 v2427), ∀ a x, ((![v2427, v1967, v1970] : Fin 3 → IVec S16 32) a x).toNat < S16x128x16.size a := fun v1967 v1970 v2427 k0_hw325 => k0_hw325

def k0_chk326 (v1976 : IVec S16 32) (v1979 : IVec S16 32) (v2431 : IVec S16 32) : Prop :=
  (∀ a x, ((![v2431, v1976, v1979] : Fin 3 → IVec S16 32) a x).toNat < S16x128x16.size a)
theorem k0_idx326_inb : ∀ (v1976 : IVec S16 32) (v1979 : IVec S16 32) (v2431 : IVec S16 32) (k0_hw326 : k0_chk326 v1976 v1979 v2431), ∀ a x, ((![v2431, v1976, v1979] : Fin 3 → IVec S16 32) a x).toNat < S16x128x16.size a := fun v1976 v1979 v2431 k0_hw326 => k0_hw326

def k0_chk327 (v1985 : IVec S16 32) (v1988 : IVec S16 32) (v2436 : IVec S16 32) : Prop :=
  (∀ a x, ((![v2436, v1985, v1988] : Fin 3 → IVec S16 32) a x).toNat < S16x128x16.size a)
theorem k0_idx327_inb : ∀ (v1985 : IVec S16 32) (v1988 : IVec S16 32) (v2436 : IVec S16 32) (k0_hw327 : k0_chk327 v1985 v1988 v2436), ∀ a x, ((![v2436, v1985, v1988] : Fin 3 → IVec S16 32) a x).toNat < S16x128x16.size a := fun v1985 v1988 v2436 k0_hw327 => k0_hw327

def k0_chk328 (v1994 : IVec S16 32) (v1997 : IVec S16 32) (v2440 : IVec S16 32) : Prop :=
  (∀ a x, ((![v2440, v1994, v1997] : Fin 3 → IVec S16 32) a x).toNat < S16x128x16.size a)
theorem k0_idx328_inb : ∀ (v1994 : IVec S16 32) (v1997 : IVec S16 32) (v2440 : IVec S16 32) (k0_hw328 : k0_chk328 v1994 v1997 v2440), ∀ a x, ((![v2440, v1994, v1997] : Fin 3 → IVec S16 32) a x).toNat < S16x128x16.size a := fun v1994 v1997 v2440 k0_hw328 => k0_hw328

def k0_chk329 (v2003 : IVec S16 32) (v2006 : IVec S16 32) (v2444 : IVec S16 32) : Prop :=
  (∀ a x, ((![v2444, v2003, v2006] : Fin 3 → IVec S16 32) a x).toNat < S16x128x16.size a)
theorem k0_idx329_inb : ∀ (v2003 : IVec S16 32) (v2006 : IVec S16 32) (v2444 : IVec S16 32) (k0_hw329 : k0_chk329 v2003 v2006 v2444), ∀ a x, ((![v2444, v2003, v2006] : Fin 3 → IVec S16 32) a x).toNat < S16x128x16.size a := fun v2003 v2006 v2444 k0_hw329 => k0_hw329

def k0_chk330 (v2012 : IVec S16 32) (v2015 : IVec S16 32) (v2449 : IVec S16 32) : Prop :=
  (∀ a x, ((![v2449, v2012, v2015] : Fin 3 → IVec S16 32) a x).toNat < S16x128x16.size a)
theorem k0_idx330_inb : ∀ (v2012 : IVec S16 32) (v2015 : IVec S16 32) (v2449 : IVec S16 32) (k0_hw330 : k0_chk330 v2012 v2015 v2449), ∀ a x, ((![v2449, v2012, v2015] : Fin 3 → IVec S16 32) a x).toNat < S16x128x16.size a := fun v2012 v2015 v2449 k0_hw330 => k0_hw330

def k0_chk331 (v2021 : IVec S16 32) (v2024 : IVec S16 32) (v2453 : IVec S16 32) : Prop :=
  (∀ a x, ((![v2453, v2021, v2024] : Fin 3 → IVec S16 32) a x).toNat < S16x128x16.size a)
theorem k0_idx331_inb : ∀ (v2021 : IVec S16 32) (v2024 : IVec S16 32) (v2453 : IVec S16 32) (k0_hw331 : k0_chk331 v2021 v2024 v2453), ∀ a x, ((![v2453, v2021, v2024] : Fin 3 → IVec S16 32) a x).toNat < S16x128x16.size a := fun v2021 v2024 v2453 k0_hw331 => k0_hw331

def k0_chk332 (v2030 : IVec S16 32) (v2033 : IVec S16 32) (v2457 : IVec S16 32) : Prop :=
  (∀ a x, ((![v2457, v2030, v2033] : Fin 3 → IVec S16 32) a x).toNat < S16x128x16.size a)
theorem k0_idx332_inb : ∀ (v2030 : IVec S16 32) (v2033 : IVec S16 32) (v2457 : IVec S16 32) (k0_hw332 : k0_chk332 v2030 v2033 v2457), ∀ a x, ((![v2457, v2030, v2033] : Fin 3 → IVec S16 32) a x).toNat < S16x128x16.size a := fun v2030 v2033 v2457 k0_hw332 => k0_hw332

def k0_chk333 (v1931 : IVec S16 32) (v1934 : IVec S16 32) (v2463 : IVec S16 32) : Prop :=
  (∀ a x, ((![v2463, v1931, v1934] : Fin 3 → IVec S16 32) a x).toNat < S16x128x16.size a)
theorem k0_idx333_inb : ∀ (v1931 : IVec S16 32) (v1934 : IVec S16 32) (v2463 : IVec S16 32) (k0_hw333 : k0_chk333 v1931 v1934 v2463), ∀ a x, ((![v2463, v1931, v1934] : Fin 3 → IVec S16 32) a x).toNat < S16x128x16.size a := fun v1931 v1934 v2463 k0_hw333 => k0_hw333

def k0_chk334 (v1940 : IVec S16 32) (v1943 : IVec S16 32) (v2467 : IVec S16 32) : Prop :=
  (∀ a x, ((![v2467, v1940, v1943] : Fin 3 → IVec S16 32) a x).toNat < S16x128x16.size a)
theorem k0_idx334_inb : ∀ (v1940 : IVec S16 32) (v1943 : IVec S16 32) (v2467 : IVec S16 32) (k0_hw334 : k0_chk334 v1940 v1943 v2467), ∀ a x, ((![v2467, v1940, v1943] : Fin 3 → IVec S16 32) a x).toNat < S16x128x16.size a := fun v1940 v1943 v2467 k0_hw334 => k0_hw334

def k0_chk335 (v1949 : IVec S16 32) (v1952 : IVec S16 32) (v2471 : IVec S16 32) : Prop :=
  (∀ a x, ((![v2471, v1949, v1952] : Fin 3 → IVec S16 32) a x).toNat < S16x128x16.size a)
theorem k0_idx335_inb : ∀ (v1949 : IVec S16 32) (v1952 : IVec S16 32) (v2471 : IVec S16 32) (k0_hw335 : k0_chk335 v1949 v1952 v2471), ∀ a x, ((![v2471, v1949, v1952] : Fin 3 → IVec S16 32) a x).toNat < S16x128x16.size a := fun v1949 v1952 v2471 k0_hw335 => k0_hw335

def k0_chk336 (v1958 : IVec S16 32) (v1961 : IVec S16 32) (v2476 : IVec S16 32) : Prop :=
  (∀ a x, ((![v2476, v1958, v1961] : Fin 3 → IVec S16 32) a x).toNat < S16x128x16.size a)
theorem k0_idx336_inb : ∀ (v1958 : IVec S16 32) (v1961 : IVec S16 32) (v2476 : IVec S16 32) (k0_hw336 : k0_chk336 v1958 v1961 v2476), ∀ a x, ((![v2476, v1958, v1961] : Fin 3 → IVec S16 32) a x).toNat < S16x128x16.size a := fun v1958 v1961 v2476 k0_hw336 => k0_hw336

def k0_chk337 (v1967 : IVec S16 32) (v1970 : IVec S16 32) (v2480 : IVec S16 32) : Prop :=
  (∀ a x, ((![v2480, v1967, v1970] : Fin 3 → IVec S16 32) a x).toNat < S16x128x16.size a)
theorem k0_idx337_inb : ∀ (v1967 : IVec S16 32) (v1970 : IVec S16 32) (v2480 : IVec S16 32) (k0_hw337 : k0_chk337 v1967 v1970 v2480), ∀ a x, ((![v2480, v1967, v1970] : Fin 3 → IVec S16 32) a x).toNat < S16x128x16.size a := fun v1967 v1970 v2480 k0_hw337 => k0_hw337

def k0_chk338 (v1976 : IVec S16 32) (v1979 : IVec S16 32) (v2484 : IVec S16 32) : Prop :=
  (∀ a x, ((![v2484, v1976, v1979] : Fin 3 → IVec S16 32) a x).toNat < S16x128x16.size a)
theorem k0_idx338_inb : ∀ (v1976 : IVec S16 32) (v1979 : IVec S16 32) (v2484 : IVec S16 32) (k0_hw338 : k0_chk338 v1976 v1979 v2484), ∀ a x, ((![v2484, v1976, v1979] : Fin 3 → IVec S16 32) a x).toNat < S16x128x16.size a := fun v1976 v1979 v2484 k0_hw338 => k0_hw338

def k0_chk339 (v1985 : IVec S16 32) (v1988 : IVec S16 32) (v2489 : IVec S16 32) : Prop :=
  (∀ a x, ((![v2489, v1985, v1988] : Fin 3 → IVec S16 32) a x).toNat < S16x128x16.size a)
theorem k0_idx339_inb : ∀ (v1985 : IVec S16 32) (v1988 : IVec S16 32) (v2489 : IVec S16 32) (k0_hw339 : k0_chk339 v1985 v1988 v2489), ∀ a x, ((![v2489, v1985, v1988] : Fin 3 → IVec S16 32) a x).toNat < S16x128x16.size a := fun v1985 v1988 v2489 k0_hw339 => k0_hw339

def k0_chk340 (v1994 : IVec S16 32) (v1997 : IVec S16 32) (v2493 : IVec S16 32) : Prop :=
  (∀ a x, ((![v2493, v1994, v1997] : Fin 3 → IVec S16 32) a x).toNat < S16x128x16.size a)
theorem k0_idx340_inb : ∀ (v1994 : IVec S16 32) (v1997 : IVec S16 32) (v2493 : IVec S16 32) (k0_hw340 : k0_chk340 v1994 v1997 v2493), ∀ a x, ((![v2493, v1994, v1997] : Fin 3 → IVec S16 32) a x).toNat < S16x128x16.size a := fun v1994 v1997 v2493 k0_hw340 => k0_hw340

def k0_chk341 (v2003 : IVec S16 32) (v2006 : IVec S16 32) (v2497 : IVec S16 32) : Prop :=
  (∀ a x, ((![v2497, v2003, v2006] : Fin 3 → IVec S16 32) a x).toNat < S16x128x16.size a)
theorem k0_idx341_inb : ∀ (v2003 : IVec S16 32) (v2006 : IVec S16 32) (v2497 : IVec S16 32) (k0_hw341 : k0_chk341 v2003 v2006 v2497), ∀ a x, ((![v2497, v2003, v2006] : Fin 3 → IVec S16 32) a x).toNat < S16x128x16.size a := fun v2003 v2006 v2497 k0_hw341 => k0_hw341

def k0_chk342 (v2012 : IVec S16 32) (v2015 : IVec S16 32) (v2502 : IVec S16 32) : Prop :=
  (∀ a x, ((![v2502, v2012, v2015] : Fin 3 → IVec S16 32) a x).toNat < S16x128x16.size a)
theorem k0_idx342_inb : ∀ (v2012 : IVec S16 32) (v2015 : IVec S16 32) (v2502 : IVec S16 32) (k0_hw342 : k0_chk342 v2012 v2015 v2502), ∀ a x, ((![v2502, v2012, v2015] : Fin 3 → IVec S16 32) a x).toNat < S16x128x16.size a := fun v2012 v2015 v2502 k0_hw342 => k0_hw342

def k0_chk343 (v2021 : IVec S16 32) (v2024 : IVec S16 32) (v2506 : IVec S16 32) : Prop :=
  (∀ a x, ((![v2506, v2021, v2024] : Fin 3 → IVec S16 32) a x).toNat < S16x128x16.size a)
theorem k0_idx343_inb : ∀ (v2021 : IVec S16 32) (v2024 : IVec S16 32) (v2506 : IVec S16 32) (k0_hw343 : k0_chk343 v2021 v2024 v2506), ∀ a x, ((![v2506, v2021, v2024] : Fin 3 → IVec S16 32) a x).toNat < S16x128x16.size a := fun v2021 v2024 v2506 k0_hw343 => k0_hw343

def k0_chk344 (v2030 : IVec S16 32) (v2033 : IVec S16 32) (v2510 : IVec S16 32) : Prop :=
  (∀ a x, ((![v2510, v2030, v2033] : Fin 3 → IVec S16 32) a x).toNat < S16x128x16.size a)
theorem k0_idx344_inb : ∀ (v2030 : IVec S16 32) (v2033 : IVec S16 32) (v2510 : IVec S16 32) (k0_hw344 : k0_chk344 v2030 v2033 v2510), ∀ a x, ((![v2510, v2030, v2033] : Fin 3 → IVec S16 32) a x).toNat < S16x128x16.size a := fun v2030 v2033 v2510 k0_hw344 => k0_hw344

def k0_chk345 (v1931 : IVec S16 32) (v1934 : IVec S16 32) (v2516 : IVec S16 32) : Prop :=
  (∀ a x, ((![v2516, v1931, v1934] : Fin 3 → IVec S16 32) a x).toNat < S16x128x16.size a)
theorem k0_idx345_inb : ∀ (v1931 : IVec S16 32) (v1934 : IVec S16 32) (v2516 : IVec S16 32) (k0_hw345 : k0_chk345 v1931 v1934 v2516), ∀ a x, ((![v2516, v1931, v1934] : Fin 3 → IVec S16 32) a x).toNat < S16x128x16.size a := fun v1931 v1934 v2516 k0_hw345 => k0_hw345

def k0_chk346 (v1940 : IVec S16 32) (v1943 : IVec S16 32) (v2520 : IVec S16 32) : Prop :=
  (∀ a x, ((![v2520, v1940, v1943] : Fin 3 → IVec S16 32) a x).toNat < S16x128x16.size a)
theorem k0_idx346_inb : ∀ (v1940 : IVec S16 32) (v1943 : IVec S16 32) (v2520 : IVec S16 32) (k0_hw346 : k0_chk346 v1940 v1943 v2520), ∀ a x, ((![v2520, v1940, v1943] : Fin 3 → IVec S16 32) a x).toNat < S16x128x16.size a := fun v1940 v1943 v2520 k0_hw346 => k0_hw346

def k0_chk347 (v1949 : IVec S16 32) (v1952 : IVec S16 32) (v2524 : IVec S16 32) : Prop :=
  (∀ a x, ((![v2524, v1949, v1952] : Fin 3 → IVec S16 32) a x).toNat < S16x128x16.size a)
theorem k0_idx347_inb : ∀ (v1949 : IVec S16 32) (v1952 : IVec S16 32) (v2524 : IVec S16 32) (k0_hw347 : k0_chk347 v1949 v1952 v2524), ∀ a x, ((![v2524, v1949, v1952] : Fin 3 → IVec S16 32) a x).toNat < S16x128x16.size a := fun v1949 v1952 v2524 k0_hw347 => k0_hw347

def k0_chk348 (v1958 : IVec S16 32) (v1961 : IVec S16 32) (v2529 : IVec S16 32) : Prop :=
  (∀ a x, ((![v2529, v1958, v1961] : Fin 3 → IVec S16 32) a x).toNat < S16x128x16.size a)
theorem k0_idx348_inb : ∀ (v1958 : IVec S16 32) (v1961 : IVec S16 32) (v2529 : IVec S16 32) (k0_hw348 : k0_chk348 v1958 v1961 v2529), ∀ a x, ((![v2529, v1958, v1961] : Fin 3 → IVec S16 32) a x).toNat < S16x128x16.size a := fun v1958 v1961 v2529 k0_hw348 => k0_hw348

def k0_chk349 (v1967 : IVec S16 32) (v1970 : IVec S16 32) (v2533 : IVec S16 32) : Prop :=
  (∀ a x, ((![v2533, v1967, v1970] : Fin 3 → IVec S16 32) a x).toNat < S16x128x16.size a)
theorem k0_idx349_inb : ∀ (v1967 : IVec S16 32) (v1970 : IVec S16 32) (v2533 : IVec S16 32) (k0_hw349 : k0_chk349 v1967 v1970 v2533), ∀ a x, ((![v2533, v1967, v1970] : Fin 3 → IVec S16 32) a x).toNat < S16x128x16.size a := fun v1967 v1970 v2533 k0_hw349 => k0_hw349

def k0_chk350 (v1976 : IVec S16 32) (v1979 : IVec S16 32) (v2537 : IVec S16 32) : Prop :=
  (∀ a x, ((![v2537, v1976, v1979] : Fin 3 → IVec S16 32) a x).toNat < S16x128x16.size a)
theorem k0_idx350_inb : ∀ (v1976 : IVec S16 32) (v1979 : IVec S16 32) (v2537 : IVec S16 32) (k0_hw350 : k0_chk350 v1976 v1979 v2537), ∀ a x, ((![v2537, v1976, v1979] : Fin 3 → IVec S16 32) a x).toNat < S16x128x16.size a := fun v1976 v1979 v2537 k0_hw350 => k0_hw350

def k0_chk351 (v1985 : IVec S16 32) (v1988 : IVec S16 32) (v2542 : IVec S16 32) : Prop :=
  (∀ a x, ((![v2542, v1985, v1988] : Fin 3 → IVec S16 32) a x).toNat < S16x128x16.size a)
theorem k0_idx351_inb : ∀ (v1985 : IVec S16 32) (v1988 : IVec S16 32) (v2542 : IVec S16 32) (k0_hw351 : k0_chk351 v1985 v1988 v2542), ∀ a x, ((![v2542, v1985, v1988] : Fin 3 → IVec S16 32) a x).toNat < S16x128x16.size a := fun v1985 v1988 v2542 k0_hw351 => k0_hw351

def k0_chk352 (v1994 : IVec S16 32) (v1997 : IVec S16 32) (v2546 : IVec S16 32) : Prop :=
  (∀ a x, ((![v2546, v1994, v1997] : Fin 3 → IVec S16 32) a x).toNat < S16x128x16.size a)
theorem k0_idx352_inb : ∀ (v1994 : IVec S16 32) (v1997 : IVec S16 32) (v2546 : IVec S16 32) (k0_hw352 : k0_chk352 v1994 v1997 v2546), ∀ a x, ((![v2546, v1994, v1997] : Fin 3 → IVec S16 32) a x).toNat < S16x128x16.size a := fun v1994 v1997 v2546 k0_hw352 => k0_hw352

def k0_chk353 (v2003 : IVec S16 32) (v2006 : IVec S16 32) (v2550 : IVec S16 32) : Prop :=
  (∀ a x, ((![v2550, v2003, v2006] : Fin 3 → IVec S16 32) a x).toNat < S16x128x16.size a)
theorem k0_idx353_inb : ∀ (v2003 : IVec S16 32) (v2006 : IVec S16 32) (v2550 : IVec S16 32) (k0_hw353 : k0_chk353 v2003 v2006 v2550), ∀ a x, ((![v2550, v2003, v2006] : Fin 3 → IVec S16 32) a x).toNat < S16x128x16.size a := fun v2003 v2006 v2550 k0_hw353 => k0_hw353

def k0_chk354 (v2012 : IVec S16 32) (v2015 : IVec S16 32) (v2555 : IVec S16 32) : Prop :=
  (∀ a x, ((![v2555, v2012, v2015] : Fin 3 → IVec S16 32) a x).toNat < S16x128x16.size a)
theorem k0_idx354_inb : ∀ (v2012 : IVec S16 32) (v2015 : IVec S16 32) (v2555 : IVec S16 32) (k0_hw354 : k0_chk354 v2012 v2015 v2555), ∀ a x, ((![v2555, v2012, v2015] : Fin 3 → IVec S16 32) a x).toNat < S16x128x16.size a := fun v2012 v2015 v2555 k0_hw354 => k0_hw354

def k0_chk355 (v2021 : IVec S16 32) (v2024 : IVec S16 32) (v2559 : IVec S16 32) : Prop :=
  (∀ a x, ((![v2559, v2021, v2024] : Fin 3 → IVec S16 32) a x).toNat < S16x128x16.size a)
theorem k0_idx355_inb : ∀ (v2021 : IVec S16 32) (v2024 : IVec S16 32) (v2559 : IVec S16 32) (k0_hw355 : k0_chk355 v2021 v2024 v2559), ∀ a x, ((![v2559, v2021, v2024] : Fin 3 → IVec S16 32) a x).toNat < S16x128x16.size a := fun v2021 v2024 v2559 k0_hw355 => k0_hw355

def k0_chk356 (v2030 : IVec S16 32) (v2033 : IVec S16 32) (v2563 : IVec S16 32) : Prop :=
  (∀ a x, ((![v2563, v2030, v2033] : Fin 3 → IVec S16 32) a x).toNat < S16x128x16.size a)
theorem k0_idx356_inb : ∀ (v2030 : IVec S16 32) (v2033 : IVec S16 32) (v2563 : IVec S16 32) (k0_hw356 : k0_chk356 v2030 v2033 v2563), ∀ a x, ((![v2563, v2030, v2033] : Fin 3 → IVec S16 32) a x).toNat < S16x128x16.size a := fun v2030 v2033 v2563 k0_hw356 => k0_hw356

def k0_chk357 (v1931 : IVec S16 32) (v1934 : IVec S16 32) (v2569 : IVec S16 32) : Prop :=
  (∀ a x, ((![v2569, v1931, v1934] : Fin 3 → IVec S16 32) a x).toNat < S16x128x16.size a)
theorem k0_idx357_inb : ∀ (v1931 : IVec S16 32) (v1934 : IVec S16 32) (v2569 : IVec S16 32) (k0_hw357 : k0_chk357 v1931 v1934 v2569), ∀ a x, ((![v2569, v1931, v1934] : Fin 3 → IVec S16 32) a x).toNat < S16x128x16.size a := fun v1931 v1934 v2569 k0_hw357 => k0_hw357

def k0_chk358 (v1940 : IVec S16 32) (v1943 : IVec S16 32) (v2573 : IVec S16 32) : Prop :=
  (∀ a x, ((![v2573, v1940, v1943] : Fin 3 → IVec S16 32) a x).toNat < S16x128x16.size a)
theorem k0_idx358_inb : ∀ (v1940 : IVec S16 32) (v1943 : IVec S16 32) (v2573 : IVec S16 32) (k0_hw358 : k0_chk358 v1940 v1943 v2573), ∀ a x, ((![v2573, v1940, v1943] : Fin 3 → IVec S16 32) a x).toNat < S16x128x16.size a := fun v1940 v1943 v2573 k0_hw358 => k0_hw358

def k0_chk359 (v1949 : IVec S16 32) (v1952 : IVec S16 32) (v2577 : IVec S16 32) : Prop :=
  (∀ a x, ((![v2577, v1949, v1952] : Fin 3 → IVec S16 32) a x).toNat < S16x128x16.size a)
theorem k0_idx359_inb : ∀ (v1949 : IVec S16 32) (v1952 : IVec S16 32) (v2577 : IVec S16 32) (k0_hw359 : k0_chk359 v1949 v1952 v2577), ∀ a x, ((![v2577, v1949, v1952] : Fin 3 → IVec S16 32) a x).toNat < S16x128x16.size a := fun v1949 v1952 v2577 k0_hw359 => k0_hw359

def k0_chk360 (v1958 : IVec S16 32) (v1961 : IVec S16 32) (v2582 : IVec S16 32) : Prop :=
  (∀ a x, ((![v2582, v1958, v1961] : Fin 3 → IVec S16 32) a x).toNat < S16x128x16.size a)
theorem k0_idx360_inb : ∀ (v1958 : IVec S16 32) (v1961 : IVec S16 32) (v2582 : IVec S16 32) (k0_hw360 : k0_chk360 v1958 v1961 v2582), ∀ a x, ((![v2582, v1958, v1961] : Fin 3 → IVec S16 32) a x).toNat < S16x128x16.size a := fun v1958 v1961 v2582 k0_hw360 => k0_hw360

def k0_chk361 (v1967 : IVec S16 32) (v1970 : IVec S16 32) (v2586 : IVec S16 32) : Prop :=
  (∀ a x, ((![v2586, v1967, v1970] : Fin 3 → IVec S16 32) a x).toNat < S16x128x16.size a)
theorem k0_idx361_inb : ∀ (v1967 : IVec S16 32) (v1970 : IVec S16 32) (v2586 : IVec S16 32) (k0_hw361 : k0_chk361 v1967 v1970 v2586), ∀ a x, ((![v2586, v1967, v1970] : Fin 3 → IVec S16 32) a x).toNat < S16x128x16.size a := fun v1967 v1970 v2586 k0_hw361 => k0_hw361

def k0_chk362 (v1976 : IVec S16 32) (v1979 : IVec S16 32) (v2590 : IVec S16 32) : Prop :=
  (∀ a x, ((![v2590, v1976, v1979] : Fin 3 → IVec S16 32) a x).toNat < S16x128x16.size a)
theorem k0_idx362_inb : ∀ (v1976 : IVec S16 32) (v1979 : IVec S16 32) (v2590 : IVec S16 32) (k0_hw362 : k0_chk362 v1976 v1979 v2590), ∀ a x, ((![v2590, v1976, v1979] : Fin 3 → IVec S16 32) a x).toNat < S16x128x16.size a := fun v1976 v1979 v2590 k0_hw362 => k0_hw362

def k0_chk363 (v1985 : IVec S16 32) (v1988 : IVec S16 32) (v2595 : IVec S16 32) : Prop :=
  (∀ a x, ((![v2595, v1985, v1988] : Fin 3 → IVec S16 32) a x).toNat < S16x128x16.size a)
theorem k0_idx363_inb : ∀ (v1985 : IVec S16 32) (v1988 : IVec S16 32) (v2595 : IVec S16 32) (k0_hw363 : k0_chk363 v1985 v1988 v2595), ∀ a x, ((![v2595, v1985, v1988] : Fin 3 → IVec S16 32) a x).toNat < S16x128x16.size a := fun v1985 v1988 v2595 k0_hw363 => k0_hw363

def k0_chk364 (v1994 : IVec S16 32) (v1997 : IVec S16 32) (v2599 : IVec S16 32) : Prop :=
  (∀ a x, ((![v2599, v1994, v1997] : Fin 3 → IVec S16 32) a x).toNat < S16x128x16.size a)
theorem k0_idx364_inb : ∀ (v1994 : IVec S16 32) (v1997 : IVec S16 32) (v2599 : IVec S16 32) (k0_hw364 : k0_chk364 v1994 v1997 v2599), ∀ a x, ((![v2599, v1994, v1997] : Fin 3 → IVec S16 32) a x).toNat < S16x128x16.size a := fun v1994 v1997 v2599 k0_hw364 => k0_hw364

def k0_chk365 (v2003 : IVec S16 32) (v2006 : IVec S16 32) (v2603 : IVec S16 32) : Prop :=
  (∀ a x, ((![v2603, v2003, v2006] : Fin 3 → IVec S16 32) a x).toNat < S16x128x16.size a)
theorem k0_idx365_inb : ∀ (v2003 : IVec S16 32) (v2006 : IVec S16 32) (v2603 : IVec S16 32) (k0_hw365 : k0_chk365 v2003 v2006 v2603), ∀ a x, ((![v2603, v2003, v2006] : Fin 3 → IVec S16 32) a x).toNat < S16x128x16.size a := fun v2003 v2006 v2603 k0_hw365 => k0_hw365

def k0_chk366 (v2012 : IVec S16 32) (v2015 : IVec S16 32) (v2608 : IVec S16 32) : Prop :=
  (∀ a x, ((![v2608, v2012, v2015] : Fin 3 → IVec S16 32) a x).toNat < S16x128x16.size a)
theorem k0_idx366_inb : ∀ (v2012 : IVec S16 32) (v2015 : IVec S16 32) (v2608 : IVec S16 32) (k0_hw366 : k0_chk366 v2012 v2015 v2608), ∀ a x, ((![v2608, v2012, v2015] : Fin 3 → IVec S16 32) a x).toNat < S16x128x16.size a := fun v2012 v2015 v2608 k0_hw366 => k0_hw366

def k0_chk367 (v2021 : IVec S16 32) (v2024 : IVec S16 32) (v2612 : IVec S16 32) : Prop :=
  (∀ a x, ((![v2612, v2021, v2024] : Fin 3 → IVec S16 32) a x).toNat < S16x128x16.size a)
theorem k0_idx367_inb : ∀ (v2021 : IVec S16 32) (v2024 : IVec S16 32) (v2612 : IVec S16 32) (k0_hw367 : k0_chk367 v2021 v2024 v2612), ∀ a x, ((![v2612, v2021, v2024] : Fin 3 → IVec S16 32) a x).toNat < S16x128x16.size a := fun v2021 v2024 v2612 k0_hw367 => k0_hw367

def k0_chk368 (v2030 : IVec S16 32) (v2033 : IVec S16 32) (v2616 : IVec S16 32) : Prop :=
  (∀ a x, ((![v2616, v2030, v2033] : Fin 3 → IVec S16 32) a x).toNat < S16x128x16.size a)
theorem k0_idx368_inb : ∀ (v2030 : IVec S16 32) (v2033 : IVec S16 32) (v2616 : IVec S16 32) (k0_hw368 : k0_chk368 v2030 v2033 v2616), ∀ a x, ((![v2616, v2030, v2033] : Fin 3 → IVec S16 32) a x).toNat < S16x128x16.size a := fun v2030 v2033 v2616 k0_hw368 => k0_hw368

def k0_chk369 (v1931 : IVec S16 32) (v1934 : IVec S16 32) (v2622 : IVec S16 32) : Prop :=
  (∀ a x, ((![v2622, v1931, v1934] : Fin 3 → IVec S16 32) a x).toNat < S16x128x16.size a)
theorem k0_idx369_inb : ∀ (v1931 : IVec S16 32) (v1934 : IVec S16 32) (v2622 : IVec S16 32) (k0_hw369 : k0_chk369 v1931 v1934 v2622), ∀ a x, ((![v2622, v1931, v1934] : Fin 3 → IVec S16 32) a x).toNat < S16x128x16.size a := fun v1931 v1934 v2622 k0_hw369 => k0_hw369

def k0_chk370 (v1940 : IVec S16 32) (v1943 : IVec S16 32) (v2626 : IVec S16 32) : Prop :=
  (∀ a x, ((![v2626, v1940, v1943] : Fin 3 → IVec S16 32) a x).toNat < S16x128x16.size a)
theorem k0_idx370_inb : ∀ (v1940 : IVec S16 32) (v1943 : IVec S16 32) (v2626 : IVec S16 32) (k0_hw370 : k0_chk370 v1940 v1943 v2626), ∀ a x, ((![v2626, v1940, v1943] : Fin 3 → IVec S16 32) a x).toNat < S16x128x16.size a := fun v1940 v1943 v2626 k0_hw370 => k0_hw370

def k0_chk371 (v1949 : IVec S16 32) (v1952 : IVec S16 32) (v2630 : IVec S16 32) : Prop :=
  (∀ a x, ((![v2630, v1949, v1952] : Fin 3 → IVec S16 32) a x).toNat < S16x128x16.size a)
theorem k0_idx371_inb : ∀ (v1949 : IVec S16 32) (v1952 : IVec S16 32) (v2630 : IVec S16 32) (k0_hw371 : k0_chk371 v1949 v1952 v2630), ∀ a x, ((![v2630, v1949, v1952] : Fin 3 → IVec S16 32) a x).toNat < S16x128x16.size a := fun v1949 v1952 v2630 k0_hw371 => k0_hw371

def k0_chk372 (v1958 : IVec S16 32) (v1961 : IVec S16 32) (v2635 : IVec S16 32) : Prop :=
  (∀ a x, ((![v2635, v1958, v1961] : Fin 3 → IVec S16 32) a x).toNat < S16x128x16.size a)
theorem k0_idx372_inb : ∀ (v1958 : IVec S16 32) (v1961 : IVec S16 32) (v2635 : IVec S16 32) (k0_hw372 : k0_chk372 v1958 v1961 v2635), ∀ a x, ((![v2635, v1958, v1961] : Fin 3 → IVec S16 32) a x).toNat < S16x128x16.size a := fun v1958 v1961 v2635 k0_hw372 => k0_hw372

def k0_chk373 (v1967 : IVec S16 32) (v1970 : IVec S16 32) (v2639 : IVec S16 32) : Prop :=
  (∀ a x, ((![v2639, v1967, v1970] : Fin 3 → IVec S16 32) a x).toNat < S16x128x16.size a)
theorem k0_idx373_inb : ∀ (v1967 : IVec S16 32) (v1970 : IVec S16 32) (v2639 : IVec S16 32) (k0_hw373 : k0_chk373 v1967 v1970 v2639), ∀ a x, ((![v2639, v1967, v1970] : Fin 3 → IVec S16 32) a x).toNat < S16x128x16.size a := fun v1967 v1970 v2639 k0_hw373 => k0_hw373

def k0_chk374 (v1976 : IVec S16 32) (v1979 : IVec S16 32) (v2643 : IVec S16 32) : Prop :=
  (∀ a x, ((![v2643, v1976, v1979] : Fin 3 → IVec S16 32) a x).toNat < S16x128x16.size a)
theorem k0_idx374_inb : ∀ (v1976 : IVec S16 32) (v1979 : IVec S16 32) (v2643 : IVec S16 32) (k0_hw374 : k0_chk374 v1976 v1979 v2643), ∀ a x, ((![v2643, v1976, v1979] : Fin 3 → IVec S16 32) a x).toNat < S16x128x16.size a := fun v1976 v1979 v2643 k0_hw374 => k0_hw374

def k0_chk375 (v1985 : IVec S16 32) (v1988 : IVec S16 32) (v2648 : IVec S16 32) : Prop :=
  (∀ a x, ((![v2648, v1985, v1988] : Fin 3 → IVec S16 32) a x).toNat < S16x128x16.size a)
theorem k0_idx375_inb : ∀ (v1985 : IVec S16 32) (v1988 : IVec S16 32) (v2648 : IVec S16 32) (k0_hw375 : k0_chk375 v1985 v1988 v2648), ∀ a x, ((![v2648, v1985, v1988] : Fin 3 → IVec S16 32) a x).toNat < S16x128x16.size a := fun v1985 v1988 v2648 k0_hw375 => k0_hw375

def k0_chk376 (v1994 : IVec S16 32) (v1997 : IVec S16 32) (v2652 : IVec S16 32) : Prop :=
  (∀ a x, ((![v2652, v1994, v1997] : Fin 3 → IVec S16 32) a x).toNat < S16x128x16.size a)
theorem k0_idx376_inb : ∀ (v1994 : IVec S16 32) (v1997 : IVec S16 32) (v2652 : IVec S16 32) (k0_hw376 : k0_chk376 v1994 v1997 v2652), ∀ a x, ((![v2652, v1994, v1997] : Fin 3 → IVec S16 32) a x).toNat < S16x128x16.size a := fun v1994 v1997 v2652 k0_hw376 => k0_hw376

def k0_chk377 (v2003 : IVec S16 32) (v2006 : IVec S16 32) (v2656 : IVec S16 32) : Prop :=
  (∀ a x, ((![v2656, v2003, v2006] : Fin 3 → IVec S16 32) a x).toNat < S16x128x16.size a)
theorem k0_idx377_inb : ∀ (v2003 : IVec S16 32) (v2006 : IVec S16 32) (v2656 : IVec S16 32) (k0_hw377 : k0_chk377 v2003 v2006 v2656), ∀ a x, ((![v2656, v2003, v2006] : Fin 3 → IVec S16 32) a x).toNat < S16x128x16.size a := fun v2003 v2006 v2656 k0_hw377 => k0_hw377

def k0_chk378 (v2012 : IVec S16 32) (v2015 : IVec S16 32) (v2661 : IVec S16 32) : Prop :=
  (∀ a x, ((![v2661, v2012, v2015] : Fin 3 → IVec S16 32) a x).toNat < S16x128x16.size a)
theorem k0_idx378_inb : ∀ (v2012 : IVec S16 32) (v2015 : IVec S16 32) (v2661 : IVec S16 32) (k0_hw378 : k0_chk378 v2012 v2015 v2661), ∀ a x, ((![v2661, v2012, v2015] : Fin 3 → IVec S16 32) a x).toNat < S16x128x16.size a := fun v2012 v2015 v2661 k0_hw378 => k0_hw378

def k0_chk379 (v2021 : IVec S16 32) (v2024 : IVec S16 32) (v2665 : IVec S16 32) : Prop :=
  (∀ a x, ((![v2665, v2021, v2024] : Fin 3 → IVec S16 32) a x).toNat < S16x128x16.size a)
theorem k0_idx379_inb : ∀ (v2021 : IVec S16 32) (v2024 : IVec S16 32) (v2665 : IVec S16 32) (k0_hw379 : k0_chk379 v2021 v2024 v2665), ∀ a x, ((![v2665, v2021, v2024] : Fin 3 → IVec S16 32) a x).toNat < S16x128x16.size a := fun v2021 v2024 v2665 k0_hw379 => k0_hw379

def k0_chk380 (v2030 : IVec S16 32) (v2033 : IVec S16 32) (v2669 : IVec S16 32) : Prop :=
  (∀ a x, ((![v2669, v2030, v2033] : Fin 3 → IVec S16 32) a x).toNat < S16x128x16.size a)
theorem k0_idx380_inb : ∀ (v2030 : IVec S16 32) (v2033 : IVec S16 32) (v2669 : IVec S16 32) (k0_hw380 : k0_chk380 v2030 v2033 v2669), ∀ a x, ((![v2669, v2030, v2033] : Fin 3 → IVec S16 32) a x).toNat < S16x128x16.size a := fun v2030 v2033 v2669 k0_hw380 => k0_hw380

def k0_chk381 (v1931 : IVec S16 32) (v1934 : IVec S16 32) (v2675 : IVec S16 32) : Prop :=
  (∀ a x, ((![v2675, v1931, v1934] : Fin 3 → IVec S16 32) a x).toNat < S16x128x16.size a)
theorem k0_idx381_inb : ∀ (v1931 : IVec S16 32) (v1934 : IVec S16 32) (v2675 : IVec S16 32) (k0_hw381 : k0_chk381 v1931 v1934 v2675), ∀ a x, ((![v2675, v1931, v1934] : Fin 3 → IVec S16 32) a x).toNat < S16x128x16.size a := fun v1931 v1934 v2675 k0_hw381 => k0_hw381

def k0_chk382 (v1940 : IVec S16 32) (v1943 : IVec S16 32) (v2679 : IVec S16 32) : Prop :=
  (∀ a x, ((![v2679, v1940, v1943] : Fin 3 → IVec S16 32) a x).toNat < S16x128x16.size a)
theorem k0_idx382_inb : ∀ (v1940 : IVec S16 32) (v1943 : IVec S16 32) (v2679 : IVec S16 32) (k0_hw382 : k0_chk382 v1940 v1943 v2679), ∀ a x, ((![v2679, v1940, v1943] : Fin 3 → IVec S16 32) a x).toNat < S16x128x16.size a := fun v1940 v1943 v2679 k0_hw382 => k0_hw382

def k0_chk383 (v1949 : IVec S16 32) (v1952 : IVec S16 32) (v2683 : IVec S16 32) : Prop :=
  (∀ a x, ((![v2683, v1949, v1952] : Fin 3 → IVec S16 32) a x).toNat < S16x128x16.size a)
theorem k0_idx383_inb : ∀ (v1949 : IVec S16 32) (v1952 : IVec S16 32) (v2683 : IVec S16 32) (k0_hw383 : k0_chk383 v1949 v1952 v2683), ∀ a x, ((![v2683, v1949, v1952] : Fin 3 → IVec S16 32) a x).toNat < S16x128x16.size a := fun v1949 v1952 v2683 k0_hw383 => k0_hw383

def k0_chk384 (v1958 : IVec S16 32) (v1961 : IVec S16 32) (v2688 : IVec S16 32) : Prop :=
  (∀ a x, ((![v2688, v1958, v1961] : Fin 3 → IVec S16 32) a x).toNat < S16x128x16.size a)
theorem k0_idx384_inb : ∀ (v1958 : IVec S16 32) (v1961 : IVec S16 32) (v2688 : IVec S16 32) (k0_hw384 : k0_chk384 v1958 v1961 v2688), ∀ a x, ((![v2688, v1958, v1961] : Fin 3 → IVec S16 32) a x).toNat < S16x128x16.size a := fun v1958 v1961 v2688 k0_hw384 => k0_hw384

def k0_chk385 (v1967 : IVec S16 32) (v1970 : IVec S16 32) (v2692 : IVec S16 32) : Prop :=
  (∀ a x, ((![v2692, v1967, v1970] : Fin 3 → IVec S16 32) a x).toNat < S16x128x16.size a)
theorem k0_idx385_inb : ∀ (v1967 : IVec S16 32) (v1970 : IVec S16 32) (v2692 : IVec S16 32) (k0_hw385 : k0_chk385 v1967 v1970 v2692), ∀ a x, ((![v2692, v1967, v1970] : Fin 3 → IVec S16 32) a x).toNat < S16x128x16.size a := fun v1967 v1970 v2692 k0_hw385 => k0_hw385

def k0_chk386 (v1976 : IVec S16 32) (v1979 : IVec S16 32) (v2696 : IVec S16 32) : Prop :=
  (∀ a x, ((![v2696, v1976, v1979] : Fin 3 → IVec S16 32) a x).toNat < S16x128x16.size a)
theorem k0_idx386_inb : ∀ (v1976 : IVec S16 32) (v1979 : IVec S16 32) (v2696 : IVec S16 32) (k0_hw386 : k0_chk386 v1976 v1979 v2696), ∀ a x, ((![v2696, v1976, v1979] : Fin 3 → IVec S16 32) a x).toNat < S16x128x16.size a := fun v1976 v1979 v2696 k0_hw386 => k0_hw386

def k0_chk387 (v1985 : IVec S16 32) (v1988 : IVec S16 32) (v2701 : IVec S16 32) : Prop :=
  (∀ a x, ((![v2701, v1985, v1988] : Fin 3 → IVec S16 32) a x).toNat < S16x128x16.size a)
theorem k0_idx387_inb : ∀ (v1985 : IVec S16 32) (v1988 : IVec S16 32) (v2701 : IVec S16 32) (k0_hw387 : k0_chk387 v1985 v1988 v2701), ∀ a x, ((![v2701, v1985, v1988] : Fin 3 → IVec S16 32) a x).toNat < S16x128x16.size a := fun v1985 v1988 v2701 k0_hw387 => k0_hw387

def k0_chk388 (v1994 : IVec S16 32) (v1997 : IVec S16 32) (v2705 : IVec S16 32) : Prop :=
  (∀ a x, ((![v2705, v1994, v1997] : Fin 3 → IVec S16 32) a x).toNat < S16x128x16.size a)
theorem k0_idx388_inb : ∀ (v1994 : IVec S16 32) (v1997 : IVec S16 32) (v2705 : IVec S16 32) (k0_hw388 : k0_chk388 v1994 v1997 v2705), ∀ a x, ((![v2705, v1994, v1997] : Fin 3 → IVec S16 32) a x).toNat < S16x128x16.size a := fun v1994 v1997 v2705 k0_hw388 => k0_hw388

def k0_chk389 (v2003 : IVec S16 32) (v2006 : IVec S16 32) (v2709 : IVec S16 32) : Prop :=
  (∀ a x, ((![v2709, v2003, v2006] : Fin 3 → IVec S16 32) a x).toNat < S16x128x16.size a)
theorem k0_idx389_inb : ∀ (v2003 : IVec S16 32) (v2006 : IVec S16 32) (v2709 : IVec S16 32) (k0_hw389 : k0_chk389 v2003 v2006 v2709), ∀ a x, ((![v2709, v2003, v2006] : Fin 3 → IVec S16 32) a x).toNat < S16x128x16.size a := fun v2003 v2006 v2709 k0_hw389 => k0_hw389

def k0_chk390 (v2012 : IVec S16 32) (v2015 : IVec S16 32) (v2714 : IVec S16 32) : Prop :=
  (∀ a x, ((![v2714, v2012, v2015] : Fin 3 → IVec S16 32) a x).toNat < S16x128x16.size a)
theorem k0_idx390_inb : ∀ (v2012 : IVec S16 32) (v2015 : IVec S16 32) (v2714 : IVec S16 32) (k0_hw390 : k0_chk390 v2012 v2015 v2714), ∀ a x, ((![v2714, v2012, v2015] : Fin 3 → IVec S16 32) a x).toNat < S16x128x16.size a := fun v2012 v2015 v2714 k0_hw390 => k0_hw390

def k0_chk391 (v2021 : IVec S16 32) (v2024 : IVec S16 32) (v2718 : IVec S16 32) : Prop :=
  (∀ a x, ((![v2718, v2021, v2024] : Fin 3 → IVec S16 32) a x).toNat < S16x128x16.size a)
theorem k0_idx391_inb : ∀ (v2021 : IVec S16 32) (v2024 : IVec S16 32) (v2718 : IVec S16 32) (k0_hw391 : k0_chk391 v2021 v2024 v2718), ∀ a x, ((![v2718, v2021, v2024] : Fin 3 → IVec S16 32) a x).toNat < S16x128x16.size a := fun v2021 v2024 v2718 k0_hw391 => k0_hw391

def k0_chk392 (v2030 : IVec S16 32) (v2033 : IVec S16 32) (v2722 : IVec S16 32) : Prop :=
  (∀ a x, ((![v2722, v2030, v2033] : Fin 3 → IVec S16 32) a x).toNat < S16x128x16.size a)
theorem k0_idx392_inb : ∀ (v2030 : IVec S16 32) (v2033 : IVec S16 32) (v2722 : IVec S16 32) (k0_hw392 : k0_chk392 v2030 v2033 v2722), ∀ a x, ((![v2722, v2030, v2033] : Fin 3 → IVec S16 32) a x).toNat < S16x128x16.size a := fun v2030 v2033 v2722 k0_hw392 => k0_hw392

def k0_chk393 (v1931 : IVec S16 32) (v1934 : IVec S16 32) (v2728 : IVec S16 32) : Prop :=
  (∀ a x, ((![v2728, v1931, v1934] : Fin 3 → IVec S16 32) a x).toNat < S16x128x16.size a)
theorem k0_idx393_inb : ∀ (v1931 : IVec S16 32) (v1934 : IVec S16 32) (v2728 : IVec S16 32) (k0_hw393 : k0_chk393 v1931 v1934 v2728), ∀ a x, ((![v2728, v1931, v1934] : Fin 3 → IVec S16 32) a x).toNat < S16x128x16.size a := fun v1931 v1934 v2728 k0_hw393 => k0_hw393

def k0_chk394 (v1940 : IVec S16 32) (v1943 : IVec S16 32) (v2732 : IVec S16 32) : Prop :=
  (∀ a x, ((![v2732, v1940, v1943] : Fin 3 → IVec S16 32) a x).toNat < S16x128x16.size a)
theorem k0_idx394_inb : ∀ (v1940 : IVec S16 32) (v1943 : IVec S16 32) (v2732 : IVec S16 32) (k0_hw394 : k0_chk394 v1940 v1943 v2732), ∀ a x, ((![v2732, v1940, v1943] : Fin 3 → IVec S16 32) a x).toNat < S16x128x16.size a := fun v1940 v1943 v2732 k0_hw394 => k0_hw394

def k0_chk395 (v1949 : IVec S16 32) (v1952 : IVec S16 32) (v2736 : IVec S16 32) : Prop :=
  (∀ a x, ((![v2736, v1949, v1952] : Fin 3 → IVec S16 32) a x).toNat < S16x128x16.size a)
theorem k0_idx395_inb : ∀ (v1949 : IVec S16 32) (v1952 : IVec S16 32) (v2736 : IVec S16 32) (k0_hw395 : k0_chk395 v1949 v1952 v2736), ∀ a x, ((![v2736, v1949, v1952] : Fin 3 → IVec S16 32) a x).toNat < S16x128x16.size a := fun v1949 v1952 v2736 k0_hw395 => k0_hw395

def k0_chk396 (v1958 : IVec S16 32) (v1961 : IVec S16 32) (v2741 : IVec S16 32) : Prop :=
  (∀ a x, ((![v2741, v1958, v1961] : Fin 3 → IVec S16 32) a x).toNat < S16x128x16.size a)
theorem k0_idx396_inb : ∀ (v1958 : IVec S16 32) (v1961 : IVec S16 32) (v2741 : IVec S16 32) (k0_hw396 : k0_chk396 v1958 v1961 v2741), ∀ a x, ((![v2741, v1958, v1961] : Fin 3 → IVec S16 32) a x).toNat < S16x128x16.size a := fun v1958 v1961 v2741 k0_hw396 => k0_hw396

def k0_chk397 (v1967 : IVec S16 32) (v1970 : IVec S16 32) (v2745 : IVec S16 32) : Prop :=
  (∀ a x, ((![v2745, v1967, v1970] : Fin 3 → IVec S16 32) a x).toNat < S16x128x16.size a)
theorem k0_idx397_inb : ∀ (v1967 : IVec S16 32) (v1970 : IVec S16 32) (v2745 : IVec S16 32) (k0_hw397 : k0_chk397 v1967 v1970 v2745), ∀ a x, ((![v2745, v1967, v1970] : Fin 3 → IVec S16 32) a x).toNat < S16x128x16.size a := fun v1967 v1970 v2745 k0_hw397 => k0_hw397

def k0_chk398 (v1976 : IVec S16 32) (v1979 : IVec S16 32) (v2749 : IVec S16 32) : Prop :=
  (∀ a x, ((![v2749, v1976, v1979] : Fin 3 → IVec S16 32) a x).toNat < S16x128x16.size a)
theorem k0_idx398_inb : ∀ (v1976 : IVec S16 32) (v1979 : IVec S16 32) (v2749 : IVec S16 32) (k0_hw398 : k0_chk398 v1976 v1979 v2749), ∀ a x, ((![v2749, v1976, v1979] : Fin 3 → IVec S16 32) a x).toNat < S16x128x16.size a := fun v1976 v1979 v2749 k0_hw398 => k0_hw398

def k0_chk399 (v1985 : IVec S16 32) (v1988 : IVec S16 32) (v2754 : IVec S16 32) : Prop :=
  (∀ a x, ((![v2754, v1985, v1988] : Fin 3 → IVec S16 32) a x).toNat < S16x128x16.size a)
theorem k0_idx399_inb : ∀ (v1985 : IVec S16 32) (v1988 : IVec S16 32) (v2754 : IVec S16 32) (k0_hw399 : k0_chk399 v1985 v1988 v2754), ∀ a x, ((![v2754, v1985, v1988] : Fin 3 → IVec S16 32) a x).toNat < S16x128x16.size a := fun v1985 v1988 v2754 k0_hw399 => k0_hw399

def k0_chk400 (v1994 : IVec S16 32) (v1997 : IVec S16 32) (v2758 : IVec S16 32) : Prop :=
  (∀ a x, ((![v2758, v1994, v1997] : Fin 3 → IVec S16 32) a x).toNat < S16x128x16.size a)
theorem k0_idx400_inb : ∀ (v1994 : IVec S16 32) (v1997 : IVec S16 32) (v2758 : IVec S16 32) (k0_hw400 : k0_chk400 v1994 v1997 v2758), ∀ a x, ((![v2758, v1994, v1997] : Fin 3 → IVec S16 32) a x).toNat < S16x128x16.size a := fun v1994 v1997 v2758 k0_hw400 => k0_hw400

def k0_chk401 (v2003 : IVec S16 32) (v2006 : IVec S16 32) (v2762 : IVec S16 32) : Prop :=
  (∀ a x, ((![v2762, v2003, v2006] : Fin 3 → IVec S16 32) a x).toNat < S16x128x16.size a)
theorem k0_idx401_inb : ∀ (v2003 : IVec S16 32) (v2006 : IVec S16 32) (v2762 : IVec S16 32) (k0_hw401 : k0_chk401 v2003 v2006 v2762), ∀ a x, ((![v2762, v2003, v2006] : Fin 3 → IVec S16 32) a x).toNat < S16x128x16.size a := fun v2003 v2006 v2762 k0_hw401 => k0_hw401

def k0_chk402 (v2012 : IVec S16 32) (v2015 : IVec S16 32) (v2767 : IVec S16 32) : Prop :=
  (∀ a x, ((![v2767, v2012, v2015] : Fin 3 → IVec S16 32) a x).toNat < S16x128x16.size a)
theorem k0_idx402_inb : ∀ (v2012 : IVec S16 32) (v2015 : IVec S16 32) (v2767 : IVec S16 32) (k0_hw402 : k0_chk402 v2012 v2015 v2767), ∀ a x, ((![v2767, v2012, v2015] : Fin 3 → IVec S16 32) a x).toNat < S16x128x16.size a := fun v2012 v2015 v2767 k0_hw402 => k0_hw402

def k0_chk403 (v2021 : IVec S16 32) (v2024 : IVec S16 32) (v2771 : IVec S16 32) : Prop :=
  (∀ a x, ((![v2771, v2021, v2024] : Fin 3 → IVec S16 32) a x).toNat < S16x128x16.size a)
theorem k0_idx403_inb : ∀ (v2021 : IVec S16 32) (v2024 : IVec S16 32) (v2771 : IVec S16 32) (k0_hw403 : k0_chk403 v2021 v2024 v2771), ∀ a x, ((![v2771, v2021, v2024] : Fin 3 → IVec S16 32) a x).toNat < S16x128x16.size a := fun v2021 v2024 v2771 k0_hw403 => k0_hw403

def k0_chk404 (v2030 : IVec S16 32) (v2033 : IVec S16 32) (v2775 : IVec S16 32) : Prop :=
  (∀ a x, ((![v2775, v2030, v2033] : Fin 3 → IVec S16 32) a x).toNat < S16x128x16.size a)
theorem k0_idx404_inb : ∀ (v2030 : IVec S16 32) (v2033 : IVec S16 32) (v2775 : IVec S16 32) (k0_hw404 : k0_chk404 v2030 v2033 v2775), ∀ a x, ((![v2775, v2030, v2033] : Fin 3 → IVec S16 32) a x).toNat < S16x128x16.size a := fun v2030 v2033 v2775 k0_hw404 => k0_hw404

def k0_chk405 (v1931 : IVec S16 32) (v1934 : IVec S16 32) (v2781 : IVec S16 32) : Prop :=
  (∀ a x, ((![v2781, v1931, v1934] : Fin 3 → IVec S16 32) a x).toNat < S16x128x16.size a)
theorem k0_idx405_inb : ∀ (v1931 : IVec S16 32) (v1934 : IVec S16 32) (v2781 : IVec S16 32) (k0_hw405 : k0_chk405 v1931 v1934 v2781), ∀ a x, ((![v2781, v1931, v1934] : Fin 3 → IVec S16 32) a x).toNat < S16x128x16.size a := fun v1931 v1934 v2781 k0_hw405 => k0_hw405

def k0_chk406 (v1940 : IVec S16 32) (v1943 : IVec S16 32) (v2785 : IVec S16 32) : Prop :=
  (∀ a x, ((![v2785, v1940, v1943] : Fin 3 → IVec S16 32) a x).toNat < S16x128x16.size a)
theorem k0_idx406_inb : ∀ (v1940 : IVec S16 32) (v1943 : IVec S16 32) (v2785 : IVec S16 32) (k0_hw406 : k0_chk406 v1940 v1943 v2785), ∀ a x, ((![v2785, v1940, v1943] : Fin 3 → IVec S16 32) a x).toNat < S16x128x16.size a := fun v1940 v1943 v2785 k0_hw406 => k0_hw406

def k0_chk407 (v1949 : IVec S16 32) (v1952 : IVec S16 32) (v2789 : IVec S16 32) : Prop :=
  (∀ a x, ((![v2789, v1949, v1952] : Fin 3 → IVec S16 32) a x).toNat < S16x128x16.size a)
theorem k0_idx407_inb : ∀ (v1949 : IVec S16 32) (v1952 : IVec S16 32) (v2789 : IVec S16 32) (k0_hw407 : k0_chk407 v1949 v1952 v2789), ∀ a x, ((![v2789, v1949, v1952] : Fin 3 → IVec S16 32) a x).toNat < S16x128x16.size a := fun v1949 v1952 v2789 k0_hw407 => k0_hw407

def k0_chk408 (v1958 : IVec S16 32) (v1961 : IVec S16 32) (v2794 : IVec S16 32) : Prop :=
  (∀ a x, ((![v2794, v1958, v1961] : Fin 3 → IVec S16 32) a x).toNat < S16x128x16.size a)
theorem k0_idx408_inb : ∀ (v1958 : IVec S16 32) (v1961 : IVec S16 32) (v2794 : IVec S16 32) (k0_hw408 : k0_chk408 v1958 v1961 v2794), ∀ a x, ((![v2794, v1958, v1961] : Fin 3 → IVec S16 32) a x).toNat < S16x128x16.size a := fun v1958 v1961 v2794 k0_hw408 => k0_hw408

def k0_chk409 (v1967 : IVec S16 32) (v1970 : IVec S16 32) (v2798 : IVec S16 32) : Prop :=
  (∀ a x, ((![v2798, v1967, v1970] : Fin 3 → IVec S16 32) a x).toNat < S16x128x16.size a)
theorem k0_idx409_inb : ∀ (v1967 : IVec S16 32) (v1970 : IVec S16 32) (v2798 : IVec S16 32) (k0_hw409 : k0_chk409 v1967 v1970 v2798), ∀ a x, ((![v2798, v1967, v1970] : Fin 3 → IVec S16 32) a x).toNat < S16x128x16.size a := fun v1967 v1970 v2798 k0_hw409 => k0_hw409

def k0_chk410 (v1976 : IVec S16 32) (v1979 : IVec S16 32) (v2802 : IVec S16 32) : Prop :=
  (∀ a x, ((![v2802, v1976, v1979] : Fin 3 → IVec S16 32) a x).toNat < S16x128x16.size a)
theorem k0_idx410_inb : ∀ (v1976 : IVec S16 32) (v1979 : IVec S16 32) (v2802 : IVec S16 32) (k0_hw410 : k0_chk410 v1976 v1979 v2802), ∀ a x, ((![v2802, v1976, v1979] : Fin 3 → IVec S16 32) a x).toNat < S16x128x16.size a := fun v1976 v1979 v2802 k0_hw410 => k0_hw410

def k0_chk411 (v1985 : IVec S16 32) (v1988 : IVec S16 32) (v2807 : IVec S16 32) : Prop :=
  (∀ a x, ((![v2807, v1985, v1988] : Fin 3 → IVec S16 32) a x).toNat < S16x128x16.size a)
theorem k0_idx411_inb : ∀ (v1985 : IVec S16 32) (v1988 : IVec S16 32) (v2807 : IVec S16 32) (k0_hw411 : k0_chk411 v1985 v1988 v2807), ∀ a x, ((![v2807, v1985, v1988] : Fin 3 → IVec S16 32) a x).toNat < S16x128x16.size a := fun v1985 v1988 v2807 k0_hw411 => k0_hw411

def k0_chk412 (v1994 : IVec S16 32) (v1997 : IVec S16 32) (v2811 : IVec S16 32) : Prop :=
  (∀ a x, ((![v2811, v1994, v1997] : Fin 3 → IVec S16 32) a x).toNat < S16x128x16.size a)
theorem k0_idx412_inb : ∀ (v1994 : IVec S16 32) (v1997 : IVec S16 32) (v2811 : IVec S16 32) (k0_hw412 : k0_chk412 v1994 v1997 v2811), ∀ a x, ((![v2811, v1994, v1997] : Fin 3 → IVec S16 32) a x).toNat < S16x128x16.size a := fun v1994 v1997 v2811 k0_hw412 => k0_hw412

def k0_chk413 (v2003 : IVec S16 32) (v2006 : IVec S16 32) (v2815 : IVec S16 32) : Prop :=
  (∀ a x, ((![v2815, v2003, v2006] : Fin 3 → IVec S16 32) a x).toNat < S16x128x16.size a)
theorem k0_idx413_inb : ∀ (v2003 : IVec S16 32) (v2006 : IVec S16 32) (v2815 : IVec S16 32) (k0_hw413 : k0_chk413 v2003 v2006 v2815), ∀ a x, ((![v2815, v2003, v2006] : Fin 3 → IVec S16 32) a x).toNat < S16x128x16.size a := fun v2003 v2006 v2815 k0_hw413 => k0_hw413

def k0_chk414 (v2012 : IVec S16 32) (v2015 : IVec S16 32) (v2820 : IVec S16 32) : Prop :=
  (∀ a x, ((![v2820, v2012, v2015] : Fin 3 → IVec S16 32) a x).toNat < S16x128x16.size a)
theorem k0_idx414_inb : ∀ (v2012 : IVec S16 32) (v2015 : IVec S16 32) (v2820 : IVec S16 32) (k0_hw414 : k0_chk414 v2012 v2015 v2820), ∀ a x, ((![v2820, v2012, v2015] : Fin 3 → IVec S16 32) a x).toNat < S16x128x16.size a := fun v2012 v2015 v2820 k0_hw414 => k0_hw414

def k0_chk415 (v2021 : IVec S16 32) (v2024 : IVec S16 32) (v2824 : IVec S16 32) : Prop :=
  (∀ a x, ((![v2824, v2021, v2024] : Fin 3 → IVec S16 32) a x).toNat < S16x128x16.size a)
theorem k0_idx415_inb : ∀ (v2021 : IVec S16 32) (v2024 : IVec S16 32) (v2824 : IVec S16 32) (k0_hw415 : k0_chk415 v2021 v2024 v2824), ∀ a x, ((![v2824, v2021, v2024] : Fin 3 → IVec S16 32) a x).toNat < S16x128x16.size a := fun v2021 v2024 v2824 k0_hw415 => k0_hw415

def k0_chk416 (v2030 : IVec S16 32) (v2033 : IVec S16 32) (v2828 : IVec S16 32) : Prop :=
  (∀ a x, ((![v2828, v2030, v2033] : Fin 3 → IVec S16 32) a x).toNat < S16x128x16.size a)
theorem k0_idx416_inb : ∀ (v2030 : IVec S16 32) (v2033 : IVec S16 32) (v2828 : IVec S16 32) (k0_hw416 : k0_chk416 v2030 v2033 v2828), ∀ a x, ((![v2828, v2030, v2033] : Fin 3 → IVec S16 32) a x).toNat < S16x128x16.size a := fun v2030 v2033 v2828 k0_hw416 => k0_hw416

def k0_chk417 (v1931 : IVec S16 32) (v1934 : IVec S16 32) (v2834 : IVec S16 32) : Prop :=
  (∀ a x, ((![v2834, v1931, v1934] : Fin 3 → IVec S16 32) a x).toNat < S16x128x16.size a)
theorem k0_idx417_inb : ∀ (v1931 : IVec S16 32) (v1934 : IVec S16 32) (v2834 : IVec S16 32) (k0_hw417 : k0_chk417 v1931 v1934 v2834), ∀ a x, ((![v2834, v1931, v1934] : Fin 3 → IVec S16 32) a x).toNat < S16x128x16.size a := fun v1931 v1934 v2834 k0_hw417 => k0_hw417

def k0_chk418 (v1940 : IVec S16 32) (v1943 : IVec S16 32) (v2838 : IVec S16 32) : Prop :=
  (∀ a x, ((![v2838, v1940, v1943] : Fin 3 → IVec S16 32) a x).toNat < S16x128x16.size a)
theorem k0_idx418_inb : ∀ (v1940 : IVec S16 32) (v1943 : IVec S16 32) (v2838 : IVec S16 32) (k0_hw418 : k0_chk418 v1940 v1943 v2838), ∀ a x, ((![v2838, v1940, v1943] : Fin 3 → IVec S16 32) a x).toNat < S16x128x16.size a := fun v1940 v1943 v2838 k0_hw418 => k0_hw418

def k0_chk419 (v1949 : IVec S16 32) (v1952 : IVec S16 32) (v2842 : IVec S16 32) : Prop :=
  (∀ a x, ((![v2842, v1949, v1952] : Fin 3 → IVec S16 32) a x).toNat < S16x128x16.size a)
theorem k0_idx419_inb : ∀ (v1949 : IVec S16 32) (v1952 : IVec S16 32) (v2842 : IVec S16 32) (k0_hw419 : k0_chk419 v1949 v1952 v2842), ∀ a x, ((![v2842, v1949, v1952] : Fin 3 → IVec S16 32) a x).toNat < S16x128x16.size a := fun v1949 v1952 v2842 k0_hw419 => k0_hw419

def k0_chk420 (v1958 : IVec S16 32) (v1961 : IVec S16 32) (v2847 : IVec S16 32) : Prop :=
  (∀ a x, ((![v2847, v1958, v1961] : Fin 3 → IVec S16 32) a x).toNat < S16x128x16.size a)
theorem k0_idx420_inb : ∀ (v1958 : IVec S16 32) (v1961 : IVec S16 32) (v2847 : IVec S16 32) (k0_hw420 : k0_chk420 v1958 v1961 v2847), ∀ a x, ((![v2847, v1958, v1961] : Fin 3 → IVec S16 32) a x).toNat < S16x128x16.size a := fun v1958 v1961 v2847 k0_hw420 => k0_hw420

def k0_chk421 (v1967 : IVec S16 32) (v1970 : IVec S16 32) (v2851 : IVec S16 32) : Prop :=
  (∀ a x, ((![v2851, v1967, v1970] : Fin 3 → IVec S16 32) a x).toNat < S16x128x16.size a)
theorem k0_idx421_inb : ∀ (v1967 : IVec S16 32) (v1970 : IVec S16 32) (v2851 : IVec S16 32) (k0_hw421 : k0_chk421 v1967 v1970 v2851), ∀ a x, ((![v2851, v1967, v1970] : Fin 3 → IVec S16 32) a x).toNat < S16x128x16.size a := fun v1967 v1970 v2851 k0_hw421 => k0_hw421

def k0_chk422 (v1976 : IVec S16 32) (v1979 : IVec S16 32) (v2855 : IVec S16 32) : Prop :=
  (∀ a x, ((![v2855, v1976, v1979] : Fin 3 → IVec S16 32) a x).toNat < S16x128x16.size a)
theorem k0_idx422_inb : ∀ (v1976 : IVec S16 32) (v1979 : IVec S16 32) (v2855 : IVec S16 32) (k0_hw422 : k0_chk422 v1976 v1979 v2855), ∀ a x, ((![v2855, v1976, v1979] : Fin 3 → IVec S16 32) a x).toNat < S16x128x16.size a := fun v1976 v1979 v2855 k0_hw422 => k0_hw422

def k0_chk423 (v1985 : IVec S16 32) (v1988 : IVec S16 32) (v2860 : IVec S16 32) : Prop :=
  (∀ a x, ((![v2860, v1985, v1988] : Fin 3 → IVec S16 32) a x).toNat < S16x128x16.size a)
theorem k0_idx423_inb : ∀ (v1985 : IVec S16 32) (v1988 : IVec S16 32) (v2860 : IVec S16 32) (k0_hw423 : k0_chk423 v1985 v1988 v2860), ∀ a x, ((![v2860, v1985, v1988] : Fin 3 → IVec S16 32) a x).toNat < S16x128x16.size a := fun v1985 v1988 v2860 k0_hw423 => k0_hw423

def k0_chk424 (v1994 : IVec S16 32) (v1997 : IVec S16 32) (v2864 : IVec S16 32) : Prop :=
  (∀ a x, ((![v2864, v1994, v1997] : Fin 3 → IVec S16 32) a x).toNat < S16x128x16.size a)
theorem k0_idx424_inb : ∀ (v1994 : IVec S16 32) (v1997 : IVec S16 32) (v2864 : IVec S16 32) (k0_hw424 : k0_chk424 v1994 v1997 v2864), ∀ a x, ((![v2864, v1994, v1997] : Fin 3 → IVec S16 32) a x).toNat < S16x128x16.size a := fun v1994 v1997 v2864 k0_hw424 => k0_hw424

def k0_chk425 (v2003 : IVec S16 32) (v2006 : IVec S16 32) (v2868 : IVec S16 32) : Prop :=
  (∀ a x, ((![v2868, v2003, v2006] : Fin 3 → IVec S16 32) a x).toNat < S16x128x16.size a)
theorem k0_idx425_inb : ∀ (v2003 : IVec S16 32) (v2006 : IVec S16 32) (v2868 : IVec S16 32) (k0_hw425 : k0_chk425 v2003 v2006 v2868), ∀ a x, ((![v2868, v2003, v2006] : Fin 3 → IVec S16 32) a x).toNat < S16x128x16.size a := fun v2003 v2006 v2868 k0_hw425 => k0_hw425

def k0_chk426 (v2012 : IVec S16 32) (v2015 : IVec S16 32) (v2873 : IVec S16 32) : Prop :=
  (∀ a x, ((![v2873, v2012, v2015] : Fin 3 → IVec S16 32) a x).toNat < S16x128x16.size a)
theorem k0_idx426_inb : ∀ (v2012 : IVec S16 32) (v2015 : IVec S16 32) (v2873 : IVec S16 32) (k0_hw426 : k0_chk426 v2012 v2015 v2873), ∀ a x, ((![v2873, v2012, v2015] : Fin 3 → IVec S16 32) a x).toNat < S16x128x16.size a := fun v2012 v2015 v2873 k0_hw426 => k0_hw426

def k0_chk427 (v2021 : IVec S16 32) (v2024 : IVec S16 32) (v2877 : IVec S16 32) : Prop :=
  (∀ a x, ((![v2877, v2021, v2024] : Fin 3 → IVec S16 32) a x).toNat < S16x128x16.size a)
theorem k0_idx427_inb : ∀ (v2021 : IVec S16 32) (v2024 : IVec S16 32) (v2877 : IVec S16 32) (k0_hw427 : k0_chk427 v2021 v2024 v2877), ∀ a x, ((![v2877, v2021, v2024] : Fin 3 → IVec S16 32) a x).toNat < S16x128x16.size a := fun v2021 v2024 v2877 k0_hw427 => k0_hw427

def k0_chk428 (v2030 : IVec S16 32) (v2033 : IVec S16 32) (v2881 : IVec S16 32) : Prop :=
  (∀ a x, ((![v2881, v2030, v2033] : Fin 3 → IVec S16 32) a x).toNat < S16x128x16.size a)
theorem k0_idx428_inb : ∀ (v2030 : IVec S16 32) (v2033 : IVec S16 32) (v2881 : IVec S16 32) (k0_hw428 : k0_chk428 v2030 v2033 v2881), ∀ a x, ((![v2881, v2030, v2033] : Fin 3 → IVec S16 32) a x).toNat < S16x128x16.size a := fun v2030 v2033 v2881 k0_hw428 => k0_hw428

def k0_chk429 (v1898 : IVec S16 32) (v2885 : IVec S16 32) : Prop :=
  (∀ a x, ((![v1898, v2885] : Fin 2 → IVec S16 32) a x).toNat < S64x3.size a)
theorem k0_idx429_inb : ∀ (v1898 : IVec S16 32) (v2885 : IVec S16 32) (k0_hw429 : k0_chk429 v1898 v2885), ∀ a x, ((![v1898, v2885] : Fin 2 → IVec S16 32) a x).toNat < S64x3.size a := fun v1898 v2885 k0_hw429 => k0_hw429

def k0_chk430 (v1898 : IVec S16 32) (v2886 : IVec S16 32) : Prop :=
  (∀ a x, ((![v1898, v2886] : Fin 2 → IVec S16 32) a x).toNat < S64x3.size a)
theorem k0_idx430_inb : ∀ (v1898 : IVec S16 32) (v2886 : IVec S16 32) (k0_hw430 : k0_chk430 v1898 v2886), ∀ a x, ((![v1898, v2886] : Fin 2 → IVec S16 32) a x).toNat < S64x3.size a := fun v1898 v2886 k0_hw430 => k0_hw430

def k0_chk431 (v1898 : IVec S16 32) (v2887 : IVec S16 32) : Prop :=
  (∀ a x, ((![v1898, v2887] : Fin 2 → IVec S16 32) a x).toNat < S64x3.size a)
theorem k0_idx431_inb : ∀ (v1898 : IVec S16 32) (v2887 : IVec S16 32) (k0_hw431 : k0_chk431 v1898 v2887), ∀ a x, ((![v1898, v2887] : Fin 2 → IVec S16 32) a x).toNat < S64x3.size a := fun v1898 v2887 k0_hw431 => k0_hw431

def k0_chk432 (v2922 : IVec S16 32) (v2925 : IVec S16 32) (v3030 : IVec S16 32) : Prop :=
  (∀ a x, ((![v3030, v2922, v2925] : Fin 3 → IVec S16 32) a x).toNat < S16x128x16.size a)
theorem k0_idx432_inb : ∀ (v2922 : IVec S16 32) (v2925 : IVec S16 32) (v3030 : IVec S16 32) (k0_hw432 : k0_chk432 v2922 v2925 v3030), ∀ a x, ((![v3030, v2922, v2925] : Fin 3 → IVec S16 32) a x).toNat < S16x128x16.size a := fun v2922 v2925 v3030 k0_hw432 => k0_hw432

def k0_chk433 (v2931 : IVec S16 32) (v2934 : IVec S16 32) (v3034 : IVec S16 32) : Prop :=
  (∀ a x, ((![v3034, v2931, v2934] : Fin 3 → IVec S16 32) a x).toNat < S16x128x16.size a)
theorem k0_idx433_inb : ∀ (v2931 : IVec S16 32) (v2934 : IVec S16 32) (v3034 : IVec S16 32) (k0_hw433 : k0_chk433 v2931 v2934 v3034), ∀ a x, ((![v3034, v2931, v2934] : Fin 3 → IVec S16 32) a x).toNat < S16x128x16.size a := fun v2931 v2934 v3034 k0_hw433 => k0_hw433

def k0_chk434 (v2940 : IVec S16 32) (v2943 : IVec S16 32) (v3038 : IVec S16 32) : Prop :=
  (∀ a x, ((![v3038, v2940, v2943] : Fin 3 → IVec S16 32) a x).toNat < S16x128x16.size a)
theorem k0_idx434_inb : ∀ (v2940 : IVec S16 32) (v2943 : IVec S16 32) (v3038 : IVec S16 32) (k0_hw434 : k0_chk434 v2940 v2943 v3038), ∀ a x, ((![v3038, v2940, v2943] : Fin 3 → IVec S16 32) a x).toNat < S16x128x16.size a := fun v2940 v2943 v3038 k0_hw434 => k0_hw434

def k0_chk435 (v2949 : IVec S16 32) (v2952 : IVec S16 32) (v3043 : IVec S16 32) : Prop :=
  (∀ a x, ((![v3043, v2949, v2952] : Fin 3 → IVec S16 32) a x).toNat < S16x128x16.size a)
theorem k0_idx435_inb : ∀ (v2949 : IVec S16 32) (v2952 : IVec S16 32) (v3043 : IVec S16 32) (k0_hw435 : k0_chk435 v2949 v2952 v3043), ∀ a x, ((![v3043, v2949, v2952] : Fin 3 → IVec S16 32) a x).toNat < S16x128x16.size a := fun v2949 v2952 v3043 k0_hw435 => k0_hw435

def k0_chk436 (v2958 : IVec S16 32) (v2961 : IVec S16 32) (v3047 : IVec S16 32) : Prop :=
  (∀ a x, ((![v3047, v2958, v2961] : Fin 3 → IVec S16 32) a x).toNat < S16x128x16.size a)
theorem k0_idx436_inb : ∀ (v2958 : IVec S16 32) (v2961 : IVec S16 32) (v3047 : IVec S16 32) (k0_hw436 : k0_chk436 v2958 v2961 v3047), ∀ a x, ((![v3047, v2958, v2961] : Fin 3 → IVec S16 32) a x).toNat < S16x128x16.size a := fun v2958 v2961 v3047 k0_hw436 => k0_hw436

def k0_chk437 (v2967 : IVec S16 32) (v2970 : IVec S16 32) (v3051 : IVec S16 32) : Prop :=
  (∀ a x, ((![v3051, v2967, v2970] : Fin 3 → IVec S16 32) a x).toNat < S16x128x16.size a)
theorem k0_idx437_inb : ∀ (v2967 : IVec S16 32) (v2970 : IVec S16 32) (v3051 : IVec S16 32) (k0_hw437 : k0_chk437 v2967 v2970 v3051), ∀ a x, ((![v3051, v2967, v2970] : Fin 3 → IVec S16 32) a x).toNat < S16x128x16.size a := fun v2967 v2970 v3051 k0_hw437 => k0_hw437

def k0_chk438 (v2976 : IVec S16 32) (v2979 : IVec S16 32) (v3056 : IVec S16 32) : Prop :=
  (∀ a x, ((![v3056, v2976, v2979] : Fin 3 → IVec S16 32) a x).toNat < S16x128x16.size a)
theorem k0_idx438_inb : ∀ (v2976 : IVec S16 32) (v2979 : IVec S16 32) (v3056 : IVec S16 32) (k0_hw438 : k0_chk438 v2976 v2979 v3056), ∀ a x, ((![v3056, v2976, v2979] : Fin 3 → IVec S16 32) a x).toNat < S16x128x16.size a := fun v2976 v2979 v3056 k0_hw438 => k0_hw438

def k0_chk439 (v2985 : IVec S16 32) (v2988 : IVec S16 32) (v3060 : IVec S16 32) : Prop :=
  (∀ a x, ((![v3060, v2985, v2988] : Fin 3 → IVec S16 32) a x).toNat < S16x128x16.size a)
theorem k0_idx439_inb : ∀ (v2985 : IVec S16 32) (v2988 : IVec S16 32) (v3060 : IVec S16 32) (k0_hw439 : k0_chk439 v2985 v2988 v3060), ∀ a x, ((![v3060, v2985, v2988] : Fin 3 → IVec S16 32) a x).toNat < S16x128x16.size a := fun v2985 v2988 v3060 k0_hw439 => k0_hw439

def k0_chk440 (v2994 : IVec S16 32) (v2997 : IVec S16 32) (v3064 : IVec S16 32) : Prop :=
  (∀ a x, ((![v3064, v2994, v2997] : Fin 3 → IVec S16 32) a x).toNat < S16x128x16.size a)
theorem k0_idx440_inb : ∀ (v2994 : IVec S16 32) (v2997 : IVec S16 32) (v3064 : IVec S16 32) (k0_hw440 : k0_chk440 v2994 v2997 v3064), ∀ a x, ((![v3064, v2994, v2997] : Fin 3 → IVec S16 32) a x).toNat < S16x128x16.size a := fun v2994 v2997 v3064 k0_hw440 => k0_hw440

def k0_chk441 (v3003 : IVec S16 32) (v3006 : IVec S16 32) (v3069 : IVec S16 32) : Prop :=
  (∀ a x, ((![v3069, v3003, v3006] : Fin 3 → IVec S16 32) a x).toNat < S16x128x16.size a)
theorem k0_idx441_inb : ∀ (v3003 : IVec S16 32) (v3006 : IVec S16 32) (v3069 : IVec S16 32) (k0_hw441 : k0_chk441 v3003 v3006 v3069), ∀ a x, ((![v3069, v3003, v3006] : Fin 3 → IVec S16 32) a x).toNat < S16x128x16.size a := fun v3003 v3006 v3069 k0_hw441 => k0_hw441

def k0_chk442 (v3012 : IVec S16 32) (v3015 : IVec S16 32) (v3073 : IVec S16 32) : Prop :=
  (∀ a x, ((![v3073, v3012, v3015] : Fin 3 → IVec S16 32) a x).toNat < S16x128x16.size a)
theorem k0_idx442_inb : ∀ (v3012 : IVec S16 32) (v3015 : IVec S16 32) (v3073 : IVec S16 32) (k0_hw442 : k0_chk442 v3012 v3015 v3073), ∀ a x, ((![v3073, v3012, v3015] : Fin 3 → IVec S16 32) a x).toNat < S16x128x16.size a := fun v3012 v3015 v3073 k0_hw442 => k0_hw442

def k0_chk443 (v3021 : IVec S16 32) (v3024 : IVec S16 32) (v3077 : IVec S16 32) : Prop :=
  (∀ a x, ((![v3077, v3021, v3024] : Fin 3 → IVec S16 32) a x).toNat < S16x128x16.size a)
theorem k0_idx443_inb : ∀ (v3021 : IVec S16 32) (v3024 : IVec S16 32) (v3077 : IVec S16 32) (k0_hw443 : k0_chk443 v3021 v3024 v3077), ∀ a x, ((![v3077, v3021, v3024] : Fin 3 → IVec S16 32) a x).toNat < S16x128x16.size a := fun v3021 v3024 v3077 k0_hw443 => k0_hw443

def k0_chk444 (v2922 : IVec S16 32) (v2925 : IVec S16 32) (v3083 : IVec S16 32) : Prop :=
  (∀ a x, ((![v3083, v2922, v2925] : Fin 3 → IVec S16 32) a x).toNat < S16x128x16.size a)
theorem k0_idx444_inb : ∀ (v2922 : IVec S16 32) (v2925 : IVec S16 32) (v3083 : IVec S16 32) (k0_hw444 : k0_chk444 v2922 v2925 v3083), ∀ a x, ((![v3083, v2922, v2925] : Fin 3 → IVec S16 32) a x).toNat < S16x128x16.size a := fun v2922 v2925 v3083 k0_hw444 => k0_hw444

def k0_chk445 (v2931 : IVec S16 32) (v2934 : IVec S16 32) (v3087 : IVec S16 32) : Prop :=
  (∀ a x, ((![v3087, v2931, v2934] : Fin 3 → IVec S16 32) a x).toNat < S16x128x16.size a)
theorem k0_idx445_inb : ∀ (v2931 : IVec S16 32) (v2934 : IVec S16 32) (v3087 : IVec S16 32) (k0_hw445 : k0_chk445 v2931 v2934 v3087), ∀ a x, ((![v3087, v2931, v2934] : Fin 3 → IVec S16 32) a x).toNat < S16x128x16.size a := fun v2931 v2934 v3087 k0_hw445 => k0_hw445

def k0_chk446 (v2940 : IVec S16 32) (v2943 : IVec S16 32) (v3091 : IVec S16 32) : Prop :=
  (∀ a x, ((![v3091, v2940, v2943] : Fin 3 → IVec S16 32) a x).toNat < S16x128x16.size a)
theorem k0_idx446_inb : ∀ (v2940 : IVec S16 32) (v2943 : IVec S16 32) (v3091 : IVec S16 32) (k0_hw446 : k0_chk446 v2940 v2943 v3091), ∀ a x, ((![v3091, v2940, v2943] : Fin 3 → IVec S16 32) a x).toNat < S16x128x16.size a := fun v2940 v2943 v3091 k0_hw446 => k0_hw446

def k0_chk447 (v2949 : IVec S16 32) (v2952 : IVec S16 32) (v3096 : IVec S16 32) : Prop :=
  (∀ a x, ((![v3096, v2949, v2952] : Fin 3 → IVec S16 32) a x).toNat < S16x128x16.size a)
theorem k0_idx447_inb : ∀ (v2949 : IVec S16 32) (v2952 : IVec S16 32) (v3096 : IVec S16 32) (k0_hw447 : k0_chk447 v2949 v2952 v3096), ∀ a x, ((![v3096, v2949, v2952] : Fin 3 → IVec S16 32) a x).toNat < S16x128x16.size a := fun v2949 v2952 v3096 k0_hw447 => k0_hw447

def k0_chk448 (v2958 : IVec S16 32) (v2961 : IVec S16 32) (v3100 : IVec S16 32) : Prop :=
  (∀ a x, ((![v3100, v2958, v2961] : Fin 3 → IVec S16 32) a x).toNat < S16x128x16.size a)
theorem k0_idx448_inb : ∀ (v2958 : IVec S16 32) (v2961 : IVec S16 32) (v3100 : IVec S16 32) (k0_hw448 : k0_chk448 v2958 v2961 v3100), ∀ a x, ((![v3100, v2958, v2961] : Fin 3 → IVec S16 32) a x).toNat < S16x128x16.size a := fun v2958 v2961 v3100 k0_hw448 => k0_hw448

def k0_chk449 (v2967 : IVec S16 32) (v2970 : IVec S16 32) (v3104 : IVec S16 32) : Prop :=
  (∀ a x, ((![v3104, v2967, v2970] : Fin 3 → IVec S16 32) a x).toNat < S16x128x16.size a)
theorem k0_idx449_inb : ∀ (v2967 : IVec S16 32) (v2970 : IVec S16 32) (v3104 : IVec S16 32) (k0_hw449 : k0_chk449 v2967 v2970 v3104), ∀ a x, ((![v3104, v2967, v2970] : Fin 3 → IVec S16 32) a x).toNat < S16x128x16.size a := fun v2967 v2970 v3104 k0_hw449 => k0_hw449

def k0_chk450 (v2976 : IVec S16 32) (v2979 : IVec S16 32) (v3109 : IVec S16 32) : Prop :=
  (∀ a x, ((![v3109, v2976, v2979] : Fin 3 → IVec S16 32) a x).toNat < S16x128x16.size a)
theorem k0_idx450_inb : ∀ (v2976 : IVec S16 32) (v2979 : IVec S16 32) (v3109 : IVec S16 32) (k0_hw450 : k0_chk450 v2976 v2979 v3109), ∀ a x, ((![v3109, v2976, v2979] : Fin 3 → IVec S16 32) a x).toNat < S16x128x16.size a := fun v2976 v2979 v3109 k0_hw450 => k0_hw450

def k0_chk451 (v2985 : IVec S16 32) (v2988 : IVec S16 32) (v3113 : IVec S16 32) : Prop :=
  (∀ a x, ((![v3113, v2985, v2988] : Fin 3 → IVec S16 32) a x).toNat < S16x128x16.size a)
theorem k0_idx451_inb : ∀ (v2985 : IVec S16 32) (v2988 : IVec S16 32) (v3113 : IVec S16 32) (k0_hw451 : k0_chk451 v2985 v2988 v3113), ∀ a x, ((![v3113, v2985, v2988] : Fin 3 → IVec S16 32) a x).toNat < S16x128x16.size a := fun v2985 v2988 v3113 k0_hw451 => k0_hw451

def k0_chk452 (v2994 : IVec S16 32) (v2997 : IVec S16 32) (v3117 : IVec S16 32) : Prop :=
  (∀ a x, ((![v3117, v2994, v2997] : Fin 3 → IVec S16 32) a x).toNat < S16x128x16.size a)
theorem k0_idx452_inb : ∀ (v2994 : IVec S16 32) (v2997 : IVec S16 32) (v3117 : IVec S16 32) (k0_hw452 : k0_chk452 v2994 v2997 v3117), ∀ a x, ((![v3117, v2994, v2997] : Fin 3 → IVec S16 32) a x).toNat < S16x128x16.size a := fun v2994 v2997 v3117 k0_hw452 => k0_hw452

def k0_chk453 (v3003 : IVec S16 32) (v3006 : IVec S16 32) (v3122 : IVec S16 32) : Prop :=
  (∀ a x, ((![v3122, v3003, v3006] : Fin 3 → IVec S16 32) a x).toNat < S16x128x16.size a)
theorem k0_idx453_inb : ∀ (v3003 : IVec S16 32) (v3006 : IVec S16 32) (v3122 : IVec S16 32) (k0_hw453 : k0_chk453 v3003 v3006 v3122), ∀ a x, ((![v3122, v3003, v3006] : Fin 3 → IVec S16 32) a x).toNat < S16x128x16.size a := fun v3003 v3006 v3122 k0_hw453 => k0_hw453

def k0_chk454 (v3012 : IVec S16 32) (v3015 : IVec S16 32) (v3126 : IVec S16 32) : Prop :=
  (∀ a x, ((![v3126, v3012, v3015] : Fin 3 → IVec S16 32) a x).toNat < S16x128x16.size a)
theorem k0_idx454_inb : ∀ (v3012 : IVec S16 32) (v3015 : IVec S16 32) (v3126 : IVec S16 32) (k0_hw454 : k0_chk454 v3012 v3015 v3126), ∀ a x, ((![v3126, v3012, v3015] : Fin 3 → IVec S16 32) a x).toNat < S16x128x16.size a := fun v3012 v3015 v3126 k0_hw454 => k0_hw454

def k0_chk455 (v3021 : IVec S16 32) (v3024 : IVec S16 32) (v3130 : IVec S16 32) : Prop :=
  (∀ a x, ((![v3130, v3021, v3024] : Fin 3 → IVec S16 32) a x).toNat < S16x128x16.size a)
theorem k0_idx455_inb : ∀ (v3021 : IVec S16 32) (v3024 : IVec S16 32) (v3130 : IVec S16 32) (k0_hw455 : k0_chk455 v3021 v3024 v3130), ∀ a x, ((![v3130, v3021, v3024] : Fin 3 → IVec S16 32) a x).toNat < S16x128x16.size a := fun v3021 v3024 v3130 k0_hw455 => k0_hw455

def k0_chk456 (v2922 : IVec S16 32) (v2925 : IVec S16 32) (v3136 : IVec S16 32) : Prop :=
  (∀ a x, ((![v3136, v2922, v2925] : Fin 3 → IVec S16 32) a x).toNat < S16x128x16.size a)
theorem k0_idx456_inb : ∀ (v2922 : IVec S16 32) (v2925 : IVec S16 32) (v3136 : IVec S16 32) (k0_hw456 : k0_chk456 v2922 v2925 v3136), ∀ a x, ((![v3136, v2922, v2925] : Fin 3 → IVec S16 32) a x).toNat < S16x128x16.size a := fun v2922 v2925 v3136 k0_hw456 => k0_hw456

def k0_chk457 (v2931 : IVec S16 32) (v2934 : IVec S16 32) (v3140 : IVec S16 32) : Prop :=
  (∀ a x, ((![v3140, v2931, v2934] : Fin 3 → IVec S16 32) a x).toNat < S16x128x16.size a)
theorem k0_idx457_inb : ∀ (v2931 : IVec S16 32) (v2934 : IVec S16 32) (v3140 : IVec S16 32) (k0_hw457 : k0_chk457 v2931 v2934 v3140), ∀ a x, ((![v3140, v2931, v2934] : Fin 3 → IVec S16 32) a x).toNat < S16x128x16.size a := fun v2931 v2934 v3140 k0_hw457 => k0_hw457

def k0_chk458 (v2940 : IVec S16 32) (v2943 : IVec S16 32) (v3144 : IVec S16 32) : Prop :=
  (∀ a x, ((![v3144, v2940, v2943] : Fin 3 → IVec S16 32) a x).toNat < S16x128x16.size a)
theorem k0_idx458_inb : ∀ (v2940 : IVec S16 32) (v2943 : IVec S16 32) (v3144 : IVec S16 32) (k0_hw458 : k0_chk458 v2940 v2943 v3144), ∀ a x, ((![v3144, v2940, v2943] : Fin 3 → IVec S16 32) a x).toNat < S16x128x16.size a := fun v2940 v2943 v3144 k0_hw458 => k0_hw458

def k0_chk459 (v2949 : IVec S16 32) (v2952 : IVec S16 32) (v3149 : IVec S16 32) : Prop :=
  (∀ a x, ((![v3149, v2949, v2952] : Fin 3 → IVec S16 32) a x).toNat < S16x128x16.size a)
theorem k0_idx459_inb : ∀ (v2949 : IVec S16 32) (v2952 : IVec S16 32) (v3149 : IVec S16 32) (k0_hw459 : k0_chk459 v2949 v2952 v3149), ∀ a x, ((![v3149, v2949, v2952] : Fin 3 → IVec S16 32) a x).toNat < S16x128x16.size a := fun v2949 v2952 v3149 k0_hw459 => k0_hw459

def k0_chk460 (v2958 : IVec S16 32) (v2961 : IVec S16 32) (v3153 : IVec S16 32) : Prop :=
  (∀ a x, ((![v3153, v2958, v2961] : Fin 3 → IVec S16 32) a x).toNat < S16x128x16.size a)
theorem k0_idx460_inb : ∀ (v2958 : IVec S16 32) (v2961 : IVec S16 32) (v3153 : IVec S16 32) (k0_hw460 : k0_chk460 v2958 v2961 v3153), ∀ a x, ((![v3153, v2958, v2961] : Fin 3 → IVec S16 32) a x).toNat < S16x128x16.size a := fun v2958 v2961 v3153 k0_hw460 => k0_hw460

def k0_chk461 (v2967 : IVec S16 32) (v2970 : IVec S16 32) (v3157 : IVec S16 32) : Prop :=
  (∀ a x, ((![v3157, v2967, v2970] : Fin 3 → IVec S16 32) a x).toNat < S16x128x16.size a)
theorem k0_idx461_inb : ∀ (v2967 : IVec S16 32) (v2970 : IVec S16 32) (v3157 : IVec S16 32) (k0_hw461 : k0_chk461 v2967 v2970 v3157), ∀ a x, ((![v3157, v2967, v2970] : Fin 3 → IVec S16 32) a x).toNat < S16x128x16.size a := fun v2967 v2970 v3157 k0_hw461 => k0_hw461

def k0_chk462 (v2976 : IVec S16 32) (v2979 : IVec S16 32) (v3162 : IVec S16 32) : Prop :=
  (∀ a x, ((![v3162, v2976, v2979] : Fin 3 → IVec S16 32) a x).toNat < S16x128x16.size a)
theorem k0_idx462_inb : ∀ (v2976 : IVec S16 32) (v2979 : IVec S16 32) (v3162 : IVec S16 32) (k0_hw462 : k0_chk462 v2976 v2979 v3162), ∀ a x, ((![v3162, v2976, v2979] : Fin 3 → IVec S16 32) a x).toNat < S16x128x16.size a := fun v2976 v2979 v3162 k0_hw462 => k0_hw462

def k0_chk463 (v2985 : IVec S16 32) (v2988 : IVec S16 32) (v3166 : IVec S16 32) : Prop :=
  (∀ a x, ((![v3166, v2985, v2988] : Fin 3 → IVec S16 32) a x).toNat < S16x128x16.size a)
theorem k0_idx463_inb : ∀ (v2985 : IVec S16 32) (v2988 : IVec S16 32) (v3166 : IVec S16 32) (k0_hw463 : k0_chk463 v2985 v2988 v3166), ∀ a x, ((![v3166, v2985, v2988] : Fin 3 → IVec S16 32) a x).toNat < S16x128x16.size a := fun v2985 v2988 v3166 k0_hw463 => k0_hw463

def k0_chk464 (v2994 : IVec S16 32) (v2997 : IVec S16 32) (v3170 : IVec S16 32) : Prop :=
  (∀ a x, ((![v3170, v2994, v2997] : Fin 3 → IVec S16 32) a x).toNat < S16x128x16.size a)
theorem k0_idx464_inb : ∀ (v2994 : IVec S16 32) (v2997 : IVec S16 32) (v3170 : IVec S16 32) (k0_hw464 : k0_chk464 v2994 v2997 v3170), ∀ a x, ((![v3170, v2994, v2997] : Fin 3 → IVec S16 32) a x).toNat < S16x128x16.size a := fun v2994 v2997 v3170 k0_hw464 => k0_hw464

def k0_chk465 (v3003 : IVec S16 32) (v3006 : IVec S16 32) (v3175 : IVec S16 32) : Prop :=
  (∀ a x, ((![v3175, v3003, v3006] : Fin 3 → IVec S16 32) a x).toNat < S16x128x16.size a)
theorem k0_idx465_inb : ∀ (v3003 : IVec S16 32) (v3006 : IVec S16 32) (v3175 : IVec S16 32) (k0_hw465 : k0_chk465 v3003 v3006 v3175), ∀ a x, ((![v3175, v3003, v3006] : Fin 3 → IVec S16 32) a x).toNat < S16x128x16.size a := fun v3003 v3006 v3175 k0_hw465 => k0_hw465

def k0_chk466 (v3012 : IVec S16 32) (v3015 : IVec S16 32) (v3179 : IVec S16 32) : Prop :=
  (∀ a x, ((![v3179, v3012, v3015] : Fin 3 → IVec S16 32) a x).toNat < S16x128x16.size a)
theorem k0_idx466_inb : ∀ (v3012 : IVec S16 32) (v3015 : IVec S16 32) (v3179 : IVec S16 32) (k0_hw466 : k0_chk466 v3012 v3015 v3179), ∀ a x, ((![v3179, v3012, v3015] : Fin 3 → IVec S16 32) a x).toNat < S16x128x16.size a := fun v3012 v3015 v3179 k0_hw466 => k0_hw466

def k0_chk467 (v3021 : IVec S16 32) (v3024 : IVec S16 32) (v3183 : IVec S16 32) : Prop :=
  (∀ a x, ((![v3183, v3021, v3024] : Fin 3 → IVec S16 32) a x).toNat < S16x128x16.size a)
theorem k0_idx467_inb : ∀ (v3021 : IVec S16 32) (v3024 : IVec S16 32) (v3183 : IVec S16 32) (k0_hw467 : k0_chk467 v3021 v3024 v3183), ∀ a x, ((![v3183, v3021, v3024] : Fin 3 → IVec S16 32) a x).toNat < S16x128x16.size a := fun v3021 v3024 v3183 k0_hw467 => k0_hw467

def k0_chk468 (v2922 : IVec S16 32) (v2925 : IVec S16 32) (v3189 : IVec S16 32) : Prop :=
  (∀ a x, ((![v3189, v2922, v2925] : Fin 3 → IVec S16 32) a x).toNat < S16x128x16.size a)
theorem k0_idx468_inb : ∀ (v2922 : IVec S16 32) (v2925 : IVec S16 32) (v3189 : IVec S16 32) (k0_hw468 : k0_chk468 v2922 v2925 v3189), ∀ a x, ((![v3189, v2922, v2925] : Fin 3 → IVec S16 32) a x).toNat < S16x128x16.size a := fun v2922 v2925 v3189 k0_hw468 => k0_hw468

def k0_chk469 (v2931 : IVec S16 32) (v2934 : IVec S16 32) (v3193 : IVec S16 32) : Prop :=
  (∀ a x, ((![v3193, v2931, v2934] : Fin 3 → IVec S16 32) a x).toNat < S16x128x16.size a)
theorem k0_idx469_inb : ∀ (v2931 : IVec S16 32) (v2934 : IVec S16 32) (v3193 : IVec S16 32) (k0_hw469 : k0_chk469 v2931 v2934 v3193), ∀ a x, ((![v3193, v2931, v2934] : Fin 3 → IVec S16 32) a x).toNat < S16x128x16.size a := fun v2931 v2934 v3193 k0_hw469 => k0_hw469

def k0_chk470 (v2940 : IVec S16 32) (v2943 : IVec S16 32) (v3197 : IVec S16 32) : Prop :=
  (∀ a x, ((![v3197, v2940, v2943] : Fin 3 → IVec S16 32) a x).toNat < S16x128x16.size a)
theorem k0_idx470_inb : ∀ (v2940 : IVec S16 32) (v2943 : IVec S16 32) (v3197 : IVec S16 32) (k0_hw470 : k0_chk470 v2940 v2943 v3197), ∀ a x, ((![v3197, v2940, v2943] : Fin 3 → IVec S16 32) a x).toNat < S16x128x16.size a := fun v2940 v2943 v3197 k0_hw470 => k0_hw470

def k0_chk471 (v2949 : IVec S16 32) (v2952 : IVec S16 32) (v3202 : IVec S16 32) : Prop :=
  (∀ a x, ((![v3202, v2949, v2952] : Fin 3 → IVec S16 32) a x).toNat < S16x128x16.size a)
theorem k0_idx471_inb : ∀ (v2949 : IVec S16 32) (v2952 : IVec S16 32) (v3202 : IVec S16 32) (k0_hw471 : k0_chk471 v2949 v2952 v3202), ∀ a x, ((![v3202, v2949, v2952] : Fin 3 → IVec S16 32) a x).toNat < S16x128x16.size a := fun v2949 v2952 v3202 k0_hw471 => k0_hw471

def k0_chk472 (v2958 : IVec S16 32) (v2961 : IVec S16 32) (v3206 : IVec S16 32) : Prop :=
  (∀ a x, ((![v3206, v2958, v2961] : Fin 3 → IVec S16 32) a x).toNat < S16x128x16.size a)
theorem k0_idx472_inb : ∀ (v2958 : IVec S16 32) (v2961 : IVec S16 32) (v3206 : IVec S16 32) (k0_hw472 : k0_chk472 v2958 v2961 v3206), ∀ a x, ((![v3206, v2958, v2961] : Fin 3 → IVec S16 32) a x).toNat < S16x128x16.size a := fun v2958 v2961 v3206 k0_hw472 => k0_hw472

def k0_chk473 (v2967 : IVec S16 32) (v2970 : IVec S16 32) (v3210 : IVec S16 32) : Prop :=
  (∀ a x, ((![v3210, v2967, v2970] : Fin 3 → IVec S16 32) a x).toNat < S16x128x16.size a)
theorem k0_idx473_inb : ∀ (v2967 : IVec S16 32) (v2970 : IVec S16 32) (v3210 : IVec S16 32) (k0_hw473 : k0_chk473 v2967 v2970 v3210), ∀ a x, ((![v3210, v2967, v2970] : Fin 3 → IVec S16 32) a x).toNat < S16x128x16.size a := fun v2967 v2970 v3210 k0_hw473 => k0_hw473

def k0_chk474 (v2976 : IVec S16 32) (v2979 : IVec S16 32) (v3215 : IVec S16 32) : Prop :=
  (∀ a x, ((![v3215, v2976, v2979] : Fin 3 → IVec S16 32) a x).toNat < S16x128x16.size a)
theorem k0_idx474_inb : ∀ (v2976 : IVec S16 32) (v2979 : IVec S16 32) (v3215 : IVec S16 32) (k0_hw474 : k0_chk474 v2976 v2979 v3215), ∀ a x, ((![v3215, v2976, v2979] : Fin 3 → IVec S16 32) a x).toNat < S16x128x16.size a := fun v2976 v2979 v3215 k0_hw474 => k0_hw474

def k0_chk475 (v2985 : IVec S16 32) (v2988 : IVec S16 32) (v3219 : IVec S16 32) : Prop :=
  (∀ a x, ((![v3219, v2985, v2988] : Fin 3 → IVec S16 32) a x).toNat < S16x128x16.size a)
theorem k0_idx475_inb : ∀ (v2985 : IVec S16 32) (v2988 : IVec S16 32) (v3219 : IVec S16 32) (k0_hw475 : k0_chk475 v2985 v2988 v3219), ∀ a x, ((![v3219, v2985, v2988] : Fin 3 → IVec S16 32) a x).toNat < S16x128x16.size a := fun v2985 v2988 v3219 k0_hw475 => k0_hw475

def k0_chk476 (v2994 : IVec S16 32) (v2997 : IVec S16 32) (v3223 : IVec S16 32) : Prop :=
  (∀ a x, ((![v3223, v2994, v2997] : Fin 3 → IVec S16 32) a x).toNat < S16x128x16.size a)
theorem k0_idx476_inb : ∀ (v2994 : IVec S16 32) (v2997 : IVec S16 32) (v3223 : IVec S16 32) (k0_hw476 : k0_chk476 v2994 v2997 v3223), ∀ a x, ((![v3223, v2994, v2997] : Fin 3 → IVec S16 32) a x).toNat < S16x128x16.size a := fun v2994 v2997 v3223 k0_hw476 => k0_hw476

def k0_chk477 (v3003 : IVec S16 32) (v3006 : IVec S16 32) (v3228 : IVec S16 32) : Prop :=
  (∀ a x, ((![v3228, v3003, v3006] : Fin 3 → IVec S16 32) a x).toNat < S16x128x16.size a)
theorem k0_idx477_inb : ∀ (v3003 : IVec S16 32) (v3006 : IVec S16 32) (v3228 : IVec S16 32) (k0_hw477 : k0_chk477 v3003 v3006 v3228), ∀ a x, ((![v3228, v3003, v3006] : Fin 3 → IVec S16 32) a x).toNat < S16x128x16.size a := fun v3003 v3006 v3228 k0_hw477 => k0_hw477

def k0_chk478 (v3012 : IVec S16 32) (v3015 : IVec S16 32) (v3232 : IVec S16 32) : Prop :=
  (∀ a x, ((![v3232, v3012, v3015] : Fin 3 → IVec S16 32) a x).toNat < S16x128x16.size a)
theorem k0_idx478_inb : ∀ (v3012 : IVec S16 32) (v3015 : IVec S16 32) (v3232 : IVec S16 32) (k0_hw478 : k0_chk478 v3012 v3015 v3232), ∀ a x, ((![v3232, v3012, v3015] : Fin 3 → IVec S16 32) a x).toNat < S16x128x16.size a := fun v3012 v3015 v3232 k0_hw478 => k0_hw478

def k0_chk479 (v3021 : IVec S16 32) (v3024 : IVec S16 32) (v3236 : IVec S16 32) : Prop :=
  (∀ a x, ((![v3236, v3021, v3024] : Fin 3 → IVec S16 32) a x).toNat < S16x128x16.size a)
theorem k0_idx479_inb : ∀ (v3021 : IVec S16 32) (v3024 : IVec S16 32) (v3236 : IVec S16 32) (k0_hw479 : k0_chk479 v3021 v3024 v3236), ∀ a x, ((![v3236, v3021, v3024] : Fin 3 → IVec S16 32) a x).toNat < S16x128x16.size a := fun v3021 v3024 v3236 k0_hw479 => k0_hw479

def k0_chk480 (v2922 : IVec S16 32) (v2925 : IVec S16 32) (v3242 : IVec S16 32) : Prop :=
  (∀ a x, ((![v3242, v2922, v2925] : Fin 3 → IVec S16 32) a x).toNat < S16x128x16.size a)
theorem k0_idx480_inb : ∀ (v2922 : IVec S16 32) (v2925 : IVec S16 32) (v3242 : IVec S16 32) (k0_hw480 : k0_chk480 v2922 v2925 v3242), ∀ a x, ((![v3242, v2922, v2925] : Fin 3 → IVec S16 32) a x).toNat < S16x128x16.size a := fun v2922 v2925 v3242 k0_hw480 => k0_hw480

def k0_chk481 (v2931 : IVec S16 32) (v2934 : IVec S16 32) (v3246 : IVec S16 32) : Prop :=
  (∀ a x, ((![v3246, v2931, v2934] : Fin 3 → IVec S16 32) a x).toNat < S16x128x16.size a)
theorem k0_idx481_inb : ∀ (v2931 : IVec S16 32) (v2934 : IVec S16 32) (v3246 : IVec S16 32) (k0_hw481 : k0_chk481 v2931 v2934 v3246), ∀ a x, ((![v3246, v2931, v2934] : Fin 3 → IVec S16 32) a x).toNat < S16x128x16.size a := fun v2931 v2934 v3246 k0_hw481 => k0_hw481

def k0_chk482 (v2940 : IVec S16 32) (v2943 : IVec S16 32) (v3250 : IVec S16 32) : Prop :=
  (∀ a x, ((![v3250, v2940, v2943] : Fin 3 → IVec S16 32) a x).toNat < S16x128x16.size a)
theorem k0_idx482_inb : ∀ (v2940 : IVec S16 32) (v2943 : IVec S16 32) (v3250 : IVec S16 32) (k0_hw482 : k0_chk482 v2940 v2943 v3250), ∀ a x, ((![v3250, v2940, v2943] : Fin 3 → IVec S16 32) a x).toNat < S16x128x16.size a := fun v2940 v2943 v3250 k0_hw482 => k0_hw482

def k0_chk483 (v2949 : IVec S16 32) (v2952 : IVec S16 32) (v3255 : IVec S16 32) : Prop :=
  (∀ a x, ((![v3255, v2949, v2952] : Fin 3 → IVec S16 32) a x).toNat < S16x128x16.size a)
theorem k0_idx483_inb : ∀ (v2949 : IVec S16 32) (v2952 : IVec S16 32) (v3255 : IVec S16 32) (k0_hw483 : k0_chk483 v2949 v2952 v3255), ∀ a x, ((![v3255, v2949, v2952] : Fin 3 → IVec S16 32) a x).toNat < S16x128x16.size a := fun v2949 v2952 v3255 k0_hw483 => k0_hw483

def k0_chk484 (v2958 : IVec S16 32) (v2961 : IVec S16 32) (v3259 : IVec S16 32) : Prop :=
  (∀ a x, ((![v3259, v2958, v2961] : Fin 3 → IVec S16 32) a x).toNat < S16x128x16.size a)
theorem k0_idx484_inb : ∀ (v2958 : IVec S16 32) (v2961 : IVec S16 32) (v3259 : IVec S16 32) (k0_hw484 : k0_chk484 v2958 v2961 v3259), ∀ a x, ((![v3259, v2958, v2961] : Fin 3 → IVec S16 32) a x).toNat < S16x128x16.size a := fun v2958 v2961 v3259 k0_hw484 => k0_hw484

def k0_chk485 (v2967 : IVec S16 32) (v2970 : IVec S16 32) (v3263 : IVec S16 32) : Prop :=
  (∀ a x, ((![v3263, v2967, v2970] : Fin 3 → IVec S16 32) a x).toNat < S16x128x16.size a)
theorem k0_idx485_inb : ∀ (v2967 : IVec S16 32) (v2970 : IVec S16 32) (v3263 : IVec S16 32) (k0_hw485 : k0_chk485 v2967 v2970 v3263), ∀ a x, ((![v3263, v2967, v2970] : Fin 3 → IVec S16 32) a x).toNat < S16x128x16.size a := fun v2967 v2970 v3263 k0_hw485 => k0_hw485

def k0_chk486 (v2976 : IVec S16 32) (v2979 : IVec S16 32) (v3268 : IVec S16 32) : Prop :=
  (∀ a x, ((![v3268, v2976, v2979] : Fin 3 → IVec S16 32) a x).toNat < S16x128x16.size a)
theorem k0_idx486_inb : ∀ (v2976 : IVec S16 32) (v2979 : IVec S16 32) (v3268 : IVec S16 32) (k0_hw486 : k0_chk486 v2976 v2979 v3268), ∀ a x, ((![v3268, v2976, v2979] : Fin 3 → IVec S16 32) a x).toNat < S16x128x16.size a := fun v2976 v2979 v3268 k0_hw486 => k0_hw486

def k0_chk487 (v2985 : IVec S16 32) (v2988 : IVec S16 32) (v3272 : IVec S16 32) : Prop :=
  (∀ a x, ((![v3272, v2985, v2988] : Fin 3 → IVec S16 32) a x).toNat < S16x128x16.size a)
theorem k0_idx487_inb : ∀ (v2985 : IVec S16 32) (v2988 : IVec S16 32) (v3272 : IVec S16 32) (k0_hw487 : k0_chk487 v2985 v2988 v3272), ∀ a x, ((![v3272, v2985, v2988] : Fin 3 → IVec S16 32) a x).toNat < S16x128x16.size a := fun v2985 v2988 v3272 k0_hw487 => k0_hw487

def k0_chk488 (v2994 : IVec S16 32) (v2997 : IVec S16 32) (v3276 : IVec S16 32) : Prop :=
  (∀ a x, ((![v3276, v2994, v2997] : Fin 3 → IVec S16 32) a x).toNat < S16x128x16.size a)
theorem k0_idx488_inb : ∀ (v2994 : IVec S16 32) (v2997 : IVec S16 32) (v3276 : IVec S16 32) (k0_hw488 : k0_chk488 v2994 v2997 v3276), ∀ a x, ((![v3276, v2994, v2997] : Fin 3 → IVec S16 32) a x).toNat < S16x128x16.size a := fun v2994 v2997 v3276 k0_hw488 => k0_hw488

def k0_chk489 (v3003 : IVec S16 32) (v3006 : IVec S16 32) (v3281 : IVec S16 32) : Prop :=
  (∀ a x, ((![v3281, v3003, v3006] : Fin 3 → IVec S16 32) a x).toNat < S16x128x16.size a)
theorem k0_idx489_inb : ∀ (v3003 : IVec S16 32) (v3006 : IVec S16 32) (v3281 : IVec S16 32) (k0_hw489 : k0_chk489 v3003 v3006 v3281), ∀ a x, ((![v3281, v3003, v3006] : Fin 3 → IVec S16 32) a x).toNat < S16x128x16.size a := fun v3003 v3006 v3281 k0_hw489 => k0_hw489

def k0_chk490 (v3012 : IVec S16 32) (v3015 : IVec S16 32) (v3285 : IVec S16 32) : Prop :=
  (∀ a x, ((![v3285, v3012, v3015] : Fin 3 → IVec S16 32) a x).toNat < S16x128x16.size a)
theorem k0_idx490_inb : ∀ (v3012 : IVec S16 32) (v3015 : IVec S16 32) (v3285 : IVec S16 32) (k0_hw490 : k0_chk490 v3012 v3015 v3285), ∀ a x, ((![v3285, v3012, v3015] : Fin 3 → IVec S16 32) a x).toNat < S16x128x16.size a := fun v3012 v3015 v3285 k0_hw490 => k0_hw490

def k0_chk491 (v3021 : IVec S16 32) (v3024 : IVec S16 32) (v3289 : IVec S16 32) : Prop :=
  (∀ a x, ((![v3289, v3021, v3024] : Fin 3 → IVec S16 32) a x).toNat < S16x128x16.size a)
theorem k0_idx491_inb : ∀ (v3021 : IVec S16 32) (v3024 : IVec S16 32) (v3289 : IVec S16 32) (k0_hw491 : k0_chk491 v3021 v3024 v3289), ∀ a x, ((![v3289, v3021, v3024] : Fin 3 → IVec S16 32) a x).toNat < S16x128x16.size a := fun v3021 v3024 v3289 k0_hw491 => k0_hw491

def k0_chk492 (v2922 : IVec S16 32) (v2925 : IVec S16 32) (v3295 : IVec S16 32) : Prop :=
  (∀ a x, ((![v3295, v2922, v2925] : Fin 3 → IVec S16 32) a x).toNat < S16x128x16.size a)
theorem k0_idx492_inb : ∀ (v2922 : IVec S16 32) (v2925 : IVec S16 32) (v3295 : IVec S16 32) (k0_hw492 : k0_chk492 v2922 v2925 v3295), ∀ a x, ((![v3295, v2922, v2925] : Fin 3 → IVec S16 32) a x).toNat < S16x128x16.size a := fun v2922 v2925 v3295 k0_hw492 => k0_hw492

def k0_chk493 (v2931 : IVec S16 32) (v2934 : IVec S16 32) (v3299 : IVec S16 32) : Prop :=
  (∀ a x, ((![v3299, v2931, v2934] : Fin 3 → IVec S16 32) a x).toNat < S16x128x16.size a)
theorem k0_idx493_inb : ∀ (v2931 : IVec S16 32) (v2934 : IVec S16 32) (v3299 : IVec S16 32) (k0_hw493 : k0_chk493 v2931 v2934 v3299), ∀ a x, ((![v3299, v2931, v2934] : Fin 3 → IVec S16 32) a x).toNat < S16x128x16.size a := fun v2931 v2934 v3299 k0_hw493 => k0_hw493

def k0_chk494 (v2940 : IVec S16 32) (v2943 : IVec S16 32) (v3303 : IVec S16 32) : Prop :=
  (∀ a x, ((![v3303, v2940, v2943] : Fin 3 → IVec S16 32) a x).toNat < S16x128x16.size a)
theorem k0_idx494_inb : ∀ (v2940 : IVec S16 32) (v2943 : IVec S16 32) (v3303 : IVec S16 32) (k0_hw494 : k0_chk494 v2940 v2943 v3303), ∀ a x, ((![v3303, v2940, v2943] : Fin 3 → IVec S16 32) a x).toNat < S16x128x16.size a := fun v2940 v2943 v3303 k0_hw494 => k0_hw494

def k0_chk495 (v2949 : IVec S16 32) (v2952 : IVec S16 32) (v3308 : IVec S16 32) : Prop :=
  (∀ a x, ((![v3308, v2949, v2952] : Fin 3 → IVec S16 32) a x).toNat < S16x128x16.size a)
theorem k0_idx495_inb : ∀ (v2949 : IVec S16 32) (v2952 : IVec S16 32) (v3308 : IVec S16 32) (k0_hw495 : k0_chk495 v2949 v2952 v3308), ∀ a x, ((![v3308, v2949, v2952] : Fin 3 → IVec S16 32) a x).toNat < S16x128x16.size a := fun v2949 v2952 v3308 k0_hw495 => k0_hw495

def k0_chk496 (v2958 : IVec S16 32) (v2961 : IVec S16 32) (v3312 : IVec S16 32) : Prop :=
  (∀ a x, ((![v3312, v2958, v2961] : Fin 3 → IVec S16 32) a x).toNat < S16x128x16.size a)
theorem k0_idx496_inb : ∀ (v2958 : IVec S16 32) (v2961 : IVec S16 32) (v3312 : IVec S16 32) (k0_hw496 : k0_chk496 v2958 v2961 v3312), ∀ a x, ((![v3312, v2958, v2961] : Fin 3 → IVec S16 32) a x).toNat < S16x128x16.size a := fun v2958 v2961 v3312 k0_hw496 => k0_hw496

def k0_chk497 (v2967 : IVec S16 32) (v2970 : IVec S16 32) (v3316 : IVec S16 32) : Prop :=
  (∀ a x, ((![v3316, v2967, v2970] : Fin 3 → IVec S16 32) a x).toNat < S16x128x16.size a)
theorem k0_idx497_inb : ∀ (v2967 : IVec S16 32) (v2970 : IVec S16 32) (v3316 : IVec S16 32) (k0_hw497 : k0_chk497 v2967 v2970 v3316), ∀ a x, ((![v3316, v2967, v2970] : Fin 3 → IVec S16 32) a x).toNat < S16x128x16.size a := fun v2967 v2970 v3316 k0_hw497 => k0_hw497

def k0_chk498 (v2976 : IVec S16 32) (v2979 : IVec S16 32) (v3321 : IVec S16 32) : Prop :=
  (∀ a x, ((![v3321, v2976, v2979] : Fin 3 → IVec S16 32) a x).toNat < S16x128x16.size a)
theorem k0_idx498_inb : ∀ (v2976 : IVec S16 32) (v2979 : IVec S16 32) (v3321 : IVec S16 32) (k0_hw498 : k0_chk498 v2976 v2979 v3321), ∀ a x, ((![v3321, v2976, v2979] : Fin 3 → IVec S16 32) a x).toNat < S16x128x16.size a := fun v2976 v2979 v3321 k0_hw498 => k0_hw498

def k0_chk499 (v2985 : IVec S16 32) (v2988 : IVec S16 32) (v3325 : IVec S16 32) : Prop :=
  (∀ a x, ((![v3325, v2985, v2988] : Fin 3 → IVec S16 32) a x).toNat < S16x128x16.size a)
theorem k0_idx499_inb : ∀ (v2985 : IVec S16 32) (v2988 : IVec S16 32) (v3325 : IVec S16 32) (k0_hw499 : k0_chk499 v2985 v2988 v3325), ∀ a x, ((![v3325, v2985, v2988] : Fin 3 → IVec S16 32) a x).toNat < S16x128x16.size a := fun v2985 v2988 v3325 k0_hw499 => k0_hw499

def k0_chk500 (v2994 : IVec S16 32) (v2997 : IVec S16 32) (v3329 : IVec S16 32) : Prop :=
  (∀ a x, ((![v3329, v2994, v2997] : Fin 3 → IVec S16 32) a x).toNat < S16x128x16.size a)
theorem k0_idx500_inb : ∀ (v2994 : IVec S16 32) (v2997 : IVec S16 32) (v3329 : IVec S16 32) (k0_hw500 : k0_chk500 v2994 v2997 v3329), ∀ a x, ((![v3329, v2994, v2997] : Fin 3 → IVec S16 32) a x).toNat < S16x128x16.size a := fun v2994 v2997 v3329 k0_hw500 => k0_hw500

def k0_chk501 (v3003 : IVec S16 32) (v3006 : IVec S16 32) (v3334 : IVec S16 32) : Prop :=
  (∀ a x, ((![v3334, v3003, v3006] : Fin 3 → IVec S16 32) a x).toNat < S16x128x16.size a)
theorem k0_idx501_inb : ∀ (v3003 : IVec S16 32) (v3006 : IVec S16 32) (v3334 : IVec S16 32) (k0_hw501 : k0_chk501 v3003 v3006 v3334), ∀ a x, ((![v3334, v3003, v3006] : Fin 3 → IVec S16 32) a x).toNat < S16x128x16.size a := fun v3003 v3006 v3334 k0_hw501 => k0_hw501

def k0_chk502 (v3012 : IVec S16 32) (v3015 : IVec S16 32) (v3338 : IVec S16 32) : Prop :=
  (∀ a x, ((![v3338, v3012, v3015] : Fin 3 → IVec S16 32) a x).toNat < S16x128x16.size a)
theorem k0_idx502_inb : ∀ (v3012 : IVec S16 32) (v3015 : IVec S16 32) (v3338 : IVec S16 32) (k0_hw502 : k0_chk502 v3012 v3015 v3338), ∀ a x, ((![v3338, v3012, v3015] : Fin 3 → IVec S16 32) a x).toNat < S16x128x16.size a := fun v3012 v3015 v3338 k0_hw502 => k0_hw502

def k0_chk503 (v3021 : IVec S16 32) (v3024 : IVec S16 32) (v3342 : IVec S16 32) : Prop :=
  (∀ a x, ((![v3342, v3021, v3024] : Fin 3 → IVec S16 32) a x).toNat < S16x128x16.size a)
theorem k0_idx503_inb : ∀ (v3021 : IVec S16 32) (v3024 : IVec S16 32) (v3342 : IVec S16 32) (k0_hw503 : k0_chk503 v3021 v3024 v3342), ∀ a x, ((![v3342, v3021, v3024] : Fin 3 → IVec S16 32) a x).toNat < S16x128x16.size a := fun v3021 v3024 v3342 k0_hw503 => k0_hw503

def k0_chk504 (v2922 : IVec S16 32) (v2925 : IVec S16 32) (v3348 : IVec S16 32) : Prop :=
  (∀ a x, ((![v3348, v2922, v2925] : Fin 3 → IVec S16 32) a x).toNat < S16x128x16.size a)
theorem k0_idx504_inb : ∀ (v2922 : IVec S16 32) (v2925 : IVec S16 32) (v3348 : IVec S16 32) (k0_hw504 : k0_chk504 v2922 v2925 v3348), ∀ a x, ((![v3348, v2922, v2925] : Fin 3 → IVec S16 32) a x).toNat < S16x128x16.size a := fun v2922 v2925 v3348 k0_hw504 => k0_hw504

def k0_chk505 (v2931 : IVec S16 32) (v2934 : IVec S16 32) (v3352 : IVec S16 32) : Prop :=
  (∀ a x, ((![v3352, v2931, v2934] : Fin 3 → IVec S16 32) a x).toNat < S16x128x16.size a)
theorem k0_idx505_inb : ∀ (v2931 : IVec S16 32) (v2934 : IVec S16 32) (v3352 : IVec S16 32) (k0_hw505 : k0_chk505 v2931 v2934 v3352), ∀ a x, ((![v3352, v2931, v2934] : Fin 3 → IVec S16 32) a x).toNat < S16x128x16.size a := fun v2931 v2934 v3352 k0_hw505 => k0_hw505

def k0_chk506 (v2940 : IVec S16 32) (v2943 : IVec S16 32) (v3356 : IVec S16 32) : Prop :=
  (∀ a x, ((![v3356, v2940, v2943] : Fin 3 → IVec S16 32) a x).toNat < S16x128x16.size a)
theorem k0_idx506_inb : ∀ (v2940 : IVec S16 32) (v2943 : IVec S16 32) (v3356 : IVec S16 32) (k0_hw506 : k0_chk506 v2940 v2943 v3356), ∀ a x, ((![v3356, v2940, v2943] : Fin 3 → IVec S16 32) a x).toNat < S16x128x16.size a := fun v2940 v2943 v3356 k0_hw506 => k0_hw506

def k0_chk507 (v2949 : IVec S16 32) (v2952 : IVec S16 32) (v3361 : IVec S16 32) : Prop :=
  (∀ a x, ((![v3361, v2949, v2952] : Fin 3 → IVec S16 32) a x).toNat < S16x128x16.size a)
theorem k0_idx507_inb : ∀ (v2949 : IVec S16 32) (v2952 : IVec S16 32) (v3361 : IVec S16 32) (k0_hw507 : k0_chk507 v2949 v2952 v3361), ∀ a x, ((![v3361, v2949, v2952] : Fin 3 → IVec S16 32) a x).toNat < S16x128x16.size a := fun v2949 v2952 v3361 k0_hw507 => k0_hw507

def k0_chk508 (v2958 : IVec S16 32) (v2961 : IVec S16 32) (v3365 : IVec S16 32) : Prop :=
  (∀ a x, ((![v3365, v2958, v2961] : Fin 3 → IVec S16 32) a x).toNat < S16x128x16.size a)
theorem k0_idx508_inb : ∀ (v2958 : IVec S16 32) (v2961 : IVec S16 32) (v3365 : IVec S16 32) (k0_hw508 : k0_chk508 v2958 v2961 v3365), ∀ a x, ((![v3365, v2958, v2961] : Fin 3 → IVec S16 32) a x).toNat < S16x128x16.size a := fun v2958 v2961 v3365 k0_hw508 => k0_hw508

def k0_chk509 (v2967 : IVec S16 32) (v2970 : IVec S16 32) (v3369 : IVec S16 32) : Prop :=
  (∀ a x, ((![v3369, v2967, v2970] : Fin 3 → IVec S16 32) a x).toNat < S16x128x16.size a)
theorem k0_idx509_inb : ∀ (v2967 : IVec S16 32) (v2970 : IVec S16 32) (v3369 : IVec S16 32) (k0_hw509 : k0_chk509 v2967 v2970 v3369), ∀ a x, ((![v3369, v2967, v2970] : Fin 3 → IVec S16 32) a x).toNat < S16x128x16.size a := fun v2967 v2970 v3369 k0_hw509 => k0_hw509

def k0_chk510 (v2976 : IVec S16 32) (v2979 : IVec S16 32) (v3374 : IVec S16 32) : Prop :=
  (∀ a x, ((![v3374, v2976, v2979] : Fin 3 → IVec S16 32) a x).toNat < S16x128x16.size a)
theorem k0_idx510_inb : ∀ (v2976 : IVec S16 32) (v2979 : IVec S16 32) (v3374 : IVec S16 32) (k0_hw510 : k0_chk510 v2976 v2979 v3374), ∀ a x, ((![v3374, v2976, v2979] : Fin 3 → IVec S16 32) a x).toNat < S16x128x16.size a := fun v2976 v2979 v3374 k0_hw510 => k0_hw510

def k0_chk511 (v2985 : IVec S16 32) (v2988 : IVec S16 32) (v3378 : IVec S16 32) : Prop :=
  (∀ a x, ((![v3378, v2985, v2988] : Fin 3 → IVec S16 32) a x).toNat < S16x128x16.size a)
theorem k0_idx511_inb : ∀ (v2985 : IVec S16 32) (v2988 : IVec S16 32) (v3378 : IVec S16 32) (k0_hw511 : k0_chk511 v2985 v2988 v3378), ∀ a x, ((![v3378, v2985, v2988] : Fin 3 → IVec S16 32) a x).toNat < S16x128x16.size a := fun v2985 v2988 v3378 k0_hw511 => k0_hw511

def k0_chk512 (v2994 : IVec S16 32) (v2997 : IVec S16 32) (v3382 : IVec S16 32) : Prop :=
  (∀ a x, ((![v3382, v2994, v2997] : Fin 3 → IVec S16 32) a x).toNat < S16x128x16.size a)
theorem k0_idx512_inb : ∀ (v2994 : IVec S16 32) (v2997 : IVec S16 32) (v3382 : IVec S16 32) (k0_hw512 : k0_chk512 v2994 v2997 v3382), ∀ a x, ((![v3382, v2994, v2997] : Fin 3 → IVec S16 32) a x).toNat < S16x128x16.size a := fun v2994 v2997 v3382 k0_hw512 => k0_hw512

def k0_chk513 (v3003 : IVec S16 32) (v3006 : IVec S16 32) (v3387 : IVec S16 32) : Prop :=
  (∀ a x, ((![v3387, v3003, v3006] : Fin 3 → IVec S16 32) a x).toNat < S16x128x16.size a)
theorem k0_idx513_inb : ∀ (v3003 : IVec S16 32) (v3006 : IVec S16 32) (v3387 : IVec S16 32) (k0_hw513 : k0_chk513 v3003 v3006 v3387), ∀ a x, ((![v3387, v3003, v3006] : Fin 3 → IVec S16 32) a x).toNat < S16x128x16.size a := fun v3003 v3006 v3387 k0_hw513 => k0_hw513

def k0_chk514 (v3012 : IVec S16 32) (v3015 : IVec S16 32) (v3391 : IVec S16 32) : Prop :=
  (∀ a x, ((![v3391, v3012, v3015] : Fin 3 → IVec S16 32) a x).toNat < S16x128x16.size a)
theorem k0_idx514_inb : ∀ (v3012 : IVec S16 32) (v3015 : IVec S16 32) (v3391 : IVec S16 32) (k0_hw514 : k0_chk514 v3012 v3015 v3391), ∀ a x, ((![v3391, v3012, v3015] : Fin 3 → IVec S16 32) a x).toNat < S16x128x16.size a := fun v3012 v3015 v3391 k0_hw514 => k0_hw514

def k0_chk515 (v3021 : IVec S16 32) (v3024 : IVec S16 32) (v3395 : IVec S16 32) : Prop :=
  (∀ a x, ((![v3395, v3021, v3024] : Fin 3 → IVec S16 32) a x).toNat < S16x128x16.size a)
theorem k0_idx515_inb : ∀ (v3021 : IVec S16 32) (v3024 : IVec S16 32) (v3395 : IVec S16 32) (k0_hw515 : k0_chk515 v3021 v3024 v3395), ∀ a x, ((![v3395, v3021, v3024] : Fin 3 → IVec S16 32) a x).toNat < S16x128x16.size a := fun v3021 v3024 v3395 k0_hw515 => k0_hw515

def k0_chk516 (v2922 : IVec S16 32) (v2925 : IVec S16 32) (v3401 : IVec S16 32) : Prop :=
  (∀ a x, ((![v3401, v2922, v2925] : Fin 3 → IVec S16 32) a x).toNat < S16x128x16.size a)
theorem k0_idx516_inb : ∀ (v2922 : IVec S16 32) (v2925 : IVec S16 32) (v3401 : IVec S16 32) (k0_hw516 : k0_chk516 v2922 v2925 v3401), ∀ a x, ((![v3401, v2922, v2925] : Fin 3 → IVec S16 32) a x).toNat < S16x128x16.size a := fun v2922 v2925 v3401 k0_hw516 => k0_hw516

def k0_chk517 (v2931 : IVec S16 32) (v2934 : IVec S16 32) (v3405 : IVec S16 32) : Prop :=
  (∀ a x, ((![v3405, v2931, v2934] : Fin 3 → IVec S16 32) a x).toNat < S16x128x16.size a)
theorem k0_idx517_inb : ∀ (v2931 : IVec S16 32) (v2934 : IVec S16 32) (v3405 : IVec S16 32) (k0_hw517 : k0_chk517 v2931 v2934 v3405), ∀ a x, ((![v3405, v2931, v2934] : Fin 3 → IVec S16 32) a x).toNat < S16x128x16.size a := fun v2931 v2934 v3405 k0_hw517 => k0_hw517

def k0_chk518 (v2940 : IVec S16 32) (v2943 : IVec S16 32) (v3409 : IVec S16 32) : Prop :=
  (∀ a x, ((![v3409, v2940, v2943] : Fin 3 → IVec S16 32) a x).toNat < S16x128x16.size a)
theorem k0_idx518_inb : ∀ (v2940 : IVec S16 32) (v2943 : IVec S16 32) (v3409 : IVec S16 32) (k0_hw518 : k0_chk518 v2940 v2943 v3409), ∀ a x, ((![v3409, v2940, v2943] : Fin 3 → IVec S16 32) a x).toNat < S16x128x16.size a := fun v2940 v2943 v3409 k0_hw518 => k0_hw518

def k0_chk519 (v2949 : IVec S16 32) (v2952 : IVec S16 32) (v3414 : IVec S16 32) : Prop :=
  (∀ a x, ((![v3414, v2949, v2952] : Fin 3 → IVec S16 32) a x).toNat < S16x128x16.size a)
theorem k0_idx519_inb : ∀ (v2949 : IVec S16 32) (v2952 : IVec S16 32) (v3414 : IVec S16 32) (k0_hw519 : k0_chk519 v2949 v2952 v3414), ∀ a x, ((![v3414, v2949, v2952] : Fin 3 → IVec S16 32) a x).toNat < S16x128x16.size a := fun v2949 v2952 v3414 k0_hw519 => k0_hw519

def k0_chk520 (v2958 : IVec S16 32) (v2961 : IVec S16 32) (v3418 : IVec S16 32) : Prop :=
  (∀ a x, ((![v3418, v2958, v2961] : Fin 3 → IVec S16 32) a x).toNat < S16x128x16.size a)
theorem k0_idx520_inb : ∀ (v2958 : IVec S16 32) (v2961 : IVec S16 32) (v3418 : IVec S16 32) (k0_hw520 : k0_chk520 v2958 v2961 v3418), ∀ a x, ((![v3418, v2958, v2961] : Fin 3 → IVec S16 32) a x).toNat < S16x128x16.size a := fun v2958 v2961 v3418 k0_hw520 => k0_hw520

def k0_chk521 (v2967 : IVec S16 32) (v2970 : IVec S16 32) (v3422 : IVec S16 32) : Prop :=
  (∀ a x, ((![v3422, v2967, v2970] : Fin 3 → IVec S16 32) a x).toNat < S16x128x16.size a)
theorem k0_idx521_inb : ∀ (v2967 : IVec S16 32) (v2970 : IVec S16 32) (v3422 : IVec S16 32) (k0_hw521 : k0_chk521 v2967 v2970 v3422), ∀ a x, ((![v3422, v2967, v2970] : Fin 3 → IVec S16 32) a x).toNat < S16x128x16.size a := fun v2967 v2970 v3422 k0_hw521 => k0_hw521

def k0_chk522 (v2976 : IVec S16 32) (v2979 : IVec S16 32) (v3427 : IVec S16 32) : Prop :=
  (∀ a x, ((![v3427, v2976, v2979] : Fin 3 → IVec S16 32) a x).toNat < S16x128x16.size a)
theorem k0_idx522_inb : ∀ (v2976 : IVec S16 32) (v2979 : IVec S16 32) (v3427 : IVec S16 32) (k0_hw522 : k0_chk522 v2976 v2979 v3427), ∀ a x, ((![v3427, v2976, v2979] : Fin 3 → IVec S16 32) a x).toNat < S16x128x16.size a := fun v2976 v2979 v3427 k0_hw522 => k0_hw522

def k0_chk523 (v2985 : IVec S16 32) (v2988 : IVec S16 32) (v3431 : IVec S16 32) : Prop :=
  (∀ a x, ((![v3431, v2985, v2988] : Fin 3 → IVec S16 32) a x).toNat < S16x128x16.size a)
theorem k0_idx523_inb : ∀ (v2985 : IVec S16 32) (v2988 : IVec S16 32) (v3431 : IVec S16 32) (k0_hw523 : k0_chk523 v2985 v2988 v3431), ∀ a x, ((![v3431, v2985, v2988] : Fin 3 → IVec S16 32) a x).toNat < S16x128x16.size a := fun v2985 v2988 v3431 k0_hw523 => k0_hw523

def k0_chk524 (v2994 : IVec S16 32) (v2997 : IVec S16 32) (v3435 : IVec S16 32) : Prop :=
  (∀ a x, ((![v3435, v2994, v2997] : Fin 3 → IVec S16 32) a x).toNat < S16x128x16.size a)
theorem k0_idx524_inb : ∀ (v2994 : IVec S16 32) (v2997 : IVec S16 32) (v3435 : IVec S16 32) (k0_hw524 : k0_chk524 v2994 v2997 v3435), ∀ a x, ((![v3435, v2994, v2997] : Fin 3 → IVec S16 32) a x).toNat < S16x128x16.size a := fun v2994 v2997 v3435 k0_hw524 => k0_hw524

def k0_chk525 (v3003 : IVec S16 32) (v3006 : IVec S16 32) (v3440 : IVec S16 32) : Prop :=
  (∀ a x, ((![v3440, v3003, v3006] : Fin 3 → IVec S16 32) a x).toNat < S16x128x16.size a)
theorem k0_idx525_inb : ∀ (v3003 : IVec S16 32) (v3006 : IVec S16 32) (v3440 : IVec S16 32) (k0_hw525 : k0_chk525 v3003 v3006 v3440), ∀ a x, ((![v3440, v3003, v3006] : Fin 3 → IVec S16 32) a x).toNat < S16x128x16.size a := fun v3003 v3006 v3440 k0_hw525 => k0_hw525

def k0_chk526 (v3012 : IVec S16 32) (v3015 : IVec S16 32) (v3444 : IVec S16 32) : Prop :=
  (∀ a x, ((![v3444, v3012, v3015] : Fin 3 → IVec S16 32) a x).toNat < S16x128x16.size a)
theorem k0_idx526_inb : ∀ (v3012 : IVec S16 32) (v3015 : IVec S16 32) (v3444 : IVec S16 32) (k0_hw526 : k0_chk526 v3012 v3015 v3444), ∀ a x, ((![v3444, v3012, v3015] : Fin 3 → IVec S16 32) a x).toNat < S16x128x16.size a := fun v3012 v3015 v3444 k0_hw526 => k0_hw526

def k0_chk527 (v3021 : IVec S16 32) (v3024 : IVec S16 32) (v3448 : IVec S16 32) : Prop :=
  (∀ a x, ((![v3448, v3021, v3024] : Fin 3 → IVec S16 32) a x).toNat < S16x128x16.size a)
theorem k0_idx527_inb : ∀ (v3021 : IVec S16 32) (v3024 : IVec S16 32) (v3448 : IVec S16 32) (k0_hw527 : k0_chk527 v3021 v3024 v3448), ∀ a x, ((![v3448, v3021, v3024] : Fin 3 → IVec S16 32) a x).toNat < S16x128x16.size a := fun v3021 v3024 v3448 k0_hw527 => k0_hw527

def k0_chk528 (v2922 : IVec S16 32) (v2925 : IVec S16 32) (v3454 : IVec S16 32) : Prop :=
  (∀ a x, ((![v3454, v2922, v2925] : Fin 3 → IVec S16 32) a x).toNat < S16x128x16.size a)
theorem k0_idx528_inb : ∀ (v2922 : IVec S16 32) (v2925 : IVec S16 32) (v3454 : IVec S16 32) (k0_hw528 : k0_chk528 v2922 v2925 v3454), ∀ a x, ((![v3454, v2922, v2925] : Fin 3 → IVec S16 32) a x).toNat < S16x128x16.size a := fun v2922 v2925 v3454 k0_hw528 => k0_hw528

def k0_chk529 (v2931 : IVec S16 32) (v2934 : IVec S16 32) (v3458 : IVec S16 32) : Prop :=
  (∀ a x, ((![v3458, v2931, v2934] : Fin 3 → IVec S16 32) a x).toNat < S16x128x16.size a)
theorem k0_idx529_inb : ∀ (v2931 : IVec S16 32) (v2934 : IVec S16 32) (v3458 : IVec S16 32) (k0_hw529 : k0_chk529 v2931 v2934 v3458), ∀ a x, ((![v3458, v2931, v2934] : Fin 3 → IVec S16 32) a x).toNat < S16x128x16.size a := fun v2931 v2934 v3458 k0_hw529 => k0_hw529

def k0_chk530 (v2940 : IVec S16 32) (v2943 : IVec S16 32) (v3462 : IVec S16 32) : Prop :=
  (∀ a x, ((![v3462, v2940, v2943] : Fin 3 → IVec S16 32) a x).toNat < S16x128x16.size a)
theorem k0_idx530_inb : ∀ (v2940 : IVec S16 32) (v2943 : IVec S16 32) (v3462 : IVec S16 32) (k0_hw530 : k0_chk530 v2940 v2943 v3462), ∀ a x, ((![v3462, v2940, v2943] : Fin 3 → IVec S16 32) a x).toNat < S16x128x16.size a := fun v2940 v2943 v3462 k0_hw530 => k0_hw530

def k0_chk531 (v2949 : IVec S16 32) (v2952 : IVec S16 32) (v3467 : IVec S16 32) : Prop :=
  (∀ a x, ((![v3467, v2949, v2952] : Fin 3 → IVec S16 32) a x).toNat < S16x128x16.size a)
theorem k0_idx531_inb : ∀ (v2949 : IVec S16 32) (v2952 : IVec S16 32) (v3467 : IVec S16 32) (k0_hw531 : k0_chk531 v2949 v2952 v3467), ∀ a x, ((![v3467, v2949, v2952] : Fin 3 → IVec S16 32) a x).toNat < S16x128x16.size a := fun v2949 v2952 v3467 k0_hw531 => k0_hw531

def k0_chk532 (v2958 : IVec S16 32) (v2961 : IVec S16 32) (v3471 : IVec S16 32) : Prop :=
  (∀ a x, ((![v3471, v2958, v2961] : Fin 3 → IVec S16 32) a x).toNat < S16x128x16.size a)
theorem k0_idx532_inb : ∀ (v2958 : IVec S16 32) (v2961 : IVec S16 32) (v3471 : IVec S16 32) (k0_hw532 : k0_chk532 v2958 v2961 v3471), ∀ a x, ((![v3471, v2958, v2961] : Fin 3 → IVec S16 32) a x).toNat < S16x128x16.size a := fun v2958 v2961 v3471 k0_hw532 => k0_hw532

def k0_chk533 (v2967 : IVec S16 32) (v2970 : IVec S16 32) (v3475 : IVec S16 32) : Prop :=
  (∀ a x, ((![v3475, v2967, v2970] : Fin 3 → IVec S16 32) a x).toNat < S16x128x16.size a)
theorem k0_idx533_inb : ∀ (v2967 : IVec S16 32) (v2970 : IVec S16 32) (v3475 : IVec S16 32) (k0_hw533 : k0_chk533 v2967 v2970 v3475), ∀ a x, ((![v3475, v2967, v2970] : Fin 3 → IVec S16 32) a x).toNat < S16x128x16.size a := fun v2967 v2970 v3475 k0_hw533 => k0_hw533

def k0_chk534 (v2976 : IVec S16 32) (v2979 : IVec S16 32) (v3480 : IVec S16 32) : Prop :=
  (∀ a x, ((![v3480, v2976, v2979] : Fin 3 → IVec S16 32) a x).toNat < S16x128x16.size a)
theorem k0_idx534_inb : ∀ (v2976 : IVec S16 32) (v2979 : IVec S16 32) (v3480 : IVec S16 32) (k0_hw534 : k0_chk534 v2976 v2979 v3480), ∀ a x, ((![v3480, v2976, v2979] : Fin 3 → IVec S16 32) a x).toNat < S16x128x16.size a := fun v2976 v2979 v3480 k0_hw534 => k0_hw534

def k0_chk535 (v2985 : IVec S16 32) (v2988 : IVec S16 32) (v3484 : IVec S16 32) : Prop :=
  (∀ a x, ((![v3484, v2985, v2988] : Fin 3 → IVec S16 32) a x).toNat < S16x128x16.size a)
theorem k0_idx535_inb : ∀ (v2985 : IVec S16 32) (v2988 : IVec S16 32) (v3484 : IVec S16 32) (k0_hw535 : k0_chk535 v2985 v2988 v3484), ∀ a x, ((![v3484, v2985, v2988] : Fin 3 → IVec S16 32) a x).toNat < S16x128x16.size a := fun v2985 v2988 v3484 k0_hw535 => k0_hw535

def k0_chk536 (v2994 : IVec S16 32) (v2997 : IVec S16 32) (v3488 : IVec S16 32) : Prop :=
  (∀ a x, ((![v3488, v2994, v2997] : Fin 3 → IVec S16 32) a x).toNat < S16x128x16.size a)
theorem k0_idx536_inb : ∀ (v2994 : IVec S16 32) (v2997 : IVec S16 32) (v3488 : IVec S16 32) (k0_hw536 : k0_chk536 v2994 v2997 v3488), ∀ a x, ((![v3488, v2994, v2997] : Fin 3 → IVec S16 32) a x).toNat < S16x128x16.size a := fun v2994 v2997 v3488 k0_hw536 => k0_hw536

def k0_chk537 (v3003 : IVec S16 32) (v3006 : IVec S16 32) (v3493 : IVec S16 32) : Prop :=
  (∀ a x, ((![v3493, v3003, v3006] : Fin 3 → IVec S16 32) a x).toNat < S16x128x16.size a)
theorem k0_idx537_inb : ∀ (v3003 : IVec S16 32) (v3006 : IVec S16 32) (v3493 : IVec S16 32) (k0_hw537 : k0_chk537 v3003 v3006 v3493), ∀ a x, ((![v3493, v3003, v3006] : Fin 3 → IVec S16 32) a x).toNat < S16x128x16.size a := fun v3003 v3006 v3493 k0_hw537 => k0_hw537

def k0_chk538 (v3012 : IVec S16 32) (v3015 : IVec S16 32) (v3497 : IVec S16 32) : Prop :=
  (∀ a x, ((![v3497, v3012, v3015] : Fin 3 → IVec S16 32) a x).toNat < S16x128x16.size a)
theorem k0_idx538_inb : ∀ (v3012 : IVec S16 32) (v3015 : IVec S16 32) (v3497 : IVec S16 32) (k0_hw538 : k0_chk538 v3012 v3015 v3497), ∀ a x, ((![v3497, v3012, v3015] : Fin 3 → IVec S16 32) a x).toNat < S16x128x16.size a := fun v3012 v3015 v3497 k0_hw538 => k0_hw538

def k0_chk539 (v3021 : IVec S16 32) (v3024 : IVec S16 32) (v3501 : IVec S16 32) : Prop :=
  (∀ a x, ((![v3501, v3021, v3024] : Fin 3 → IVec S16 32) a x).toNat < S16x128x16.size a)
theorem k0_idx539_inb : ∀ (v3021 : IVec S16 32) (v3024 : IVec S16 32) (v3501 : IVec S16 32) (k0_hw539 : k0_chk539 v3021 v3024 v3501), ∀ a x, ((![v3501, v3021, v3024] : Fin 3 → IVec S16 32) a x).toNat < S16x128x16.size a := fun v3021 v3024 v3501 k0_hw539 => k0_hw539

def k0_chk540 (v2922 : IVec S16 32) (v2925 : IVec S16 32) (v3507 : IVec S16 32) : Prop :=
  (∀ a x, ((![v3507, v2922, v2925] : Fin 3 → IVec S16 32) a x).toNat < S16x128x16.size a)
theorem k0_idx540_inb : ∀ (v2922 : IVec S16 32) (v2925 : IVec S16 32) (v3507 : IVec S16 32) (k0_hw540 : k0_chk540 v2922 v2925 v3507), ∀ a x, ((![v3507, v2922, v2925] : Fin 3 → IVec S16 32) a x).toNat < S16x128x16.size a := fun v2922 v2925 v3507 k0_hw540 => k0_hw540

def k0_chk541 (v2931 : IVec S16 32) (v2934 : IVec S16 32) (v3511 : IVec S16 32) : Prop :=
  (∀ a x, ((![v3511, v2931, v2934] : Fin 3 → IVec S16 32) a x).toNat < S16x128x16.size a)
theorem k0_idx541_inb : ∀ (v2931 : IVec S16 32) (v2934 : IVec S16 32) (v3511 : IVec S16 32) (k0_hw541 : k0_chk541 v2931 v2934 v3511), ∀ a x, ((![v3511, v2931, v2934] : Fin 3 → IVec S16 32) a x).toNat < S16x128x16.size a := fun v2931 v2934 v3511 k0_hw541 => k0_hw541

def k0_chk542 (v2940 : IVec S16 32) (v2943 : IVec S16 32) (v3515 : IVec S16 32) : Prop :=
  (∀ a x, ((![v3515, v2940, v2943] : Fin 3 → IVec S16 32) a x).toNat < S16x128x16.size a)
theorem k0_idx542_inb : ∀ (v2940 : IVec S16 32) (v2943 : IVec S16 32) (v3515 : IVec S16 32) (k0_hw542 : k0_chk542 v2940 v2943 v3515), ∀ a x, ((![v3515, v2940, v2943] : Fin 3 → IVec S16 32) a x).toNat < S16x128x16.size a := fun v2940 v2943 v3515 k0_hw542 => k0_hw542

def k0_chk543 (v2949 : IVec S16 32) (v2952 : IVec S16 32) (v3520 : IVec S16 32) : Prop :=
  (∀ a x, ((![v3520, v2949, v2952] : Fin 3 → IVec S16 32) a x).toNat < S16x128x16.size a)
theorem k0_idx543_inb : ∀ (v2949 : IVec S16 32) (v2952 : IVec S16 32) (v3520 : IVec S16 32) (k0_hw543 : k0_chk543 v2949 v2952 v3520), ∀ a x, ((![v3520, v2949, v2952] : Fin 3 → IVec S16 32) a x).toNat < S16x128x16.size a := fun v2949 v2952 v3520 k0_hw543 => k0_hw543

def k0_chk544 (v2958 : IVec S16 32) (v2961 : IVec S16 32) (v3524 : IVec S16 32) : Prop :=
  (∀ a x, ((![v3524, v2958, v2961] : Fin 3 → IVec S16 32) a x).toNat < S16x128x16.size a)
theorem k0_idx544_inb : ∀ (v2958 : IVec S16 32) (v2961 : IVec S16 32) (v3524 : IVec S16 32) (k0_hw544 : k0_chk544 v2958 v2961 v3524), ∀ a x, ((![v3524, v2958, v2961] : Fin 3 → IVec S16 32) a x).toNat < S16x128x16.size a := fun v2958 v2961 v3524 k0_hw544 => k0_hw544

def k0_chk545 (v2967 : IVec S16 32) (v2970 : IVec S16 32) (v3528 : IVec S16 32) : Prop :=
  (∀ a x, ((![v3528, v2967, v2970] : Fin 3 → IVec S16 32) a x).toNat < S16x128x16.size a)
theorem k0_idx545_inb : ∀ (v2967 : IVec S16 32) (v2970 : IVec S16 32) (v3528 : IVec S16 32) (k0_hw545 : k0_chk545 v2967 v2970 v3528), ∀ a x, ((![v3528, v2967, v2970] : Fin 3 → IVec S16 32) a x).toNat < S16x128x16.size a := fun v2967 v2970 v3528 k0_hw545 => k0_hw545

def k0_chk546 (v2976 : IVec S16 32) (v2979 : IVec S16 32) (v3533 : IVec S16 32) : Prop :=
  (∀ a x, ((![v3533, v2976, v2979] : Fin 3 → IVec S16 32) a x).toNat < S16x128x16.size a)
theorem k0_idx546_inb : ∀ (v2976 : IVec S16 32) (v2979 : IVec S16 32) (v3533 : IVec S16 32) (k0_hw546 : k0_chk546 v2976 v2979 v3533), ∀ a x, ((![v3533, v2976, v2979] : Fin 3 → IVec S16 32) a x).toNat < S16x128x16.size a := fun v2976 v2979 v3533 k0_hw546 => k0_hw546

def k0_chk547 (v2985 : IVec S16 32) (v2988 : IVec S16 32) (v3537 : IVec S16 32) : Prop :=
  (∀ a x, ((![v3537, v2985, v2988] : Fin 3 → IVec S16 32) a x).toNat < S16x128x16.size a)
theorem k0_idx547_inb : ∀ (v2985 : IVec S16 32) (v2988 : IVec S16 32) (v3537 : IVec S16 32) (k0_hw547 : k0_chk547 v2985 v2988 v3537), ∀ a x, ((![v3537, v2985, v2988] : Fin 3 → IVec S16 32) a x).toNat < S16x128x16.size a := fun v2985 v2988 v3537 k0_hw547 => k0_hw547

def k0_chk548 (v2994 : IVec S16 32) (v2997 : IVec S16 32) (v3541 : IVec S16 32) : Prop :=
  (∀ a x, ((![v3541, v2994, v2997] : Fin 3 → IVec S16 32) a x).toNat < S16x128x16.size a)
theorem k0_idx548_inb : ∀ (v2994 : IVec S16 32) (v2997 : IVec S16 32) (v3541 : IVec S16 32) (k0_hw548 : k0_chk548 v2994 v2997 v3541), ∀ a x, ((![v3541, v2994, v2997] : Fin 3 → IVec S16 32) a x).toNat < S16x128x16.size a := fun v2994 v2997 v3541 k0_hw548 => k0_hw548

def k0_chk549 (v3003 : IVec S16 32) (v3006 : IVec S16 32) (v3546 : IVec S16 32) : Prop :=
  (∀ a x, ((![v3546, v3003, v3006] : Fin 3 → IVec S16 32) a x).toNat < S16x128x16.size a)
theorem k0_idx549_inb : ∀ (v3003 : IVec S16 32) (v3006 : IVec S16 32) (v3546 : IVec S16 32) (k0_hw549 : k0_chk549 v3003 v3006 v3546), ∀ a x, ((![v3546, v3003, v3006] : Fin 3 → IVec S16 32) a x).toNat < S16x128x16.size a := fun v3003 v3006 v3546 k0_hw549 => k0_hw549

def k0_chk550 (v3012 : IVec S16 32) (v3015 : IVec S16 32) (v3550 : IVec S16 32) : Prop :=
  (∀ a x, ((![v3550, v3012, v3015] : Fin 3 → IVec S16 32) a x).toNat < S16x128x16.size a)
theorem k0_idx550_inb : ∀ (v3012 : IVec S16 32) (v3015 : IVec S16 32) (v3550 : IVec S16 32) (k0_hw550 : k0_chk550 v3012 v3015 v3550), ∀ a x, ((![v3550, v3012, v3015] : Fin 3 → IVec S16 32) a x).toNat < S16x128x16.size a := fun v3012 v3015 v3550 k0_hw550 => k0_hw550

def k0_chk551 (v3021 : IVec S16 32) (v3024 : IVec S16 32) (v3554 : IVec S16 32) : Prop :=
  (∀ a x, ((![v3554, v3021, v3024] : Fin 3 → IVec S16 32) a x).toNat < S16x128x16.size a)
theorem k0_idx551_inb : ∀ (v3021 : IVec S16 32) (v3024 : IVec S16 32) (v3554 : IVec S16 32) (k0_hw551 : k0_chk551 v3021 v3024 v3554), ∀ a x, ((![v3554, v3021, v3024] : Fin 3 → IVec S16 32) a x).toNat < S16x128x16.size a := fun v3021 v3024 v3554 k0_hw551 => k0_hw551

def k0_chk552 (v2922 : IVec S16 32) (v2925 : IVec S16 32) (v3560 : IVec S16 32) : Prop :=
  (∀ a x, ((![v3560, v2922, v2925] : Fin 3 → IVec S16 32) a x).toNat < S16x128x16.size a)
theorem k0_idx552_inb : ∀ (v2922 : IVec S16 32) (v2925 : IVec S16 32) (v3560 : IVec S16 32) (k0_hw552 : k0_chk552 v2922 v2925 v3560), ∀ a x, ((![v3560, v2922, v2925] : Fin 3 → IVec S16 32) a x).toNat < S16x128x16.size a := fun v2922 v2925 v3560 k0_hw552 => k0_hw552

def k0_chk553 (v2931 : IVec S16 32) (v2934 : IVec S16 32) (v3564 : IVec S16 32) : Prop :=
  (∀ a x, ((![v3564, v2931, v2934] : Fin 3 → IVec S16 32) a x).toNat < S16x128x16.size a)
theorem k0_idx553_inb : ∀ (v2931 : IVec S16 32) (v2934 : IVec S16 32) (v3564 : IVec S16 32) (k0_hw553 : k0_chk553 v2931 v2934 v3564), ∀ a x, ((![v3564, v2931, v2934] : Fin 3 → IVec S16 32) a x).toNat < S16x128x16.size a := fun v2931 v2934 v3564 k0_hw553 => k0_hw553

def k0_chk554 (v2940 : IVec S16 32) (v2943 : IVec S16 32) (v3568 : IVec S16 32) : Prop :=
  (∀ a x, ((![v3568, v2940, v2943] : Fin 3 → IVec S16 32) a x).toNat < S16x128x16.size a)
theorem k0_idx554_inb : ∀ (v2940 : IVec S16 32) (v2943 : IVec S16 32) (v3568 : IVec S16 32) (k0_hw554 : k0_chk554 v2940 v2943 v3568), ∀ a x, ((![v3568, v2940, v2943] : Fin 3 → IVec S16 32) a x).toNat < S16x128x16.size a := fun v2940 v2943 v3568 k0_hw554 => k0_hw554

def k0_chk555 (v2949 : IVec S16 32) (v2952 : IVec S16 32) (v3573 : IVec S16 32) : Prop :=
  (∀ a x, ((![v3573, v2949, v2952] : Fin 3 → IVec S16 32) a x).toNat < S16x128x16.size a)
theorem k0_idx555_inb : ∀ (v2949 : IVec S16 32) (v2952 : IVec S16 32) (v3573 : IVec S16 32) (k0_hw555 : k0_chk555 v2949 v2952 v3573), ∀ a x, ((![v3573, v2949, v2952] : Fin 3 → IVec S16 32) a x).toNat < S16x128x16.size a := fun v2949 v2952 v3573 k0_hw555 => k0_hw555

def k0_chk556 (v2958 : IVec S16 32) (v2961 : IVec S16 32) (v3577 : IVec S16 32) : Prop :=
  (∀ a x, ((![v3577, v2958, v2961] : Fin 3 → IVec S16 32) a x).toNat < S16x128x16.size a)
theorem k0_idx556_inb : ∀ (v2958 : IVec S16 32) (v2961 : IVec S16 32) (v3577 : IVec S16 32) (k0_hw556 : k0_chk556 v2958 v2961 v3577), ∀ a x, ((![v3577, v2958, v2961] : Fin 3 → IVec S16 32) a x).toNat < S16x128x16.size a := fun v2958 v2961 v3577 k0_hw556 => k0_hw556

def k0_chk557 (v2967 : IVec S16 32) (v2970 : IVec S16 32) (v3581 : IVec S16 32) : Prop :=
  (∀ a x, ((![v3581, v2967, v2970] : Fin 3 → IVec S16 32) a x).toNat < S16x128x16.size a)
theorem k0_idx557_inb : ∀ (v2967 : IVec S16 32) (v2970 : IVec S16 32) (v3581 : IVec S16 32) (k0_hw557 : k0_chk557 v2967 v2970 v3581), ∀ a x, ((![v3581, v2967, v2970] : Fin 3 → IVec S16 32) a x).toNat < S16x128x16.size a := fun v2967 v2970 v3581 k0_hw557 => k0_hw557

def k0_chk558 (v2976 : IVec S16 32) (v2979 : IVec S16 32) (v3586 : IVec S16 32) : Prop :=
  (∀ a x, ((![v3586, v2976, v2979] : Fin 3 → IVec S16 32) a x).toNat < S16x128x16.size a)
theorem k0_idx558_inb : ∀ (v2976 : IVec S16 32) (v2979 : IVec S16 32) (v3586 : IVec S16 32) (k0_hw558 : k0_chk558 v2976 v2979 v3586), ∀ a x, ((![v3586, v2976, v2979] : Fin 3 → IVec S16 32) a x).toNat < S16x128x16.size a := fun v2976 v2979 v3586 k0_hw558 => k0_hw558

def k0_chk559 (v2985 : IVec S16 32) (v2988 : IVec S16 32) (v3590 : IVec S16 32) : Prop :=
  (∀ a x, ((![v3590, v2985, v2988] : Fin 3 → IVec S16 32) a x).toNat < S16x128x16.size a)
theorem k0_idx559_inb : ∀ (v2985 : IVec S16 32) (v2988 : IVec S16 32) (v3590 : IVec S16 32) (k0_hw559 : k0_chk559 v2985 v2988 v3590), ∀ a x, ((![v3590, v2985, v2988] : Fin 3 → IVec S16 32) a x).toNat < S16x128x16.size a := fun v2985 v2988 v3590 k0_hw559 => k0_hw559

def k0_chk560 (v2994 : IVec S16 32) (v2997 : IVec S16 32) (v3594 : IVec S16 32) : Prop :=
  (∀ a x, ((![v3594, v2994, v2997] : Fin 3 → IVec S16 32) a x).toNat < S16x128x16.size a)
theorem k0_idx560_inb : ∀ (v2994 : IVec S16 32) (v2997 : IVec S16 32) (v3594 : IVec S16 32) (k0_hw560 : k0_chk560 v2994 v2997 v3594), ∀ a x, ((![v3594, v2994, v2997] : Fin 3 → IVec S16 32) a x).toNat < S16x128x16.size a := fun v2994 v2997 v3594 k0_hw560 => k0_hw560

def k0_chk561 (v3003 : IVec S16 32) (v3006 : IVec S16 32) (v3599 : IVec S16 32) : Prop :=
  (∀ a x, ((![v3599, v3003, v3006] : Fin 3 → IVec S16 32) a x).toNat < S16x128x16.size a)
theorem k0_idx561_inb : ∀ (v3003 : IVec S16 32) (v3006 : IVec S16 32) (v3599 : IVec S16 32) (k0_hw561 : k0_chk561 v3003 v3006 v3599), ∀ a x, ((![v3599, v3003, v3006] : Fin 3 → IVec S16 32) a x).toNat < S16x128x16.size a := fun v3003 v3006 v3599 k0_hw561 => k0_hw561

def k0_chk562 (v3012 : IVec S16 32) (v3015 : IVec S16 32) (v3603 : IVec S16 32) : Prop :=
  (∀ a x, ((![v3603, v3012, v3015] : Fin 3 → IVec S16 32) a x).toNat < S16x128x16.size a)
theorem k0_idx562_inb : ∀ (v3012 : IVec S16 32) (v3015 : IVec S16 32) (v3603 : IVec S16 32) (k0_hw562 : k0_chk562 v3012 v3015 v3603), ∀ a x, ((![v3603, v3012, v3015] : Fin 3 → IVec S16 32) a x).toNat < S16x128x16.size a := fun v3012 v3015 v3603 k0_hw562 => k0_hw562

def k0_chk563 (v3021 : IVec S16 32) (v3024 : IVec S16 32) (v3607 : IVec S16 32) : Prop :=
  (∀ a x, ((![v3607, v3021, v3024] : Fin 3 → IVec S16 32) a x).toNat < S16x128x16.size a)
theorem k0_idx563_inb : ∀ (v3021 : IVec S16 32) (v3024 : IVec S16 32) (v3607 : IVec S16 32) (k0_hw563 : k0_chk563 v3021 v3024 v3607), ∀ a x, ((![v3607, v3021, v3024] : Fin 3 → IVec S16 32) a x).toNat < S16x128x16.size a := fun v3021 v3024 v3607 k0_hw563 => k0_hw563

def k0_chk564 (v2922 : IVec S16 32) (v2925 : IVec S16 32) (v3613 : IVec S16 32) : Prop :=
  (∀ a x, ((![v3613, v2922, v2925] : Fin 3 → IVec S16 32) a x).toNat < S16x128x16.size a)
theorem k0_idx564_inb : ∀ (v2922 : IVec S16 32) (v2925 : IVec S16 32) (v3613 : IVec S16 32) (k0_hw564 : k0_chk564 v2922 v2925 v3613), ∀ a x, ((![v3613, v2922, v2925] : Fin 3 → IVec S16 32) a x).toNat < S16x128x16.size a := fun v2922 v2925 v3613 k0_hw564 => k0_hw564

def k0_chk565 (v2931 : IVec S16 32) (v2934 : IVec S16 32) (v3617 : IVec S16 32) : Prop :=
  (∀ a x, ((![v3617, v2931, v2934] : Fin 3 → IVec S16 32) a x).toNat < S16x128x16.size a)
theorem k0_idx565_inb : ∀ (v2931 : IVec S16 32) (v2934 : IVec S16 32) (v3617 : IVec S16 32) (k0_hw565 : k0_chk565 v2931 v2934 v3617), ∀ a x, ((![v3617, v2931, v2934] : Fin 3 → IVec S16 32) a x).toNat < S16x128x16.size a := fun v2931 v2934 v3617 k0_hw565 => k0_hw565

def k0_chk566 (v2940 : IVec S16 32) (v2943 : IVec S16 32) (v3621 : IVec S16 32) : Prop :=
  (∀ a x, ((![v3621, v2940, v2943] : Fin 3 → IVec S16 32) a x).toNat < S16x128x16.size a)
theorem k0_idx566_inb : ∀ (v2940 : IVec S16 32) (v2943 : IVec S16 32) (v3621 : IVec S16 32) (k0_hw566 : k0_chk566 v2940 v2943 v3621), ∀ a x, ((![v3621, v2940, v2943] : Fin 3 → IVec S16 32) a x).toNat < S16x128x16.size a := fun v2940 v2943 v3621 k0_hw566 => k0_hw566

def k0_chk567 (v2949 : IVec S16 32) (v2952 : IVec S16 32) (v3626 : IVec S16 32) : Prop :=
  (∀ a x, ((![v3626, v2949, v2952] : Fin 3 → IVec S16 32) a x).toNat < S16x128x16.size a)
theorem k0_idx567_inb : ∀ (v2949 : IVec S16 32) (v2952 : IVec S16 32) (v3626 : IVec S16 32) (k0_hw567 : k0_chk567 v2949 v2952 v3626), ∀ a x, ((![v3626, v2949, v2952] : Fin 3 → IVec S16 32) a x).toNat < S16x128x16.size a := fun v2949 v2952 v3626 k0_hw567 => k0_hw567

def k0_chk568 (v2958 : IVec S16 32) (v2961 : IVec S16 32) (v3630 : IVec S16 32) : Prop :=
  (∀ a x, ((![v3630, v2958, v2961] : Fin 3 → IVec S16 32) a x).toNat < S16x128x16.size a)
theorem k0_idx568_inb : ∀ (v2958 : IVec S16 32) (v2961 : IVec S16 32) (v3630 : IVec S16 32) (k0_hw568 : k0_chk568 v2958 v2961 v3630), ∀ a x, ((![v3630, v2958, v2961] : Fin 3 → IVec S16 32) a x).toNat < S16x128x16.size a := fun v2958 v2961 v3630 k0_hw568 => k0_hw568

def k0_chk569 (v2967 : IVec S16 32) (v2970 : IVec S16 32) (v3634 : IVec S16 32) : Prop :=
  (∀ a x, ((![v3634, v2967, v2970] : Fin 3 → IVec S16 32) a x).toNat < S16x128x16.size a)
theorem k0_idx569_inb : ∀ (v2967 : IVec S16 32) (v2970 : IVec S16 32) (v3634 : IVec S16 32) (k0_hw569 : k0_chk569 v2967 v2970 v3634), ∀ a x, ((![v3634, v2967, v2970] : Fin 3 → IVec S16 32) a x).toNat < S16x128x16.size a := fun v2967 v2970 v3634 k0_hw569 => k0_hw569

def k0_chk570 (v2976 : IVec S16 32) (v2979 : IVec S16 32) (v3639 : IVec S16 32) : Prop :=
  (∀ a x, ((![v3639, v2976, v2979] : Fin 3 → IVec S16 32) a x).toNat < S16x128x16.size a)
theorem k0_idx570_inb : ∀ (v2976 : IVec S16 32) (v2979 : IVec S16 32) (v3639 : IVec S16 32) (k0_hw570 : k0_chk570 v2976 v2979 v3639), ∀ a x, ((![v3639, v2976, v2979] : Fin 3 → IVec S16 32) a x).toNat < S16x128x16.size a := fun v2976 v2979 v3639 k0_hw570 => k0_hw570

def k0_chk571 (v2985 : IVec S16 32) (v2988 : IVec S16 32) (v3643 : IVec S16 32) : Prop :=
  (∀ a x, ((![v3643, v2985, v2988] : Fin 3 → IVec S16 32) a x).toNat < S16x128x16.size a)
theorem k0_idx571_inb : ∀ (v2985 : IVec S16 32) (v2988 : IVec S16 32) (v3643 : IVec S16 32) (k0_hw571 : k0_chk571 v2985 v2988 v3643), ∀ a x, ((![v3643, v2985, v2988] : Fin 3 → IVec S16 32) a x).toNat < S16x128x16.size a := fun v2985 v2988 v3643 k0_hw571 => k0_hw571

def k0_chk572 (v2994 : IVec S16 32) (v2997 : IVec S16 32) (v3647 : IVec S16 32) : Prop :=
  (∀ a x, ((![v3647, v2994, v2997] : Fin 3 → IVec S16 32) a x).toNat < S16x128x16.size a)
theorem k0_idx572_inb : ∀ (v2994 : IVec S16 32) (v2997 : IVec S16 32) (v3647 : IVec S16 32) (k0_hw572 : k0_chk572 v2994 v2997 v3647), ∀ a x, ((![v3647, v2994, v2997] : Fin 3 → IVec S16 32) a x).toNat < S16x128x16.size a := fun v2994 v2997 v3647 k0_hw572 => k0_hw572

def k0_chk573 (v3003 : IVec S16 32) (v3006 : IVec S16 32) (v3652 : IVec S16 32) : Prop :=
  (∀ a x, ((![v3652, v3003, v3006] : Fin 3 → IVec S16 32) a x).toNat < S16x128x16.size a)
theorem k0_idx573_inb : ∀ (v3003 : IVec S16 32) (v3006 : IVec S16 32) (v3652 : IVec S16 32) (k0_hw573 : k0_chk573 v3003 v3006 v3652), ∀ a x, ((![v3652, v3003, v3006] : Fin 3 → IVec S16 32) a x).toNat < S16x128x16.size a := fun v3003 v3006 v3652 k0_hw573 => k0_hw573

def k0_chk574 (v3012 : IVec S16 32) (v3015 : IVec S16 32) (v3656 : IVec S16 32) : Prop :=
  (∀ a x, ((![v3656, v3012, v3015] : Fin 3 → IVec S16 32) a x).toNat < S16x128x16.size a)
theorem k0_idx574_inb : ∀ (v3012 : IVec S16 32) (v3015 : IVec S16 32) (v3656 : IVec S16 32) (k0_hw574 : k0_chk574 v3012 v3015 v3656), ∀ a x, ((![v3656, v3012, v3015] : Fin 3 → IVec S16 32) a x).toNat < S16x128x16.size a := fun v3012 v3015 v3656 k0_hw574 => k0_hw574

def k0_chk575 (v3021 : IVec S16 32) (v3024 : IVec S16 32) (v3660 : IVec S16 32) : Prop :=
  (∀ a x, ((![v3660, v3021, v3024] : Fin 3 → IVec S16 32) a x).toNat < S16x128x16.size a)
theorem k0_idx575_inb : ∀ (v3021 : IVec S16 32) (v3024 : IVec S16 32) (v3660 : IVec S16 32) (k0_hw575 : k0_chk575 v3021 v3024 v3660), ∀ a x, ((![v3660, v3021, v3024] : Fin 3 → IVec S16 32) a x).toNat < S16x128x16.size a := fun v3021 v3024 v3660 k0_hw575 => k0_hw575

def k0_chk576 (v2922 : IVec S16 32) (v2925 : IVec S16 32) (v3666 : IVec S16 32) : Prop :=
  (∀ a x, ((![v3666, v2922, v2925] : Fin 3 → IVec S16 32) a x).toNat < S16x128x16.size a)
theorem k0_idx576_inb : ∀ (v2922 : IVec S16 32) (v2925 : IVec S16 32) (v3666 : IVec S16 32) (k0_hw576 : k0_chk576 v2922 v2925 v3666), ∀ a x, ((![v3666, v2922, v2925] : Fin 3 → IVec S16 32) a x).toNat < S16x128x16.size a := fun v2922 v2925 v3666 k0_hw576 => k0_hw576

def k0_chk577 (v2931 : IVec S16 32) (v2934 : IVec S16 32) (v3670 : IVec S16 32) : Prop :=
  (∀ a x, ((![v3670, v2931, v2934] : Fin 3 → IVec S16 32) a x).toNat < S16x128x16.size a)
theorem k0_idx577_inb : ∀ (v2931 : IVec S16 32) (v2934 : IVec S16 32) (v3670 : IVec S16 32) (k0_hw577 : k0_chk577 v2931 v2934 v3670), ∀ a x, ((![v3670, v2931, v2934] : Fin 3 → IVec S16 32) a x).toNat < S16x128x16.size a := fun v2931 v2934 v3670 k0_hw577 => k0_hw577

def k0_chk578 (v2940 : IVec S16 32) (v2943 : IVec S16 32) (v3674 : IVec S16 32) : Prop :=
  (∀ a x, ((![v3674, v2940, v2943] : Fin 3 → IVec S16 32) a x).toNat < S16x128x16.size a)
theorem k0_idx578_inb : ∀ (v2940 : IVec S16 32) (v2943 : IVec S16 32) (v3674 : IVec S16 32) (k0_hw578 : k0_chk578 v2940 v2943 v3674), ∀ a x, ((![v3674, v2940, v2943] : Fin 3 → IVec S16 32) a x).toNat < S16x128x16.size a := fun v2940 v2943 v3674 k0_hw578 => k0_hw578

def k0_chk579 (v2949 : IVec S16 32) (v2952 : IVec S16 32) (v3679 : IVec S16 32) : Prop :=
  (∀ a x, ((![v3679, v2949, v2952] : Fin 3 → IVec S16 32) a x).toNat < S16x128x16.size a)
theorem k0_idx579_inb : ∀ (v2949 : IVec S16 32) (v2952 : IVec S16 32) (v3679 : IVec S16 32) (k0_hw579 : k0_chk579 v2949 v2952 v3679), ∀ a x, ((![v3679, v2949, v2952] : Fin 3 → IVec S16 32) a x).toNat < S16x128x16.size a := fun v2949 v2952 v3679 k0_hw579 => k0_hw579

def k0_chk580 (v2958 : IVec S16 32) (v2961 : IVec S16 32) (v3683 : IVec S16 32) : Prop :=
  (∀ a x, ((![v3683, v2958, v2961] : Fin 3 → IVec S16 32) a x).toNat < S16x128x16.size a)
theorem k0_idx580_inb : ∀ (v2958 : IVec S16 32) (v2961 : IVec S16 32) (v3683 : IVec S16 32) (k0_hw580 : k0_chk580 v2958 v2961 v3683), ∀ a x, ((![v3683, v2958, v2961] : Fin 3 → IVec S16 32) a x).toNat < S16x128x16.size a := fun v2958 v2961 v3683 k0_hw580 => k0_hw580

def k0_chk581 (v2967 : IVec S16 32) (v2970 : IVec S16 32) (v3687 : IVec S16 32) : Prop :=
  (∀ a x, ((![v3687, v2967, v2970] : Fin 3 → IVec S16 32) a x).toNat < S16x128x16.size a)
theorem k0_idx581_inb : ∀ (v2967 : IVec S16 32) (v2970 : IVec S16 32) (v3687 : IVec S16 32) (k0_hw581 : k0_chk581 v2967 v2970 v3687), ∀ a x, ((![v3687, v2967, v2970] : Fin 3 → IVec S16 32) a x).toNat < S16x128x16.size a := fun v2967 v2970 v3687 k0_hw581 => k0_hw581

def k0_chk582 (v2976 : IVec S16 32) (v2979 : IVec S16 32) (v3692 : IVec S16 32) : Prop :=
  (∀ a x, ((![v3692, v2976, v2979] : Fin 3 → IVec S16 32) a x).toNat < S16x128x16.size a)
theorem k0_idx582_inb : ∀ (v2976 : IVec S16 32) (v2979 : IVec S16 32) (v3692 : IVec S16 32) (k0_hw582 : k0_chk582 v2976 v2979 v3692), ∀ a x, ((![v3692, v2976, v2979] : Fin 3 → IVec S16 32) a x).toNat < S16x128x16.size a := fun v2976 v2979 v3692 k0_hw582 => k0_hw582

def k0_chk583 (v2985 : IVec S16 32) (v2988 : IVec S16 32) (v3696 : IVec S16 32) : Prop :=
  (∀ a x, ((![v3696, v2985, v2988] : Fin 3 → IVec S16 32) a x).toNat < S16x128x16.size a)
theorem k0_idx583_inb : ∀ (v2985 : IVec S16 32) (v2988 : IVec S16 32) (v3696 : IVec S16 32) (k0_hw583 : k0_chk583 v2985 v2988 v3696), ∀ a x, ((![v3696, v2985, v2988] : Fin 3 → IVec S16 32) a x).toNat < S16x128x16.size a := fun v2985 v2988 v3696 k0_hw583 => k0_hw583

def k0_chk584 (v2994 : IVec S16 32) (v2997 : IVec S16 32) (v3700 : IVec S16 32) : Prop :=
  (∀ a x, ((![v3700, v2994, v2997] : Fin 3 → IVec S16 32) a x).toNat < S16x128x16.size a)
theorem k0_idx584_inb : ∀ (v2994 : IVec S16 32) (v2997 : IVec S16 32) (v3700 : IVec S16 32) (k0_hw584 : k0_chk584 v2994 v2997 v3700), ∀ a x, ((![v3700, v2994, v2997] : Fin 3 → IVec S16 32) a x).toNat < S16x128x16.size a := fun v2994 v2997 v3700 k0_hw584 => k0_hw584

def k0_chk585 (v3003 : IVec S16 32) (v3006 : IVec S16 32) (v3705 : IVec S16 32) : Prop :=
  (∀ a x, ((![v3705, v3003, v3006] : Fin 3 → IVec S16 32) a x).toNat < S16x128x16.size a)
theorem k0_idx585_inb : ∀ (v3003 : IVec S16 32) (v3006 : IVec S16 32) (v3705 : IVec S16 32) (k0_hw585 : k0_chk585 v3003 v3006 v3705), ∀ a x, ((![v3705, v3003, v3006] : Fin 3 → IVec S16 32) a x).toNat < S16x128x16.size a := fun v3003 v3006 v3705 k0_hw585 => k0_hw585

def k0_chk586 (v3012 : IVec S16 32) (v3015 : IVec S16 32) (v3709 : IVec S16 32) : Prop :=
  (∀ a x, ((![v3709, v3012, v3015] : Fin 3 → IVec S16 32) a x).toNat < S16x128x16.size a)
theorem k0_idx586_inb : ∀ (v3012 : IVec S16 32) (v3015 : IVec S16 32) (v3709 : IVec S16 32) (k0_hw586 : k0_chk586 v3012 v3015 v3709), ∀ a x, ((![v3709, v3012, v3015] : Fin 3 → IVec S16 32) a x).toNat < S16x128x16.size a := fun v3012 v3015 v3709 k0_hw586 => k0_hw586

def k0_chk587 (v3021 : IVec S16 32) (v3024 : IVec S16 32) (v3713 : IVec S16 32) : Prop :=
  (∀ a x, ((![v3713, v3021, v3024] : Fin 3 → IVec S16 32) a x).toNat < S16x128x16.size a)
theorem k0_idx587_inb : ∀ (v3021 : IVec S16 32) (v3024 : IVec S16 32) (v3713 : IVec S16 32) (k0_hw587 : k0_chk587 v3021 v3024 v3713), ∀ a x, ((![v3713, v3021, v3024] : Fin 3 → IVec S16 32) a x).toNat < S16x128x16.size a := fun v3021 v3024 v3713 k0_hw587 => k0_hw587

def k0_chk588 (v2922 : IVec S16 32) (v2925 : IVec S16 32) (v3719 : IVec S16 32) : Prop :=
  (∀ a x, ((![v3719, v2922, v2925] : Fin 3 → IVec S16 32) a x).toNat < S16x128x16.size a)
theorem k0_idx588_inb : ∀ (v2922 : IVec S16 32) (v2925 : IVec S16 32) (v3719 : IVec S16 32) (k0_hw588 : k0_chk588 v2922 v2925 v3719), ∀ a x, ((![v3719, v2922, v2925] : Fin 3 → IVec S16 32) a x).toNat < S16x128x16.size a := fun v2922 v2925 v3719 k0_hw588 => k0_hw588

def k0_chk589 (v2931 : IVec S16 32) (v2934 : IVec S16 32) (v3723 : IVec S16 32) : Prop :=
  (∀ a x, ((![v3723, v2931, v2934] : Fin 3 → IVec S16 32) a x).toNat < S16x128x16.size a)
theorem k0_idx589_inb : ∀ (v2931 : IVec S16 32) (v2934 : IVec S16 32) (v3723 : IVec S16 32) (k0_hw589 : k0_chk589 v2931 v2934 v3723), ∀ a x, ((![v3723, v2931, v2934] : Fin 3 → IVec S16 32) a x).toNat < S16x128x16.size a := fun v2931 v2934 v3723 k0_hw589 => k0_hw589

def k0_chk590 (v2940 : IVec S16 32) (v2943 : IVec S16 32) (v3727 : IVec S16 32) : Prop :=
  (∀ a x, ((![v3727, v2940, v2943] : Fin 3 → IVec S16 32) a x).toNat < S16x128x16.size a)
theorem k0_idx590_inb : ∀ (v2940 : IVec S16 32) (v2943 : IVec S16 32) (v3727 : IVec S16 32) (k0_hw590 : k0_chk590 v2940 v2943 v3727), ∀ a x, ((![v3727, v2940, v2943] : Fin 3 → IVec S16 32) a x).toNat < S16x128x16.size a := fun v2940 v2943 v3727 k0_hw590 => k0_hw590

def k0_chk591 (v2949 : IVec S16 32) (v2952 : IVec S16 32) (v3732 : IVec S16 32) : Prop :=
  (∀ a x, ((![v3732, v2949, v2952] : Fin 3 → IVec S16 32) a x).toNat < S16x128x16.size a)
theorem k0_idx591_inb : ∀ (v2949 : IVec S16 32) (v2952 : IVec S16 32) (v3732 : IVec S16 32) (k0_hw591 : k0_chk591 v2949 v2952 v3732), ∀ a x, ((![v3732, v2949, v2952] : Fin 3 → IVec S16 32) a x).toNat < S16x128x16.size a := fun v2949 v2952 v3732 k0_hw591 => k0_hw591

def k0_chk592 (v2958 : IVec S16 32) (v2961 : IVec S16 32) (v3736 : IVec S16 32) : Prop :=
  (∀ a x, ((![v3736, v2958, v2961] : Fin 3 → IVec S16 32) a x).toNat < S16x128x16.size a)
theorem k0_idx592_inb : ∀ (v2958 : IVec S16 32) (v2961 : IVec S16 32) (v3736 : IVec S16 32) (k0_hw592 : k0_chk592 v2958 v2961 v3736), ∀ a x, ((![v3736, v2958, v2961] : Fin 3 → IVec S16 32) a x).toNat < S16x128x16.size a := fun v2958 v2961 v3736 k0_hw592 => k0_hw592

def k0_chk593 (v2967 : IVec S16 32) (v2970 : IVec S16 32) (v3740 : IVec S16 32) : Prop :=
  (∀ a x, ((![v3740, v2967, v2970] : Fin 3 → IVec S16 32) a x).toNat < S16x128x16.size a)
theorem k0_idx593_inb : ∀ (v2967 : IVec S16 32) (v2970 : IVec S16 32) (v3740 : IVec S16 32) (k0_hw593 : k0_chk593 v2967 v2970 v3740), ∀ a x, ((![v3740, v2967, v2970] : Fin 3 → IVec S16 32) a x).toNat < S16x128x16.size a := fun v2967 v2970 v3740 k0_hw593 => k0_hw593

def k0_chk594 (v2976 : IVec S16 32) (v2979 : IVec S16 32) (v3745 : IVec S16 32) : Prop :=
  (∀ a x, ((![v3745, v2976, v2979] : Fin 3 → IVec S16 32) a x).toNat < S16x128x16.size a)
theorem k0_idx594_inb : ∀ (v2976 : IVec S16 32) (v2979 : IVec S16 32) (v3745 : IVec S16 32) (k0_hw594 : k0_chk594 v2976 v2979 v3745), ∀ a x, ((![v3745, v2976, v2979] : Fin 3 → IVec S16 32) a x).toNat < S16x128x16.size a := fun v2976 v2979 v3745 k0_hw594 => k0_hw594

def k0_chk595 (v2985 : IVec S16 32) (v2988 : IVec S16 32) (v3749 : IVec S16 32) : Prop :=
  (∀ a x, ((![v3749, v2985, v2988] : Fin 3 → IVec S16 32) a x).toNat < S16x128x16.size a)
theorem k0_idx595_inb : ∀ (v2985 : IVec S16 32) (v2988 : IVec S16 32) (v3749 : IVec S16 32) (k0_hw595 : k0_chk595 v2985 v2988 v3749), ∀ a x, ((![v3749, v2985, v2988] : Fin 3 → IVec S16 32) a x).toNat < S16x128x16.size a := fun v2985 v2988 v3749 k0_hw595 => k0_hw595

def k0_chk596 (v2994 : IVec S16 32) (v2997 : IVec S16 32) (v3753 : IVec S16 32) : Prop :=
  (∀ a x, ((![v3753, v2994, v2997] : Fin 3 → IVec S16 32) a x).toNat < S16x128x16.size a)
theorem k0_idx596_inb : ∀ (v2994 : IVec S16 32) (v2997 : IVec S16 32) (v3753 : IVec S16 32) (k0_hw596 : k0_chk596 v2994 v2997 v3753), ∀ a x, ((![v3753, v2994, v2997] : Fin 3 → IVec S16 32) a x).toNat < S16x128x16.size a := fun v2994 v2997 v3753 k0_hw596 => k0_hw596

def k0_chk597 (v3003 : IVec S16 32) (v3006 : IVec S16 32) (v3758 : IVec S16 32) : Prop :=
  (∀ a x, ((![v3758, v3003, v3006] : Fin 3 → IVec S16 32) a x).toNat < S16x128x16.size a)
theorem k0_idx597_inb : ∀ (v3003 : IVec S16 32) (v3006 : IVec S16 32) (v3758 : IVec S16 32) (k0_hw597 : k0_chk597 v3003 v3006 v3758), ∀ a x, ((![v3758, v3003, v3006] : Fin 3 → IVec S16 32) a x).toNat < S16x128x16.size a := fun v3003 v3006 v3758 k0_hw597 => k0_hw597

def k0_chk598 (v3012 : IVec S16 32) (v3015 : IVec S16 32) (v3762 : IVec S16 32) : Prop :=
  (∀ a x, ((![v3762, v3012, v3015] : Fin 3 → IVec S16 32) a x).toNat < S16x128x16.size a)
theorem k0_idx598_inb : ∀ (v3012 : IVec S16 32) (v3015 : IVec S16 32) (v3762 : IVec S16 32) (k0_hw598 : k0_chk598 v3012 v3015 v3762), ∀ a x, ((![v3762, v3012, v3015] : Fin 3 → IVec S16 32) a x).toNat < S16x128x16.size a := fun v3012 v3015 v3762 k0_hw598 => k0_hw598

def k0_chk599 (v3021 : IVec S16 32) (v3024 : IVec S16 32) (v3766 : IVec S16 32) : Prop :=
  (∀ a x, ((![v3766, v3021, v3024] : Fin 3 → IVec S16 32) a x).toNat < S16x128x16.size a)
theorem k0_idx599_inb : ∀ (v3021 : IVec S16 32) (v3024 : IVec S16 32) (v3766 : IVec S16 32) (k0_hw599 : k0_chk599 v3021 v3024 v3766), ∀ a x, ((![v3766, v3021, v3024] : Fin 3 → IVec S16 32) a x).toNat < S16x128x16.size a := fun v3021 v3024 v3766 k0_hw599 => k0_hw599

def k0_chk600 (v2922 : IVec S16 32) (v2925 : IVec S16 32) (v3772 : IVec S16 32) : Prop :=
  (∀ a x, ((![v3772, v2922, v2925] : Fin 3 → IVec S16 32) a x).toNat < S16x128x16.size a)
theorem k0_idx600_inb : ∀ (v2922 : IVec S16 32) (v2925 : IVec S16 32) (v3772 : IVec S16 32) (k0_hw600 : k0_chk600 v2922 v2925 v3772), ∀ a x, ((![v3772, v2922, v2925] : Fin 3 → IVec S16 32) a x).toNat < S16x128x16.size a := fun v2922 v2925 v3772 k0_hw600 => k0_hw600

def k0_chk601 (v2931 : IVec S16 32) (v2934 : IVec S16 32) (v3776 : IVec S16 32) : Prop :=
  (∀ a x, ((![v3776, v2931, v2934] : Fin 3 → IVec S16 32) a x).toNat < S16x128x16.size a)
theorem k0_idx601_inb : ∀ (v2931 : IVec S16 32) (v2934 : IVec S16 32) (v3776 : IVec S16 32) (k0_hw601 : k0_chk601 v2931 v2934 v3776), ∀ a x, ((![v3776, v2931, v2934] : Fin 3 → IVec S16 32) a x).toNat < S16x128x16.size a := fun v2931 v2934 v3776 k0_hw601 => k0_hw601

def k0_chk602 (v2940 : IVec S16 32) (v2943 : IVec S16 32) (v3780 : IVec S16 32) : Prop :=
  (∀ a x, ((![v3780, v2940, v2943] : Fin 3 → IVec S16 32) a x).toNat < S16x128x16.size a)
theorem k0_idx602_inb : ∀ (v2940 : IVec S16 32) (v2943 : IVec S16 32) (v3780 : IVec S16 32) (k0_hw602 : k0_chk602 v2940 v2943 v3780), ∀ a x, ((![v3780, v2940, v2943] : Fin 3 → IVec S16 32) a x).toNat < S16x128x16.size a := fun v2940 v2943 v3780 k0_hw602 => k0_hw602

def k0_chk603 (v2949 : IVec S16 32) (v2952 : IVec S16 32) (v3785 : IVec S16 32) : Prop :=
  (∀ a x, ((![v3785, v2949, v2952] : Fin 3 → IVec S16 32) a x).toNat < S16x128x16.size a)
theorem k0_idx603_inb : ∀ (v2949 : IVec S16 32) (v2952 : IVec S16 32) (v3785 : IVec S16 32) (k0_hw603 : k0_chk603 v2949 v2952 v3785), ∀ a x, ((![v3785, v2949, v2952] : Fin 3 → IVec S16 32) a x).toNat < S16x128x16.size a := fun v2949 v2952 v3785 k0_hw603 => k0_hw603

def k0_chk604 (v2958 : IVec S16 32) (v2961 : IVec S16 32) (v3789 : IVec S16 32) : Prop :=
  (∀ a x, ((![v3789, v2958, v2961] : Fin 3 → IVec S16 32) a x).toNat < S16x128x16.size a)
theorem k0_idx604_inb : ∀ (v2958 : IVec S16 32) (v2961 : IVec S16 32) (v3789 : IVec S16 32) (k0_hw604 : k0_chk604 v2958 v2961 v3789), ∀ a x, ((![v3789, v2958, v2961] : Fin 3 → IVec S16 32) a x).toNat < S16x128x16.size a := fun v2958 v2961 v3789 k0_hw604 => k0_hw604

def k0_chk605 (v2967 : IVec S16 32) (v2970 : IVec S16 32) (v3793 : IVec S16 32) : Prop :=
  (∀ a x, ((![v3793, v2967, v2970] : Fin 3 → IVec S16 32) a x).toNat < S16x128x16.size a)
theorem k0_idx605_inb : ∀ (v2967 : IVec S16 32) (v2970 : IVec S16 32) (v3793 : IVec S16 32) (k0_hw605 : k0_chk605 v2967 v2970 v3793), ∀ a x, ((![v3793, v2967, v2970] : Fin 3 → IVec S16 32) a x).toNat < S16x128x16.size a := fun v2967 v2970 v3793 k0_hw605 => k0_hw605

def k0_chk606 (v2976 : IVec S16 32) (v2979 : IVec S16 32) (v3798 : IVec S16 32) : Prop :=
  (∀ a x, ((![v3798, v2976, v2979] : Fin 3 → IVec S16 32) a x).toNat < S16x128x16.size a)
theorem k0_idx606_inb : ∀ (v2976 : IVec S16 32) (v2979 : IVec S16 32) (v3798 : IVec S16 32) (k0_hw606 : k0_chk606 v2976 v2979 v3798), ∀ a x, ((![v3798, v2976, v2979] : Fin 3 → IVec S16 32) a x).toNat < S16x128x16.size a := fun v2976 v2979 v3798 k0_hw606 => k0_hw606

def k0_chk607 (v2985 : IVec S16 32) (v2988 : IVec S16 32) (v3802 : IVec S16 32) : Prop :=
  (∀ a x, ((![v3802, v2985, v2988] : Fin 3 → IVec S16 32) a x).toNat < S16x128x16.size a)
theorem k0_idx607_inb : ∀ (v2985 : IVec S16 32) (v2988 : IVec S16 32) (v3802 : IVec S16 32) (k0_hw607 : k0_chk607 v2985 v2988 v3802), ∀ a x, ((![v3802, v2985, v2988] : Fin 3 → IVec S16 32) a x).toNat < S16x128x16.size a := fun v2985 v2988 v3802 k0_hw607 => k0_hw607

def k0_chk608 (v2994 : IVec S16 32) (v2997 : IVec S16 32) (v3806 : IVec S16 32) : Prop :=
  (∀ a x, ((![v3806, v2994, v2997] : Fin 3 → IVec S16 32) a x).toNat < S16x128x16.size a)
theorem k0_idx608_inb : ∀ (v2994 : IVec S16 32) (v2997 : IVec S16 32) (v3806 : IVec S16 32) (k0_hw608 : k0_chk608 v2994 v2997 v3806), ∀ a x, ((![v3806, v2994, v2997] : Fin 3 → IVec S16 32) a x).toNat < S16x128x16.size a := fun v2994 v2997 v3806 k0_hw608 => k0_hw608

def k0_chk609 (v3003 : IVec S16 32) (v3006 : IVec S16 32) (v3811 : IVec S16 32) : Prop :=
  (∀ a x, ((![v3811, v3003, v3006] : Fin 3 → IVec S16 32) a x).toNat < S16x128x16.size a)
theorem k0_idx609_inb : ∀ (v3003 : IVec S16 32) (v3006 : IVec S16 32) (v3811 : IVec S16 32) (k0_hw609 : k0_chk609 v3003 v3006 v3811), ∀ a x, ((![v3811, v3003, v3006] : Fin 3 → IVec S16 32) a x).toNat < S16x128x16.size a := fun v3003 v3006 v3811 k0_hw609 => k0_hw609

def k0_chk610 (v3012 : IVec S16 32) (v3015 : IVec S16 32) (v3815 : IVec S16 32) : Prop :=
  (∀ a x, ((![v3815, v3012, v3015] : Fin 3 → IVec S16 32) a x).toNat < S16x128x16.size a)
theorem k0_idx610_inb : ∀ (v3012 : IVec S16 32) (v3015 : IVec S16 32) (v3815 : IVec S16 32) (k0_hw610 : k0_chk610 v3012 v3015 v3815), ∀ a x, ((![v3815, v3012, v3015] : Fin 3 → IVec S16 32) a x).toNat < S16x128x16.size a := fun v3012 v3015 v3815 k0_hw610 => k0_hw610

def k0_chk611 (v3021 : IVec S16 32) (v3024 : IVec S16 32) (v3819 : IVec S16 32) : Prop :=
  (∀ a x, ((![v3819, v3021, v3024] : Fin 3 → IVec S16 32) a x).toNat < S16x128x16.size a)
theorem k0_idx611_inb : ∀ (v3021 : IVec S16 32) (v3024 : IVec S16 32) (v3819 : IVec S16 32) (k0_hw611 : k0_chk611 v3021 v3024 v3819), ∀ a x, ((![v3819, v3021, v3024] : Fin 3 → IVec S16 32) a x).toNat < S16x128x16.size a := fun v3021 v3024 v3819 k0_hw611 => k0_hw611

def k0_chk612 (v2922 : IVec S16 32) (v2925 : IVec S16 32) (v3825 : IVec S16 32) : Prop :=
  (∀ a x, ((![v3825, v2922, v2925] : Fin 3 → IVec S16 32) a x).toNat < S16x128x16.size a)
theorem k0_idx612_inb : ∀ (v2922 : IVec S16 32) (v2925 : IVec S16 32) (v3825 : IVec S16 32) (k0_hw612 : k0_chk612 v2922 v2925 v3825), ∀ a x, ((![v3825, v2922, v2925] : Fin 3 → IVec S16 32) a x).toNat < S16x128x16.size a := fun v2922 v2925 v3825 k0_hw612 => k0_hw612

def k0_chk613 (v2931 : IVec S16 32) (v2934 : IVec S16 32) (v3829 : IVec S16 32) : Prop :=
  (∀ a x, ((![v3829, v2931, v2934] : Fin 3 → IVec S16 32) a x).toNat < S16x128x16.size a)
theorem k0_idx613_inb : ∀ (v2931 : IVec S16 32) (v2934 : IVec S16 32) (v3829 : IVec S16 32) (k0_hw613 : k0_chk613 v2931 v2934 v3829), ∀ a x, ((![v3829, v2931, v2934] : Fin 3 → IVec S16 32) a x).toNat < S16x128x16.size a := fun v2931 v2934 v3829 k0_hw613 => k0_hw613

def k0_chk614 (v2940 : IVec S16 32) (v2943 : IVec S16 32) (v3833 : IVec S16 32) : Prop :=
  (∀ a x, ((![v3833, v2940, v2943] : Fin 3 → IVec S16 32) a x).toNat < S16x128x16.size a)
theorem k0_idx614_inb : ∀ (v2940 : IVec S16 32) (v2943 : IVec S16 32) (v3833 : IVec S16 32) (k0_hw614 : k0_chk614 v2940 v2943 v3833), ∀ a x, ((![v3833, v2940, v2943] : Fin 3 → IVec S16 32) a x).toNat < S16x128x16.size a := fun v2940 v2943 v3833 k0_hw614 => k0_hw614

def k0_chk615 (v2949 : IVec S16 32) (v2952 : IVec S16 32) (v3838 : IVec S16 32) : Prop :=
  (∀ a x, ((![v3838, v2949, v2952] : Fin 3 → IVec S16 32) a x).toNat < S16x128x16.size a)
theorem k0_idx615_inb : ∀ (v2949 : IVec S16 32) (v2952 : IVec S16 32) (v3838 : IVec S16 32) (k0_hw615 : k0_chk615 v2949 v2952 v3838), ∀ a x, ((![v3838, v2949, v2952] : Fin 3 → IVec S16 32) a x).toNat < S16x128x16.size a := fun v2949 v2952 v3838 k0_hw615 => k0_hw615

def k0_chk616 (v2958 : IVec S16 32) (v2961 : IVec S16 32) (v3842 : IVec S16 32) : Prop :=
  (∀ a x, ((![v3842, v2958, v2961] : Fin 3 → IVec S16 32) a x).toNat < S16x128x16.size a)
theorem k0_idx616_inb : ∀ (v2958 : IVec S16 32) (v2961 : IVec S16 32) (v3842 : IVec S16 32) (k0_hw616 : k0_chk616 v2958 v2961 v3842), ∀ a x, ((![v3842, v2958, v2961] : Fin 3 → IVec S16 32) a x).toNat < S16x128x16.size a := fun v2958 v2961 v3842 k0_hw616 => k0_hw616

def k0_chk617 (v2967 : IVec S16 32) (v2970 : IVec S16 32) (v3846 : IVec S16 32) : Prop :=
  (∀ a x, ((![v3846, v2967, v2970] : Fin 3 → IVec S16 32) a x).toNat < S16x128x16.size a)
theorem k0_idx617_inb : ∀ (v2967 : IVec S16 32) (v2970 : IVec S16 32) (v3846 : IVec S16 32) (k0_hw617 : k0_chk617 v2967 v2970 v3846), ∀ a x, ((![v3846, v2967, v2970] : Fin 3 → IVec S16 32) a x).toNat < S16x128x16.size a := fun v2967 v2970 v3846 k0_hw617 => k0_hw617

def k0_chk618 (v2976 : IVec S16 32) (v2979 : IVec S16 32) (v3851 : IVec S16 32) : Prop :=
  (∀ a x, ((![v3851, v2976, v2979] : Fin 3 → IVec S16 32) a x).toNat < S16x128x16.size a)
theorem k0_idx618_inb : ∀ (v2976 : IVec S16 32) (v2979 : IVec S16 32) (v3851 : IVec S16 32) (k0_hw618 : k0_chk618 v2976 v2979 v3851), ∀ a x, ((![v3851, v2976, v2979] : Fin 3 → IVec S16 32) a x).toNat < S16x128x16.size a := fun v2976 v2979 v3851 k0_hw618 => k0_hw618

def k0_chk619 (v2985 : IVec S16 32) (v2988 : IVec S16 32) (v3855 : IVec S16 32) : Prop :=
  (∀ a x, ((![v3855, v2985, v2988] : Fin 3 → IVec S16 32) a x).toNat < S16x128x16.size a)
theorem k0_idx619_inb : ∀ (v2985 : IVec S16 32) (v2988 : IVec S16 32) (v3855 : IVec S16 32) (k0_hw619 : k0_chk619 v2985 v2988 v3855), ∀ a x, ((![v3855, v2985, v2988] : Fin 3 → IVec S16 32) a x).toNat < S16x128x16.size a := fun v2985 v2988 v3855 k0_hw619 => k0_hw619

def k0_chk620 (v2994 : IVec S16 32) (v2997 : IVec S16 32) (v3859 : IVec S16 32) : Prop :=
  (∀ a x, ((![v3859, v2994, v2997] : Fin 3 → IVec S16 32) a x).toNat < S16x128x16.size a)
theorem k0_idx620_inb : ∀ (v2994 : IVec S16 32) (v2997 : IVec S16 32) (v3859 : IVec S16 32) (k0_hw620 : k0_chk620 v2994 v2997 v3859), ∀ a x, ((![v3859, v2994, v2997] : Fin 3 → IVec S16 32) a x).toNat < S16x128x16.size a := fun v2994 v2997 v3859 k0_hw620 => k0_hw620

def k0_chk621 (v3003 : IVec S16 32) (v3006 : IVec S16 32) (v3864 : IVec S16 32) : Prop :=
  (∀ a x, ((![v3864, v3003, v3006] : Fin 3 → IVec S16 32) a x).toNat < S16x128x16.size a)
theorem k0_idx621_inb : ∀ (v3003 : IVec S16 32) (v3006 : IVec S16 32) (v3864 : IVec S16 32) (k0_hw621 : k0_chk621 v3003 v3006 v3864), ∀ a x, ((![v3864, v3003, v3006] : Fin 3 → IVec S16 32) a x).toNat < S16x128x16.size a := fun v3003 v3006 v3864 k0_hw621 => k0_hw621

def k0_chk622 (v3012 : IVec S16 32) (v3015 : IVec S16 32) (v3868 : IVec S16 32) : Prop :=
  (∀ a x, ((![v3868, v3012, v3015] : Fin 3 → IVec S16 32) a x).toNat < S16x128x16.size a)
theorem k0_idx622_inb : ∀ (v3012 : IVec S16 32) (v3015 : IVec S16 32) (v3868 : IVec S16 32) (k0_hw622 : k0_chk622 v3012 v3015 v3868), ∀ a x, ((![v3868, v3012, v3015] : Fin 3 → IVec S16 32) a x).toNat < S16x128x16.size a := fun v3012 v3015 v3868 k0_hw622 => k0_hw622

def k0_chk623 (v3021 : IVec S16 32) (v3024 : IVec S16 32) (v3872 : IVec S16 32) : Prop :=
  (∀ a x, ((![v3872, v3021, v3024] : Fin 3 → IVec S16 32) a x).toNat < S16x128x16.size a)
theorem k0_idx623_inb : ∀ (v3021 : IVec S16 32) (v3024 : IVec S16 32) (v3872 : IVec S16 32) (k0_hw623 : k0_chk623 v3021 v3024 v3872), ∀ a x, ((![v3872, v3021, v3024] : Fin 3 → IVec S16 32) a x).toNat < S16x128x16.size a := fun v3021 v3024 v3872 k0_hw623 => k0_hw623

def k0_chk624 (v2889 : IVec S16 32) (v3876 : IVec S16 32) : Prop :=
  (∀ a x, ((![v2889, v3876] : Fin 2 → IVec S16 32) a x).toNat < S64x3.size a)
theorem k0_idx624_inb : ∀ (v2889 : IVec S16 32) (v3876 : IVec S16 32) (k0_hw624 : k0_chk624 v2889 v3876), ∀ a x, ((![v2889, v3876] : Fin 2 → IVec S16 32) a x).toNat < S64x3.size a := fun v2889 v3876 k0_hw624 => k0_hw624

def k0_chk625 (v2889 : IVec S16 32) (v3877 : IVec S16 32) : Prop :=
  (∀ a x, ((![v2889, v3877] : Fin 2 → IVec S16 32) a x).toNat < S64x3.size a)
theorem k0_idx625_inb : ∀ (v2889 : IVec S16 32) (v3877 : IVec S16 32) (k0_hw625 : k0_chk625 v2889 v3877), ∀ a x, ((![v2889, v3877] : Fin 2 → IVec S16 32) a x).toNat < S64x3.size a := fun v2889 v3877 k0_hw625 => k0_hw625

def k0_chk626 (v2889 : IVec S16 32) (v3878 : IVec S16 32) : Prop :=
  (∀ a x, ((![v2889, v3878] : Fin 2 → IVec S16 32) a x).toNat < S64x3.size a)
theorem k0_idx626_inb : ∀ (v2889 : IVec S16 32) (v3878 : IVec S16 32) (k0_hw626 : k0_chk626 v2889 v3878), ∀ a x, ((![v2889, v3878] : Fin 2 → IVec S16 32) a x).toNat < S64x3.size a := fun v2889 v3878 k0_hw626 => k0_hw626

def k0_chk627 (v3913 : IVec S16 32) (v3916 : IVec S16 32) (v4021 : IVec S16 32) : Prop :=
  (∀ a x, ((![v4021, v3913, v3916] : Fin 3 → IVec S16 32) a x).toNat < S16x128x16.size a)
theorem k0_idx627_inb : ∀ (v3913 : IVec S16 32) (v3916 : IVec S16 32) (v4021 : IVec S16 32) (k0_hw627 : k0_chk627 v3913 v3916 v4021), ∀ a x, ((![v4021, v3913, v3916] : Fin 3 → IVec S16 32) a x).toNat < S16x128x16.size a := fun v3913 v3916 v4021 k0_hw627 => k0_hw627

def k0_chk628 (v3922 : IVec S16 32) (v3925 : IVec S16 32) (v4025 : IVec S16 32) : Prop :=
  (∀ a x, ((![v4025, v3922, v3925] : Fin 3 → IVec S16 32) a x).toNat < S16x128x16.size a)
theorem k0_idx628_inb : ∀ (v3922 : IVec S16 32) (v3925 : IVec S16 32) (v4025 : IVec S16 32) (k0_hw628 : k0_chk628 v3922 v3925 v4025), ∀ a x, ((![v4025, v3922, v3925] : Fin 3 → IVec S16 32) a x).toNat < S16x128x16.size a := fun v3922 v3925 v4025 k0_hw628 => k0_hw628

def k0_chk629 (v3931 : IVec S16 32) (v3934 : IVec S16 32) (v4029 : IVec S16 32) : Prop :=
  (∀ a x, ((![v4029, v3931, v3934] : Fin 3 → IVec S16 32) a x).toNat < S16x128x16.size a)
theorem k0_idx629_inb : ∀ (v3931 : IVec S16 32) (v3934 : IVec S16 32) (v4029 : IVec S16 32) (k0_hw629 : k0_chk629 v3931 v3934 v4029), ∀ a x, ((![v4029, v3931, v3934] : Fin 3 → IVec S16 32) a x).toNat < S16x128x16.size a := fun v3931 v3934 v4029 k0_hw629 => k0_hw629

def k0_chk630 (v3940 : IVec S16 32) (v3943 : IVec S16 32) (v4034 : IVec S16 32) : Prop :=
  (∀ a x, ((![v4034, v3940, v3943] : Fin 3 → IVec S16 32) a x).toNat < S16x128x16.size a)
theorem k0_idx630_inb : ∀ (v3940 : IVec S16 32) (v3943 : IVec S16 32) (v4034 : IVec S16 32) (k0_hw630 : k0_chk630 v3940 v3943 v4034), ∀ a x, ((![v4034, v3940, v3943] : Fin 3 → IVec S16 32) a x).toNat < S16x128x16.size a := fun v3940 v3943 v4034 k0_hw630 => k0_hw630

def k0_chk631 (v3949 : IVec S16 32) (v3952 : IVec S16 32) (v4038 : IVec S16 32) : Prop :=
  (∀ a x, ((![v4038, v3949, v3952] : Fin 3 → IVec S16 32) a x).toNat < S16x128x16.size a)
theorem k0_idx631_inb : ∀ (v3949 : IVec S16 32) (v3952 : IVec S16 32) (v4038 : IVec S16 32) (k0_hw631 : k0_chk631 v3949 v3952 v4038), ∀ a x, ((![v4038, v3949, v3952] : Fin 3 → IVec S16 32) a x).toNat < S16x128x16.size a := fun v3949 v3952 v4038 k0_hw631 => k0_hw631

def k0_chk632 (v3958 : IVec S16 32) (v3961 : IVec S16 32) (v4042 : IVec S16 32) : Prop :=
  (∀ a x, ((![v4042, v3958, v3961] : Fin 3 → IVec S16 32) a x).toNat < S16x128x16.size a)
theorem k0_idx632_inb : ∀ (v3958 : IVec S16 32) (v3961 : IVec S16 32) (v4042 : IVec S16 32) (k0_hw632 : k0_chk632 v3958 v3961 v4042), ∀ a x, ((![v4042, v3958, v3961] : Fin 3 → IVec S16 32) a x).toNat < S16x128x16.size a := fun v3958 v3961 v4042 k0_hw632 => k0_hw632

def k0_chk633 (v3967 : IVec S16 32) (v3970 : IVec S16 32) (v4047 : IVec S16 32) : Prop :=
  (∀ a x, ((![v4047, v3967, v3970] : Fin 3 → IVec S16 32) a x).toNat < S16x128x16.size a)
theorem k0_idx633_inb : ∀ (v3967 : IVec S16 32) (v3970 : IVec S16 32) (v4047 : IVec S16 32) (k0_hw633 : k0_chk633 v3967 v3970 v4047), ∀ a x, ((![v4047, v3967, v3970] : Fin 3 → IVec S16 32) a x).toNat < S16x128x16.size a := fun v3967 v3970 v4047 k0_hw633 => k0_hw633

def k0_chk634 (v3976 : IVec S16 32) (v3979 : IVec S16 32) (v4051 : IVec S16 32) : Prop :=
  (∀ a x, ((![v4051, v3976, v3979] : Fin 3 → IVec S16 32) a x).toNat < S16x128x16.size a)
theorem k0_idx634_inb : ∀ (v3976 : IVec S16 32) (v3979 : IVec S16 32) (v4051 : IVec S16 32) (k0_hw634 : k0_chk634 v3976 v3979 v4051), ∀ a x, ((![v4051, v3976, v3979] : Fin 3 → IVec S16 32) a x).toNat < S16x128x16.size a := fun v3976 v3979 v4051 k0_hw634 => k0_hw634

def k0_chk635 (v3985 : IVec S16 32) (v3988 : IVec S16 32) (v4055 : IVec S16 32) : Prop :=
  (∀ a x, ((![v4055, v3985, v3988] : Fin 3 → IVec S16 32) a x).toNat < S16x128x16.size a)
theorem k0_idx635_inb : ∀ (v3985 : IVec S16 32) (v3988 : IVec S16 32) (v4055 : IVec S16 32) (k0_hw635 : k0_chk635 v3985 v3988 v4055), ∀ a x, ((![v4055, v3985, v3988] : Fin 3 → IVec S16 32) a x).toNat < S16x128x16.size a := fun v3985 v3988 v4055 k0_hw635 => k0_hw635

def k0_chk636 (v3994 : IVec S16 32) (v3997 : IVec S16 32) (v4060 : IVec S16 32) : Prop :=
  (∀ a x, ((![v4060, v3994, v3997] : Fin 3 → IVec S16 32) a x).toNat < S16x128x16.size a)
theorem k0_idx636_inb : ∀ (v3994 : IVec S16 32) (v3997 : IVec S16 32) (v4060 : IVec S16 32) (k0_hw636 : k0_chk636 v3994 v3997 v4060), ∀ a x, ((![v4060, v3994, v3997] : Fin 3 → IVec S16 32) a x).toNat < S16x128x16.size a := fun v3994 v3997 v4060 k0_hw636 => k0_hw636

def k0_chk637 (v4003 : IVec S16 32) (v4006 : IVec S16 32) (v4064 : IVec S16 32) : Prop :=
  (∀ a x, ((![v4064, v4003, v4006] : Fin 3 → IVec S16 32) a x).toNat < S16x128x16.size a)
theorem k0_idx637_inb : ∀ (v4003 : IVec S16 32) (v4006 : IVec S16 32) (v4064 : IVec S16 32) (k0_hw637 : k0_chk637 v4003 v4006 v4064), ∀ a x, ((![v4064, v4003, v4006] : Fin 3 → IVec S16 32) a x).toNat < S16x128x16.size a := fun v4003 v4006 v4064 k0_hw637 => k0_hw637

def k0_chk638 (v4012 : IVec S16 32) (v4015 : IVec S16 32) (v4068 : IVec S16 32) : Prop :=
  (∀ a x, ((![v4068, v4012, v4015] : Fin 3 → IVec S16 32) a x).toNat < S16x128x16.size a)
theorem k0_idx638_inb : ∀ (v4012 : IVec S16 32) (v4015 : IVec S16 32) (v4068 : IVec S16 32) (k0_hw638 : k0_chk638 v4012 v4015 v4068), ∀ a x, ((![v4068, v4012, v4015] : Fin 3 → IVec S16 32) a x).toNat < S16x128x16.size a := fun v4012 v4015 v4068 k0_hw638 => k0_hw638

def k0_chk639 (v3913 : IVec S16 32) (v3916 : IVec S16 32) (v4074 : IVec S16 32) : Prop :=
  (∀ a x, ((![v4074, v3913, v3916] : Fin 3 → IVec S16 32) a x).toNat < S16x128x16.size a)
theorem k0_idx639_inb : ∀ (v3913 : IVec S16 32) (v3916 : IVec S16 32) (v4074 : IVec S16 32) (k0_hw639 : k0_chk639 v3913 v3916 v4074), ∀ a x, ((![v4074, v3913, v3916] : Fin 3 → IVec S16 32) a x).toNat < S16x128x16.size a := fun v3913 v3916 v4074 k0_hw639 => k0_hw639

def k0_chk640 (v3922 : IVec S16 32) (v3925 : IVec S16 32) (v4078 : IVec S16 32) : Prop :=
  (∀ a x, ((![v4078, v3922, v3925] : Fin 3 → IVec S16 32) a x).toNat < S16x128x16.size a)
theorem k0_idx640_inb : ∀ (v3922 : IVec S16 32) (v3925 : IVec S16 32) (v4078 : IVec S16 32) (k0_hw640 : k0_chk640 v3922 v3925 v4078), ∀ a x, ((![v4078, v3922, v3925] : Fin 3 → IVec S16 32) a x).toNat < S16x128x16.size a := fun v3922 v3925 v4078 k0_hw640 => k0_hw640

def k0_chk641 (v3931 : IVec S16 32) (v3934 : IVec S16 32) (v4082 : IVec S16 32) : Prop :=
  (∀ a x, ((![v4082, v3931, v3934] : Fin 3 → IVec S16 32) a x).toNat < S16x128x16.size a)
theorem k0_idx641_inb : ∀ (v3931 : IVec S16 32) (v3934 : IVec S16 32) (v4082 : IVec S16 32) (k0_hw641 : k0_chk641 v3931 v3934 v4082), ∀ a x, ((![v4082, v3931, v3934] : Fin 3 → IVec S16 32) a x).toNat < S16x128x16.size a := fun v3931 v3934 v4082 k0_hw641 => k0_hw641

def k0_chk642 (v3940 : IVec S16 32) (v3943 : IVec S16 32) (v4087 : IVec S16 32) : Prop :=
  (∀ a x, ((![v4087, v3940, v3943] : Fin 3 → IVec S16 32) a x).toNat < S16x128x16.size a)
theorem k0_idx642_inb : ∀ (v3940 : IVec S16 32) (v3943 : IVec S16 32) (v4087 : IVec S16 32) (k0_hw642 : k0_chk642 v3940 v3943 v4087), ∀ a x, ((![v4087, v3940, v3943] : Fin 3 → IVec S16 32) a x).toNat < S16x128x16.size a := fun v3940 v3943 v4087 k0_hw642 => k0_hw642

def k0_chk643 (v3949 : IVec S16 32) (v3952 : IVec S16 32) (v4091 : IVec S16 32) : Prop :=
  (∀ a x, ((![v4091, v3949, v3952] : Fin 3 → IVec S16 32) a x).toNat < S16x128x16.size a)
theorem k0_idx643_inb : ∀ (v3949 : IVec S16 32) (v3952 : IVec S16 32) (v4091 : IVec S16 32) (k0_hw643 : k0_chk643 v3949 v3952 v4091), ∀ a x, ((![v4091, v3949, v3952] : Fin 3 → IVec S16 32) a x).toNat < S16x128x16.size a := fun v3949 v3952 v4091 k0_hw643 => k0_hw643

def k0_chk644 (v3958 : IVec S16 32) (v3961 : IVec S16 32) (v4095 : IVec S16 32) : Prop :=
  (∀ a x, ((![v4095, v3958, v3961] : Fin 3 → IVec S16 32) a x).toNat < S16x128x16.size a)
theorem k0_idx644_inb : ∀ (v3958 : IVec S16 32) (v3961 : IVec S16 32) (v4095 : IVec S16 32) (k0_hw644 : k0_chk644 v3958 v3961 v4095), ∀ a x, ((![v4095, v3958, v3961] : Fin 3 → IVec S16 32) a x).toNat < S16x128x16.size a := fun v3958 v3961 v4095 k0_hw644 => k0_hw644

def k0_chk645 (v3967 : IVec S16 32) (v3970 : IVec S16 32) (v4100 : IVec S16 32) : Prop :=
  (∀ a x, ((![v4100, v3967, v3970] : Fin 3 → IVec S16 32) a x).toNat < S16x128x16.size a)
theorem k0_idx645_inb : ∀ (v3967 : IVec S16 32) (v3970 : IVec S16 32) (v4100 : IVec S16 32) (k0_hw645 : k0_chk645 v3967 v3970 v4100), ∀ a x, ((![v4100, v3967, v3970] : Fin 3 → IVec S16 32) a x).toNat < S16x128x16.size a := fun v3967 v3970 v4100 k0_hw645 => k0_hw645

def k0_chk646 (v3976 : IVec S16 32) (v3979 : IVec S16 32) (v4104 : IVec S16 32) : Prop :=
  (∀ a x, ((![v4104, v3976, v3979] : Fin 3 → IVec S16 32) a x).toNat < S16x128x16.size a)
theorem k0_idx646_inb : ∀ (v3976 : IVec S16 32) (v3979 : IVec S16 32) (v4104 : IVec S16 32) (k0_hw646 : k0_chk646 v3976 v3979 v4104), ∀ a x, ((![v4104, v3976, v3979] : Fin 3 → IVec S16 32) a x).toNat < S16x128x16.size a := fun v3976 v3979 v4104 k0_hw646 => k0_hw646

def k0_chk647 (v3985 : IVec S16 32) (v3988 : IVec S16 32) (v4108 : IVec S16 32) : Prop :=
  (∀ a x, ((![v4108, v3985, v3988] : Fin 3 → IVec S16 32) a x).toNat < S16x128x16.size a)
theorem k0_idx647_inb : ∀ (v3985 : IVec S16 32) (v3988 : IVec S16 32) (v4108 : IVec S16 32) (k0_hw647 : k0_chk647 v3985 v3988 v4108), ∀ a x, ((![v4108, v3985, v3988] : Fin 3 → IVec S16 32) a x).toNat < S16x128x16.size a := fun v3985 v3988 v4108 k0_hw647 => k0_hw647

def k0_chk648 (v3994 : IVec S16 32) (v3997 : IVec S16 32) (v4113 : IVec S16 32) : Prop :=
  (∀ a x, ((![v4113, v3994, v3997] : Fin 3 → IVec S16 32) a x).toNat < S16x128x16.size a)
theorem k0_idx648_inb : ∀ (v3994 : IVec S16 32) (v3997 : IVec S16 32) (v4113 : IVec S16 32) (k0_hw648 : k0_chk648 v3994 v3997 v4113), ∀ a x, ((![v4113, v3994, v3997] : Fin 3 → IVec S16 32) a x).toNat < S16x128x16.size a := fun v3994 v3997 v4113 k0_hw648 => k0_hw648

def k0_chk649 (v4003 : IVec S16 32) (v4006 : IVec S16 32) (v4117 : IVec S16 32) : Prop :=
  (∀ a x, ((![v4117, v4003, v4006] : Fin 3 → IVec S16 32) a x).toNat < S16x128x16.size a)
theorem k0_idx649_inb : ∀ (v4003 : IVec S16 32) (v4006 : IVec S16 32) (v4117 : IVec S16 32) (k0_hw649 : k0_chk649 v4003 v4006 v4117), ∀ a x, ((![v4117, v4003, v4006] : Fin 3 → IVec S16 32) a x).toNat < S16x128x16.size a := fun v4003 v4006 v4117 k0_hw649 => k0_hw649

def k0_chk650 (v4012 : IVec S16 32) (v4015 : IVec S16 32) (v4121 : IVec S16 32) : Prop :=
  (∀ a x, ((![v4121, v4012, v4015] : Fin 3 → IVec S16 32) a x).toNat < S16x128x16.size a)
theorem k0_idx650_inb : ∀ (v4012 : IVec S16 32) (v4015 : IVec S16 32) (v4121 : IVec S16 32) (k0_hw650 : k0_chk650 v4012 v4015 v4121), ∀ a x, ((![v4121, v4012, v4015] : Fin 3 → IVec S16 32) a x).toNat < S16x128x16.size a := fun v4012 v4015 v4121 k0_hw650 => k0_hw650

def k0_chk651 (v3913 : IVec S16 32) (v3916 : IVec S16 32) (v4127 : IVec S16 32) : Prop :=
  (∀ a x, ((![v4127, v3913, v3916] : Fin 3 → IVec S16 32) a x).toNat < S16x128x16.size a)
theorem k0_idx651_inb : ∀ (v3913 : IVec S16 32) (v3916 : IVec S16 32) (v4127 : IVec S16 32) (k0_hw651 : k0_chk651 v3913 v3916 v4127), ∀ a x, ((![v4127, v3913, v3916] : Fin 3 → IVec S16 32) a x).toNat < S16x128x16.size a := fun v3913 v3916 v4127 k0_hw651 => k0_hw651

def k0_chk652 (v3922 : IVec S16 32) (v3925 : IVec S16 32) (v4131 : IVec S16 32) : Prop :=
  (∀ a x, ((![v4131, v3922, v3925] : Fin 3 → IVec S16 32) a x).toNat < S16x128x16.size a)
theorem k0_idx652_inb : ∀ (v3922 : IVec S16 32) (v3925 : IVec S16 32) (v4131 : IVec S16 32) (k0_hw652 : k0_chk652 v3922 v3925 v4131), ∀ a x, ((![v4131, v3922, v3925] : Fin 3 → IVec S16 32) a x).toNat < S16x128x16.size a := fun v3922 v3925 v4131 k0_hw652 => k0_hw652

def k0_chk653 (v3931 : IVec S16 32) (v3934 : IVec S16 32) (v4135 : IVec S16 32) : Prop :=
  (∀ a x, ((![v4135, v3931, v3934] : Fin 3 → IVec S16 32) a x).toNat < S16x128x16.size a)
theorem k0_idx653_inb : ∀ (v3931 : IVec S16 32) (v3934 : IVec S16 32) (v4135 : IVec S16 32) (k0_hw653 : k0_chk653 v3931 v3934 v4135), ∀ a x, ((![v4135, v3931, v3934] : Fin 3 → IVec S16 32) a x).toNat < S16x128x16.size a := fun v3931 v3934 v4135 k0_hw653 => k0_hw653

def k0_chk654 (v3940 : IVec S16 32) (v3943 : IVec S16 32) (v4140 : IVec S16 32) : Prop :=
  (∀ a x, ((![v4140, v3940, v3943] : Fin 3 → IVec S16 32) a x).toNat < S16x128x16.size a)
theorem k0_idx654_inb : ∀ (v3940 : IVec S16 32) (v3943 : IVec S16 32) (v4140 : IVec S16 32) (k0_hw654 : k0_chk654 v3940 v3943 v4140), ∀ a x, ((![v4140, v3940, v3943] : Fin 3 → IVec S16 32) a x).toNat < S16x128x16.size a := fun v3940 v3943 v4140 k0_hw654 => k0_hw654

def k0_chk655 (v3949 : IVec S16 32) (v3952 : IVec S16 32) (v4144 : IVec S16 32) : Prop :=
  (∀ a x, ((![v4144, v3949, v3952] : Fin 3 → IVec S16 32) a x).toNat < S16x128x16.size a)
theorem k0_idx655_inb : ∀ (v3949 : IVec S16 32) (v3952 : IVec S16 32) (v4144 : IVec S16 32) (k0_hw655 : k0_chk655 v3949 v3952 v4144), ∀ a x, ((![v4144, v3949, v3952] : Fin 3 → IVec S16 32) a x).toNat < S16x128x16.size a := fun v3949 v3952 v4144 k0_hw655 => k0_hw655

def k0_chk656 (v3958 : IVec S16 32) (v3961 : IVec S16 32) (v4148 : IVec S16 32) : Prop :=
  (∀ a x, ((![v4148, v3958, v3961] : Fin 3 → IVec S16 32) a x).toNat < S16x128x16.size a)
theorem k0_idx656_inb : ∀ (v3958 : IVec S16 32) (v3961 : IVec S16 32) (v4148 : IVec S16 32) (k0_hw656 : k0_chk656 v3958 v3961 v4148), ∀ a x, ((![v4148, v3958, v3961] : Fin 3 → IVec S16 32) a x).toNat < S16x128x16.size a := fun v3958 v3961 v4148 k0_hw656 => k0_hw656

def k0_chk657 (v3967 : IVec S16 32) (v3970 : IVec S16 32) (v4153 : IVec S16 32) : Prop :=
  (∀ a x, ((![v4153, v3967, v3970] : Fin 3 → IVec S16 32) a x).toNat < S16x128x16.size a)
theorem k0_idx657_inb : ∀ (v3967 : IVec S16 32) (v3970 : IVec S16 32) (v4153 : IVec S16 32) (k0_hw657 : k0_chk657 v3967 v3970 v4153), ∀ a x, ((![v4153, v3967, v3970] : Fin 3 → IVec S16 32) a x).toNat < S16x128x16.size a := fun v3967 v3970 v4153 k0_hw657 => k0_hw657

def k0_chk658 (v3976 : IVec S16 32) (v3979 : IVec S16 32) (v4157 : IVec S16 32) : Prop :=
  (∀ a x, ((![v4157, v3976, v3979] : Fin 3 → IVec S16 32) a x).toNat < S16x128x16.size a)
theorem k0_idx658_inb : ∀ (v3976 : IVec S16 32) (v3979 : IVec S16 32) (v4157 : IVec S16 32) (k0_hw658 : k0_chk658 v3976 v3979 v4157), ∀ a x, ((![v4157, v3976, v3979] : Fin 3 → IVec S16 32) a x).toNat < S16x128x16.size a := fun v3976 v3979 v4157 k0_hw658 => k0_hw658

def k0_chk659 (v3985 : IVec S16 32) (v3988 : IVec S16 32) (v4161 : IVec S16 32) : Prop :=
  (∀ a x, ((![v4161, v3985, v3988] : Fin 3 → IVec S16 32) a x).toNat < S16x128x16.size a)
theorem k0_idx659_inb : ∀ (v3985 : IVec S16 32) (v3988 : IVec S16 32) (v4161 : IVec S16 32) (k0_hw659 : k0_chk659 v3985 v3988 v4161), ∀ a x, ((![v4161, v3985, v3988] : Fin 3 → IVec S16 32) a x).toNat < S16x128x16.size a := fun v3985 v3988 v4161 k0_hw659 => k0_hw659

def k0_chk660 (v3994 : IVec S16 32) (v3997 : IVec S16 32) (v4166 : IVec S16 32) : Prop :=
  (∀ a x, ((![v4166, v3994, v3997] : Fin 3 → IVec S16 32) a x).toNat < S16x128x16.size a)
theorem k0_idx660_inb : ∀ (v3994 : IVec S16 32) (v3997 : IVec S16 32) (v4166 : IVec S16 32) (k0_hw660 : k0_chk660 v3994 v3997 v4166), ∀ a x, ((![v4166, v3994, v3997] : Fin 3 → IVec S16 32) a x).toNat < S16x128x16.size a := fun v3994 v3997 v4166 k0_hw660 => k0_hw660

def k0_chk661 (v4003 : IVec S16 32) (v4006 : IVec S16 32) (v4170 : IVec S16 32) : Prop :=
  (∀ a x, ((![v4170, v4003, v4006] : Fin 3 → IVec S16 32) a x).toNat < S16x128x16.size a)
theorem k0_idx661_inb : ∀ (v4003 : IVec S16 32) (v4006 : IVec S16 32) (v4170 : IVec S16 32) (k0_hw661 : k0_chk661 v4003 v4006 v4170), ∀ a x, ((![v4170, v4003, v4006] : Fin 3 → IVec S16 32) a x).toNat < S16x128x16.size a := fun v4003 v4006 v4170 k0_hw661 => k0_hw661

def k0_chk662 (v4012 : IVec S16 32) (v4015 : IVec S16 32) (v4174 : IVec S16 32) : Prop :=
  (∀ a x, ((![v4174, v4012, v4015] : Fin 3 → IVec S16 32) a x).toNat < S16x128x16.size a)
theorem k0_idx662_inb : ∀ (v4012 : IVec S16 32) (v4015 : IVec S16 32) (v4174 : IVec S16 32) (k0_hw662 : k0_chk662 v4012 v4015 v4174), ∀ a x, ((![v4174, v4012, v4015] : Fin 3 → IVec S16 32) a x).toNat < S16x128x16.size a := fun v4012 v4015 v4174 k0_hw662 => k0_hw662

def k0_chk663 (v3913 : IVec S16 32) (v3916 : IVec S16 32) (v4180 : IVec S16 32) : Prop :=
  (∀ a x, ((![v4180, v3913, v3916] : Fin 3 → IVec S16 32) a x).toNat < S16x128x16.size a)
theorem k0_idx663_inb : ∀ (v3913 : IVec S16 32) (v3916 : IVec S16 32) (v4180 : IVec S16 32) (k0_hw663 : k0_chk663 v3913 v3916 v4180), ∀ a x, ((![v4180, v3913, v3916] : Fin 3 → IVec S16 32) a x).toNat < S16x128x16.size a := fun v3913 v3916 v4180 k0_hw663 => k0_hw663

def k0_chk664 (v3922 : IVec S16 32) (v3925 : IVec S16 32) (v4184 : IVec S16 32) : Prop :=
  (∀ a x, ((![v4184, v3922, v3925] : Fin 3 → IVec S16 32) a x).toNat < S16x128x16.size a)
theorem k0_idx664_inb : ∀ (v3922 : IVec S16 32) (v3925 : IVec S16 32) (v4184 : IVec S16 32) (k0_hw664 : k0_chk664 v3922 v3925 v4184), ∀ a x, ((![v4184, v3922, v3925] : Fin 3 → IVec S16 32) a x).toNat < S16x128x16.size a := fun v3922 v3925 v4184 k0_hw664 => k0_hw664

def k0_chk665 (v3931 : IVec S16 32) (v3934 : IVec S16 32) (v4188 : IVec S16 32) : Prop :=
  (∀ a x, ((![v4188, v3931, v3934] : Fin 3 → IVec S16 32) a x).toNat < S16x128x16.size a)
theorem k0_idx665_inb : ∀ (v3931 : IVec S16 32) (v3934 : IVec S16 32) (v4188 : IVec S16 32) (k0_hw665 : k0_chk665 v3931 v3934 v4188), ∀ a x, ((![v4188, v3931, v3934] : Fin 3 → IVec S16 32) a x).toNat < S16x128x16.size a := fun v3931 v3934 v4188 k0_hw665 => k0_hw665

def k0_chk666 (v3940 : IVec S16 32) (v3943 : IVec S16 32) (v4193 : IVec S16 32) : Prop :=
  (∀ a x, ((![v4193, v3940, v3943] : Fin 3 → IVec S16 32) a x).toNat < S16x128x16.size a)
theorem k0_idx666_inb : ∀ (v3940 : IVec S16 32) (v3943 : IVec S16 32) (v4193 : IVec S16 32) (k0_hw666 : k0_chk666 v3940 v3943 v4193), ∀ a x, ((![v4193, v3940, v3943] : Fin 3 → IVec S16 32) a x).toNat < S16x128x16.size a := fun v3940 v3943 v4193 k0_hw666 => k0_hw666

def k0_chk667 (v3949 : IVec S16 32) (v3952 : IVec S16 32) (v4197 : IVec S16 32) : Prop :=
  (∀ a x, ((![v4197, v3949, v3952] : Fin 3 → IVec S16 32) a x).toNat < S16x128x16.size a)
theorem k0_idx667_inb : ∀ (v3949 : IVec S16 32) (v3952 : IVec S16 32) (v4197 : IVec S16 32) (k0_hw667 : k0_chk667 v3949 v3952 v4197), ∀ a x, ((![v4197, v3949, v3952] : Fin 3 → IVec S16 32) a x).toNat < S16x128x16.size a := fun v3949 v3952 v4197 k0_hw667 => k0_hw667

def k0_chk668 (v3958 : IVec S16 32) (v3961 : IVec S16 32) (v4201 : IVec S16 32) : Prop :=
  (∀ a x, ((![v4201, v3958, v3961] : Fin 3 → IVec S16 32) a x).toNat < S16x128x16.size a)
theorem k0_idx668_inb : ∀ (v3958 : IVec S16 32) (v3961 : IVec S16 32) (v4201 : IVec S16 32) (k0_hw668 : k0_chk668 v3958 v3961 v4201), ∀ a x, ((![v4201, v3958, v3961] : Fin 3 → IVec S16 32) a x).toNat < S16x128x16.size a := fun v3958 v3961 v4201 k0_hw668 => k0_hw668

def k0_chk669 (v3967 : IVec S16 32) (v3970 : IVec S16 32) (v4206 : IVec S16 32) : Prop :=
  (∀ a x, ((![v4206, v3967, v3970] : Fin 3 → IVec S16 32) a x).toNat < S16x128x16.size a)
theorem k0_idx669_inb : ∀ (v3967 : IVec S16 32) (v3970 : IVec S16 32) (v4206 : IVec S16 32) (k0_hw669 : k0_chk669 v3967 v3970 v4206), ∀ a x, ((![v4206, v3967, v3970] : Fin 3 → IVec S16 32) a x).toNat < S16x128x16.size a := fun v3967 v3970 v4206 k0_hw669 => k0_hw669

def k0_chk670 (v3976 : IVec S16 32) (v3979 : IVec S16 32) (v4210 : IVec S16 32) : Prop :=
  (∀ a x, ((![v4210, v3976, v3979] : Fin 3 → IVec S16 32) a x).toNat < S16x128x16.size a)
theorem k0_idx670_inb : ∀ (v3976 : IVec S16 32) (v3979 : IVec S16 32) (v4210 : IVec S16 32) (k0_hw670 : k0_chk670 v3976 v3979 v4210), ∀ a x, ((![v4210, v3976, v3979] : Fin 3 → IVec S16 32) a x).toNat < S16x128x16.size a := fun v3976 v3979 v4210 k0_hw670 => k0_hw670

def k0_chk671 (v3985 : IVec S16 32) (v3988 : IVec S16 32) (v4214 : IVec S16 32) : Prop :=
  (∀ a x, ((![v4214, v3985, v3988] : Fin 3 → IVec S16 32) a x).toNat < S16x128x16.size a)
theorem k0_idx671_inb : ∀ (v3985 : IVec S16 32) (v3988 : IVec S16 32) (v4214 : IVec S16 32) (k0_hw671 : k0_chk671 v3985 v3988 v4214), ∀ a x, ((![v4214, v3985, v3988] : Fin 3 → IVec S16 32) a x).toNat < S16x128x16.size a := fun v3985 v3988 v4214 k0_hw671 => k0_hw671

def k0_chk672 (v3994 : IVec S16 32) (v3997 : IVec S16 32) (v4219 : IVec S16 32) : Prop :=
  (∀ a x, ((![v4219, v3994, v3997] : Fin 3 → IVec S16 32) a x).toNat < S16x128x16.size a)
theorem k0_idx672_inb : ∀ (v3994 : IVec S16 32) (v3997 : IVec S16 32) (v4219 : IVec S16 32) (k0_hw672 : k0_chk672 v3994 v3997 v4219), ∀ a x, ((![v4219, v3994, v3997] : Fin 3 → IVec S16 32) a x).toNat < S16x128x16.size a := fun v3994 v3997 v4219 k0_hw672 => k0_hw672

def k0_chk673 (v4003 : IVec S16 32) (v4006 : IVec S16 32) (v4223 : IVec S16 32) : Prop :=
  (∀ a x, ((![v4223, v4003, v4006] : Fin 3 → IVec S16 32) a x).toNat < S16x128x16.size a)
theorem k0_idx673_inb : ∀ (v4003 : IVec S16 32) (v4006 : IVec S16 32) (v4223 : IVec S16 32) (k0_hw673 : k0_chk673 v4003 v4006 v4223), ∀ a x, ((![v4223, v4003, v4006] : Fin 3 → IVec S16 32) a x).toNat < S16x128x16.size a := fun v4003 v4006 v4223 k0_hw673 => k0_hw673

def k0_chk674 (v4012 : IVec S16 32) (v4015 : IVec S16 32) (v4227 : IVec S16 32) : Prop :=
  (∀ a x, ((![v4227, v4012, v4015] : Fin 3 → IVec S16 32) a x).toNat < S16x128x16.size a)
theorem k0_idx674_inb : ∀ (v4012 : IVec S16 32) (v4015 : IVec S16 32) (v4227 : IVec S16 32) (k0_hw674 : k0_chk674 v4012 v4015 v4227), ∀ a x, ((![v4227, v4012, v4015] : Fin 3 → IVec S16 32) a x).toNat < S16x128x16.size a := fun v4012 v4015 v4227 k0_hw674 => k0_hw674

def k0_chk675 (v3913 : IVec S16 32) (v3916 : IVec S16 32) (v4233 : IVec S16 32) : Prop :=
  (∀ a x, ((![v4233, v3913, v3916] : Fin 3 → IVec S16 32) a x).toNat < S16x128x16.size a)
theorem k0_idx675_inb : ∀ (v3913 : IVec S16 32) (v3916 : IVec S16 32) (v4233 : IVec S16 32) (k0_hw675 : k0_chk675 v3913 v3916 v4233), ∀ a x, ((![v4233, v3913, v3916] : Fin 3 → IVec S16 32) a x).toNat < S16x128x16.size a := fun v3913 v3916 v4233 k0_hw675 => k0_hw675

def k0_chk676 (v3922 : IVec S16 32) (v3925 : IVec S16 32) (v4237 : IVec S16 32) : Prop :=
  (∀ a x, ((![v4237, v3922, v3925] : Fin 3 → IVec S16 32) a x).toNat < S16x128x16.size a)
theorem k0_idx676_inb : ∀ (v3922 : IVec S16 32) (v3925 : IVec S16 32) (v4237 : IVec S16 32) (k0_hw676 : k0_chk676 v3922 v3925 v4237), ∀ a x, ((![v4237, v3922, v3925] : Fin 3 → IVec S16 32) a x).toNat < S16x128x16.size a := fun v3922 v3925 v4237 k0_hw676 => k0_hw676

def k0_chk677 (v3931 : IVec S16 32) (v3934 : IVec S16 32) (v4241 : IVec S16 32) : Prop :=
  (∀ a x, ((![v4241, v3931, v3934] : Fin 3 → IVec S16 32) a x).toNat < S16x128x16.size a)
theorem k0_idx677_inb : ∀ (v3931 : IVec S16 32) (v3934 : IVec S16 32) (v4241 : IVec S16 32) (k0_hw677 : k0_chk677 v3931 v3934 v4241), ∀ a x, ((![v4241, v3931, v3934] : Fin 3 → IVec S16 32) a x).toNat < S16x128x16.size a := fun v3931 v3934 v4241 k0_hw677 => k0_hw677

def k0_chk678 (v3940 : IVec S16 32) (v3943 : IVec S16 32) (v4246 : IVec S16 32) : Prop :=
  (∀ a x, ((![v4246, v3940, v3943] : Fin 3 → IVec S16 32) a x).toNat < S16x128x16.size a)
theorem k0_idx678_inb : ∀ (v3940 : IVec S16 32) (v3943 : IVec S16 32) (v4246 : IVec S16 32) (k0_hw678 : k0_chk678 v3940 v3943 v4246), ∀ a x, ((![v4246, v3940, v3943] : Fin 3 → IVec S16 32) a x).toNat < S16x128x16.size a := fun v3940 v3943 v4246 k0_hw678 => k0_hw678

def k0_chk679 (v3949 : IVec S16 32) (v3952 : IVec S16 32) (v4250 : IVec S16 32) : Prop :=
  (∀ a x, ((![v4250, v3949, v3952] : Fin 3 → IVec S16 32) a x).toNat < S16x128x16.size a)
theorem k0_idx679_inb : ∀ (v3949 : IVec S16 32) (v3952 : IVec S16 32) (v4250 : IVec S16 32) (k0_hw679 : k0_chk679 v3949 v3952 v4250), ∀ a x, ((![v4250, v3949, v3952] : Fin 3 → IVec S16 32) a x).toNat < S16x128x16.size a := fun v3949 v3952 v4250 k0_hw679 => k0_hw679

def k0_chk680 (v3958 : IVec S16 32) (v3961 : IVec S16 32) (v4254 : IVec S16 32) : Prop :=
  (∀ a x, ((![v4254, v3958, v3961] : Fin 3 → IVec S16 32) a x).toNat < S16x128x16.size a)
theorem k0_idx680_inb : ∀ (v3958 : IVec S16 32) (v3961 : IVec S16 32) (v4254 : IVec S16 32) (k0_hw680 : k0_chk680 v3958 v3961 v4254), ∀ a x, ((![v4254, v3958, v3961] : Fin 3 → IVec S16 32) a x).toNat < S16x128x16.size a := fun v3958 v3961 v4254 k0_hw680 => k0_hw680

def k0_chk681 (v3967 : IVec S16 32) (v3970 : IVec S16 32) (v4259 : IVec S16 32) : Prop :=
  (∀ a x, ((![v4259, v3967, v3970] : Fin 3 → IVec S16 32) a x).toNat < S16x128x16.size a)
theorem k0_idx681_inb : ∀ (v3967 : IVec S16 32) (v3970 : IVec S16 32) (v4259 : IVec S16 32) (k0_hw681 : k0_chk681 v3967 v3970 v4259), ∀ a x, ((![v4259, v3967, v3970] : Fin 3 → IVec S16 32) a x).toNat < S16x128x16.size a := fun v3967 v3970 v4259 k0_hw681 => k0_hw681

def k0_chk682 (v3976 : IVec S16 32) (v3979 : IVec S16 32) (v4263 : IVec S16 32) : Prop :=
  (∀ a x, ((![v4263, v3976, v3979] : Fin 3 → IVec S16 32) a x).toNat < S16x128x16.size a)
theorem k0_idx682_inb : ∀ (v3976 : IVec S16 32) (v3979 : IVec S16 32) (v4263 : IVec S16 32) (k0_hw682 : k0_chk682 v3976 v3979 v4263), ∀ a x, ((![v4263, v3976, v3979] : Fin 3 → IVec S16 32) a x).toNat < S16x128x16.size a := fun v3976 v3979 v4263 k0_hw682 => k0_hw682

def k0_chk683 (v3985 : IVec S16 32) (v3988 : IVec S16 32) (v4267 : IVec S16 32) : Prop :=
  (∀ a x, ((![v4267, v3985, v3988] : Fin 3 → IVec S16 32) a x).toNat < S16x128x16.size a)
theorem k0_idx683_inb : ∀ (v3985 : IVec S16 32) (v3988 : IVec S16 32) (v4267 : IVec S16 32) (k0_hw683 : k0_chk683 v3985 v3988 v4267), ∀ a x, ((![v4267, v3985, v3988] : Fin 3 → IVec S16 32) a x).toNat < S16x128x16.size a := fun v3985 v3988 v4267 k0_hw683 => k0_hw683

def k0_chk684 (v3994 : IVec S16 32) (v3997 : IVec S16 32) (v4272 : IVec S16 32) : Prop :=
  (∀ a x, ((![v4272, v3994, v3997] : Fin 3 → IVec S16 32) a x).toNat < S16x128x16.size a)
theorem k0_idx684_inb : ∀ (v3994 : IVec S16 32) (v3997 : IVec S16 32) (v4272 : IVec S16 32) (k0_hw684 : k0_chk684 v3994 v3997 v4272), ∀ a x, ((![v4272, v3994, v3997] : Fin 3 → IVec S16 32) a x).toNat < S16x128x16.size a := fun v3994 v3997 v4272 k0_hw684 => k0_hw684

def k0_chk685 (v4003 : IVec S16 32) (v4006 : IVec S16 32) (v4276 : IVec S16 32) : Prop :=
  (∀ a x, ((![v4276, v4003, v4006] : Fin 3 → IVec S16 32) a x).toNat < S16x128x16.size a)
theorem k0_idx685_inb : ∀ (v4003 : IVec S16 32) (v4006 : IVec S16 32) (v4276 : IVec S16 32) (k0_hw685 : k0_chk685 v4003 v4006 v4276), ∀ a x, ((![v4276, v4003, v4006] : Fin 3 → IVec S16 32) a x).toNat < S16x128x16.size a := fun v4003 v4006 v4276 k0_hw685 => k0_hw685

def k0_chk686 (v4012 : IVec S16 32) (v4015 : IVec S16 32) (v4280 : IVec S16 32) : Prop :=
  (∀ a x, ((![v4280, v4012, v4015] : Fin 3 → IVec S16 32) a x).toNat < S16x128x16.size a)
theorem k0_idx686_inb : ∀ (v4012 : IVec S16 32) (v4015 : IVec S16 32) (v4280 : IVec S16 32) (k0_hw686 : k0_chk686 v4012 v4015 v4280), ∀ a x, ((![v4280, v4012, v4015] : Fin 3 → IVec S16 32) a x).toNat < S16x128x16.size a := fun v4012 v4015 v4280 k0_hw686 => k0_hw686

def k0_chk687 (v3913 : IVec S16 32) (v3916 : IVec S16 32) (v4286 : IVec S16 32) : Prop :=
  (∀ a x, ((![v4286, v3913, v3916] : Fin 3 → IVec S16 32) a x).toNat < S16x128x16.size a)
theorem k0_idx687_inb : ∀ (v3913 : IVec S16 32) (v3916 : IVec S16 32) (v4286 : IVec S16 32) (k0_hw687 : k0_chk687 v3913 v3916 v4286), ∀ a x, ((![v4286, v3913, v3916] : Fin 3 → IVec S16 32) a x).toNat < S16x128x16.size a := fun v3913 v3916 v4286 k0_hw687 => k0_hw687

def k0_chk688 (v3922 : IVec S16 32) (v3925 : IVec S16 32) (v4290 : IVec S16 32) : Prop :=
  (∀ a x, ((![v4290, v3922, v3925] : Fin 3 → IVec S16 32) a x).toNat < S16x128x16.size a)
theorem k0_idx688_inb : ∀ (v3922 : IVec S16 32) (v3925 : IVec S16 32) (v4290 : IVec S16 32) (k0_hw688 : k0_chk688 v3922 v3925 v4290), ∀ a x, ((![v4290, v3922, v3925] : Fin 3 → IVec S16 32) a x).toNat < S16x128x16.size a := fun v3922 v3925 v4290 k0_hw688 => k0_hw688

def k0_chk689 (v3931 : IVec S16 32) (v3934 : IVec S16 32) (v4294 : IVec S16 32) : Prop :=
  (∀ a x, ((![v4294, v3931, v3934] : Fin 3 → IVec S16 32) a x).toNat < S16x128x16.size a)
theorem k0_idx689_inb : ∀ (v3931 : IVec S16 32) (v3934 : IVec S16 32) (v4294 : IVec S16 32) (k0_hw689 : k0_chk689 v3931 v3934 v4294), ∀ a x, ((![v4294, v3931, v3934] : Fin 3 → IVec S16 32) a x).toNat < S16x128x16.size a := fun v3931 v3934 v4294 k0_hw689 => k0_hw689

def k0_chk690 (v3940 : IVec S16 32) (v3943 : IVec S16 32) (v4299 : IVec S16 32) : Prop :=
  (∀ a x, ((![v4299, v3940, v3943] : Fin 3 → IVec S16 32) a x).toNat < S16x128x16.size a)
theorem k0_idx690_inb : ∀ (v3940 : IVec S16 32) (v3943 : IVec S16 32) (v4299 : IVec S16 32) (k0_hw690 : k0_chk690 v3940 v3943 v4299), ∀ a x, ((![v4299, v3940, v3943] : Fin 3 → IVec S16 32) a x).toNat < S16x128x16.size a := fun v3940 v3943 v4299 k0_hw690 => k0_hw690

def k0_chk691 (v3949 : IVec S16 32) (v3952 : IVec S16 32) (v4303 : IVec S16 32) : Prop :=
  (∀ a x, ((![v4303, v3949, v3952] : Fin 3 → IVec S16 32) a x).toNat < S16x128x16.size a)
theorem k0_idx691_inb : ∀ (v3949 : IVec S16 32) (v3952 : IVec S16 32) (v4303 : IVec S16 32) (k0_hw691 : k0_chk691 v3949 v3952 v4303), ∀ a x, ((![v4303, v3949, v3952] : Fin 3 → IVec S16 32) a x).toNat < S16x128x16.size a := fun v3949 v3952 v4303 k0_hw691 => k0_hw691

def k0_chk692 (v3958 : IVec S16 32) (v3961 : IVec S16 32) (v4307 : IVec S16 32) : Prop :=
  (∀ a x, ((![v4307, v3958, v3961] : Fin 3 → IVec S16 32) a x).toNat < S16x128x16.size a)
theorem k0_idx692_inb : ∀ (v3958 : IVec S16 32) (v3961 : IVec S16 32) (v4307 : IVec S16 32) (k0_hw692 : k0_chk692 v3958 v3961 v4307), ∀ a x, ((![v4307, v3958, v3961] : Fin 3 → IVec S16 32) a x).toNat < S16x128x16.size a := fun v3958 v3961 v4307 k0_hw692 => k0_hw692

def k0_chk693 (v3967 : IVec S16 32) (v3970 : IVec S16 32) (v4312 : IVec S16 32) : Prop :=
  (∀ a x, ((![v4312, v3967, v3970] : Fin 3 → IVec S16 32) a x).toNat < S16x128x16.size a)
theorem k0_idx693_inb : ∀ (v3967 : IVec S16 32) (v3970 : IVec S16 32) (v4312 : IVec S16 32) (k0_hw693 : k0_chk693 v3967 v3970 v4312), ∀ a x, ((![v4312, v3967, v3970] : Fin 3 → IVec S16 32) a x).toNat < S16x128x16.size a := fun v3967 v3970 v4312 k0_hw693 => k0_hw693

def k0_chk694 (v3976 : IVec S16 32) (v3979 : IVec S16 32) (v4316 : IVec S16 32) : Prop :=
  (∀ a x, ((![v4316, v3976, v3979] : Fin 3 → IVec S16 32) a x).toNat < S16x128x16.size a)
theorem k0_idx694_inb : ∀ (v3976 : IVec S16 32) (v3979 : IVec S16 32) (v4316 : IVec S16 32) (k0_hw694 : k0_chk694 v3976 v3979 v4316), ∀ a x, ((![v4316, v3976, v3979] : Fin 3 → IVec S16 32) a x).toNat < S16x128x16.size a := fun v3976 v3979 v4316 k0_hw694 => k0_hw694

def k0_chk695 (v3985 : IVec S16 32) (v3988 : IVec S16 32) (v4320 : IVec S16 32) : Prop :=
  (∀ a x, ((![v4320, v3985, v3988] : Fin 3 → IVec S16 32) a x).toNat < S16x128x16.size a)
theorem k0_idx695_inb : ∀ (v3985 : IVec S16 32) (v3988 : IVec S16 32) (v4320 : IVec S16 32) (k0_hw695 : k0_chk695 v3985 v3988 v4320), ∀ a x, ((![v4320, v3985, v3988] : Fin 3 → IVec S16 32) a x).toNat < S16x128x16.size a := fun v3985 v3988 v4320 k0_hw695 => k0_hw695

def k0_chk696 (v3994 : IVec S16 32) (v3997 : IVec S16 32) (v4325 : IVec S16 32) : Prop :=
  (∀ a x, ((![v4325, v3994, v3997] : Fin 3 → IVec S16 32) a x).toNat < S16x128x16.size a)
theorem k0_idx696_inb : ∀ (v3994 : IVec S16 32) (v3997 : IVec S16 32) (v4325 : IVec S16 32) (k0_hw696 : k0_chk696 v3994 v3997 v4325), ∀ a x, ((![v4325, v3994, v3997] : Fin 3 → IVec S16 32) a x).toNat < S16x128x16.size a := fun v3994 v3997 v4325 k0_hw696 => k0_hw696

def k0_chk697 (v4003 : IVec S16 32) (v4006 : IVec S16 32) (v4329 : IVec S16 32) : Prop :=
  (∀ a x, ((![v4329, v4003, v4006] : Fin 3 → IVec S16 32) a x).toNat < S16x128x16.size a)
theorem k0_idx697_inb : ∀ (v4003 : IVec S16 32) (v4006 : IVec S16 32) (v4329 : IVec S16 32) (k0_hw697 : k0_chk697 v4003 v4006 v4329), ∀ a x, ((![v4329, v4003, v4006] : Fin 3 → IVec S16 32) a x).toNat < S16x128x16.size a := fun v4003 v4006 v4329 k0_hw697 => k0_hw697

def k0_chk698 (v4012 : IVec S16 32) (v4015 : IVec S16 32) (v4333 : IVec S16 32) : Prop :=
  (∀ a x, ((![v4333, v4012, v4015] : Fin 3 → IVec S16 32) a x).toNat < S16x128x16.size a)
theorem k0_idx698_inb : ∀ (v4012 : IVec S16 32) (v4015 : IVec S16 32) (v4333 : IVec S16 32) (k0_hw698 : k0_chk698 v4012 v4015 v4333), ∀ a x, ((![v4333, v4012, v4015] : Fin 3 → IVec S16 32) a x).toNat < S16x128x16.size a := fun v4012 v4015 v4333 k0_hw698 => k0_hw698

def k0_chk699 (v3913 : IVec S16 32) (v3916 : IVec S16 32) (v4339 : IVec S16 32) : Prop :=
  (∀ a x, ((![v4339, v3913, v3916] : Fin 3 → IVec S16 32) a x).toNat < S16x128x16.size a)
theorem k0_idx699_inb : ∀ (v3913 : IVec S16 32) (v3916 : IVec S16 32) (v4339 : IVec S16 32) (k0_hw699 : k0_chk699 v3913 v3916 v4339), ∀ a x, ((![v4339, v3913, v3916] : Fin 3 → IVec S16 32) a x).toNat < S16x128x16.size a := fun v3913 v3916 v4339 k0_hw699 => k0_hw699

def k0_chk700 (v3922 : IVec S16 32) (v3925 : IVec S16 32) (v4343 : IVec S16 32) : Prop :=
  (∀ a x, ((![v4343, v3922, v3925] : Fin 3 → IVec S16 32) a x).toNat < S16x128x16.size a)
theorem k0_idx700_inb : ∀ (v3922 : IVec S16 32) (v3925 : IVec S16 32) (v4343 : IVec S16 32) (k0_hw700 : k0_chk700 v3922 v3925 v4343), ∀ a x, ((![v4343, v3922, v3925] : Fin 3 → IVec S16 32) a x).toNat < S16x128x16.size a := fun v3922 v3925 v4343 k0_hw700 => k0_hw700

def k0_chk701 (v3931 : IVec S16 32) (v3934 : IVec S16 32) (v4347 : IVec S16 32) : Prop :=
  (∀ a x, ((![v4347, v3931, v3934] : Fin 3 → IVec S16 32) a x).toNat < S16x128x16.size a)
theorem k0_idx701_inb : ∀ (v3931 : IVec S16 32) (v3934 : IVec S16 32) (v4347 : IVec S16 32) (k0_hw701 : k0_chk701 v3931 v3934 v4347), ∀ a x, ((![v4347, v3931, v3934] : Fin 3 → IVec S16 32) a x).toNat < S16x128x16.size a := fun v3931 v3934 v4347 k0_hw701 => k0_hw701

def k0_chk702 (v3940 : IVec S16 32) (v3943 : IVec S16 32) (v4352 : IVec S16 32) : Prop :=
  (∀ a x, ((![v4352, v3940, v3943] : Fin 3 → IVec S16 32) a x).toNat < S16x128x16.size a)
theorem k0_idx702_inb : ∀ (v3940 : IVec S16 32) (v3943 : IVec S16 32) (v4352 : IVec S16 32) (k0_hw702 : k0_chk702 v3940 v3943 v4352), ∀ a x, ((![v4352, v3940, v3943] : Fin 3 → IVec S16 32) a x).toNat < S16x128x16.size a := fun v3940 v3943 v4352 k0_hw702 => k0_hw702

def k0_chk703 (v3949 : IVec S16 32) (v3952 : IVec S16 32) (v4356 : IVec S16 32) : Prop :=
  (∀ a x, ((![v4356, v3949, v3952] : Fin 3 → IVec S16 32) a x).toNat < S16x128x16.size a)
theorem k0_idx703_inb : ∀ (v3949 : IVec S16 32) (v3952 : IVec S16 32) (v4356 : IVec S16 32) (k0_hw703 : k0_chk703 v3949 v3952 v4356), ∀ a x, ((![v4356, v3949, v3952] : Fin 3 → IVec S16 32) a x).toNat < S16x128x16.size a := fun v3949 v3952 v4356 k0_hw703 => k0_hw703

def k0_chk704 (v3958 : IVec S16 32) (v3961 : IVec S16 32) (v4360 : IVec S16 32) : Prop :=
  (∀ a x, ((![v4360, v3958, v3961] : Fin 3 → IVec S16 32) a x).toNat < S16x128x16.size a)
theorem k0_idx704_inb : ∀ (v3958 : IVec S16 32) (v3961 : IVec S16 32) (v4360 : IVec S16 32) (k0_hw704 : k0_chk704 v3958 v3961 v4360), ∀ a x, ((![v4360, v3958, v3961] : Fin 3 → IVec S16 32) a x).toNat < S16x128x16.size a := fun v3958 v3961 v4360 k0_hw704 => k0_hw704

def k0_chk705 (v3967 : IVec S16 32) (v3970 : IVec S16 32) (v4365 : IVec S16 32) : Prop :=
  (∀ a x, ((![v4365, v3967, v3970] : Fin 3 → IVec S16 32) a x).toNat < S16x128x16.size a)
theorem k0_idx705_inb : ∀ (v3967 : IVec S16 32) (v3970 : IVec S16 32) (v4365 : IVec S16 32) (k0_hw705 : k0_chk705 v3967 v3970 v4365), ∀ a x, ((![v4365, v3967, v3970] : Fin 3 → IVec S16 32) a x).toNat < S16x128x16.size a := fun v3967 v3970 v4365 k0_hw705 => k0_hw705

def k0_chk706 (v3976 : IVec S16 32) (v3979 : IVec S16 32) (v4369 : IVec S16 32) : Prop :=
  (∀ a x, ((![v4369, v3976, v3979] : Fin 3 → IVec S16 32) a x).toNat < S16x128x16.size a)
theorem k0_idx706_inb : ∀ (v3976 : IVec S16 32) (v3979 : IVec S16 32) (v4369 : IVec S16 32) (k0_hw706 : k0_chk706 v3976 v3979 v4369), ∀ a x, ((![v4369, v3976, v3979] : Fin 3 → IVec S16 32) a x).toNat < S16x128x16.size a := fun v3976 v3979 v4369 k0_hw706 => k0_hw706

def k0_chk707 (v3985 : IVec S16 32) (v3988 : IVec S16 32) (v4373 : IVec S16 32) : Prop :=
  (∀ a x, ((![v4373, v3985, v3988] : Fin 3 → IVec S16 32) a x).toNat < S16x128x16.size a)
theorem k0_idx707_inb : ∀ (v3985 : IVec S16 32) (v3988 : IVec S16 32) (v4373 : IVec S16 32) (k0_hw707 : k0_chk707 v3985 v3988 v4373), ∀ a x, ((![v4373, v3985, v3988] : Fin 3 → IVec S16 32) a x).toNat < S16x128x16.size a := fun v3985 v3988 v4373 k0_hw707 => k0_hw707

def k0_chk708 (v3994 : IVec S16 32) (v3997 : IVec S16 32) (v4378 : IVec S16 32) : Prop :=
  (∀ a x, ((![v4378, v3994, v3997] : Fin 3 → IVec S16 32) a x).toNat < S16x128x16.size a)
theorem k0_idx708_inb : ∀ (v3994 : IVec S16 32) (v3997 : IVec S16 32) (v4378 : IVec S16 32) (k0_hw708 : k0_chk708 v3994 v3997 v4378), ∀ a x, ((![v4378, v3994, v3997] : Fin 3 → IVec S16 32) a x).toNat < S16x128x16.size a := fun v3994 v3997 v4378 k0_hw708 => k0_hw708

def k0_chk709 (v4003 : IVec S16 32) (v4006 : IVec S16 32) (v4382 : IVec S16 32) : Prop :=
  (∀ a x, ((![v4382, v4003, v4006] : Fin 3 → IVec S16 32) a x).toNat < S16x128x16.size a)
theorem k0_idx709_inb : ∀ (v4003 : IVec S16 32) (v4006 : IVec S16 32) (v4382 : IVec S16 32) (k0_hw709 : k0_chk709 v4003 v4006 v4382), ∀ a x, ((![v4382, v4003, v4006] : Fin 3 → IVec S16 32) a x).toNat < S16x128x16.size a := fun v4003 v4006 v4382 k0_hw709 => k0_hw709

def k0_chk710 (v4012 : IVec S16 32) (v4015 : IVec S16 32) (v4386 : IVec S16 32) : Prop :=
  (∀ a x, ((![v4386, v4012, v4015] : Fin 3 → IVec S16 32) a x).toNat < S16x128x16.size a)
theorem k0_idx710_inb : ∀ (v4012 : IVec S16 32) (v4015 : IVec S16 32) (v4386 : IVec S16 32) (k0_hw710 : k0_chk710 v4012 v4015 v4386), ∀ a x, ((![v4386, v4012, v4015] : Fin 3 → IVec S16 32) a x).toNat < S16x128x16.size a := fun v4012 v4015 v4386 k0_hw710 => k0_hw710

def k0_chk711 (v3913 : IVec S16 32) (v3916 : IVec S16 32) (v4392 : IVec S16 32) : Prop :=
  (∀ a x, ((![v4392, v3913, v3916] : Fin 3 → IVec S16 32) a x).toNat < S16x128x16.size a)
theorem k0_idx711_inb : ∀ (v3913 : IVec S16 32) (v3916 : IVec S16 32) (v4392 : IVec S16 32) (k0_hw711 : k0_chk711 v3913 v3916 v4392), ∀ a x, ((![v4392, v3913, v3916] : Fin 3 → IVec S16 32) a x).toNat < S16x128x16.size a := fun v3913 v3916 v4392 k0_hw711 => k0_hw711

def k0_chk712 (v3922 : IVec S16 32) (v3925 : IVec S16 32) (v4396 : IVec S16 32) : Prop :=
  (∀ a x, ((![v4396, v3922, v3925] : Fin 3 → IVec S16 32) a x).toNat < S16x128x16.size a)
theorem k0_idx712_inb : ∀ (v3922 : IVec S16 32) (v3925 : IVec S16 32) (v4396 : IVec S16 32) (k0_hw712 : k0_chk712 v3922 v3925 v4396), ∀ a x, ((![v4396, v3922, v3925] : Fin 3 → IVec S16 32) a x).toNat < S16x128x16.size a := fun v3922 v3925 v4396 k0_hw712 => k0_hw712

def k0_chk713 (v3931 : IVec S16 32) (v3934 : IVec S16 32) (v4400 : IVec S16 32) : Prop :=
  (∀ a x, ((![v4400, v3931, v3934] : Fin 3 → IVec S16 32) a x).toNat < S16x128x16.size a)
theorem k0_idx713_inb : ∀ (v3931 : IVec S16 32) (v3934 : IVec S16 32) (v4400 : IVec S16 32) (k0_hw713 : k0_chk713 v3931 v3934 v4400), ∀ a x, ((![v4400, v3931, v3934] : Fin 3 → IVec S16 32) a x).toNat < S16x128x16.size a := fun v3931 v3934 v4400 k0_hw713 => k0_hw713

def k0_chk714 (v3940 : IVec S16 32) (v3943 : IVec S16 32) (v4405 : IVec S16 32) : Prop :=
  (∀ a x, ((![v4405, v3940, v3943] : Fin 3 → IVec S16 32) a x).toNat < S16x128x16.size a)
theorem k0_idx714_inb : ∀ (v3940 : IVec S16 32) (v3943 : IVec S16 32) (v4405 : IVec S16 32) (k0_hw714 : k0_chk714 v3940 v3943 v4405), ∀ a x, ((![v4405, v3940, v3943] : Fin 3 → IVec S16 32) a x).toNat < S16x128x16.size a := fun v3940 v3943 v4405 k0_hw714 => k0_hw714

def k0_chk715 (v3949 : IVec S16 32) (v3952 : IVec S16 32) (v4409 : IVec S16 32) : Prop :=
  (∀ a x, ((![v4409, v3949, v3952] : Fin 3 → IVec S16 32) a x).toNat < S16x128x16.size a)
theorem k0_idx715_inb : ∀ (v3949 : IVec S16 32) (v3952 : IVec S16 32) (v4409 : IVec S16 32) (k0_hw715 : k0_chk715 v3949 v3952 v4409), ∀ a x, ((![v4409, v3949, v3952] : Fin 3 → IVec S16 32) a x).toNat < S16x128x16.size a := fun v3949 v3952 v4409 k0_hw715 => k0_hw715

def k0_chk716 (v3958 : IVec S16 32) (v3961 : IVec S16 32) (v4413 : IVec S16 32) : Prop :=
  (∀ a x, ((![v4413, v3958, v3961] : Fin 3 → IVec S16 32) a x).toNat < S16x128x16.size a)
theorem k0_idx716_inb : ∀ (v3958 : IVec S16 32) (v3961 : IVec S16 32) (v4413 : IVec S16 32) (k0_hw716 : k0_chk716 v3958 v3961 v4413), ∀ a x, ((![v4413, v3958, v3961] : Fin 3 → IVec S16 32) a x).toNat < S16x128x16.size a := fun v3958 v3961 v4413 k0_hw716 => k0_hw716

def k0_chk717 (v3967 : IVec S16 32) (v3970 : IVec S16 32) (v4418 : IVec S16 32) : Prop :=
  (∀ a x, ((![v4418, v3967, v3970] : Fin 3 → IVec S16 32) a x).toNat < S16x128x16.size a)
theorem k0_idx717_inb : ∀ (v3967 : IVec S16 32) (v3970 : IVec S16 32) (v4418 : IVec S16 32) (k0_hw717 : k0_chk717 v3967 v3970 v4418), ∀ a x, ((![v4418, v3967, v3970] : Fin 3 → IVec S16 32) a x).toNat < S16x128x16.size a := fun v3967 v3970 v4418 k0_hw717 => k0_hw717

def k0_chk718 (v3976 : IVec S16 32) (v3979 : IVec S16 32) (v4422 : IVec S16 32) : Prop :=
  (∀ a x, ((![v4422, v3976, v3979] : Fin 3 → IVec S16 32) a x).toNat < S16x128x16.size a)
theorem k0_idx718_inb : ∀ (v3976 : IVec S16 32) (v3979 : IVec S16 32) (v4422 : IVec S16 32) (k0_hw718 : k0_chk718 v3976 v3979 v4422), ∀ a x, ((![v4422, v3976, v3979] : Fin 3 → IVec S16 32) a x).toNat < S16x128x16.size a := fun v3976 v3979 v4422 k0_hw718 => k0_hw718

def k0_chk719 (v3985 : IVec S16 32) (v3988 : IVec S16 32) (v4426 : IVec S16 32) : Prop :=
  (∀ a x, ((![v4426, v3985, v3988] : Fin 3 → IVec S16 32) a x).toNat < S16x128x16.size a)
theorem k0_idx719_inb : ∀ (v3985 : IVec S16 32) (v3988 : IVec S16 32) (v4426 : IVec S16 32) (k0_hw719 : k0_chk719 v3985 v3988 v4426), ∀ a x, ((![v4426, v3985, v3988] : Fin 3 → IVec S16 32) a x).toNat < S16x128x16.size a := fun v3985 v3988 v4426 k0_hw719 => k0_hw719

def k0_chk720 (v3994 : IVec S16 32) (v3997 : IVec S16 32) (v4431 : IVec S16 32) : Prop :=
  (∀ a x, ((![v4431, v3994, v3997] : Fin 3 → IVec S16 32) a x).toNat < S16x128x16.size a)
theorem k0_idx720_inb : ∀ (v3994 : IVec S16 32) (v3997 : IVec S16 32) (v4431 : IVec S16 32) (k0_hw720 : k0_chk720 v3994 v3997 v4431), ∀ a x, ((![v4431, v3994, v3997] : Fin 3 → IVec S16 32) a x).toNat < S16x128x16.size a := fun v3994 v3997 v4431 k0_hw720 => k0_hw720

def k0_chk721 (v4003 : IVec S16 32) (v4006 : IVec S16 32) (v4435 : IVec S16 32) : Prop :=
  (∀ a x, ((![v4435, v4003, v4006] : Fin 3 → IVec S16 32) a x).toNat < S16x128x16.size a)
theorem k0_idx721_inb : ∀ (v4003 : IVec S16 32) (v4006 : IVec S16 32) (v4435 : IVec S16 32) (k0_hw721 : k0_chk721 v4003 v4006 v4435), ∀ a x, ((![v4435, v4003, v4006] : Fin 3 → IVec S16 32) a x).toNat < S16x128x16.size a := fun v4003 v4006 v4435 k0_hw721 => k0_hw721

def k0_chk722 (v4012 : IVec S16 32) (v4015 : IVec S16 32) (v4439 : IVec S16 32) : Prop :=
  (∀ a x, ((![v4439, v4012, v4015] : Fin 3 → IVec S16 32) a x).toNat < S16x128x16.size a)
theorem k0_idx722_inb : ∀ (v4012 : IVec S16 32) (v4015 : IVec S16 32) (v4439 : IVec S16 32) (k0_hw722 : k0_chk722 v4012 v4015 v4439), ∀ a x, ((![v4439, v4012, v4015] : Fin 3 → IVec S16 32) a x).toNat < S16x128x16.size a := fun v4012 v4015 v4439 k0_hw722 => k0_hw722

def k0_chk723 (v3913 : IVec S16 32) (v3916 : IVec S16 32) (v4445 : IVec S16 32) : Prop :=
  (∀ a x, ((![v4445, v3913, v3916] : Fin 3 → IVec S16 32) a x).toNat < S16x128x16.size a)
theorem k0_idx723_inb : ∀ (v3913 : IVec S16 32) (v3916 : IVec S16 32) (v4445 : IVec S16 32) (k0_hw723 : k0_chk723 v3913 v3916 v4445), ∀ a x, ((![v4445, v3913, v3916] : Fin 3 → IVec S16 32) a x).toNat < S16x128x16.size a := fun v3913 v3916 v4445 k0_hw723 => k0_hw723

def k0_chk724 (v3922 : IVec S16 32) (v3925 : IVec S16 32) (v4449 : IVec S16 32) : Prop :=
  (∀ a x, ((![v4449, v3922, v3925] : Fin 3 → IVec S16 32) a x).toNat < S16x128x16.size a)
theorem k0_idx724_inb : ∀ (v3922 : IVec S16 32) (v3925 : IVec S16 32) (v4449 : IVec S16 32) (k0_hw724 : k0_chk724 v3922 v3925 v4449), ∀ a x, ((![v4449, v3922, v3925] : Fin 3 → IVec S16 32) a x).toNat < S16x128x16.size a := fun v3922 v3925 v4449 k0_hw724 => k0_hw724

def k0_chk725 (v3931 : IVec S16 32) (v3934 : IVec S16 32) (v4453 : IVec S16 32) : Prop :=
  (∀ a x, ((![v4453, v3931, v3934] : Fin 3 → IVec S16 32) a x).toNat < S16x128x16.size a)
theorem k0_idx725_inb : ∀ (v3931 : IVec S16 32) (v3934 : IVec S16 32) (v4453 : IVec S16 32) (k0_hw725 : k0_chk725 v3931 v3934 v4453), ∀ a x, ((![v4453, v3931, v3934] : Fin 3 → IVec S16 32) a x).toNat < S16x128x16.size a := fun v3931 v3934 v4453 k0_hw725 => k0_hw725

def k0_chk726 (v3940 : IVec S16 32) (v3943 : IVec S16 32) (v4458 : IVec S16 32) : Prop :=
  (∀ a x, ((![v4458, v3940, v3943] : Fin 3 → IVec S16 32) a x).toNat < S16x128x16.size a)
theorem k0_idx726_inb : ∀ (v3940 : IVec S16 32) (v3943 : IVec S16 32) (v4458 : IVec S16 32) (k0_hw726 : k0_chk726 v3940 v3943 v4458), ∀ a x, ((![v4458, v3940, v3943] : Fin 3 → IVec S16 32) a x).toNat < S16x128x16.size a := fun v3940 v3943 v4458 k0_hw726 => k0_hw726

def k0_chk727 (v3949 : IVec S16 32) (v3952 : IVec S16 32) (v4462 : IVec S16 32) : Prop :=
  (∀ a x, ((![v4462, v3949, v3952] : Fin 3 → IVec S16 32) a x).toNat < S16x128x16.size a)
theorem k0_idx727_inb : ∀ (v3949 : IVec S16 32) (v3952 : IVec S16 32) (v4462 : IVec S16 32) (k0_hw727 : k0_chk727 v3949 v3952 v4462), ∀ a x, ((![v4462, v3949, v3952] : Fin 3 → IVec S16 32) a x).toNat < S16x128x16.size a := fun v3949 v3952 v4462 k0_hw727 => k0_hw727

def k0_chk728 (v3958 : IVec S16 32) (v3961 : IVec S16 32) (v4466 : IVec S16 32) : Prop :=
  (∀ a x, ((![v4466, v3958, v3961] : Fin 3 → IVec S16 32) a x).toNat < S16x128x16.size a)
theorem k0_idx728_inb : ∀ (v3958 : IVec S16 32) (v3961 : IVec S16 32) (v4466 : IVec S16 32) (k0_hw728 : k0_chk728 v3958 v3961 v4466), ∀ a x, ((![v4466, v3958, v3961] : Fin 3 → IVec S16 32) a x).toNat < S16x128x16.size a := fun v3958 v3961 v4466 k0_hw728 => k0_hw728

def k0_chk729 (v3967 : IVec S16 32) (v3970 : IVec S16 32) (v4471 : IVec S16 32) : Prop :=
  (∀ a x, ((![v4471, v3967, v3970] : Fin 3 → IVec S16 32) a x).toNat < S16x128x16.size a)
theorem k0_idx729_inb : ∀ (v3967 : IVec S16 32) (v3970 : IVec S16 32) (v4471 : IVec S16 32) (k0_hw729 : k0_chk729 v3967 v3970 v4471), ∀ a x, ((![v4471, v3967, v3970] : Fin 3 → IVec S16 32) a x).toNat < S16x128x16.size a := fun v3967 v3970 v4471 k0_hw729 => k0_hw729

def k0_chk730 (v3976 : IVec S16 32) (v3979 : IVec S16 32) (v4475 : IVec S16 32) : Prop :=
  (∀ a x, ((![v4475, v3976, v3979] : Fin 3 → IVec S16 32) a x).toNat < S16x128x16.size a)
theorem k0_idx730_inb : ∀ (v3976 : IVec S16 32) (v3979 : IVec S16 32) (v4475 : IVec S16 32) (k0_hw730 : k0_chk730 v3976 v3979 v4475), ∀ a x, ((![v4475, v3976, v3979] : Fin 3 → IVec S16 32) a x).toNat < S16x128x16.size a := fun v3976 v3979 v4475 k0_hw730 => k0_hw730

def k0_chk731 (v3985 : IVec S16 32) (v3988 : IVec S16 32) (v4479 : IVec S16 32) : Prop :=
  (∀ a x, ((![v4479, v3985, v3988] : Fin 3 → IVec S16 32) a x).toNat < S16x128x16.size a)
theorem k0_idx731_inb : ∀ (v3985 : IVec S16 32) (v3988 : IVec S16 32) (v4479 : IVec S16 32) (k0_hw731 : k0_chk731 v3985 v3988 v4479), ∀ a x, ((![v4479, v3985, v3988] : Fin 3 → IVec S16 32) a x).toNat < S16x128x16.size a := fun v3985 v3988 v4479 k0_hw731 => k0_hw731

def k0_chk732 (v3994 : IVec S16 32) (v3997 : IVec S16 32) (v4484 : IVec S16 32) : Prop :=
  (∀ a x, ((![v4484, v3994, v3997] : Fin 3 → IVec S16 32) a x).toNat < S16x128x16.size a)
theorem k0_idx732_inb : ∀ (v3994 : IVec S16 32) (v3997 : IVec S16 32) (v4484 : IVec S16 32) (k0_hw732 : k0_chk732 v3994 v3997 v4484), ∀ a x, ((![v4484, v3994, v3997] : Fin 3 → IVec S16 32) a x).toNat < S16x128x16.size a := fun v3994 v3997 v4484 k0_hw732 => k0_hw732

def k0_chk733 (v4003 : IVec S16 32) (v4006 : IVec S16 32) (v4488 : IVec S16 32) : Prop :=
  (∀ a x, ((![v4488, v4003, v4006] : Fin 3 → IVec S16 32) a x).toNat < S16x128x16.size a)
theorem k0_idx733_inb : ∀ (v4003 : IVec S16 32) (v4006 : IVec S16 32) (v4488 : IVec S16 32) (k0_hw733 : k0_chk733 v4003 v4006 v4488), ∀ a x, ((![v4488, v4003, v4006] : Fin 3 → IVec S16 32) a x).toNat < S16x128x16.size a := fun v4003 v4006 v4488 k0_hw733 => k0_hw733

def k0_chk734 (v4012 : IVec S16 32) (v4015 : IVec S16 32) (v4492 : IVec S16 32) : Prop :=
  (∀ a x, ((![v4492, v4012, v4015] : Fin 3 → IVec S16 32) a x).toNat < S16x128x16.size a)
theorem k0_idx734_inb : ∀ (v4012 : IVec S16 32) (v4015 : IVec S16 32) (v4492 : IVec S16 32) (k0_hw734 : k0_chk734 v4012 v4015 v4492), ∀ a x, ((![v4492, v4012, v4015] : Fin 3 → IVec S16 32) a x).toNat < S16x128x16.size a := fun v4012 v4015 v4492 k0_hw734 => k0_hw734

def k0_chk735 (v3913 : IVec S16 32) (v3916 : IVec S16 32) (v4498 : IVec S16 32) : Prop :=
  (∀ a x, ((![v4498, v3913, v3916] : Fin 3 → IVec S16 32) a x).toNat < S16x128x16.size a)
theorem k0_idx735_inb : ∀ (v3913 : IVec S16 32) (v3916 : IVec S16 32) (v4498 : IVec S16 32) (k0_hw735 : k0_chk735 v3913 v3916 v4498), ∀ a x, ((![v4498, v3913, v3916] : Fin 3 → IVec S16 32) a x).toNat < S16x128x16.size a := fun v3913 v3916 v4498 k0_hw735 => k0_hw735

def k0_chk736 (v3922 : IVec S16 32) (v3925 : IVec S16 32) (v4502 : IVec S16 32) : Prop :=
  (∀ a x, ((![v4502, v3922, v3925] : Fin 3 → IVec S16 32) a x).toNat < S16x128x16.size a)
theorem k0_idx736_inb : ∀ (v3922 : IVec S16 32) (v3925 : IVec S16 32) (v4502 : IVec S16 32) (k0_hw736 : k0_chk736 v3922 v3925 v4502), ∀ a x, ((![v4502, v3922, v3925] : Fin 3 → IVec S16 32) a x).toNat < S16x128x16.size a := fun v3922 v3925 v4502 k0_hw736 => k0_hw736

def k0_chk737 (v3931 : IVec S16 32) (v3934 : IVec S16 32) (v4506 : IVec S16 32) : Prop :=
  (∀ a x, ((![v4506, v3931, v3934] : Fin 3 → IVec S16 32) a x).toNat < S16x128x16.size a)
theorem k0_idx737_inb : ∀ (v3931 : IVec S16 32) (v3934 : IVec S16 32) (v4506 : IVec S16 32) (k0_hw737 : k0_chk737 v3931 v3934 v4506), ∀ a x, ((![v4506, v3931, v3934] : Fin 3 → IVec S16 32) a x).toNat < S16x128x16.size a := fun v3931 v3934 v4506 k0_hw737 => k0_hw737

def k0_chk738 (v3940 : IVec S16 32) (v3943 : IVec S16 32) (v4511 : IVec S16 32) : Prop :=
  (∀ a x, ((![v4511, v3940, v3943] : Fin 3 → IVec S16 32) a x).toNat < S16x128x16.size a)
theorem k0_idx738_inb : ∀ (v3940 : IVec S16 32) (v3943 : IVec S16 32) (v4511 : IVec S16 32) (k0_hw738 : k0_chk738 v3940 v3943 v4511), ∀ a x, ((![v4511, v3940, v3943] : Fin 3 → IVec S16 32) a x).toNat < S16x128x16.size a := fun v3940 v3943 v4511 k0_hw738 => k0_hw738

def k0_chk739 (v3949 : IVec S16 32) (v3952 : IVec S16 32) (v4515 : IVec S16 32) : Prop :=
  (∀ a x, ((![v4515, v3949, v3952] : Fin 3 → IVec S16 32) a x).toNat < S16x128x16.size a)
theorem k0_idx739_inb : ∀ (v3949 : IVec S16 32) (v3952 : IVec S16 32) (v4515 : IVec S16 32) (k0_hw739 : k0_chk739 v3949 v3952 v4515), ∀ a x, ((![v4515, v3949, v3952] : Fin 3 → IVec S16 32) a x).toNat < S16x128x16.size a := fun v3949 v3952 v4515 k0_hw739 => k0_hw739

def k0_chk740 (v3958 : IVec S16 32) (v3961 : IVec S16 32) (v4519 : IVec S16 32) : Prop :=
  (∀ a x, ((![v4519, v3958, v3961] : Fin 3 → IVec S16 32) a x).toNat < S16x128x16.size a)
theorem k0_idx740_inb : ∀ (v3958 : IVec S16 32) (v3961 : IVec S16 32) (v4519 : IVec S16 32) (k0_hw740 : k0_chk740 v3958 v3961 v4519), ∀ a x, ((![v4519, v3958, v3961] : Fin 3 → IVec S16 32) a x).toNat < S16x128x16.size a := fun v3958 v3961 v4519 k0_hw740 => k0_hw740

def k0_chk741 (v3967 : IVec S16 32) (v3970 : IVec S16 32) (v4524 : IVec S16 32) : Prop :=
  (∀ a x, ((![v4524, v3967, v3970] : Fin 3 → IVec S16 32) a x).toNat < S16x128x16.size a)
theorem k0_idx741_inb : ∀ (v3967 : IVec S16 32) (v3970 : IVec S16 32) (v4524 : IVec S16 32) (k0_hw741 : k0_chk741 v3967 v3970 v4524), ∀ a x, ((![v4524, v3967, v3970] : Fin 3 → IVec S16 32) a x).toNat < S16x128x16.size a := fun v3967 v3970 v4524 k0_hw741 => k0_hw741

def k0_chk742 (v3976 : IVec S16 32) (v3979 : IVec S16 32) (v4528 : IVec S16 32) : Prop :=
  (∀ a x, ((![v4528, v3976, v3979] : Fin 3 → IVec S16 32) a x).toNat < S16x128x16.size a)
theorem k0_idx742_inb : ∀ (v3976 : IVec S16 32) (v3979 : IVec S16 32) (v4528 : IVec S16 32) (k0_hw742 : k0_chk742 v3976 v3979 v4528), ∀ a x, ((![v4528, v3976, v3979] : Fin 3 → IVec S16 32) a x).toNat < S16x128x16.size a := fun v3976 v3979 v4528 k0_hw742 => k0_hw742

def k0_chk743 (v3985 : IVec S16 32) (v3988 : IVec S16 32) (v4532 : IVec S16 32) : Prop :=
  (∀ a x, ((![v4532, v3985, v3988] : Fin 3 → IVec S16 32) a x).toNat < S16x128x16.size a)
theorem k0_idx743_inb : ∀ (v3985 : IVec S16 32) (v3988 : IVec S16 32) (v4532 : IVec S16 32) (k0_hw743 : k0_chk743 v3985 v3988 v4532), ∀ a x, ((![v4532, v3985, v3988] : Fin 3 → IVec S16 32) a x).toNat < S16x128x16.size a := fun v3985 v3988 v4532 k0_hw743 => k0_hw743

def k0_chk744 (v3994 : IVec S16 32) (v3997 : IVec S16 32) (v4537 : IVec S16 32) : Prop :=
  (∀ a x, ((![v4537, v3994, v3997] : Fin 3 → IVec S16 32) a x).toNat < S16x128x16.size a)
theorem k0_idx744_inb : ∀ (v3994 : IVec S16 32) (v3997 : IVec S16 32) (v4537 : IVec S16 32) (k0_hw744 : k0_chk744 v3994 v3997 v4537), ∀ a x, ((![v4537, v3994, v3997] : Fin 3 → IVec S16 32) a x).toNat < S16x128x16.size a := fun v3994 v3997 v4537 k0_hw744 => k0_hw744

def k0_chk745 (v4003 : IVec S16 32) (v4006 : IVec S16 32) (v4541 : IVec S16 32) : Prop :=
  (∀ a x, ((![v4541, v4003, v4006] : Fin 3 → IVec S16 32) a x).toNat < S16x128x16.size a)
theorem k0_idx745_inb : ∀ (v4003 : IVec S16 32) (v4006 : IVec S16 32) (v4541 : IVec S16 32) (k0_hw745 : k0_chk745 v4003 v4006 v4541), ∀ a x, ((![v4541, v4003, v4006] : Fin 3 → IVec S16 32) a x).toNat < S16x128x16.size a := fun v4003 v4006 v4541 k0_hw745 => k0_hw745

def k0_chk746 (v4012 : IVec S16 32) (v4015 : IVec S16 32) (v4545 : IVec S16 32) : Prop :=
  (∀ a x, ((![v4545, v4012, v4015] : Fin 3 → IVec S16 32) a x).toNat < S16x128x16.size a)
theorem k0_idx746_inb : ∀ (v4012 : IVec S16 32) (v4015 : IVec S16 32) (v4545 : IVec S16 32) (k0_hw746 : k0_chk746 v4012 v4015 v4545), ∀ a x, ((![v4545, v4012, v4015] : Fin 3 → IVec S16 32) a x).toNat < S16x128x16.size a := fun v4012 v4015 v4545 k0_hw746 => k0_hw746

def k0_chk747 (v3913 : IVec S16 32) (v3916 : IVec S16 32) (v4551 : IVec S16 32) : Prop :=
  (∀ a x, ((![v4551, v3913, v3916] : Fin 3 → IVec S16 32) a x).toNat < S16x128x16.size a)
theorem k0_idx747_inb : ∀ (v3913 : IVec S16 32) (v3916 : IVec S16 32) (v4551 : IVec S16 32) (k0_hw747 : k0_chk747 v3913 v3916 v4551), ∀ a x, ((![v4551, v3913, v3916] : Fin 3 → IVec S16 32) a x).toNat < S16x128x16.size a := fun v3913 v3916 v4551 k0_hw747 => k0_hw747

def k0_chk748 (v3922 : IVec S16 32) (v3925 : IVec S16 32) (v4555 : IVec S16 32) : Prop :=
  (∀ a x, ((![v4555, v3922, v3925] : Fin 3 → IVec S16 32) a x).toNat < S16x128x16.size a)
theorem k0_idx748_inb : ∀ (v3922 : IVec S16 32) (v3925 : IVec S16 32) (v4555 : IVec S16 32) (k0_hw748 : k0_chk748 v3922 v3925 v4555), ∀ a x, ((![v4555, v3922, v3925] : Fin 3 → IVec S16 32) a x).toNat < S16x128x16.size a := fun v3922 v3925 v4555 k0_hw748 => k0_hw748

def k0_chk749 (v3931 : IVec S16 32) (v3934 : IVec S16 32) (v4559 : IVec S16 32) : Prop :=
  (∀ a x, ((![v4559, v3931, v3934] : Fin 3 → IVec S16 32) a x).toNat < S16x128x16.size a)
theorem k0_idx749_inb : ∀ (v3931 : IVec S16 32) (v3934 : IVec S16 32) (v4559 : IVec S16 32) (k0_hw749 : k0_chk749 v3931 v3934 v4559), ∀ a x, ((![v4559, v3931, v3934] : Fin 3 → IVec S16 32) a x).toNat < S16x128x16.size a := fun v3931 v3934 v4559 k0_hw749 => k0_hw749

def k0_chk750 (v3940 : IVec S16 32) (v3943 : IVec S16 32) (v4564 : IVec S16 32) : Prop :=
  (∀ a x, ((![v4564, v3940, v3943] : Fin 3 → IVec S16 32) a x).toNat < S16x128x16.size a)
theorem k0_idx750_inb : ∀ (v3940 : IVec S16 32) (v3943 : IVec S16 32) (v4564 : IVec S16 32) (k0_hw750 : k0_chk750 v3940 v3943 v4564), ∀ a x, ((![v4564, v3940, v3943] : Fin 3 → IVec S16 32) a x).toNat < S16x128x16.size a := fun v3940 v3943 v4564 k0_hw750 => k0_hw750

def k0_chk751 (v3949 : IVec S16 32) (v3952 : IVec S16 32) (v4568 : IVec S16 32) : Prop :=
  (∀ a x, ((![v4568, v3949, v3952] : Fin 3 → IVec S16 32) a x).toNat < S16x128x16.size a)
theorem k0_idx751_inb : ∀ (v3949 : IVec S16 32) (v3952 : IVec S16 32) (v4568 : IVec S16 32) (k0_hw751 : k0_chk751 v3949 v3952 v4568), ∀ a x, ((![v4568, v3949, v3952] : Fin 3 → IVec S16 32) a x).toNat < S16x128x16.size a := fun v3949 v3952 v4568 k0_hw751 => k0_hw751

def k0_chk752 (v3958 : IVec S16 32) (v3961 : IVec S16 32) (v4572 : IVec S16 32) : Prop :=
  (∀ a x, ((![v4572, v3958, v3961] : Fin 3 → IVec S16 32) a x).toNat < S16x128x16.size a)
theorem k0_idx752_inb : ∀ (v3958 : IVec S16 32) (v3961 : IVec S16 32) (v4572 : IVec S16 32) (k0_hw752 : k0_chk752 v3958 v3961 v4572), ∀ a x, ((![v4572, v3958, v3961] : Fin 3 → IVec S16 32) a x).toNat < S16x128x16.size a := fun v3958 v3961 v4572 k0_hw752 => k0_hw752

def k0_chk753 (v3967 : IVec S16 32) (v3970 : IVec S16 32) (v4577 : IVec S16 32) : Prop :=
  (∀ a x, ((![v4577, v3967, v3970] : Fin 3 → IVec S16 32) a x).toNat < S16x128x16.size a)
theorem k0_idx753_inb : ∀ (v3967 : IVec S16 32) (v3970 : IVec S16 32) (v4577 : IVec S16 32) (k0_hw753 : k0_chk753 v3967 v3970 v4577), ∀ a x, ((![v4577, v3967, v3970] : Fin 3 → IVec S16 32) a x).toNat < S16x128x16.size a := fun v3967 v3970 v4577 k0_hw753 => k0_hw753

def k0_chk754 (v3976 : IVec S16 32) (v3979 : IVec S16 32) (v4581 : IVec S16 32) : Prop :=
  (∀ a x, ((![v4581, v3976, v3979] : Fin 3 → IVec S16 32) a x).toNat < S16x128x16.size a)
theorem k0_idx754_inb : ∀ (v3976 : IVec S16 32) (v3979 : IVec S16 32) (v4581 : IVec S16 32) (k0_hw754 : k0_chk754 v3976 v3979 v4581), ∀ a x, ((![v4581, v3976, v3979] : Fin 3 → IVec S16 32) a x).toNat < S16x128x16.size a := fun v3976 v3979 v4581 k0_hw754 => k0_hw754

def k0_chk755 (v3985 : IVec S16 32) (v3988 : IVec S16 32) (v4585 : IVec S16 32) : Prop :=
  (∀ a x, ((![v4585, v3985, v3988] : Fin 3 → IVec S16 32) a x).toNat < S16x128x16.size a)
theorem k0_idx755_inb : ∀ (v3985 : IVec S16 32) (v3988 : IVec S16 32) (v4585 : IVec S16 32) (k0_hw755 : k0_chk755 v3985 v3988 v4585), ∀ a x, ((![v4585, v3985, v3988] : Fin 3 → IVec S16 32) a x).toNat < S16x128x16.size a := fun v3985 v3988 v4585 k0_hw755 => k0_hw755

def k0_chk756 (v3994 : IVec S16 32) (v3997 : IVec S16 32) (v4590 : IVec S16 32) : Prop :=
  (∀ a x, ((![v4590, v3994, v3997] : Fin 3 → IVec S16 32) a x).toNat < S16x128x16.size a)
theorem k0_idx756_inb : ∀ (v3994 : IVec S16 32) (v3997 : IVec S16 32) (v4590 : IVec S16 32) (k0_hw756 : k0_chk756 v3994 v3997 v4590), ∀ a x, ((![v4590, v3994, v3997] : Fin 3 → IVec S16 32) a x).toNat < S16x128x16.size a := fun v3994 v3997 v4590 k0_hw756 => k0_hw756

def k0_chk757 (v4003 : IVec S16 32) (v4006 : IVec S16 32) (v4594 : IVec S16 32) : Prop :=
  (∀ a x, ((![v4594, v4003, v4006] : Fin 3 → IVec S16 32) a x).toNat < S16x128x16.size a)
theorem k0_idx757_inb : ∀ (v4003 : IVec S16 32) (v4006 : IVec S16 32) (v4594 : IVec S16 32) (k0_hw757 : k0_chk757 v4003 v4006 v4594), ∀ a x, ((![v4594, v4003, v4006] : Fin 3 → IVec S16 32) a x).toNat < S16x128x16.size a := fun v4003 v4006 v4594 k0_hw757 => k0_hw757

def k0_chk758 (v4012 : IVec S16 32) (v4015 : IVec S16 32) (v4598 : IVec S16 32) : Prop :=
  (∀ a x, ((![v4598, v4012, v4015] : Fin 3 → IVec S16 32) a x).toNat < S16x128x16.size a)
theorem k0_idx758_inb : ∀ (v4012 : IVec S16 32) (v4015 : IVec S16 32) (v4598 : IVec S16 32) (k0_hw758 : k0_chk758 v4012 v4015 v4598), ∀ a x, ((![v4598, v4012, v4015] : Fin 3 → IVec S16 32) a x).toNat < S16x128x16.size a := fun v4012 v4015 v4598 k0_hw758 => k0_hw758

def k0_chk759 (v3913 : IVec S16 32) (v3916 : IVec S16 32) (v4604 : IVec S16 32) : Prop :=
  (∀ a x, ((![v4604, v3913, v3916] : Fin 3 → IVec S16 32) a x).toNat < S16x128x16.size a)
theorem k0_idx759_inb : ∀ (v3913 : IVec S16 32) (v3916 : IVec S16 32) (v4604 : IVec S16 32) (k0_hw759 : k0_chk759 v3913 v3916 v4604), ∀ a x, ((![v4604, v3913, v3916] : Fin 3 → IVec S16 32) a x).toNat < S16x128x16.size a := fun v3913 v3916 v4604 k0_hw759 => k0_hw759

def k0_chk760 (v3922 : IVec S16 32) (v3925 : IVec S16 32) (v4608 : IVec S16 32) : Prop :=
  (∀ a x, ((![v4608, v3922, v3925] : Fin 3 → IVec S16 32) a x).toNat < S16x128x16.size a)
theorem k0_idx760_inb : ∀ (v3922 : IVec S16 32) (v3925 : IVec S16 32) (v4608 : IVec S16 32) (k0_hw760 : k0_chk760 v3922 v3925 v4608), ∀ a x, ((![v4608, v3922, v3925] : Fin 3 → IVec S16 32) a x).toNat < S16x128x16.size a := fun v3922 v3925 v4608 k0_hw760 => k0_hw760

def k0_chk761 (v3931 : IVec S16 32) (v3934 : IVec S16 32) (v4612 : IVec S16 32) : Prop :=
  (∀ a x, ((![v4612, v3931, v3934] : Fin 3 → IVec S16 32) a x).toNat < S16x128x16.size a)
theorem k0_idx761_inb : ∀ (v3931 : IVec S16 32) (v3934 : IVec S16 32) (v4612 : IVec S16 32) (k0_hw761 : k0_chk761 v3931 v3934 v4612), ∀ a x, ((![v4612, v3931, v3934] : Fin 3 → IVec S16 32) a x).toNat < S16x128x16.size a := fun v3931 v3934 v4612 k0_hw761 => k0_hw761

def k0_chk762 (v3940 : IVec S16 32) (v3943 : IVec S16 32) (v4617 : IVec S16 32) : Prop :=
  (∀ a x, ((![v4617, v3940, v3943] : Fin 3 → IVec S16 32) a x).toNat < S16x128x16.size a)
theorem k0_idx762_inb : ∀ (v3940 : IVec S16 32) (v3943 : IVec S16 32) (v4617 : IVec S16 32) (k0_hw762 : k0_chk762 v3940 v3943 v4617), ∀ a x, ((![v4617, v3940, v3943] : Fin 3 → IVec S16 32) a x).toNat < S16x128x16.size a := fun v3940 v3943 v4617 k0_hw762 => k0_hw762

def k0_chk763 (v3949 : IVec S16 32) (v3952 : IVec S16 32) (v4621 : IVec S16 32) : Prop :=
  (∀ a x, ((![v4621, v3949, v3952] : Fin 3 → IVec S16 32) a x).toNat < S16x128x16.size a)
theorem k0_idx763_inb : ∀ (v3949 : IVec S16 32) (v3952 : IVec S16 32) (v4621 : IVec S16 32) (k0_hw763 : k0_chk763 v3949 v3952 v4621), ∀ a x, ((![v4621, v3949, v3952] : Fin 3 → IVec S16 32) a x).toNat < S16x128x16.size a := fun v3949 v3952 v4621 k0_hw763 => k0_hw763

def k0_chk764 (v3958 : IVec S16 32) (v3961 : IVec S16 32) (v4625 : IVec S16 32) : Prop :=
  (∀ a x, ((![v4625, v3958, v3961] : Fin 3 → IVec S16 32) a x).toNat < S16x128x16.size a)
theorem k0_idx764_inb : ∀ (v3958 : IVec S16 32) (v3961 : IVec S16 32) (v4625 : IVec S16 32) (k0_hw764 : k0_chk764 v3958 v3961 v4625), ∀ a x, ((![v4625, v3958, v3961] : Fin 3 → IVec S16 32) a x).toNat < S16x128x16.size a := fun v3958 v3961 v4625 k0_hw764 => k0_hw764

def k0_chk765 (v3967 : IVec S16 32) (v3970 : IVec S16 32) (v4630 : IVec S16 32) : Prop :=
  (∀ a x, ((![v4630, v3967, v3970] : Fin 3 → IVec S16 32) a x).toNat < S16x128x16.size a)
theorem k0_idx765_inb : ∀ (v3967 : IVec S16 32) (v3970 : IVec S16 32) (v4630 : IVec S16 32) (k0_hw765 : k0_chk765 v3967 v3970 v4630), ∀ a x, ((![v4630, v3967, v3970] : Fin 3 → IVec S16 32) a x).toNat < S16x128x16.size a := fun v3967 v3970 v4630 k0_hw765 => k0_hw765

def k0_chk766 (v3976 : IVec S16 32) (v3979 : IVec S16 32) (v4634 : IVec S16 32) : Prop :=
  (∀ a x, ((![v4634, v3976, v3979] : Fin 3 → IVec S16 32) a x).toNat < S16x128x16.size a)
theorem k0_idx766_inb : ∀ (v3976 : IVec S16 32) (v3979 : IVec S16 32) (v4634 : IVec S16 32) (k0_hw766 : k0_chk766 v3976 v3979 v4634), ∀ a x, ((![v4634, v3976, v3979] : Fin 3 → IVec S16 32) a x).toNat < S16x128x16.size a := fun v3976 v3979 v4634 k0_hw766 => k0_hw766

def k0_chk767 (v3985 : IVec S16 32) (v3988 : IVec S16 32) (v4638 : IVec S16 32) : Prop :=
  (∀ a x, ((![v4638, v3985, v3988] : Fin 3 → IVec S16 32) a x).toNat < S16x128x16.size a)
theorem k0_idx767_inb : ∀ (v3985 : IVec S16 32) (v3988 : IVec S16 32) (v4638 : IVec S16 32) (k0_hw767 : k0_chk767 v3985 v3988 v4638), ∀ a x, ((![v4638, v3985, v3988] : Fin 3 → IVec S16 32) a x).toNat < S16x128x16.size a := fun v3985 v3988 v4638 k0_hw767 => k0_hw767

def k0_chk768 (v3994 : IVec S16 32) (v3997 : IVec S16 32) (v4643 : IVec S16 32) : Prop :=
  (∀ a x, ((![v4643, v3994, v3997] : Fin 3 → IVec S16 32) a x).toNat < S16x128x16.size a)
theorem k0_idx768_inb : ∀ (v3994 : IVec S16 32) (v3997 : IVec S16 32) (v4643 : IVec S16 32) (k0_hw768 : k0_chk768 v3994 v3997 v4643), ∀ a x, ((![v4643, v3994, v3997] : Fin 3 → IVec S16 32) a x).toNat < S16x128x16.size a := fun v3994 v3997 v4643 k0_hw768 => k0_hw768

def k0_chk769 (v4003 : IVec S16 32) (v4006 : IVec S16 32) (v4647 : IVec S16 32) : Prop :=
  (∀ a x, ((![v4647, v4003, v4006] : Fin 3 → IVec S16 32) a x).toNat < S16x128x16.size a)
theorem k0_idx769_inb : ∀ (v4003 : IVec S16 32) (v4006 : IVec S16 32) (v4647 : IVec S16 32) (k0_hw769 : k0_chk769 v4003 v4006 v4647), ∀ a x, ((![v4647, v4003, v4006] : Fin 3 → IVec S16 32) a x).toNat < S16x128x16.size a := fun v4003 v4006 v4647 k0_hw769 => k0_hw769

def k0_chk770 (v4012 : IVec S16 32) (v4015 : IVec S16 32) (v4651 : IVec S16 32) : Prop :=
  (∀ a x, ((![v4651, v4012, v4015] : Fin 3 → IVec S16 32) a x).toNat < S16x128x16.size a)
theorem k0_idx770_inb : ∀ (v4012 : IVec S16 32) (v4015 : IVec S16 32) (v4651 : IVec S16 32) (k0_hw770 : k0_chk770 v4012 v4015 v4651), ∀ a x, ((![v4651, v4012, v4015] : Fin 3 → IVec S16 32) a x).toNat < S16x128x16.size a := fun v4012 v4015 v4651 k0_hw770 => k0_hw770

def k0_chk771 (v3913 : IVec S16 32) (v3916 : IVec S16 32) (v4657 : IVec S16 32) : Prop :=
  (∀ a x, ((![v4657, v3913, v3916] : Fin 3 → IVec S16 32) a x).toNat < S16x128x16.size a)
theorem k0_idx771_inb : ∀ (v3913 : IVec S16 32) (v3916 : IVec S16 32) (v4657 : IVec S16 32) (k0_hw771 : k0_chk771 v3913 v3916 v4657), ∀ a x, ((![v4657, v3913, v3916] : Fin 3 → IVec S16 32) a x).toNat < S16x128x16.size a := fun v3913 v3916 v4657 k0_hw771 => k0_hw771

def k0_chk772 (v3922 : IVec S16 32) (v3925 : IVec S16 32) (v4661 : IVec S16 32) : Prop :=
  (∀ a x, ((![v4661, v3922, v3925] : Fin 3 → IVec S16 32) a x).toNat < S16x128x16.size a)
theorem k0_idx772_inb : ∀ (v3922 : IVec S16 32) (v3925 : IVec S16 32) (v4661 : IVec S16 32) (k0_hw772 : k0_chk772 v3922 v3925 v4661), ∀ a x, ((![v4661, v3922, v3925] : Fin 3 → IVec S16 32) a x).toNat < S16x128x16.size a := fun v3922 v3925 v4661 k0_hw772 => k0_hw772

def k0_chk773 (v3931 : IVec S16 32) (v3934 : IVec S16 32) (v4665 : IVec S16 32) : Prop :=
  (∀ a x, ((![v4665, v3931, v3934] : Fin 3 → IVec S16 32) a x).toNat < S16x128x16.size a)
theorem k0_idx773_inb : ∀ (v3931 : IVec S16 32) (v3934 : IVec S16 32) (v4665 : IVec S16 32) (k0_hw773 : k0_chk773 v3931 v3934 v4665), ∀ a x, ((![v4665, v3931, v3934] : Fin 3 → IVec S16 32) a x).toNat < S16x128x16.size a := fun v3931 v3934 v4665 k0_hw773 => k0_hw773

def k0_chk774 (v3940 : IVec S16 32) (v3943 : IVec S16 32) (v4670 : IVec S16 32) : Prop :=
  (∀ a x, ((![v4670, v3940, v3943] : Fin 3 → IVec S16 32) a x).toNat < S16x128x16.size a)
theorem k0_idx774_inb : ∀ (v3940 : IVec S16 32) (v3943 : IVec S16 32) (v4670 : IVec S16 32) (k0_hw774 : k0_chk774 v3940 v3943 v4670), ∀ a x, ((![v4670, v3940, v3943] : Fin 3 → IVec S16 32) a x).toNat < S16x128x16.size a := fun v3940 v3943 v4670 k0_hw774 => k0_hw774

def k0_chk775 (v3949 : IVec S16 32) (v3952 : IVec S16 32) (v4674 : IVec S16 32) : Prop :=
  (∀ a x, ((![v4674, v3949, v3952] : Fin 3 → IVec S16 32) a x).toNat < S16x128x16.size a)
theorem k0_idx775_inb : ∀ (v3949 : IVec S16 32) (v3952 : IVec S16 32) (v4674 : IVec S16 32) (k0_hw775 : k0_chk775 v3949 v3952 v4674), ∀ a x, ((![v4674, v3949, v3952] : Fin 3 → IVec S16 32) a x).toNat < S16x128x16.size a := fun v3949 v3952 v4674 k0_hw775 => k0_hw775

def k0_chk776 (v3958 : IVec S16 32) (v3961 : IVec S16 32) (v4678 : IVec S16 32) : Prop :=
  (∀ a x, ((![v4678, v3958, v3961] : Fin 3 → IVec S16 32) a x).toNat < S16x128x16.size a)
theorem k0_idx776_inb : ∀ (v3958 : IVec S16 32) (v3961 : IVec S16 32) (v4678 : IVec S16 32) (k0_hw776 : k0_chk776 v3958 v3961 v4678), ∀ a x, ((![v4678, v3958, v3961] : Fin 3 → IVec S16 32) a x).toNat < S16x128x16.size a := fun v3958 v3961 v4678 k0_hw776 => k0_hw776

def k0_chk777 (v3967 : IVec S16 32) (v3970 : IVec S16 32) (v4683 : IVec S16 32) : Prop :=
  (∀ a x, ((![v4683, v3967, v3970] : Fin 3 → IVec S16 32) a x).toNat < S16x128x16.size a)
theorem k0_idx777_inb : ∀ (v3967 : IVec S16 32) (v3970 : IVec S16 32) (v4683 : IVec S16 32) (k0_hw777 : k0_chk777 v3967 v3970 v4683), ∀ a x, ((![v4683, v3967, v3970] : Fin 3 → IVec S16 32) a x).toNat < S16x128x16.size a := fun v3967 v3970 v4683 k0_hw777 => k0_hw777

def k0_chk778 (v3976 : IVec S16 32) (v3979 : IVec S16 32) (v4687 : IVec S16 32) : Prop :=
  (∀ a x, ((![v4687, v3976, v3979] : Fin 3 → IVec S16 32) a x).toNat < S16x128x16.size a)
theorem k0_idx778_inb : ∀ (v3976 : IVec S16 32) (v3979 : IVec S16 32) (v4687 : IVec S16 32) (k0_hw778 : k0_chk778 v3976 v3979 v4687), ∀ a x, ((![v4687, v3976, v3979] : Fin 3 → IVec S16 32) a x).toNat < S16x128x16.size a := fun v3976 v3979 v4687 k0_hw778 => k0_hw778

def k0_chk779 (v3985 : IVec S16 32) (v3988 : IVec S16 32) (v4691 : IVec S16 32) : Prop :=
  (∀ a x, ((![v4691, v3985, v3988] : Fin 3 → IVec S16 32) a x).toNat < S16x128x16.size a)
theorem k0_idx779_inb : ∀ (v3985 : IVec S16 32) (v3988 : IVec S16 32) (v4691 : IVec S16 32) (k0_hw779 : k0_chk779 v3985 v3988 v4691), ∀ a x, ((![v4691, v3985, v3988] : Fin 3 → IVec S16 32) a x).toNat < S16x128x16.size a := fun v3985 v3988 v4691 k0_hw779 => k0_hw779

def k0_chk780 (v3994 : IVec S16 32) (v3997 : IVec S16 32) (v4696 : IVec S16 32) : Prop :=
  (∀ a x, ((![v4696, v3994, v3997] : Fin 3 → IVec S16 32) a x).toNat < S16x128x16.size a)
theorem k0_idx780_inb : ∀ (v3994 : IVec S16 32) (v3997 : IVec S16 32) (v4696 : IVec S16 32) (k0_hw780 : k0_chk780 v3994 v3997 v4696), ∀ a x, ((![v4696, v3994, v3997] : Fin 3 → IVec S16 32) a x).toNat < S16x128x16.size a := fun v3994 v3997 v4696 k0_hw780 => k0_hw780

def k0_chk781 (v4003 : IVec S16 32) (v4006 : IVec S16 32) (v4700 : IVec S16 32) : Prop :=
  (∀ a x, ((![v4700, v4003, v4006] : Fin 3 → IVec S16 32) a x).toNat < S16x128x16.size a)
theorem k0_idx781_inb : ∀ (v4003 : IVec S16 32) (v4006 : IVec S16 32) (v4700 : IVec S16 32) (k0_hw781 : k0_chk781 v4003 v4006 v4700), ∀ a x, ((![v4700, v4003, v4006] : Fin 3 → IVec S16 32) a x).toNat < S16x128x16.size a := fun v4003 v4006 v4700 k0_hw781 => k0_hw781

def k0_chk782 (v4012 : IVec S16 32) (v4015 : IVec S16 32) (v4704 : IVec S16 32) : Prop :=
  (∀ a x, ((![v4704, v4012, v4015] : Fin 3 → IVec S16 32) a x).toNat < S16x128x16.size a)
theorem k0_idx782_inb : ∀ (v4012 : IVec S16 32) (v4015 : IVec S16 32) (v4704 : IVec S16 32) (k0_hw782 : k0_chk782 v4012 v4015 v4704), ∀ a x, ((![v4704, v4012, v4015] : Fin 3 → IVec S16 32) a x).toNat < S16x128x16.size a := fun v4012 v4015 v4704 k0_hw782 => k0_hw782

def k0_chk783 (v3913 : IVec S16 32) (v3916 : IVec S16 32) (v4710 : IVec S16 32) : Prop :=
  (∀ a x, ((![v4710, v3913, v3916] : Fin 3 → IVec S16 32) a x).toNat < S16x128x16.size a)
theorem k0_idx783_inb : ∀ (v3913 : IVec S16 32) (v3916 : IVec S16 32) (v4710 : IVec S16 32) (k0_hw783 : k0_chk783 v3913 v3916 v4710), ∀ a x, ((![v4710, v3913, v3916] : Fin 3 → IVec S16 32) a x).toNat < S16x128x16.size a := fun v3913 v3916 v4710 k0_hw783 => k0_hw783

def k0_chk784 (v3922 : IVec S16 32) (v3925 : IVec S16 32) (v4714 : IVec S16 32) : Prop :=
  (∀ a x, ((![v4714, v3922, v3925] : Fin 3 → IVec S16 32) a x).toNat < S16x128x16.size a)
theorem k0_idx784_inb : ∀ (v3922 : IVec S16 32) (v3925 : IVec S16 32) (v4714 : IVec S16 32) (k0_hw784 : k0_chk784 v3922 v3925 v4714), ∀ a x, ((![v4714, v3922, v3925] : Fin 3 → IVec S16 32) a x).toNat < S16x128x16.size a := fun v3922 v3925 v4714 k0_hw784 => k0_hw784

def k0_chk785 (v3931 : IVec S16 32) (v3934 : IVec S16 32) (v4718 : IVec S16 32) : Prop :=
  (∀ a x, ((![v4718, v3931, v3934] : Fin 3 → IVec S16 32) a x).toNat < S16x128x16.size a)
theorem k0_idx785_inb : ∀ (v3931 : IVec S16 32) (v3934 : IVec S16 32) (v4718 : IVec S16 32) (k0_hw785 : k0_chk785 v3931 v3934 v4718), ∀ a x, ((![v4718, v3931, v3934] : Fin 3 → IVec S16 32) a x).toNat < S16x128x16.size a := fun v3931 v3934 v4718 k0_hw785 => k0_hw785

def k0_chk786 (v3940 : IVec S16 32) (v3943 : IVec S16 32) (v4723 : IVec S16 32) : Prop :=
  (∀ a x, ((![v4723, v3940, v3943] : Fin 3 → IVec S16 32) a x).toNat < S16x128x16.size a)
theorem k0_idx786_inb : ∀ (v3940 : IVec S16 32) (v3943 : IVec S16 32) (v4723 : IVec S16 32) (k0_hw786 : k0_chk786 v3940 v3943 v4723), ∀ a x, ((![v4723, v3940, v3943] : Fin 3 → IVec S16 32) a x).toNat < S16x128x16.size a := fun v3940 v3943 v4723 k0_hw786 => k0_hw786

def k0_chk787 (v3949 : IVec S16 32) (v3952 : IVec S16 32) (v4727 : IVec S16 32) : Prop :=
  (∀ a x, ((![v4727, v3949, v3952] : Fin 3 → IVec S16 32) a x).toNat < S16x128x16.size a)
theorem k0_idx787_inb : ∀ (v3949 : IVec S16 32) (v3952 : IVec S16 32) (v4727 : IVec S16 32) (k0_hw787 : k0_chk787 v3949 v3952 v4727), ∀ a x, ((![v4727, v3949, v3952] : Fin 3 → IVec S16 32) a x).toNat < S16x128x16.size a := fun v3949 v3952 v4727 k0_hw787 => k0_hw787

def k0_chk788 (v3958 : IVec S16 32) (v3961 : IVec S16 32) (v4731 : IVec S16 32) : Prop :=
  (∀ a x, ((![v4731, v3958, v3961] : Fin 3 → IVec S16 32) a x).toNat < S16x128x16.size a)
theorem k0_idx788_inb : ∀ (v3958 : IVec S16 32) (v3961 : IVec S16 32) (v4731 : IVec S16 32) (k0_hw788 : k0_chk788 v3958 v3961 v4731), ∀ a x, ((![v4731, v3958, v3961] : Fin 3 → IVec S16 32) a x).toNat < S16x128x16.size a := fun v3958 v3961 v4731 k0_hw788 => k0_hw788

def k0_chk789 (v3967 : IVec S16 32) (v3970 : IVec S16 32) (v4736 : IVec S16 32) : Prop :=
  (∀ a x, ((![v4736, v3967, v3970] : Fin 3 → IVec S16 32) a x).toNat < S16x128x16.size a)
theorem k0_idx789_inb : ∀ (v3967 : IVec S16 32) (v3970 : IVec S16 32) (v4736 : IVec S16 32) (k0_hw789 : k0_chk789 v3967 v3970 v4736), ∀ a x, ((![v4736, v3967, v3970] : Fin 3 → IVec S16 32) a x).toNat < S16x128x16.size a := fun v3967 v3970 v4736 k0_hw789 => k0_hw789

def k0_chk790 (v3976 : IVec S16 32) (v3979 : IVec S16 32) (v4740 : IVec S16 32) : Prop :=
  (∀ a x, ((![v4740, v3976, v3979] : Fin 3 → IVec S16 32) a x).toNat < S16x128x16.size a)
theorem k0_idx790_inb : ∀ (v3976 : IVec S16 32) (v3979 : IVec S16 32) (v4740 : IVec S16 32) (k0_hw790 : k0_chk790 v3976 v3979 v4740), ∀ a x, ((![v4740, v3976, v3979] : Fin 3 → IVec S16 32) a x).toNat < S16x128x16.size a := fun v3976 v3979 v4740 k0_hw790 => k0_hw790

def k0_chk791 (v3985 : IVec S16 32) (v3988 : IVec S16 32) (v4744 : IVec S16 32) : Prop :=
  (∀ a x, ((![v4744, v3985, v3988] : Fin 3 → IVec S16 32) a x).toNat < S16x128x16.size a)
theorem k0_idx791_inb : ∀ (v3985 : IVec S16 32) (v3988 : IVec S16 32) (v4744 : IVec S16 32) (k0_hw791 : k0_chk791 v3985 v3988 v4744), ∀ a x, ((![v4744, v3985, v3988] : Fin 3 → IVec S16 32) a x).toNat < S16x128x16.size a := fun v3985 v3988 v4744 k0_hw791 => k0_hw791

def k0_chk792 (v3994 : IVec S16 32) (v3997 : IVec S16 32) (v4749 : IVec S16 32) : Prop :=
  (∀ a x, ((![v4749, v3994, v3997] : Fin 3 → IVec S16 32) a x).toNat < S16x128x16.size a)
theorem k0_idx792_inb : ∀ (v3994 : IVec S16 32) (v3997 : IVec S16 32) (v4749 : IVec S16 32) (k0_hw792 : k0_chk792 v3994 v3997 v4749), ∀ a x, ((![v4749, v3994, v3997] : Fin 3 → IVec S16 32) a x).toNat < S16x128x16.size a := fun v3994 v3997 v4749 k0_hw792 => k0_hw792

def k0_chk793 (v4003 : IVec S16 32) (v4006 : IVec S16 32) (v4753 : IVec S16 32) : Prop :=
  (∀ a x, ((![v4753, v4003, v4006] : Fin 3 → IVec S16 32) a x).toNat < S16x128x16.size a)
theorem k0_idx793_inb : ∀ (v4003 : IVec S16 32) (v4006 : IVec S16 32) (v4753 : IVec S16 32) (k0_hw793 : k0_chk793 v4003 v4006 v4753), ∀ a x, ((![v4753, v4003, v4006] : Fin 3 → IVec S16 32) a x).toNat < S16x128x16.size a := fun v4003 v4006 v4753 k0_hw793 => k0_hw793

def k0_chk794 (v4012 : IVec S16 32) (v4015 : IVec S16 32) (v4757 : IVec S16 32) : Prop :=
  (∀ a x, ((![v4757, v4012, v4015] : Fin 3 → IVec S16 32) a x).toNat < S16x128x16.size a)
theorem k0_idx794_inb : ∀ (v4012 : IVec S16 32) (v4015 : IVec S16 32) (v4757 : IVec S16 32) (k0_hw794 : k0_chk794 v4012 v4015 v4757), ∀ a x, ((![v4757, v4012, v4015] : Fin 3 → IVec S16 32) a x).toNat < S16x128x16.size a := fun v4012 v4015 v4757 k0_hw794 => k0_hw794

def k0_chk795 (v3913 : IVec S16 32) (v3916 : IVec S16 32) (v4763 : IVec S16 32) : Prop :=
  (∀ a x, ((![v4763, v3913, v3916] : Fin 3 → IVec S16 32) a x).toNat < S16x128x16.size a)
theorem k0_idx795_inb : ∀ (v3913 : IVec S16 32) (v3916 : IVec S16 32) (v4763 : IVec S16 32) (k0_hw795 : k0_chk795 v3913 v3916 v4763), ∀ a x, ((![v4763, v3913, v3916] : Fin 3 → IVec S16 32) a x).toNat < S16x128x16.size a := fun v3913 v3916 v4763 k0_hw795 => k0_hw795

def k0_chk796 (v3922 : IVec S16 32) (v3925 : IVec S16 32) (v4767 : IVec S16 32) : Prop :=
  (∀ a x, ((![v4767, v3922, v3925] : Fin 3 → IVec S16 32) a x).toNat < S16x128x16.size a)
theorem k0_idx796_inb : ∀ (v3922 : IVec S16 32) (v3925 : IVec S16 32) (v4767 : IVec S16 32) (k0_hw796 : k0_chk796 v3922 v3925 v4767), ∀ a x, ((![v4767, v3922, v3925] : Fin 3 → IVec S16 32) a x).toNat < S16x128x16.size a := fun v3922 v3925 v4767 k0_hw796 => k0_hw796

def k0_chk797 (v3931 : IVec S16 32) (v3934 : IVec S16 32) (v4771 : IVec S16 32) : Prop :=
  (∀ a x, ((![v4771, v3931, v3934] : Fin 3 → IVec S16 32) a x).toNat < S16x128x16.size a)
theorem k0_idx797_inb : ∀ (v3931 : IVec S16 32) (v3934 : IVec S16 32) (v4771 : IVec S16 32) (k0_hw797 : k0_chk797 v3931 v3934 v4771), ∀ a x, ((![v4771, v3931, v3934] : Fin 3 → IVec S16 32) a x).toNat < S16x128x16.size a := fun v3931 v3934 v4771 k0_hw797 => k0_hw797

def k0_chk798 (v3940 : IVec S16 32) (v3943 : IVec S16 32) (v4776 : IVec S16 32) : Prop :=
  (∀ a x, ((![v4776, v3940, v3943] : Fin 3 → IVec S16 32) a x).toNat < S16x128x16.size a)
theorem k0_idx798_inb : ∀ (v3940 : IVec S16 32) (v3943 : IVec S16 32) (v4776 : IVec S16 32) (k0_hw798 : k0_chk798 v3940 v3943 v4776), ∀ a x, ((![v4776, v3940, v3943] : Fin 3 → IVec S16 32) a x).toNat < S16x128x16.size a := fun v3940 v3943 v4776 k0_hw798 => k0_hw798

def k0_chk799 (v3949 : IVec S16 32) (v3952 : IVec S16 32) (v4780 : IVec S16 32) : Prop :=
  (∀ a x, ((![v4780, v3949, v3952] : Fin 3 → IVec S16 32) a x).toNat < S16x128x16.size a)
theorem k0_idx799_inb : ∀ (v3949 : IVec S16 32) (v3952 : IVec S16 32) (v4780 : IVec S16 32) (k0_hw799 : k0_chk799 v3949 v3952 v4780), ∀ a x, ((![v4780, v3949, v3952] : Fin 3 → IVec S16 32) a x).toNat < S16x128x16.size a := fun v3949 v3952 v4780 k0_hw799 => k0_hw799

def k0_chk800 (v3958 : IVec S16 32) (v3961 : IVec S16 32) (v4784 : IVec S16 32) : Prop :=
  (∀ a x, ((![v4784, v3958, v3961] : Fin 3 → IVec S16 32) a x).toNat < S16x128x16.size a)
theorem k0_idx800_inb : ∀ (v3958 : IVec S16 32) (v3961 : IVec S16 32) (v4784 : IVec S16 32) (k0_hw800 : k0_chk800 v3958 v3961 v4784), ∀ a x, ((![v4784, v3958, v3961] : Fin 3 → IVec S16 32) a x).toNat < S16x128x16.size a := fun v3958 v3961 v4784 k0_hw800 => k0_hw800

def k0_chk801 (v3967 : IVec S16 32) (v3970 : IVec S16 32) (v4789 : IVec S16 32) : Prop :=
  (∀ a x, ((![v4789, v3967, v3970] : Fin 3 → IVec S16 32) a x).toNat < S16x128x16.size a)
theorem k0_idx801_inb : ∀ (v3967 : IVec S16 32) (v3970 : IVec S16 32) (v4789 : IVec S16 32) (k0_hw801 : k0_chk801 v3967 v3970 v4789), ∀ a x, ((![v4789, v3967, v3970] : Fin 3 → IVec S16 32) a x).toNat < S16x128x16.size a := fun v3967 v3970 v4789 k0_hw801 => k0_hw801

def k0_chk802 (v3976 : IVec S16 32) (v3979 : IVec S16 32) (v4793 : IVec S16 32) : Prop :=
  (∀ a x, ((![v4793, v3976, v3979] : Fin 3 → IVec S16 32) a x).toNat < S16x128x16.size a)
theorem k0_idx802_inb : ∀ (v3976 : IVec S16 32) (v3979 : IVec S16 32) (v4793 : IVec S16 32) (k0_hw802 : k0_chk802 v3976 v3979 v4793), ∀ a x, ((![v4793, v3976, v3979] : Fin 3 → IVec S16 32) a x).toNat < S16x128x16.size a := fun v3976 v3979 v4793 k0_hw802 => k0_hw802

def k0_chk803 (v3985 : IVec S16 32) (v3988 : IVec S16 32) (v4797 : IVec S16 32) : Prop :=
  (∀ a x, ((![v4797, v3985, v3988] : Fin 3 → IVec S16 32) a x).toNat < S16x128x16.size a)
theorem k0_idx803_inb : ∀ (v3985 : IVec S16 32) (v3988 : IVec S16 32) (v4797 : IVec S16 32) (k0_hw803 : k0_chk803 v3985 v3988 v4797), ∀ a x, ((![v4797, v3985, v3988] : Fin 3 → IVec S16 32) a x).toNat < S16x128x16.size a := fun v3985 v3988 v4797 k0_hw803 => k0_hw803

def k0_chk804 (v3994 : IVec S16 32) (v3997 : IVec S16 32) (v4802 : IVec S16 32) : Prop :=
  (∀ a x, ((![v4802, v3994, v3997] : Fin 3 → IVec S16 32) a x).toNat < S16x128x16.size a)
theorem k0_idx804_inb : ∀ (v3994 : IVec S16 32) (v3997 : IVec S16 32) (v4802 : IVec S16 32) (k0_hw804 : k0_chk804 v3994 v3997 v4802), ∀ a x, ((![v4802, v3994, v3997] : Fin 3 → IVec S16 32) a x).toNat < S16x128x16.size a := fun v3994 v3997 v4802 k0_hw804 => k0_hw804

def k0_chk805 (v4003 : IVec S16 32) (v4006 : IVec S16 32) (v4806 : IVec S16 32) : Prop :=
  (∀ a x, ((![v4806, v4003, v4006] : Fin 3 → IVec S16 32) a x).toNat < S16x128x16.size a)
theorem k0_idx805_inb : ∀ (v4003 : IVec S16 32) (v4006 : IVec S16 32) (v4806 : IVec S16 32) (k0_hw805 : k0_chk805 v4003 v4006 v4806), ∀ a x, ((![v4806, v4003, v4006] : Fin 3 → IVec S16 32) a x).toNat < S16x128x16.size a := fun v4003 v4006 v4806 k0_hw805 => k0_hw805

def k0_chk806 (v4012 : IVec S16 32) (v4015 : IVec S16 32) (v4810 : IVec S16 32) : Prop :=
  (∀ a x, ((![v4810, v4012, v4015] : Fin 3 → IVec S16 32) a x).toNat < S16x128x16.size a)
theorem k0_idx806_inb : ∀ (v4012 : IVec S16 32) (v4015 : IVec S16 32) (v4810 : IVec S16 32) (k0_hw806 : k0_chk806 v4012 v4015 v4810), ∀ a x, ((![v4810, v4012, v4015] : Fin 3 → IVec S16 32) a x).toNat < S16x128x16.size a := fun v4012 v4015 v4810 k0_hw806 => k0_hw806

def k0_chk807 (v3913 : IVec S16 32) (v3916 : IVec S16 32) (v4816 : IVec S16 32) : Prop :=
  (∀ a x, ((![v4816, v3913, v3916] : Fin 3 → IVec S16 32) a x).toNat < S16x128x16.size a)
theorem k0_idx807_inb : ∀ (v3913 : IVec S16 32) (v3916 : IVec S16 32) (v4816 : IVec S16 32) (k0_hw807 : k0_chk807 v3913 v3916 v4816), ∀ a x, ((![v4816, v3913, v3916] : Fin 3 → IVec S16 32) a x).toNat < S16x128x16.size a := fun v3913 v3916 v4816 k0_hw807 => k0_hw807

def k0_chk808 (v3922 : IVec S16 32) (v3925 : IVec S16 32) (v4820 : IVec S16 32) : Prop :=
  (∀ a x, ((![v4820, v3922, v3925] : Fin 3 → IVec S16 32) a x).toNat < S16x128x16.size a)
theorem k0_idx808_inb : ∀ (v3922 : IVec S16 32) (v3925 : IVec S16 32) (v4820 : IVec S16 32) (k0_hw808 : k0_chk808 v3922 v3925 v4820), ∀ a x, ((![v4820, v3922, v3925] : Fin 3 → IVec S16 32) a x).toNat < S16x128x16.size a := fun v3922 v3925 v4820 k0_hw808 => k0_hw808

def k0_chk809 (v3931 : IVec S16 32) (v3934 : IVec S16 32) (v4824 : IVec S16 32) : Prop :=
  (∀ a x, ((![v4824, v3931, v3934] : Fin 3 → IVec S16 32) a x).toNat < S16x128x16.size a)
theorem k0_idx809_inb : ∀ (v3931 : IVec S16 32) (v3934 : IVec S16 32) (v4824 : IVec S16 32) (k0_hw809 : k0_chk809 v3931 v3934 v4824), ∀ a x, ((![v4824, v3931, v3934] : Fin 3 → IVec S16 32) a x).toNat < S16x128x16.size a := fun v3931 v3934 v4824 k0_hw809 => k0_hw809

def k0_chk810 (v3940 : IVec S16 32) (v3943 : IVec S16 32) (v4829 : IVec S16 32) : Prop :=
  (∀ a x, ((![v4829, v3940, v3943] : Fin 3 → IVec S16 32) a x).toNat < S16x128x16.size a)
theorem k0_idx810_inb : ∀ (v3940 : IVec S16 32) (v3943 : IVec S16 32) (v4829 : IVec S16 32) (k0_hw810 : k0_chk810 v3940 v3943 v4829), ∀ a x, ((![v4829, v3940, v3943] : Fin 3 → IVec S16 32) a x).toNat < S16x128x16.size a := fun v3940 v3943 v4829 k0_hw810 => k0_hw810

def k0_chk811 (v3949 : IVec S16 32) (v3952 : IVec S16 32) (v4833 : IVec S16 32) : Prop :=
  (∀ a x, ((![v4833, v3949, v3952] : Fin 3 → IVec S16 32) a x).toNat < S16x128x16.size a)
theorem k0_idx811_inb : ∀ (v3949 : IVec S16 32) (v3952 : IVec S16 32) (v4833 : IVec S16 32) (k0_hw811 : k0_chk811 v3949 v3952 v4833), ∀ a x, ((![v4833, v3949, v3952] : Fin 3 → IVec S16 32) a x).toNat < S16x128x16.size a := fun v3949 v3952 v4833 k0_hw811 => k0_hw811

def k0_chk812 (v3958 : IVec S16 32) (v3961 : IVec S16 32) (v4837 : IVec S16 32) : Prop :=
  (∀ a x, ((![v4837, v3958, v3961] : Fin 3 → IVec S16 32) a x).toNat < S16x128x16.size a)
theorem k0_idx812_inb : ∀ (v3958 : IVec S16 32) (v3961 : IVec S16 32) (v4837 : IVec S16 32) (k0_hw812 : k0_chk812 v3958 v3961 v4837), ∀ a x, ((![v4837, v3958, v3961] : Fin 3 → IVec S16 32) a x).toNat < S16x128x16.size a := fun v3958 v3961 v4837 k0_hw812 => k0_hw812

def k0_chk813 (v3967 : IVec S16 32) (v3970 : IVec S16 32) (v4842 : IVec S16 32) : Prop :=
  (∀ a x, ((![v4842, v3967, v3970] : Fin 3 → IVec S16 32) a x).toNat < S16x128x16.size a)
theorem k0_idx813_inb : ∀ (v3967 : IVec S16 32) (v3970 : IVec S16 32) (v4842 : IVec S16 32) (k0_hw813 : k0_chk813 v3967 v3970 v4842), ∀ a x, ((![v4842, v3967, v3970] : Fin 3 → IVec S16 32) a x).toNat < S16x128x16.size a := fun v3967 v3970 v4842 k0_hw813 => k0_hw813

def k0_chk814 (v3976 : IVec S16 32) (v3979 : IVec S16 32) (v4846 : IVec S16 32) : Prop :=
  (∀ a x, ((![v4846, v3976, v3979] : Fin 3 → IVec S16 32) a x).toNat < S16x128x16.size a)
theorem k0_idx814_inb : ∀ (v3976 : IVec S16 32) (v3979 : IVec S16 32) (v4846 : IVec S16 32) (k0_hw814 : k0_chk814 v3976 v3979 v4846), ∀ a x, ((![v4846, v3976, v3979] : Fin 3 → IVec S16 32) a x).toNat < S16x128x16.size a := fun v3976 v3979 v4846 k0_hw814 => k0_hw814

def k0_chk815 (v3985 : IVec S16 32) (v3988 : IVec S16 32) (v4850 : IVec S16 32) : Prop :=
  (∀ a x, ((![v4850, v3985, v3988] : Fin 3 → IVec S16 32) a x).toNat < S16x128x16.size a)
theorem k0_idx815_inb : ∀ (v3985 : IVec S16 32) (v3988 : IVec S16 32) (v4850 : IVec S16 32) (k0_hw815 : k0_chk815 v3985 v3988 v4850), ∀ a x, ((![v4850, v3985, v3988] : Fin 3 → IVec S16 32) a x).toNat < S16x128x16.size a := fun v3985 v3988 v4850 k0_hw815 => k0_hw815

def k0_chk816 (v3994 : IVec S16 32) (v3997 : IVec S16 32) (v4855 : IVec S16 32) : Prop :=
  (∀ a x, ((![v4855, v3994, v3997] : Fin 3 → IVec S16 32) a x).toNat < S16x128x16.size a)
theorem k0_idx816_inb : ∀ (v3994 : IVec S16 32) (v3997 : IVec S16 32) (v4855 : IVec S16 32) (k0_hw816 : k0_chk816 v3994 v3997 v4855), ∀ a x, ((![v4855, v3994, v3997] : Fin 3 → IVec S16 32) a x).toNat < S16x128x16.size a := fun v3994 v3997 v4855 k0_hw816 => k0_hw816

def k0_chk817 (v4003 : IVec S16 32) (v4006 : IVec S16 32) (v4859 : IVec S16 32) : Prop :=
  (∀ a x, ((![v4859, v4003, v4006] : Fin 3 → IVec S16 32) a x).toNat < S16x128x16.size a)
theorem k0_idx817_inb : ∀ (v4003 : IVec S16 32) (v4006 : IVec S16 32) (v4859 : IVec S16 32) (k0_hw817 : k0_chk817 v4003 v4006 v4859), ∀ a x, ((![v4859, v4003, v4006] : Fin 3 → IVec S16 32) a x).toNat < S16x128x16.size a := fun v4003 v4006 v4859 k0_hw817 => k0_hw817

def k0_chk818 (v4012 : IVec S16 32) (v4015 : IVec S16 32) (v4863 : IVec S16 32) : Prop :=
  (∀ a x, ((![v4863, v4012, v4015] : Fin 3 → IVec S16 32) a x).toNat < S16x128x16.size a)
theorem k0_idx818_inb : ∀ (v4012 : IVec S16 32) (v4015 : IVec S16 32) (v4863 : IVec S16 32) (k0_hw818 : k0_chk818 v4012 v4015 v4863), ∀ a x, ((![v4863, v4012, v4015] : Fin 3 → IVec S16 32) a x).toNat < S16x128x16.size a := fun v4012 v4015 v4863 k0_hw818 => k0_hw818

def k0_chk819 (v3880 : IVec S16 32) (v4867 : IVec S16 32) : Prop :=
  (∀ a x, ((![v3880, v4867] : Fin 2 → IVec S16 32) a x).toNat < S64x3.size a)
theorem k0_idx819_inb : ∀ (v3880 : IVec S16 32) (v4867 : IVec S16 32) (k0_hw819 : k0_chk819 v3880 v4867), ∀ a x, ((![v3880, v4867] : Fin 2 → IVec S16 32) a x).toNat < S64x3.size a := fun v3880 v4867 k0_hw819 => k0_hw819

def k0_chk820 (v3880 : IVec S16 32) (v4868 : IVec S16 32) : Prop :=
  (∀ a x, ((![v3880, v4868] : Fin 2 → IVec S16 32) a x).toNat < S64x3.size a)
theorem k0_idx820_inb : ∀ (v3880 : IVec S16 32) (v4868 : IVec S16 32) (k0_hw820 : k0_chk820 v3880 v4868), ∀ a x, ((![v3880, v4868] : Fin 2 → IVec S16 32) a x).toNat < S64x3.size a := fun v3880 v4868 k0_hw820 => k0_hw820

def k0_chk821 (v3880 : IVec S16 32) (v4869 : IVec S16 32) : Prop :=
  (∀ a x, ((![v3880, v4869] : Fin 2 → IVec S16 32) a x).toNat < S64x3.size a)
theorem k0_idx821_inb : ∀ (v3880 : IVec S16 32) (v4869 : IVec S16 32) (k0_hw821 : k0_chk821 v3880 v4869), ∀ a x, ((![v3880, v4869] : Fin 2 → IVec S16 32) a x).toNat < S64x3.size a := fun v3880 v4869 k0_hw821 => k0_hw821

def k0_chk822 (v4904 : IVec S16 32) (v4907 : IVec S16 32) (v5012 : IVec S16 32) : Prop :=
  (∀ a x, ((![v5012, v4904, v4907] : Fin 3 → IVec S16 32) a x).toNat < S16x128x16.size a)
theorem k0_idx822_inb : ∀ (v4904 : IVec S16 32) (v4907 : IVec S16 32) (v5012 : IVec S16 32) (k0_hw822 : k0_chk822 v4904 v4907 v5012), ∀ a x, ((![v5012, v4904, v4907] : Fin 3 → IVec S16 32) a x).toNat < S16x128x16.size a := fun v4904 v4907 v5012 k0_hw822 => k0_hw822

def k0_chk823 (v4913 : IVec S16 32) (v4916 : IVec S16 32) (v5016 : IVec S16 32) : Prop :=
  (∀ a x, ((![v5016, v4913, v4916] : Fin 3 → IVec S16 32) a x).toNat < S16x128x16.size a)
theorem k0_idx823_inb : ∀ (v4913 : IVec S16 32) (v4916 : IVec S16 32) (v5016 : IVec S16 32) (k0_hw823 : k0_chk823 v4913 v4916 v5016), ∀ a x, ((![v5016, v4913, v4916] : Fin 3 → IVec S16 32) a x).toNat < S16x128x16.size a := fun v4913 v4916 v5016 k0_hw823 => k0_hw823

def k0_chk824 (v4922 : IVec S16 32) (v4925 : IVec S16 32) (v5020 : IVec S16 32) : Prop :=
  (∀ a x, ((![v5020, v4922, v4925] : Fin 3 → IVec S16 32) a x).toNat < S16x128x16.size a)
theorem k0_idx824_inb : ∀ (v4922 : IVec S16 32) (v4925 : IVec S16 32) (v5020 : IVec S16 32) (k0_hw824 : k0_chk824 v4922 v4925 v5020), ∀ a x, ((![v5020, v4922, v4925] : Fin 3 → IVec S16 32) a x).toNat < S16x128x16.size a := fun v4922 v4925 v5020 k0_hw824 => k0_hw824

def k0_chk825 (v4931 : IVec S16 32) (v4934 : IVec S16 32) (v5025 : IVec S16 32) : Prop :=
  (∀ a x, ((![v5025, v4931, v4934] : Fin 3 → IVec S16 32) a x).toNat < S16x128x16.size a)
theorem k0_idx825_inb : ∀ (v4931 : IVec S16 32) (v4934 : IVec S16 32) (v5025 : IVec S16 32) (k0_hw825 : k0_chk825 v4931 v4934 v5025), ∀ a x, ((![v5025, v4931, v4934] : Fin 3 → IVec S16 32) a x).toNat < S16x128x16.size a := fun v4931 v4934 v5025 k0_hw825 => k0_hw825

def k0_chk826 (v4940 : IVec S16 32) (v4943 : IVec S16 32) (v5029 : IVec S16 32) : Prop :=
  (∀ a x, ((![v5029, v4940, v4943] : Fin 3 → IVec S16 32) a x).toNat < S16x128x16.size a)
theorem k0_idx826_inb : ∀ (v4940 : IVec S16 32) (v4943 : IVec S16 32) (v5029 : IVec S16 32) (k0_hw826 : k0_chk826 v4940 v4943 v5029), ∀ a x, ((![v5029, v4940, v4943] : Fin 3 → IVec S16 32) a x).toNat < S16x128x16.size a := fun v4940 v4943 v5029 k0_hw826 => k0_hw826

def k0_chk827 (v4949 : IVec S16 32) (v4952 : IVec S16 32) (v5033 : IVec S16 32) : Prop :=
  (∀ a x, ((![v5033, v4949, v4952] : Fin 3 → IVec S16 32) a x).toNat < S16x128x16.size a)
theorem k0_idx827_inb : ∀ (v4949 : IVec S16 32) (v4952 : IVec S16 32) (v5033 : IVec S16 32) (k0_hw827 : k0_chk827 v4949 v4952 v5033), ∀ a x, ((![v5033, v4949, v4952] : Fin 3 → IVec S16 32) a x).toNat < S16x128x16.size a := fun v4949 v4952 v5033 k0_hw827 => k0_hw827

def k0_chk828 (v4958 : IVec S16 32) (v4961 : IVec S16 32) (v5038 : IVec S16 32) : Prop :=
  (∀ a x, ((![v5038, v4958, v4961] : Fin 3 → IVec S16 32) a x).toNat < S16x128x16.size a)
theorem k0_idx828_inb : ∀ (v4958 : IVec S16 32) (v4961 : IVec S16 32) (v5038 : IVec S16 32) (k0_hw828 : k0_chk828 v4958 v4961 v5038), ∀ a x, ((![v5038, v4958, v4961] : Fin 3 → IVec S16 32) a x).toNat < S16x128x16.size a := fun v4958 v4961 v5038 k0_hw828 => k0_hw828

def k0_chk829 (v4967 : IVec S16 32) (v4970 : IVec S16 32) (v5042 : IVec S16 32) : Prop :=
  (∀ a x, ((![v5042, v4967, v4970] : Fin 3 → IVec S16 32) a x).toNat < S16x128x16.size a)
theorem k0_idx829_inb : ∀ (v4967 : IVec S16 32) (v4970 : IVec S16 32) (v5042 : IVec S16 32) (k0_hw829 : k0_chk829 v4967 v4970 v5042), ∀ a x, ((![v5042, v4967, v4970] : Fin 3 → IVec S16 32) a x).toNat < S16x128x16.size a := fun v4967 v4970 v5042 k0_hw829 => k0_hw829

def k0_chk830 (v4976 : IVec S16 32) (v4979 : IVec S16 32) (v5046 : IVec S16 32) : Prop :=
  (∀ a x, ((![v5046, v4976, v4979] : Fin 3 → IVec S16 32) a x).toNat < S16x128x16.size a)
theorem k0_idx830_inb : ∀ (v4976 : IVec S16 32) (v4979 : IVec S16 32) (v5046 : IVec S16 32) (k0_hw830 : k0_chk830 v4976 v4979 v5046), ∀ a x, ((![v5046, v4976, v4979] : Fin 3 → IVec S16 32) a x).toNat < S16x128x16.size a := fun v4976 v4979 v5046 k0_hw830 => k0_hw830

def k0_chk831 (v4985 : IVec S16 32) (v4988 : IVec S16 32) (v5051 : IVec S16 32) : Prop :=
  (∀ a x, ((![v5051, v4985, v4988] : Fin 3 → IVec S16 32) a x).toNat < S16x128x16.size a)
theorem k0_idx831_inb : ∀ (v4985 : IVec S16 32) (v4988 : IVec S16 32) (v5051 : IVec S16 32) (k0_hw831 : k0_chk831 v4985 v4988 v5051), ∀ a x, ((![v5051, v4985, v4988] : Fin 3 → IVec S16 32) a x).toNat < S16x128x16.size a := fun v4985 v4988 v5051 k0_hw831 => k0_hw831

def k0_chk832 (v4994 : IVec S16 32) (v4997 : IVec S16 32) (v5055 : IVec S16 32) : Prop :=
  (∀ a x, ((![v5055, v4994, v4997] : Fin 3 → IVec S16 32) a x).toNat < S16x128x16.size a)
theorem k0_idx832_inb : ∀ (v4994 : IVec S16 32) (v4997 : IVec S16 32) (v5055 : IVec S16 32) (k0_hw832 : k0_chk832 v4994 v4997 v5055), ∀ a x, ((![v5055, v4994, v4997] : Fin 3 → IVec S16 32) a x).toNat < S16x128x16.size a := fun v4994 v4997 v5055 k0_hw832 => k0_hw832

def k0_chk833 (v5003 : IVec S16 32) (v5006 : IVec S16 32) (v5059 : IVec S16 32) : Prop :=
  (∀ a x, ((![v5059, v5003, v5006] : Fin 3 → IVec S16 32) a x).toNat < S16x128x16.size a)
theorem k0_idx833_inb : ∀ (v5003 : IVec S16 32) (v5006 : IVec S16 32) (v5059 : IVec S16 32) (k0_hw833 : k0_chk833 v5003 v5006 v5059), ∀ a x, ((![v5059, v5003, v5006] : Fin 3 → IVec S16 32) a x).toNat < S16x128x16.size a := fun v5003 v5006 v5059 k0_hw833 => k0_hw833

def k0_chk834 (v4904 : IVec S16 32) (v4907 : IVec S16 32) (v5065 : IVec S16 32) : Prop :=
  (∀ a x, ((![v5065, v4904, v4907] : Fin 3 → IVec S16 32) a x).toNat < S16x128x16.size a)
theorem k0_idx834_inb : ∀ (v4904 : IVec S16 32) (v4907 : IVec S16 32) (v5065 : IVec S16 32) (k0_hw834 : k0_chk834 v4904 v4907 v5065), ∀ a x, ((![v5065, v4904, v4907] : Fin 3 → IVec S16 32) a x).toNat < S16x128x16.size a := fun v4904 v4907 v5065 k0_hw834 => k0_hw834

def k0_chk835 (v4913 : IVec S16 32) (v4916 : IVec S16 32) (v5069 : IVec S16 32) : Prop :=
  (∀ a x, ((![v5069, v4913, v4916] : Fin 3 → IVec S16 32) a x).toNat < S16x128x16.size a)
theorem k0_idx835_inb : ∀ (v4913 : IVec S16 32) (v4916 : IVec S16 32) (v5069 : IVec S16 32) (k0_hw835 : k0_chk835 v4913 v4916 v5069), ∀ a x, ((![v5069, v4913, v4916] : Fin 3 → IVec S16 32) a x).toNat < S16x128x16.size a := fun v4913 v4916 v5069 k0_hw835 => k0_hw835

def k0_chk836 (v4922 : IVec S16 32) (v4925 : IVec S16 32) (v5073 : IVec S16 32) : Prop :=
  (∀ a x, ((![v5073, v4922, v4925] : Fin 3 → IVec S16 32) a x).toNat < S16x128x16.size a)
theorem k0_idx836_inb : ∀ (v4922 : IVec S16 32) (v4925 : IVec S16 32) (v5073 : IVec S16 32) (k0_hw836 : k0_chk836 v4922 v4925 v5073), ∀ a x, ((![v5073, v4922, v4925] : Fin 3 → IVec S16 32) a x).toNat < S16x128x16.size a := fun v4922 v4925 v5073 k0_hw836 => k0_hw836

def k0_chk837 (v4931 : IVec S16 32) (v4934 : IVec S16 32) (v5078 : IVec S16 32) : Prop :=
  (∀ a x, ((![v5078, v4931, v4934] : Fin 3 → IVec S16 32) a x).toNat < S16x128x16.size a)
theorem k0_idx837_inb : ∀ (v4931 : IVec S16 32) (v4934 : IVec S16 32) (v5078 : IVec S16 32) (k0_hw837 : k0_chk837 v4931 v4934 v5078), ∀ a x, ((![v5078, v4931, v4934] : Fin 3 → IVec S16 32) a x).toNat < S16x128x16.size a := fun v4931 v4934 v5078 k0_hw837 => k0_hw837

def k0_chk838 (v4940 : IVec S16 32) (v4943 : IVec S16 32) (v5082 : IVec S16 32) : Prop :=
  (∀ a x, ((![v5082, v4940, v4943] : Fin 3 → IVec S16 32) a x).toNat < S16x128x16.size a)
theorem k0_idx838_inb : ∀ (v4940 : IVec S16 32) (v4943 : IVec S16 32) (v5082 : IVec S16 32) (k0_hw838 : k0_chk838 v4940 v4943 v5082), ∀ a x, ((![v5082, v4940, v4943] : Fin 3 → IVec S16 32) a x).toNat < S16x128x16.size a := fun v4940 v4943 v5082 k0_hw838 => k0_hw838

def k0_chk839 (v4949 : IVec S16 32) (v4952 : IVec S16 32) (v5086 : IVec S16 32) : Prop :=
  (∀ a x, ((![v5086, v4949, v4952] : Fin 3 → IVec S16 32) a x).toNat < S16x128x16.size a)
theorem k0_idx839_inb : ∀ (v4949 : IVec S16 32) (v4952 : IVec S16 32) (v5086 : IVec S16 32) (k0_hw839 : k0_chk839 v4949 v4952 v5086), ∀ a x, ((![v5086, v4949, v4952] : Fin 3 → IVec S16 32) a x).toNat < S16x128x16.size a := fun v4949 v4952 v5086 k0_hw839 => k0_hw839

def k0_chk840 (v4958 : IVec S16 32) (v4961 : IVec S16 32) (v5091 : IVec S16 32) : Prop :=
  (∀ a x, ((![v5091, v4958, v4961] : Fin 3 → IVec S16 32) a x).toNat < S16x128x16.size a)
theorem k0_idx840_inb : ∀ (v4958 : IVec S16 32) (v4961 : IVec S16 32) (v5091 : IVec S16 32) (k0_hw840 : k0_chk840 v4958 v4961 v5091), ∀ a x, ((![v5091, v4958, v4961] : Fin 3 → IVec S16 32) a x).toNat < S16x128x16.size a := fun v4958 v4961 v5091 k0_hw840 => k0_hw840

def k0_chk841 (v4967 : IVec S16 32) (v4970 : IVec S16 32) (v5095 : IVec S16 32) : Prop :=
  (∀ a x, ((![v5095, v4967, v4970] : Fin 3 → IVec S16 32) a x).toNat < S16x128x16.size a)
theorem k0_idx841_inb : ∀ (v4967 : IVec S16 32) (v4970 : IVec S16 32) (v5095 : IVec S16 32) (k0_hw841 : k0_chk841 v4967 v4970 v5095), ∀ a x, ((![v5095, v4967, v4970] : Fin 3 → IVec S16 32) a x).toNat < S16x128x16.size a := fun v4967 v4970 v5095 k0_hw841 => k0_hw841

def k0_chk842 (v4976 : IVec S16 32) (v4979 : IVec S16 32) (v5099 : IVec S16 32) : Prop :=
  (∀ a x, ((![v5099, v4976, v4979] : Fin 3 → IVec S16 32) a x).toNat < S16x128x16.size a)
theorem k0_idx842_inb : ∀ (v4976 : IVec S16 32) (v4979 : IVec S16 32) (v5099 : IVec S16 32) (k0_hw842 : k0_chk842 v4976 v4979 v5099), ∀ a x, ((![v5099, v4976, v4979] : Fin 3 → IVec S16 32) a x).toNat < S16x128x16.size a := fun v4976 v4979 v5099 k0_hw842 => k0_hw842

def k0_chk843 (v4985 : IVec S16 32) (v4988 : IVec S16 32) (v5104 : IVec S16 32) : Prop :=
  (∀ a x, ((![v5104, v4985, v4988] : Fin 3 → IVec S16 32) a x).toNat < S16x128x16.size a)
theorem k0_idx843_inb : ∀ (v4985 : IVec S16 32) (v4988 : IVec S16 32) (v5104 : IVec S16 32) (k0_hw843 : k0_chk843 v4985 v4988 v5104), ∀ a x, ((![v5104, v4985, v4988] : Fin 3 → IVec S16 32) a x).toNat < S16x128x16.size a := fun v4985 v4988 v5104 k0_hw843 => k0_hw843

def k0_chk844 (v4994 : IVec S16 32) (v4997 : IVec S16 32) (v5108 : IVec S16 32) : Prop :=
  (∀ a x, ((![v5108, v4994, v4997] : Fin 3 → IVec S16 32) a x).toNat < S16x128x16.size a)
theorem k0_idx844_inb : ∀ (v4994 : IVec S16 32) (v4997 : IVec S16 32) (v5108 : IVec S16 32) (k0_hw844 : k0_chk844 v4994 v4997 v5108), ∀ a x, ((![v5108, v4994, v4997] : Fin 3 → IVec S16 32) a x).toNat < S16x128x16.size a := fun v4994 v4997 v5108 k0_hw844 => k0_hw844

def k0_chk845 (v5003 : IVec S16 32) (v5006 : IVec S16 32) (v5112 : IVec S16 32) : Prop :=
  (∀ a x, ((![v5112, v5003, v5006] : Fin 3 → IVec S16 32) a x).toNat < S16x128x16.size a)
theorem k0_idx845_inb : ∀ (v5003 : IVec S16 32) (v5006 : IVec S16 32) (v5112 : IVec S16 32) (k0_hw845 : k0_chk845 v5003 v5006 v5112), ∀ a x, ((![v5112, v5003, v5006] : Fin 3 → IVec S16 32) a x).toNat < S16x128x16.size a := fun v5003 v5006 v5112 k0_hw845 => k0_hw845

def k0_chk846 (v4904 : IVec S16 32) (v4907 : IVec S16 32) (v5118 : IVec S16 32) : Prop :=
  (∀ a x, ((![v5118, v4904, v4907] : Fin 3 → IVec S16 32) a x).toNat < S16x128x16.size a)
theorem k0_idx846_inb : ∀ (v4904 : IVec S16 32) (v4907 : IVec S16 32) (v5118 : IVec S16 32) (k0_hw846 : k0_chk846 v4904 v4907 v5118), ∀ a x, ((![v5118, v4904, v4907] : Fin 3 → IVec S16 32) a x).toNat < S16x128x16.size a := fun v4904 v4907 v5118 k0_hw846 => k0_hw846

def k0_chk847 (v4913 : IVec S16 32) (v4916 : IVec S16 32) (v5122 : IVec S16 32) : Prop :=
  (∀ a x, ((![v5122, v4913, v4916] : Fin 3 → IVec S16 32) a x).toNat < S16x128x16.size a)
theorem k0_idx847_inb : ∀ (v4913 : IVec S16 32) (v4916 : IVec S16 32) (v5122 : IVec S16 32) (k0_hw847 : k0_chk847 v4913 v4916 v5122), ∀ a x, ((![v5122, v4913, v4916] : Fin 3 → IVec S16 32) a x).toNat < S16x128x16.size a := fun v4913 v4916 v5122 k0_hw847 => k0_hw847

def k0_chk848 (v4922 : IVec S16 32) (v4925 : IVec S16 32) (v5126 : IVec S16 32) : Prop :=
  (∀ a x, ((![v5126, v4922, v4925] : Fin 3 → IVec S16 32) a x).toNat < S16x128x16.size a)
theorem k0_idx848_inb : ∀ (v4922 : IVec S16 32) (v4925 : IVec S16 32) (v5126 : IVec S16 32) (k0_hw848 : k0_chk848 v4922 v4925 v5126), ∀ a x, ((![v5126, v4922, v4925] : Fin 3 → IVec S16 32) a x).toNat < S16x128x16.size a := fun v4922 v4925 v5126 k0_hw848 => k0_hw848

def k0_chk849 (v4931 : IVec S16 32) (v4934 : IVec S16 32) (v5131 : IVec S16 32) : Prop :=
  (∀ a x, ((![v5131, v4931, v4934] : Fin 3 → IVec S16 32) a x).toNat < S16x128x16.size a)
theorem k0_idx849_inb : ∀ (v4931 : IVec S16 32) (v4934 : IVec S16 32) (v5131 : IVec S16 32) (k0_hw849 : k0_chk849 v4931 v4934 v5131), ∀ a x, ((![v5131, v4931, v4934] : Fin 3 → IVec S16 32) a x).toNat < S16x128x16.size a := fun v4931 v4934 v5131 k0_hw849 => k0_hw849

def k0_chk850 (v4940 : IVec S16 32) (v4943 : IVec S16 32) (v5135 : IVec S16 32) : Prop :=
  (∀ a x, ((![v5135, v4940, v4943] : Fin 3 → IVec S16 32) a x).toNat < S16x128x16.size a)
theorem k0_idx850_inb : ∀ (v4940 : IVec S16 32) (v4943 : IVec S16 32) (v5135 : IVec S16 32) (k0_hw850 : k0_chk850 v4940 v4943 v5135), ∀ a x, ((![v5135, v4940, v4943] : Fin 3 → IVec S16 32) a x).toNat < S16x128x16.size a := fun v4940 v4943 v5135 k0_hw850 => k0_hw850

def k0_chk851 (v4949 : IVec S16 32) (v4952 : IVec S16 32) (v5139 : IVec S16 32) : Prop :=
  (∀ a x, ((![v5139, v4949, v4952] : Fin 3 → IVec S16 32) a x).toNat < S16x128x16.size a)
theorem k0_idx851_inb : ∀ (v4949 : IVec S16 32) (v4952 : IVec S16 32) (v5139 : IVec S16 32) (k0_hw851 : k0_chk851 v4949 v4952 v5139), ∀ a x, ((![v5139, v4949, v4952] : Fin 3 → IVec S16 32) a x).toNat < S16x128x16.size a := fun v4949 v4952 v5139 k0_hw851 => k0_hw851

def k0_chk852 (v4958 : IVec S16 32) (v4961 : IVec S16 32) (v5144 : IVec S16 32) : Prop :=
  (∀ a x, ((![v5144, v4958, v4961] : Fin 3 → IVec S16 32) a x).toNat < S16x128x16.size a)
theorem k0_idx852_inb : ∀ (v4958 : IVec S16 32) (v4961 : IVec S16 32) (v5144 : IVec S16 32) (k0_hw852 : k0_chk852 v4958 v4961 v5144), ∀ a x, ((![v5144, v4958, v4961] : Fin 3 → IVec S16 32) a x).toNat < S16x128x16.size a := fun v4958 v4961 v5144 k0_hw852 => k0_hw852

def k0_chk853 (v4967 : IVec S16 32) (v4970 : IVec S16 32) (v5148 : IVec S16 32) : Prop :=
  (∀ a x, ((![v5148, v4967, v4970] : Fin 3 → IVec S16 32) a x).toNat < S16x128x16.size a)
theorem k0_idx853_inb : ∀ (v4967 : IVec S16 32) (v4970 : IVec S16 32) (v5148 : IVec S16 32) (k0_hw853 : k0_chk853 v4967 v4970 v5148), ∀ a x, ((![v5148, v4967, v4970] : Fin 3 → IVec S16 32) a x).toNat < S16x128x16.size a := fun v4967 v4970 v5148 k0_hw853 => k0_hw853

def k0_chk854 (v4976 : IVec S16 32) (v4979 : IVec S16 32) (v5152 : IVec S16 32) : Prop :=
  (∀ a x, ((![v5152, v4976, v4979] : Fin 3 → IVec S16 32) a x).toNat < S16x128x16.size a)
theorem k0_idx854_inb : ∀ (v4976 : IVec S16 32) (v4979 : IVec S16 32) (v5152 : IVec S16 32) (k0_hw854 : k0_chk854 v4976 v4979 v5152), ∀ a x, ((![v5152, v4976, v4979] : Fin 3 → IVec S16 32) a x).toNat < S16x128x16.size a := fun v4976 v4979 v5152 k0_hw854 => k0_hw854

def k0_chk855 (v4985 : IVec S16 32) (v4988 : IVec S16 32) (v5157 : IVec S16 32) : Prop :=
  (∀ a x, ((![v5157, v4985, v4988] : Fin 3 → IVec S16 32) a x).toNat < S16x128x16.size a)
theorem k0_idx855_inb : ∀ (v4985 : IVec S16 32) (v4988 : IVec S16 32) (v5157 : IVec S16 32) (k0_hw855 : k0_chk855 v4985 v4988 v5157), ∀ a x, ((![v5157, v4985, v4988] : Fin 3 → IVec S16 32) a x).toNat < S16x128x16.size a := fun v4985 v4988 v5157 k0_hw855 => k0_hw855

def k0_chk856 (v4994 : IVec S16 32) (v4997 : IVec S16 32) (v5161 : IVec S16 32) : Prop :=
  (∀ a x, ((![v5161, v4994, v4997] : Fin 3 → IVec S16 32) a x).toNat < S16x128x16.size a)
theorem k0_idx856_inb : ∀ (v4994 : IVec S16 32) (v4997 : IVec S16 32) (v5161 : IVec S16 32) (k0_hw856 : k0_chk856 v4994 v4997 v5161), ∀ a x, ((![v5161, v4994, v4997] : Fin 3 → IVec S16 32) a x).toNat < S16x128x16.size a := fun v4994 v4997 v5161 k0_hw856 => k0_hw856

def k0_chk857 (v5003 : IVec S16 32) (v5006 : IVec S16 32) (v5165 : IVec S16 32) : Prop :=
  (∀ a x, ((![v5165, v5003, v5006] : Fin 3 → IVec S16 32) a x).toNat < S16x128x16.size a)
theorem k0_idx857_inb : ∀ (v5003 : IVec S16 32) (v5006 : IVec S16 32) (v5165 : IVec S16 32) (k0_hw857 : k0_chk857 v5003 v5006 v5165), ∀ a x, ((![v5165, v5003, v5006] : Fin 3 → IVec S16 32) a x).toNat < S16x128x16.size a := fun v5003 v5006 v5165 k0_hw857 => k0_hw857

def k0_chk858 (v4904 : IVec S16 32) (v4907 : IVec S16 32) (v5171 : IVec S16 32) : Prop :=
  (∀ a x, ((![v5171, v4904, v4907] : Fin 3 → IVec S16 32) a x).toNat < S16x128x16.size a)
theorem k0_idx858_inb : ∀ (v4904 : IVec S16 32) (v4907 : IVec S16 32) (v5171 : IVec S16 32) (k0_hw858 : k0_chk858 v4904 v4907 v5171), ∀ a x, ((![v5171, v4904, v4907] : Fin 3 → IVec S16 32) a x).toNat < S16x128x16.size a := fun v4904 v4907 v5171 k0_hw858 => k0_hw858

def k0_chk859 (v4913 : IVec S16 32) (v4916 : IVec S16 32) (v5175 : IVec S16 32) : Prop :=
  (∀ a x, ((![v5175, v4913, v4916] : Fin 3 → IVec S16 32) a x).toNat < S16x128x16.size a)
theorem k0_idx859_inb : ∀ (v4913 : IVec S16 32) (v4916 : IVec S16 32) (v5175 : IVec S16 32) (k0_hw859 : k0_chk859 v4913 v4916 v5175), ∀ a x, ((![v5175, v4913, v4916] : Fin 3 → IVec S16 32) a x).toNat < S16x128x16.size a := fun v4913 v4916 v5175 k0_hw859 => k0_hw859

def k0_chk860 (v4922 : IVec S16 32) (v4925 : IVec S16 32) (v5179 : IVec S16 32) : Prop :=
  (∀ a x, ((![v5179, v4922, v4925] : Fin 3 → IVec S16 32) a x).toNat < S16x128x16.size a)
theorem k0_idx860_inb : ∀ (v4922 : IVec S16 32) (v4925 : IVec S16 32) (v5179 : IVec S16 32) (k0_hw860 : k0_chk860 v4922 v4925 v5179), ∀ a x, ((![v5179, v4922, v4925] : Fin 3 → IVec S16 32) a x).toNat < S16x128x16.size a := fun v4922 v4925 v5179 k0_hw860 => k0_hw860

def k0_chk861 (v4931 : IVec S16 32) (v4934 : IVec S16 32) (v5184 : IVec S16 32) : Prop :=
  (∀ a x, ((![v5184, v4931, v4934] : Fin 3 → IVec S16 32) a x).toNat < S16x128x16.size a)
theorem k0_idx861_inb : ∀ (v4931 : IVec S16 32) (v4934 : IVec S16 32) (v5184 : IVec S16 32) (k0_hw861 : k0_chk861 v4931 v4934 v5184), ∀ a x, ((![v5184, v4931, v4934] : Fin 3 → IVec S16 32) a x).toNat < S16x128x16.size a := fun v4931 v4934 v5184 k0_hw861 => k0_hw861

def k0_chk862 (v4940 : IVec S16 32) (v4943 : IVec S16 32) (v5188 : IVec S16 32) : Prop :=
  (∀ a x, ((![v5188, v4940, v4943] : Fin 3 → IVec S16 32) a x).toNat < S16x128x16.size a)
theorem k0_idx862_inb : ∀ (v4940 : IVec S16 32) (v4943 : IVec S16 32) (v5188 : IVec S16 32) (k0_hw862 : k0_chk862 v4940 v4943 v5188), ∀ a x, ((![v5188, v4940, v4943] : Fin 3 → IVec S16 32) a x).toNat < S16x128x16.size a := fun v4940 v4943 v5188 k0_hw862 => k0_hw862

def k0_chk863 (v4949 : IVec S16 32) (v4952 : IVec S16 32) (v5192 : IVec S16 32) : Prop :=
  (∀ a x, ((![v5192, v4949, v4952] : Fin 3 → IVec S16 32) a x).toNat < S16x128x16.size a)
theorem k0_idx863_inb : ∀ (v4949 : IVec S16 32) (v4952 : IVec S16 32) (v5192 : IVec S16 32) (k0_hw863 : k0_chk863 v4949 v4952 v5192), ∀ a x, ((![v5192, v4949, v4952] : Fin 3 → IVec S16 32) a x).toNat < S16x128x16.size a := fun v4949 v4952 v5192 k0_hw863 => k0_hw863

def k0_chk864 (v4958 : IVec S16 32) (v4961 : IVec S16 32) (v5197 : IVec S16 32) : Prop :=
  (∀ a x, ((![v5197, v4958, v4961] : Fin 3 → IVec S16 32) a x).toNat < S16x128x16.size a)
theorem k0_idx864_inb : ∀ (v4958 : IVec S16 32) (v4961 : IVec S16 32) (v5197 : IVec S16 32) (k0_hw864 : k0_chk864 v4958 v4961 v5197), ∀ a x, ((![v5197, v4958, v4961] : Fin 3 → IVec S16 32) a x).toNat < S16x128x16.size a := fun v4958 v4961 v5197 k0_hw864 => k0_hw864

def k0_chk865 (v4967 : IVec S16 32) (v4970 : IVec S16 32) (v5201 : IVec S16 32) : Prop :=
  (∀ a x, ((![v5201, v4967, v4970] : Fin 3 → IVec S16 32) a x).toNat < S16x128x16.size a)
theorem k0_idx865_inb : ∀ (v4967 : IVec S16 32) (v4970 : IVec S16 32) (v5201 : IVec S16 32) (k0_hw865 : k0_chk865 v4967 v4970 v5201), ∀ a x, ((![v5201, v4967, v4970] : Fin 3 → IVec S16 32) a x).toNat < S16x128x16.size a := fun v4967 v4970 v5201 k0_hw865 => k0_hw865

def k0_chk866 (v4976 : IVec S16 32) (v4979 : IVec S16 32) (v5205 : IVec S16 32) : Prop :=
  (∀ a x, ((![v5205, v4976, v4979] : Fin 3 → IVec S16 32) a x).toNat < S16x128x16.size a)
theorem k0_idx866_inb : ∀ (v4976 : IVec S16 32) (v4979 : IVec S16 32) (v5205 : IVec S16 32) (k0_hw866 : k0_chk866 v4976 v4979 v5205), ∀ a x, ((![v5205, v4976, v4979] : Fin 3 → IVec S16 32) a x).toNat < S16x128x16.size a := fun v4976 v4979 v5205 k0_hw866 => k0_hw866

def k0_chk867 (v4985 : IVec S16 32) (v4988 : IVec S16 32) (v5210 : IVec S16 32) : Prop :=
  (∀ a x, ((![v5210, v4985, v4988] : Fin 3 → IVec S16 32) a x).toNat < S16x128x16.size a)
theorem k0_idx867_inb : ∀ (v4985 : IVec S16 32) (v4988 : IVec S16 32) (v5210 : IVec S16 32) (k0_hw867 : k0_chk867 v4985 v4988 v5210), ∀ a x, ((![v5210, v4985, v4988] : Fin 3 → IVec S16 32) a x).toNat < S16x128x16.size a := fun v4985 v4988 v5210 k0_hw867 => k0_hw867

def k0_chk868 (v4994 : IVec S16 32) (v4997 : IVec S16 32) (v5214 : IVec S16 32) : Prop :=
  (∀ a x, ((![v5214, v4994, v4997] : Fin 3 → IVec S16 32) a x).toNat < S16x128x16.size a)
theorem k0_idx868_inb : ∀ (v4994 : IVec S16 32) (v4997 : IVec S16 32) (v5214 : IVec S16 32) (k0_hw868 : k0_chk868 v4994 v4997 v5214), ∀ a x, ((![v5214, v4994, v4997] : Fin 3 → IVec S16 32) a x).toNat < S16x128x16.size a := fun v4994 v4997 v5214 k0_hw868 => k0_hw868

def k0_chk869 (v5003 : IVec S16 32) (v5006 : IVec S16 32) (v5218 : IVec S16 32) : Prop :=
  (∀ a x, ((![v5218, v5003, v5006] : Fin 3 → IVec S16 32) a x).toNat < S16x128x16.size a)
theorem k0_idx869_inb : ∀ (v5003 : IVec S16 32) (v5006 : IVec S16 32) (v5218 : IVec S16 32) (k0_hw869 : k0_chk869 v5003 v5006 v5218), ∀ a x, ((![v5218, v5003, v5006] : Fin 3 → IVec S16 32) a x).toNat < S16x128x16.size a := fun v5003 v5006 v5218 k0_hw869 => k0_hw869

def k0_chk870 (v4904 : IVec S16 32) (v4907 : IVec S16 32) (v5224 : IVec S16 32) : Prop :=
  (∀ a x, ((![v5224, v4904, v4907] : Fin 3 → IVec S16 32) a x).toNat < S16x128x16.size a)
theorem k0_idx870_inb : ∀ (v4904 : IVec S16 32) (v4907 : IVec S16 32) (v5224 : IVec S16 32) (k0_hw870 : k0_chk870 v4904 v4907 v5224), ∀ a x, ((![v5224, v4904, v4907] : Fin 3 → IVec S16 32) a x).toNat < S16x128x16.size a := fun v4904 v4907 v5224 k0_hw870 => k0_hw870

def k0_chk871 (v4913 : IVec S16 32) (v4916 : IVec S16 32) (v5228 : IVec S16 32) : Prop :=
  (∀ a x, ((![v5228, v4913, v4916] : Fin 3 → IVec S16 32) a x).toNat < S16x128x16.size a)
theorem k0_idx871_inb : ∀ (v4913 : IVec S16 32) (v4916 : IVec S16 32) (v5228 : IVec S16 32) (k0_hw871 : k0_chk871 v4913 v4916 v5228), ∀ a x, ((![v5228, v4913, v4916] : Fin 3 → IVec S16 32) a x).toNat < S16x128x16.size a := fun v4913 v4916 v5228 k0_hw871 => k0_hw871

def k0_chk872 (v4922 : IVec S16 32) (v4925 : IVec S16 32) (v5232 : IVec S16 32) : Prop :=
  (∀ a x, ((![v5232, v4922, v4925] : Fin 3 → IVec S16 32) a x).toNat < S16x128x16.size a)
theorem k0_idx872_inb : ∀ (v4922 : IVec S16 32) (v4925 : IVec S16 32) (v5232 : IVec S16 32) (k0_hw872 : k0_chk872 v4922 v4925 v5232), ∀ a x, ((![v5232, v4922, v4925] : Fin 3 → IVec S16 32) a x).toNat < S16x128x16.size a := fun v4922 v4925 v5232 k0_hw872 => k0_hw872

def k0_chk873 (v4931 : IVec S16 32) (v4934 : IVec S16 32) (v5237 : IVec S16 32) : Prop :=
  (∀ a x, ((![v5237, v4931, v4934] : Fin 3 → IVec S16 32) a x).toNat < S16x128x16.size a)
theorem k0_idx873_inb : ∀ (v4931 : IVec S16 32) (v4934 : IVec S16 32) (v5237 : IVec S16 32) (k0_hw873 : k0_chk873 v4931 v4934 v5237), ∀ a x, ((![v5237, v4931, v4934] : Fin 3 → IVec S16 32) a x).toNat < S16x128x16.size a := fun v4931 v4934 v5237 k0_hw873 => k0_hw873

def k0_chk874 (v4940 : IVec S16 32) (v4943 : IVec S16 32) (v5241 : IVec S16 32) : Prop :=
  (∀ a x, ((![v5241, v4940, v4943] : Fin 3 → IVec S16 32) a x).toNat < S16x128x16.size a)
theorem k0_idx874_inb : ∀ (v4940 : IVec S16 32) (v4943 : IVec S16 32) (v5241 : IVec S16 32) (k0_hw874 : k0_chk874 v4940 v4943 v5241), ∀ a x, ((![v5241, v4940, v4943] : Fin 3 → IVec S16 32) a x).toNat < S16x128x16.size a := fun v4940 v4943 v5241 k0_hw874 => k0_hw874

def k0_chk875 (v4949 : IVec S16 32) (v4952 : IVec S16 32) (v5245 : IVec S16 32) : Prop :=
  (∀ a x, ((![v5245, v4949, v4952] : Fin 3 → IVec S16 32) a x).toNat < S16x128x16.size a)
theorem k0_idx875_inb : ∀ (v4949 : IVec S16 32) (v4952 : IVec S16 32) (v5245 : IVec S16 32) (k0_hw875 : k0_chk875 v4949 v4952 v5245), ∀ a x, ((![v5245, v4949, v4952] : Fin 3 → IVec S16 32) a x).toNat < S16x128x16.size a := fun v4949 v4952 v5245 k0_hw875 => k0_hw875

def k0_chk876 (v4958 : IVec S16 32) (v4961 : IVec S16 32) (v5250 : IVec S16 32) : Prop :=
  (∀ a x, ((![v5250, v4958, v4961] : Fin 3 → IVec S16 32) a x).toNat < S16x128x16.size a)
theorem k0_idx876_inb : ∀ (v4958 : IVec S16 32) (v4961 : IVec S16 32) (v5250 : IVec S16 32) (k0_hw876 : k0_chk876 v4958 v4961 v5250), ∀ a x, ((![v5250, v4958, v4961] : Fin 3 → IVec S16 32) a x).toNat < S16x128x16.size a := fun v4958 v4961 v5250 k0_hw876 => k0_hw876

def k0_chk877 (v4967 : IVec S16 32) (v4970 : IVec S16 32) (v5254 : IVec S16 32) : Prop :=
  (∀ a x, ((![v5254, v4967, v4970] : Fin 3 → IVec S16 32) a x).toNat < S16x128x16.size a)
theorem k0_idx877_inb : ∀ (v4967 : IVec S16 32) (v4970 : IVec S16 32) (v5254 : IVec S16 32) (k0_hw877 : k0_chk877 v4967 v4970 v5254), ∀ a x, ((![v5254, v4967, v4970] : Fin 3 → IVec S16 32) a x).toNat < S16x128x16.size a := fun v4967 v4970 v5254 k0_hw877 => k0_hw877

def k0_chk878 (v4976 : IVec S16 32) (v4979 : IVec S16 32) (v5258 : IVec S16 32) : Prop :=
  (∀ a x, ((![v5258, v4976, v4979] : Fin 3 → IVec S16 32) a x).toNat < S16x128x16.size a)
theorem k0_idx878_inb : ∀ (v4976 : IVec S16 32) (v4979 : IVec S16 32) (v5258 : IVec S16 32) (k0_hw878 : k0_chk878 v4976 v4979 v5258), ∀ a x, ((![v5258, v4976, v4979] : Fin 3 → IVec S16 32) a x).toNat < S16x128x16.size a := fun v4976 v4979 v5258 k0_hw878 => k0_hw878

def k0_chk879 (v4985 : IVec S16 32) (v4988 : IVec S16 32) (v5263 : IVec S16 32) : Prop :=
  (∀ a x, ((![v5263, v4985, v4988] : Fin 3 → IVec S16 32) a x).toNat < S16x128x16.size a)
theorem k0_idx879_inb : ∀ (v4985 : IVec S16 32) (v4988 : IVec S16 32) (v5263 : IVec S16 32) (k0_hw879 : k0_chk879 v4985 v4988 v5263), ∀ a x, ((![v5263, v4985, v4988] : Fin 3 → IVec S16 32) a x).toNat < S16x128x16.size a := fun v4985 v4988 v5263 k0_hw879 => k0_hw879

def k0_chk880 (v4994 : IVec S16 32) (v4997 : IVec S16 32) (v5267 : IVec S16 32) : Prop :=
  (∀ a x, ((![v5267, v4994, v4997] : Fin 3 → IVec S16 32) a x).toNat < S16x128x16.size a)
theorem k0_idx880_inb : ∀ (v4994 : IVec S16 32) (v4997 : IVec S16 32) (v5267 : IVec S16 32) (k0_hw880 : k0_chk880 v4994 v4997 v5267), ∀ a x, ((![v5267, v4994, v4997] : Fin 3 → IVec S16 32) a x).toNat < S16x128x16.size a := fun v4994 v4997 v5267 k0_hw880 => k0_hw880

def k0_chk881 (v5003 : IVec S16 32) (v5006 : IVec S16 32) (v5271 : IVec S16 32) : Prop :=
  (∀ a x, ((![v5271, v5003, v5006] : Fin 3 → IVec S16 32) a x).toNat < S16x128x16.size a)
theorem k0_idx881_inb : ∀ (v5003 : IVec S16 32) (v5006 : IVec S16 32) (v5271 : IVec S16 32) (k0_hw881 : k0_chk881 v5003 v5006 v5271), ∀ a x, ((![v5271, v5003, v5006] : Fin 3 → IVec S16 32) a x).toNat < S16x128x16.size a := fun v5003 v5006 v5271 k0_hw881 => k0_hw881

def k0_chk882 (v4904 : IVec S16 32) (v4907 : IVec S16 32) (v5277 : IVec S16 32) : Prop :=
  (∀ a x, ((![v5277, v4904, v4907] : Fin 3 → IVec S16 32) a x).toNat < S16x128x16.size a)
theorem k0_idx882_inb : ∀ (v4904 : IVec S16 32) (v4907 : IVec S16 32) (v5277 : IVec S16 32) (k0_hw882 : k0_chk882 v4904 v4907 v5277), ∀ a x, ((![v5277, v4904, v4907] : Fin 3 → IVec S16 32) a x).toNat < S16x128x16.size a := fun v4904 v4907 v5277 k0_hw882 => k0_hw882

def k0_chk883 (v4913 : IVec S16 32) (v4916 : IVec S16 32) (v5281 : IVec S16 32) : Prop :=
  (∀ a x, ((![v5281, v4913, v4916] : Fin 3 → IVec S16 32) a x).toNat < S16x128x16.size a)
theorem k0_idx883_inb : ∀ (v4913 : IVec S16 32) (v4916 : IVec S16 32) (v5281 : IVec S16 32) (k0_hw883 : k0_chk883 v4913 v4916 v5281), ∀ a x, ((![v5281, v4913, v4916] : Fin 3 → IVec S16 32) a x).toNat < S16x128x16.size a := fun v4913 v4916 v5281 k0_hw883 => k0_hw883

def k0_chk884 (v4922 : IVec S16 32) (v4925 : IVec S16 32) (v5285 : IVec S16 32) : Prop :=
  (∀ a x, ((![v5285, v4922, v4925] : Fin 3 → IVec S16 32) a x).toNat < S16x128x16.size a)
theorem k0_idx884_inb : ∀ (v4922 : IVec S16 32) (v4925 : IVec S16 32) (v5285 : IVec S16 32) (k0_hw884 : k0_chk884 v4922 v4925 v5285), ∀ a x, ((![v5285, v4922, v4925] : Fin 3 → IVec S16 32) a x).toNat < S16x128x16.size a := fun v4922 v4925 v5285 k0_hw884 => k0_hw884

def k0_chk885 (v4931 : IVec S16 32) (v4934 : IVec S16 32) (v5290 : IVec S16 32) : Prop :=
  (∀ a x, ((![v5290, v4931, v4934] : Fin 3 → IVec S16 32) a x).toNat < S16x128x16.size a)
theorem k0_idx885_inb : ∀ (v4931 : IVec S16 32) (v4934 : IVec S16 32) (v5290 : IVec S16 32) (k0_hw885 : k0_chk885 v4931 v4934 v5290), ∀ a x, ((![v5290, v4931, v4934] : Fin 3 → IVec S16 32) a x).toNat < S16x128x16.size a := fun v4931 v4934 v5290 k0_hw885 => k0_hw885

def k0_chk886 (v4940 : IVec S16 32) (v4943 : IVec S16 32) (v5294 : IVec S16 32) : Prop :=
  (∀ a x, ((![v5294, v4940, v4943] : Fin 3 → IVec S16 32) a x).toNat < S16x128x16.size a)
theorem k0_idx886_inb : ∀ (v4940 : IVec S16 32) (v4943 : IVec S16 32) (v5294 : IVec S16 32) (k0_hw886 : k0_chk886 v4940 v4943 v5294), ∀ a x, ((![v5294, v4940, v4943] : Fin 3 → IVec S16 32) a x).toNat < S16x128x16.size a := fun v4940 v4943 v5294 k0_hw886 => k0_hw886

def k0_chk887 (v4949 : IVec S16 32) (v4952 : IVec S16 32) (v5298 : IVec S16 32) : Prop :=
  (∀ a x, ((![v5298, v4949, v4952] : Fin 3 → IVec S16 32) a x).toNat < S16x128x16.size a)
theorem k0_idx887_inb : ∀ (v4949 : IVec S16 32) (v4952 : IVec S16 32) (v5298 : IVec S16 32) (k0_hw887 : k0_chk887 v4949 v4952 v5298), ∀ a x, ((![v5298, v4949, v4952] : Fin 3 → IVec S16 32) a x).toNat < S16x128x16.size a := fun v4949 v4952 v5298 k0_hw887 => k0_hw887

def k0_chk888 (v4958 : IVec S16 32) (v4961 : IVec S16 32) (v5303 : IVec S16 32) : Prop :=
  (∀ a x, ((![v5303, v4958, v4961] : Fin 3 → IVec S16 32) a x).toNat < S16x128x16.size a)
theorem k0_idx888_inb : ∀ (v4958 : IVec S16 32) (v4961 : IVec S16 32) (v5303 : IVec S16 32) (k0_hw888 : k0_chk888 v4958 v4961 v5303), ∀ a x, ((![v5303, v4958, v4961] : Fin 3 → IVec S16 32) a x).toNat < S16x128x16.size a := fun v4958 v4961 v5303 k0_hw888 => k0_hw888

def k0_chk889 (v4967 : IVec S16 32) (v4970 : IVec S16 32) (v5307 : IVec S16 32) : Prop :=
  (∀ a x, ((![v5307, v4967, v4970] : Fin 3 → IVec S16 32) a x).toNat < S16x128x16.size a)
theorem k0_idx889_inb : ∀ (v4967 : IVec S16 32) (v4970 : IVec S16 32) (v5307 : IVec S16 32) (k0_hw889 : k0_chk889 v4967 v4970 v5307), ∀ a x, ((![v5307, v4967, v4970] : Fin 3 → IVec S16 32) a x).toNat < S16x128x16.size a := fun v4967 v4970 v5307 k0_hw889 => k0_hw889

def k0_chk890 (v4976 : IVec S16 32) (v4979 : IVec S16 32) (v5311 : IVec S16 32) : Prop :=
  (∀ a x, ((![v5311, v4976, v4979] : Fin 3 → IVec S16 32) a x).toNat < S16x128x16.size a)
theorem k0_idx890_inb : ∀ (v4976 : IVec S16 32) (v4979 : IVec S16 32) (v5311 : IVec S16 32) (k0_hw890 : k0_chk890 v4976 v4979 v5311), ∀ a x, ((![v5311, v4976, v4979] : Fin 3 → IVec S16 32) a x).toNat < S16x128x16.size a := fun v4976 v4979 v5311 k0_hw890 => k0_hw890

def k0_chk891 (v4985 : IVec S16 32) (v4988 : IVec S16 32) (v5316 : IVec S16 32) : Prop :=
  (∀ a x, ((![v5316, v4985, v4988] : Fin 3 → IVec S16 32) a x).toNat < S16x128x16.size a)
theorem k0_idx891_inb : ∀ (v4985 : IVec S16 32) (v4988 : IVec S16 32) (v5316 : IVec S16 32) (k0_hw891 : k0_chk891 v4985 v4988 v5316), ∀ a x, ((![v5316, v4985, v4988] : Fin 3 → IVec S16 32) a x).toNat < S16x128x16.size a := fun v4985 v4988 v5316 k0_hw891 => k0_hw891

def k0_chk892 (v4994 : IVec S16 32) (v4997 : IVec S16 32) (v5320 : IVec S16 32) : Prop :=
  (∀ a x, ((![v5320, v4994, v4997] : Fin 3 → IVec S16 32) a x).toNat < S16x128x16.size a)
theorem k0_idx892_inb : ∀ (v4994 : IVec S16 32) (v4997 : IVec S16 32) (v5320 : IVec S16 32) (k0_hw892 : k0_chk892 v4994 v4997 v5320), ∀ a x, ((![v5320, v4994, v4997] : Fin 3 → IVec S16 32) a x).toNat < S16x128x16.size a := fun v4994 v4997 v5320 k0_hw892 => k0_hw892

def k0_chk893 (v5003 : IVec S16 32) (v5006 : IVec S16 32) (v5324 : IVec S16 32) : Prop :=
  (∀ a x, ((![v5324, v5003, v5006] : Fin 3 → IVec S16 32) a x).toNat < S16x128x16.size a)
theorem k0_idx893_inb : ∀ (v5003 : IVec S16 32) (v5006 : IVec S16 32) (v5324 : IVec S16 32) (k0_hw893 : k0_chk893 v5003 v5006 v5324), ∀ a x, ((![v5324, v5003, v5006] : Fin 3 → IVec S16 32) a x).toNat < S16x128x16.size a := fun v5003 v5006 v5324 k0_hw893 => k0_hw893

def k0_chk894 (v4904 : IVec S16 32) (v4907 : IVec S16 32) (v5330 : IVec S16 32) : Prop :=
  (∀ a x, ((![v5330, v4904, v4907] : Fin 3 → IVec S16 32) a x).toNat < S16x128x16.size a)
theorem k0_idx894_inb : ∀ (v4904 : IVec S16 32) (v4907 : IVec S16 32) (v5330 : IVec S16 32) (k0_hw894 : k0_chk894 v4904 v4907 v5330), ∀ a x, ((![v5330, v4904, v4907] : Fin 3 → IVec S16 32) a x).toNat < S16x128x16.size a := fun v4904 v4907 v5330 k0_hw894 => k0_hw894

def k0_chk895 (v4913 : IVec S16 32) (v4916 : IVec S16 32) (v5334 : IVec S16 32) : Prop :=
  (∀ a x, ((![v5334, v4913, v4916] : Fin 3 → IVec S16 32) a x).toNat < S16x128x16.size a)
theorem k0_idx895_inb : ∀ (v4913 : IVec S16 32) (v4916 : IVec S16 32) (v5334 : IVec S16 32) (k0_hw895 : k0_chk895 v4913 v4916 v5334), ∀ a x, ((![v5334, v4913, v4916] : Fin 3 → IVec S16 32) a x).toNat < S16x128x16.size a := fun v4913 v4916 v5334 k0_hw895 => k0_hw895

def k0_chk896 (v4922 : IVec S16 32) (v4925 : IVec S16 32) (v5338 : IVec S16 32) : Prop :=
  (∀ a x, ((![v5338, v4922, v4925] : Fin 3 → IVec S16 32) a x).toNat < S16x128x16.size a)
theorem k0_idx896_inb : ∀ (v4922 : IVec S16 32) (v4925 : IVec S16 32) (v5338 : IVec S16 32) (k0_hw896 : k0_chk896 v4922 v4925 v5338), ∀ a x, ((![v5338, v4922, v4925] : Fin 3 → IVec S16 32) a x).toNat < S16x128x16.size a := fun v4922 v4925 v5338 k0_hw896 => k0_hw896

def k0_chk897 (v4931 : IVec S16 32) (v4934 : IVec S16 32) (v5343 : IVec S16 32) : Prop :=
  (∀ a x, ((![v5343, v4931, v4934] : Fin 3 → IVec S16 32) a x).toNat < S16x128x16.size a)
theorem k0_idx897_inb : ∀ (v4931 : IVec S16 32) (v4934 : IVec S16 32) (v5343 : IVec S16 32) (k0_hw897 : k0_chk897 v4931 v4934 v5343), ∀ a x, ((![v5343, v4931, v4934] : Fin 3 → IVec S16 32) a x).toNat < S16x128x16.size a := fun v4931 v4934 v5343 k0_hw897 => k0_hw897

def k0_chk898 (v4940 : IVec S16 32) (v4943 : IVec S16 32) (v5347 : IVec S16 32) : Prop :=
  (∀ a x, ((![v5347, v4940, v4943] : Fin 3 → IVec S16 32) a x).toNat < S16x128x16.size a)
theorem k0_idx898_inb : ∀ (v4940 : IVec S16 32) (v4943 : IVec S16 32) (v5347 : IVec S16 32) (k0_hw898 : k0_chk898 v4940 v4943 v5347), ∀ a x, ((![v5347, v4940, v4943] : Fin 3 → IVec S16 32) a x).toNat < S16x128x16.size a := fun v4940 v4943 v5347 k0_hw898 => k0_hw898

def k0_chk899 (v4949 : IVec S16 32) (v4952 : IVec S16 32) (v5351 : IVec S16 32) : Prop :=
  (∀ a x, ((![v5351, v4949, v4952] : Fin 3 → IVec S16 32) a x).toNat < S16x128x16.size a)
theorem k0_idx899_inb : ∀ (v4949 : IVec S16 32) (v4952 : IVec S16 32) (v5351 : IVec S16 32) (k0_hw899 : k0_chk899 v4949 v4952 v5351), ∀ a x, ((![v5351, v4949, v4952] : Fin 3 → IVec S16 32) a x).toNat < S16x128x16.size a := fun v4949 v4952 v5351 k0_hw899 => k0_hw899

def k0_chk900 (v4958 : IVec S16 32) (v4961 : IVec S16 32) (v5356 : IVec S16 32) : Prop :=
  (∀ a x, ((![v5356, v4958, v4961] : Fin 3 → IVec S16 32) a x).toNat < S16x128x16.size a)
theorem k0_idx900_inb : ∀ (v4958 : IVec S16 32) (v4961 : IVec S16 32) (v5356 : IVec S16 32) (k0_hw900 : k0_chk900 v4958 v4961 v5356), ∀ a x, ((![v5356, v4958, v4961] : Fin 3 → IVec S16 32) a x).toNat < S16x128x16.size a := fun v4958 v4961 v5356 k0_hw900 => k0_hw900

def k0_chk901 (v4967 : IVec S16 32) (v4970 : IVec S16 32) (v5360 : IVec S16 32) : Prop :=
  (∀ a x, ((![v5360, v4967, v4970] : Fin 3 → IVec S16 32) a x).toNat < S16x128x16.size a)
theorem k0_idx901_inb : ∀ (v4967 : IVec S16 32) (v4970 : IVec S16 32) (v5360 : IVec S16 32) (k0_hw901 : k0_chk901 v4967 v4970 v5360), ∀ a x, ((![v5360, v4967, v4970] : Fin 3 → IVec S16 32) a x).toNat < S16x128x16.size a := fun v4967 v4970 v5360 k0_hw901 => k0_hw901

def k0_chk902 (v4976 : IVec S16 32) (v4979 : IVec S16 32) (v5364 : IVec S16 32) : Prop :=
  (∀ a x, ((![v5364, v4976, v4979] : Fin 3 → IVec S16 32) a x).toNat < S16x128x16.size a)
theorem k0_idx902_inb : ∀ (v4976 : IVec S16 32) (v4979 : IVec S16 32) (v5364 : IVec S16 32) (k0_hw902 : k0_chk902 v4976 v4979 v5364), ∀ a x, ((![v5364, v4976, v4979] : Fin 3 → IVec S16 32) a x).toNat < S16x128x16.size a := fun v4976 v4979 v5364 k0_hw902 => k0_hw902

def k0_chk903 (v4985 : IVec S16 32) (v4988 : IVec S16 32) (v5369 : IVec S16 32) : Prop :=
  (∀ a x, ((![v5369, v4985, v4988] : Fin 3 → IVec S16 32) a x).toNat < S16x128x16.size a)
theorem k0_idx903_inb : ∀ (v4985 : IVec S16 32) (v4988 : IVec S16 32) (v5369 : IVec S16 32) (k0_hw903 : k0_chk903 v4985 v4988 v5369), ∀ a x, ((![v5369, v4985, v4988] : Fin 3 → IVec S16 32) a x).toNat < S16x128x16.size a := fun v4985 v4988 v5369 k0_hw903 => k0_hw903

def k0_chk904 (v4994 : IVec S16 32) (v4997 : IVec S16 32) (v5373 : IVec S16 32) : Prop :=
  (∀ a x, ((![v5373, v4994, v4997] : Fin 3 → IVec S16 32) a x).toNat < S16x128x16.size a)
theorem k0_idx904_inb : ∀ (v4994 : IVec S16 32) (v4997 : IVec S16 32) (v5373 : IVec S16 32) (k0_hw904 : k0_chk904 v4994 v4997 v5373), ∀ a x, ((![v5373, v4994, v4997] : Fin 3 → IVec S16 32) a x).toNat < S16x128x16.size a := fun v4994 v4997 v5373 k0_hw904 => k0_hw904

def k0_chk905 (v5003 : IVec S16 32) (v5006 : IVec S16 32) (v5377 : IVec S16 32) : Prop :=
  (∀ a x, ((![v5377, v5003, v5006] : Fin 3 → IVec S16 32) a x).toNat < S16x128x16.size a)
theorem k0_idx905_inb : ∀ (v5003 : IVec S16 32) (v5006 : IVec S16 32) (v5377 : IVec S16 32) (k0_hw905 : k0_chk905 v5003 v5006 v5377), ∀ a x, ((![v5377, v5003, v5006] : Fin 3 → IVec S16 32) a x).toNat < S16x128x16.size a := fun v5003 v5006 v5377 k0_hw905 => k0_hw905

def k0_chk906 (v4904 : IVec S16 32) (v4907 : IVec S16 32) (v5383 : IVec S16 32) : Prop :=
  (∀ a x, ((![v5383, v4904, v4907] : Fin 3 → IVec S16 32) a x).toNat < S16x128x16.size a)
theorem k0_idx906_inb : ∀ (v4904 : IVec S16 32) (v4907 : IVec S16 32) (v5383 : IVec S16 32) (k0_hw906 : k0_chk906 v4904 v4907 v5383), ∀ a x, ((![v5383, v4904, v4907] : Fin 3 → IVec S16 32) a x).toNat < S16x128x16.size a := fun v4904 v4907 v5383 k0_hw906 => k0_hw906

def k0_chk907 (v4913 : IVec S16 32) (v4916 : IVec S16 32) (v5387 : IVec S16 32) : Prop :=
  (∀ a x, ((![v5387, v4913, v4916] : Fin 3 → IVec S16 32) a x).toNat < S16x128x16.size a)
theorem k0_idx907_inb : ∀ (v4913 : IVec S16 32) (v4916 : IVec S16 32) (v5387 : IVec S16 32) (k0_hw907 : k0_chk907 v4913 v4916 v5387), ∀ a x, ((![v5387, v4913, v4916] : Fin 3 → IVec S16 32) a x).toNat < S16x128x16.size a := fun v4913 v4916 v5387 k0_hw907 => k0_hw907

def k0_chk908 (v4922 : IVec S16 32) (v4925 : IVec S16 32) (v5391 : IVec S16 32) : Prop :=
  (∀ a x, ((![v5391, v4922, v4925] : Fin 3 → IVec S16 32) a x).toNat < S16x128x16.size a)
theorem k0_idx908_inb : ∀ (v4922 : IVec S16 32) (v4925 : IVec S16 32) (v5391 : IVec S16 32) (k0_hw908 : k0_chk908 v4922 v4925 v5391), ∀ a x, ((![v5391, v4922, v4925] : Fin 3 → IVec S16 32) a x).toNat < S16x128x16.size a := fun v4922 v4925 v5391 k0_hw908 => k0_hw908

def k0_chk909 (v4931 : IVec S16 32) (v4934 : IVec S16 32) (v5396 : IVec S16 32) : Prop :=
  (∀ a x, ((![v5396, v4931, v4934] : Fin 3 → IVec S16 32) a x).toNat < S16x128x16.size a)
theorem k0_idx909_inb : ∀ (v4931 : IVec S16 32) (v4934 : IVec S16 32) (v5396 : IVec S16 32) (k0_hw909 : k0_chk909 v4931 v4934 v5396), ∀ a x, ((![v5396, v4931, v4934] : Fin 3 → IVec S16 32) a x).toNat < S16x128x16.size a := fun v4931 v4934 v5396 k0_hw909 => k0_hw909

def k0_chk910 (v4940 : IVec S16 32) (v4943 : IVec S16 32) (v5400 : IVec S16 32) : Prop :=
  (∀ a x, ((![v5400, v4940, v4943] : Fin 3 → IVec S16 32) a x).toNat < S16x128x16.size a)
theorem k0_idx910_inb : ∀ (v4940 : IVec S16 32) (v4943 : IVec S16 32) (v5400 : IVec S16 32) (k0_hw910 : k0_chk910 v4940 v4943 v5400), ∀ a x, ((![v5400, v4940, v4943] : Fin 3 → IVec S16 32) a x).toNat < S16x128x16.size a := fun v4940 v4943 v5400 k0_hw910 => k0_hw910

def k0_chk911 (v4949 : IVec S16 32) (v4952 : IVec S16 32) (v5404 : IVec S16 32) : Prop :=
  (∀ a x, ((![v5404, v4949, v4952] : Fin 3 → IVec S16 32) a x).toNat < S16x128x16.size a)
theorem k0_idx911_inb : ∀ (v4949 : IVec S16 32) (v4952 : IVec S16 32) (v5404 : IVec S16 32) (k0_hw911 : k0_chk911 v4949 v4952 v5404), ∀ a x, ((![v5404, v4949, v4952] : Fin 3 → IVec S16 32) a x).toNat < S16x128x16.size a := fun v4949 v4952 v5404 k0_hw911 => k0_hw911

def k0_chk912 (v4958 : IVec S16 32) (v4961 : IVec S16 32) (v5409 : IVec S16 32) : Prop :=
  (∀ a x, ((![v5409, v4958, v4961] : Fin 3 → IVec S16 32) a x).toNat < S16x128x16.size a)
theorem k0_idx912_inb : ∀ (v4958 : IVec S16 32) (v4961 : IVec S16 32) (v5409 : IVec S16 32) (k0_hw912 : k0_chk912 v4958 v4961 v5409), ∀ a x, ((![v5409, v4958, v4961] : Fin 3 → IVec S16 32) a x).toNat < S16x128x16.size a := fun v4958 v4961 v5409 k0_hw912 => k0_hw912

def k0_chk913 (v4967 : IVec S16 32) (v4970 : IVec S16 32) (v5413 : IVec S16 32) : Prop :=
  (∀ a x, ((![v5413, v4967, v4970] : Fin 3 → IVec S16 32) a x).toNat < S16x128x16.size a)
theorem k0_idx913_inb : ∀ (v4967 : IVec S16 32) (v4970 : IVec S16 32) (v5413 : IVec S16 32) (k0_hw913 : k0_chk913 v4967 v4970 v5413), ∀ a x, ((![v5413, v4967, v4970] : Fin 3 → IVec S16 32) a x).toNat < S16x128x16.size a := fun v4967 v4970 v5413 k0_hw913 => k0_hw913

def k0_chk914 (v4976 : IVec S16 32) (v4979 : IVec S16 32) (v5417 : IVec S16 32) : Prop :=
  (∀ a x, ((![v5417, v4976, v4979] : Fin 3 → IVec S16 32) a x).toNat < S16x128x16.size a)
theorem k0_idx914_inb : ∀ (v4976 : IVec S16 32) (v4979 : IVec S16 32) (v5417 : IVec S16 32) (k0_hw914 : k0_chk914 v4976 v4979 v5417), ∀ a x, ((![v5417, v4976, v4979] : Fin 3 → IVec S16 32) a x).toNat < S16x128x16.size a := fun v4976 v4979 v5417 k0_hw914 => k0_hw914

def k0_chk915 (v4985 : IVec S16 32) (v4988 : IVec S16 32) (v5422 : IVec S16 32) : Prop :=
  (∀ a x, ((![v5422, v4985, v4988] : Fin 3 → IVec S16 32) a x).toNat < S16x128x16.size a)
theorem k0_idx915_inb : ∀ (v4985 : IVec S16 32) (v4988 : IVec S16 32) (v5422 : IVec S16 32) (k0_hw915 : k0_chk915 v4985 v4988 v5422), ∀ a x, ((![v5422, v4985, v4988] : Fin 3 → IVec S16 32) a x).toNat < S16x128x16.size a := fun v4985 v4988 v5422 k0_hw915 => k0_hw915

def k0_chk916 (v4994 : IVec S16 32) (v4997 : IVec S16 32) (v5426 : IVec S16 32) : Prop :=
  (∀ a x, ((![v5426, v4994, v4997] : Fin 3 → IVec S16 32) a x).toNat < S16x128x16.size a)
theorem k0_idx916_inb : ∀ (v4994 : IVec S16 32) (v4997 : IVec S16 32) (v5426 : IVec S16 32) (k0_hw916 : k0_chk916 v4994 v4997 v5426), ∀ a x, ((![v5426, v4994, v4997] : Fin 3 → IVec S16 32) a x).toNat < S16x128x16.size a := fun v4994 v4997 v5426 k0_hw916 => k0_hw916

def k0_chk917 (v5003 : IVec S16 32) (v5006 : IVec S16 32) (v5430 : IVec S16 32) : Prop :=
  (∀ a x, ((![v5430, v5003, v5006] : Fin 3 → IVec S16 32) a x).toNat < S16x128x16.size a)
theorem k0_idx917_inb : ∀ (v5003 : IVec S16 32) (v5006 : IVec S16 32) (v5430 : IVec S16 32) (k0_hw917 : k0_chk917 v5003 v5006 v5430), ∀ a x, ((![v5430, v5003, v5006] : Fin 3 → IVec S16 32) a x).toNat < S16x128x16.size a := fun v5003 v5006 v5430 k0_hw917 => k0_hw917

def k0_chk918 (v4904 : IVec S16 32) (v4907 : IVec S16 32) (v5436 : IVec S16 32) : Prop :=
  (∀ a x, ((![v5436, v4904, v4907] : Fin 3 → IVec S16 32) a x).toNat < S16x128x16.size a)
theorem k0_idx918_inb : ∀ (v4904 : IVec S16 32) (v4907 : IVec S16 32) (v5436 : IVec S16 32) (k0_hw918 : k0_chk918 v4904 v4907 v5436), ∀ a x, ((![v5436, v4904, v4907] : Fin 3 → IVec S16 32) a x).toNat < S16x128x16.size a := fun v4904 v4907 v5436 k0_hw918 => k0_hw918

def k0_chk919 (v4913 : IVec S16 32) (v4916 : IVec S16 32) (v5440 : IVec S16 32) : Prop :=
  (∀ a x, ((![v5440, v4913, v4916] : Fin 3 → IVec S16 32) a x).toNat < S16x128x16.size a)
theorem k0_idx919_inb : ∀ (v4913 : IVec S16 32) (v4916 : IVec S16 32) (v5440 : IVec S16 32) (k0_hw919 : k0_chk919 v4913 v4916 v5440), ∀ a x, ((![v5440, v4913, v4916] : Fin 3 → IVec S16 32) a x).toNat < S16x128x16.size a := fun v4913 v4916 v5440 k0_hw919 => k0_hw919

def k0_chk920 (v4922 : IVec S16 32) (v4925 : IVec S16 32) (v5444 : IVec S16 32) : Prop :=
  (∀ a x, ((![v5444, v4922, v4925] : Fin 3 → IVec S16 32) a x).toNat < S16x128x16.size a)
theorem k0_idx920_inb : ∀ (v4922 : IVec S16 32) (v4925 : IVec S16 32) (v5444 : IVec S16 32) (k0_hw920 : k0_chk920 v4922 v4925 v5444), ∀ a x, ((![v5444, v4922, v4925] : Fin 3 → IVec S16 32) a x).toNat < S16x128x16.size a := fun v4922 v4925 v5444 k0_hw920 => k0_hw920

def k0_chk921 (v4931 : IVec S16 32) (v4934 : IVec S16 32) (v5449 : IVec S16 32) : Prop :=
  (∀ a x, ((![v5449, v4931, v4934] : Fin 3 → IVec S16 32) a x).toNat < S16x128x16.size a)
theorem k0_idx921_inb : ∀ (v4931 : IVec S16 32) (v4934 : IVec S16 32) (v5449 : IVec S16 32) (k0_hw921 : k0_chk921 v4931 v4934 v5449), ∀ a x, ((![v5449, v4931, v4934] : Fin 3 → IVec S16 32) a x).toNat < S16x128x16.size a := fun v4931 v4934 v5449 k0_hw921 => k0_hw921

def k0_chk922 (v4940 : IVec S16 32) (v4943 : IVec S16 32) (v5453 : IVec S16 32) : Prop :=
  (∀ a x, ((![v5453, v4940, v4943] : Fin 3 → IVec S16 32) a x).toNat < S16x128x16.size a)
theorem k0_idx922_inb : ∀ (v4940 : IVec S16 32) (v4943 : IVec S16 32) (v5453 : IVec S16 32) (k0_hw922 : k0_chk922 v4940 v4943 v5453), ∀ a x, ((![v5453, v4940, v4943] : Fin 3 → IVec S16 32) a x).toNat < S16x128x16.size a := fun v4940 v4943 v5453 k0_hw922 => k0_hw922

def k0_chk923 (v4949 : IVec S16 32) (v4952 : IVec S16 32) (v5457 : IVec S16 32) : Prop :=
  (∀ a x, ((![v5457, v4949, v4952] : Fin 3 → IVec S16 32) a x).toNat < S16x128x16.size a)
theorem k0_idx923_inb : ∀ (v4949 : IVec S16 32) (v4952 : IVec S16 32) (v5457 : IVec S16 32) (k0_hw923 : k0_chk923 v4949 v4952 v5457), ∀ a x, ((![v5457, v4949, v4952] : Fin 3 → IVec S16 32) a x).toNat < S16x128x16.size a := fun v4949 v4952 v5457 k0_hw923 => k0_hw923

def k0_chk924 (v4958 : IVec S16 32) (v4961 : IVec S16 32) (v5462 : IVec S16 32) : Prop :=
  (∀ a x, ((![v5462, v4958, v4961] : Fin 3 → IVec S16 32) a x).toNat < S16x128x16.size a)
theorem k0_idx924_inb : ∀ (v4958 : IVec S16 32) (v4961 : IVec S16 32) (v5462 : IVec S16 32) (k0_hw924 : k0_chk924 v4958 v4961 v5462), ∀ a x, ((![v5462, v4958, v4961] : Fin 3 → IVec S16 32) a x).toNat < S16x128x16.size a := fun v4958 v4961 v5462 k0_hw924 => k0_hw924

def k0_chk925 (v4967 : IVec S16 32) (v4970 : IVec S16 32) (v5466 : IVec S16 32) : Prop :=
  (∀ a x, ((![v5466, v4967, v4970] : Fin 3 → IVec S16 32) a x).toNat < S16x128x16.size a)
theorem k0_idx925_inb : ∀ (v4967 : IVec S16 32) (v4970 : IVec S16 32) (v5466 : IVec S16 32) (k0_hw925 : k0_chk925 v4967 v4970 v5466), ∀ a x, ((![v5466, v4967, v4970] : Fin 3 → IVec S16 32) a x).toNat < S16x128x16.size a := fun v4967 v4970 v5466 k0_hw925 => k0_hw925

def k0_chk926 (v4976 : IVec S16 32) (v4979 : IVec S16 32) (v5470 : IVec S16 32) : Prop :=
  (∀ a x, ((![v5470, v4976, v4979] : Fin 3 → IVec S16 32) a x).toNat < S16x128x16.size a)
theorem k0_idx926_inb : ∀ (v4976 : IVec S16 32) (v4979 : IVec S16 32) (v5470 : IVec S16 32) (k0_hw926 : k0_chk926 v4976 v4979 v5470), ∀ a x, ((![v5470, v4976, v4979] : Fin 3 → IVec S16 32) a x).toNat < S16x128x16.size a := fun v4976 v4979 v5470 k0_hw926 => k0_hw926

def k0_chk927 (v4985 : IVec S16 32) (v4988 : IVec S16 32) (v5475 : IVec S16 32) : Prop :=
  (∀ a x, ((![v5475, v4985, v4988] : Fin 3 → IVec S16 32) a x).toNat < S16x128x16.size a)
theorem k0_idx927_inb : ∀ (v4985 : IVec S16 32) (v4988 : IVec S16 32) (v5475 : IVec S16 32) (k0_hw927 : k0_chk927 v4985 v4988 v5475), ∀ a x, ((![v5475, v4985, v4988] : Fin 3 → IVec S16 32) a x).toNat < S16x128x16.size a := fun v4985 v4988 v5475 k0_hw927 => k0_hw927

def k0_chk928 (v4994 : IVec S16 32) (v4997 : IVec S16 32) (v5479 : IVec S16 32) : Prop :=
  (∀ a x, ((![v5479, v4994, v4997] : Fin 3 → IVec S16 32) a x).toNat < S16x128x16.size a)
theorem k0_idx928_inb : ∀ (v4994 : IVec S16 32) (v4997 : IVec S16 32) (v5479 : IVec S16 32) (k0_hw928 : k0_chk928 v4994 v4997 v5479), ∀ a x, ((![v5479, v4994, v4997] : Fin 3 → IVec S16 32) a x).toNat < S16x128x16.size a := fun v4994 v4997 v5479 k0_hw928 => k0_hw928

def k0_chk929 (v5003 : IVec S16 32) (v5006 : IVec S16 32) (v5483 : IVec S16 32) : Prop :=
  (∀ a x, ((![v5483, v5003, v5006] : Fin 3 → IVec S16 32) a x).toNat < S16x128x16.size a)
theorem k0_idx929_inb : ∀ (v5003 : IVec S16 32) (v5006 : IVec S16 32) (v5483 : IVec S16 32) (k0_hw929 : k0_chk929 v5003 v5006 v5483), ∀ a x, ((![v5483, v5003, v5006] : Fin 3 → IVec S16 32) a x).toNat < S16x128x16.size a := fun v5003 v5006 v5483 k0_hw929 => k0_hw929

def k0_chk930 (v4904 : IVec S16 32) (v4907 : IVec S16 32) (v5489 : IVec S16 32) : Prop :=
  (∀ a x, ((![v5489, v4904, v4907] : Fin 3 → IVec S16 32) a x).toNat < S16x128x16.size a)
theorem k0_idx930_inb : ∀ (v4904 : IVec S16 32) (v4907 : IVec S16 32) (v5489 : IVec S16 32) (k0_hw930 : k0_chk930 v4904 v4907 v5489), ∀ a x, ((![v5489, v4904, v4907] : Fin 3 → IVec S16 32) a x).toNat < S16x128x16.size a := fun v4904 v4907 v5489 k0_hw930 => k0_hw930

def k0_chk931 (v4913 : IVec S16 32) (v4916 : IVec S16 32) (v5493 : IVec S16 32) : Prop :=
  (∀ a x, ((![v5493, v4913, v4916] : Fin 3 → IVec S16 32) a x).toNat < S16x128x16.size a)
theorem k0_idx931_inb : ∀ (v4913 : IVec S16 32) (v4916 : IVec S16 32) (v5493 : IVec S16 32) (k0_hw931 : k0_chk931 v4913 v4916 v5493), ∀ a x, ((![v5493, v4913, v4916] : Fin 3 → IVec S16 32) a x).toNat < S16x128x16.size a := fun v4913 v4916 v5493 k0_hw931 => k0_hw931

def k0_chk932 (v4922 : IVec S16 32) (v4925 : IVec S16 32) (v5497 : IVec S16 32) : Prop :=
  (∀ a x, ((![v5497, v4922, v4925] : Fin 3 → IVec S16 32) a x).toNat < S16x128x16.size a)
theorem k0_idx932_inb : ∀ (v4922 : IVec S16 32) (v4925 : IVec S16 32) (v5497 : IVec S16 32) (k0_hw932 : k0_chk932 v4922 v4925 v5497), ∀ a x, ((![v5497, v4922, v4925] : Fin 3 → IVec S16 32) a x).toNat < S16x128x16.size a := fun v4922 v4925 v5497 k0_hw932 => k0_hw932

def k0_chk933 (v4931 : IVec S16 32) (v4934 : IVec S16 32) (v5502 : IVec S16 32) : Prop :=
  (∀ a x, ((![v5502, v4931, v4934] : Fin 3 → IVec S16 32) a x).toNat < S16x128x16.size a)
theorem k0_idx933_inb : ∀ (v4931 : IVec S16 32) (v4934 : IVec S16 32) (v5502 : IVec S16 32) (k0_hw933 : k0_chk933 v4931 v4934 v5502), ∀ a x, ((![v5502, v4931, v4934] : Fin 3 → IVec S16 32) a x).toNat < S16x128x16.size a := fun v4931 v4934 v5502 k0_hw933 => k0_hw933

def k0_chk934 (v4940 : IVec S16 32) (v4943 : IVec S16 32) (v5506 : IVec S16 32) : Prop :=
  (∀ a x, ((![v5506, v4940, v4943] : Fin 3 → IVec S16 32) a x).toNat < S16x128x16.size a)
theorem k0_idx934_inb : ∀ (v4940 : IVec S16 32) (v4943 : IVec S16 32) (v5506 : IVec S16 32) (k0_hw934 : k0_chk934 v4940 v4943 v5506), ∀ a x, ((![v5506, v4940, v4943] : Fin 3 → IVec S16 32) a x).toNat < S16x128x16.size a := fun v4940 v4943 v5506 k0_hw934 => k0_hw934

def k0_chk935 (v4949 : IVec S16 32) (v4952 : IVec S16 32) (v5510 : IVec S16 32) : Prop :=
  (∀ a x, ((![v5510, v4949, v4952] : Fin 3 → IVec S16 32) a x).toNat < S16x128x16.size a)
theorem k0_idx935_inb : ∀ (v4949 : IVec S16 32) (v4952 : IVec S16 32) (v5510 : IVec S16 32) (k0_hw935 : k0_chk935 v4949 v4952 v5510), ∀ a x, ((![v5510, v4949, v4952] : Fin 3 → IVec S16 32) a x).toNat < S16x128x16.size a := fun v4949 v4952 v5510 k0_hw935 => k0_hw935

def k0_chk936 (v4958 : IVec S16 32) (v4961 : IVec S16 32) (v5515 : IVec S16 32) : Prop :=
  (∀ a x, ((![v5515, v4958, v4961] : Fin 3 → IVec S16 32) a x).toNat < S16x128x16.size a)
theorem k0_idx936_inb : ∀ (v4958 : IVec S16 32) (v4961 : IVec S16 32) (v5515 : IVec S16 32) (k0_hw936 : k0_chk936 v4958 v4961 v5515), ∀ a x, ((![v5515, v4958, v4961] : Fin 3 → IVec S16 32) a x).toNat < S16x128x16.size a := fun v4958 v4961 v5515 k0_hw936 => k0_hw936

def k0_chk937 (v4967 : IVec S16 32) (v4970 : IVec S16 32) (v5519 : IVec S16 32) : Prop :=
  (∀ a x, ((![v5519, v4967, v4970] : Fin 3 → IVec S16 32) a x).toNat < S16x128x16.size a)
theorem k0_idx937_inb : ∀ (v4967 : IVec S16 32) (v4970 : IVec S16 32) (v5519 : IVec S16 32) (k0_hw937 : k0_chk937 v4967 v4970 v5519), ∀ a x, ((![v5519, v4967, v4970] : Fin 3 → IVec S16 32) a x).toNat < S16x128x16.size a := fun v4967 v4970 v5519 k0_hw937 => k0_hw937

def k0_chk938 (v4976 : IVec S16 32) (v4979 : IVec S16 32) (v5523 : IVec S16 32) : Prop :=
  (∀ a x, ((![v5523, v4976, v4979] : Fin 3 → IVec S16 32) a x).toNat < S16x128x16.size a)
theorem k0_idx938_inb : ∀ (v4976 : IVec S16 32) (v4979 : IVec S16 32) (v5523 : IVec S16 32) (k0_hw938 : k0_chk938 v4976 v4979 v5523), ∀ a x, ((![v5523, v4976, v4979] : Fin 3 → IVec S16 32) a x).toNat < S16x128x16.size a := fun v4976 v4979 v5523 k0_hw938 => k0_hw938

def k0_chk939 (v4985 : IVec S16 32) (v4988 : IVec S16 32) (v5528 : IVec S16 32) : Prop :=
  (∀ a x, ((![v5528, v4985, v4988] : Fin 3 → IVec S16 32) a x).toNat < S16x128x16.size a)
theorem k0_idx939_inb : ∀ (v4985 : IVec S16 32) (v4988 : IVec S16 32) (v5528 : IVec S16 32) (k0_hw939 : k0_chk939 v4985 v4988 v5528), ∀ a x, ((![v5528, v4985, v4988] : Fin 3 → IVec S16 32) a x).toNat < S16x128x16.size a := fun v4985 v4988 v5528 k0_hw939 => k0_hw939

def k0_chk940 (v4994 : IVec S16 32) (v4997 : IVec S16 32) (v5532 : IVec S16 32) : Prop :=
  (∀ a x, ((![v5532, v4994, v4997] : Fin 3 → IVec S16 32) a x).toNat < S16x128x16.size a)
theorem k0_idx940_inb : ∀ (v4994 : IVec S16 32) (v4997 : IVec S16 32) (v5532 : IVec S16 32) (k0_hw940 : k0_chk940 v4994 v4997 v5532), ∀ a x, ((![v5532, v4994, v4997] : Fin 3 → IVec S16 32) a x).toNat < S16x128x16.size a := fun v4994 v4997 v5532 k0_hw940 => k0_hw940

def k0_chk941 (v5003 : IVec S16 32) (v5006 : IVec S16 32) (v5536 : IVec S16 32) : Prop :=
  (∀ a x, ((![v5536, v5003, v5006] : Fin 3 → IVec S16 32) a x).toNat < S16x128x16.size a)
theorem k0_idx941_inb : ∀ (v5003 : IVec S16 32) (v5006 : IVec S16 32) (v5536 : IVec S16 32) (k0_hw941 : k0_chk941 v5003 v5006 v5536), ∀ a x, ((![v5536, v5003, v5006] : Fin 3 → IVec S16 32) a x).toNat < S16x128x16.size a := fun v5003 v5006 v5536 k0_hw941 => k0_hw941

def k0_chk942 (v4904 : IVec S16 32) (v4907 : IVec S16 32) (v5542 : IVec S16 32) : Prop :=
  (∀ a x, ((![v5542, v4904, v4907] : Fin 3 → IVec S16 32) a x).toNat < S16x128x16.size a)
theorem k0_idx942_inb : ∀ (v4904 : IVec S16 32) (v4907 : IVec S16 32) (v5542 : IVec S16 32) (k0_hw942 : k0_chk942 v4904 v4907 v5542), ∀ a x, ((![v5542, v4904, v4907] : Fin 3 → IVec S16 32) a x).toNat < S16x128x16.size a := fun v4904 v4907 v5542 k0_hw942 => k0_hw942

def k0_chk943 (v4913 : IVec S16 32) (v4916 : IVec S16 32) (v5546 : IVec S16 32) : Prop :=
  (∀ a x, ((![v5546, v4913, v4916] : Fin 3 → IVec S16 32) a x).toNat < S16x128x16.size a)
theorem k0_idx943_inb : ∀ (v4913 : IVec S16 32) (v4916 : IVec S16 32) (v5546 : IVec S16 32) (k0_hw943 : k0_chk943 v4913 v4916 v5546), ∀ a x, ((![v5546, v4913, v4916] : Fin 3 → IVec S16 32) a x).toNat < S16x128x16.size a := fun v4913 v4916 v5546 k0_hw943 => k0_hw943

def k0_chk944 (v4922 : IVec S16 32) (v4925 : IVec S16 32) (v5550 : IVec S16 32) : Prop :=
  (∀ a x, ((![v5550, v4922, v4925] : Fin 3 → IVec S16 32) a x).toNat < S16x128x16.size a)
theorem k0_idx944_inb : ∀ (v4922 : IVec S16 32) (v4925 : IVec S16 32) (v5550 : IVec S16 32) (k0_hw944 : k0_chk944 v4922 v4925 v5550), ∀ a x, ((![v5550, v4922, v4925] : Fin 3 → IVec S16 32) a x).toNat < S16x128x16.size a := fun v4922 v4925 v5550 k0_hw944 => k0_hw944

def k0_chk945 (v4931 : IVec S16 32) (v4934 : IVec S16 32) (v5555 : IVec S16 32) : Prop :=
  (∀ a x, ((![v5555, v4931, v4934] : Fin 3 → IVec S16 32) a x).toNat < S16x128x16.size a)
theorem k0_idx945_inb : ∀ (v4931 : IVec S16 32) (v4934 : IVec S16 32) (v5555 : IVec S16 32) (k0_hw945 : k0_chk945 v4931 v4934 v5555), ∀ a x, ((![v5555, v4931, v4934] : Fin 3 → IVec S16 32) a x).toNat < S16x128x16.size a := fun v4931 v4934 v5555 k0_hw945 => k0_hw945

def k0_chk946 (v4940 : IVec S16 32) (v4943 : IVec S16 32) (v5559 : IVec S16 32) : Prop :=
  (∀ a x, ((![v5559, v4940, v4943] : Fin 3 → IVec S16 32) a x).toNat < S16x128x16.size a)
theorem k0_idx946_inb : ∀ (v4940 : IVec S16 32) (v4943 : IVec S16 32) (v5559 : IVec S16 32) (k0_hw946 : k0_chk946 v4940 v4943 v5559), ∀ a x, ((![v5559, v4940, v4943] : Fin 3 → IVec S16 32) a x).toNat < S16x128x16.size a := fun v4940 v4943 v5559 k0_hw946 => k0_hw946

def k0_chk947 (v4949 : IVec S16 32) (v4952 : IVec S16 32) (v5563 : IVec S16 32) : Prop :=
  (∀ a x, ((![v5563, v4949, v4952] : Fin 3 → IVec S16 32) a x).toNat < S16x128x16.size a)
theorem k0_idx947_inb : ∀ (v4949 : IVec S16 32) (v4952 : IVec S16 32) (v5563 : IVec S16 32) (k0_hw947 : k0_chk947 v4949 v4952 v5563), ∀ a x, ((![v5563, v4949, v4952] : Fin 3 → IVec S16 32) a x).toNat < S16x128x16.size a := fun v4949 v4952 v5563 k0_hw947 => k0_hw947

def k0_chk948 (v4958 : IVec S16 32) (v4961 : IVec S16 32) (v5568 : IVec S16 32) : Prop :=
  (∀ a x, ((![v5568, v4958, v4961] : Fin 3 → IVec S16 32) a x).toNat < S16x128x16.size a)
theorem k0_idx948_inb : ∀ (v4958 : IVec S16 32) (v4961 : IVec S16 32) (v5568 : IVec S16 32) (k0_hw948 : k0_chk948 v4958 v4961 v5568), ∀ a x, ((![v5568, v4958, v4961] : Fin 3 → IVec S16 32) a x).toNat < S16x128x16.size a := fun v4958 v4961 v5568 k0_hw948 => k0_hw948

def k0_chk949 (v4967 : IVec S16 32) (v4970 : IVec S16 32) (v5572 : IVec S16 32) : Prop :=
  (∀ a x, ((![v5572, v4967, v4970] : Fin 3 → IVec S16 32) a x).toNat < S16x128x16.size a)
theorem k0_idx949_inb : ∀ (v4967 : IVec S16 32) (v4970 : IVec S16 32) (v5572 : IVec S16 32) (k0_hw949 : k0_chk949 v4967 v4970 v5572), ∀ a x, ((![v5572, v4967, v4970] : Fin 3 → IVec S16 32) a x).toNat < S16x128x16.size a := fun v4967 v4970 v5572 k0_hw949 => k0_hw949

def k0_chk950 (v4976 : IVec S16 32) (v4979 : IVec S16 32) (v5576 : IVec S16 32) : Prop :=
  (∀ a x, ((![v5576, v4976, v4979] : Fin 3 → IVec S16 32) a x).toNat < S16x128x16.size a)
theorem k0_idx950_inb : ∀ (v4976 : IVec S16 32) (v4979 : IVec S16 32) (v5576 : IVec S16 32) (k0_hw950 : k0_chk950 v4976 v4979 v5576), ∀ a x, ((![v5576, v4976, v4979] : Fin 3 → IVec S16 32) a x).toNat < S16x128x16.size a := fun v4976 v4979 v5576 k0_hw950 => k0_hw950

def k0_chk951 (v4985 : IVec S16 32) (v4988 : IVec S16 32) (v5581 : IVec S16 32) : Prop :=
  (∀ a x, ((![v5581, v4985, v4988] : Fin 3 → IVec S16 32) a x).toNat < S16x128x16.size a)
theorem k0_idx951_inb : ∀ (v4985 : IVec S16 32) (v4988 : IVec S16 32) (v5581 : IVec S16 32) (k0_hw951 : k0_chk951 v4985 v4988 v5581), ∀ a x, ((![v5581, v4985, v4988] : Fin 3 → IVec S16 32) a x).toNat < S16x128x16.size a := fun v4985 v4988 v5581 k0_hw951 => k0_hw951

def k0_chk952 (v4994 : IVec S16 32) (v4997 : IVec S16 32) (v5585 : IVec S16 32) : Prop :=
  (∀ a x, ((![v5585, v4994, v4997] : Fin 3 → IVec S16 32) a x).toNat < S16x128x16.size a)
theorem k0_idx952_inb : ∀ (v4994 : IVec S16 32) (v4997 : IVec S16 32) (v5585 : IVec S16 32) (k0_hw952 : k0_chk952 v4994 v4997 v5585), ∀ a x, ((![v5585, v4994, v4997] : Fin 3 → IVec S16 32) a x).toNat < S16x128x16.size a := fun v4994 v4997 v5585 k0_hw952 => k0_hw952

def k0_chk953 (v5003 : IVec S16 32) (v5006 : IVec S16 32) (v5589 : IVec S16 32) : Prop :=
  (∀ a x, ((![v5589, v5003, v5006] : Fin 3 → IVec S16 32) a x).toNat < S16x128x16.size a)
theorem k0_idx953_inb : ∀ (v5003 : IVec S16 32) (v5006 : IVec S16 32) (v5589 : IVec S16 32) (k0_hw953 : k0_chk953 v5003 v5006 v5589), ∀ a x, ((![v5589, v5003, v5006] : Fin 3 → IVec S16 32) a x).toNat < S16x128x16.size a := fun v5003 v5006 v5589 k0_hw953 => k0_hw953

def k0_chk954 (v4904 : IVec S16 32) (v4907 : IVec S16 32) (v5595 : IVec S16 32) : Prop :=
  (∀ a x, ((![v5595, v4904, v4907] : Fin 3 → IVec S16 32) a x).toNat < S16x128x16.size a)
theorem k0_idx954_inb : ∀ (v4904 : IVec S16 32) (v4907 : IVec S16 32) (v5595 : IVec S16 32) (k0_hw954 : k0_chk954 v4904 v4907 v5595), ∀ a x, ((![v5595, v4904, v4907] : Fin 3 → IVec S16 32) a x).toNat < S16x128x16.size a := fun v4904 v4907 v5595 k0_hw954 => k0_hw954

def k0_chk955 (v4913 : IVec S16 32) (v4916 : IVec S16 32) (v5599 : IVec S16 32) : Prop :=
  (∀ a x, ((![v5599, v4913, v4916] : Fin 3 → IVec S16 32) a x).toNat < S16x128x16.size a)
theorem k0_idx955_inb : ∀ (v4913 : IVec S16 32) (v4916 : IVec S16 32) (v5599 : IVec S16 32) (k0_hw955 : k0_chk955 v4913 v4916 v5599), ∀ a x, ((![v5599, v4913, v4916] : Fin 3 → IVec S16 32) a x).toNat < S16x128x16.size a := fun v4913 v4916 v5599 k0_hw955 => k0_hw955

def k0_chk956 (v4922 : IVec S16 32) (v4925 : IVec S16 32) (v5603 : IVec S16 32) : Prop :=
  (∀ a x, ((![v5603, v4922, v4925] : Fin 3 → IVec S16 32) a x).toNat < S16x128x16.size a)
theorem k0_idx956_inb : ∀ (v4922 : IVec S16 32) (v4925 : IVec S16 32) (v5603 : IVec S16 32) (k0_hw956 : k0_chk956 v4922 v4925 v5603), ∀ a x, ((![v5603, v4922, v4925] : Fin 3 → IVec S16 32) a x).toNat < S16x128x16.size a := fun v4922 v4925 v5603 k0_hw956 => k0_hw956

def k0_chk957 (v4931 : IVec S16 32) (v4934 : IVec S16 32) (v5608 : IVec S16 32) : Prop :=
  (∀ a x, ((![v5608, v4931, v4934] : Fin 3 → IVec S16 32) a x).toNat < S16x128x16.size a)
theorem k0_idx957_inb : ∀ (v4931 : IVec S16 32) (v4934 : IVec S16 32) (v5608 : IVec S16 32) (k0_hw957 : k0_chk957 v4931 v4934 v5608), ∀ a x, ((![v5608, v4931, v4934] : Fin 3 → IVec S16 32) a x).toNat < S16x128x16.size a := fun v4931 v4934 v5608 k0_hw957 => k0_hw957

def k0_chk958 (v4940 : IVec S16 32) (v4943 : IVec S16 32) (v5612 : IVec S16 32) : Prop :=
  (∀ a x, ((![v5612, v4940, v4943] : Fin 3 → IVec S16 32) a x).toNat < S16x128x16.size a)
theorem k0_idx958_inb : ∀ (v4940 : IVec S16 32) (v4943 : IVec S16 32) (v5612 : IVec S16 32) (k0_hw958 : k0_chk958 v4940 v4943 v5612), ∀ a x, ((![v5612, v4940, v4943] : Fin 3 → IVec S16 32) a x).toNat < S16x128x16.size a := fun v4940 v4943 v5612 k0_hw958 => k0_hw958

def k0_chk959 (v4949 : IVec S16 32) (v4952 : IVec S16 32) (v5616 : IVec S16 32) : Prop :=
  (∀ a x, ((![v5616, v4949, v4952] : Fin 3 → IVec S16 32) a x).toNat < S16x128x16.size a)
theorem k0_idx959_inb : ∀ (v4949 : IVec S16 32) (v4952 : IVec S16 32) (v5616 : IVec S16 32) (k0_hw959 : k0_chk959 v4949 v4952 v5616), ∀ a x, ((![v5616, v4949, v4952] : Fin 3 → IVec S16 32) a x).toNat < S16x128x16.size a := fun v4949 v4952 v5616 k0_hw959 => k0_hw959

def k0_chk960 (v4958 : IVec S16 32) (v4961 : IVec S16 32) (v5621 : IVec S16 32) : Prop :=
  (∀ a x, ((![v5621, v4958, v4961] : Fin 3 → IVec S16 32) a x).toNat < S16x128x16.size a)
theorem k0_idx960_inb : ∀ (v4958 : IVec S16 32) (v4961 : IVec S16 32) (v5621 : IVec S16 32) (k0_hw960 : k0_chk960 v4958 v4961 v5621), ∀ a x, ((![v5621, v4958, v4961] : Fin 3 → IVec S16 32) a x).toNat < S16x128x16.size a := fun v4958 v4961 v5621 k0_hw960 => k0_hw960

def k0_chk961 (v4967 : IVec S16 32) (v4970 : IVec S16 32) (v5625 : IVec S16 32) : Prop :=
  (∀ a x, ((![v5625, v4967, v4970] : Fin 3 → IVec S16 32) a x).toNat < S16x128x16.size a)
theorem k0_idx961_inb : ∀ (v4967 : IVec S16 32) (v4970 : IVec S16 32) (v5625 : IVec S16 32) (k0_hw961 : k0_chk961 v4967 v4970 v5625), ∀ a x, ((![v5625, v4967, v4970] : Fin 3 → IVec S16 32) a x).toNat < S16x128x16.size a := fun v4967 v4970 v5625 k0_hw961 => k0_hw961

def k0_chk962 (v4976 : IVec S16 32) (v4979 : IVec S16 32) (v5629 : IVec S16 32) : Prop :=
  (∀ a x, ((![v5629, v4976, v4979] : Fin 3 → IVec S16 32) a x).toNat < S16x128x16.size a)
theorem k0_idx962_inb : ∀ (v4976 : IVec S16 32) (v4979 : IVec S16 32) (v5629 : IVec S16 32) (k0_hw962 : k0_chk962 v4976 v4979 v5629), ∀ a x, ((![v5629, v4976, v4979] : Fin 3 → IVec S16 32) a x).toNat < S16x128x16.size a := fun v4976 v4979 v5629 k0_hw962 => k0_hw962

def k0_chk963 (v4985 : IVec S16 32) (v4988 : IVec S16 32) (v5634 : IVec S16 32) : Prop :=
  (∀ a x, ((![v5634, v4985, v4988] : Fin 3 → IVec S16 32) a x).toNat < S16x128x16.size a)
theorem k0_idx963_inb : ∀ (v4985 : IVec S16 32) (v4988 : IVec S16 32) (v5634 : IVec S16 32) (k0_hw963 : k0_chk963 v4985 v4988 v5634), ∀ a x, ((![v5634, v4985, v4988] : Fin 3 → IVec S16 32) a x).toNat < S16x128x16.size a := fun v4985 v4988 v5634 k0_hw963 => k0_hw963

def k0_chk964 (v4994 : IVec S16 32) (v4997 : IVec S16 32) (v5638 : IVec S16 32) : Prop :=
  (∀ a x, ((![v5638, v4994, v4997] : Fin 3 → IVec S16 32) a x).toNat < S16x128x16.size a)
theorem k0_idx964_inb : ∀ (v4994 : IVec S16 32) (v4997 : IVec S16 32) (v5638 : IVec S16 32) (k0_hw964 : k0_chk964 v4994 v4997 v5638), ∀ a x, ((![v5638, v4994, v4997] : Fin 3 → IVec S16 32) a x).toNat < S16x128x16.size a := fun v4994 v4997 v5638 k0_hw964 => k0_hw964

def k0_chk965 (v5003 : IVec S16 32) (v5006 : IVec S16 32) (v5642 : IVec S16 32) : Prop :=
  (∀ a x, ((![v5642, v5003, v5006] : Fin 3 → IVec S16 32) a x).toNat < S16x128x16.size a)
theorem k0_idx965_inb : ∀ (v5003 : IVec S16 32) (v5006 : IVec S16 32) (v5642 : IVec S16 32) (k0_hw965 : k0_chk965 v5003 v5006 v5642), ∀ a x, ((![v5642, v5003, v5006] : Fin 3 → IVec S16 32) a x).toNat < S16x128x16.size a := fun v5003 v5006 v5642 k0_hw965 => k0_hw965

def k0_chk966 (v4904 : IVec S16 32) (v4907 : IVec S16 32) (v5648 : IVec S16 32) : Prop :=
  (∀ a x, ((![v5648, v4904, v4907] : Fin 3 → IVec S16 32) a x).toNat < S16x128x16.size a)
theorem k0_idx966_inb : ∀ (v4904 : IVec S16 32) (v4907 : IVec S16 32) (v5648 : IVec S16 32) (k0_hw966 : k0_chk966 v4904 v4907 v5648), ∀ a x, ((![v5648, v4904, v4907] : Fin 3 → IVec S16 32) a x).toNat < S16x128x16.size a := fun v4904 v4907 v5648 k0_hw966 => k0_hw966

def k0_chk967 (v4913 : IVec S16 32) (v4916 : IVec S16 32) (v5652 : IVec S16 32) : Prop :=
  (∀ a x, ((![v5652, v4913, v4916] : Fin 3 → IVec S16 32) a x).toNat < S16x128x16.size a)
theorem k0_idx967_inb : ∀ (v4913 : IVec S16 32) (v4916 : IVec S16 32) (v5652 : IVec S16 32) (k0_hw967 : k0_chk967 v4913 v4916 v5652), ∀ a x, ((![v5652, v4913, v4916] : Fin 3 → IVec S16 32) a x).toNat < S16x128x16.size a := fun v4913 v4916 v5652 k0_hw967 => k0_hw967

def k0_chk968 (v4922 : IVec S16 32) (v4925 : IVec S16 32) (v5656 : IVec S16 32) : Prop :=
  (∀ a x, ((![v5656, v4922, v4925] : Fin 3 → IVec S16 32) a x).toNat < S16x128x16.size a)
theorem k0_idx968_inb : ∀ (v4922 : IVec S16 32) (v4925 : IVec S16 32) (v5656 : IVec S16 32) (k0_hw968 : k0_chk968 v4922 v4925 v5656), ∀ a x, ((![v5656, v4922, v4925] : Fin 3 → IVec S16 32) a x).toNat < S16x128x16.size a := fun v4922 v4925 v5656 k0_hw968 => k0_hw968

def k0_chk969 (v4931 : IVec S16 32) (v4934 : IVec S16 32) (v5661 : IVec S16 32) : Prop :=
  (∀ a x, ((![v5661, v4931, v4934] : Fin 3 → IVec S16 32) a x).toNat < S16x128x16.size a)
theorem k0_idx969_inb : ∀ (v4931 : IVec S16 32) (v4934 : IVec S16 32) (v5661 : IVec S16 32) (k0_hw969 : k0_chk969 v4931 v4934 v5661), ∀ a x, ((![v5661, v4931, v4934] : Fin 3 → IVec S16 32) a x).toNat < S16x128x16.size a := fun v4931 v4934 v5661 k0_hw969 => k0_hw969

def k0_chk970 (v4940 : IVec S16 32) (v4943 : IVec S16 32) (v5665 : IVec S16 32) : Prop :=
  (∀ a x, ((![v5665, v4940, v4943] : Fin 3 → IVec S16 32) a x).toNat < S16x128x16.size a)
theorem k0_idx970_inb : ∀ (v4940 : IVec S16 32) (v4943 : IVec S16 32) (v5665 : IVec S16 32) (k0_hw970 : k0_chk970 v4940 v4943 v5665), ∀ a x, ((![v5665, v4940, v4943] : Fin 3 → IVec S16 32) a x).toNat < S16x128x16.size a := fun v4940 v4943 v5665 k0_hw970 => k0_hw970

def k0_chk971 (v4949 : IVec S16 32) (v4952 : IVec S16 32) (v5669 : IVec S16 32) : Prop :=
  (∀ a x, ((![v5669, v4949, v4952] : Fin 3 → IVec S16 32) a x).toNat < S16x128x16.size a)
theorem k0_idx971_inb : ∀ (v4949 : IVec S16 32) (v4952 : IVec S16 32) (v5669 : IVec S16 32) (k0_hw971 : k0_chk971 v4949 v4952 v5669), ∀ a x, ((![v5669, v4949, v4952] : Fin 3 → IVec S16 32) a x).toNat < S16x128x16.size a := fun v4949 v4952 v5669 k0_hw971 => k0_hw971

def k0_chk972 (v4958 : IVec S16 32) (v4961 : IVec S16 32) (v5674 : IVec S16 32) : Prop :=
  (∀ a x, ((![v5674, v4958, v4961] : Fin 3 → IVec S16 32) a x).toNat < S16x128x16.size a)
theorem k0_idx972_inb : ∀ (v4958 : IVec S16 32) (v4961 : IVec S16 32) (v5674 : IVec S16 32) (k0_hw972 : k0_chk972 v4958 v4961 v5674), ∀ a x, ((![v5674, v4958, v4961] : Fin 3 → IVec S16 32) a x).toNat < S16x128x16.size a := fun v4958 v4961 v5674 k0_hw972 => k0_hw972

def k0_chk973 (v4967 : IVec S16 32) (v4970 : IVec S16 32) (v5678 : IVec S16 32) : Prop :=
  (∀ a x, ((![v5678, v4967, v4970] : Fin 3 → IVec S16 32) a x).toNat < S16x128x16.size a)
theorem k0_idx973_inb : ∀ (v4967 : IVec S16 32) (v4970 : IVec S16 32) (v5678 : IVec S16 32) (k0_hw973 : k0_chk973 v4967 v4970 v5678), ∀ a x, ((![v5678, v4967, v4970] : Fin 3 → IVec S16 32) a x).toNat < S16x128x16.size a := fun v4967 v4970 v5678 k0_hw973 => k0_hw973

def k0_chk974 (v4976 : IVec S16 32) (v4979 : IVec S16 32) (v5682 : IVec S16 32) : Prop :=
  (∀ a x, ((![v5682, v4976, v4979] : Fin 3 → IVec S16 32) a x).toNat < S16x128x16.size a)
theorem k0_idx974_inb : ∀ (v4976 : IVec S16 32) (v4979 : IVec S16 32) (v5682 : IVec S16 32) (k0_hw974 : k0_chk974 v4976 v4979 v5682), ∀ a x, ((![v5682, v4976, v4979] : Fin 3 → IVec S16 32) a x).toNat < S16x128x16.size a := fun v4976 v4979 v5682 k0_hw974 => k0_hw974

def k0_chk975 (v4985 : IVec S16 32) (v4988 : IVec S16 32) (v5687 : IVec S16 32) : Prop :=
  (∀ a x, ((![v5687, v4985, v4988] : Fin 3 → IVec S16 32) a x).toNat < S16x128x16.size a)
theorem k0_idx975_inb : ∀ (v4985 : IVec S16 32) (v4988 : IVec S16 32) (v5687 : IVec S16 32) (k0_hw975 : k0_chk975 v4985 v4988 v5687), ∀ a x, ((![v5687, v4985, v4988] : Fin 3 → IVec S16 32) a x).toNat < S16x128x16.size a := fun v4985 v4988 v5687 k0_hw975 => k0_hw975

def k0_chk976 (v4994 : IVec S16 32) (v4997 : IVec S16 32) (v5691 : IVec S16 32) : Prop :=
  (∀ a x, ((![v5691, v4994, v4997] : Fin 3 → IVec S16 32) a x).toNat < S16x128x16.size a)
theorem k0_idx976_inb : ∀ (v4994 : IVec S16 32) (v4997 : IVec S16 32) (v5691 : IVec S16 32) (k0_hw976 : k0_chk976 v4994 v4997 v5691), ∀ a x, ((![v5691, v4994, v4997] : Fin 3 → IVec S16 32) a x).toNat < S16x128x16.size a := fun v4994 v4997 v5691 k0_hw976 => k0_hw976

def k0_chk977 (v5003 : IVec S16 32) (v5006 : IVec S16 32) (v5695 : IVec S16 32) : Prop :=
  (∀ a x, ((![v5695, v5003, v5006] : Fin 3 → IVec S16 32) a x).toNat < S16x128x16.size a)
theorem k0_idx977_inb : ∀ (v5003 : IVec S16 32) (v5006 : IVec S16 32) (v5695 : IVec S16 32) (k0_hw977 : k0_chk977 v5003 v5006 v5695), ∀ a x, ((![v5695, v5003, v5006] : Fin 3 → IVec S16 32) a x).toNat < S16x128x16.size a := fun v5003 v5006 v5695 k0_hw977 => k0_hw977

def k0_chk978 (v4904 : IVec S16 32) (v4907 : IVec S16 32) (v5701 : IVec S16 32) : Prop :=
  (∀ a x, ((![v5701, v4904, v4907] : Fin 3 → IVec S16 32) a x).toNat < S16x128x16.size a)
theorem k0_idx978_inb : ∀ (v4904 : IVec S16 32) (v4907 : IVec S16 32) (v5701 : IVec S16 32) (k0_hw978 : k0_chk978 v4904 v4907 v5701), ∀ a x, ((![v5701, v4904, v4907] : Fin 3 → IVec S16 32) a x).toNat < S16x128x16.size a := fun v4904 v4907 v5701 k0_hw978 => k0_hw978

def k0_chk979 (v4913 : IVec S16 32) (v4916 : IVec S16 32) (v5705 : IVec S16 32) : Prop :=
  (∀ a x, ((![v5705, v4913, v4916] : Fin 3 → IVec S16 32) a x).toNat < S16x128x16.size a)
theorem k0_idx979_inb : ∀ (v4913 : IVec S16 32) (v4916 : IVec S16 32) (v5705 : IVec S16 32) (k0_hw979 : k0_chk979 v4913 v4916 v5705), ∀ a x, ((![v5705, v4913, v4916] : Fin 3 → IVec S16 32) a x).toNat < S16x128x16.size a := fun v4913 v4916 v5705 k0_hw979 => k0_hw979

def k0_chk980 (v4922 : IVec S16 32) (v4925 : IVec S16 32) (v5709 : IVec S16 32) : Prop :=
  (∀ a x, ((![v5709, v4922, v4925] : Fin 3 → IVec S16 32) a x).toNat < S16x128x16.size a)
theorem k0_idx980_inb : ∀ (v4922 : IVec S16 32) (v4925 : IVec S16 32) (v5709 : IVec S16 32) (k0_hw980 : k0_chk980 v4922 v4925 v5709), ∀ a x, ((![v5709, v4922, v4925] : Fin 3 → IVec S16 32) a x).toNat < S16x128x16.size a := fun v4922 v4925 v5709 k0_hw980 => k0_hw980

def k0_chk981 (v4931 : IVec S16 32) (v4934 : IVec S16 32) (v5714 : IVec S16 32) : Prop :=
  (∀ a x, ((![v5714, v4931, v4934] : Fin 3 → IVec S16 32) a x).toNat < S16x128x16.size a)
theorem k0_idx981_inb : ∀ (v4931 : IVec S16 32) (v4934 : IVec S16 32) (v5714 : IVec S16 32) (k0_hw981 : k0_chk981 v4931 v4934 v5714), ∀ a x, ((![v5714, v4931, v4934] : Fin 3 → IVec S16 32) a x).toNat < S16x128x16.size a := fun v4931 v4934 v5714 k0_hw981 => k0_hw981

def k0_chk982 (v4940 : IVec S16 32) (v4943 : IVec S16 32) (v5718 : IVec S16 32) : Prop :=
  (∀ a x, ((![v5718, v4940, v4943] : Fin 3 → IVec S16 32) a x).toNat < S16x128x16.size a)
theorem k0_idx982_inb : ∀ (v4940 : IVec S16 32) (v4943 : IVec S16 32) (v5718 : IVec S16 32) (k0_hw982 : k0_chk982 v4940 v4943 v5718), ∀ a x, ((![v5718, v4940, v4943] : Fin 3 → IVec S16 32) a x).toNat < S16x128x16.size a := fun v4940 v4943 v5718 k0_hw982 => k0_hw982

def k0_chk983 (v4949 : IVec S16 32) (v4952 : IVec S16 32) (v5722 : IVec S16 32) : Prop :=
  (∀ a x, ((![v5722, v4949, v4952] : Fin 3 → IVec S16 32) a x).toNat < S16x128x16.size a)
theorem k0_idx983_inb : ∀ (v4949 : IVec S16 32) (v4952 : IVec S16 32) (v5722 : IVec S16 32) (k0_hw983 : k0_chk983 v4949 v4952 v5722), ∀ a x, ((![v5722, v4949, v4952] : Fin 3 → IVec S16 32) a x).toNat < S16x128x16.size a := fun v4949 v4952 v5722 k0_hw983 => k0_hw983

def k0_chk984 (v4958 : IVec S16 32) (v4961 : IVec S16 32) (v5727 : IVec S16 32) : Prop :=
  (∀ a x, ((![v5727, v4958, v4961] : Fin 3 → IVec S16 32) a x).toNat < S16x128x16.size a)
theorem k0_idx984_inb : ∀ (v4958 : IVec S16 32) (v4961 : IVec S16 32) (v5727 : IVec S16 32) (k0_hw984 : k0_chk984 v4958 v4961 v5727), ∀ a x, ((![v5727, v4958, v4961] : Fin 3 → IVec S16 32) a x).toNat < S16x128x16.size a := fun v4958 v4961 v5727 k0_hw984 => k0_hw984

def k0_chk985 (v4967 : IVec S16 32) (v4970 : IVec S16 32) (v5731 : IVec S16 32) : Prop :=
  (∀ a x, ((![v5731, v4967, v4970] : Fin 3 → IVec S16 32) a x).toNat < S16x128x16.size a)
theorem k0_idx985_inb : ∀ (v4967 : IVec S16 32) (v4970 : IVec S16 32) (v5731 : IVec S16 32) (k0_hw985 : k0_chk985 v4967 v4970 v5731), ∀ a x, ((![v5731, v4967, v4970] : Fin 3 → IVec S16 32) a x).toNat < S16x128x16.size a := fun v4967 v4970 v5731 k0_hw985 => k0_hw985

def k0_chk986 (v4976 : IVec S16 32) (v4979 : IVec S16 32) (v5735 : IVec S16 32) : Prop :=
  (∀ a x, ((![v5735, v4976, v4979] : Fin 3 → IVec S16 32) a x).toNat < S16x128x16.size a)
theorem k0_idx986_inb : ∀ (v4976 : IVec S16 32) (v4979 : IVec S16 32) (v5735 : IVec S16 32) (k0_hw986 : k0_chk986 v4976 v4979 v5735), ∀ a x, ((![v5735, v4976, v4979] : Fin 3 → IVec S16 32) a x).toNat < S16x128x16.size a := fun v4976 v4979 v5735 k0_hw986 => k0_hw986

def k0_chk987 (v4985 : IVec S16 32) (v4988 : IVec S16 32) (v5740 : IVec S16 32) : Prop :=
  (∀ a x, ((![v5740, v4985, v4988] : Fin 3 → IVec S16 32) a x).toNat < S16x128x16.size a)
theorem k0_idx987_inb : ∀ (v4985 : IVec S16 32) (v4988 : IVec S16 32) (v5740 : IVec S16 32) (k0_hw987 : k0_chk987 v4985 v4988 v5740), ∀ a x, ((![v5740, v4985, v4988] : Fin 3 → IVec S16 32) a x).toNat < S16x128x16.size a := fun v4985 v4988 v5740 k0_hw987 => k0_hw987

def k0_chk988 (v4994 : IVec S16 32) (v4997 : IVec S16 32) (v5744 : IVec S16 32) : Prop :=
  (∀ a x, ((![v5744, v4994, v4997] : Fin 3 → IVec S16 32) a x).toNat < S16x128x16.size a)
theorem k0_idx988_inb : ∀ (v4994 : IVec S16 32) (v4997 : IVec S16 32) (v5744 : IVec S16 32) (k0_hw988 : k0_chk988 v4994 v4997 v5744), ∀ a x, ((![v5744, v4994, v4997] : Fin 3 → IVec S16 32) a x).toNat < S16x128x16.size a := fun v4994 v4997 v5744 k0_hw988 => k0_hw988

def k0_chk989 (v5003 : IVec S16 32) (v5006 : IVec S16 32) (v5748 : IVec S16 32) : Prop :=
  (∀ a x, ((![v5748, v5003, v5006] : Fin 3 → IVec S16 32) a x).toNat < S16x128x16.size a)
theorem k0_idx989_inb : ∀ (v5003 : IVec S16 32) (v5006 : IVec S16 32) (v5748 : IVec S16 32) (k0_hw989 : k0_chk989 v5003 v5006 v5748), ∀ a x, ((![v5748, v5003, v5006] : Fin 3 → IVec S16 32) a x).toNat < S16x128x16.size a := fun v5003 v5006 v5748 k0_hw989 => k0_hw989

def k0_chk990 (v4904 : IVec S16 32) (v4907 : IVec S16 32) (v5754 : IVec S16 32) : Prop :=
  (∀ a x, ((![v5754, v4904, v4907] : Fin 3 → IVec S16 32) a x).toNat < S16x128x16.size a)
theorem k0_idx990_inb : ∀ (v4904 : IVec S16 32) (v4907 : IVec S16 32) (v5754 : IVec S16 32) (k0_hw990 : k0_chk990 v4904 v4907 v5754), ∀ a x, ((![v5754, v4904, v4907] : Fin 3 → IVec S16 32) a x).toNat < S16x128x16.size a := fun v4904 v4907 v5754 k0_hw990 => k0_hw990

def k0_chk991 (v4913 : IVec S16 32) (v4916 : IVec S16 32) (v5758 : IVec S16 32) : Prop :=
  (∀ a x, ((![v5758, v4913, v4916] : Fin 3 → IVec S16 32) a x).toNat < S16x128x16.size a)
theorem k0_idx991_inb : ∀ (v4913 : IVec S16 32) (v4916 : IVec S16 32) (v5758 : IVec S16 32) (k0_hw991 : k0_chk991 v4913 v4916 v5758), ∀ a x, ((![v5758, v4913, v4916] : Fin 3 → IVec S16 32) a x).toNat < S16x128x16.size a := fun v4913 v4916 v5758 k0_hw991 => k0_hw991

def k0_chk992 (v4922 : IVec S16 32) (v4925 : IVec S16 32) (v5762 : IVec S16 32) : Prop :=
  (∀ a x, ((![v5762, v4922, v4925] : Fin 3 → IVec S16 32) a x).toNat < S16x128x16.size a)
theorem k0_idx992_inb : ∀ (v4922 : IVec S16 32) (v4925 : IVec S16 32) (v5762 : IVec S16 32) (k0_hw992 : k0_chk992 v4922 v4925 v5762), ∀ a x, ((![v5762, v4922, v4925] : Fin 3 → IVec S16 32) a x).toNat < S16x128x16.size a := fun v4922 v4925 v5762 k0_hw992 => k0_hw992

def k0_chk993 (v4931 : IVec S16 32) (v4934 : IVec S16 32) (v5767 : IVec S16 32) : Prop :=
  (∀ a x, ((![v5767, v4931, v4934] : Fin 3 → IVec S16 32) a x).toNat < S16x128x16.size a)
theorem k0_idx993_inb : ∀ (v4931 : IVec S16 32) (v4934 : IVec S16 32) (v5767 : IVec S16 32) (k0_hw993 : k0_chk993 v4931 v4934 v5767), ∀ a x, ((![v5767, v4931, v4934] : Fin 3 → IVec S16 32) a x).toNat < S16x128x16.size a := fun v4931 v4934 v5767 k0_hw993 => k0_hw993

def k0_chk994 (v4940 : IVec S16 32) (v4943 : IVec S16 32) (v5771 : IVec S16 32) : Prop :=
  (∀ a x, ((![v5771, v4940, v4943] : Fin 3 → IVec S16 32) a x).toNat < S16x128x16.size a)
theorem k0_idx994_inb : ∀ (v4940 : IVec S16 32) (v4943 : IVec S16 32) (v5771 : IVec S16 32) (k0_hw994 : k0_chk994 v4940 v4943 v5771), ∀ a x, ((![v5771, v4940, v4943] : Fin 3 → IVec S16 32) a x).toNat < S16x128x16.size a := fun v4940 v4943 v5771 k0_hw994 => k0_hw994

def k0_chk995 (v4949 : IVec S16 32) (v4952 : IVec S16 32) (v5775 : IVec S16 32) : Prop :=
  (∀ a x, ((![v5775, v4949, v4952] : Fin 3 → IVec S16 32) a x).toNat < S16x128x16.size a)
theorem k0_idx995_inb : ∀ (v4949 : IVec S16 32) (v4952 : IVec S16 32) (v5775 : IVec S16 32) (k0_hw995 : k0_chk995 v4949 v4952 v5775), ∀ a x, ((![v5775, v4949, v4952] : Fin 3 → IVec S16 32) a x).toNat < S16x128x16.size a := fun v4949 v4952 v5775 k0_hw995 => k0_hw995

def k0_chk996 (v4958 : IVec S16 32) (v4961 : IVec S16 32) (v5780 : IVec S16 32) : Prop :=
  (∀ a x, ((![v5780, v4958, v4961] : Fin 3 → IVec S16 32) a x).toNat < S16x128x16.size a)
theorem k0_idx996_inb : ∀ (v4958 : IVec S16 32) (v4961 : IVec S16 32) (v5780 : IVec S16 32) (k0_hw996 : k0_chk996 v4958 v4961 v5780), ∀ a x, ((![v5780, v4958, v4961] : Fin 3 → IVec S16 32) a x).toNat < S16x128x16.size a := fun v4958 v4961 v5780 k0_hw996 => k0_hw996

def k0_chk997 (v4967 : IVec S16 32) (v4970 : IVec S16 32) (v5784 : IVec S16 32) : Prop :=
  (∀ a x, ((![v5784, v4967, v4970] : Fin 3 → IVec S16 32) a x).toNat < S16x128x16.size a)
theorem k0_idx997_inb : ∀ (v4967 : IVec S16 32) (v4970 : IVec S16 32) (v5784 : IVec S16 32) (k0_hw997 : k0_chk997 v4967 v4970 v5784), ∀ a x, ((![v5784, v4967, v4970] : Fin 3 → IVec S16 32) a x).toNat < S16x128x16.size a := fun v4967 v4970 v5784 k0_hw997 => k0_hw997

def k0_chk998 (v4976 : IVec S16 32) (v4979 : IVec S16 32) (v5788 : IVec S16 32) : Prop :=
  (∀ a x, ((![v5788, v4976, v4979] : Fin 3 → IVec S16 32) a x).toNat < S16x128x16.size a)
theorem k0_idx998_inb : ∀ (v4976 : IVec S16 32) (v4979 : IVec S16 32) (v5788 : IVec S16 32) (k0_hw998 : k0_chk998 v4976 v4979 v5788), ∀ a x, ((![v5788, v4976, v4979] : Fin 3 → IVec S16 32) a x).toNat < S16x128x16.size a := fun v4976 v4979 v5788 k0_hw998 => k0_hw998

def k0_chk999 (v4985 : IVec S16 32) (v4988 : IVec S16 32) (v5793 : IVec S16 32) : Prop :=
  (∀ a x, ((![v5793, v4985, v4988] : Fin 3 → IVec S16 32) a x).toNat < S16x128x16.size a)
theorem k0_idx999_inb : ∀ (v4985 : IVec S16 32) (v4988 : IVec S16 32) (v5793 : IVec S16 32) (k0_hw999 : k0_chk999 v4985 v4988 v5793), ∀ a x, ((![v5793, v4985, v4988] : Fin 3 → IVec S16 32) a x).toNat < S16x128x16.size a := fun v4985 v4988 v5793 k0_hw999 => k0_hw999

def k0_chk1000 (v4994 : IVec S16 32) (v4997 : IVec S16 32) (v5797 : IVec S16 32) : Prop :=
  (∀ a x, ((![v5797, v4994, v4997] : Fin 3 → IVec S16 32) a x).toNat < S16x128x16.size a)
theorem k0_idx1000_inb : ∀ (v4994 : IVec S16 32) (v4997 : IVec S16 32) (v5797 : IVec S16 32) (k0_hw1000 : k0_chk1000 v4994 v4997 v5797), ∀ a x, ((![v5797, v4994, v4997] : Fin 3 → IVec S16 32) a x).toNat < S16x128x16.size a := fun v4994 v4997 v5797 k0_hw1000 => k0_hw1000

def k0_chk1001 (v5003 : IVec S16 32) (v5006 : IVec S16 32) (v5801 : IVec S16 32) : Prop :=
  (∀ a x, ((![v5801, v5003, v5006] : Fin 3 → IVec S16 32) a x).toNat < S16x128x16.size a)
theorem k0_idx1001_inb : ∀ (v5003 : IVec S16 32) (v5006 : IVec S16 32) (v5801 : IVec S16 32) (k0_hw1001 : k0_chk1001 v5003 v5006 v5801), ∀ a x, ((![v5801, v5003, v5006] : Fin 3 → IVec S16 32) a x).toNat < S16x128x16.size a := fun v5003 v5006 v5801 k0_hw1001 => k0_hw1001

def k0_chk1002 (v4904 : IVec S16 32) (v4907 : IVec S16 32) (v5807 : IVec S16 32) : Prop :=
  (∀ a x, ((![v5807, v4904, v4907] : Fin 3 → IVec S16 32) a x).toNat < S16x128x16.size a)
theorem k0_idx1002_inb : ∀ (v4904 : IVec S16 32) (v4907 : IVec S16 32) (v5807 : IVec S16 32) (k0_hw1002 : k0_chk1002 v4904 v4907 v5807), ∀ a x, ((![v5807, v4904, v4907] : Fin 3 → IVec S16 32) a x).toNat < S16x128x16.size a := fun v4904 v4907 v5807 k0_hw1002 => k0_hw1002

def k0_chk1003 (v4913 : IVec S16 32) (v4916 : IVec S16 32) (v5811 : IVec S16 32) : Prop :=
  (∀ a x, ((![v5811, v4913, v4916] : Fin 3 → IVec S16 32) a x).toNat < S16x128x16.size a)
theorem k0_idx1003_inb : ∀ (v4913 : IVec S16 32) (v4916 : IVec S16 32) (v5811 : IVec S16 32) (k0_hw1003 : k0_chk1003 v4913 v4916 v5811), ∀ a x, ((![v5811, v4913, v4916] : Fin 3 → IVec S16 32) a x).toNat < S16x128x16.size a := fun v4913 v4916 v5811 k0_hw1003 => k0_hw1003

def k0_chk1004 (v4922 : IVec S16 32) (v4925 : IVec S16 32) (v5815 : IVec S16 32) : Prop :=
  (∀ a x, ((![v5815, v4922, v4925] : Fin 3 → IVec S16 32) a x).toNat < S16x128x16.size a)
theorem k0_idx1004_inb : ∀ (v4922 : IVec S16 32) (v4925 : IVec S16 32) (v5815 : IVec S16 32) (k0_hw1004 : k0_chk1004 v4922 v4925 v5815), ∀ a x, ((![v5815, v4922, v4925] : Fin 3 → IVec S16 32) a x).toNat < S16x128x16.size a := fun v4922 v4925 v5815 k0_hw1004 => k0_hw1004

def k0_chk1005 (v4931 : IVec S16 32) (v4934 : IVec S16 32) (v5820 : IVec S16 32) : Prop :=
  (∀ a x, ((![v5820, v4931, v4934] : Fin 3 → IVec S16 32) a x).toNat < S16x128x16.size a)
theorem k0_idx1005_inb : ∀ (v4931 : IVec S16 32) (v4934 : IVec S16 32) (v5820 : IVec S16 32) (k0_hw1005 : k0_chk1005 v4931 v4934 v5820), ∀ a x, ((![v5820, v4931, v4934] : Fin 3 → IVec S16 32) a x).toNat < S16x128x16.size a := fun v4931 v4934 v5820 k0_hw1005 => k0_hw1005

def k0_chk1006 (v4940 : IVec S16 32) (v4943 : IVec S16 32) (v5824 : IVec S16 32) : Prop :=
  (∀ a x, ((![v5824, v4940, v4943] : Fin 3 → IVec S16 32) a x).toNat < S16x128x16.size a)
theorem k0_idx1006_inb : ∀ (v4940 : IVec S16 32) (v4943 : IVec S16 32) (v5824 : IVec S16 32) (k0_hw1006 : k0_chk1006 v4940 v4943 v5824), ∀ a x, ((![v5824, v4940, v4943] : Fin 3 → IVec S16 32) a x).toNat < S16x128x16.size a := fun v4940 v4943 v5824 k0_hw1006 => k0_hw1006

def k0_chk1007 (v4949 : IVec S16 32) (v4952 : IVec S16 32) (v5828 : IVec S16 32) : Prop :=
  (∀ a x, ((![v5828, v4949, v4952] : Fin 3 → IVec S16 32) a x).toNat < S16x128x16.size a)
theorem k0_idx1007_inb : ∀ (v4949 : IVec S16 32) (v4952 : IVec S16 32) (v5828 : IVec S16 32) (k0_hw1007 : k0_chk1007 v4949 v4952 v5828), ∀ a x, ((![v5828, v4949, v4952] : Fin 3 → IVec S16 32) a x).toNat < S16x128x16.size a := fun v4949 v4952 v5828 k0_hw1007 => k0_hw1007

def k0_chk1008 (v4958 : IVec S16 32) (v4961 : IVec S16 32) (v5833 : IVec S16 32) : Prop :=
  (∀ a x, ((![v5833, v4958, v4961] : Fin 3 → IVec S16 32) a x).toNat < S16x128x16.size a)
theorem k0_idx1008_inb : ∀ (v4958 : IVec S16 32) (v4961 : IVec S16 32) (v5833 : IVec S16 32) (k0_hw1008 : k0_chk1008 v4958 v4961 v5833), ∀ a x, ((![v5833, v4958, v4961] : Fin 3 → IVec S16 32) a x).toNat < S16x128x16.size a := fun v4958 v4961 v5833 k0_hw1008 => k0_hw1008

def k0_chk1009 (v4967 : IVec S16 32) (v4970 : IVec S16 32) (v5837 : IVec S16 32) : Prop :=
  (∀ a x, ((![v5837, v4967, v4970] : Fin 3 → IVec S16 32) a x).toNat < S16x128x16.size a)
theorem k0_idx1009_inb : ∀ (v4967 : IVec S16 32) (v4970 : IVec S16 32) (v5837 : IVec S16 32) (k0_hw1009 : k0_chk1009 v4967 v4970 v5837), ∀ a x, ((![v5837, v4967, v4970] : Fin 3 → IVec S16 32) a x).toNat < S16x128x16.size a := fun v4967 v4970 v5837 k0_hw1009 => k0_hw1009

def k0_chk1010 (v4976 : IVec S16 32) (v4979 : IVec S16 32) (v5841 : IVec S16 32) : Prop :=
  (∀ a x, ((![v5841, v4976, v4979] : Fin 3 → IVec S16 32) a x).toNat < S16x128x16.size a)
theorem k0_idx1010_inb : ∀ (v4976 : IVec S16 32) (v4979 : IVec S16 32) (v5841 : IVec S16 32) (k0_hw1010 : k0_chk1010 v4976 v4979 v5841), ∀ a x, ((![v5841, v4976, v4979] : Fin 3 → IVec S16 32) a x).toNat < S16x128x16.size a := fun v4976 v4979 v5841 k0_hw1010 => k0_hw1010

def k0_chk1011 (v4985 : IVec S16 32) (v4988 : IVec S16 32) (v5846 : IVec S16 32) : Prop :=
  (∀ a x, ((![v5846, v4985, v4988] : Fin 3 → IVec S16 32) a x).toNat < S16x128x16.size a)
theorem k0_idx1011_inb : ∀ (v4985 : IVec S16 32) (v4988 : IVec S16 32) (v5846 : IVec S16 32) (k0_hw1011 : k0_chk1011 v4985 v4988 v5846), ∀ a x, ((![v5846, v4985, v4988] : Fin 3 → IVec S16 32) a x).toNat < S16x128x16.size a := fun v4985 v4988 v5846 k0_hw1011 => k0_hw1011

def k0_chk1012 (v4994 : IVec S16 32) (v4997 : IVec S16 32) (v5850 : IVec S16 32) : Prop :=
  (∀ a x, ((![v5850, v4994, v4997] : Fin 3 → IVec S16 32) a x).toNat < S16x128x16.size a)
theorem k0_idx1012_inb : ∀ (v4994 : IVec S16 32) (v4997 : IVec S16 32) (v5850 : IVec S16 32) (k0_hw1012 : k0_chk1012 v4994 v4997 v5850), ∀ a x, ((![v5850, v4994, v4997] : Fin 3 → IVec S16 32) a x).toNat < S16x128x16.size a := fun v4994 v4997 v5850 k0_hw1012 => k0_hw1012

def k0_chk1013 (v5003 : IVec S16 32) (v5006 : IVec S16 32) (v5854 : IVec S16 32) : Prop :=
  (∀ a x, ((![v5854, v5003, v5006] : Fin 3 → IVec S16 32) a x).toNat < S16x128x16.size a)
theorem k0_idx1013_inb : ∀ (v5003 : IVec S16 32) (v5006 : IVec S16 32) (v5854 : IVec S16 32) (k0_hw1013 : k0_chk1013 v5003 v5006 v5854), ∀ a x, ((![v5854, v5003, v5006] : Fin 3 → IVec S16 32) a x).toNat < S16x128x16.size a := fun v5003 v5006 v5854 k0_hw1013 => k0_hw1013

def k0_chk1014 (v4871 : IVec S16 32) (v5858 : IVec S16 32) : Prop :=
  (∀ a x, ((![v4871, v5858] : Fin 2 → IVec S16 32) a x).toNat < S64x3.size a)
theorem k0_idx1014_inb : ∀ (v4871 : IVec S16 32) (v5858 : IVec S16 32) (k0_hw1014 : k0_chk1014 v4871 v5858), ∀ a x, ((![v4871, v5858] : Fin 2 → IVec S16 32) a x).toNat < S64x3.size a := fun v4871 v5858 k0_hw1014 => k0_hw1014

def k0_chk1015 (v4871 : IVec S16 32) (v5859 : IVec S16 32) : Prop :=
  (∀ a x, ((![v4871, v5859] : Fin 2 → IVec S16 32) a x).toNat < S64x3.size a)
theorem k0_idx1015_inb : ∀ (v4871 : IVec S16 32) (v5859 : IVec S16 32) (k0_hw1015 : k0_chk1015 v4871 v5859), ∀ a x, ((![v4871, v5859] : Fin 2 → IVec S16 32) a x).toNat < S64x3.size a := fun v4871 v5859 k0_hw1015 => k0_hw1015

def k0_chk1016 (v4871 : IVec S16 32) (v5860 : IVec S16 32) : Prop :=
  (∀ a x, ((![v4871, v5860] : Fin 2 → IVec S16 32) a x).toNat < S64x3.size a)
theorem k0_idx1016_inb : ∀ (v4871 : IVec S16 32) (v5860 : IVec S16 32) (k0_hw1016 : k0_chk1016 v4871 v5860), ∀ a x, ((![v4871, v5860] : Fin 2 → IVec S16 32) a x).toNat < S64x3.size a := fun v4871 v5860 k0_hw1016 => k0_hw1016
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_2 : BitVec 32 := 0#32
  let c0_i32 : BitVec 32 := 0#32
  let c1_i32 : BitVec 32 := 1#32
  let arg18 : BitVec 32 := Scf.iv c0_i32 c1_i32 k0_t1
  let c1_i32_1 : BitVec 32 := 1#32
  let v5 : BitVec 32 := Scalar.muli arg18 c1_i32_1
  let v6 : BitVec 32 := Scalar.addi c0_i32_2 v5
  let c64_i32_3 : BitVec 32 := 64#32
  let v7 : BitVec 32 := Scalar.muli v6 c64_i32_3
  let v8 : BitVec 32 := Scalar.addi v2 v7
  let c0_i32_1929_r4 : BitVec 32 := 0#32
  ![v8.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S131072x3 : Shape := ⟨2, ![131072, 3]⟩
abbrev S2097152x3 : Shape := ⟨2, ![2097152, 3]⟩
abbrev S132 : Shape := ⟨1, ![132]⟩
abbrev S131072x1 : Shape := ⟨2, ![131072, 1]⟩
abbrev S131072 : Shape := ⟨1, ![131072]⟩
abbrev S1 : Shape := ⟨1, ![1]⟩
abbrev S_ : Shape := ⟨0, ![]⟩
abbrev S1x132 : Shape := ⟨2, ![1, 132]⟩
abbrev S131072x132 : Shape := ⟨2, ![131072, 132]⟩
abbrev S4 : Shape := ⟨1, ![4]⟩
abbrev S1x4 : Shape := ⟨2, ![1, 4]⟩
abbrev S131072x4 : Shape := ⟨2, ![131072, 4]⟩
abbrev S4x4 : Shape := ⟨2, ![4, 4]⟩
abbrev S131072x4x1x1 : Shape := ⟨4, ![131072, 4, 1, 1]⟩
abbrev S131072x1x4x1 : Shape := ⟨4, ![131072, 1, 4, 1]⟩
abbrev S131072x4x4x1 : Shape := ⟨4, ![131072, 4, 4, 1]⟩
abbrev S131072x1x1x4 : Shape := ⟨4, ![131072, 1, 1, 4]⟩
abbrev S131072x4x4x4 : Shape := ⟨4, ![131072, 4, 4, 4]⟩
abbrev S131072x1x4x4 : Shape := ⟨4, ![131072, 1, 4, 4]⟩
abbrev S131072x4x4x4x1 : Shape := ⟨5, ![131072, 4, 4, 4, 1]⟩
abbrev S131072x4x4x4x3 : Shape := ⟨5, ![131072, 4, 4, 4, 3]⟩

abbrev nBuf : Space → Nat
  | .hbm => 1036
  | .vmem => 0
  | .smem => 0
  | _ => 0

abbrev hbmTy0_0 (i : Nat) : BufTy := match i % 128 with
  | 0 => ⟨S131072x3, .f32⟩
  | 1 => ⟨S2097152x3, .f32⟩
  | 2 => ⟨S132, .f32⟩
  | 3 => ⟨S132, .f32⟩
  | 4 => ⟨S132, .f32⟩
  | 5 => ⟨S131072x1, .f32⟩
  | 6 => ⟨S131072, .f32⟩
  | 7 => ⟨S1, .f32⟩
  | 8 => ⟨S_, .f32⟩
  | 9 => ⟨S1, .f32⟩
  | 10 => ⟨S_, .f32⟩
  | 11 => ⟨S131072, .f32⟩
  | 12 => ⟨S131072, .f32⟩
  | 13 => ⟨S131072, .f32⟩
  | 14 => ⟨S131072, .f32⟩
  | 15 => ⟨S1x132, .f32⟩
  | 16 => ⟨S131072x1, .f32⟩
  | 17 => ⟨S131072x132, .f32⟩
  | 18 => ⟨S131072x132, .f32⟩
  | 19 => ⟨S131072x132, .i1⟩
  | 20 => ⟨S131072x132, .i32⟩
  | 21 => ⟨S_, .i32⟩
  | 22 => ⟨S131072, .i32⟩
  | 23 => ⟨S_, .i32⟩
  | 24 => ⟨S131072, .i32⟩
  | 25 => ⟨S131072, .i32⟩
  | 26 => ⟨S_, .i32⟩
  | 27 => ⟨S_, .i32⟩
  | 28 => ⟨S_, .i32⟩
  | 29 => ⟨S131072, .i32⟩
  | 30 => ⟨S131072, .i32⟩
  | 31 => ⟨S_, .i32⟩
  | 32 => ⟨S131072, .i32⟩
  | 33 => ⟨S131072, .i32⟩
  | 34 => ⟨S131072x1, .i32⟩
  | 35 => ⟨S4, .i32⟩
  | 36 => ⟨S_, .i32⟩
  | 37 => ⟨S4, .i32⟩
  | 38 => ⟨S4, .i32⟩
  | 39 => ⟨S1x4, .i32⟩
  | 40 => ⟨S131072x4, .i32⟩
  | 41 => ⟨S131072x4, .i32⟩
  | 42 => ⟨S131072x4, .i32⟩
  | 43 => ⟨S4x4, .i32⟩
  | 44 => ⟨S4x4, .i32⟩
  | 45 => ⟨S_, .i32⟩
  | 46 => ⟨S4x4, .i32⟩
  | 47 => ⟨S4x4, .i32⟩
  | 48 => ⟨S4x4, .i1⟩
  | 49 => ⟨S4x4, .f32⟩
  | 50 => ⟨S1x4, .f32⟩
  | 51 => ⟨S4, .f32⟩
  | 52 => ⟨S1x4, .f32⟩
  | 53 => ⟨S131072x4, .f32⟩
  | 54 => ⟨S1x4, .f32⟩
  | 55 => ⟨S4, .f32⟩
  | 56 => ⟨S1x4, .f32⟩
  | 57 => ⟨S131072x4, .f32⟩
  | 58 => ⟨S1x4, .f32⟩
  | 59 => ⟨S4, .f32⟩
  | 60 => ⟨S1x4, .f32⟩
  | 61 => ⟨S131072x4, .f32⟩
  | 62 => ⟨S1x4, .f32⟩
  | 63 => ⟨S4, .f32⟩
  | 64 => ⟨S1x4, .f32⟩
  | 65 => ⟨S131072x4, .f32⟩
  | 66 => ⟨S_, .i32⟩
  | 67 => ⟨S131072, .i32⟩
  | 68 => ⟨S131072, .i32⟩
  | 69 => ⟨S_, .i32⟩
  | 70 => ⟨S131072, .i32⟩
  | 71 => ⟨S131072, .i32⟩
  | 72 => ⟨S_, .i32⟩
  | 73 => ⟨S131072, .i32⟩
  | 74 => ⟨S131072, .i1⟩
  | 75 => ⟨S_, .i32⟩
  | 76 => ⟨S131072, .i32⟩
  | 77 => ⟨S131072, .i32⟩
  | 78 => ⟨S131072, .i32⟩
  | 79 => ⟨S131072x1, .i32⟩
  | 80 => ⟨S131072, .f32⟩
  | 81 => ⟨S_, .i32⟩
  | 82 => ⟨S131072, .i32⟩
  | 83 => ⟨S131072, .i32⟩
  | 84 => ⟨S_, .i32⟩
  | 85 => ⟨S131072, .i32⟩
  | 86 => ⟨S131072, .i32⟩
  | 87 => ⟨S_, .i32⟩
  | 88 => ⟨S131072, .i32⟩
  | 89 => ⟨S131072, .i32⟩
  | 90 => ⟨S_, .i32⟩
  | 91 => ⟨S131072, .i32⟩
  | 92 => ⟨S131072, .i1⟩
  | 93 => ⟨S_, .i32⟩
  | 94 => ⟨S131072, .i32⟩
  | 95 => ⟨S131072, .i32⟩
  | 96 => ⟨S131072, .i32⟩
  | 97 => ⟨S131072x1, .i32⟩
  | 98 => ⟨S131072, .f32⟩
  | 99 => ⟨S131072, .f32⟩
  | 100 => ⟨S131072, .f32⟩
  | 101 => ⟨S131072, .f32⟩
  | 102 => ⟨S131072x1, .f32⟩
  | 103 => ⟨S_, .f32⟩
  | 104 => ⟨S131072x1, .f32⟩
  | 105 => ⟨S131072x1, .f32⟩
  | 106 => ⟨S131072x4, .f32⟩
  | 107 => ⟨S131072x4, .f32⟩
  | 108 => ⟨S131072x4, .f32⟩
  | 109 => ⟨S131072x4, .f32⟩
  | 110 => ⟨S131072x4, .f32⟩
  | 111 => ⟨S_, .i32⟩
  | 112 => ⟨S131072, .i32⟩
  | 113 => ⟨S131072, .i32⟩
  | 114 => ⟨S_, .i32⟩
  | 115 => ⟨S131072, .i32⟩
  | 116 => ⟨S131072, .i32⟩
  | 117 => ⟨S_, .i32⟩
  | 118 => ⟨S131072, .i32⟩
  | 119 => ⟨S131072, .i1⟩
  | 120 => ⟨S_, .i32⟩
  | 121 => ⟨S131072, .i32⟩
  | 122 => ⟨S131072, .i32⟩
  | 123 => ⟨S131072, .i32⟩
  | 124 => ⟨S131072x1, .i32⟩
  | 125 => ⟨S131072, .f32⟩
  | 126 => ⟨S_, .i32⟩
  | 127 => ⟨S131072, .i32⟩
  | _ => ⟨S131072x3, .f32⟩

abbrev hbmTy0_1 (i : Nat) : BufTy := match i % 128 with
  | 0 => ⟨S131072, .i32⟩
  | 1 => ⟨S_, .i32⟩
  | 2 => ⟨S131072, .i32⟩
  | 3 => ⟨S131072, .i32⟩
  | 4 => ⟨S_, .i32⟩
  | 5 => ⟨S131072, .i32⟩
  | 6 => ⟨S131072, .i32⟩
  | 7 => ⟨S_, .i32⟩
  | 8 => ⟨S131072, .i32⟩
  | 9 => ⟨S131072, .i1⟩
  | 10 => ⟨S_, .i32⟩
  | 11 => ⟨S131072, .i32⟩
  | 12 => ⟨S131072, .i32⟩
  | 13 => ⟨S131072, .i32⟩
  | 14 => ⟨S131072x1, .i32⟩
  | 15 => ⟨S131072, .f32⟩
  | 16 => ⟨S131072, .f32⟩
  | 17 => ⟨S131072, .f32⟩
  | 18 => ⟨S131072, .f32⟩
  | 19 => ⟨S131072x1, .f32⟩
  | 20 => ⟨S_, .f32⟩
  | 21 => ⟨S131072x1, .f32⟩
  | 22 => ⟨S131072x1, .f32⟩
  | 23 => ⟨S131072x4, .f32⟩
  | 24 => ⟨S131072x4, .f32⟩
  | 25 => ⟨S131072x4, .f32⟩
  | 26 => ⟨S131072x4, .f32⟩
  | 27 => ⟨S131072x4, .f32⟩
  | 28 => ⟨S_, .i32⟩
  | 29 => ⟨S131072, .i32⟩
  | 30 => ⟨S131072, .i32⟩
  | 31 => ⟨S_, .i32⟩
  | 32 => ⟨S131072, .i32⟩
  | 33 => ⟨S131072, .i32⟩
  | 34 => ⟨S_, .i32⟩
  | 35 => ⟨S131072, .i32⟩
  | 36 => ⟨S131072, .i1⟩
  | 37 => ⟨S_, .i32⟩
  | 38 => ⟨S131072, .i32⟩
  | 39 => ⟨S131072, .i32⟩
  | 40 => ⟨S131072, .i32⟩
  | 41 => ⟨S131072x1, .i32⟩
  | 42 => ⟨S131072, .f32⟩
  | 43 => ⟨S_, .i32⟩
  | 44 => ⟨S131072, .i32⟩
  | 45 => ⟨S131072, .i32⟩
  | 46 => ⟨S_, .i32⟩
  | 47 => ⟨S131072, .i32⟩
  | 48 => ⟨S131072, .i32⟩
  | 49 => ⟨S_, .i32⟩
  | 50 => ⟨S131072, .i32⟩
  | 51 => ⟨S131072, .i32⟩
  | 52 => ⟨S_, .i32⟩
  | 53 => ⟨S131072, .i32⟩
  | 54 => ⟨S131072, .i1⟩
  | 55 => ⟨S_, .i32⟩
  | 56 => ⟨S131072, .i32⟩
  | 57 => ⟨S131072, .i32⟩
  | 58 => ⟨S131072, .i32⟩
  | 59 => ⟨S131072x1, .i32⟩
  | 60 => ⟨S131072, .f32⟩
  | 61 => ⟨S131072, .f32⟩
  | 62 => ⟨S131072, .f32⟩
  | 63 => ⟨S131072, .f32⟩
  | 64 => ⟨S131072x1, .f32⟩
  | 65 => ⟨S_, .f32⟩
  | 66 => ⟨S131072x1, .f32⟩
  | 67 => ⟨S131072x1, .f32⟩
  | 68 => ⟨S131072x4, .f32⟩
  | 69 => ⟨S131072x4, .f32⟩
  | 70 => ⟨S131072x4, .f32⟩
  | 71 => ⟨S131072x4, .f32⟩
  | 72 => ⟨S131072x4, .f32⟩
  | 73 => ⟨S_, .i32⟩
  | 74 => ⟨S131072, .i32⟩
  | 75 => ⟨S131072, .i32⟩
  | 76 => ⟨S_, .i32⟩
  | 77 => ⟨S131072, .i32⟩
  | 78 => ⟨S131072, .i32⟩
  | 79 => ⟨S_, .i32⟩
  | 80 => ⟨S131072, .i32⟩
  | 81 => ⟨S131072, .i1⟩
  | 82 => ⟨S_, .i32⟩
  | 83 => ⟨S131072, .i32⟩
  | 84 => ⟨S131072, .i32⟩
  | 85 => ⟨S131072, .i32⟩
  | 86 => ⟨S131072x1, .i32⟩
  | 87 => ⟨S131072, .f32⟩
  | 88 => ⟨S_, .i32⟩
  | 89 => ⟨S131072, .i32⟩
  | 90 => ⟨S131072, .i32⟩
  | 91 => ⟨S_, .i32⟩
  | 92 => ⟨S131072, .i32⟩
  | 93 => ⟨S131072, .i32⟩
  | 94 => ⟨S_, .i32⟩
  | 95 => ⟨S131072, .i32⟩
  | 96 => ⟨S131072, .i32⟩
  | 97 => ⟨S_, .i32⟩
  | 98 => ⟨S131072, .i32⟩
  | 99 => ⟨S131072, .i1⟩
  | 100 => ⟨S_, .i32⟩
  | 101 => ⟨S131072, .i32⟩
  | 102 => ⟨S131072, .i32⟩
  | 103 => ⟨S131072, .i32⟩
  | 104 => ⟨S131072x1, .i32⟩
  | 105 => ⟨S131072, .f32⟩
  | 106 => ⟨S131072, .f32⟩
  | 107 => ⟨S131072, .f32⟩
  | 108 => ⟨S131072, .f32⟩
  | 109 => ⟨S131072x1, .f32⟩
  | 110 => ⟨S_, .f32⟩
  | 111 => ⟨S131072x1, .f32⟩
  | 112 => ⟨S131072x1, .f32⟩
  | 113 => ⟨S131072x4, .f32⟩
  | 114 => ⟨S131072x4, .f32⟩
  | 115 => ⟨S131072x4, .f32⟩
  | 116 => ⟨S131072x4, .f32⟩
  | 117 => ⟨S131072x4, .f32⟩
  | 118 => ⟨S_, .i32⟩
  | 119 => ⟨S131072, .i32⟩
  | 120 => ⟨S131072, .i32⟩
  | 121 => ⟨S_, .i32⟩
  | 122 => ⟨S131072, .i32⟩
  | 123 => ⟨S131072, .i32⟩
  | 124 => ⟨S_, .i32⟩
  | 125 => ⟨S131072, .i32⟩
  | 126 => ⟨S131072, .i1⟩
  | 127 => ⟨S_, .i32⟩
  | _ => ⟨S131072x3, .f32⟩

abbrev hbmTy0_2 (i : Nat) : BufTy := match i % 128 with
  | 0 => ⟨S131072, .i32⟩
  | 1 => ⟨S131072, .i32⟩
  | 2 => ⟨S131072, .i32⟩
  | 3 => ⟨S131072x1, .i32⟩
  | 4 => ⟨S131072, .f32⟩
  | 5 => ⟨S_, .i32⟩
  | 6 => ⟨S131072, .i32⟩
  | 7 => ⟨S131072, .i32⟩
  | 8 => ⟨S_, .i32⟩
  | 9 => ⟨S131072, .i32⟩
  | 10 => ⟨S131072, .i32⟩
  | 11 => ⟨S_, .i32⟩
  | 12 => ⟨S131072, .i32⟩
  | 13 => ⟨S131072, .i32⟩
  | 14 => ⟨S_, .i32⟩
  | 15 => ⟨S131072, .i32⟩
  | 16 => ⟨S131072, .i1⟩
  | 17 => ⟨S_, .i32⟩
  | 18 => ⟨S131072, .i32⟩
  | 19 => ⟨S131072, .i32⟩
  | 20 => ⟨S131072, .i32⟩
  | 21 => ⟨S131072x1, .i32⟩
  | 22 => ⟨S131072, .f32⟩
  | 23 => ⟨S131072, .f32⟩
  | 24 => ⟨S131072, .f32⟩
  | 25 => ⟨S131072, .f32⟩
  | 26 => ⟨S131072x1, .f32⟩
  | 27 => ⟨S_, .f32⟩
  | 28 => ⟨S131072x1, .f32⟩
  | 29 => ⟨S131072x1, .f32⟩
  | 30 => ⟨S131072x4, .f32⟩
  | 31 => ⟨S131072x4, .f32⟩
  | 32 => ⟨S131072x4, .f32⟩
  | 33 => ⟨S131072x4, .f32⟩
  | 34 => ⟨S131072x4, .f32⟩
  | 35 => ⟨S_, .i32⟩
  | 36 => ⟨S131072, .i32⟩
  | 37 => ⟨S131072, .i32⟩
  | 38 => ⟨S_, .i32⟩
  | 39 => ⟨S131072, .i32⟩
  | 40 => ⟨S131072, .i32⟩
  | 41 => ⟨S_, .i32⟩
  | 42 => ⟨S131072, .i32⟩
  | 43 => ⟨S131072, .i1⟩
  | 44 => ⟨S_, .i32⟩
  | 45 => ⟨S131072, .i32⟩
  | 46 => ⟨S131072, .i32⟩
  | 47 => ⟨S131072, .i32⟩
  | 48 => ⟨S131072x1, .i32⟩
  | 49 => ⟨S131072, .f32⟩
  | 50 => ⟨S_, .i32⟩
  | 51 => ⟨S131072, .i32⟩
  | 52 => ⟨S131072, .i32⟩
  | 53 => ⟨S_, .i32⟩
  | 54 => ⟨S131072, .i32⟩
  | 55 => ⟨S131072, .i32⟩
  | 56 => ⟨S_, .i32⟩
  | 57 => ⟨S131072, .i32⟩
  | 58 => ⟨S131072, .i32⟩
  | 59 => ⟨S_, .i32⟩
  | 60 => ⟨S131072, .i32⟩
  | 61 => ⟨S131072, .i1⟩
  | 62 => ⟨S_, .i32⟩
  | 63 => ⟨S131072, .i32⟩
  | 64 => ⟨S131072, .i32⟩
  | 65 => ⟨S131072, .i32⟩
  | 66 => ⟨S131072x1, .i32⟩
  | 67 => ⟨S131072, .f32⟩
  | 68 => ⟨S131072, .f32⟩
  | 69 => ⟨S131072, .f32⟩
  | 70 => ⟨S131072, .f32⟩
  | 71 => ⟨S131072x1, .f32⟩
  | 72 => ⟨S_, .f32⟩
  | 73 => ⟨S131072x1, .f32⟩
  | 74 => ⟨S131072x1, .f32⟩
  | 75 => ⟨S131072x4, .f32⟩
  | 76 => ⟨S131072x4, .f32⟩
  | 77 => ⟨S131072x4, .f32⟩
  | 78 => ⟨S131072x4, .f32⟩
  | 79 => ⟨S131072x4, .f32⟩
  | 80 => ⟨S131072x1, .f32⟩
  | 81 => ⟨S131072, .f32⟩
  | 82 => ⟨S1, .f32⟩
  | 83 => ⟨S_, .f32⟩
  | 84 => ⟨S1, .f32⟩
  | 85 => ⟨S_, .f32⟩
  | 86 => ⟨S131072, .f32⟩
  | 87 => ⟨S131072, .f32⟩
  | 88 => ⟨S131072, .f32⟩
  | 89 => ⟨S131072, .f32⟩
  | 90 => ⟨S1x132, .f32⟩
  | 91 => ⟨S131072x1, .f32⟩
  | 92 => ⟨S131072x132, .f32⟩
  | 93 => ⟨S131072x132, .f32⟩
  | 94 => ⟨S131072x132, .i1⟩
  | 95 => ⟨S131072x132, .i32⟩
  | 96 => ⟨S_, .i32⟩
  | 97 => ⟨S131072, .i32⟩
  | 98 => ⟨S_, .i32⟩
  | 99 => ⟨S131072, .i32⟩
  | 100 => ⟨S131072, .i32⟩
  | 101 => ⟨S_, .i32⟩
  | 102 => ⟨S_, .i32⟩
  | 103 => ⟨S_, .i32⟩
  | 104 => ⟨S131072, .i32⟩
  | 105 => ⟨S131072, .i32⟩
  | 106 => ⟨S_, .i32⟩
  | 107 => ⟨S131072, .i32⟩
  | 108 => ⟨S131072, .i32⟩
  | 109 => ⟨S131072x1, .i32⟩
  | 110 => ⟨S4, .i32⟩
  | 111 => ⟨S_, .i32⟩
  | 112 => ⟨S4, .i32⟩
  | 113 => ⟨S4, .i32⟩
  | 114 => ⟨S1x4, .i32⟩
  | 115 => ⟨S131072x4, .i32⟩
  | 116 => ⟨S131072x4, .i32⟩
  | 117 => ⟨S131072x4, .i32⟩
  | 118 => ⟨S4x4, .i32⟩
  | 119 => ⟨S4x4, .i32⟩
  | 120 => ⟨S_, .i32⟩
  | 121 => ⟨S4x4, .i32⟩
  | 122 => ⟨S4x4, .i32⟩
  | 123 => ⟨S4x4, .i1⟩
  | 124 => ⟨S4x4, .f32⟩
  | 125 => ⟨S1x4, .f32⟩
  | 126 => ⟨S4, .f32⟩
  | 127 => ⟨S1x4, .f32⟩
  | _ => ⟨S131072x3, .f32⟩

abbrev hbmTy0_3 (i : Nat) : BufTy := match i % 128 with
  | 0 => ⟨S131072x4, .f32⟩
  | 1 => ⟨S1x4, .f32⟩
  | 2 => ⟨S4, .f32⟩
  | 3 => ⟨S1x4, .f32⟩
  | 4 => ⟨S131072x4, .f32⟩
  | 5 => ⟨S1x4, .f32⟩
  | 6 => ⟨S4, .f32⟩
  | 7 => ⟨S1x4, .f32⟩
  | 8 => ⟨S131072x4, .f32⟩
  | 9 => ⟨S1x4, .f32⟩
  | 10 => ⟨S4, .f32⟩
  | 11 => ⟨S1x4, .f32⟩
  | 12 => ⟨S131072x4, .f32⟩
  | 13 => ⟨S_, .i32⟩
  | 14 => ⟨S131072, .i32⟩
  | 15 => ⟨S131072, .i32⟩
  | 16 => ⟨S_, .i32⟩
  | 17 => ⟨S131072, .i32⟩
  | 18 => ⟨S131072, .i32⟩
  | 19 => ⟨S_, .i32⟩
  | 20 => ⟨S131072, .i32⟩
  | 21 => ⟨S131072, .i1⟩
  | 22 => ⟨S_, .i32⟩
  | 23 => ⟨S131072, .i32⟩
  | 24 => ⟨S131072, .i32⟩
  | 25 => ⟨S131072, .i32⟩
  | 26 => ⟨S131072x1, .i32⟩
  | 27 => ⟨S131072, .f32⟩
  | 28 => ⟨S_, .i32⟩
  | 29 => ⟨S131072, .i32⟩
  | 30 => ⟨S131072, .i32⟩
  | 31 => ⟨S_, .i32⟩
  | 32 => ⟨S131072, .i32⟩
  | 33 => ⟨S131072, .i32⟩
  | 34 => ⟨S_, .i32⟩
  | 35 => ⟨S131072, .i32⟩
  | 36 => ⟨S131072, .i32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S131072x1, .i32⟩
  | 45 => ⟨S131072, .f32⟩
  | 46 => ⟨S131072, .f32⟩
  | 47 => ⟨S131072, .f32⟩
  | 48 => ⟨S131072, .f32⟩
  | 49 => ⟨S131072x1, .f32⟩
  | 50 => ⟨S_, .f32⟩
  | 51 => ⟨S131072x1, .f32⟩
  | 52 => ⟨S131072x1, .f32⟩
  | 53 => ⟨S131072x4, .f32⟩
  | 54 => ⟨S131072x4, .f32⟩
  | 55 => ⟨S131072x4, .f32⟩
  | 56 => ⟨S131072x4, .f32⟩
  | 57 => ⟨S131072x4, .f32⟩
  | 58 => ⟨S_, .i32⟩
  | 59 => ⟨S131072, .i32⟩
  | 60 => ⟨S131072, .i32⟩
  | 61 => ⟨S_, .i32⟩
  | 62 => ⟨S131072, .i32⟩
  | 63 => ⟨S131072, .i32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S131072x1, .i32⟩
  | 72 => ⟨S131072, .f32⟩
  | 73 => ⟨S_, .i32⟩
  | 74 => ⟨S131072, .i32⟩
  | 75 => ⟨S131072, .i32⟩
  | 76 => ⟨S_, .i32⟩
  | 77 => ⟨S131072, .i32⟩
  | 78 => ⟨S131072, .i32⟩
  | 79 => ⟨S_, .i32⟩
  | 80 => ⟨S131072, .i32⟩
  | 81 => ⟨S131072, .i32⟩
  | 82 => ⟨S_, .i32⟩
  | 83 => ⟨S131072, .i32⟩
  | 84 => ⟨S131072, .i1⟩
  | 85 => ⟨S_, .i32⟩
  | 86 => ⟨S131072, .i32⟩
  | 87 => ⟨S131072, .i32⟩
  | 88 => ⟨S131072, .i32⟩
  | 89 => ⟨S131072x1, .i32⟩
  | 90 => ⟨S131072, .f32⟩
  | 91 => ⟨S131072, .f32⟩
  | 92 => ⟨S131072, .f32⟩
  | 93 => ⟨S131072, .f32⟩
  | 94 => ⟨S131072x1, .f32⟩
  | 95 => ⟨S_, .f32⟩
  | 96 => ⟨S131072x1, .f32⟩
  | 97 => ⟨S131072x1, .f32⟩
  | 98 => ⟨S131072x4, .f32⟩
  | 99 => ⟨S131072x4, .f32⟩
  | 100 => ⟨S131072x4, .f32⟩
  | 101 => ⟨S131072x4, .f32⟩
  | 102 => ⟨S131072x4, .f32⟩
  | 103 => ⟨S_, .i32⟩
  | 104 => ⟨S131072, .i32⟩
  | 105 => ⟨S131072, .i32⟩
  | 106 => ⟨S_, .i32⟩
  | 107 => ⟨S131072, .i32⟩
  | 108 => ⟨S131072, .i32⟩
  | 109 => ⟨S_, .i32⟩
  | 110 => ⟨S131072, .i32⟩
  | 111 => ⟨S131072, .i1⟩
  | 112 => ⟨S_, .i32⟩
  | 113 => ⟨S131072, .i32⟩
  | 114 => ⟨S131072, .i32⟩
  | 115 => ⟨S131072, .i32⟩
  | 116 => ⟨S131072x1, .i32⟩
  | 117 => ⟨S131072, .f32⟩
  | 118 => ⟨S_, .i32⟩
  | 119 => ⟨S131072, .i32⟩
  | 120 => ⟨S131072, .i32⟩
  | 121 => ⟨S_, .i32⟩
  | 122 => ⟨S131072, .i32⟩
  | 123 => ⟨S131072, .i32⟩
  | 124 => ⟨S_, .i32⟩
  | 125 => ⟨S131072, .i32⟩
  | 126 => ⟨S131072, .i32⟩
  | 127 => ⟨S_, .i32⟩
  | _ => ⟨S131072x3, .f32⟩

abbrev hbmTy0_4 (i : Nat) : BufTy := match i % 128 with
  | 0 => ⟨S131072, .i32⟩
  | 1 => ⟨S131072, .i1⟩
  | 2 => ⟨S_, .i32⟩
  | 3 => ⟨S131072, .i32⟩
  | 4 => ⟨S131072, .i32⟩
  | 5 => ⟨S131072, .i32⟩
  | 6 => ⟨S131072x1, .i32⟩
  | 7 => ⟨S131072, .f32⟩
  | 8 => ⟨S131072, .f32⟩
  | 9 => ⟨S131072, .f32⟩
  | 10 => ⟨S131072, .f32⟩
  | 11 => ⟨S131072x1, .f32⟩
  | 12 => ⟨S_, .f32⟩
  | 13 => ⟨S131072x1, .f32⟩
  | 14 => ⟨S131072x1, .f32⟩
  | 15 => ⟨S131072x4, .f32⟩
  | 16 => ⟨S131072x4, .f32⟩
  | 17 => ⟨S131072x4, .f32⟩
  | 18 => ⟨S131072x4, .f32⟩
  | 19 => ⟨S131072x4, .f32⟩
  | 20 => ⟨S_, .i32⟩
  | 21 => ⟨S131072, .i32⟩
  | 22 => ⟨S131072, .i32⟩
  | 23 => ⟨S_, .i32⟩
  | 24 => ⟨S131072, .i32⟩
  | 25 => ⟨S131072, .i32⟩
  | 26 => ⟨S_, .i32⟩
  | 27 => ⟨S131072, .i32⟩
  | 28 => ⟨S131072, .i1⟩
  | 29 => ⟨S_, .i32⟩
  | 30 => ⟨S131072, .i32⟩
  | 31 => ⟨S131072, .i32⟩
  | 32 => ⟨S131072, .i32⟩
  | 33 => ⟨S131072x1, .i32⟩
  | 34 => ⟨S131072, .f32⟩
  | 35 => ⟨S_, .i32⟩
  | 36 => ⟨S131072, .i32⟩
  | 37 => ⟨S131072, .i32⟩
  | 38 => ⟨S_, .i32⟩
  | 39 => ⟨S131072, .i32⟩
  | 40 => ⟨S131072, .i32⟩
  | 41 => ⟨S_, .i32⟩
  | 42 => ⟨S131072, .i32⟩
  | 43 => ⟨S131072, .i32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S131072x1, .i32⟩
  | 52 => ⟨S131072, .f32⟩
  | 53 => ⟨S131072, .f32⟩
  | 54 => ⟨S131072, .f32⟩
  | 55 => ⟨S131072, .f32⟩
  | 56 => ⟨S131072x1, .f32⟩
  | 57 => ⟨S_, .f32⟩
  | 58 => ⟨S131072x1, .f32⟩
  | 59 => ⟨S131072x1, .f32⟩
  | 60 => ⟨S131072x4, .f32⟩
  | 61 => ⟨S131072x4, .f32⟩
  | 62 => ⟨S131072x4, .f32⟩
  | 63 => ⟨S131072x4, .f32⟩
  | 64 => ⟨S131072x4, .f32⟩
  | 65 => ⟨S_, .i32⟩
  | 66 => ⟨S131072, .i32⟩
  | 67 => ⟨S131072, .i32⟩
  | 68 => ⟨S_, .i32⟩
  | 69 => ⟨S131072, .i32⟩
  | 70 => ⟨S131072, .i32⟩
  | 71 => ⟨S_, .i32⟩
  | 72 => ⟨S131072, .i32⟩
  | 73 => ⟨S131072, .i1⟩
  | 74 => ⟨S_, .i32⟩
  | 75 => ⟨S131072, .i32⟩
  | 76 => ⟨S131072, .i32⟩
  | 77 => ⟨S131072, .i32⟩
  | 78 => ⟨S131072x1, .i32⟩
  | 79 => ⟨S131072, .f32⟩
  | 80 => ⟨S_, .i32⟩
  | 81 => ⟨S131072, .i32⟩
  | 82 => ⟨S131072, .i32⟩
  | 83 => ⟨S_, .i32⟩
  | 84 => ⟨S131072, .i32⟩
  | 85 => ⟨S131072, .i32⟩
  | 86 => ⟨S_, .i32⟩
  | 87 => ⟨S131072, .i32⟩
  | 88 => ⟨S131072, .i32⟩
  | 89 => ⟨S_, .i32⟩
  | 90 => ⟨S131072, .i32⟩
  | 91 => ⟨S131072, .i1⟩
  | 92 => ⟨S_, .i32⟩
  | 93 => ⟨S131072, .i32⟩
  | 94 => ⟨S131072, .i32⟩
  | 95 => ⟨S131072, .i32⟩
  | 96 => ⟨S131072x1, .i32⟩
  | 97 => ⟨S131072, .f32⟩
  | 98 => ⟨S131072, .f32⟩
  | 99 => ⟨S131072, .f32⟩
  | 100 => ⟨S131072, .f32⟩
  | 101 => ⟨S131072x1, .f32⟩
  | 102 => ⟨S_, .f32⟩
  | 103 => ⟨S131072x1, .f32⟩
  | 104 => ⟨S131072x1, .f32⟩
  | 105 => ⟨S131072x4, .f32⟩
  | 106 => ⟨S131072x4, .f32⟩
  | 107 => ⟨S131072x4, .f32⟩
  | 108 => ⟨S131072x4, .f32⟩
  | 109 => ⟨S131072x4, .f32⟩
  | 110 => ⟨S_, .i32⟩
  | 111 => ⟨S131072, .i32⟩
  | 112 => ⟨S131072, .i32⟩
  | 113 => ⟨S_, .i32⟩
  | 114 => ⟨S131072, .i32⟩
  | 115 => ⟨S131072, .i32⟩
  | 116 => ⟨S_, .i32⟩
  | 117 => ⟨S131072, .i32⟩
  | 118 => ⟨S131072, .i1⟩
  | 119 => ⟨S_, .i32⟩
  | 120 => ⟨S131072, .i32⟩
  | 121 => ⟨S131072, .i32⟩
  | 122 => ⟨S131072, .i32⟩
  | 123 => ⟨S131072x1, .i32⟩
  | 124 => ⟨S131072, .f32⟩
  | 125 => ⟨S_, .i32⟩
  | 126 => ⟨S131072, .i32⟩
  | 127 => ⟨S131072, .i32⟩
  | _ => ⟨S131072x3, .f32⟩

abbrev hbmTy0_5 (i : Nat) : BufTy := match i % 128 with
  | 0 => ⟨S_, .i32⟩
  | 1 => ⟨S131072, .i32⟩
  | 2 => ⟨S131072, .i32⟩
  | 3 => ⟨S_, .i32⟩
  | 4 => ⟨S131072, .i32⟩
  | 5 => ⟨S131072, .i32⟩
  | 6 => ⟨S_, .i32⟩
  | 7 => ⟨S131072, .i32⟩
  | 8 => ⟨S131072, .i1⟩
  | 9 => ⟨S_, .i32⟩
  | 10 => ⟨S131072, .i32⟩
  | 11 => ⟨S131072, .i32⟩
  | 12 => ⟨S131072, .i32⟩
  | 13 => ⟨S131072x1, .i32⟩
  | 14 => ⟨S131072, .f32⟩
  | 15 => ⟨S131072, .f32⟩
  | 16 => ⟨S131072, .f32⟩
  | 17 => ⟨S131072, .f32⟩
  | 18 => ⟨S131072x1, .f32⟩
  | 19 => ⟨S_, .f32⟩
  | 20 => ⟨S131072x1, .f32⟩
  | 21 => ⟨S131072x1, .f32⟩
  | 22 => ⟨S131072x4, .f32⟩
  | 23 => ⟨S131072x4, .f32⟩
  | 24 => ⟨S131072x4, .f32⟩
  | 25 => ⟨S131072x4, .f32⟩
  | 26 => ⟨S131072x4, .f32⟩
  | 27 => ⟨S131072x1, .f32⟩
  | 28 => ⟨S131072, .f32⟩
  | 29 => ⟨S1, .f32⟩
  | 30 => ⟨S_, .f32⟩
  | 31 => ⟨S1, .f32⟩
  | 32 => ⟨S_, .f32⟩
  | 33 => ⟨S131072, .f32⟩
  | 34 => ⟨S131072, .f32⟩
  | 35 => ⟨S131072, .f32⟩
  | 36 => ⟨S131072, .f32⟩
  | 37 => ⟨S1x132, .f32⟩
  | 38 => ⟨S131072x1, .f32⟩
  | 39 => ⟨S131072x132, .f32⟩
  | 40 => ⟨S131072x132, .f32⟩
  | 41 => ⟨S131072x132, .i1⟩
  | 42 => ⟨S131072x132, .i32⟩
  | 43 => ⟨S_, .i32⟩
  | 44 => ⟨S131072, .i32⟩
  | 45 => ⟨S_, .i32⟩
  | 46 => ⟨S131072, .i32⟩
  | 47 => ⟨S131072, .i32⟩
  | 48 => ⟨S_, .i32⟩
  | 49 => ⟨S_, .i32⟩
  | 50 => ⟨S_, .i32⟩
  | 51 => ⟨S131072, .i32⟩
  | 52 => ⟨S131072, .i32⟩
  | 53 => ⟨S_, .i32⟩
  | 54 => ⟨S131072, .i32⟩
  | 55 => ⟨S131072, .i32⟩
  | 56 => ⟨S131072x1, .i32⟩
  | 57 => ⟨S4, .i32⟩
  | 58 => ⟨S_, .i32⟩
  | 59 => ⟨S4, .i32⟩
  | 60 => ⟨S4, .i32⟩
  | 61 => ⟨S1x4, .i32⟩
  | 62 => ⟨S131072x4, .i32⟩
  | 63 => ⟨S131072x4, .i32⟩
  | 64 => ⟨S131072x4, .i32⟩
  | 65 => ⟨S4x4, .i32⟩
  | 66 => ⟨S4x4, .i32⟩
  | 67 => ⟨S_, .i32⟩
  | 68 => ⟨S4x4, .i32⟩
  | 69 => ⟨S4x4, .i32⟩
  | 70 => ⟨S4x4, .i1⟩
  | 71 => ⟨S4x4, .f32⟩
  | 72 => ⟨S1x4, .f32⟩
  | 73 => ⟨S4, .f32⟩
  | 74 => ⟨S1x4, .f32⟩
  | 75 => ⟨S131072x4, .f32⟩
  | 76 => ⟨S1x4, .f32⟩
  | 77 => ⟨S4, .f32⟩
  | 78 => ⟨S1x4, .f32⟩
  | 79 => ⟨S131072x4, .f32⟩
  | 80 => ⟨S1x4, .f32⟩
  | 81 => ⟨S4, .f32⟩
  | 82 => ⟨S1x4, .f32⟩
  | 83 => ⟨S131072x4, .f32⟩
  | 84 => ⟨S1x4, .f32⟩
  | 85 => ⟨S4, .f32⟩
  | 86 => ⟨S1x4, .f32⟩
  | 87 => ⟨S131072x4, .f32⟩
  | 88 => ⟨S_, .i32⟩
  | 89 => ⟨S131072, .i32⟩
  | 90 => ⟨S131072, .i32⟩
  | 91 => ⟨S_, .i32⟩
  | 92 => ⟨S131072, .i32⟩
  | 93 => ⟨S131072, .i32⟩
  | 94 => ⟨S_, .i32⟩
  | 95 => ⟨S131072, .i32⟩
  | 96 => ⟨S131072, .i1⟩
  | 97 => ⟨S_, .i32⟩
  | 98 => ⟨S131072, .i32⟩
  | 99 => ⟨S131072, .i32⟩
  | 100 => ⟨S131072, .i32⟩
  | 101 => ⟨S131072x1, .i32⟩
  | 102 => ⟨S131072, .f32⟩
  | 103 => ⟨S_, .i32⟩
  | 104 => ⟨S131072, .i32⟩
  | 105 => ⟨S131072, .i32⟩
  | 106 => ⟨S_, .i32⟩
  | 107 => ⟨S131072, .i32⟩
  | 108 => ⟨S131072, .i32⟩
  | 109 => ⟨S_, .i32⟩
  | 110 => ⟨S131072, .i32⟩
  | 111 => ⟨S131072, .i32⟩
  | 112 => ⟨S_, .i32⟩
  | 113 => ⟨S131072, .i32⟩
  | 114 => ⟨S131072, .i1⟩
  | 115 => ⟨S_, .i32⟩
  | 116 => ⟨S131072, .i32⟩
  | 117 => ⟨S131072, .i32⟩
  | 118 => ⟨S131072, .i32⟩
  | 119 => ⟨S131072x1, .i32⟩
  | 120 => ⟨S131072, .f32⟩
  | 121 => ⟨S131072, .f32⟩
  | 122 => ⟨S131072, .f32⟩
  | 123 => ⟨S131072, .f32⟩
  | 124 => ⟨S131072x1, .f32⟩
  | 125 => ⟨S_, .f32⟩
  | 126 => ⟨S131072x1, .f32⟩
  | 127 => ⟨S131072x1, .f32⟩
  | _ => ⟨S131072x3, .f32⟩

abbrev hbmTy0_6 (i : Nat) : BufTy := match i % 128 with
  | 0 => ⟨S131072x4, .f32⟩
  | 1 => ⟨S131072x4, .f32⟩
  | 2 => ⟨S131072x4, .f32⟩
  | 3 => ⟨S131072x4, .f32⟩
  | 4 => ⟨S131072x4, .f32⟩
  | 5 => ⟨S_, .i32⟩
  | 6 => ⟨S131072, .i32⟩
  | 7 => ⟨S131072, .i32⟩
  | 8 => ⟨S_, .i32⟩
  | 9 => ⟨S131072, .i32⟩
  | 10 => ⟨S131072, .i32⟩
  | 11 => ⟨S_, .i32⟩
  | 12 => ⟨S131072, .i32⟩
  | 13 => ⟨S131072, .i1⟩
  | 14 => ⟨S_, .i32⟩
  | 15 => ⟨S131072, .i32⟩
  | 16 => ⟨S131072, .i32⟩
  | 17 => ⟨S131072, .i32⟩
  | 18 => ⟨S131072x1, .i32⟩
  | 19 => ⟨S131072, .f32⟩
  | 20 => ⟨S_, .i32⟩
  | 21 => ⟨S131072, .i32⟩
  | 22 => ⟨S131072, .i32⟩
  | 23 => ⟨S_, .i32⟩
  | 24 => ⟨S131072, .i32⟩
  | 25 => ⟨S131072, .i32⟩
  | 26 => ⟨S_, .i32⟩
  | 27 => ⟨S131072, .i32⟩
  | 28 => ⟨S131072, .i32⟩
  | 29 => ⟨S_, .i32⟩
  | 30 => ⟨S131072, .i32⟩
  | 31 => ⟨S131072, .i1⟩
  | 32 => ⟨S_, .i32⟩
  | 33 => ⟨S131072, .i32⟩
  | 34 => ⟨S131072, .i32⟩
  | 35 => ⟨S131072, .i32⟩
  | 36 => ⟨S131072x1, .i32⟩
  | 37 => ⟨S131072, .f32⟩
  | 38 => ⟨S131072, .f32⟩
  | 39 => ⟨S131072, .f32⟩
  | 40 => ⟨S131072, .f32⟩
  | 41 => ⟨S131072x1, .f32⟩
  | 42 => ⟨S_, .f32⟩
  | 43 => ⟨S131072x1, .f32⟩
  | 44 => ⟨S131072x1, .f32⟩
  | 45 => ⟨S131072x4, .f32⟩
  | 46 => ⟨S131072x4, .f32⟩
  | 47 => ⟨S131072x4, .f32⟩
  | 48 => ⟨S131072x4, .f32⟩
  | 49 => ⟨S131072x4, .f32⟩
  | 50 => ⟨S_, .i32⟩
  | 51 => ⟨S131072, .i32⟩
  | 52 => ⟨S131072, .i32⟩
  | 53 => ⟨S_, .i32⟩
  | 54 => ⟨S131072, .i32⟩
  | 55 => ⟨S131072, .i32⟩
  | 56 => ⟨S_, .i32⟩
  | 57 => ⟨S131072, .i32⟩
  | 58 => ⟨S131072, .i1⟩
  | 59 => ⟨S_, .i32⟩
  | 60 => ⟨S131072, .i32⟩
  | 61 => ⟨S131072, .i32⟩
  | 62 => ⟨S131072, .i32⟩
  | 63 => ⟨S131072x1, .i32⟩
  | 64 => ⟨S131072, .f32⟩
  | 65 => ⟨S_, .i32⟩
  | 66 => ⟨S131072, .i32⟩
  | 67 => ⟨S131072, .i32⟩
  | 68 => ⟨S_, .i32⟩
  | 69 => ⟨S131072, .i32⟩
  | 70 => ⟨S131072, .i32⟩
  | 71 => ⟨S_, .i32⟩
  | 72 => ⟨S131072, .i32⟩
  | 73 => ⟨S131072, .i32⟩
  | 74 => ⟨S_, .i32⟩
  | 75 => ⟨S131072, .i32⟩
  | 76 => ⟨S131072, .i1⟩
  | 77 => ⟨S_, .i32⟩
  | 78 => ⟨S131072, .i32⟩
  | 79 => ⟨S131072, .i32⟩
  | 80 => ⟨S131072, .i32⟩
  | 81 => ⟨S131072x1, .i32⟩
  | 82 => ⟨S131072, .f32⟩
  | 83 => ⟨S131072, .f32⟩
  | 84 => ⟨S131072, .f32⟩
  | 85 => ⟨S131072, .f32⟩
  | 86 => ⟨S131072x1, .f32⟩
  | 87 => ⟨S_, .f32⟩
  | 88 => ⟨S131072x1, .f32⟩
  | 89 => ⟨S131072x1, .f32⟩
  | 90 => ⟨S131072x4, .f32⟩
  | 91 => ⟨S131072x4, .f32⟩
  | 92 => ⟨S131072x4, .f32⟩
  | 93 => ⟨S131072x4, .f32⟩
  | 94 => ⟨S131072x4, .f32⟩
  | 95 => ⟨S_, .i32⟩
  | 96 => ⟨S131072, .i32⟩
  | 97 => ⟨S131072, .i32⟩
  | 98 => ⟨S_, .i32⟩
  | 99 => ⟨S131072, .i32⟩
  | 100 => ⟨S131072, .i32⟩
  | 101 => ⟨S_, .i32⟩
  | 102 => ⟨S131072, .i32⟩
  | 103 => ⟨S131072, .i1⟩
  | 104 => ⟨S_, .i32⟩
  | 105 => ⟨S131072, .i32⟩
  | 106 => ⟨S131072, .i32⟩
  | 107 => ⟨S131072, .i32⟩
  | 108 => ⟨S131072x1, .i32⟩
  | 109 => ⟨S131072, .f32⟩
  | 110 => ⟨S_, .i32⟩
  | 111 => ⟨S131072, .i32⟩
  | 112 => ⟨S131072, .i32⟩
  | 113 => ⟨S_, .i32⟩
  | 114 => ⟨S131072, .i32⟩
  | 115 => ⟨S131072, .i32⟩
  | 116 => ⟨S_, .i32⟩
  | 117 => ⟨S131072, .i32⟩
  | 118 => ⟨S131072, .i32⟩
  | 119 => ⟨S_, .i32⟩
  | 120 => ⟨S131072, .i32⟩
  | 121 => ⟨S131072, .i1⟩
  | 122 => ⟨S_, .i32⟩
  | 123 => ⟨S131072, .i32⟩
  | 124 => ⟨S131072, .i32⟩
  | 125 => ⟨S131072, .i32⟩
  | 126 => ⟨S131072x1, .i32⟩
  | 127 => ⟨S131072, .f32⟩
  | _ => ⟨S131072x3, .f32⟩

abbrev hbmTy0_7 (i : Nat) : BufTy := match i % 128 with
  | 0 => ⟨S131072, .f32⟩
  | 1 => ⟨S131072, .f32⟩
  | 2 => ⟨S131072, .f32⟩
  | 3 => ⟨S131072x1, .f32⟩
  | 4 => ⟨S_, .f32⟩
  | 5 => ⟨S131072x1, .f32⟩
  | 6 => ⟨S131072x1, .f32⟩
  | 7 => ⟨S131072x4, .f32⟩
  | 8 => ⟨S131072x4, .f32⟩
  | 9 => ⟨S131072x4, .f32⟩
  | 10 => ⟨S131072x4, .f32⟩
  | 11 => ⟨S131072x4, .f32⟩
  | 12 => ⟨S_, .i32⟩
  | 13 => ⟨S131072, .i32⟩
  | 14 => ⟨S131072, .i32⟩
  | 15 => ⟨S_, .i32⟩
  | 16 => ⟨S131072, .i32⟩
  | 17 => ⟨S131072, .i32⟩
  | 18 => ⟨S_, .i32⟩
  | 19 => ⟨S131072, .i32⟩
  | 20 => ⟨S131072, .i1⟩
  | 21 => ⟨S_, .i32⟩
  | 22 => ⟨S131072, .i32⟩
  | 23 => ⟨S131072, .i32⟩
  | 24 => ⟨S131072, .i32⟩
  | 25 => ⟨S131072x1, .i32⟩
  | 26 => ⟨S131072, .f32⟩
  | 27 => ⟨S_, .i32⟩
  | 28 => ⟨S131072, .i32⟩
  | 29 => ⟨S131072, .i32⟩
  | 30 => ⟨S_, .i32⟩
  | 31 => ⟨S131072, .i32⟩
  | 32 => ⟨S131072, .i32⟩
  | 33 => ⟨S_, .i32⟩
  | 34 => ⟨S131072, .i32⟩
  | 35 => ⟨S131072, .i32⟩
  | 36 => ⟨S_, .i32⟩
  | 37 => ⟨S131072, .i32⟩
  | 38 => ⟨S131072, .i1⟩
  | 39 => ⟨S_, .i32⟩
  | 40 => ⟨S131072, .i32⟩
  | 41 => ⟨S131072, .i32⟩
  | 42 => ⟨S131072, .i32⟩
  | 43 => ⟨S131072x1, .i32⟩
  | 44 => ⟨S131072, .f32⟩
  | 45 => ⟨S131072, .f32⟩
  | 46 => ⟨S131072, .f32⟩
  | 47 => ⟨S131072, .f32⟩
  | 48 => ⟨S131072x1, .f32⟩
  | 49 => ⟨S_, .f32⟩
  | 50 => ⟨S131072x1, .f32⟩
  | 51 => ⟨S131072x1, .f32⟩
  | 52 => ⟨S131072x4, .f32⟩
  | 53 => ⟨S131072x4, .f32⟩
  | 54 => ⟨S131072x4, .f32⟩
  | 55 => ⟨S131072x4, .f32⟩
  | 56 => ⟨S131072x4, .f32⟩
  | 57 => ⟨S_, .i32⟩
  | 58 => ⟨S131072, .i32⟩
  | 59 => ⟨S131072, .i32⟩
  | 60 => ⟨S_, .i32⟩
  | 61 => ⟨S131072, .i32⟩
  | 62 => ⟨S131072, .i32⟩
  | 63 => ⟨S_, .i32⟩
  | 64 => ⟨S131072, .i32⟩
  | 65 => ⟨S131072, .i1⟩
  | 66 => ⟨S_, .i32⟩
  | 67 => ⟨S131072, .i32⟩
  | 68 => ⟨S131072, .i32⟩
  | 69 => ⟨S131072, .i32⟩
  | 70 => ⟨S131072x1, .i32⟩
  | 71 => ⟨S131072, .f32⟩
  | 72 => ⟨S_, .i32⟩
  | 73 => ⟨S131072, .i32⟩
  | 74 => ⟨S131072, .i32⟩
  | 75 => ⟨S_, .i32⟩
  | 76 => ⟨S131072, .i32⟩
  | 77 => ⟨S131072, .i32⟩
  | 78 => ⟨S_, .i32⟩
  | 79 => ⟨S131072, .i32⟩
  | 80 => ⟨S131072, .i32⟩
  | 81 => ⟨S_, .i32⟩
  | 82 => ⟨S131072, .i32⟩
  | 83 => ⟨S131072, .i1⟩
  | 84 => ⟨S_, .i32⟩
  | 85 => ⟨S131072, .i32⟩
  | 86 => ⟨S131072, .i32⟩
  | 87 => ⟨S131072, .i32⟩
  | 88 => ⟨S131072x1, .i32⟩
  | 89 => ⟨S131072, .f32⟩
  | 90 => ⟨S131072, .f32⟩
  | 91 => ⟨S131072, .f32⟩
  | 92 => ⟨S131072, .f32⟩
  | 93 => ⟨S131072x1, .f32⟩
  | 94 => ⟨S_, .f32⟩
  | 95 => ⟨S131072x1, .f32⟩
  | 96 => ⟨S131072x1, .f32⟩
  | 97 => ⟨S131072x4, .f32⟩
  | 98 => ⟨S131072x4, .f32⟩
  | 99 => ⟨S131072x4, .f32⟩
  | 100 => ⟨S131072x4, .f32⟩
  | 101 => ⟨S131072x4, .f32⟩
  | 102 => ⟨S131072x4x1x1, .f32⟩
  | 103 => ⟨S131072x1x4x1, .f32⟩
  | 104 => ⟨S131072x4x4x1, .f32⟩
  | 105 => ⟨S131072x4x4x1, .f32⟩
  | 106 => ⟨S131072x4x4x1, .f32⟩
  | 107 => ⟨S131072x1x1x4, .f32⟩
  | 108 => ⟨S131072x4x4x4, .f32⟩
  | 109 => ⟨S131072x4x4x4, .f32⟩
  | 110 => ⟨S131072x4x4x4, .f32⟩
  | 111 => ⟨S131072x4x1x1, .i32⟩
  | 112 => ⟨S131072x1x4x1, .i32⟩
  | 113 => ⟨S131072x1x1x4, .i32⟩
  | 114 => ⟨S_, .i32⟩
  | 115 => ⟨S131072x1x1x4, .i32⟩
  | 116 => ⟨S131072x1x1x4, .i32⟩
  | 117 => ⟨S131072x1x4x4, .i32⟩
  | 118 => ⟨S131072x1x4x4, .i32⟩
  | 119 => ⟨S131072x1x4x4, .i32⟩
  | 120 => ⟨S_, .i32⟩
  | 121 => ⟨S131072x1x4x4, .i32⟩
  | 122 => ⟨S131072x1x4x4, .i32⟩
  | 123 => ⟨S131072x4x4x4, .i32⟩
  | 124 => ⟨S131072x4x4x4, .i32⟩
  | 125 => ⟨S131072x4x4x4, .i32⟩
  | 126 => ⟨S_, .i32⟩
  | 127 => ⟨S131072x4x4x4, .i32⟩
  | _ => ⟨S131072x3, .f32⟩

abbrev hbmTy0_8 (i : Nat) : BufTy := match i % 128 with
  | 0 => ⟨S131072x4x4x4, .i1⟩
  | 1 => ⟨S_, .i32⟩
  | 2 => ⟨S131072x4x4x4, .i32⟩
  | 3 => ⟨S131072x4x4x4, .i32⟩
  | 4 => ⟨S131072x4x4x4, .i32⟩
  | 5 => ⟨S131072x4x4x4x1, .i32⟩
  | 6 => ⟨S131072x4x4x4x3, .f32⟩
  | 7 => ⟨S131072x4x4x4x1, .f32⟩
  | 8 => ⟨S131072x4x4x4x3, .f32⟩
  | 9 => ⟨S131072x4x4x4x3, .f32⟩
  | 10 => ⟨S_, .f32⟩
  | 11 => ⟨S131072x3, .f32⟩
  | _ => ⟨S131072x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S131072x3, .f32⟩

abbrev bufTy : (tb : Table) → Fin (tcTables nBuf tb) → BufTy
  | .hbm, ⟨i, _⟩ => hbmTy i
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_5 : Ref sig .tc := ⟨.hbm, 66, rfl⟩
abbrev main_v47 : Ref sig .tc := ⟨.hbm, 67, rfl⟩
abbrev main_v48 : Ref sig .tc := ⟨.hbm, 68, rfl⟩
abbrev main_c_6 : Ref sig .tc := ⟨.hbm, 69, rfl⟩
abbrev main_v49 : Ref sig .tc := ⟨.hbm, 70, rfl⟩
abbrev main_v50 : Ref sig .tc := ⟨.hbm, 71, rfl⟩
abbrev main_c_7 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_9 : Ref sig .tc := ⟨.hbm, 81, rfl⟩
abbrev main_v58 : Ref sig .tc := ⟨.hbm, 82, rfl⟩
abbrev main_v59 : Ref sig .tc := ⟨.hbm, 83, rfl⟩
abbrev main_c_10 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_14 : Ref sig .tc := ⟨.hbm, 111, rfl⟩
abbrev main_v82 : Ref sig .tc := ⟨.hbm, 112, rfl⟩
abbrev main_v83 : Ref sig .tc := ⟨.hbm, 113, rfl⟩
abbrev main_c_15 : Ref sig .tc := ⟨.hbm, 114, rfl⟩
abbrev main_v84 : Ref sig .tc := ⟨.hbm, 115, rfl⟩
abbrev main_v85 : Ref sig .tc := ⟨.hbm, 116, rfl⟩
abbrev main_c_16 : Ref sig .tc := ⟨.hbm, 117, rfl⟩
abbrev main_v86 : Ref sig .tc := ⟨.hbm, 118, rfl⟩
abbrev main_v87 : Ref sig .tc := ⟨.hbm, 119, rfl⟩
abbrev main_c_17 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_18 : Ref sig .tc := ⟨.hbm, 126, rfl⟩
abbrev main_v93 : Ref sig .tc := ⟨.hbm, 127, rfl⟩
abbrev main_v94 : Ref sig .tc := ⟨.hbm, 128, rfl⟩
abbrev main_c_19 : Ref sig .tc := ⟨.hbm, 129, rfl⟩
abbrev main_v95 : Ref sig .tc := ⟨.hbm, 130, rfl⟩
abbrev main_v96 : Ref sig .tc := ⟨.hbm, 131, rfl⟩
abbrev main_c_20 : Ref sig .tc := ⟨.hbm, 132, rfl⟩
abbrev main_v97 : Ref sig .tc := ⟨.hbm, 133, rfl⟩
abbrev main_v98 : Ref sig .tc := ⟨.hbm, 134, rfl⟩
abbrev main_c_21 : Ref sig .tc := ⟨.hbm, 135, rfl⟩
abbrev main_v99 : Ref sig .tc := ⟨.hbm, 136, rfl⟩
abbrev main_v100 : Ref sig .tc := ⟨.hbm, 137, rfl⟩
abbrev main_c_22 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_23 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_24 : Ref sig .tc := ⟨.hbm, 156, rfl⟩
abbrev main_v117 : Ref sig .tc := ⟨.hbm, 157, rfl⟩
abbrev main_v118 : Ref sig .tc := ⟨.hbm, 158, rfl⟩
abbrev main_c_25 : Ref sig .tc := ⟨.hbm, 159, rfl⟩
abbrev main_v119 : Ref sig .tc := ⟨.hbm, 160, rfl⟩
abbrev main_v120 : Ref sig .tc := ⟨.hbm, 161, rfl⟩
abbrev main_c_26 : Ref sig .tc := ⟨.hbm, 162, rfl⟩
abbrev main_v121 : Ref sig .tc := ⟨.hbm, 163, rfl⟩
abbrev main_v122 : Ref sig .tc := ⟨.hbm, 164, rfl⟩
abbrev main_c_27 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_c_28 : Ref sig .tc := ⟨.hbm, 171, rfl⟩
abbrev main_v128 : Ref sig .tc := ⟨.hbm, 172, rfl⟩
abbrev main_v129 : Ref sig .tc := ⟨.hbm, 173, rfl⟩
abbrev main_c_29 : Ref sig .tc := ⟨.hbm, 174, rfl⟩
abbrev main_v130 : Ref sig .tc := ⟨.hbm, 175, rfl⟩
abbrev main_v131 : Ref sig .tc := ⟨.hbm, 176, rfl⟩
abbrev main_c_30 : Ref sig .tc := ⟨.hbm, 177, rfl⟩
abbrev main_v132 : Ref sig .tc := ⟨.hbm, 178, rfl⟩
abbrev main_v133 : Ref sig .tc := ⟨.hbm, 179, rfl⟩
abbrev main_c_31 : Ref sig .tc := ⟨.hbm, 180, rfl⟩
abbrev main_v134 : Ref sig .tc := ⟨.hbm, 181, rfl⟩
abbrev main_v135 : Ref sig .tc := ⟨.hbm, 182, rfl⟩
abbrev main_c_32 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_cst_33 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_c_34 : Ref sig .tc := ⟨.hbm, 201, rfl⟩
abbrev main_v152 : Ref sig .tc := ⟨.hbm, 202, rfl⟩
abbrev main_v153 : Ref sig .tc := ⟨.hbm, 203, rfl⟩
abbrev main_c_35 : Ref sig .tc := ⟨.hbm, 204, rfl⟩
abbrev main_v154 : Ref sig .tc := ⟨.hbm, 205, rfl⟩
abbrev main_v155 : Ref sig .tc := ⟨.hbm, 206, rfl⟩
abbrev main_c_36 : Ref sig .tc := ⟨.hbm, 207, rfl⟩
abbrev main_v156 : Ref sig .tc := ⟨.hbm, 208, rfl⟩
abbrev main_v157 : Ref sig .tc := ⟨.hbm, 209, rfl⟩
abbrev main_c_37 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_c_38 : Ref sig .tc := ⟨.hbm, 216, rfl⟩
abbrev main_v163 : Ref sig .tc := ⟨.hbm, 217, rfl⟩
abbrev main_v164 : Ref sig .tc := ⟨.hbm, 218, rfl⟩
abbrev main_c_39 : Ref sig .tc := ⟨.hbm, 219, rfl⟩
abbrev main_v165 : Ref sig .tc := ⟨.hbm, 220, rfl⟩
abbrev main_v166 : Ref sig .tc := ⟨.hbm, 221, rfl⟩
abbrev main_c_40 : Ref sig .tc := ⟨.hbm, 222, rfl⟩
abbrev main_v167 : Ref sig .tc := ⟨.hbm, 223, rfl⟩
abbrev main_v168 : Ref sig .tc := ⟨.hbm, 224, rfl⟩
abbrev main_c_41 : Ref sig .tc := ⟨.hbm, 225, rfl⟩
abbrev main_v169 : Ref sig .tc := ⟨.hbm, 226, rfl⟩
abbrev main_v170 : Ref sig .tc := ⟨.hbm, 227, rfl⟩
abbrev main_c_42 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_cst_43 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_v186 : Ref sig .tc := ⟨.hbm, 245, rfl⟩
abbrev main_c_44 : Ref sig .tc := ⟨.hbm, 246, rfl⟩
abbrev main_v187 : Ref sig .tc := ⟨.hbm, 247, rfl⟩
abbrev main_v188 : Ref sig .tc := ⟨.hbm, 248, rfl⟩
abbrev main_c_45 : Ref sig .tc := ⟨.hbm, 249, rfl⟩
abbrev main_v189 : Ref sig .tc := ⟨.hbm, 250, rfl⟩
abbrev main_v190 : Ref sig .tc := ⟨.hbm, 251, rfl⟩
abbrev main_c_46 : Ref sig .tc := ⟨.hbm, 252, rfl⟩
abbrev main_v191 : Ref sig .tc := ⟨.hbm, 253, rfl⟩
abbrev main_v192 : Ref sig .tc := ⟨.hbm, 254, rfl⟩
abbrev main_c_47 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_c_48 : Ref sig .tc := ⟨.hbm, 261, rfl⟩
abbrev main_v198 : Ref sig .tc := ⟨.hbm, 262, rfl⟩
abbrev main_v199 : Ref sig .tc := ⟨.hbm, 263, rfl⟩
abbrev main_c_49 : Ref sig .tc := ⟨.hbm, 264, rfl⟩
abbrev main_v200 : Ref sig .tc := ⟨.hbm, 265, rfl⟩
abbrev main_v201 : Ref sig .tc := ⟨.hbm, 266, rfl⟩
abbrev main_c_50 : Ref sig .tc := ⟨.hbm, 267, rfl⟩
abbrev main_v202 : Ref sig .tc := ⟨.hbm, 268, rfl⟩
abbrev main_v203 : Ref sig .tc := ⟨.hbm, 269, rfl⟩
abbrev main_c_51 : Ref sig .tc := ⟨.hbm, 270, rfl⟩
abbrev main_v204 : Ref sig .tc := ⟨.hbm, 271, rfl⟩
abbrev main_v205 : Ref sig .tc := ⟨.hbm, 272, rfl⟩
abbrev main_c_52 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_cst_53 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_c_54 : Ref sig .tc := ⟨.hbm, 291, rfl⟩
abbrev main_v222 : Ref sig .tc := ⟨.hbm, 292, rfl⟩
abbrev main_v223 : Ref sig .tc := ⟨.hbm, 293, rfl⟩
abbrev main_c_55 : Ref sig .tc := ⟨.hbm, 294, rfl⟩
abbrev main_v224 : Ref sig .tc := ⟨.hbm, 295, rfl⟩
abbrev main_v225 : Ref sig .tc := ⟨.hbm, 296, rfl⟩
abbrev main_c_56 : Ref sig .tc := ⟨.hbm, 297, rfl⟩
abbrev main_v226 : Ref sig .tc := ⟨.hbm, 298, rfl⟩
abbrev main_v227 : Ref sig .tc := ⟨.hbm, 299, rfl⟩
abbrev main_c_57 : Ref sig .tc := ⟨.hbm, 300, rfl⟩
abbrev main_v228 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_c_58 : Ref sig .tc := ⟨.hbm, 306, rfl⟩
abbrev main_v233 : Ref sig .tc := ⟨.hbm, 307, rfl⟩
abbrev main_v234 : Ref sig .tc := ⟨.hbm, 308, rfl⟩
abbrev main_c_59 : Ref sig .tc := ⟨.hbm, 309, rfl⟩
abbrev main_v235 : Ref sig .tc := ⟨.hbm, 310, rfl⟩
abbrev main_v236 : Ref sig .tc := ⟨.hbm, 311, rfl⟩
abbrev main_c_60 : Ref sig .tc := ⟨.hbm, 312, rfl⟩
abbrev main_v237 : Ref sig .tc := ⟨.hbm, 313, rfl⟩
abbrev main_v238 : Ref sig .tc := ⟨.hbm, 314, rfl⟩
abbrev main_c_61 : Ref sig .tc := ⟨.hbm, 315, rfl⟩
abbrev main_v239 : Ref sig .tc := ⟨.hbm, 316, rfl⟩
abbrev main_v240 : Ref sig .tc := ⟨.hbm, 317, rfl⟩
abbrev main_c_62 : Ref sig .tc := ⟨.hbm, 318, rfl⟩
abbrev main_v241 : Ref sig .tc := ⟨.hbm, 319, rfl⟩
abbrev main_v242 : Ref sig .tc := ⟨.hbm, 320, rfl⟩
abbrev main_v243 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_cst_63 : Ref sig .tc := ⟨.hbm, 328, rfl⟩
abbrev main_v250 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_call2_v0 : Ref sig .tc := ⟨.hbm, 342, rfl⟩
abbrev main_call2_v1 : Ref sig .tc := ⟨.hbm, 343, rfl⟩
abbrev main_call2_v2 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_c_64 : Ref sig .tc := ⟨.hbm, 352, rfl⟩
abbrev main_v270 : Ref sig .tc := ⟨.hbm, 353, rfl⟩
abbrev main_c_65 : Ref sig .tc := ⟨.hbm, 354, rfl⟩
abbrev main_v271 : Ref sig .tc := ⟨.hbm, 355, rfl⟩
abbrev main_v272 : Ref sig .tc := ⟨.hbm, 356, rfl⟩
abbrev main_c_66 : Ref sig .tc := ⟨.hbm, 357, rfl⟩
abbrev main_c_67 : Ref sig .tc := ⟨.hbm, 358, rfl⟩
abbrev main_call3_v0 : Ref sig .tc := ⟨.hbm, 359, rfl⟩
abbrev main_call3_v1 : Ref sig .tc := ⟨.hbm, 360, rfl⟩
abbrev main_call3_v2 : Ref sig .tc := ⟨.hbm, 361, rfl⟩
abbrev main_call3_v3 : Ref sig .tc := ⟨.hbm, 362, rfl⟩
abbrev main_call3_v4 : Ref sig .tc := ⟨.hbm, 363, rfl⟩
abbrev main_v273 : Ref sig .tc := ⟨.hbm, 364, rfl⟩
abbrev main_v274 : Ref sig .tc := ⟨.hbm, 365, rfl⟩
abbrev main_v275 : Ref sig .tc := ⟨.hbm, 366, rfl⟩
abbrev main_c_68 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_c_69 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_v289 : Ref sig .tc := ⟨.hbm, 382, rfl⟩
abbrev main_v290 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩
abbrev main_v295 : Ref sig .tc := ⟨.hbm, 388, rfl⟩
abbrev main_v296 : Ref sig .tc := ⟨.hbm, 389, rfl⟩
abbrev main_v297 : Ref sig .tc := ⟨.hbm, 390, rfl⟩
abbrev main_v298 : Ref sig .tc := ⟨.hbm, 391, rfl⟩
abbrev main_v299 : Ref sig .tc := ⟨.hbm, 392, rfl⟩
abbrev main_v300 : Ref sig .tc := ⟨.hbm, 393, rfl⟩
abbrev main_v301 : Ref sig .tc := ⟨.hbm, 394, rfl⟩
abbrev main_v302 : Ref sig .tc := ⟨.hbm, 395, rfl⟩
abbrev main_v303 : Ref sig .tc := ⟨.hbm, 396, rfl⟩
abbrev main_c_70 : Ref sig .tc := ⟨.hbm, 397, rfl⟩
abbrev main_v304 : Ref sig .tc := ⟨.hbm, 398, rfl⟩
abbrev main_v305 : Ref sig .tc := ⟨.hbm, 399, rfl⟩
abbrev main_c_71 : Ref sig .tc := ⟨.hbm, 400, rfl⟩
abbrev main_v306 : Ref sig .tc := ⟨.hbm, 401, rfl⟩
abbrev main_v307 : Ref sig .tc := ⟨.hbm, 402, rfl⟩
abbrev main_c_72 : Ref sig .tc := ⟨.hbm, 403, rfl⟩
abbrev main_v308 : Ref sig .tc := ⟨.hbm, 404, rfl⟩
abbrev main_v309 : Ref sig .tc := ⟨.hbm, 405, rfl⟩
abbrev main_c_73 : Ref sig .tc := ⟨.hbm, 406, rfl⟩
abbrev main_v310 : Ref sig .tc := ⟨.hbm, 407, rfl⟩
abbrev main_v311 : Ref sig .tc := ⟨.hbm, 408, rfl⟩
abbrev main_v312 : Ref sig .tc := ⟨.hbm, 409, rfl⟩
abbrev main_v313 : Ref sig .tc := ⟨.hbm, 410, rfl⟩
abbrev main_v314 : Ref sig .tc := ⟨.hbm, 411, rfl⟩
abbrev main_c_74 : Ref sig .tc := ⟨.hbm, 412, rfl⟩
abbrev main_v315 : Ref sig .tc := ⟨.hbm, 413, rfl⟩
abbrev main_v316 : Ref sig .tc := ⟨.hbm, 414, rfl⟩
abbrev main_c_75 : Ref sig .tc := ⟨.hbm, 415, rfl⟩
abbrev main_v317 : Ref sig .tc := ⟨.hbm, 416, rfl⟩
abbrev main_v318 : Ref sig .tc := ⟨.hbm, 417, rfl⟩
abbrev main_c_76 : Ref sig .tc := ⟨.hbm, 418, rfl⟩
abbrev main_v319 : Ref sig .tc := ⟨.hbm, 419, rfl⟩
abbrev main_v320 : Ref sig .tc := ⟨.hbm, 420, rfl⟩
abbrev main_c_77 : Ref sig .tc := ⟨.hbm, 421, rfl⟩
abbrev main_v321 : Ref sig .tc := ⟨.hbm, 422, rfl⟩
abbrev main_v322 : Ref sig .tc := ⟨.hbm, 423, rfl⟩
abbrev main_c_78 : Ref sig .tc := ⟨.hbm, 424, rfl⟩
abbrev main_v323 : Ref sig .tc := ⟨.hbm, 425, rfl⟩
abbrev main_v324 : Ref sig .tc := ⟨.hbm, 426, rfl⟩
abbrev main_v325 : Ref sig .tc := ⟨.hbm, 427, rfl⟩
abbrev main_v326 : Ref sig .tc := ⟨.hbm, 428, rfl⟩
abbrev main_v327 : Ref sig .tc := ⟨.hbm, 429, rfl⟩
abbrev main_v328 : Ref sig .tc := ⟨.hbm, 430, rfl⟩
abbrev main_v329 : Ref sig .tc := ⟨.hbm, 431, rfl⟩
abbrev main_v330 : Ref sig .tc := ⟨.hbm, 432, rfl⟩
abbrev main_v331 : Ref sig .tc := ⟨.hbm, 433, rfl⟩
abbrev main_cst_79 : Ref sig .tc := ⟨.hbm, 434, rfl⟩
abbrev main_v332 : Ref sig .tc := ⟨.hbm, 435, rfl⟩
abbrev main_v333 : Ref sig .tc := ⟨.hbm, 436, rfl⟩
abbrev main_v334 : Ref sig .tc := ⟨.hbm, 437, rfl⟩
abbrev main_v335 : Ref sig .tc := ⟨.hbm, 438, rfl⟩
abbrev main_v336 : Ref sig .tc := ⟨.hbm, 439, rfl⟩
abbrev main_v337 : Ref sig .tc := ⟨.hbm, 440, rfl⟩
abbrev main_v338 : Ref sig .tc := ⟨.hbm, 441, rfl⟩
abbrev main_c_80 : Ref sig .tc := ⟨.hbm, 442, rfl⟩
abbrev main_v339 : Ref sig .tc := ⟨.hbm, 443, rfl⟩
abbrev main_v340 : Ref sig .tc := ⟨.hbm, 444, rfl⟩
abbrev main_c_81 : Ref sig .tc := ⟨.hbm, 445, rfl⟩
abbrev main_v341 : Ref sig .tc := ⟨.hbm, 446, rfl⟩
abbrev main_v342 : Ref sig .tc := ⟨.hbm, 447, rfl⟩
abbrev main_c_82 : Ref sig .tc := ⟨.hbm, 448, rfl⟩
abbrev main_v343 : Ref sig .tc := ⟨.hbm, 449, rfl⟩
abbrev main_v344 : Ref sig .tc := ⟨.hbm, 450, rfl⟩
abbrev main_c_83 : Ref sig .tc := ⟨.hbm, 451, rfl⟩
abbrev main_v345 : Ref sig .tc := ⟨.hbm, 452, rfl⟩
abbrev main_v346 : Ref sig .tc := ⟨.hbm, 453, rfl⟩
abbrev main_v347 : Ref sig .tc := ⟨.hbm, 454, rfl⟩
abbrev main_v348 : Ref sig .tc := ⟨.hbm, 455, rfl⟩
abbrev main_v349 : Ref sig .tc := ⟨.hbm, 456, rfl⟩
abbrev main_c_84 : Ref sig .tc := ⟨.hbm, 457, rfl⟩
abbrev main_v350 : Ref sig .tc := ⟨.hbm, 458, rfl⟩
abbrev main_v351 : Ref sig .tc := ⟨.hbm, 459, rfl⟩
abbrev main_c_85 : Ref sig .tc := ⟨.hbm, 460, rfl⟩
abbrev main_v352 : Ref sig .tc := ⟨.hbm, 461, rfl⟩
abbrev main_v353 : Ref sig .tc := ⟨.hbm, 462, rfl⟩
abbrev main_c_86 : Ref sig .tc := ⟨.hbm, 463, rfl⟩
abbrev main_v354 : Ref sig .tc := ⟨.hbm, 464, rfl⟩
abbrev main_v355 : Ref sig .tc := ⟨.hbm, 465, rfl⟩
abbrev main_c_87 : Ref sig .tc := ⟨.hbm, 466, rfl⟩
abbrev main_v356 : Ref sig .tc := ⟨.hbm, 467, rfl⟩
abbrev main_v357 : Ref sig .tc := ⟨.hbm, 468, rfl⟩
abbrev main_c_88 : Ref sig .tc := ⟨.hbm, 469, rfl⟩
abbrev main_v358 : Ref sig .tc := ⟨.hbm, 470, rfl⟩
abbrev main_v359 : Ref sig .tc := ⟨.hbm, 471, rfl⟩
abbrev main_v360 : Ref sig .tc := ⟨.hbm, 472, rfl⟩
abbrev main_v361 : Ref sig .tc := ⟨.hbm, 473, rfl⟩
abbrev main_v362 : Ref sig .tc := ⟨.hbm, 474, rfl⟩
abbrev main_v363 : Ref sig .tc := ⟨.hbm, 475, rfl⟩
abbrev main_v364 : Ref sig .tc := ⟨.hbm, 476, rfl⟩
abbrev main_v365 : Ref sig .tc := ⟨.hbm, 477, rfl⟩
abbrev main_v366 : Ref sig .tc := ⟨.hbm, 478, rfl⟩
abbrev main_cst_89 : Ref sig .tc := ⟨.hbm, 479, rfl⟩
abbrev main_v367 : Ref sig .tc := ⟨.hbm, 480, rfl⟩
abbrev main_v368 : Ref sig .tc := ⟨.hbm, 481, rfl⟩
abbrev main_v369 : Ref sig .tc := ⟨.hbm, 482, rfl⟩
abbrev main_v370 : Ref sig .tc := ⟨.hbm, 483, rfl⟩
abbrev main_v371 : Ref sig .tc := ⟨.hbm, 484, rfl⟩
abbrev main_v372 : Ref sig .tc := ⟨.hbm, 485, rfl⟩
abbrev main_v373 : Ref sig .tc := ⟨.hbm, 486, rfl⟩
abbrev main_c_90 : Ref sig .tc := ⟨.hbm, 487, rfl⟩
abbrev main_v374 : Ref sig .tc := ⟨.hbm, 488, rfl⟩
abbrev main_v375 : Ref sig .tc := ⟨.hbm, 489, rfl⟩
abbrev main_c_91 : Ref sig .tc := ⟨.hbm, 490, rfl⟩
abbrev main_v376 : Ref sig .tc := ⟨.hbm, 491, rfl⟩
abbrev main_v377 : Ref sig .tc := ⟨.hbm, 492, rfl⟩
abbrev main_c_92 : Ref sig .tc := ⟨.hbm, 493, rfl⟩
abbrev main_v378 : Ref sig .tc := ⟨.hbm, 494, rfl⟩
abbrev main_v379 : Ref sig .tc := ⟨.hbm, 495, rfl⟩
abbrev main_c_93 : Ref sig .tc := ⟨.hbm, 496, rfl⟩
abbrev main_v380 : Ref sig .tc := ⟨.hbm, 497, rfl⟩
abbrev main_v381 : Ref sig .tc := ⟨.hbm, 498, rfl⟩
abbrev main_v382 : Ref sig .tc := ⟨.hbm, 499, rfl⟩
abbrev main_v383 : Ref sig .tc := ⟨.hbm, 500, rfl⟩
abbrev main_v384 : Ref sig .tc := ⟨.hbm, 501, rfl⟩
abbrev main_c_94 : Ref sig .tc := ⟨.hbm, 502, rfl⟩
abbrev main_v385 : Ref sig .tc := ⟨.hbm, 503, rfl⟩
abbrev main_v386 : Ref sig .tc := ⟨.hbm, 504, rfl⟩
abbrev main_c_95 : Ref sig .tc := ⟨.hbm, 505, rfl⟩
abbrev main_v387 : Ref sig .tc := ⟨.hbm, 506, rfl⟩
abbrev main_v388 : Ref sig .tc := ⟨.hbm, 507, rfl⟩
abbrev main_c_96 : Ref sig .tc := ⟨.hbm, 508, rfl⟩
abbrev main_v389 : Ref sig .tc := ⟨.hbm, 509, rfl⟩
abbrev main_v390 : Ref sig .tc := ⟨.hbm, 510, rfl⟩
abbrev main_c_97 : Ref sig .tc := ⟨.hbm, 511, rfl⟩
abbrev main_v391 : Ref sig .tc := ⟨.hbm, 512, rfl⟩
abbrev main_v392 : Ref sig .tc := ⟨.hbm, 513, rfl⟩
abbrev main_c_98 : Ref sig .tc := ⟨.hbm, 514, rfl⟩
abbrev main_v393 : Ref sig .tc := ⟨.hbm, 515, rfl⟩
abbrev main_v394 : Ref sig .tc := ⟨.hbm, 516, rfl⟩
abbrev main_v395 : Ref sig .tc := ⟨.hbm, 517, rfl⟩
abbrev main_v396 : Ref sig .tc := ⟨.hbm, 518, rfl⟩
abbrev main_v397 : Ref sig .tc := ⟨.hbm, 519, rfl⟩
abbrev main_v398 : Ref sig .tc := ⟨.hbm, 520, rfl⟩
abbrev main_v399 : Ref sig .tc := ⟨.hbm, 521, rfl⟩
abbrev main_v400 : Ref sig .tc := ⟨.hbm, 522, rfl⟩
abbrev main_v401 : Ref sig .tc := ⟨.hbm, 523, rfl⟩
abbrev main_cst_99 : Ref sig .tc := ⟨.hbm, 524, rfl⟩
abbrev main_v402 : Ref sig .tc := ⟨.hbm, 525, rfl⟩
abbrev main_v403 : Ref sig .tc := ⟨.hbm, 526, rfl⟩
abbrev main_v404 : Ref sig .tc := ⟨.hbm, 527, rfl⟩
abbrev main_v405 : Ref sig .tc := ⟨.hbm, 528, rfl⟩
abbrev main_v406 : Ref sig .tc := ⟨.hbm, 529, rfl⟩
abbrev main_v407 : Ref sig .tc := ⟨.hbm, 530, rfl⟩
abbrev main_v408 : Ref sig .tc := ⟨.hbm, 531, rfl⟩
abbrev main_c_100 : Ref sig .tc := ⟨.hbm, 532, rfl⟩
abbrev main_v409 : Ref sig .tc := ⟨.hbm, 533, rfl⟩
abbrev main_v410 : Ref sig .tc := ⟨.hbm, 534, rfl⟩
abbrev main_c_101 : Ref sig .tc := ⟨.hbm, 535, rfl⟩
abbrev main_v411 : Ref sig .tc := ⟨.hbm, 536, rfl⟩
abbrev main_v412 : Ref sig .tc := ⟨.hbm, 537, rfl⟩
abbrev main_c_102 : Ref sig .tc := ⟨.hbm, 538, rfl⟩
abbrev main_v413 : Ref sig .tc := ⟨.hbm, 539, rfl⟩
abbrev main_v414 : Ref sig .tc := ⟨.hbm, 540, rfl⟩
abbrev main_c_103 : Ref sig .tc := ⟨.hbm, 541, rfl⟩
abbrev main_v415 : Ref sig .tc := ⟨.hbm, 542, rfl⟩
abbrev main_v416 : Ref sig .tc := ⟨.hbm, 543, rfl⟩
abbrev main_v417 : Ref sig .tc := ⟨.hbm, 544, rfl⟩
abbrev main_v418 : Ref sig .tc := ⟨.hbm, 545, rfl⟩
abbrev main_v419 : Ref sig .tc := ⟨.hbm, 546, rfl⟩
abbrev main_c_104 : Ref sig .tc := ⟨.hbm, 547, rfl⟩
abbrev main_v420 : Ref sig .tc := ⟨.hbm, 548, rfl⟩
abbrev main_v421 : Ref sig .tc := ⟨.hbm, 549, rfl⟩
abbrev main_c_105 : Ref sig .tc := ⟨.hbm, 550, rfl⟩
abbrev main_v422 : Ref sig .tc := ⟨.hbm, 551, rfl⟩
abbrev main_v423 : Ref sig .tc := ⟨.hbm, 552, rfl⟩
abbrev main_c_106 : Ref sig .tc := ⟨.hbm, 553, rfl⟩
abbrev main_v424 : Ref sig .tc := ⟨.hbm, 554, rfl⟩
abbrev main_v425 : Ref sig .tc := ⟨.hbm, 555, rfl⟩
abbrev main_c_107 : Ref sig .tc := ⟨.hbm, 556, rfl⟩
abbrev main_v426 : Ref sig .tc := ⟨.hbm, 557, rfl⟩
abbrev main_v427 : Ref sig .tc := ⟨.hbm, 558, rfl⟩
abbrev main_c_108 : Ref sig .tc := ⟨.hbm, 559, rfl⟩
abbrev main_v428 : Ref sig .tc := ⟨.hbm, 560, rfl⟩
abbrev main_v429 : Ref sig .tc := ⟨.hbm, 561, rfl⟩
abbrev main_v430 : Ref sig .tc := ⟨.hbm, 562, rfl⟩
abbrev main_v431 : Ref sig .tc := ⟨.hbm, 563, rfl⟩
abbrev main_v432 : Ref sig .tc := ⟨.hbm, 564, rfl⟩
abbrev main_v433 : Ref sig .tc := ⟨.hbm, 565, rfl⟩
abbrev main_v434 : Ref sig .tc := ⟨.hbm, 566, rfl⟩
abbrev main_v435 : Ref sig .tc := ⟨.hbm, 567, rfl⟩
abbrev main_v436 : Ref sig .tc := ⟨.hbm, 568, rfl⟩
abbrev main_cst_109 : Ref sig .tc := ⟨.hbm, 569, rfl⟩
abbrev main_v437 : Ref sig .tc := ⟨.hbm, 570, rfl⟩
abbrev main_v438 : Ref sig .tc := ⟨.hbm, 571, rfl⟩
abbrev main_v439 : Ref sig .tc := ⟨.hbm, 572, rfl⟩
abbrev main_v440 : Ref sig .tc := ⟨.hbm, 573, rfl⟩
abbrev main_v441 : Ref sig .tc := ⟨.hbm, 574, rfl⟩
abbrev main_v442 : Ref sig .tc := ⟨.hbm, 575, rfl⟩
abbrev main_v443 : Ref sig .tc := ⟨.hbm, 576, rfl⟩
abbrev main_c_110 : Ref sig .tc := ⟨.hbm, 577, rfl⟩
abbrev main_v444 : Ref sig .tc := ⟨.hbm, 578, rfl⟩
abbrev main_v445 : Ref sig .tc := ⟨.hbm, 579, rfl⟩
abbrev main_c_111 : Ref sig .tc := ⟨.hbm, 580, rfl⟩
abbrev main_v446 : Ref sig .tc := ⟨.hbm, 581, rfl⟩
abbrev main_v447 : Ref sig .tc := ⟨.hbm, 582, rfl⟩
abbrev main_c_112 : Ref sig .tc := ⟨.hbm, 583, rfl⟩
abbrev main_v448 : Ref sig .tc := ⟨.hbm, 584, rfl⟩
abbrev main_v449 : Ref sig .tc := ⟨.hbm, 585, rfl⟩
abbrev main_c_113 : Ref sig .tc := ⟨.hbm, 586, rfl⟩
abbrev main_v450 : Ref sig .tc := ⟨.hbm, 587, rfl⟩
abbrev main_v451 : Ref sig .tc := ⟨.hbm, 588, rfl⟩
abbrev main_v452 : Ref sig .tc := ⟨.hbm, 589, rfl⟩
abbrev main_v453 : Ref sig .tc := ⟨.hbm, 590, rfl⟩
abbrev main_v454 : Ref sig .tc := ⟨.hbm, 591, rfl⟩
abbrev main_c_114 : Ref sig .tc := ⟨.hbm, 592, rfl⟩
abbrev main_v455 : Ref sig .tc := ⟨.hbm, 593, rfl⟩
abbrev main_v456 : Ref sig .tc := ⟨.hbm, 594, rfl⟩
abbrev main_c_115 : Ref sig .tc := ⟨.hbm, 595, rfl⟩
abbrev main_v457 : Ref sig .tc := ⟨.hbm, 596, rfl⟩
abbrev main_v458 : Ref sig .tc := ⟨.hbm, 597, rfl⟩
abbrev main_c_116 : Ref sig .tc := ⟨.hbm, 598, rfl⟩
abbrev main_v459 : Ref sig .tc := ⟨.hbm, 599, rfl⟩
abbrev main_v460 : Ref sig .tc := ⟨.hbm, 600, rfl⟩
abbrev main_c_117 : Ref sig .tc := ⟨.hbm, 601, rfl⟩
abbrev main_v461 : Ref sig .tc := ⟨.hbm, 602, rfl⟩
abbrev main_v462 : Ref sig .tc := ⟨.hbm, 603, rfl⟩
abbrev main_c_118 : Ref sig .tc := ⟨.hbm, 604, rfl⟩
abbrev main_v463 : Ref sig .tc := ⟨.hbm, 605, rfl⟩
abbrev main_v464 : Ref sig .tc := ⟨.hbm, 606, rfl⟩
abbrev main_v465 : Ref sig .tc := ⟨.hbm, 607, rfl⟩
abbrev main_v466 : Ref sig .tc := ⟨.hbm, 608, rfl⟩
abbrev main_v467 : Ref sig .tc := ⟨.hbm, 609, rfl⟩
abbrev main_v468 : Ref sig .tc := ⟨.hbm, 610, rfl⟩
abbrev main_v469 : Ref sig .tc := ⟨.hbm, 611, rfl⟩
abbrev main_v470 : Ref sig .tc := ⟨.hbm, 612, rfl⟩
abbrev main_v471 : Ref sig .tc := ⟨.hbm, 613, rfl⟩
abbrev main_cst_119 : Ref sig .tc := ⟨.hbm, 614, rfl⟩
abbrev main_v472 : Ref sig .tc := ⟨.hbm, 615, rfl⟩
abbrev main_v473 : Ref sig .tc := ⟨.hbm, 616, rfl⟩
abbrev main_v474 : Ref sig .tc := ⟨.hbm, 617, rfl⟩
abbrev main_v475 : Ref sig .tc := ⟨.hbm, 618, rfl⟩
abbrev main_v476 : Ref sig .tc := ⟨.hbm, 619, rfl⟩
abbrev main_v477 : Ref sig .tc := ⟨.hbm, 620, rfl⟩
abbrev main_v478 : Ref sig .tc := ⟨.hbm, 621, rfl⟩
abbrev main_c_120 : Ref sig .tc := ⟨.hbm, 622, rfl⟩
abbrev main_v479 : Ref sig .tc := ⟨.hbm, 623, rfl⟩
abbrev main_v480 : Ref sig .tc := ⟨.hbm, 624, rfl⟩
abbrev main_c_121 : Ref sig .tc := ⟨.hbm, 625, rfl⟩
abbrev main_v481 : Ref sig .tc := ⟨.hbm, 626, rfl⟩
abbrev main_v482 : Ref sig .tc := ⟨.hbm, 627, rfl⟩
abbrev main_c_122 : Ref sig .tc := ⟨.hbm, 628, rfl⟩
abbrev main_v483 : Ref sig .tc := ⟨.hbm, 629, rfl⟩
abbrev main_v484 : Ref sig .tc := ⟨.hbm, 630, rfl⟩
abbrev main_c_123 : Ref sig .tc := ⟨.hbm, 631, rfl⟩
abbrev main_v485 : Ref sig .tc := ⟨.hbm, 632, rfl⟩
abbrev main_v486 : Ref sig .tc := ⟨.hbm, 633, rfl⟩
abbrev main_v487 : Ref sig .tc := ⟨.hbm, 634, rfl⟩
abbrev main_v488 : Ref sig .tc := ⟨.hbm, 635, rfl⟩
abbrev main_v489 : Ref sig .tc := ⟨.hbm, 636, rfl⟩
abbrev main_c_124 : Ref sig .tc := ⟨.hbm, 637, rfl⟩
abbrev main_v490 : Ref sig .tc := ⟨.hbm, 638, rfl⟩
abbrev main_v491 : Ref sig .tc := ⟨.hbm, 639, rfl⟩
abbrev main_c_125 : Ref sig .tc := ⟨.hbm, 640, rfl⟩
abbrev main_v492 : Ref sig .tc := ⟨.hbm, 641, rfl⟩
abbrev main_v493 : Ref sig .tc := ⟨.hbm, 642, rfl⟩
abbrev main_c_126 : Ref sig .tc := ⟨.hbm, 643, rfl⟩
abbrev main_v494 : Ref sig .tc := ⟨.hbm, 644, rfl⟩
abbrev main_v495 : Ref sig .tc := ⟨.hbm, 645, rfl⟩
abbrev main_c_127 : Ref sig .tc := ⟨.hbm, 646, rfl⟩
abbrev main_v496 : Ref sig .tc := ⟨.hbm, 647, rfl⟩
abbrev main_v497 : Ref sig .tc := ⟨.hbm, 648, rfl⟩
abbrev main_c_128 : Ref sig .tc := ⟨.hbm, 649, rfl⟩
abbrev main_v498 : Ref sig .tc := ⟨.hbm, 650, rfl⟩
abbrev main_v499 : Ref sig .tc := ⟨.hbm, 651, rfl⟩
abbrev main_v500 : Ref sig .tc := ⟨.hbm, 652, rfl⟩
abbrev main_v501 : Ref sig .tc := ⟨.hbm, 653, rfl⟩
abbrev main_v502 : Ref sig .tc := ⟨.hbm, 654, rfl⟩
abbrev main_v503 : Ref sig .tc := ⟨.hbm, 655, rfl⟩
abbrev main_v504 : Ref sig .tc := ⟨.hbm, 656, rfl⟩
abbrev main_v505 : Ref sig .tc := ⟨.hbm, 657, rfl⟩
abbrev main_v506 : Ref sig .tc := ⟨.hbm, 658, rfl⟩
abbrev main_cst_129 : Ref sig .tc := ⟨.hbm, 659, rfl⟩
abbrev main_v507 : Ref sig .tc := ⟨.hbm, 660, rfl⟩
abbrev main_v508 : Ref sig .tc := ⟨.hbm, 661, rfl⟩
abbrev main_v509 : Ref sig .tc := ⟨.hbm, 662, rfl⟩
abbrev main_v510 : Ref sig .tc := ⟨.hbm, 663, rfl⟩
abbrev main_v511 : Ref sig .tc := ⟨.hbm, 664, rfl⟩
abbrev main_v512 : Ref sig .tc := ⟨.hbm, 665, rfl⟩
abbrev main_v513 : Ref sig .tc := ⟨.hbm, 666, rfl⟩
abbrev main_v514 : Ref sig .tc := ⟨.hbm, 667, rfl⟩
abbrev main_v515 : Ref sig .tc := ⟨.hbm, 668, rfl⟩
abbrev main_v516 : Ref sig .tc := ⟨.hbm, 669, rfl⟩
abbrev main_v517 : Ref sig .tc := ⟨.hbm, 670, rfl⟩
abbrev main_v518 : Ref sig .tc := ⟨.hbm, 671, rfl⟩
abbrev main_v519 : Ref sig .tc := ⟨.hbm, 672, rfl⟩
abbrev main_call4_v0 : Ref sig .tc := ⟨.hbm, 673, rfl⟩
abbrev main_call4_v1 : Ref sig .tc := ⟨.hbm, 674, rfl⟩
abbrev main_call4_v2 : Ref sig .tc := ⟨.hbm, 675, rfl⟩
abbrev main_v520 : Ref sig .tc := ⟨.hbm, 676, rfl⟩
abbrev main_v521 : Ref sig .tc := ⟨.hbm, 677, rfl⟩
abbrev main_v522 : Ref sig .tc := ⟨.hbm, 678, rfl⟩
abbrev main_v523 : Ref sig .tc := ⟨.hbm, 679, rfl⟩
abbrev main_v524 : Ref sig .tc := ⟨.hbm, 680, rfl⟩
abbrev main_v525 : Ref sig .tc := ⟨.hbm, 681, rfl⟩
abbrev main_v526 : Ref sig .tc := ⟨.hbm, 682, rfl⟩
abbrev main_c_130 : Ref sig .tc := ⟨.hbm, 683, rfl⟩
abbrev main_v527 : Ref sig .tc := ⟨.hbm, 684, rfl⟩
abbrev main_c_131 : Ref sig .tc := ⟨.hbm, 685, rfl⟩
abbrev main_v528 : Ref sig .tc := ⟨.hbm, 686, rfl⟩
abbrev main_v529 : Ref sig .tc := ⟨.hbm, 687, rfl⟩
abbrev main_c_132 : Ref sig .tc := ⟨.hbm, 688, rfl⟩
abbrev main_c_133 : Ref sig .tc := ⟨.hbm, 689, rfl⟩
abbrev main_call5_v0 : Ref sig .tc := ⟨.hbm, 690, rfl⟩
abbrev main_call5_v1 : Ref sig .tc := ⟨.hbm, 691, rfl⟩
abbrev main_call5_v2 : Ref sig .tc := ⟨.hbm, 692, rfl⟩
abbrev main_call5_v3 : Ref sig .tc := ⟨.hbm, 693, rfl⟩
abbrev main_call5_v4 : Ref sig .tc := ⟨.hbm, 694, rfl⟩
abbrev main_v530 : Ref sig .tc := ⟨.hbm, 695, rfl⟩
abbrev main_v531 : Ref sig .tc := ⟨.hbm, 696, rfl⟩
abbrev main_v532 : Ref sig .tc := ⟨.hbm, 697, rfl⟩
abbrev main_c_134 : Ref sig .tc := ⟨.hbm, 698, rfl⟩
abbrev main_v533 : Ref sig .tc := ⟨.hbm, 699, rfl⟩
abbrev main_v534 : Ref sig .tc := ⟨.hbm, 700, rfl⟩
abbrev main_v535 : Ref sig .tc := ⟨.hbm, 701, rfl⟩
abbrev main_v536 : Ref sig .tc := ⟨.hbm, 702, rfl⟩
abbrev main_v537 : Ref sig .tc := ⟨.hbm, 703, rfl⟩
abbrev main_v538 : Ref sig .tc := ⟨.hbm, 704, rfl⟩
abbrev main_v539 : Ref sig .tc := ⟨.hbm, 705, rfl⟩
abbrev main_v540 : Ref sig .tc := ⟨.hbm, 706, rfl⟩
abbrev main_c_135 : Ref sig .tc := ⟨.hbm, 707, rfl⟩
abbrev main_v541 : Ref sig .tc := ⟨.hbm, 708, rfl⟩
abbrev main_v542 : Ref sig .tc := ⟨.hbm, 709, rfl⟩
abbrev main_v543 : Ref sig .tc := ⟨.hbm, 710, rfl⟩
abbrev main_v544 : Ref sig .tc := ⟨.hbm, 711, rfl⟩
abbrev main_v545 : Ref sig .tc := ⟨.hbm, 712, rfl⟩
abbrev main_v546 : Ref sig .tc := ⟨.hbm, 713, rfl⟩
abbrev main_v547 : Ref sig .tc := ⟨.hbm, 714, rfl⟩
abbrev main_v548 : Ref sig .tc := ⟨.hbm, 715, rfl⟩
abbrev main_v549 : Ref sig .tc := ⟨.hbm, 716, rfl⟩
abbrev main_v550 : Ref sig .tc := ⟨.hbm, 717, rfl⟩
abbrev main_v551 : Ref sig .tc := ⟨.hbm, 718, rfl⟩
abbrev main_v552 : Ref sig .tc := ⟨.hbm, 719, rfl⟩
abbrev main_v553 : Ref sig .tc := ⟨.hbm, 720, rfl⟩
abbrev main_v554 : Ref sig .tc := ⟨.hbm, 721, rfl⟩
abbrev main_v555 : Ref sig .tc := ⟨.hbm, 722, rfl⟩
abbrev main_v556 : Ref sig .tc := ⟨.hbm, 723, rfl⟩
abbrev main_v557 : Ref sig .tc := ⟨.hbm, 724, rfl⟩
abbrev main_v558 : Ref sig .tc := ⟨.hbm, 725, rfl⟩
abbrev main_v559 : Ref sig .tc := ⟨.hbm, 726, rfl⟩
abbrev main_v560 : Ref sig .tc := ⟨.hbm, 727, rfl⟩
abbrev main_c_136 : Ref sig .tc := ⟨.hbm, 728, rfl⟩
abbrev main_v561 : Ref sig .tc := ⟨.hbm, 729, rfl⟩
abbrev main_v562 : Ref sig .tc := ⟨.hbm, 730, rfl⟩
abbrev main_c_137 : Ref sig .tc := ⟨.hbm, 731, rfl⟩
abbrev main_v563 : Ref sig .tc := ⟨.hbm, 732, rfl⟩
abbrev main_v564 : Ref sig .tc := ⟨.hbm, 733, rfl⟩
abbrev main_c_138 : Ref sig .tc := ⟨.hbm, 734, rfl⟩
abbrev main_v565 : Ref sig .tc := ⟨.hbm, 735, rfl⟩
abbrev main_v566 : Ref sig .tc := ⟨.hbm, 736, rfl⟩
abbrev main_c_139 : Ref sig .tc := ⟨.hbm, 737, rfl⟩
abbrev main_v567 : Ref sig .tc := ⟨.hbm, 738, rfl⟩
abbrev main_v568 : Ref sig .tc := ⟨.hbm, 739, rfl⟩
abbrev main_v569 : Ref sig .tc := ⟨.hbm, 740, rfl⟩
abbrev main_v570 : Ref sig .tc := ⟨.hbm, 741, rfl⟩
abbrev main_v571 : Ref sig .tc := ⟨.hbm, 742, rfl⟩
abbrev main_c_140 : Ref sig .tc := ⟨.hbm, 743, rfl⟩
abbrev main_v572 : Ref sig .tc := ⟨.hbm, 744, rfl⟩
abbrev main_v573 : Ref sig .tc := ⟨.hbm, 745, rfl⟩
abbrev main_c_141 : Ref sig .tc := ⟨.hbm, 746, rfl⟩
abbrev main_v574 : Ref sig .tc := ⟨.hbm, 747, rfl⟩
abbrev main_v575 : Ref sig .tc := ⟨.hbm, 748, rfl⟩
abbrev main_c_142 : Ref sig .tc := ⟨.hbm, 749, rfl⟩
abbrev main_v576 : Ref sig .tc := ⟨.hbm, 750, rfl⟩
abbrev main_v577 : Ref sig .tc := ⟨.hbm, 751, rfl⟩
abbrev main_c_143 : Ref sig .tc := ⟨.hbm, 752, rfl⟩
abbrev main_v578 : Ref sig .tc := ⟨.hbm, 753, rfl⟩
abbrev main_v579 : Ref sig .tc := ⟨.hbm, 754, rfl⟩
abbrev main_c_144 : Ref sig .tc := ⟨.hbm, 755, rfl⟩
abbrev main_v580 : Ref sig .tc := ⟨.hbm, 756, rfl⟩
abbrev main_v581 : Ref sig .tc := ⟨.hbm, 757, rfl⟩
abbrev main_v582 : Ref sig .tc := ⟨.hbm, 758, rfl⟩
abbrev main_v583 : Ref sig .tc := ⟨.hbm, 759, rfl⟩
abbrev main_v584 : Ref sig .tc := ⟨.hbm, 760, rfl⟩
abbrev main_v585 : Ref sig .tc := ⟨.hbm, 761, rfl⟩
abbrev main_v586 : Ref sig .tc := ⟨.hbm, 762, rfl⟩
abbrev main_v587 : Ref sig .tc := ⟨.hbm, 763, rfl⟩
abbrev main_v588 : Ref sig .tc := ⟨.hbm, 764, rfl⟩
abbrev main_cst_145 : Ref sig .tc := ⟨.hbm, 765, rfl⟩
abbrev main_v589 : Ref sig .tc := ⟨.hbm, 766, rfl⟩
abbrev main_v590 : Ref sig .tc := ⟨.hbm, 767, rfl⟩
abbrev main_v591 : Ref sig .tc := ⟨.hbm, 768, rfl⟩
abbrev main_v592 : Ref sig .tc := ⟨.hbm, 769, rfl⟩
abbrev main_v593 : Ref sig .tc := ⟨.hbm, 770, rfl⟩
abbrev main_v594 : Ref sig .tc := ⟨.hbm, 771, rfl⟩
abbrev main_v595 : Ref sig .tc := ⟨.hbm, 772, rfl⟩
abbrev main_c_146 : Ref sig .tc := ⟨.hbm, 773, rfl⟩
abbrev main_v596 : Ref sig .tc := ⟨.hbm, 774, rfl⟩
abbrev main_v597 : Ref sig .tc := ⟨.hbm, 775, rfl⟩
abbrev main_c_147 : Ref sig .tc := ⟨.hbm, 776, rfl⟩
abbrev main_v598 : Ref sig .tc := ⟨.hbm, 777, rfl⟩
abbrev main_v599 : Ref sig .tc := ⟨.hbm, 778, rfl⟩
abbrev main_c_148 : Ref sig .tc := ⟨.hbm, 779, rfl⟩
abbrev main_v600 : Ref sig .tc := ⟨.hbm, 780, rfl⟩
abbrev main_v601 : Ref sig .tc := ⟨.hbm, 781, rfl⟩
abbrev main_c_149 : Ref sig .tc := ⟨.hbm, 782, rfl⟩
abbrev main_v602 : Ref sig .tc := ⟨.hbm, 783, rfl⟩
abbrev main_v603 : Ref sig .tc := ⟨.hbm, 784, rfl⟩
abbrev main_v604 : Ref sig .tc := ⟨.hbm, 785, rfl⟩
abbrev main_v605 : Ref sig .tc := ⟨.hbm, 786, rfl⟩
abbrev main_v606 : Ref sig .tc := ⟨.hbm, 787, rfl⟩
abbrev main_c_150 : Ref sig .tc := ⟨.hbm, 788, rfl⟩
abbrev main_v607 : Ref sig .tc := ⟨.hbm, 789, rfl⟩
abbrev main_v608 : Ref sig .tc := ⟨.hbm, 790, rfl⟩
abbrev main_c_151 : Ref sig .tc := ⟨.hbm, 791, rfl⟩
abbrev main_v609 : Ref sig .tc := ⟨.hbm, 792, rfl⟩
abbrev main_v610 : Ref sig .tc := ⟨.hbm, 793, rfl⟩
abbrev main_c_152 : Ref sig .tc := ⟨.hbm, 794, rfl⟩
abbrev main_v611 : Ref sig .tc := ⟨.hbm, 795, rfl⟩
abbrev main_v612 : Ref sig .tc := ⟨.hbm, 796, rfl⟩
abbrev main_c_153 : Ref sig .tc := ⟨.hbm, 797, rfl⟩
abbrev main_v613 : Ref sig .tc := ⟨.hbm, 798, rfl⟩
abbrev main_v614 : Ref sig .tc := ⟨.hbm, 799, rfl⟩
abbrev main_c_154 : Ref sig .tc := ⟨.hbm, 800, rfl⟩
abbrev main_v615 : Ref sig .tc := ⟨.hbm, 801, rfl⟩
abbrev main_v616 : Ref sig .tc := ⟨.hbm, 802, rfl⟩
abbrev main_v617 : Ref sig .tc := ⟨.hbm, 803, rfl⟩
abbrev main_v618 : Ref sig .tc := ⟨.hbm, 804, rfl⟩
abbrev main_v619 : Ref sig .tc := ⟨.hbm, 805, rfl⟩
abbrev main_v620 : Ref sig .tc := ⟨.hbm, 806, rfl⟩
abbrev main_v621 : Ref sig .tc := ⟨.hbm, 807, rfl⟩
abbrev main_v622 : Ref sig .tc := ⟨.hbm, 808, rfl⟩
abbrev main_v623 : Ref sig .tc := ⟨.hbm, 809, rfl⟩
abbrev main_cst_155 : Ref sig .tc := ⟨.hbm, 810, rfl⟩
abbrev main_v624 : Ref sig .tc := ⟨.hbm, 811, rfl⟩
abbrev main_v625 : Ref sig .tc := ⟨.hbm, 812, rfl⟩
abbrev main_v626 : Ref sig .tc := ⟨.hbm, 813, rfl⟩
abbrev main_v627 : Ref sig .tc := ⟨.hbm, 814, rfl⟩
abbrev main_v628 : Ref sig .tc := ⟨.hbm, 815, rfl⟩
abbrev main_v629 : Ref sig .tc := ⟨.hbm, 816, rfl⟩
abbrev main_v630 : Ref sig .tc := ⟨.hbm, 817, rfl⟩
abbrev main_c_156 : Ref sig .tc := ⟨.hbm, 818, rfl⟩
abbrev main_v631 : Ref sig .tc := ⟨.hbm, 819, rfl⟩
abbrev main_v632 : Ref sig .tc := ⟨.hbm, 820, rfl⟩
abbrev main_c_157 : Ref sig .tc := ⟨.hbm, 821, rfl⟩
abbrev main_v633 : Ref sig .tc := ⟨.hbm, 822, rfl⟩
abbrev main_v634 : Ref sig .tc := ⟨.hbm, 823, rfl⟩
abbrev main_c_158 : Ref sig .tc := ⟨.hbm, 824, rfl⟩
abbrev main_v635 : Ref sig .tc := ⟨.hbm, 825, rfl⟩
abbrev main_v636 : Ref sig .tc := ⟨.hbm, 826, rfl⟩
abbrev main_c_159 : Ref sig .tc := ⟨.hbm, 827, rfl⟩
abbrev main_v637 : Ref sig .tc := ⟨.hbm, 828, rfl⟩
abbrev main_v638 : Ref sig .tc := ⟨.hbm, 829, rfl⟩
abbrev main_v639 : Ref sig .tc := ⟨.hbm, 830, rfl⟩
abbrev main_v640 : Ref sig .tc := ⟨.hbm, 831, rfl⟩
abbrev main_v641 : Ref sig .tc := ⟨.hbm, 832, rfl⟩
abbrev main_c_160 : Ref sig .tc := ⟨.hbm, 833, rfl⟩
abbrev main_v642 : Ref sig .tc := ⟨.hbm, 834, rfl⟩
abbrev main_v643 : Ref sig .tc := ⟨.hbm, 835, rfl⟩
abbrev main_c_161 : Ref sig .tc := ⟨.hbm, 836, rfl⟩
abbrev main_v644 : Ref sig .tc := ⟨.hbm, 837, rfl⟩
abbrev main_v645 : Ref sig .tc := ⟨.hbm, 838, rfl⟩
abbrev main_c_162 : Ref sig .tc := ⟨.hbm, 839, rfl⟩
abbrev main_v646 : Ref sig .tc := ⟨.hbm, 840, rfl⟩
abbrev main_v647 : Ref sig .tc := ⟨.hbm, 841, rfl⟩
abbrev main_c_163 : Ref sig .tc := ⟨.hbm, 842, rfl⟩
abbrev main_v648 : Ref sig .tc := ⟨.hbm, 843, rfl⟩
abbrev main_v649 : Ref sig .tc := ⟨.hbm, 844, rfl⟩
abbrev main_c_164 : Ref sig .tc := ⟨.hbm, 845, rfl⟩
abbrev main_v650 : Ref sig .tc := ⟨.hbm, 846, rfl⟩
abbrev main_v651 : Ref sig .tc := ⟨.hbm, 847, rfl⟩
abbrev main_v652 : Ref sig .tc := ⟨.hbm, 848, rfl⟩
abbrev main_v653 : Ref sig .tc := ⟨.hbm, 849, rfl⟩
abbrev main_v654 : Ref sig .tc := ⟨.hbm, 850, rfl⟩
abbrev main_v655 : Ref sig .tc := ⟨.hbm, 851, rfl⟩
abbrev main_v656 : Ref sig .tc := ⟨.hbm, 852, rfl⟩
abbrev main_v657 : Ref sig .tc := ⟨.hbm, 853, rfl⟩
abbrev main_v658 : Ref sig .tc := ⟨.hbm, 854, rfl⟩
abbrev main_cst_165 : Ref sig .tc := ⟨.hbm, 855, rfl⟩
abbrev main_v659 : Ref sig .tc := ⟨.hbm, 856, rfl⟩
abbrev main_v660 : Ref sig .tc := ⟨.hbm, 857, rfl⟩
abbrev main_v661 : Ref sig .tc := ⟨.hbm, 858, rfl⟩
abbrev main_v662 : Ref sig .tc := ⟨.hbm, 859, rfl⟩
abbrev main_v663 : Ref sig .tc := ⟨.hbm, 860, rfl⟩
abbrev main_v664 : Ref sig .tc := ⟨.hbm, 861, rfl⟩
abbrev main_v665 : Ref sig .tc := ⟨.hbm, 862, rfl⟩
abbrev main_c_166 : Ref sig .tc := ⟨.hbm, 863, rfl⟩
abbrev main_v666 : Ref sig .tc := ⟨.hbm, 864, rfl⟩
abbrev main_v667 : Ref sig .tc := ⟨.hbm, 865, rfl⟩
abbrev main_c_167 : Ref sig .tc := ⟨.hbm, 866, rfl⟩
abbrev main_v668 : Ref sig .tc := ⟨.hbm, 867, rfl⟩
abbrev main_v669 : Ref sig .tc := ⟨.hbm, 868, rfl⟩
abbrev main_c_168 : Ref sig .tc := ⟨.hbm, 869, rfl⟩
abbrev main_v670 : Ref sig .tc := ⟨.hbm, 870, rfl⟩
abbrev main_v671 : Ref sig .tc := ⟨.hbm, 871, rfl⟩
abbrev main_c_169 : Ref sig .tc := ⟨.hbm, 872, rfl⟩
abbrev main_v672 : Ref sig .tc := ⟨.hbm, 873, rfl⟩
abbrev main_v673 : Ref sig .tc := ⟨.hbm, 874, rfl⟩
abbrev main_v674 : Ref sig .tc := ⟨.hbm, 875, rfl⟩
abbrev main_v675 : Ref sig .tc := ⟨.hbm, 876, rfl⟩
abbrev main_v676 : Ref sig .tc := ⟨.hbm, 877, rfl⟩
abbrev main_c_170 : Ref sig .tc := ⟨.hbm, 878, rfl⟩
abbrev main_v677 : Ref sig .tc := ⟨.hbm, 879, rfl⟩
abbrev main_v678 : Ref sig .tc := ⟨.hbm, 880, rfl⟩
abbrev main_c_171 : Ref sig .tc := ⟨.hbm, 881, rfl⟩
abbrev main_v679 : Ref sig .tc := ⟨.hbm, 882, rfl⟩
abbrev main_v680 : Ref sig .tc := ⟨.hbm, 883, rfl⟩
abbrev main_c_172 : Ref sig .tc := ⟨.hbm, 884, rfl⟩
abbrev main_v681 : Ref sig .tc := ⟨.hbm, 885, rfl⟩
abbrev main_v682 : Ref sig .tc := ⟨.hbm, 886, rfl⟩
abbrev main_c_173 : Ref sig .tc := ⟨.hbm, 887, rfl⟩
abbrev main_v683 : Ref sig .tc := ⟨.hbm, 888, rfl⟩
abbrev main_v684 : Ref sig .tc := ⟨.hbm, 889, rfl⟩
abbrev main_c_174 : Ref sig .tc := ⟨.hbm, 890, rfl⟩
abbrev main_v685 : Ref sig .tc := ⟨.hbm, 891, rfl⟩
abbrev main_v686 : Ref sig .tc := ⟨.hbm, 892, rfl⟩
abbrev main_v687 : Ref sig .tc := ⟨.hbm, 893, rfl⟩
abbrev main_v688 : Ref sig .tc := ⟨.hbm, 894, rfl⟩
abbrev main_v689 : Ref sig .tc := ⟨.hbm, 895, rfl⟩
abbrev main_v690 : Ref sig .tc := ⟨.hbm, 896, rfl⟩
abbrev main_v691 : Ref sig .tc := ⟨.hbm, 897, rfl⟩
abbrev main_v692 : Ref sig .tc := ⟨.hbm, 898, rfl⟩
abbrev main_v693 : Ref sig .tc := ⟨.hbm, 899, rfl⟩
abbrev main_cst_175 : Ref sig .tc := ⟨.hbm, 900, rfl⟩
abbrev main_v694 : Ref sig .tc := ⟨.hbm, 901, rfl⟩
abbrev main_v695 : Ref sig .tc := ⟨.hbm, 902, rfl⟩
abbrev main_v696 : Ref sig .tc := ⟨.hbm, 903, rfl⟩
abbrev main_v697 : Ref sig .tc := ⟨.hbm, 904, rfl⟩
abbrev main_v698 : Ref sig .tc := ⟨.hbm, 905, rfl⟩
abbrev main_v699 : Ref sig .tc := ⟨.hbm, 906, rfl⟩
abbrev main_v700 : Ref sig .tc := ⟨.hbm, 907, rfl⟩
abbrev main_c_176 : Ref sig .tc := ⟨.hbm, 908, rfl⟩
abbrev main_v701 : Ref sig .tc := ⟨.hbm, 909, rfl⟩
abbrev main_v702 : Ref sig .tc := ⟨.hbm, 910, rfl⟩
abbrev main_c_177 : Ref sig .tc := ⟨.hbm, 911, rfl⟩
abbrev main_v703 : Ref sig .tc := ⟨.hbm, 912, rfl⟩
abbrev main_v704 : Ref sig .tc := ⟨.hbm, 913, rfl⟩
abbrev main_c_178 : Ref sig .tc := ⟨.hbm, 914, rfl⟩
abbrev main_v705 : Ref sig .tc := ⟨.hbm, 915, rfl⟩
abbrev main_v706 : Ref sig .tc := ⟨.hbm, 916, rfl⟩
abbrev main_c_179 : Ref sig .tc := ⟨.hbm, 917, rfl⟩
abbrev main_v707 : Ref sig .tc := ⟨.hbm, 918, rfl⟩
abbrev main_v708 : Ref sig .tc := ⟨.hbm, 919, rfl⟩
abbrev main_v709 : Ref sig .tc := ⟨.hbm, 920, rfl⟩
abbrev main_v710 : Ref sig .tc := ⟨.hbm, 921, rfl⟩
abbrev main_v711 : Ref sig .tc := ⟨.hbm, 922, rfl⟩
abbrev main_c_180 : Ref sig .tc := ⟨.hbm, 923, rfl⟩
abbrev main_v712 : Ref sig .tc := ⟨.hbm, 924, rfl⟩
abbrev main_v713 : Ref sig .tc := ⟨.hbm, 925, rfl⟩
abbrev main_c_181 : Ref sig .tc := ⟨.hbm, 926, rfl⟩
abbrev main_v714 : Ref sig .tc := ⟨.hbm, 927, rfl⟩
abbrev main_v715 : Ref sig .tc := ⟨.hbm, 928, rfl⟩
abbrev main_c_182 : Ref sig .tc := ⟨.hbm, 929, rfl⟩
abbrev main_v716 : Ref sig .tc := ⟨.hbm, 930, rfl⟩
abbrev main_v717 : Ref sig .tc := ⟨.hbm, 931, rfl⟩
abbrev main_c_183 : Ref sig .tc := ⟨.hbm, 932, rfl⟩
abbrev main_v718 : Ref sig .tc := ⟨.hbm, 933, rfl⟩
abbrev main_v719 : Ref sig .tc := ⟨.hbm, 934, rfl⟩
abbrev main_c_184 : Ref sig .tc := ⟨.hbm, 935, rfl⟩
abbrev main_v720 : Ref sig .tc := ⟨.hbm, 936, rfl⟩
abbrev main_v721 : Ref sig .tc := ⟨.hbm, 937, rfl⟩
abbrev main_v722 : Ref sig .tc := ⟨.hbm, 938, rfl⟩
abbrev main_v723 : Ref sig .tc := ⟨.hbm, 939, rfl⟩
abbrev main_v724 : Ref sig .tc := ⟨.hbm, 940, rfl⟩
abbrev main_v725 : Ref sig .tc := ⟨.hbm, 941, rfl⟩
abbrev main_v726 : Ref sig .tc := ⟨.hbm, 942, rfl⟩
abbrev main_v727 : Ref sig .tc := ⟨.hbm, 943, rfl⟩
abbrev main_v728 : Ref sig .tc := ⟨.hbm, 944, rfl⟩
abbrev main_cst_185 : Ref sig .tc := ⟨.hbm, 945, rfl⟩
abbrev main_v729 : Ref sig .tc := ⟨.hbm, 946, rfl⟩
abbrev main_v730 : Ref sig .tc := ⟨.hbm, 947, rfl⟩
abbrev main_v731 : Ref sig .tc := ⟨.hbm, 948, rfl⟩
abbrev main_v732 : Ref sig .tc := ⟨.hbm, 949, rfl⟩
abbrev main_v733 : Ref sig .tc := ⟨.hbm, 950, rfl⟩
abbrev main_v734 : Ref sig .tc := ⟨.hbm, 951, rfl⟩
abbrev main_v735 : Ref sig .tc := ⟨.hbm, 952, rfl⟩
abbrev main_c_186 : Ref sig .tc := ⟨.hbm, 953, rfl⟩
abbrev main_v736 : Ref sig .tc := ⟨.hbm, 954, rfl⟩
abbrev main_v737 : Ref sig .tc := ⟨.hbm, 955, rfl⟩
abbrev main_c_187 : Ref sig .tc := ⟨.hbm, 956, rfl⟩
abbrev main_v738 : Ref sig .tc := ⟨.hbm, 957, rfl⟩
abbrev main_v739 : Ref sig .tc := ⟨.hbm, 958, rfl⟩
abbrev main_c_188 : Ref sig .tc := ⟨.hbm, 959, rfl⟩
abbrev main_v740 : Ref sig .tc := ⟨.hbm, 960, rfl⟩
abbrev main_v741 : Ref sig .tc := ⟨.hbm, 961, rfl⟩
abbrev main_c_189 : Ref sig .tc := ⟨.hbm, 962, rfl⟩
abbrev main_v742 : Ref sig .tc := ⟨.hbm, 963, rfl⟩
abbrev main_v743 : Ref sig .tc := ⟨.hbm, 964, rfl⟩
abbrev main_v744 : Ref sig .tc := ⟨.hbm, 965, rfl⟩
abbrev main_v745 : Ref sig .tc := ⟨.hbm, 966, rfl⟩
abbrev main_v746 : Ref sig .tc := ⟨.hbm, 967, rfl⟩
abbrev main_c_190 : Ref sig .tc := ⟨.hbm, 968, rfl⟩
abbrev main_v747 : Ref sig .tc := ⟨.hbm, 969, rfl⟩
abbrev main_v748 : Ref sig .tc := ⟨.hbm, 970, rfl⟩
abbrev main_c_191 : Ref sig .tc := ⟨.hbm, 971, rfl⟩
abbrev main_v749 : Ref sig .tc := ⟨.hbm, 972, rfl⟩
abbrev main_v750 : Ref sig .tc := ⟨.hbm, 973, rfl⟩
abbrev main_c_192 : Ref sig .tc := ⟨.hbm, 974, rfl⟩
abbrev main_v751 : Ref sig .tc := ⟨.hbm, 975, rfl⟩
abbrev main_v752 : Ref sig .tc := ⟨.hbm, 976, rfl⟩
abbrev main_c_193 : Ref sig .tc := ⟨.hbm, 977, rfl⟩
abbrev main_v753 : Ref sig .tc := ⟨.hbm, 978, rfl⟩
abbrev main_v754 : Ref sig .tc := ⟨.hbm, 979, rfl⟩
abbrev main_c_194 : Ref sig .tc := ⟨.hbm, 980, rfl⟩
abbrev main_v755 : Ref sig .tc := ⟨.hbm, 981, rfl⟩
abbrev main_v756 : Ref sig .tc := ⟨.hbm, 982, rfl⟩
abbrev main_v757 : Ref sig .tc := ⟨.hbm, 983, rfl⟩
abbrev main_v758 : Ref sig .tc := ⟨.hbm, 984, rfl⟩
abbrev main_v759 : Ref sig .tc := ⟨.hbm, 985, rfl⟩
abbrev main_v760 : Ref sig .tc := ⟨.hbm, 986, rfl⟩
abbrev main_v761 : Ref sig .tc := ⟨.hbm, 987, rfl⟩
abbrev main_v762 : Ref sig .tc := ⟨.hbm, 988, rfl⟩
abbrev main_v763 : Ref sig .tc := ⟨.hbm, 989, rfl⟩
abbrev main_cst_195 : Ref sig .tc := ⟨.hbm, 990, rfl⟩
abbrev main_v764 : Ref sig .tc := ⟨.hbm, 991, rfl⟩
abbrev main_v765 : Ref sig .tc := ⟨.hbm, 992, rfl⟩
abbrev main_v766 : Ref sig .tc := ⟨.hbm, 993, rfl⟩
abbrev main_v767 : Ref sig .tc := ⟨.hbm, 994, rfl⟩
abbrev main_v768 : Ref sig .tc := ⟨.hbm, 995, rfl⟩
abbrev main_v769 : Ref sig .tc := ⟨.hbm, 996, rfl⟩
abbrev main_v770 : Ref sig .tc := ⟨.hbm, 997, rfl⟩
abbrev main_v771 : Ref sig .tc := ⟨.hbm, 998, rfl⟩
abbrev main_v772 : Ref sig .tc := ⟨.hbm, 999, rfl⟩
abbrev main_v773 : Ref sig .tc := ⟨.hbm, 1000, rfl⟩
abbrev main_v774 : Ref sig .tc := ⟨.hbm, 1001, rfl⟩
abbrev main_v775 : Ref sig .tc := ⟨.hbm, 1002, rfl⟩
abbrev main_v776 : Ref sig .tc := ⟨.hbm, 1003, rfl⟩
abbrev main_v777 : Ref sig .tc := ⟨.hbm, 1004, rfl⟩
abbrev main_v778 : Ref sig .tc := ⟨.hbm, 1005, rfl⟩
abbrev main_v779 : Ref sig .tc := ⟨.hbm, 1006, rfl⟩
abbrev main_v780 : Ref sig .tc := ⟨.hbm, 1007, rfl⟩
abbrev main_v781 : Ref sig .tc := ⟨.hbm, 1008, rfl⟩
abbrev main_v782 : Ref sig .tc := ⟨.hbm, 1009, rfl⟩
abbrev main_c_196 : Ref sig .tc := ⟨.hbm, 1010, rfl⟩
abbrev main_v783 : Ref sig .tc := ⟨.hbm, 1011, rfl⟩
abbrev main_v784 : Ref sig .tc := ⟨.hbm, 1012, rfl⟩
abbrev main_v785 : Ref sig .tc := ⟨.hbm, 1013, rfl⟩
abbrev main_v786 : Ref sig .tc := ⟨.hbm, 1014, rfl⟩
abbrev main_v787 : Ref sig .tc := ⟨.hbm, 1015, rfl⟩
abbrev main_c_197 : Ref sig .tc := ⟨.hbm, 1016, rfl⟩
abbrev main_v788 : Ref sig .tc := ⟨.hbm, 1017, rfl⟩
abbrev main_v789 : Ref sig .tc := ⟨.hbm, 1018, rfl⟩
abbrev main_v790 : Ref sig .tc := ⟨.hbm, 1019, rfl⟩
abbrev main_v791 : Ref sig .tc := ⟨.hbm, 1020, rfl⟩
abbrev main_v792 : Ref sig .tc := ⟨.hbm, 1021, rfl⟩
abbrev main_c_198 : Ref sig .tc := ⟨.hbm, 1022, rfl⟩
abbrev main_v793 : Ref sig .tc := ⟨.hbm, 1023, rfl⟩
abbrev main_v794 : Ref sig .tc := ⟨.hbm, 1024, rfl⟩
abbrev main_c_199 : Ref sig .tc := ⟨.hbm, 1025, rfl⟩
abbrev main_v795 : Ref sig .tc := ⟨.hbm, 1026, rfl⟩
abbrev main_v796 : Ref sig .tc := ⟨.hbm, 1027, rfl⟩
abbrev main_v797 : Ref sig .tc := ⟨.hbm, 1028, rfl⟩
abbrev main_v798 : Ref sig .tc := ⟨.hbm, 1029, rfl⟩
abbrev main_v799 : Ref sig .tc := ⟨.hbm, 1030, rfl⟩
abbrev main_v800 : Ref sig .tc := ⟨.hbm, 1031, rfl⟩
abbrev main_v801 : Ref sig .tc := ⟨.hbm, 1032, rfl⟩
abbrev main_v802 : Ref sig .tc := ⟨.hbm, 1033, rfl⟩
abbrev main_cst_200 : Ref sig .tc := ⟨.hbm, 1034, rfl⟩
abbrev main_v803 : Ref sig .tc := ⟨.hbm, 1035, rfl⟩

abbrev nD : Nat := 1
abbrev τ : Topo := Topo.v7x

variable {F : FTy → Type} [FloatOps F]
-- ==== Proof.Roll.lean ====
module

public import proofs.«01_k».proof.Kernel

/-!
The loop body of the kernel written once more, with its repetitions as loops: for each of the four
groups of sixteen queries, for each of the sixteen rows of group indices, for each of the weights.
-/

@[expose] public section

noncomputable section

namespace Cert.Kernel

open Idealize.ShloMosaic Idealize.SL.Sem

variable {F : FTy → Type} [FloatOps F] [Facts]
variable {c : Fin τ.nSC} {s : Fin τ.nSub}

/-- A program of one vector subcore. -/
abbrev TP (F : FTy → Type) [FloatOps F] (c : Fin τ.nSC) (s : Fin τ.nSub) (α : Type) : Type 1 :=
  Prog (TpuEff nD τ sig (Elt F) Λ₀ (.scVector c s)) α

/-- `n` rounds, from round `k` on, each handing its result to the next. -/
def up {σ : Type} (f : ℕ → σ → TP F c s σ) : ℕ → ℕ → σ → TP F c s σ
  | _, 0, a => pure a
  | k, n + 1, a => f k a >>= fun b => up f (k + 1) n b

/-- The entry of a list of four at an index. -/
def sel4 {α : Type} (a0 a1 a2 a3 : α) : ℕ → α
  | 0 => a0
  | 1 => a1
  | 2 => a2
  | _ => a3

/-- Every index of a rank-one access is inside. -/
def inb1 (n : ℕ) (a : IVec S16 32) : Prop :=
  (∀ d x, ((![a] : Fin 1 → IVec S16 32) d x).toNat < (⟨1, ![n]⟩ : Shape).size d)
instance inb1.dec (n : ℕ) (a : IVec S16 32) : Decidable (inb1 n a) :=
  decidable_of_iff' _ (Iff.of_eq (inb1.eq_1 n a))

/-- Every index of a rank-two access is inside. -/
def inb2 (n m : ℕ) (a b : IVec S16 32) : Prop :=
  (∀ d x, ((![a, b] : Fin 2 → IVec S16 32) d x).toNat < (⟨2, ![n, m]⟩ : Shape).size d)
instance inb2.dec (n m : ℕ) (a b : IVec S16 32) : Decidable (inb2 n m a b) :=
  decidable_of_iff' _ (Iff.of_eq (inb2.eq_1 n m a b))

/-- Every index of a rank-three access is inside. -/
def inb3 (n m k : ℕ) (a b e : IVec S16 32) : Prop :=
  (∀ d x, ((![a, b, e] : Fin 3 → IVec S16 32) d x).toNat < (⟨3, ![n, m, k]⟩ : Shape).size d)
instance inb3.dec (n m k : ℕ) (a b e : IVec S16 32) : Decidable (inb3 n m k a b e) :=
  decidable_of_iff' _ (Iff.of_eq (inb3.eq_1 n m k a b e))

/-- One integer on all lanes. -/
abbrev sp (n : ℕ) : IVec S16 32 := broadcast S16 (BitVec.ofNat 32 n)

/-- Sixteen knots by their indices. -/
def ldT (tv : Memref sig .scVector .vmem S132 .f32) (a : IVec S16 32) : TP F c s (Vec F S16 .f32) := do
  have h : inb1 132 a := (← Prog.lift (TpuEff.assume (inb1 132 a) (inb1.dec 132 a))).down
  SparseCore.vectorLoadIdx tv ![a] (by exact h) (View.loads_vmem Facts₀.h_S132)

/-- Coordinate `k` of sixteen queries. -/
def ldQ (q : Memref sig .scVector .vmem S64x3 .f32) (a : IVec S16 32) (k : ℕ) : TP F c s (Vec F S16 .f32) := do
  have h : inb2 64 3 a (sp k) := (← Prog.lift (TpuEff.assume (inb2 64 3 a (sp k)) (inb2.dec 64 3 a (sp k)))).down
  SparseCore.vectorLoadIdx q ![a, sp k] (by exact h) (View.loads_vmem Facts₀.h_S64x3)

/-- The four weights of one coordinate from the coordinate and its six knots. -/
def wts (x t1 t2 t3 t4 t5 t6 : FVec F S16 .f32) : ℕ → FVec F S16 .f32 :=
  let l1 := subf x t3
  let l2 := subf x t2
  let l3 := subf x t1
  let r1 := subf t4 x
  let r2 := subf t5 x
  let r3 := subf t6 x
  let u := divf (broadcast S16 (Scalar.ofBits .f32 0x3F800000#32 : F .f32)) (addf r1 l1)
  let n0 := mulf r1 u
  let n1 := mulf l1 u
  let u0 := divf n0 (addf r1 l2)
  let u1 := divf n1 (addf r2 l1)
  let n0 := mulf r1 u0
  let n1 := addf (mulf l2 u0) (mulf r2 u1)
  let n2 := mulf l1 u1
  let u0 := divf n0 (addf r1 l3)
  let u1 := divf n1 (addf r2 l2)
  let u2 := divf n2 (addf r3 l1)
  sel4 (mulf r1 u0) (addf (mulf l3 u0) (mulf r2 u1)) (addf (mulf l2 u1) (mulf r3 u2)) (mulf l1 u2)

/-- An integer vector held to `0 … 124`. -/
def clip124 (a : IVec S16 32) : IVec S16 32 := minsi (sp 124) (maxsi (sp 0) a)

/-- The first guess of the knot interval. -/
def guess (x : FVec F S16 .f32) : IVec S16 32 :=
  clip124 (fptosi 32 (mulf x (broadcast S16 (Scalar.ofBits .f32 0x42FA0000#32 : F .f32))))

/-- The guess moved by one where the knots around it say so. -/
def fix (x : FVec F S16 .f32) (j0 : IVec S16 32) (ta tb : FVec F S16 .f32) : IVec S16 32 :=
  clip124 (subi (addi j0 (extui 32 (cmpf .oge x tb) Facts₀.natLt_1_32))
    (extui 32 (cmpf .olt x ta) Facts₀.natLt_1_32))

/-- The knot interval and the four weights of one coordinate of sixteen queries. -/
def basisP (tv : Memref sig .scVector .vmem S132 .f32) (x : FVec F S16 .f32) :
    TP F c s (IVec S16 32 × (ℕ → FVec F S16 .f32)) := do
  let ta ← ldT tv (addi (guess x) (sp 3))
  let tb ← ldT tv (addi (guess x) (sp 4))
  let j := fix x (guess x) ta tb
  let t1 ← ldT tv (addi j (sp 1))
  let t2 ← ldT tv (addi j (sp 2))
  let t3 ← ldT tv (addi j (sp 3))
  let t4 ← ldT tv (addi j (sp 4))
  let t5 ← ldT tv (addi j (sp 5))
  let t6 ← ldT tv (addi j (sp 6))
  pure (j, wts x t1 t2 t3 t4 t5 t6)

/-- Row `r`, lanes `16 v …` of the weights is inside. -/
theorem inbW (r : Fin 12) (v : Fin 4) :
    ∀ a, (![r.val, 16 * v.val] : Fin 2 → Nat) a + S1x16.size a ≤ S12x64.size a := by
  intro a
  have := r.isLt
  have := v.isLt
  fin_cases a
  · change r.val + 1 ≤ 12
    omega
  · change 16 * v.val + 16 ≤ 64
    omega

/-- Lanes `16 v …` of the shifts are inside. -/
theorem inbS (v : Fin 4) : ∀ a, (![16 * v.val] : Fin 1 → Nat) a + S16.size a ≤ S64.size a := by
  intro a
  have := v.isLt
  fin_cases a
  change 16 * v.val + 16 ≤ 64
  omega

/-- Sixteen weights put away in row `r`. -/
def stW (w : Memref sig .scVector .vmem S12x64 .f32) (v : Fin 4) (r : Fin 12) (n : FVec F S16 .f32) :
    TP F c s PUnit := do
  let _ ← Prog.lift (.load w (Rect.unit (s := S12x64) ![r.val, 16 * v.val] S1x16.size (inbW r v)).toLoadRect
    (View.loadsAt_vmem Facts₀.h_S1x16))
  Prog.lift (.store w (Rect.unit (s := S12x64) ![r.val, 16 * v.val] S1x16.size (inbW r v))
    (shapeCast S1x16 n Facts₀.shapeCasts_S16_S1x16) Finset.univ
    (View.stores_vmem_bits_univ Facts₀.h_S1x16 rfl) (.inl rfl))

/-- Sixteen weights of row `r`. -/
def ldW (w : Memref sig .scVector .vmem S12x64 .f32) (v : Fin 4) (r : Fin 12) :
    TP F c s (FVec F S16 .f32) := do
  let x ← Prog.lift (.load w (Rect.unit (s := S12x64) ![r.val, 16 * v.val] S1x16.size (inbW r v)).toLoadRect
    (View.loadsAt_vmem Facts₀.h_S1x16))
  pure (shapeCast S16 x Facts₀.shapeCasts_S1x16_S16)

/-- One row of sixteen pairs of group indices put away. -/
def stI (ix : Memref sig .scVector .vmem S16x128 .i32) (m : ℕ) (a : IVec S16 32) (g : IVec S16 32) :
    TP F c s PUnit := do
  have h : inb2 16 128 (sp m) a :=
    (← Prog.lift (TpuEff.assume (inb2 16 128 (sp m) a) (inb2.dec 16 128 (sp m) a))).down
  SparseCore.vectorStoreIdx ix ![sp m, a] g (fun _ => 1#1) false h
    (View.stores_vmem_bits_univ Facts₀.h_S16x128 rfl)

/-- The lanes' query numbers. -/
def iq (l : IVec S16 32) (v : ℕ) : IVec S16 32 := addi l (sp (16 * v))

/-- The first group of the sixteen queries for row `m`. -/
def grp (jx jy jz : IVec S16 32) (m : ℕ) : IVec S16 32 :=
  addi (addi (addi (shrsi jx (sp 2)) (muli jy (sp 32))) (muli jz (sp 4096)))
    (sp (32 * (m % 4) + 4096 * (m / 4)))

/-- The group after it, kept inside the array. -/
def grp1 (g : IVec S16 32) : IVec S16 32 := minsi (addi g (sp 1)) (sp 524287)

/-- The first half of the work on sixteen queries: weights, shifts and group indices. -/
def phase1 (tx ty tz : Memref sig .scVector .vmem S132 .f32) (q : Memref sig .scVector .vmem S64x3 .f32)
    (ix : Memref sig .scVector .vmem S16x128 .i32) (w : Memref sig .scVector .vmem S12x64 .f32)
    (sv : Memref sig .scVector .vmem S64 .i32) (l : IVec S16 32) (v : Fin 4) : TP F c s PUnit := do
  let qx ← ldQ q (iq l v) 0
  let qy ← ldQ q (iq l v) 1
  let qz ← ldQ q (iq l v) 2
  let bx ← basisP tx qx
  let by' ← basisP ty qy
  let bz ← basisP tz qz
  stW w v 0 (bx.2 0)
  stW w v 1 (bx.2 1)
  stW w v 2 (bx.2 2)
  stW w v 3 (bx.2 3)
  stW w v 4 (by'.2 0)
  stW w v 5 (by'.2 1)
  stW w v 6 (by'.2 2)
  stW w v 7 (by'.2 3)
  stW w v 8 (bz.2 0)
  stW w v 9 (bz.2 1)
  stW w v 10 (bz.2 2)
  stW w v 11 (bz.2 3)
  let _ ← Prog.lift (.load sv (Rect.unit (s := S64) ![16 * v.val] S16.size (inbS v)).toLoadRect
    (View.loadsAt_vmem Facts₀.h_S16))
  Prog.lift (.store sv (Rect.unit (s := S64) ![16 * v.val] S16.size (inbS v))
    (muli (andi bx.1 (sp 3)) (sp 3)) Finset.univ
    (View.stores_vmem_bits_univ Facts₀.h_S16 rfl) (.inl rfl))
  up (fun m _ => do
    stI ix m (muli (iq l v) (sp 2)) (grp bx.1 by'.1 bz.1 m)
    stI ix m (addi (muli (iq l v) (sp 2)) (sp 1)) (grp1 (grp bx.1 by'.1 bz.1 m))) 0 16 ⟨⟩

/-- Sixteen control-point coordinates by row, entry and place in the entry. -/
def ldG (g : Memref sig .scVector .vmem S16x128x16 .f32) (m : ℕ) (a b : IVec S16 32) :
    TP F c s (Vec F S16 .f32) := do
  have h : inb3 16 128 16 (sp m) a b :=
    (← Prog.lift (TpuEff.assume (inb3 16 128 16 (sp m) a b) (inb3.dec 16 128 16 (sp m) a b))).down
  SparseCore.vectorLoadIdx g ![sp m, a, b] (by exact h) (View.loads_vmem Facts₀.h_S16x128x16)

/-- Whether place `k` past the shift lies in the second group. -/
def wrap (s3 : IVec S16 32) (k : ℕ) : IVec S16 32 :=
  extui 32 (cmpi .sge (addi s3 (sp k)) (sp 12)) Facts₀.natLt_1_32

/-- The entry holding place `k` past the shift. -/
def ent (s3 q2 : IVec S16 32) (k : ℕ) : IVec S16 32 := addi q2 (wrap s3 k)

/-- The place in that entry. -/
def plc (s3 : IVec S16 32) (k : ℕ) : IVec S16 32 := subi (addi s3 (sp k)) (muli (wrap s3 k) (sp 12))

/-- One control point's weighted coordinates added to the three sums. -/
def addG (g : Memref sig .scVector .vmem S16x128x16 .f32) (s3 q2 : IVec S16 32)
    (wyz : FVec F S16 .f32) (bx : ℕ → FVec F S16 .f32) (m : ℕ) (mx : ℕ)
    (A : FVec F S16 .f32 × FVec F S16 .f32 × FVec F S16 .f32) :
    TP F c s (FVec F S16 .f32 × FVec F S16 .f32 × FVec F S16 .f32) := do
  let g0 ← ldG g m (ent s3 q2 (mx * 3)) (plc s3 (mx * 3))
  let g1 ← ldG g m (ent s3 q2 (mx * 3 + 1)) (plc s3 (mx * 3 + 1))
  let g2 ← ldG g m (ent s3 q2 (mx * 3 + 2)) (plc s3 (mx * 3 + 2))
  pure (addf A.1 (mulf (mulf wyz (bx mx)) g0), addf A.2.1 (mulf (mulf wyz (bx mx)) g1),
    addf A.2.2 (mulf (mulf wyz (bx mx)) g2))

/-- One coordinate of sixteen results put away. -/
def stO (o : Memref sig .scVector .vmem S64x3 .f32) (a : IVec S16 32) (k : ℕ) (x : FVec F S16 .f32) :
    TP F c s PUnit := do
  have h : inb2 64 3 a (sp k) := (← Prog.lift (TpuEff.assume (inb2 64 3 a (sp k)) (inb2.dec 64 3 a (sp k)))).down
  SparseCore.vectorStoreIdx o ![a, sp k] x (fun _ => 1#1) false h
    (View.stores_vmem_bits_univ Facts₀.h_S64x3 rfl)

/-- Zero on all lanes. -/
abbrev zeroV : FVec F S16 .f32 := broadcast S16 (Scalar.ofBits .f32 0x00000000#32 : F .f32)

/-- The second half of the work on sixteen queries: the weighted sums. -/
def phase2 (g : Memref sig .scVector .vmem S16x128x16 .f32) (w : Memref sig .scVector .vmem S12x64 .f32)
    (sv : Memref sig .scVector .vmem S64 .i32) (o : Memref sig .scVector .vmem S64x3 .f32)
    (l : IVec S16 32) (v : Fin 4) : TP F c s PUnit := do
  let s3 : Vec F S16 .i32 ← Prog.lift (.load sv (Rect.unit (s := S64) ![16 * v.val] S16.size (inbS v)).toLoadRect
    (View.loadsAt_vmem Facts₀.h_S16))
  let w0 ← ldW w v 0
  let w1 ← ldW w v 1
  let w2 ← ldW w v 2
  let w3 ← ldW w v 3
  let w4 ← ldW w v 4
  let w5 ← ldW w v 5
  let w6 ← ldW w v 6
  let w7 ← ldW w v 7
  let w8 ← ldW w v 8
  let w9 ← ldW w v 9
  let w10 ← ldW w v 10
  let w11 ← ldW w v 11
  let A ← up (fun m A => up (addG g s3 (muli (iq l v) (sp 2))
      (mulf (sel4 w4 w5 w6 w7 (m % 4)) (sel4 w8 w9 w10 w11 (m / 4))) (sel4 w0 w1 w2 w3) m) 0 4 A) 0 16
    (zeroV, zeroV, zeroV)
  stO o (iq l v) 0 A.1
  stO o (iq l v) 1 A.2.1
  stO o (iq l v) 2 A.2.2

end Cert.Kernel
-- ==== Proof.Val.lean ====
module

public import proofs.«01_k».proof.Proof.Roll

@[expose] public section

/-!
What one query's work computes, as functions of the query and of the tables, and the ranges of the integers in it.
-/

noncomputable section

namespace Cert.Kernel

open Idealize.ShloMosaic

variable {F : FTy → Type} [FloatOps F] [Facts]

/-- An index of rank one. -/
def ix1 (n : ℕ) [NeZero n] (a : ℕ) : (⟨1, ![n]⟩ : Shape).Idx := fun d => match d with
  | 0 => ⟨a % n, Nat.mod_lt _ (Nat.pos_of_neZero n)⟩

/-- An index of rank two. -/
def ix2 (n m : ℕ) [NeZero n] [NeZero m] (a b : ℕ) : (⟨2, ![n, m]⟩ : Shape).Idx := fun d => match d with
  | 0 => ⟨a % n, Nat.mod_lt _ (Nat.pos_of_neZero n)⟩
  | 1 => ⟨b % m, Nat.mod_lt _ (Nat.pos_of_neZero m)⟩

/-- An index of rank three. -/
def ix3 (n m k : ℕ) [NeZero n] [NeZero m] [NeZero k] (a b e : ℕ) : (⟨3, ![n, m, k]⟩ : Shape).Idx := fun d => match d with
  | 0 => ⟨a % n, Nat.mod_lt _ (Nat.pos_of_neZero n)⟩
  | 1 => ⟨b % m, Nat.mod_lt _ (Nat.pos_of_neZero m)⟩
  | 2 => ⟨e % k, Nat.mod_lt _ (Nat.pos_of_neZero k)⟩

/-- The lane all scalars are read at. -/
abbrev l0 : S16.Idx := ix1 16 0

/-- One value on all lanes. -/
abbrev cs {α : Type} (a : α) : S16.Idx → α := fun _ => a

/-- The knot at an index. -/
def kn (T : S132.Idx → F .f32) (b : BitVec 32) : F .f32 := T (ix1 132 b.toNat)

/-- The first guess of a coordinate's interval. -/
def gOf (x : F .f32) : BitVec 32 := guess (cs x) l0

/-- A coordinate's interval. -/
def jOf (T : S132.Idx → F .f32) (x : F .f32) : BitVec 32 :=
  fix (cs x) (cs (gOf x)) (cs (kn T (gOf x + 3#32))) (cs (kn T (gOf x + 4#32))) l0

/-- A coordinate's weights, from the interval. -/
def wAt (T : S132.Idx → F .f32) (x : F .f32) (j : BitVec 32) (r : ℕ) : F .f32 :=
  wts (cs x) (cs (kn T (j + 1#32))) (cs (kn T (j + 2#32))) (cs (kn T (j + 3#32))) (cs (kn T (j + 4#32)))
    (cs (kn T (j + 5#32))) (cs (kn T (j + 6#32))) r l0

/-- A coordinate's weights. -/
def wOf (T : S132.Idx → F .f32) (x : F .f32) (r : ℕ) : F .f32 := wAt T x (jOf T x) r

/-- The first group of row `m`. -/
def grpOf (jx jy jz : BitVec 32) (m : ℕ) : BitVec 32 := grp (cs jx) (cs jy) (cs jz) m l0

/-- The group after a group. -/
def nextOf (g : BitVec 32) : BitVec 32 := grp1 (cs g) l0

/-- The place of the first control point in its group, in coordinates. -/
def shOf (jx : BitVec 32) : BitVec 32 := muli (andi (cs jx) (sp 3)) (sp 3) l0

/-- Coordinate `k` past the shift in row `m`'s two groups. -/
def cpOf (C : S524288x16.Idx → F .f32) (jx jy jz : BitVec 32) (m k : ℕ) : F .f32 :=
  C (ix2 524288 16 (if wrap (cs (shOf jx)) k l0 = 0#32 then grpOf jx jy jz m else nextOf (grpOf jx jy jz m)).toNat
    (plc (cs (shOf jx)) k l0).toNat)

/-- `n` rounds of a function, from round `k` on. -/
def upv {σ : Type} (f : ℕ → σ → σ) : ℕ → ℕ → σ → σ
  | _, 0, a => a
  | k, n + 1, a => upv f (k + 1) n (f k a)

/-- One control point's weighted coordinate added to a sum. -/
def accOf (C : S524288x16.Idx → F .f32) (jx jy jz : BitVec 32) (bx bz by' : ℕ → F .f32) (c m mx : ℕ) (a : F .f32) : F .f32 :=
  addf (cs a) (mulf (mulf (mulf (cs (by' (m % 4))) (cs (bz (m / 4)))) (cs (bx mx))) (cs (cpOf C jx jy jz m (mx * 3 + c)))) l0

/-- Coordinate `c` of the result for a query. -/
def outOf (TX TY TZ : S132.Idx → F .f32) (C : S524288x16.Idx → F .f32) (x y z : F .f32) (c : ℕ) : F .f32 :=
  upv (fun m a => upv (fun mx a => accOf C (jOf TX x) (jOf TY y) (jOf TZ z) (wOf TX x) (wOf TZ z) (wOf TY y) c m mx a) 0 4 a)
    0 16 (Scalar.ofBits .f32 0x00000000#32)

/-! ## The vectors, lane by lane -/

theorem guess_lane (x : FVec F S16 .f32) (l : S16.Idx) : guess x l = gOf (x l) := by
  unfold gOf guess clip124 minsi maxsi fptosi mulf
  rfl

theorem fix_lane (x : FVec F S16 .f32) (j : IVec S16 32) (a b : FVec F S16 .f32) (l : S16.Idx) :
    fix x j a b l = fix (cs (x l)) (cs (j l)) (cs (a l)) (cs (b l)) l0 := by
  unfold fix clip124 minsi maxsi subi addi extui cmpf
  rfl

theorem wts_lane (x t1 t2 t3 t4 t5 t6 : FVec F S16 .f32) (r : ℕ) (l : S16.Idx) :
    wts x t1 t2 t3 t4 t5 t6 r l = wts (cs (x l)) (cs (t1 l)) (cs (t2 l)) (cs (t3 l)) (cs (t4 l)) (cs (t5 l)) (cs (t6 l)) r l0 := by
  match r with
  | 0 =>
    unfold wts sel4 mulf addf subf divf
    rfl
  | 1 =>
    unfold wts sel4 mulf addf subf divf
    rfl
  | 2 =>
    unfold wts sel4 mulf addf subf divf
    rfl
  | _ + 3 =>
    unfold wts sel4 mulf addf subf divf
    rfl

theorem grp_lane (jx jy jz : IVec S16 32) (m : ℕ) (l : S16.Idx) : grp jx jy jz m l = grpOf (jx l) (jy l) (jz l) m := by
  unfold grpOf grp addi shrsi muli
  rfl

theorem grp1_lane (g : IVec S16 32) (l : S16.Idx) : grp1 g l = nextOf (g l) := by
  unfold nextOf grp1 minsi addi
  rfl

theorem sh_lane (jx : IVec S16 32) (l : S16.Idx) : muli (andi jx (sp 3)) (sp 3) l = shOf (jx l) := by
  unfold shOf muli andi
  rfl

theorem wrap_lane (s : IVec S16 32) (k : ℕ) (l : S16.Idx) : wrap s k l = wrap (cs (s l)) k l0 := by
  unfold wrap extui cmpi addi
  rfl

theorem plc_lane (s : IVec S16 32) (k : ℕ) (l : S16.Idx) : plc s k l = plc (cs (s l)) k l0 := by
  unfold plc subi addi muli
  rw [← wrap_lane s k l]
  rfl

/-! ## Ranges -/

theorem clip_le (a : BitVec 32) : (IntOp.minsi 124#32 (IntOp.maxsi 0#32 a)).toNat ≤ 124 := by
  unfold IntOp.minsi IntOp.maxsi
  simp only [BitVec.slt_eq_decide, decide_eq_true_eq]
  have h := BitVec.toInt_eq_toNat_cond a
  have h0 : (0#32 : BitVec 32).toInt = 0 := by decide
  have h1 : (124#32 : BitVec 32).toInt = 124 := by decide
  have h2 : (0#32 : BitVec 32).toNat = 0 := by decide
  have h3 : (124#32 : BitVec 32).toNat = 124 := by decide
  split <;> split <;> split at h <;> simp_all <;> omega

theorem gOf_le (x : F .f32) : (gOf x).toNat ≤ 124 := clip_le _
theorem jOf_le (T : S132.Idx → F .f32) (x : F .f32) : (jOf T x).toNat ≤ 124 := clip_le _

theorem grpOf_toNat {jx jy jz : BitVec 32} (hx : jx.toNat ≤ 124) (hy : jy.toNat ≤ 124) (hz : jz.toNat ≤ 124) {m : ℕ} (hm : m < 16) :
    (grpOf jx jy jz m).toNat = jx.toNat / 4 + 32 * (jy.toNat + m % 4) + 4096 * (jz.toNat + m / 4) := by
  have e : grpOf jx jy jz m = IntOp.shrsi .vector jx 2#32 + jy * 32#32 + jz * 4096#32 + BitVec.ofNat 32 (32 * (m % 4) + 4096 * (m / 4)) := rfl
  have hs : (IntOp.shrsi .vector jx 2#32).toNat = jx.toNat / 4 := by
    unfold IntOp.shrsi
    rw [if_pos (by decide)]
    have h2 : (2#32 : BitVec 32).toNat = 2 := by decide
    have hmsb : jx.msb = false := by
      rw [BitVec.msb_eq_decide]
      simp
      omega
    rw [BitVec.sshiftRight', h2, BitVec.sshiftRight_eq_of_msb_false hmsb, BitVec.toNat_ushiftRight, Nat.shiftRight_eq_div_pow]
  rw [e]
  simp only [BitVec.toNat_add, BitVec.toNat_mul, BitVec.toNat_ofNat, hs]
  omega

theorem grpOf_lt {jx jy jz : BitVec 32} (hx : jx.toNat ≤ 124) (hy : jy.toNat ≤ 124) (hz : jz.toNat ≤ 124) {m : ℕ} (hm : m < 16) :
    (grpOf jx jy jz m).toNat < 524288 := by
  rw [grpOf_toNat hx hy hz hm]
  omega

theorem nextOf_toNat {g : BitVec 32} (hg : g.toNat < 524288) : (nextOf g).toNat = min (g.toNat + 1) 524287 := by
  have e : nextOf g = IntOp.minsi (g + 1#32) 524287#32 := rfl
  rw [e]
  unfold IntOp.minsi
  have h1 : (g + 1#32).toNat = g.toNat + 1 := by
    rw [BitVec.toNat_add]
    simp
    omega
  have h2 : (524287#32 : BitVec 32).toNat = 524287 := by decide
  simp only [BitVec.slt_eq_decide, decide_eq_true_eq, BitVec.toInt_eq_toNat_cond, h1, h2]
  have e1 : (if 2 * (g.toNat + 1) < 2 ^ 32 then ((g.toNat + 1 : ℕ) : ℤ) else ((g.toNat + 1 : ℕ) : ℤ) - ((2 ^ 32 : ℕ) : ℤ)) = ((g.toNat + 1 : ℕ) : ℤ) :=
    if_pos (by omega)
  have e2 : (if 2 * 524287 < 2 ^ 32 then ((524287 : ℕ) : ℤ) else ((524287 : ℕ) : ℤ) - ((2 ^ 32 : ℕ) : ℤ)) = ((524287 : ℕ) : ℤ) :=
    if_pos (by omega)
  rw [e1, e2]
  split
  · rw [h1]
    omega
  · rw [h2]
    omega

theorem shOf_toNat (jx : BitVec 32) : (shOf jx).toNat = jx.toNat % 4 * 3 := by
  have e : shOf jx = (jx &&& 3#32) * 3#32 := rfl
  have h3 : (3#32 : BitVec 32).toNat = 3 := by decide
  have h4 : jx.toNat &&& 3 = jx.toNat % 4 := Nat.and_two_pow_sub_one_eq_mod jx.toNat 2
  rw [e, BitVec.toNat_mul, BitVec.toNat_and, h3, h4]
  omega

/-- Whether the place lies in the second group. -/
theorem wrap_eq (s : BitVec 32) (hs : s.toNat ≤ 9) {k : ℕ} (hk : k < 12) :
    wrap (cs s) k l0 = if 12 ≤ s.toNat + k then 1#32 else 0#32 := by
  have e : wrap (cs s) k l0 = (BitVec.ofBool ((12#32 : BitVec 32).sle (s + BitVec.ofNat 32 k))).setWidth 32 := rfl
  have h1 : (s + BitVec.ofNat 32 k).toNat = s.toNat + k := by
    rw [BitVec.toNat_add, BitVec.toNat_ofNat]
    omega
  have h2 : (12#32 : BitVec 32).toNat = 12 := by decide
  rw [e, BitVec.sle_eq_decide, BitVec.toInt_eq_toNat_cond, BitVec.toInt_eq_toNat_cond, h1, h2]
  by_cases h : 12 ≤ s.toNat + k
  · rw [if_pos h, if_pos (by omega), if_pos (by omega), decide_eq_true (by omega)]
    decide
  · rw [if_neg h, if_pos (by omega), if_pos (by omega), decide_eq_false (by omega)]
    decide

theorem plc_toNat (s : BitVec 32) (hs : s.toNat ≤ 9) {k : ℕ} (hk : k < 12) :
    (plc (cs s) k l0).toNat = if 12 ≤ s.toNat + k then s.toNat + k - 12 else s.toNat + k := by
  have e : plc (cs s) k l0 = (s + BitVec.ofNat 32 k) - wrap (cs s) k l0 * 12#32 := rfl
  have h1 : (s + BitVec.ofNat 32 k).toNat = s.toNat + k := by
    rw [BitVec.toNat_add, BitVec.toNat_ofNat]
    omega
  rw [e, wrap_eq s hs hk]
  split
  · rw [BitVec.toNat_sub, h1, show ((1#32 : BitVec 32) * 12#32).toNat = 12 by decide]
    omega
  · rw [BitVec.toNat_sub, h1, show ((0#32 : BitVec 32) * 12#32).toNat = 0 by decide]
    omega

end Cert.Kernel
-- ==== Proof.Mem.lean ====
module

public import Idealize.ShloMosaic.Lib.SparseCore.Stream
public import Idealize.ShloMosaic.Lib.SparseCore.Ops
public import Idealize.ShloMosaic.Lib.Batch

@[expose] public section

/-!
A memory reference owned outright, told by what reading it gives; and one rule for each access of it.
-/

noncomputable section

namespace Cert.Streams

open Idealize.ShloMosaic Idealize.ShloMosaic.SparseCore Idealize.SL
open Idealize.SL.BI (sProp Storable bigSep)
open scoped Idealize.SL.BI
open Idealize.SL.BI.BIBase Idealize.SL.BI.Laws Idealize.SL.Sem Idealize.SL.ProofMode
open Idealize.SL.RA Idealize.ShloMosaic.Transfers

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants)
variable (c : Thread nD τ) (bd : Option 𝒱.V)
variable {sp sp' : Space} {s t : Shape} {e : EltTy} {α : Type} {Q : α → sProp (MT nD τ sig Ix (Elt F) Name U Lvl)}

local notation "𝕄" => MT nD τ sig Ix (Elt F) Name U Lvl

/-- All of a memory reference, reading as `A`. -/
def holds (m : Memref sig c.2.kind sp s e) (A : s.Idx → Elt F e) : sProp 𝕄 :=
  iprop(∃ f, (m.view.loc c ↦[m.view.set]{fullShare} f) ∗ ⌜m.view.read (Elt F) f = A⌝)

omit [FloatOps F] in
theorem holds_intro {m : Memref sig c.2.kind sp s e} (f : Buf (Elt F) (m.view.loc c)) :
    (m.view.loc c ↦[m.view.set]{fullShare} f : sProp 𝕄) ⊢ holds c m (m.view.read (Elt F) f) := by
  unfold holds
  iintro H
  iexists f
  isplitl [H]
  · iexact H
  · ipureintro; rfl

omit [FloatOps F] in
/-- A load through a rectangle. -/
theorem wp_rd {cs : CoreSpace} {m : Memref sig c.2.kind cs s e} {r : LoadRect s} {hl : m.view.LoadsAt r}
    {k : (r.shape.Idx → Elt F e) → Prog (TpuEff nD τ sig (Elt F) Λ c.2) α} {A : s.Idx → Elt F e} :
    (holds c m A : sProp 𝕄)
      ⊢ iprop((holds c m A -∗ wp frame (wpE defs 𝒱 c bd) Set.univ (k fun x => A (r.idx x)) Q)
        -∗ wp frame (wpE defs 𝒱 c bd) Set.univ (.op (.load m r hl) k) Q) := by
  iintro H Hk
  unfold holds
  icases H with ⟨%f, H, %hf⟩
  subst hf
  iapply (wp_load (defs := defs) 𝒱 c bd Set.univ (hl := hl) (q := fullShare) (f := f) (S := m.view.set)
    (View.setOn_subset_set _ _)) $$ H
  iintro H
  iapply Hk
  iexists f
  isplitl [H]
  · iexact H
  · ipureintro; rfl

/-- What a store through a rectangle leaves. -/
def Wrote (r : Rect s) (w : r.shape.Idx → Elt F e) (A A' : s.Idx → Elt F e) : Prop :=
  (∀ x, A' (r.emb x) = w x) ∧ ∀ y, (∀ x, r.emb x ≠ y) → A' y = A y

omit [FloatOps F] in
/-- A store through a rectangle, all lanes. -/
theorem wp_wr {cs : CoreSpace} {m : Memref sig c.2.kind cs s e} {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ c.2) α} {A : s.Idx → Elt F e} :
    (holds c m A : sProp 𝕄)
      ⊢ iprop((∀ A', ⌜Wrote r w A A'⌝ -∗ holds c m A' -∗ wp frame (wpE defs 𝒱 c bd) Set.univ (k ⟨⟩) Q)
        -∗ wp frame (wpE defs 𝒱 c bd) Set.univ (.op (.store m r w Finset.univ hx hm) k) Q) := by
  iintro H Hk
  unfold holds
  icases H with ⟨%f, H, %hf⟩
  iapply (wp_store (defs := defs) 𝒱 c bd Set.univ (hx := hx) (hm := hm) (f := f) (S := m.view.set)
    (by
      intro i hi
      obtain ⟨x, -, rfl⟩ := Finset.mem_map.mp hi
      exact Finset.mem_map_of_mem _ (Finset.mem_univ (r.emb x)))) $$ H
  iintro H
  iapply Hk $$ %((m.view).read (Elt F) ((m.access r).write (Elt F) f w Finset.univ)) [] [H]
  · ipureintro
    subst hf
    refine ⟨fun x => View.read_slice_write_emb (v := m.view) r f w (Finset.mem_univ x), fun y hy => ?_⟩
    refine View.read_slice_write_of_not_mem (v := m.view) r f w Finset.univ fun hm => ?_
    obtain ⟨x, -, hx⟩ := Finset.mem_map.mp hm
    exact hy x hx
  · iexists _
    isplitl [H]
    · iexact H
    · ipureintro; rfl

omit [FloatOps F] in
/-- An indexed load. -/
theorem wp_ldi {m : Memref sig c.2.kind .vmem s e} {idxs : Fin s.rank → IVec t 32}
    {h : ∀ a x, (idxs a x).toNat < s.size a} {hl : m.view.Loads}
    {k : Vec F t e → Prog (TpuEff nD τ sig (Elt F) Λ c.2) α} {A : s.Idx → Elt F e} :
    (holds c m A : sProp 𝕄)
      ⊢ iprop((holds c m A -∗ wp frame (wpE defs 𝒱 c bd) Set.univ (k (loadIdx A idxs h)) Q)
        -∗ wp frame (wpE defs 𝒱 c bd) Set.univ (vectorLoadIdx m idxs h hl >>= k) Q) := by
  rw [vectorLoadIdx_bind]
  have e : (fun x => A ((Rect.whole s).toLoadRect.idx x)) = A := by
    funext x
    exact congrArg A (Rect.emb_whole_apply s x)
  have h0 := wp_rd (Q := Q) (defs := defs) (U := U) (Lvl := Lvl) (Ix := Ix) (Name := Name) 𝒱 c bd (m := m) (r := (Rect.whole s).toLoadRect) (hl := View.loadsAt_whole hl)
    (k := fun f => k (loadIdx f idxs h)) (A := A)
  rw [e] at h0
  exact h0

/-- An indexed store of all lanes. -/
theorem wp_sti {d : Fin 1 → Nat} {m : Memref sig c.2.kind .vmem s e} {idxs : Fin s.rank → IVec ⟨1, d⟩ 32} {v : Vec F ⟨1, d⟩ e}
    {mask : IVec ⟨1, d⟩ 1} {add : Bool} {h : ∀ a x, (idxs a x).toNat < s.size a} {hs : (m.access (.whole s)).Stores Finset.univ}
    {k : PUnit → Prog (TpuEff nD τ sig (Elt F) Λ c.2) α} {A : s.Idx → Elt F e} :
    (holds c m A : sProp 𝕄)
      ⊢ iprop((holds c m (storeIdx A idxs v mask add h) -∗ wp frame (wpE defs 𝒱 c bd) Set.univ (k ⟨⟩) Q)
        -∗ wp frame (wpE defs 𝒱 c bd) Set.univ (vectorStoreIdx m idxs v mask add h hs >>= k) Q) := by
  rw [vectorStoreIdx_bind]
  iintro H Hk
  iapply (wp_rd (Q := Q) (defs := defs) 𝒱 c bd (m := m) (r := (Rect.whole s).toLoadRect)
    (hl := View.loadsAt_rect hs.loads) (A := A)
    (k := fun f => .op (.store m (.whole s) (storeIdx f idxs v mask add h) Finset.univ hs (.inl rfl)) k)) $$ H
  iintro H
  have e : (fun x => A ((Rect.whole s).toLoadRect.idx x)) = A := by
    funext x
    exact congrArg A (Rect.emb_whole_apply s x)
  rw [e]
  iapply (wp_wr (Q := Q) (defs := defs) 𝒱 c bd (m := m) (r := .whole s) (hx := hs) (hm := .inl rfl) (k := k) (A := A)
    (w := storeIdx A idxs v mask add h)) $$ H
  iintro %A' %hA' H
  have e' : A' = storeIdx A idxs v mask add h := by
    funext x
    have := hA'.1 x
    rwa [Rect.emb_whole_apply] at this
  rw [e']
  iapply Hk
  iexact H

omit [FloatOps F] in
/-- A copy into an owned reference and the wait for it. -/
theorem wp_fetch [Infinite Name] [EC.LandsIn (upEmb : UEmb _ 𝕄)]
    {src : Memref sig c.2.kind sp s e} {dst : Memref sig c.2.kind sp' s e} {sem : DmaSem sig}
    {hsrc hsrc' : src.view.WordExact} {hdst hdst' : dst.view.WordExact} {hsem : DmaTarget.Typed (nD := nD) sp (.dma sem) (.here dst)}
    {k : PUnit → Prog (TpuEff nD τ sig (Elt F) Λ c.2) α} {q : PosShare TreeShare} {fs : Buf (Elt F) (src.view.loc c)}
    {A : s.Idx → Elt F e} (ι : Ix) (N : ℕ) (hN : dst.view.dmaCredit = N) (hN0 : 0 < N)
    {O : CellTallies nD τ sig Ix} {W : Waits sig Ix} :
    iprop((src.view.loc c ↦[src.view.set]{q} fs) ∗ holds c dst A ∗ semVal (c, .dma sem) 0 ∗ owes c O W ∗ MayWait c (.dma sem) ι O)
      ⊢ iprop((iprop((src.view.loc c ↦[src.view.set]{q} fs) ∗ holds c dst (src.view.read (Elt F) fs) ∗ semVal (c, .dma sem) 0
            ∗ owes c O (insert (SemLoc.dma sem, ι) W)) -∗ wp frame (wpE defs 𝒱 c bd) Set.univ (k ⟨⟩) Q)
          -∗ wp frame (wpE defs 𝒱 c bd) Set.univ (.op (.enqueueDma src (.here dst) (.dma sem) hsrc hdst hsem)
              fun _ => .op (.waitDma2 sem src dst hsrc' hdst') k) Q) := by
  unfold holds
  iintro ⟨Hs, ⟨%fd, Hd, -⟩, Hv, HO, Hmw⟩ Hk
  iapply (wp_dmaLocal (defs := defs) EC 𝒱 c bd (via := .same) (sm := .dma sem) (hsrc := hsrc) (hdst := hdst) (hsem := hsem)
    (fs := fs) (fd := fd) (q := q) ι N hN hN0 (Finset.Subset.refl _)) $$ [Hs Hd Hv]
  · isplitl [Hs]; · iexact Hs
    isplitl [Hd]; · iexact Hd
    iexact Hv
  iintro Hfl
  iapply (wp_waitLocalO (defs := defs) EC 𝒱 c bd ι hN) $$ [Hfl HO Hmw]
  · isplitl [Hfl]; · iexact Hfl
    isplitl [HO]; · iexact HO
    iexact Hmw
  iintro ⟨⟨Hd, Hs⟩, Hv, HO⟩
  iapply Hk
  isplitl [Hs]; · iexact Hs
  isplitl [Hd]
  · iexists _
    isplitl [Hd]; · iexact Hd
    ipureintro
    exact View.read_write_univ _ _
  isplitl [Hv]; · iexact Hv
  iexact HO

end Cert.Streams

end
-- ==== Proof.Mix.lean ====
module

public import proofs.«01_k».proof.Proof.Val
public import proofs.«01_k».proof.Proof.Mem

@[expose] public section

/-!
The tables a subcore fills for a block of sixty-four queries, and what one access does to each of them.
-/

noncomputable section

namespace Cert.Kernel

open Idealize.ShloMosaic Idealize.ShloMosaic.SparseCore Cert.Streams

variable {F : FTy → Type} [FloatOps F] [Facts]

/-! ## Stores by index -/

omit [Facts] in
/-- Lanes that go to different places leave each its value, and the rest as it was. -/
theorem storeIdx_put {s : Shape} {e : EltTy} {d : Fin 1 → ℕ} (A : Vec F s e) (idxs : Fin s.rank → IVec ⟨1, d⟩ 32) (v : Vec F ⟨1, d⟩ e)
    (h : ∀ a x, (idxs a x).toNat < s.size a)
    (hinj : ∀ k k' : Fin (d 0), (∀ a, (idxs a (Shape.ofLane k)).toNat = (idxs a (Shape.ofLane k')).toNat) → k = k') :
    (∀ (k : Fin (d 0)) (j : s.Idx), (∀ a, (j a).val = (idxs a (Shape.ofLane k)).toNat)
        → storeIdx A idxs v (fun _ => 1#1) false h j = v (Shape.ofLane k))
      ∧ ∀ j : s.Idx, (∀ k : Fin (d 0), ¬∀ a, (j a).val = (idxs a (Shape.ofLane k)).toNat)
        → storeIdx A idxs v (fun _ => 1#1) false h j = A j := by
  let st : Vec F s e → Fin (d 0) → Vec F s e := fun g k j =>
    if (∀ a, (j a).val = (idxs a (Shape.ofLane k)).toNat) then v (Shape.ofLane k) else g j
  have hst : storeIdx A idxs v (fun _ => 1#1) false h = (List.finRange (d 0)).foldl st A := by
    unfold storeIdx
    refine congrArg (fun f => List.foldl f A _) ?_
    funext g k
    refine (if_pos (show (1#1 : BitVec 1) = 1 from rfl)).trans ?_
    funext j
    simp only [st, idxAt]
    congr
  have key : ∀ (l : List (Fin (d 0))), l.Nodup → ∀ (g : Vec F s e),
      (∀ k ∈ l, ∀ j : s.Idx, (∀ a, (j a).val = (idxs a (Shape.ofLane k)).toNat) → l.foldl st g j = v (Shape.ofLane k))
        ∧ ∀ j : s.Idx, (∀ k ∈ l, ¬∀ a, (j a).val = (idxs a (Shape.ofLane k)).toNat) → l.foldl st g j = g j := by
    intro l
    induction l with
    | nil => exact fun _ g => ⟨fun k hk => absurd hk List.not_mem_nil, fun j _ => rfl⟩
    | cons k0 l ih =>
      intro hnd g
      obtain ⟨h0, hl⟩ := List.nodup_cons.mp hnd
      obtain ⟨i1, i2⟩ := ih hl (st g k0)
      refine ⟨fun k hk j hj => ?_, fun j hj => ?_⟩
      · rcases List.mem_cons.mp hk with rfl | hk
        · rw [List.foldl_cons, i2 j fun k' hk' hj' => h0 (by
            rw [hinj k k' fun a => (hj a).symm.trans (hj' a)]
            exact hk')]
          exact if_pos hj
        · rw [List.foldl_cons]
          exact i1 k hk j hj
      · rw [List.foldl_cons, i2 j fun k hk => hj k (List.mem_cons_of_mem _ hk)]
        exact if_neg (hj k0 List.mem_cons_self)
  obtain ⟨k1, k2⟩ := key _ (List.nodup_finRange _) A
  rw [hst]
  exact ⟨fun k j hj => k1 k (List.mem_finRange k) j hj, fun j hj => k2 j fun k _ => hj k⟩

/-- A lane's number. -/
abbrev ln (x : S16.Idx) : ℕ := (x 0).val

omit [Facts] in
theorem ln_lt (x : S16.Idx) : ln x < 16 := (x 0).isLt

omit [Facts] in
theorem ofLane_ln (x : S16.Idx) : (Shape.ofLane (x 0) : S16.Idx) = x := by
  funext a
  have : a = 0 := Subsingleton.elim _ _
  subst this
  rfl

omit [Facts] in
theorem ln_inj {x y : S16.Idx} (h : ln x = ln y) : x = y := by
  rw [← ofLane_ln x, ← ofLane_ln y, show x 0 = y 0 from Fin.ext h]

omit [Facts] in
/-- The same for a table of two axes, by lanes. -/
theorem storeIdx_put2 {n m : ℕ} [NeZero n] [NeZero m] {e : EltTy} (A : Vec F ⟨2, ![n, m]⟩ e) (a b : IVec S16 32) (v : Vec F S16 e)
    (h : ∀ d x, ((![a, b] : Fin 2 → IVec S16 32) d x).toNat < (⟨2, ![n, m]⟩ : Shape).size d)
    (hinj : ∀ x y : S16.Idx, (a x).toNat = (a y).toNat → (b x).toNat = (b y).toNat → x = y) {i k : ℕ} (hi : i < n) (hk : k < m) :
    (∀ x : S16.Idx, i = (a x).toNat → k = (b x).toNat
        → storeIdx (s := ⟨2, ![n, m]⟩) A ![a, b] v (fun _ => 1#1) false h (ix2 n m i k) = v x)
      ∧ ((∀ x : S16.Idx, ¬(i = (a x).toNat ∧ k = (b x).toNat))
        → storeIdx (s := ⟨2, ![n, m]⟩) A ![a, b] v (fun _ => 1#1) false h (ix2 n m i k) = A (ix2 n m i k)) := by
  obtain ⟨p1, p2⟩ := storeIdx_put (s := ⟨2, ![n, m]⟩) (d := ![16]) A ![a, b] v h (fun k k' hkk => by
    have e := hinj (Shape.ofLane k) (Shape.ofLane k') (hkk 0) (hkk 1)
    exact congrFun e 0)
  refine ⟨fun x e1 e2 => ?_, fun hx => p2 _ fun l hl => ?_⟩
  · have := p1 (x 0) (ix2 n m i k) (fun d => by
      match d with
      | 0 => exact (Nat.mod_eq_of_lt hi).trans (e1.trans (by rw [ofLane_ln]; rfl))
      | 1 => exact (Nat.mod_eq_of_lt hk).trans (e2.trans (by rw [ofLane_ln]; rfl)))
    rw [this]
    exact congrArg v (ofLane_ln x)
  · exact hx (Shape.ofLane l) ⟨(Nat.mod_eq_of_lt hi).symm.trans (hl 0), (Nat.mod_eq_of_lt hk).symm.trans (hl 1)⟩

/-! ## Loads by index -/

omit [FloatOps F] [Facts] in
theorem loadIdx1 {n : ℕ} [NeZero n] {e : EltTy} (A : Vec F ⟨1, ![n]⟩ e) (a : IVec S16 32) (h) :
    loadIdx (s := ⟨1, ![n]⟩) A ![a] h = fun x => A (ix1 n (a x).toNat) := by
  funext x
  refine congrArg A (funext fun d => ?_)
  match d with
  | 0 => exact Fin.ext (Nat.mod_eq_of_lt (h 0 x)).symm

omit [FloatOps F] [Facts] in
theorem loadIdx2 {n m : ℕ} [NeZero n] [NeZero m] {e : EltTy} (A : Vec F ⟨2, ![n, m]⟩ e) (a b : IVec S16 32) (h) :
    loadIdx (s := ⟨2, ![n, m]⟩) A ![a, b] h = fun x => A (ix2 n m (a x).toNat (b x).toNat) := by
  funext x
  refine congrArg A (funext fun d => ?_)
  match d with
  | 0 => exact Fin.ext (Nat.mod_eq_of_lt (h 0 x)).symm
  | 1 => exact Fin.ext (Nat.mod_eq_of_lt (h 1 x)).symm

omit [FloatOps F] [Facts] in
theorem loadIdx3 {n m k : ℕ} [NeZero n] [NeZero m] [NeZero k] {e : EltTy} (A : Vec F ⟨3, ![n, m, k]⟩ e) (a b f : IVec S16 32) (h) :
    loadIdx (s := ⟨3, ![n, m, k]⟩) A ![a, b, f] h = fun x => A (ix3 n m k (a x).toNat (b x).toNat (f x).toNat) := by
  funext x
  refine congrArg A (funext fun d => ?_)
  match d with
  | 0 => exact Fin.ext (Nat.mod_eq_of_lt (h 0 x)).symm
  | 1 => exact Fin.ext (Nat.mod_eq_of_lt (h 1 x)).symm
  | 2 => exact Fin.ext (Nat.mod_eq_of_lt (h 2 x)).symm

/-! ## Indices inside -/

omit [FloatOps F] [Facts] in
theorem inb1_of {n : ℕ} {a : IVec S16 32} (h : ∀ x, (a x).toNat < n) : inb1 n a := fun d x =>
  match d with
  | 0 => h x
omit [FloatOps F] [Facts] in
theorem inb2_of {n m : ℕ} {a b : IVec S16 32} (h : ∀ x, (a x).toNat < n) (h' : ∀ x, (b x).toNat < m) : inb2 n m a b := fun d x =>
  match d with
  | 0 => h x
  | 1 => h' x
omit [FloatOps F] [Facts] in
theorem inb3_of {n m k : ℕ} {a b f : IVec S16 32} (h : ∀ x, (a x).toNat < n) (h' : ∀ x, (b x).toNat < m)
    (h'' : ∀ x, (f x).toNat < k) : inb3 n m k a b f := fun d x =>
  match d with
  | 0 => h x
  | 1 => h' x
  | 2 => h'' x

/-! ## The lanes' query numbers -/

/-- The lanes count from zero. -/
def Counts (l : IVec S16 32) : Prop := ∀ x, (l x).toNat = ln x

theorem iq_toNat {l : IVec S16 32} (hl : Counts l) (v : Fin 4) (x : S16.Idx) : (iq l v.val x).toNat = 16 * v.val + ln x := by
  have := ln_lt x
  have := v.isLt
  have e : iq l v.val x = l x + BitVec.ofNat 32 (16 * v.val) := rfl
  rw [e, BitVec.toNat_add, BitVec.toNat_ofNat, hl x]
  omega

theorem iq2_toNat {l : IVec S16 32} (hl : Counts l) (v : Fin 4) (x : S16.Idx) :
    (muli (iq l v.val) (sp 2) x).toNat = 2 * (16 * v.val + ln x) := by
  have := ln_lt x
  have := v.isLt
  have e : muli (iq l v.val) (sp 2) x = iq l v.val x * 2#32 := rfl
  rw [e, BitVec.toNat_mul, iq_toNat hl v x, show (2#32 : BitVec 32).toNat = 2 from rfl]
  omega

theorem iq21_toNat {l : IVec S16 32} (hl : Counts l) (v : Fin 4) (x : S16.Idx) :
    (addi (muli (iq l v.val) (sp 2)) (sp 1) x).toNat = 2 * (16 * v.val + ln x) + 1 := by
  have := ln_lt x
  have := v.isLt
  have e : addi (muli (iq l v.val) (sp 2)) (sp 1) x = muli (iq l v.val) (sp 2) x + 1#32 := rfl
  rw [e, BitVec.toNat_add, iq2_toNat hl v x, show (1#32 : BitVec 32).toNat = 1 from rfl]
  omega

omit [Facts] in
theorem sp_toNat {n : ℕ} (h : n < 2 ^ 32) (x : S16.Idx) : (sp n x).toNat = n := by
  change (BitVec.ofNat 32 n).toNat = n
  rw [BitVec.toNat_ofNat]
  exact Nat.mod_eq_of_lt h

/-! ## What the tables hold -/

section Tables

variable (TX TY TZ : S132.Idx → F .f32) (Q : S64x3.Idx → F .f32)

/-- A query's interval on each axis. -/
def jxOf (k : ℕ) : BitVec 32 := jOf TX (Q (ix2 64 3 k 0))
def jyOf (k : ℕ) : BitVec 32 := jOf TY (Q (ix2 64 3 k 1))
def jzOf (k : ℕ) : BitVec 32 := jOf TZ (Q (ix2 64 3 k 2))

/-- The weight in row `r` for query `k`. -/
def rowOf (r k : ℕ) : F .f32 :=
  if r < 4 then wOf TX (Q (ix2 64 3 k 0)) r else if r < 8 then wOf TY (Q (ix2 64 3 k 1)) (r - 4) else wOf TZ (Q (ix2 64 3 k 2)) (r - 8)

/-- The first group in row `m` for query `k`. -/
def gkOf (m k : ℕ) : BitVec 32 := grpOf (jxOf TX Q k) (jyOf TY Q k) (jzOf TZ Q k) m

/-- How far a row is filled: sixteen more in the first `n` rows. -/
abbrev upto (v n r : ℕ) : ℕ := if r < n then 16 * (v + 1) else 16 * v

/-- The weights' table filled so far. -/
def Wt (v n : ℕ) (W : S12x64.Idx → F .f32) : Prop := ∀ r < 12, ∀ k < upto v n r, W (ix2 12 64 r k) = rowOf TX TY TZ Q r k

/-- The shifts' table filled so far. -/
def St (b : ℕ) (S : S64.Idx → BitVec 32) : Prop := ∀ k < b, S (ix1 64 k) = shOf (jxOf TX Q k)

/-- The groups' table filled so far: the first groups in `n` rows more, the groups after them in `n'`. -/
def It (v n n' : ℕ) (I : S16x128.Idx → BitVec 32) : Prop :=
  ∀ m < 16, (∀ k < upto v n m, I (ix2 16 128 m (2 * k)) = gkOf TX TY TZ Q m k)
    ∧ ∀ k < upto v n' m, I (ix2 16 128 m (2 * k + 1)) = nextOf (gkOf TX TY TZ Q m k)

/-- The results' table filled so far. -/
def Ot (C : S524288x16.Idx → F .f32) (v n : ℕ) (O : S64x3.Idx → F .f32) : Prop :=
  ∀ e < 3, ∀ k < upto v n e, O (ix2 64 3 k e) = outOf TX TY TZ C (Q (ix2 64 3 k 0)) (Q (ix2 64 3 k 1)) (Q (ix2 64 3 k 2)) e

end Tables

/-- The gathered groups are those named. -/
def Gt (C : S524288x16.Idx → F .f32) (I : S16x128.Idx → BitVec 32) (G : S16x128x16.Idx → F .f32) : Prop :=
  ∀ m < 16, ∀ n < 128, ∀ p < 16, G (ix3 16 128 16 m n p) = C (ix2 524288 16 (I (ix2 16 128 m n)).toNat p)

variable {TX TY TZ : S132.Idx → F .f32} {Q : S64x3.Idx → F .f32}

theorem Wt.next {v : ℕ} {W : S12x64.Idx → F .f32} (h : Wt TX TY TZ Q v 12 W) : Wt TX TY TZ Q (v + 1) 0 W := fun r hr k hk =>
  h r hr k (by rw [upto, if_pos hr]; exact hk)
theorem It.next {v : ℕ} {I : S16x128.Idx → BitVec 32} (h : It TX TY TZ Q v 16 16 I) : It TX TY TZ Q (v + 1) 0 0 I := fun m hm =>
  ⟨fun k hk => (h m hm).1 k (by rw [upto, if_pos hm]; exact hk), fun k hk => (h m hm).2 k (by rw [upto, if_pos hm]; exact hk)⟩
theorem Ot.next {C : S524288x16.Idx → F .f32} {v : ℕ} {O : S64x3.Idx → F .f32} (h : Ot TX TY TZ Q C v 3 O) : Ot TX TY TZ Q C (v + 1) 0 O := fun r hr k hk =>
  h r hr k (by rw [upto, if_pos hr]; exact hk)

theorem gkOf_lt {m : ℕ} (hm : m < 16) (k : ℕ) : (gkOf TX TY TZ Q m k).toNat < 524288 :=
  grpOf_lt (jOf_le _ _) (jOf_le _ _) (jOf_le _ _) hm
theorem nextOf_lt {g : BitVec 32} (hg : g.toNat < 524288) : (nextOf g).toNat < 524288 := by
  rw [nextOf_toNat hg]
  omega

/-- Every group named is one of the array. -/
theorem It.inside {v : ℕ} (hv : 4 ≤ v) {I : S16x128.Idx → BitVec 32} (h : It TX TY TZ Q v 0 0 I) (x : S16x128.Idx) : (I x).toNat < 524288 := by
  have h0 : (x 0).val < 16 := (x 0).isLt
  have h1 : (x 1).val < 128 := (x 1).isLt
  have e : x = ix2 16 128 (x 0).val (x 1).val := by
    funext d
    match d with
    | 0 => exact Fin.ext (Nat.mod_eq_of_lt h0).symm
    | 1 => exact Fin.ext (Nat.mod_eq_of_lt h1).symm
  have hb : (x 1).val / 2 < upto v 0 (x 0).val := by
    rw [upto, if_neg (Nat.not_lt_zero _)]
    omega
  obtain ⟨a, b⟩ := h _ h0
  rw [e]
  rcases Nat.even_or_odd' (x 1).val with ⟨c, hc | hc⟩
  · rw [hc, a c (by omega)]
    exact gkOf_lt h0 _
  · rw [hc, b c (by omega)]
    exact nextOf_lt (gkOf_lt h0 _)

/-! ## One store's step -/

theorem Wt.step {v : Fin 4} {n : ℕ} (hn : n < 12) {W W' : S12x64.Idx → F .f32} (h : Wt TX TY TZ Q v n W)
    (w : S1x16.Idx → F .f32) (hw : ∀ x : S16.Idx, w (ix2 1 16 0 (ln x)) = rowOf TX TY TZ Q n (16 * v + ln x))
    (hW : Wrote (F := F) (e := .f32) (Rect.unit (s := S12x64) ![n, 16 * v.val] S1x16.size (inbW ⟨n, hn⟩ v)) w W W') : Wt TX TY TZ Q v (n + 1) W' := by
  intro r hr k hk
  have hv := v.isLt
  have hem : ∀ x, ((Rect.unit (s := S12x64) ![n, 16 * v.val] S1x16.size (inbW ⟨n, hn⟩ v)).emb x 0).val = n + 1 * (x 0).val
      ∧ ((Rect.unit (s := S12x64) ![n, 16 * v.val] S1x16.size (inbW ⟨n, hn⟩ v)).emb x 1).val = 16 * v.val + 1 * (x 1).val := fun x => ⟨rfl, rfl⟩
  have hk64 : k < 64 := by
    unfold upto at hk
    split at hk <;> omega
  by_cases hin : r = n ∧ 16 * v.val ≤ k
  · obtain ⟨rfl, hle⟩ := hin
    have hk16 : k - 16 * v.val < 16 := by
      rw [upto, if_pos (Nat.lt_succ_self _)] at hk
      omega
    have e : ix2 12 64 r k = (Rect.unit (s := S12x64) ![r, 16 * v.val] S1x16.size (inbW ⟨r, hn⟩ v)).emb (ix2 1 16 0 (ln (ix1 16 (k - 16 * v.val)))) := by
      funext d
      match d with
      | 0 =>
        refine Fin.ext ?_
        rw [(hem _).1]
        change r % 12 = r + 1 * (0 % 1)
        omega
      | 1 =>
        refine Fin.ext ?_
        rw [(hem _).2]
        change k % 64 = 16 * v.val + 1 * (((k - 16 * v.val) % 16) % 16)
        omega
    rw [e, hW.1, hw]
    congr 1
    change 16 * v.val + (k - 16 * v.val) % 16 = k
    omega
  · rw [hW.2, h r hr k]
    · unfold upto at hk ⊢
      by_cases hr' : r < n
      · rw [if_pos hr']
        rwa [if_pos (by omega)] at hk
      · rw [if_neg hr']
        by_cases hrn : r = n
        · have := not_and.mp hin hrn
          omega
        · rwa [if_neg (by omega)] at hk
    · intro x hx
      have e0 := congrArg Fin.val (congrFun hx 0)
      have e1 := congrArg Fin.val (congrFun hx 1)
      rw [(hem x).1] at e0
      rw [(hem x).2] at e1
      have x0 : (x 0).val < 1 := (x 0).isLt
      change _ = r % 12 at e0
      change _ = k % 64 at e1
      omega

theorem St.step {v : Fin 4} {S S' : S64.Idx → BitVec 32} (h : St TX Q (16 * v) S) (w : S16.Idx → BitVec 32)
    (hw : ∀ x : S16.Idx, w x = shOf (jxOf TX Q (16 * v + ln x)))
    (hS : Wrote (F := F) (e := .i32) (Rect.unit (s := S64) ![16 * v.val] S16.size (inbS v)) w S S') : St TX Q (16 * (v + 1)) S' := by
  intro k hk
  have hv := v.isLt
  have hem : ∀ x, ((Rect.unit (s := S64) ![16 * v.val] S16.size (inbS v)).emb x 0).val = 16 * v.val + 1 * (x 0).val := by
    intro x
    rfl
  by_cases hle : 16 * v.val ≤ k
  · have e : ix1 64 k = (Rect.unit (s := S64) ![16 * v.val] S16.size (inbS v)).emb (ix1 16 (k - 16 * v.val)) := by
      funext d
      match d with
      | 0 =>
        refine Fin.ext ?_
        rw [hem]
        change k % 64 = 16 * v.val + 1 * ((k - 16 * v.val) % 16)
        omega
    rw [e, hS.1]
    refine (hw _).trans (congrArg (fun a => shOf (jxOf TX Q a)) ?_)
    change 16 * v.val + (k - 16 * v.val) % 16 = k
    omega
  · rw [hS.2, h k (by omega)]
    intro x hx
    have e0 := congrArg Fin.val (congrFun hx 0)
    rw [hem x] at e0
    change _ = k % 64 at e0
    omega

theorem It.step0 {l : IVec S16 32} (hl : Counts l) {v : Fin 4} {m : ℕ} (hm : m < 16) {I : S16x128.Idx → BitVec 32}
    (h : It TX TY TZ Q v m m I) (g : IVec S16 32) (hg : ∀ x, g x = gkOf TX TY TZ Q m (16 * v + ln x)) (hin) :
    It TX TY TZ Q v (m + 1) m (storeIdx (F := F) (s := S16x128) (e := .i32) I ![sp m, muli (iq l v.val) (sp 2)] g (fun _ => 1#1) false hin) := by
  intro m' hm'
  have hv := v.isLt
  have hput := fun (k : ℕ) (hk : k < 128) => storeIdx_put2 (F := F) (e := .i32) I (sp m) (muli (iq l v.val) (sp 2)) g hin (fun x y _ hxy => by
    rw [iq2_toNat hl, iq2_toNat hl] at hxy
    exact ln_inj (by omega)) hm' hk
  simp only [iq2_toNat hl, sp_toNat (n := m) (by omega)] at hput
  constructor
  · intro k hk
    have hk64 : k < 64 := by
      unfold upto at hk
      split at hk <;> omega
    by_cases hc : m' = m ∧ 16 * v.val ≤ k
    · obtain ⟨rfl, hle⟩ := hc
      have hk16 : k - 16 * v.val < 16 := by
        rw [upto, if_pos (Nat.lt_succ_self _)] at hk
        omega
      have ex : ln (ix1 16 (k - 16 * v.val)) = k - 16 * v.val := Nat.mod_eq_of_lt hk16
      rw [(hput (2 * k) (by omega)).1 (ix1 16 (k - 16 * v.val)) rfl (by rw [ex]; omega), hg, ex]
      congr 1
      omega
    · rw [(hput (2 * k) (by omega)).2 fun x hx => hc ⟨hx.1, by omega⟩]
      refine (h m' hm').1 k ?_
      unfold upto at hk ⊢
      by_cases hr' : m' < m
      · rw [if_pos hr']
        rwa [if_pos (by omega)] at hk
      · rw [if_neg hr']
        by_cases hrn : m' = m
        · have := not_and.mp hc hrn
          omega
        · rwa [if_neg (by omega)] at hk
  · intro k hk
    have hk64 : k < 64 := by
      unfold upto at hk
      split at hk <;> omega
    rw [(hput (2 * k + 1) (by omega)).2 fun x hx => by omega]
    exact (h m' hm').2 k hk

theorem It.step1 {l : IVec S16 32} (hl : Counts l) {v : Fin 4} {m : ℕ} (hm : m < 16) {I : S16x128.Idx → BitVec 32}
    (h : It TX TY TZ Q v (m + 1) m I) (g : IVec S16 32) (hg : ∀ x, g x = nextOf (gkOf TX TY TZ Q m (16 * v + ln x))) (hin) :
    It TX TY TZ Q v (m + 1) (m + 1) (storeIdx (F := F) (s := S16x128) (e := .i32) I ![sp m, addi (muli (iq l v.val) (sp 2)) (sp 1)] g (fun _ => 1#1) false hin) := by
  intro m' hm'
  have hv := v.isLt
  have hput := fun (k : ℕ) (hk : k < 128) => storeIdx_put2 (F := F) (e := .i32) I (sp m) (addi (muli (iq l v.val) (sp 2)) (sp 1)) g hin (fun x y _ hxy => by
    rw [iq21_toNat hl, iq21_toNat hl] at hxy
    exact ln_inj (by omega)) hm' hk
  simp only [iq21_toNat hl, sp_toNat (n := m) (by omega)] at hput
  constructor
  · intro k hk
    have hk64 : k < 64 := by
      unfold upto at hk
      split at hk <;> omega
    rw [(hput (2 * k) (by omega)).2 fun x hx => by omega]
    exact (h m' hm').1 k hk
  · intro k hk
    have hk64 : k < 64 := by
      unfold upto at hk
      split at hk <;> omega
    by_cases hc : m' = m ∧ 16 * v.val ≤ k
    · obtain ⟨rfl, hle⟩ := hc
      have hk16 : k - 16 * v.val < 16 := by
        rw [upto, if_pos (Nat.lt_succ_self _)] at hk
        omega
      have ex : ln (ix1 16 (k - 16 * v.val)) = k - 16 * v.val := Nat.mod_eq_of_lt hk16
      rw [(hput (2 * k + 1) (by omega)).1 (ix1 16 (k - 16 * v.val)) rfl (by rw [ex]; omega), hg, ex]
      congr 2
      omega
    · rw [(hput (2 * k + 1) (by omega)).2 fun x hx => hc ⟨hx.1, by omega⟩]
      refine (h m' hm').2 k ?_
      unfold upto at hk ⊢
      by_cases hr' : m' < m
      · rw [if_pos hr']
        rwa [if_pos (by omega)] at hk
      · rw [if_neg hr']
        by_cases hrn : m' = m
        · have := not_and.mp hc hrn
          omega
        · rwa [if_neg (by omega)] at hk

theorem Ot.step {C : S524288x16.Idx → F .f32} {l : IVec S16 32} (hl : Counts l) {v : Fin 4} {n : ℕ} (hn : n < 3) {O : S64x3.Idx → F .f32}
    (h : Ot TX TY TZ Q C v n O) (w : FVec F S16 .f32)
    (hw : ∀ x, w x = outOf TX TY TZ C (Q (ix2 64 3 (16 * v + ln x) 0)) (Q (ix2 64 3 (16 * v + ln x) 1)) (Q (ix2 64 3 (16 * v + ln x) 2)) n) (hin) :
    Ot TX TY TZ Q C v (n + 1) (storeIdx (F := F) (s := S64x3) (e := .f32) O ![iq l v.val, sp n] w (fun _ => 1#1) false hin) := by
  intro e he k hk
  have hv := v.isLt
  have hk64 : k < 64 := by
    unfold upto at hk
    split at hk <;> omega
  have hput := storeIdx_put2 (F := F) (e := .f32) O (iq l v.val) (sp n) w hin (fun x y hxy _ => by
    rw [iq_toNat hl, iq_toNat hl] at hxy
    exact ln_inj (by omega)) hk64 he
  simp only [iq_toNat hl, sp_toNat (n := n) (by omega)] at hput
  by_cases hc : e = n ∧ 16 * v.val ≤ k
  · obtain ⟨rfl, hle⟩ := hc
    have hk16 : k - 16 * v.val < 16 := by
      rw [upto, if_pos (Nat.lt_succ_self _)] at hk
      omega
    have ex : ln (ix1 16 (k - 16 * v.val)) = k - 16 * v.val := Nat.mod_eq_of_lt hk16
    have ek : 16 * v.val + (k - 16 * v.val) = k := by omega
    rw [hput.1 (ix1 16 (k - 16 * v.val)) (by rw [ex]; omega) rfl, hw, ex, ek]
  · rw [hput.2 fun x hx => hc ⟨hx.2, by omega⟩]
    refine h e he k ?_
    unfold upto at hk ⊢
    by_cases hr' : e < n
    · rw [if_pos hr']
      rwa [if_pos (by omega)] at hk
    · rw [if_neg hr']
      by_cases hrn : e = n
      · have := not_and.mp hc hrn
        omega
      · rwa [if_neg (by omega)] at hk

end Cert.Kernel
-- ==== Proof.Tile.lean ====
module

public import proofs.«01_k».proof.Proof.Mix
public import Idealize.ShloMosaic.Lib.SparseCore.Quiescent
public import Idealize.ShloMosaic.Lib.StableHlo.Run
public import Idealize.ShloMosaic.Lib.Pipeline.Kit

@[expose] public section

/-!
The two halves of the work on sixteen queries, run: what each leaves in the tables.
-/

noncomputable section

namespace Cert.Kernel

open Idealize.ShloMosaic Idealize.ShloMosaic.SparseCore Idealize.SL
open Idealize.ShloMosaic.SparseCore.Cfg (HIx)
open Idealize.SL.BI (sProp Storable bigSep)
open scoped Idealize.SL.BI
open Idealize.SL.BI.BIBase Idealize.SL.BI.Laws Idealize.SL.Sem Idealize.SL.ProofMode
open Idealize.SL.RA Idealize.ShloMosaic.Transfers Idealize.ShloMosaic.Rounds Cert.Streams

variable {F : FTy → Type} [FloatOps F] [Facts]

/-- The handshakes' rounds and the copies' counters. -/
abbrev UH : Type := URounds (GSem nD τ sig) ℕ
abbrev UU : Type := UH × Counters
abbrev MM (F : FTy → Type) : Type := MT nD τ sig (HIx 1) (Elt F) ℕ UU ℕ

/-- A vector subcore's program run there. -/
abbrev run (d : Dev nD) {c : Fin τ.nSC} {s : Fin τ.nSub} {α : Type} (p : TP F c s α) (Q : α → sProp (MM F)) : sProp (MM F) :=
  wp frame (wpE (defs₀ (F := F)) Variants.none (V d c s) none) Set.univ p Q

/-- A vector subcore's memory. -/
abbrev at' (d : Dev nD) (c : Fin τ.nSC) (s : Fin τ.nSub) {sp : Space} {sh : Shape} {e : EltTy} (m : Memref sig .scVector sp sh e)
    (A : sh.Idx → Elt F e) : sProp (MM F) := holds (V d c s) m A

variable (d : Dev nD) {c : Fin τ.nSC} {s : Fin τ.nSub} {α β : Type}

theorem run_pure (a : α) (Q : α → sProp (MM F)) : Q a ⊢ run d (c := c) (s := s) (pure a) Q := le_wp_ret _ _ _ _ _

theorem run_bind (p : TP F c s α) (k : α → TP F c s β) (Q : β → sProp (MM F)) :
    run d (p >>= k) Q = run d p fun a => run d (k a) Q := wp_bind _ _ _ _ _ _

theorem run_up {σ : Type} {f : ℕ → σ → TP F c s σ} (Inv : ℕ → σ → sProp (MM F)) {hi : ℕ}
    (hf : ∀ j a, j < hi → Inv j a ⊢ run d (f j a) (Inv (j + 1))) :
    ∀ (n k : ℕ) (a : σ), k + n = hi → Inv k a ⊢ run d (up f k n a) (Inv hi) := by
  intro n
  induction n with
  | zero =>
    intro k a hk
    obtain rfl : k = hi := hk
    exact run_pure d a _
  | succ n ih =>
    intro k a hk
    rw [up, run_bind]
    exact (hf k a (by omega)).trans (wp_mono _ _ _ fun b => ih (k + 1) b (by omega))

/-- Rounds by an invariant, before what comes after. -/
theorem run_rounds {σ : Type} {f : ℕ → σ → TP F c s σ} (Inv : ℕ → σ → sProp (MM F)) {n : ℕ} {a : σ} {Q : σ → sProp (MM F)}
    (hf : ∀ j a, j < n → Inv j a ⊢ run d (f j a) (Inv (j + 1))) :
    Inv 0 a ⊢ iprop((∀ b, Inv n b -∗ Q b) -∗ run d (up f 0 n a) Q) :=
  (run_up d Inv hf n 0 a (Nat.zero_add n)).trans (wp_wand _ _ _)

variable {d}

theorem run_assume {P : Prop} {dc : Decidable P} {Q : PLift P → sProp (MM F)} (h : P) :
    Q ⟨h⟩ ⊢ run d (c := c) (s := s) (Prog.lift (.assume P dc)) Q := by
  change _ ⊢ wp frame (wpE (defs₀ (F := F)) Variants.none (V d c s) none) Set.univ (.op (.assume P dc) .ret) Q
  rw [wp_assume_of _ _ _ _ h]
  exact le_wp_ret _ _ _ _ _

theorem run_ldi {t : Shape} {sh : Shape} {e : EltTy} {m : Memref sig .scVector .vmem sh e} {idxs : Fin sh.rank → IVec t 32}
    {h : ∀ a x, (idxs a x).toNat < sh.size a} {hl : m.view.Loads} {A : sh.Idx → Elt F e} {Q : Vec F t e → sProp (MM F)}
    {y : Vec F t e} (hy : loadIdx A idxs h = y) :
    at' d c s m A ⊢ iprop((at' d c s m A -∗ Q y) -∗ run d (c := c) (s := s) (vectorLoadIdx m idxs h hl) Q) := by
  subst hy
  have h0 := wp_ldi (Q := Q) (defs := defs₀ (F := F)) (U := UU) (Lvl := ℕ) (Ix := HIx 1) (Name := ℕ) Variants.none (V d c s) none (m := m) (idxs := idxs) (h := h) (hl := hl)
    (k := Prog.ret) (A := A)
  rw [show (vectorLoadIdx m idxs h hl >>= Prog.ret) = (vectorLoadIdx m idxs h hl : TP F c s _) from Prog.bind_pure _] at h0
  iintro H Hk
  iapply h0 $$ H
  iintro H
  iapply le_wp_ret
  iapply Hk $$ H

theorem run_sti {dd : Fin 1 → ℕ} {sh : Shape} {e : EltTy} {m : Memref sig .scVector .vmem sh e} {idxs : Fin sh.rank → IVec ⟨1, dd⟩ 32}
    {v : Vec F ⟨1, dd⟩ e} {mask : IVec ⟨1, dd⟩ 1} {add : Bool}
    {h : ∀ a x, (idxs a x).toNat < sh.size a} {hs : (m.access (.whole sh)).Stores Finset.univ} {A : sh.Idx → Elt F e} {Q : PUnit → sProp (MM F)} :
    at' d c s m A ⊢ iprop((at' d c s m (storeIdx A idxs v mask add h) -∗ Q ⟨⟩)
      -∗ run d (c := c) (s := s) (vectorStoreIdx m idxs v mask add h hs) Q) := by
  have h0 := wp_sti (Q := Q) (defs := defs₀ (F := F)) (U := UU) (Lvl := ℕ) (Ix := HIx 1) (Name := ℕ) Variants.none (V d c s) none (m := m) (idxs := idxs) (h := h) (hs := hs)
    (v := v) (mask := mask) (add := add) (k := Prog.ret) (A := A)
  rw [show (vectorStoreIdx m idxs v mask add h hs >>= Prog.ret) = (vectorStoreIdx m idxs v mask add h hs : TP F c s _) from Prog.bind_pure _] at h0
  iintro H Hk
  iapply h0 $$ H
  iintro H
  iapply le_wp_ret
  iapply Hk $$ H

theorem run_rd {cs : CoreSpace} {sh : Shape} {e : EltTy} {m : Memref sig .scVector cs sh e} {r : LoadRect sh} {hl : m.view.LoadsAt r}
    {A : sh.Idx → Elt F e} {Q : (r.shape.Idx → Elt F e) → sProp (MM F)} :
    at' d c s m A ⊢ iprop((at' d c s m A -∗ Q fun x => A (r.idx x)) -∗ run d (c := c) (s := s) (Prog.lift (.load m r hl)) Q) := by
  iintro H Hk
  iapply (wp_rd (Q := Q) (defs := defs₀ (F := F)) Variants.none (V d c s) none (m := m) (r := r) (hl := hl) (k := Prog.ret) (A := A)) $$ H
  iintro H
  iapply le_wp_ret
  iapply Hk $$ H

theorem run_wr {cs : CoreSpace} {sh : Shape} {e : EltTy} {m : Memref sig .scVector cs sh e} {r : Rect sh} {w : r.shape.Idx → Elt F e}
    {hx : (m.access r).Stores Finset.univ} {hm : (Finset.univ : Finset r.shape.Idx) = Finset.univ ∨ ∀ a, r.stride a = 1}
    {A : sh.Idx → Elt F e} {Q : PUnit → sProp (MM F)} :
    at' d c s m A ⊢ iprop((∀ A', ⌜Wrote r w A A'⌝ -∗ at' d c s m A' -∗ Q ⟨⟩)
      -∗ run d (c := c) (s := s) (Prog.lift (.store m r w Finset.univ hx hm)) Q) := by
  iintro H Hk
  iapply (wp_wr (Q := Q) (defs := defs₀ (F := F)) Variants.none (V d c s) none (m := m) (r := r) (w := w) (hx := hx) (hm := hm) (k := Prog.ret) (A := A)) $$ H
  iintro %A' %hA H
  iapply le_wp_ret
  iapply Hk $$ %A' [] H
  ipureintro
  exact hA

/-! ## The accesses -/

theorem run_ldT {tv : Memref sig .scVector .vmem S132 .f32} {a : IVec S16 32} (h : ∀ x, (a x).toNat < 132) {T : S132.Idx → F .f32}
    {Q : Vec F S16 .f32 → sProp (MM F)} :
    at' d c s tv T ⊢ iprop((at' d c s tv T -∗ Q fun x => kn T (a x)) -∗ run d (c := c) (s := s) (ldT tv a) Q) := by
  unfold ldT
  rw [run_bind]
  iintro H Hk
  iapply (run_assume (inb1_of h))
  iapply (run_ldi (loadIdx1 _ _ _)) $$ H
  iexact Hk

theorem run_ldQ {q : Memref sig .scVector .vmem S64x3 .f32} {a : IVec S16 32} (h : ∀ x, (a x).toNat < 64) {k : ℕ} (hk : k < 3)
    {B : S64x3.Idx → F .f32} {Q : Vec F S16 .f32 → sProp (MM F)} :
    at' d c s q B ⊢ iprop((at' d c s q B -∗ Q fun x => B (ix2 64 3 (a x).toNat k)) -∗ run d (c := c) (s := s) (ldQ q a k) Q) := by
  unfold ldQ
  rw [run_bind]
  iintro H Hk
  have hs : ∀ x, (sp k x).toNat = k := fun x => sp_toNat (by omega) x
  iapply (run_assume (inb2_of h fun x => (hs x).symm ▸ hk))
  iapply (run_ldi (y := fun x => B (ix2 64 3 (a x).toNat k))
    ((loadIdx2 _ _ _ _).trans (by simp only [hs]))) $$ H
  iexact Hk

theorem run_ldG {g : Memref sig .scVector .vmem S16x128x16 .f32} {m : ℕ} (hm : m < 16) {a b : IVec S16 32} (h : ∀ x, (a x).toNat < 128)
    (h' : ∀ x, (b x).toNat < 16) {G : S16x128x16.Idx → F .f32} {Q : Vec F S16 .f32 → sProp (MM F)} :
    at' d c s g G ⊢ iprop((at' d c s g G -∗ Q fun x => G (ix3 16 128 16 m (a x).toNat (b x).toNat))
      -∗ run d (c := c) (s := s) (ldG g m a b) Q) := by
  unfold ldG
  rw [run_bind]
  iintro H Hk
  have hs : ∀ x, (sp m x).toNat = m := fun x => sp_toNat (by omega) x
  iapply (run_assume (inb3_of (fun x => (hs x).symm ▸ hm) h h'))
  iapply (run_ldi (y := fun x => G (ix3 16 128 16 m (a x).toNat (b x).toNat))
    ((loadIdx3 _ _ _ _ _).trans (by simp only [hs]))) $$ H
  iexact Hk

theorem cast_row (n : FVec F S16 .f32) (x : S16.Idx) : shapeCast S1x16 n Facts₀.shapeCasts_S16_S1x16 (ix2 1 16 0 (ln x)) = n x := by
  refine congrArg n (Shape.reshapeEquiv_eq_of_rowMajor _ ?_)
  rw [Shape.rowMajor_val_one, Shape.rowMajor_val_two]
  have := ln_lt x
  change ln x = 0 % 1 * 16 + ln x % 16
  omega

theorem cast_lane (n : S1x16.Idx → F .f32) (x : S16.Idx) : shapeCast S16 n Facts₀.shapeCasts_S1x16_S16 x = n (ix2 1 16 0 (ln x)) := by
  refine congrArg n (Shape.reshapeEquiv_eq_of_rowMajor _ ?_)
  rw [Shape.rowMajor_val_one, Shape.rowMajor_val_two]
  have := ln_lt x
  change 0 % 1 * 16 + ln x % 16 = ln x
  omega

section Filled

variable {TX TY TZ : S132.Idx → F .f32} {B : S64x3.Idx → F .f32}

theorem row_x {r : ℕ} (hr : r < 4) (k : ℕ) : wOf TX (B (ix2 64 3 k 0)) r = rowOf TX TY TZ B r k := (if_pos hr).symm
theorem row_y {r : ℕ} (hr : r < 4) (k : ℕ) : wOf TY (B (ix2 64 3 k 1)) r = rowOf TX TY TZ B (r + 4) k := by
  rw [rowOf, if_neg (by omega), if_pos (by omega), Nat.add_sub_cancel]
theorem row_z {r : ℕ} (k : ℕ) : wOf TZ (B (ix2 64 3 k 2)) r = rowOf TX TY TZ B (r + 8) k := by
  rw [rowOf, if_neg (by omega), if_neg (by omega), Nat.add_sub_cancel]

theorem gk_eq (m k : ℕ) : grpOf (jOf TX (B (ix2 64 3 k 0))) (jOf TY (B (ix2 64 3 k 1))) (jOf TZ (B (ix2 64 3 k 2))) m = gkOf TX TY TZ B m k := by
  unfold gkOf jxOf jyOf jzOf
  rfl
theorem sx_eq (k : ℕ) : shOf (jOf TX (B (ix2 64 3 k 0))) = shOf (jxOf TX B k) := by
  unfold jxOf
  rfl

theorem run_stW {w : Memref sig .scVector .vmem S12x64 .f32} {v : Fin 4} {r : ℕ} (hr : r < 12) {n : FVec F S16 .f32}
    (hn : ∀ x, n x = rowOf TX TY TZ B r (16 * v + ln x)) {Q : PUnit → sProp (MM F)} :
    iprop(∃ W, at' d c s w W ∗ ⌜Wt TX TY TZ B v r W⌝) ⊢ iprop((iprop(∃ W, at' d c s w W ∗ ⌜Wt TX TY TZ B v (r + 1) W⌝) -∗ Q ⟨⟩)
      -∗ run d (c := c) (s := s) (stW w v ⟨r, hr⟩ n) Q) := by
  unfold stW
  rw [run_bind]
  iintro ⟨%W, H, %hW⟩ Hk
  iapply run_rd $$ H
  iintro H
  iapply run_wr $$ H
  iintro %W' %hW' H
  iapply Hk
  iexists W'
  isplitl [H]
  · iexact H
  · ipureintro
    exact hW.step hr _ (fun x => (cast_row n x).trans (hn x)) hW'

theorem run_ldW {w : Memref sig .scVector .vmem S12x64 .f32} {v : Fin 4} {r : ℕ} (hr : r < 12) {W : S12x64.Idx → F .f32}
    (hW : Wt TX TY TZ B 4 0 W) {Q : FVec F S16 .f32 → sProp (MM F)} :
    at' d c s w W ⊢ iprop((at' d c s w W -∗ Q fun x => rowOf TX TY TZ B r (16 * v + ln x))
      -∗ run d (c := c) (s := s) (ldW w v ⟨r, hr⟩) Q) := by
  unfold ldW
  rw [run_bind]
  iintro H Hk
  iapply run_rd $$ H
  iintro H
  iapply run_pure
  have e : shapeCast S16 (fun x => W ((Rect.unit (s := S12x64) ![r, 16 * v.val] S1x16.size (inbW ⟨r, hr⟩ v)).toLoadRect.idx x))
      Facts₀.shapeCasts_S1x16_S16 = fun x => rowOf TX TY TZ B r (16 * v + ln x) := by
    funext x
    have hv := v.isLt
    have hx := ln_lt x
    rw [cast_lane, ← hW r hr (16 * v + ln x) (by
      rw [upto, if_neg (Nat.not_lt_zero _)]
      omega)]
    refine congrArg W (funext fun a => ?_)
    match a with
    | 0 =>
      refine Fin.ext ?_
      change r + 1 * (0 % 1) = r % 12
      omega
    | 1 =>
      refine Fin.ext ?_
      change 16 * v.val + 1 * (ln x % 16) = (16 * v.val + ln x) % 64
      omega
  rw [e]
  iapply Hk $$ H

theorem sum_lt {j : BitVec 32} (hj : j.toNat ≤ 124) {n : ℕ} (hn : n ≤ 6) : (j + BitVec.ofNat 32 n).toNat < 132 := by
  rw [BitVec.toNat_add, BitVec.toNat_ofNat]
  omega

theorem run_basis {tv : Memref sig .scVector .vmem S132 .f32} {x : FVec F S16 .f32} {T : S132.Idx → F .f32}
    {Q : IVec S16 32 × (ℕ → FVec F S16 .f32) → sProp (MM F)} :
    at' d c s tv T ⊢ iprop((at' d c s tv T -∗ Q (fun l => jOf T (x l), fun r l => wOf T (x l) r)) -∗ run d (c := c) (s := s) (basisP tv x) Q) := by
  unfold basisP
  have hg : ∀ l n, n ≤ 6 → (addi (guess x) (sp n) l).toNat < 132 := fun l n hn => by
    have e : addi (guess x) (sp n) l = guess x l + BitVec.ofNat 32 n := rfl
    rw [e, guess_lane]
    exact sum_lt (gOf_le _) hn
  have ef : fix x (guess x) (fun l => kn T (addi (guess x) (sp 3) l)) (fun l => kn T (addi (guess x) (sp 4) l)) = fun l => jOf T (x l) := by
    funext l
    rw [fix_lane]
    unfold jOf
    have e3 : addi (guess x) (sp 3) l = guess x l + 3#32 := rfl
    have e4 : addi (guess x) (sp 4) l = guess x l + 4#32 := rfl
    rw [e3, e4, guess_lane]
  have hj : ∀ l n, n ≤ 6 → (addi (fun l => jOf T (x l)) (sp n) l).toNat < 132 := fun l n hn => by
    have e : addi (fun l => jOf T (x l)) (sp n) l = jOf T (x l) + BitVec.ofNat 32 n := rfl
    rw [e]
    exact sum_lt (jOf_le _ _) hn
  have ew : wts x (fun l => kn T (addi (fun l => jOf T (x l)) (sp 1) l)) (fun l => kn T (addi (fun l => jOf T (x l)) (sp 2) l))
      (fun l => kn T (addi (fun l => jOf T (x l)) (sp 3) l)) (fun l => kn T (addi (fun l => jOf T (x l)) (sp 4) l))
      (fun l => kn T (addi (fun l => jOf T (x l)) (sp 5) l)) (fun l => kn T (addi (fun l => jOf T (x l)) (sp 6) l))
      = fun r l => wOf T (x l) r := by
    funext r l
    rw [wts_lane]
    rfl
  simp only [run_bind]
  iintro H Hk
  iapply (run_ldT fun l => hg l 3 (by omega)) $$ H
  iintro H
  iapply (run_ldT fun l => hg l 4 (by omega)) $$ H
  iintro H
  rw [ef]
  iapply (run_ldT fun l => hj l 1 (by omega)) $$ H
  iintro H
  iapply (run_ldT fun l => hj l 2 (by omega)) $$ H
  iintro H
  iapply (run_ldT fun l => hj l 3 (by omega)) $$ H
  iintro H
  iapply (run_ldT fun l => hj l 4 (by omega)) $$ H
  iintro H
  iapply (run_ldT fun l => hj l 5 (by omega)) $$ H
  iintro H
  iapply (run_ldT fun l => hj l 6 (by omega)) $$ H
  iintro H
  rw [ew]
  iapply run_pure
  iapply Hk $$ H

theorem run_stI0 {ix : Memref sig .scVector .vmem S16x128 .i32} {l : IVec S16 32} (hl : Counts l) {v : Fin 4} {m : ℕ} (hm : m < 16)
    {g : IVec S16 32} (hg : ∀ x, g x = gkOf TX TY TZ B m (16 * v + ln x)) {Q : PUnit → sProp (MM F)} :
    iprop(∃ I, at' d c s ix I ∗ ⌜It TX TY TZ B v m m I⌝) ⊢ iprop((iprop(∃ I, at' d c s ix I ∗ ⌜It TX TY TZ B v (m + 1) m I⌝) -∗ Q ⟨⟩)
      -∗ run d (c := c) (s := s) (stI ix m (muli (iq l v.val) (sp 2)) g) Q) := by
  unfold stI
  rw [run_bind]
  iintro ⟨%I, H, %hI⟩ Hk
  have hv := v.isLt
  iapply (run_assume (inb2_of (fun x => (sp_toNat (n := m) (by omega) x).symm ▸ hm) fun x => by
    have := ln_lt x
    rw [iq2_toNat hl]
    omega))
  iapply run_sti $$ H
  iintro H
  iapply Hk
  iexists _
  isplitl [H]
  · iexact H
  · ipureintro
    exact hI.step0 hl hm g hg _

theorem run_stI1 {ix : Memref sig .scVector .vmem S16x128 .i32} {l : IVec S16 32} (hl : Counts l) {v : Fin 4} {m : ℕ} (hm : m < 16)
    {g : IVec S16 32} (hg : ∀ x, g x = nextOf (gkOf TX TY TZ B m (16 * v + ln x))) {Q : PUnit → sProp (MM F)} :
    iprop(∃ I, at' d c s ix I ∗ ⌜It TX TY TZ B v (m + 1) m I⌝) ⊢ iprop((iprop(∃ I, at' d c s ix I ∗ ⌜It TX TY TZ B v (m + 1) (m + 1) I⌝) -∗ Q ⟨⟩)
      -∗ run d (c := c) (s := s) (stI ix m (addi (muli (iq l v.val) (sp 2)) (sp 1)) g) Q) := by
  unfold stI
  rw [run_bind]
  iintro ⟨%I, H, %hI⟩ Hk
  have hv := v.isLt
  iapply (run_assume (inb2_of (fun x => (sp_toNat (n := m) (by omega) x).symm ▸ hm) fun x => by
    have := ln_lt x
    rw [iq21_toNat hl]
    omega))
  iapply run_sti $$ H
  iintro H
  iapply Hk
  iexists _
  isplitl [H]
  · iexact H
  · ipureintro
    exact hI.step1 hl hm g hg _

theorem run_stO {C : S524288x16.Idx → F .f32} {o : Memref sig .scVector .vmem S64x3 .f32} {l : IVec S16 32} (hl : Counts l) {v : Fin 4} {n : ℕ} (hn : n < 3)
    {w : FVec F S16 .f32}
    (hw : ∀ x, w x = outOf TX TY TZ C (B (ix2 64 3 (16 * v + ln x) 0)) (B (ix2 64 3 (16 * v + ln x) 1)) (B (ix2 64 3 (16 * v + ln x) 2)) n)
    {Q : PUnit → sProp (MM F)} :
    iprop(∃ O, at' d c s o O ∗ ⌜Ot TX TY TZ B C v n O⌝) ⊢ iprop((iprop(∃ O, at' d c s o O ∗ ⌜Ot TX TY TZ B C v (n + 1) O⌝) -∗ Q ⟨⟩)
      -∗ run d (c := c) (s := s) (stO o (iq l v.val) n w) Q) := by
  unfold stO
  rw [run_bind]
  iintro ⟨%O, H, %hO⟩ Hk
  have hv := v.isLt
  iapply (run_assume (inb2_of (fun x => by
    have := ln_lt x
    rw [iq_toNat hl]
    omega) fun x => (sp_toNat (n := n) (by omega) x).symm ▸ hn))
  iapply run_sti $$ H
  iintro H
  iapply Hk
  iexists _
  isplitl [H]
  · iexact H
  · ipureintro
    exact hO.step hl hn w hw _

/-- The group indices of sixteen queries. -/
theorem run_groups {ix : Memref sig .scVector .vmem S16x128 .i32} {l : IVec S16 32} (hl : Counts l) (v : Fin 4) {jx jy jz : IVec S16 32}
    (hx : ∀ x, jx x = jOf TX (B (ix2 64 3 (16 * v + ln x) 0))) (hy : ∀ x, jy x = jOf TY (B (ix2 64 3 (16 * v + ln x) 1)))
    (hz : ∀ x, jz x = jOf TZ (B (ix2 64 3 (16 * v + ln x) 2))) {Q : PUnit → sProp (MM F)} :
    iprop(∃ I, at' d c s ix I ∗ ⌜It TX TY TZ B v 0 0 I⌝) ⊢ iprop((iprop(∃ I, at' d c s ix I ∗ ⌜It TX TY TZ B v 16 16 I⌝) -∗ Q ⟨⟩)
      -∗ run d (c := c) (s := s) (up (fun m _ => do
        stI ix m (muli (iq l v) (sp 2)) (grp jx jy jz m)
        stI ix m (addi (muli (iq l v) (sp 2)) (sp 1)) (grp1 (grp jx jy jz m))) 0 16 ⟨⟩) Q) := by
  have hg : ∀ m x, grp jx jy jz m x = gkOf TX TY TZ B m (16 * v + ln x) := fun m x => by
    rw [grp_lane, hx, hy, hz, gk_eq]
  iintro HI Hk
  iapply (run_rounds d (fun m _ => iprop(∃ I, at' d c s ix I ∗ ⌜It TX TY TZ B v m m I⌝)) fun m _ hm => ?_) $$ HI
  · rw [run_bind]
    iintro HI
    iapply (run_stI0 (TX := TX) (TY := TY) (TZ := TZ) (B := B) hl hm (hg m)) $$ HI
    iintro HI
    iapply (run_stI1 (TX := TX) (TY := TY) (TZ := TZ) (B := B) hl hm (fun x => (grp1_lane _ x).trans (by rw [hg]))) $$ HI
    iintro HI
    iexact HI
  iintro %u HI
  iapply Hk $$ HI

/-- The first half of the work on sixteen queries. -/
theorem run_phase1 {tx ty tz : Memref sig .scVector .vmem S132 .f32} {q : Memref sig .scVector .vmem S64x3 .f32}
    {ix : Memref sig .scVector .vmem S16x128 .i32} {w : Memref sig .scVector .vmem S12x64 .f32}
    {sv : Memref sig .scVector .vmem S64 .i32} {l : IVec S16 32} (hl : Counts l) (v : Fin 4) {Q : PUnit → sProp (MM F)} :
    iprop(at' d c s tx TX ∗ at' d c s ty TY ∗ at' d c s tz TZ ∗ at' d c s q B
        ∗ (∃ I, at' d c s ix I ∗ ⌜It TX TY TZ B v 0 0 I⌝) ∗ (∃ W, at' d c s w W ∗ ⌜Wt TX TY TZ B v 0 W⌝)
        ∗ (∃ S, at' d c s sv S ∗ ⌜St TX B (16 * v) S⌝))
      ⊢ iprop((iprop(at' d c s tx TX ∗ at' d c s ty TY ∗ at' d c s tz TZ ∗ at' d c s q B
        ∗ (∃ I, at' d c s ix I ∗ ⌜It TX TY TZ B (v + 1) 0 0 I⌝) ∗ (∃ W, at' d c s w W ∗ ⌜Wt TX TY TZ B (v + 1) 0 W⌝)
        ∗ (∃ S, at' d c s sv S ∗ ⌜St TX B (16 * (v + 1)) S⌝)) -∗ Q ⟨⟩)
        -∗ run d (c := c) (s := s) (phase1 tx ty tz q ix w sv l v) Q) := by
  unfold phase1
  simp only [run_bind]
  have hv := v.isLt
  have hi : ∀ x, (iq l v.val x).toNat < 64 := fun x => by
    have := ln_lt x
    rw [iq_toNat hl]
    omega
  iintro ⟨Hx, Hy, Hz, Hq, HI, HW, ⟨%S, HS, %hS⟩⟩ Hk
  iapply (run_ldQ hi (k := 0) (by omega)) $$ Hq
  iintro Hq
  iapply (run_ldQ hi (k := 1) (by omega)) $$ Hq
  iintro Hq
  iapply (run_ldQ hi (k := 2) (by omega)) $$ Hq
  iintro Hq
  iapply run_basis $$ Hx
  iintro Hx
  iapply run_basis $$ Hy
  iintro Hy
  iapply run_basis $$ Hz
  iintro Hz
  simp only [iq_toNat hl]
  iapply (run_stW (TX := TX) (TY := TY) (TZ := TZ) (B := B) (r := 0) (by omega) fun x => row_x (r := 0) (by omega) _) $$ HW
  iintro HW
  iapply (run_stW (TX := TX) (TY := TY) (TZ := TZ) (B := B) (r := 1) (by omega) fun x => row_x (r := 1) (by omega) _) $$ HW
  iintro HW
  iapply (run_stW (TX := TX) (TY := TY) (TZ := TZ) (B := B) (r := 2) (by omega) fun x => row_x (r := 2) (by omega) _) $$ HW
  iintro HW
  iapply (run_stW (TX := TX) (TY := TY) (TZ := TZ) (B := B) (r := 3) (by omega) fun x => row_x (r := 3) (by omega) _) $$ HW
  iintro HW
  iapply (run_stW (TX := TX) (TY := TY) (TZ := TZ) (B := B) (r := 4) (by omega) fun x => row_y (r := 0) (by omega) _) $$ HW
  iintro HW
  iapply (run_stW (TX := TX) (TY := TY) (TZ := TZ) (B := B) (r := 5) (by omega) fun x => row_y (r := 1) (by omega) _) $$ HW
  iintro HW
  iapply (run_stW (TX := TX) (TY := TY) (TZ := TZ) (B := B) (r := 6) (by omega) fun x => row_y (r := 2) (by omega) _) $$ HW
  iintro HW
  iapply (run_stW (TX := TX) (TY := TY) (TZ := TZ) (B := B) (r := 7) (by omega) fun x => row_y (r := 3) (by omega) _) $$ HW
  iintro HW
  iapply (run_stW (TX := TX) (TY := TY) (TZ := TZ) (B := B) (r := 8) (by omega) fun x => row_z (r := 0) _) $$ HW
  iintro HW
  iapply (run_stW (TX := TX) (TY := TY) (TZ := TZ) (B := B) (r := 9) (by omega) fun x => row_z (r := 1) _) $$ HW
  iintro HW
  iapply (run_stW (TX := TX) (TY := TY) (TZ := TZ) (B := B) (r := 10) (by omega) fun x => row_z (r := 2) _) $$ HW
  iintro HW
  iapply (run_stW (TX := TX) (TY := TY) (TZ := TZ) (B := B) (r := 11) (by omega) fun x => row_z (r := 3) _) $$ HW
  iintro ⟨%W, HW, %hW⟩
  iapply run_rd $$ HS
  iintro HS
  iapply run_wr $$ HS
  iintro %S' %hS' HS
  iapply (run_groups (TX := TX) (TY := TY) (TZ := TZ) (B := B) hl v (fun x => rfl) (fun x => rfl) (fun x => rfl)) $$ HI
  iintro ⟨%I, HI, %hI⟩
  iapply Hk
  isplitl [Hx]; · iexact Hx
  isplitl [Hy]; · iexact Hy
  isplitl [Hz]; · iexact Hz
  isplitl [Hq]; · iexact Hq
  isplitl [HI]
  · iexists I
    isplitl [HI]; · iexact HI
    ipureintro; exact hI.next
  isplitl [HW]
  · iexists W
    isplitl [HW]; · iexact HW
    ipureintro; exact hW.next
  · iexists S'
    isplitl [HS]; · iexact HS
    ipureintro
    refine hS.step _ (fun x => ?_) hS'
    rw [sh_lane]
    exact sx_eq _

end Filled

end Cert.Kernel
-- ==== Proof.Sums.lean ====
module

public import proofs.«01_k».proof.Proof.Tile

@[expose] public section

/-!
The second half of the work on sixteen queries, run: the weighted sums.
-/

noncomputable section

namespace Cert.Kernel

open Idealize.ShloMosaic Idealize.ShloMosaic.SparseCore Idealize.SL
open Idealize.ShloMosaic.SparseCore.Cfg (HIx)
open Idealize.SL.BI (sProp Storable bigSep)
open scoped Idealize.SL.BI
open Idealize.SL.BI.BIBase Idealize.SL.BI.Laws Idealize.SL.Sem Idealize.SL.ProofMode
open Idealize.SL.RA Idealize.ShloMosaic.Transfers Idealize.ShloMosaic.Rounds Cert.Streams

variable {F : FTy → Type} [FloatOps F] [Facts]

theorem upv_succ {σ : Type} (f : ℕ → σ → σ) : ∀ (n k : ℕ) (a : σ), upv f k (n + 1) a = f (k + n) (upv f k n a)
  | 0, k, a => rfl
  | n + 1, k, a => by
    have h := upv_succ f n (k + 1) (f k a)
    rw [show k + 1 + n = k + (n + 1) by omega] at h
    exact h

variable {d : Dev nD} {c : Fin τ.nSC} {s : Fin τ.nSub}
variable {TX TY TZ : S132.Idx → F .f32} {B : S64x3.Idx → F .f32} {C : S524288x16.Idx → F .f32}
  {I : S16x128.Idx → BitVec 32} {G : S16x128x16.Idx → F .f32}

/-- One control point's coordinate added to query `k`'s sum. -/
def accK (TX TY TZ : S132.Idx → F .f32) (B : S64x3.Idx → F .f32) (C : S524288x16.Idx → F .f32) (k e m mx : ℕ) (a : F .f32) : F .f32 :=
  accOf C (jxOf TX B k) (jyOf TY B k) (jzOf TZ B k) (wOf TX (B (ix2 64 3 k 0))) (wOf TZ (B (ix2 64 3 k 2))) (wOf TY (B (ix2 64 3 k 1))) e m mx a

theorem outOf_eq (k e : ℕ) : outOf TX TY TZ C (B (ix2 64 3 k 0)) (B (ix2 64 3 k 1)) (B (ix2 64 3 k 2)) e
    = upv (fun m a => upv (fun mx a => accK TX TY TZ B C k e m mx a) 0 4 a) 0 16 (Scalar.ofBits .f32 0x00000000#32) := rfl

theorem ent_toNat {s3 q2 : IVec S16 32} {x : S16.Idx} (hs : (s3 x).toNat ≤ 9) {k n : ℕ} (hk : k < 12) (hq : (q2 x).toNat = n) (hn : n < 1000) :
    (ent s3 q2 k x).toNat = if wrap (cs (s3 x)) k l0 = 0#32 then n else n + 1 := by
  have e : ent s3 q2 k x = q2 x + wrap s3 k x := rfl
  rw [e, wrap_lane, wrap_eq _ hs hk]
  by_cases h : 12 ≤ (s3 x).toNat + k
  · rw [if_pos h, if_neg (by decide), BitVec.toNat_add, hq, show (1#32 : BitVec 32).toNat = 1 from rfl]
    omega
  · rw [if_neg h, if_pos rfl, BitVec.toNat_add, hq, show (0#32 : BitVec 32).toNat = 0 from rfl]
    omega

theorem plc_lt {s : BitVec 32} (hs : s.toNat ≤ 9) {k : ℕ} (hk : k < 12) : (plc (cs s) k l0).toNat < 16 := by
  rw [plc_toNat s hs hk]
  split <;> omega

theorem sh_le (jx : BitVec 32) : (shOf jx).toNat ≤ 9 := by
  rw [shOf_toNat]
  omega

/-- The coordinates one load gathers. -/
theorem run_take {g : Memref sig .scVector .vmem S16x128x16 .f32} {l : IVec S16 32} (hl : Counts l) (v : Fin 4) {s3 : IVec S16 32}
    (hs : ∀ x, s3 x = shOf (jxOf TX B (16 * v + ln x))) {m : ℕ} (hm : m < 16) {k : ℕ} (hk : k < 12)
    (hI : It TX TY TZ B 4 0 0 I) (hG : Gt C I G) {Q : Vec F S16 .f32 → sProp (MM F)} :
    at' d c s g G ⊢ iprop((at' d c s g G -∗ Q fun x => cpOf C (jxOf TX B (16 * v + ln x)) (jyOf TY B (16 * v + ln x)) (jzOf TZ B (16 * v + ln x)) m k)
      -∗ run d (c := c) (s := s) (ldG g m (ent s3 (muli (iq l v) (sp 2)) k) (plc s3 k)) Q) := by
  have hv := v.isLt
  have h9 : ∀ x, (s3 x).toNat ≤ 9 := fun x => by
    rw [hs]
    exact sh_le _
  have he : ∀ x, (ent s3 (muli (iq l v) (sp 2)) k x).toNat
      = if wrap (cs (s3 x)) k l0 = 0#32 then 2 * (16 * v + ln x) else 2 * (16 * v + ln x) + 1 := fun x => by
    have := ln_lt x
    exact ent_toNat (h9 x) hk (iq2_toNat hl v x) (by omega)
  have hp : ∀ x, (plc s3 k x).toNat < 16 := fun x => by
    rw [plc_lane]
    exact plc_lt (h9 x) hk
  have hval : (fun x => G (ix3 16 128 16 m (ent s3 (muli (iq l v) (sp 2)) k x).toNat (plc s3 k x).toNat))
      = fun x => cpOf C (jxOf TX B (16 * v + ln x)) (jyOf TY B (16 * v + ln x)) (jzOf TZ B (16 * v + ln x)) m k := by
    funext x
    have := ln_lt x
    have h0 := (hI m hm).1 (16 * v + ln x) (by
      rw [upto, if_neg (Nat.not_lt_zero _)]
      omega)
    have h1 := (hI m hm).2 (16 * v + ln x) (by
      rw [upto, if_neg (Nat.not_lt_zero _)]
      omega)
    rw [he, hG m hm _ (by split <;> omega) _ (hp x), plc_lane, hs x]
    unfold cpOf
    by_cases hw : wrap (cs (shOf (jxOf TX B (16 * v + ln x)))) k l0 = 0#32
    · rw [if_pos hw, if_pos hw, h0]
      rfl
    · rw [if_neg hw, if_neg hw, h1]
      rfl
  rw [← hval]
  exact run_ldG hm (fun x => by
    have := ln_lt x
    rw [he]
    split <;> omega) hp

theorem acc_lane {a wyz b g : FVec F S16 .f32} {x : S16.Idx} {k e m mx : ℕ}
    (hw : wyz x = (mulf (cs (wOf TY (B (ix2 64 3 k 1)) (m % 4))) (cs (wOf TZ (B (ix2 64 3 k 2)) (m / 4))) : FVec F S16 .f32) l0) (hb : b x = wOf TX (B (ix2 64 3 k 0)) mx)
    (hg : g x = cpOf C (jxOf TX B k) (jyOf TY B k) (jzOf TZ B k) m (mx * 3 + e)) :
    addf a (mulf (mulf wyz b) g) x = accK TX TY TZ B C k e m mx (a x) := by
  unfold accK accOf addf mulf at *
  rw [hw, hb, hg]

/-- One control point of sixteen queries. -/
theorem run_addG {g : Memref sig .scVector .vmem S16x128x16 .f32} {l : IVec S16 32} (hl : Counts l) (v : Fin 4) {s3 : IVec S16 32}
    (hs : ∀ x, s3 x = shOf (jxOf TX B (16 * v + ln x))) {m : ℕ} (hm : m < 16) {mx : ℕ} (hmx : mx < 4)
    {wyz : FVec F S16 .f32} {b : ℕ → FVec F S16 .f32}
    (hw : ∀ x, wyz x = (mulf (cs (wOf TY (B (ix2 64 3 (16 * v + ln x) 1)) (m % 4))) (cs (wOf TZ (B (ix2 64 3 (16 * v + ln x) 2)) (m / 4))) : FVec F S16 .f32) l0)
    (hb : ∀ x, b mx x = wOf TX (B (ix2 64 3 (16 * v + ln x) 0)) mx)
    (hI : It TX TY TZ B 4 0 0 I) (hG : Gt C I G) (A : FVec F S16 .f32 × FVec F S16 .f32 × FVec F S16 .f32)
    {Q : FVec F S16 .f32 × FVec F S16 .f32 × FVec F S16 .f32 → sProp (MM F)} :
    at' d c s g G ⊢ iprop((at' d c s g G -∗ Q (fun x => accK TX TY TZ B C (16 * v + ln x) 0 m mx (A.1 x),
          fun x => accK TX TY TZ B C (16 * v + ln x) 1 m mx (A.2.1 x), fun x => accK TX TY TZ B C (16 * v + ln x) 2 m mx (A.2.2 x)))
      -∗ run d (c := c) (s := s) (addG g s3 (muli (iq l v) (sp 2)) wyz b m mx A) Q) := by
  unfold addG
  simp only [run_bind]
  iintro H Hk
  iapply (run_take (TX := TX) (TY := TY) (TZ := TZ) (B := B) hl v hs hm (k := mx * 3) (by omega) hI hG) $$ H
  iintro H
  iapply (run_take (TX := TX) (TY := TY) (TZ := TZ) (B := B) hl v hs hm (k := mx * 3 + 1) (by omega) hI hG) $$ H
  iintro H
  iapply (run_take (TX := TX) (TY := TY) (TZ := TZ) (B := B) hl v hs hm (k := mx * 3 + 2) (by omega) hI hG) $$ H
  iintro H
  iapply run_pure
  have e0 : addf A.1 (mulf (mulf wyz (b mx)) fun x => cpOf C (jxOf TX B (16 * v + ln x)) (jyOf TY B (16 * v + ln x)) (jzOf TZ B (16 * v + ln x)) m (mx * 3))
      = fun x => accK TX TY TZ B C (16 * v + ln x) 0 m mx (A.1 x) := funext fun x => acc_lane (hw x) (hb x) rfl
  have e1 : addf A.2.1 (mulf (mulf wyz (b mx)) fun x => cpOf C (jxOf TX B (16 * v + ln x)) (jyOf TY B (16 * v + ln x)) (jzOf TZ B (16 * v + ln x)) m (mx * 3 + 1))
      = fun x => accK TX TY TZ B C (16 * v + ln x) 1 m mx (A.2.1 x) := funext fun x => acc_lane (hw x) (hb x) rfl
  have e2 : addf A.2.2 (mulf (mulf wyz (b mx)) fun x => cpOf C (jxOf TX B (16 * v + ln x)) (jyOf TY B (16 * v + ln x)) (jzOf TZ B (16 * v + ln x)) m (mx * 3 + 2))
      = fun x => accK TX TY TZ B C (16 * v + ln x) 2 m mx (A.2.2 x) := funext fun x => acc_lane (hw x) (hb x) rfl
  rw [e0, e1, e2]
  iapply Hk $$ H

/-- A triple of sums, lane by lane. -/
abbrev tri (f : ℕ → S16.Idx → F .f32) : FVec F S16 .f32 × FVec F S16 .f32 × FVec F S16 .f32 := (f 0, f 1, f 2)

/-- The sums of sixteen queries. -/
theorem run_sums {g : Memref sig .scVector .vmem S16x128x16 .f32} {l : IVec S16 32} (hl : Counts l) (v : Fin 4) {s3 : IVec S16 32}
    (hs : ∀ x, s3 x = shOf (jxOf TX B (16 * v + ln x)))
    {wyz : ℕ → FVec F S16 .f32} {b : ℕ → FVec F S16 .f32}
    (hw : ∀ m < 16, ∀ x, wyz m x = (mulf (cs (wOf TY (B (ix2 64 3 (16 * v + ln x) 1)) (m % 4))) (cs (wOf TZ (B (ix2 64 3 (16 * v + ln x) 2)) (m / 4))) : FVec F S16 .f32) l0)
    (hb : ∀ mx < 4, ∀ x, b mx x = wOf TX (B (ix2 64 3 (16 * v + ln x) 0)) mx)
    (hI : It TX TY TZ B 4 0 0 I) (hG : Gt C I G)
    {Q : FVec F S16 .f32 × FVec F S16 .f32 × FVec F S16 .f32 → sProp (MM F)} :
    at' d c s g G ⊢ iprop((at' d c s g G -∗ Q (tri fun e x => outOf TX TY TZ C (B (ix2 64 3 (16 * v + ln x) 0)) (B (ix2 64 3 (16 * v + ln x) 1)) (B (ix2 64 3 (16 * v + ln x) 2)) e))
      -∗ run d (c := c) (s := s) (up (fun m A => up (addG g s3 (muli (iq l v) (sp 2)) (wyz m) b m) 0 4 A) 0 16 (zeroV, zeroV, zeroV)) Q) := by
  iintro H Hk
  iapply (run_rounds d (fun m A => iprop(at' d c s g G ∗ ⌜A = tri fun e x =>
      upv (fun m a => upv (fun mx a => accK TX TY TZ B C (16 * v + ln x) e m mx a) 0 4 a) 0 m (Scalar.ofBits .f32 0x00000000#32)⌝)) fun m A hm => ?_) $$ [H]
  · iintro ⟨H, %hA⟩
    iapply (run_rounds d (fun mx A' => iprop(at' d c s g G ∗ ⌜A' = tri fun e x =>
        upv (fun mx a => accK TX TY TZ B C (16 * v + ln x) e m mx a) 0 mx
          (upv (fun m a => upv (fun mx a => accK TX TY TZ B C (16 * v + ln x) e m mx a) 0 4 a) 0 m (Scalar.ofBits .f32 0x00000000#32))⌝)) fun mx A' hmx => ?_) $$ [H]
    · iintro ⟨H, %hA'⟩
      iapply (run_addG (TX := TX) (TY := TY) (TZ := TZ) (B := B) hl v hs hm hmx (hw m hm) (hb mx hmx) hI hG A') $$ H
      iintro H
      isplitl [H]
      · iexact H
      · ipureintro
        subst hA'
        simp only [upv_succ, Nat.zero_add]
    · isplitl [H]
      · iexact H
      · ipureintro
        exact hA
    · iintro %A' ⟨H, %hA'⟩
      isplitl [H]
      · iexact H
      · ipureintro
        rw [hA']
        simp only [upv_succ _ m, Nat.zero_add]
  · isplitl [H]
    · iexact H
    · ipureintro
      rfl
  · iintro %A ⟨H, %hA⟩
    rw [hA]
    simp only [outOf_eq]
    iapply Hk $$ H

/-- The second half of the work on sixteen queries. -/
theorem run_phase2 {g : Memref sig .scVector .vmem S16x128x16 .f32} {w : Memref sig .scVector .vmem S12x64 .f32}
    {sv : Memref sig .scVector .vmem S64 .i32} {o : Memref sig .scVector .vmem S64x3 .f32} {l : IVec S16 32} (hl : Counts l) (v : Fin 4)
    {W : S12x64.Idx → F .f32} {S : S64.Idx → BitVec 32}
    (hW : Wt TX TY TZ B 4 0 W) (hS : St TX B 64 S) (hI : It TX TY TZ B 4 0 0 I) (hG : Gt C I G) {Q : PUnit → sProp (MM F)} :
    iprop(at' d c s g G ∗ at' d c s w W ∗ holds (F := F) (e := .i32) (V d c s) sv S ∗ (∃ O, at' d c s o O ∗ ⌜Ot TX TY TZ B C v 0 O⌝))
      ⊢ iprop((iprop(at' d c s g G ∗ at' d c s w W ∗ holds (F := F) (e := .i32) (V d c s) sv S ∗ (∃ O, at' d c s o O ∗ ⌜Ot TX TY TZ B C (v + 1) 0 O⌝)) -∗ Q ⟨⟩)
        -∗ run d (c := c) (s := s) (phase2 g w sv o l v) Q) := by
  unfold phase2
  simp only [run_bind]
  have hv := v.isLt
  iintro ⟨Hg, Hw, HS, HO⟩ Hk
  iapply run_rd $$ HS
  iintro HS
  iapply (run_ldW (TX := TX) (TY := TY) (TZ := TZ) (B := B) (r := 0) (by omega) hW) $$ Hw
  iintro Hw
  iapply (run_ldW (TX := TX) (TY := TY) (TZ := TZ) (B := B) (r := 1) (by omega) hW) $$ Hw
  iintro Hw
  iapply (run_ldW (TX := TX) (TY := TY) (TZ := TZ) (B := B) (r := 2) (by omega) hW) $$ Hw
  iintro Hw
  iapply (run_ldW (TX := TX) (TY := TY) (TZ := TZ) (B := B) (r := 3) (by omega) hW) $$ Hw
  iintro Hw
  iapply (run_ldW (TX := TX) (TY := TY) (TZ := TZ) (B := B) (r := 4) (by omega) hW) $$ Hw
  iintro Hw
  iapply (run_ldW (TX := TX) (TY := TY) (TZ := TZ) (B := B) (r := 5) (by omega) hW) $$ Hw
  iintro Hw
  iapply (run_ldW (TX := TX) (TY := TY) (TZ := TZ) (B := B) (r := 6) (by omega) hW) $$ Hw
  iintro Hw
  iapply (run_ldW (TX := TX) (TY := TY) (TZ := TZ) (B := B) (r := 7) (by omega) hW) $$ Hw
  iintro Hw
  iapply (run_ldW (TX := TX) (TY := TY) (TZ := TZ) (B := B) (r := 8) (by omega) hW) $$ Hw
  iintro Hw
  iapply (run_ldW (TX := TX) (TY := TY) (TZ := TZ) (B := B) (r := 9) (by omega) hW) $$ Hw
  iintro Hw
  iapply (run_ldW (TX := TX) (TY := TY) (TZ := TZ) (B := B) (r := 10) (by omega) hW) $$ Hw
  iintro Hw
  iapply (run_ldW (TX := TX) (TY := TY) (TZ := TZ) (B := B) (r := 11) (by omega) hW) $$ Hw
  iintro Hw
  have hs : ∀ x : S16.Idx, S ((Rect.unit (s := S64) ![16 * v.val] S16.size (inbS v)).toLoadRect.idx x) = shOf (jxOf TX B (16 * v + ln x)) := fun x => by
    have hx := ln_lt x
    rw [← hS (16 * v + ln x) (by omega)]
    refine congrArg S (funext fun a => ?_)
    match a with
    | 0 =>
      refine Fin.ext ?_
      change 16 * v.val + 1 * (ln x) = (16 * v.val + ln x) % 64
      omega
  have h4 : ∀ {α : Type} (f : ℕ → α) (i : ℕ), i < 4 → sel4 (f 0) (f 1) (f 2) (f 3) i = f i := fun f i hi => by
    match i, hi with
    | 0, _ => rfl
    | 1, _ => rfl
    | 2, _ => rfl
    | 3, _ => rfl
  have hb : ∀ mx < 4, ∀ x : S16.Idx, sel4 (fun x : S16.Idx => rowOf TX TY TZ B 0 (16 * v + ln x)) (fun x => rowOf TX TY TZ B 1 (16 * v + ln x))
      (fun x => rowOf TX TY TZ B 2 (16 * v + ln x)) (fun x => rowOf TX TY TZ B 3 (16 * v + ln x)) mx x = wOf TX (B (ix2 64 3 (16 * v + ln x) 0)) mx := fun mx hmx x => by
    rw [h4 (fun r (x : S16.Idx) => rowOf TX TY TZ B r (16 * v + ln x)) mx hmx]
    exact (row_x hmx _).symm
  have hy : ∀ i < 4, ∀ x : S16.Idx, sel4 (fun x : S16.Idx => rowOf TX TY TZ B 4 (16 * v + ln x)) (fun x => rowOf TX TY TZ B 5 (16 * v + ln x))
      (fun x => rowOf TX TY TZ B 6 (16 * v + ln x)) (fun x => rowOf TX TY TZ B 7 (16 * v + ln x)) i x = wOf TY (B (ix2 64 3 (16 * v + ln x) 1)) i := fun i hi x => by
    rw [h4 (fun r (x : S16.Idx) => rowOf TX TY TZ B (r + 4) (16 * v + ln x)) i hi]
    exact (row_y hi _).symm
  have hz : ∀ i < 4, ∀ x : S16.Idx, sel4 (fun x : S16.Idx => rowOf TX TY TZ B 8 (16 * v + ln x)) (fun x => rowOf TX TY TZ B 9 (16 * v + ln x))
      (fun x => rowOf TX TY TZ B 10 (16 * v + ln x)) (fun x => rowOf TX TY TZ B 11 (16 * v + ln x)) i x = wOf TZ (B (ix2 64 3 (16 * v + ln x) 2)) i := fun i hi x => by
    rw [h4 (fun r (x : S16.Idx) => rowOf TX TY TZ B (r + 8) (16 * v + ln x)) i hi]
    exact (row_z _).symm
  iapply (run_sums (TX := TX) (TY := TY) (TZ := TZ) (B := B) hl v hs (fun m hm x => by
    unfold mulf
    rw [hy _ (Nat.mod_lt _ (by omega)), hz _ (by omega)]) hb hI hG) $$ Hg
  iintro Hg
  iapply (run_stO (TX := TX) (TY := TY) (TZ := TZ) (B := B) (C := C) hl (n := 0) (by omega) fun x => rfl) $$ HO
  iintro HO
  iapply (run_stO (TX := TX) (TY := TY) (TZ := TZ) (B := B) (C := C) hl (n := 1) (by omega) fun x => rfl) $$ HO
  iintro HO
  iapply (run_stO (TX := TX) (TY := TY) (TZ := TZ) (B := B) (C := C) hl (n := 2) (by omega) fun x => rfl) $$ HO
  iintro ⟨%O, HO, %hO⟩
  iapply Hk
  isplitl [Hg]; · iexact Hg
  isplitl [Hw]; · iexact Hw
  isplitl [HS]; · iexact HS
  iexists O
  isplitl [HO]; · iexact HO
  ipureintro
  exact hO.next

end Cert.Kernel
-- ==== Proof.Streams.lean ====
module

public import Idealize.ShloMosaic.Lib.SparseCore.Stream
public import Idealize.ShloMosaic.Lib.Batch

@[expose] public section

/-!
Several row gathers in flight on one semaphore. Each gather is a family of row copies; the row copies of all
the gathers together are one batch of equal copies, so that the waits are those of a batch, and the rows are
all there when the last unit has been waited for.
-/

noncomputable section

namespace Cert.Streams

open Idealize.ShloMosaic Idealize.ShloMosaic.SparseCore Idealize.SL
open Idealize.SL.BI (sProp Storable bigSep)
open scoped Idealize.SL.BI
open Idealize.SL.BI.BIBase Idealize.SL.BI.Laws Idealize.SL.Sem Idealize.SL.ProofMode
open Idealize.SL.RA Idealize.ShloMosaic.Transfers

section Rights

variable {M : Type} [URA M] {n : ℕ}

/-- The rights from `j` on are the next `o` of them and those from `j + o` on. -/
theorem pending_take (Φ : Fin n → sProp M) (j o : ℕ) (h : j + o ≤ n) :
    bigSep (pending (n := n) j) Φ
      = iprop(bigSep Finset.univ (fun k : Fin o => Φ ⟨j + k.val, by omega⟩) ∗ bigSep (pending (n := n) (j + o)) Φ) := by
  classical
  let em : Fin o ↪ Fin n := ⟨fun k => ⟨j + k.val, by omega⟩, fun a b e => by
    have h1 := congrArg Fin.val e
    exact Fin.ext (Nat.add_left_cancel h1)⟩
  have hem : ∀ k, (em k).val = j + k.val := fun _ => rfl
  have hs : pending (n := n) j = Finset.univ.map em ∪ pending (n := n) (j + o) := by
    ext t
    simp only [pending, Finset.mem_filter, Finset.mem_univ, _root_.true_and, Finset.mem_union, Finset.mem_map]
    constructor
    · intro ht
      by_cases hk : j + o ≤ t.val
      · exact Or.inr hk
      · exact Or.inl ⟨⟨t.val - j, by omega⟩, Fin.ext (by rw [hem]; exact Nat.add_sub_cancel' ht)⟩
    · rintro (⟨k, rfl⟩ | hk)
      · rw [hem]; omega
      · omega
  have hd : Disjoint (Finset.univ.map em) (pending (n := n) (j + o)) := by
    refine Finset.disjoint_left.mpr fun t ht ht' => ?_
    obtain ⟨k, -, rfl⟩ := Finset.mem_map.mp ht
    simp only [pending, Finset.mem_filter, Finset.mem_univ, _root_.true_and, hem] at ht'
    omega
  rw [hs, BI.bigSep_union hd, BI.bigSep_map]
  rfl

end Rights

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants)
variable (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- What the copy of one row brings: the destination's row written, the row's entry of the list, a piece of the
source. -/
def rowGot (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c))
    (fo : Buf (Elt F) (offs.view.loc c)) (hin : ∀ x, (offs.view.read (Elt F) fo x).toNat < s₀.size hg.axis)
    (k : Fin (s.size hg.axis')) : sProp 𝕄 :=
  iprop(((dst.view.loc c ↦[(dst.view.slice (s.rowRect hg.axis' k)).set]{fullShare}
        ((dst.view.slice (s.rowRect hg.axis' k)).write (Elt F) fd
          (fun (i : (s.rowShape hg.axis').Idx) => src.view.read (Elt F) fs (hg.rowIdx (rows (offs.view.read (Elt F) fo) hn hin k) i)) Finset.univ))
      ∗ (offs.view.loc c ↦[{offs.view.emb (si.rowMajor.symm (k.cast hn.symm))}]{qo} fo))
    ∗ (src.view.loc c ↦[src.view.set]{pieceOf q _ ho k} fs))

instance rowGot_storable (src : Memref sig c.2.kind sp s₀ e) (dst : Memref sig c.2.kind .vmem s e) (hg : s₀.Gathers a s)
    (offs : Memref sig c.2.kind .vmem si .i32) (hn : si.numel = s.size hg.axis') (ho : 0 < s.size hg.axis')
    (q qo : PosShare TreeShare) (fs : Buf (Elt F) (src.view.loc c)) (fd : Buf (Elt F) (dst.view.loc c))
    (fo : Buf (Elt F) (offs.view.loc c)) (hin : ∀ x, (offs.view.read (Elt F) fo x).toNat < s₀.size hg.axis)
    (k : Fin (s.size hg.axis')) :
    Storable (upEmb : UEmb _ 𝕄) (rowGot (Ix := Ix) (Name := Name) (U := U) (Lvl := Lvl) c src dst hg offs hn ho q qo fs fd fo hin k) := by
  unfold rowGot; infer_instance

/-- The rows together: the destination written with what the list names, the source's and the list's shares. -/
theorem rowGot_all {src : Memref sig c.2.kind sp s₀ e} {dst : Memref sig c.2.kind .vmem s e} {hg : s₀.Gathers a s}
    {offs : Memref sig c.2.kind .vmem si .i32} {hn : si.numel = s.size hg.axis'} {ho : 0 < s.size hg.axis'}
    {q qo : PosShare TreeShare} {fs : Buf (Elt F) (src.view.loc c)} {fd : Buf (Elt F) (dst.view.loc c)}
    {fo : Buf (Elt F) (offs.view.loc c)} {hin : ∀ x, (offs.view.read (Elt F) fo x).toNat < s₀.size hg.axis} :
    bigSep Finset.univ (rowGot (Ix := Ix) (Name := Name) (U := U) (Lvl := Lvl) c src dst hg offs hn ho q qo fs fd fo hin)
      ⊢ iprop((dst.view.loc c ↦[dst.view.set]{fullShare}
          (dst.view.write (Elt F) fd (gatherPayload hg (src.view.read (Elt F) fs) (rows (offs.view.read (Elt F) fo) hn hin)) Finset.univ))
        ∗ (offs.view.loc c ↦[offs.view.set]{qo} fo) ∗ (src.view.loc c ↦[src.view.set]{q} fs)) := by
  have hen : Function.Bijective fun k : Fin (s.size hg.axis') => si.rowMajor.symm (k.cast hn.symm) :=
    si.rowMajor.symm.bijective.comp (finCongr hn.symm).bijective
  have hw := pointsTo_rows_write (Ix := Ix) (Name := Name) (U := U) (Lvl := Lvl) c dst.view hg.axis' fd
    (fun k (i : (s.rowShape hg.axis').Idx) => src.view.read (Elt F) fs (hg.rowIdx (rows (offs.view.read (Elt F) fo) hn hin k) i))
    (gatherPayload hg (src.view.read (Elt F) fs) (rows (offs.view.read (Elt F) fo) hn hin)) fun k j => by
      unfold gatherPayload; rw [Shape.Gathers.idx_rowRect_emb]
  unfold rowGot
  iintro H
  ihave H1 := bigSep_sep_out _ _ _ $$ H
  icases H1 with ⟨H2, Hs⟩
  ihave H3 := bigSep_sep_out _ _ _ $$ H2
  icases H3 with ⟨Hd, Ho⟩
  isplitl [Hd]
  · iapply hw $$ Hd
  isplitl [Ho]
  · iapply (Entails.of_eq (pointsTo_entries c offs.view _ hen qo fo).symm) $$ Ho
  · iapply (Entails.of_eq (pointsTo_piecesOf (src.view.set) fs ho q).symm) $$ Hs

/-- A gather issued as the next rows of a batch. -/
theorem wp_gatherBatch [Infinite Name] [EC.LandsIn (upEmb : UEmb _ 𝕄)] {n : ℕ} {D : Fin n → sProp 𝕄}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α} {ho : 0 < s.size hg.axis'}
    {q qo : PosShare TreeShare} {fs : Buf (Elt F) (src.view.loc c)} {fd : Buf (Elt F) (dst.view.loc c)} {fo : Buf (Elt F) (offs.view.loc c)}
    (ι : Ix) (N : ℕ) {j u : ℕ} (hj : j + s.size hg.axis' ≤ n) (hu : u ≤ j * N)
    (hN : ∀ i, (dst.slice (s.rowRect hg.axis' i) (s.stride_rowRect hg.axis' i)).view.dmaCredit = N)
    (hin : ∀ x, (offs.view.read (Elt F) fo x).toNat < s₀.size hg.axis)
    (hD : ∀ i : Fin (s.size hg.axis'), rowGot (Ix := Ix) (Name := Name) (U := U) (Lvl := Lvl) c src dst hg offs hn ho q qo fs fd fo hin i
      ⊢ D ⟨j + i.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun i w => (rowOf (s₀.size hg.axis) w).map (gatherRow c src dst hg sem hsrc he hsp hr i)) 0
  let rd : Fin (s.size hg.axis') → RowDma τ sig (Elt F) c.2 sem := fun i =>
    gatherRow c src dst hg sem hsrc he hsp hr i (rows (offs.view.read (Elt F) fo) hn hin i)
  have hen : Function.Bijective S.entry := si.rowMajor.symm.bijective.comp (finCongr hn.symm).bijective
  have hA : S.RowsAgree := by
    intro i x x' ρ ρ' h h'
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hsum : ∑ i, (rd i).dst.view.dmaCredit = s.size hg.axis' * N := by
    rw [Finset.sum_congr rfl fun i _ => hN i, Finset.sum_const, Finset.card_univ, Fintype.card_fin, smul_eq_mul]
  unfold Batch
  iintro ⟨Hs, Hd, Ho, ⟨%γ, %γ₀, %κ, #Hinv, HI, H0, Hcred⟩⟩ Hk
  ihave HI' := (Entails.of_eq (pending_take (fun t => count EC (γ t) 0) j _ hj)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf (src.view.set) fs ho q)) $$ Hs
  iapply (wp_enqueueIndirectDma 𝒱 c bd Set.univ (qo := qo) (fo := fo) (rd := rd) ι _ hA hrd hsum) $$ [Hd' Ho' Hs' Hγ]
  · have hrow : ∀ i, iprop(inv κ (batchBody EC (c, SemLoc.dma sem) N D γ γ₀)
          ∗ ((((dst.view.loc c ↦[(dst.view.slice (s.rowRect hg.axis' i)).set]{fullShare} fd) ∗ S.heldEntry qo fo i)
          ∗ (src.view.loc c ↦[src.view.set]{pieceOf q _ ho i} fs)) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hsq⟩, Hγi⟩
      isplitl [He]; · iexact He
      iintro He
      unfold rowRes
      iexists pieceOf q _ ho i, fs, iprop((dst.view.loc c ↦[(dst.view.slice (s.rowRect hg.axis' i)).set]{fullShare}
        ((dst.view.slice (s.rowRect hg.axis' i)).write (Elt F) fd
          (fun (x : (s.rowShape hg.axis').Idx) => src.view.read (Elt F) fs (hg.rowIdx (rows (offs.view.read (Elt F) fo) hn hin i) x)) Finset.univ)) ∗ S.heldEntry qo fo i)
      isplitl [Hsq]; · iexact Hsq
      isplitl [Hr He]
      · iapply writeUpdate_frame
        isplitl [Hr]
        · iapply (pointsTo_writeUpdate c (v := dst.view.slice (s.rowRect hg.axis' i)) subset_rfl) $$ Hr
        · iexact He
      · have hcr := batch_creditUpdate EC (g := (c, SemLoc.dma sem)) (N := N) (D := D) (γ := γ) (γ₀ := γ₀) (ι := κ)
          ⟨j + i.val, by omega⟩ (hD i)
        rw [← hN i] at hcr
        iapply hcr
        isplitr; · rw [hN i]; iexact Hinv
        iexact Hγi
    unfold Stream.res
    ihave H1 := bigSep_sep_in _ _ _ $$ [Hd' Ho']; · isplitl [Hd'] <;> iassumption
    ihave H2 := bigSep_sep_in _ _ _ $$ [H1 Hs']; · isplitl [H1] <;> iassumption
    ihave H3 := bigSep_sep_in _ _ _ $$ [H2 Hγ]; · isplitl [H2] <;> iassumption
    iapply (bigSep_mono_pers Finset.univ _ _ _ fun i _ => hrow i)
    isplitr; · iexact Hinv
    iexact H3
  · iintro Hcred'
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hcred' as H
    iexact H

end Cert.Streams

end
-- ==== Proof.Asks.lean ====
module

public import proofs.«01_k».proof.Proof.Roll

@[expose] public section

noncomputable section

namespace Cert.Kernel

open Idealize.ShloMosaic Idealize.SL Idealize.SL.Sem

variable {F : FTy → Type} [FloatOps F] [Facts]

/-- Row `m` of the gathered groups. -/
abbrev gRow (g : Memref sig .scVector .vmem S16x128x16 .f32) (m : Fin 16) : Memref sig .scVector .vmem S128x16 .f32 :=
  (g.slice (Rect.unit (s := S16x128x16) ![m.val, 0, 0] S1x128x16.size (by
    intro a
    have := m.isLt
    fin_cases a
    · change m.val + 1 ≤ 16
      omega
    · exact Nat.le_refl 128
    · exact Nat.le_refl 16)) (fun _ => rfl)).squeeze S128x16
    Facts₀.squeezes_S1x128x16_S128x16

/-- Row `m` of the group indices. -/
abbrev iRow (ix : Memref sig .scVector .vmem S16x128 .i32) (m : Fin 16) : Memref sig .scVector .vmem S128 .i32 :=
  (ix.slice (Rect.unit (s := S16x128) ![m.val, 0] S1x128.size (by
    intro a
    have := m.isLt
    fin_cases a
    · change m.val + 1 ≤ 16
      omega
    · exact Nat.le_refl 128)) (fun _ => rfl)).squeeze S128
    Facts₀.squeezes_S1x128_S128

/-- The whole array of groups, as the gathers name it. -/
abbrev cpW (cp : Memref sig .scVector .hbm S524288x16 .f32) : Memref sig .scVector .hbm S524288x16 .f32 :=
  cp.slice (Rect.unit (s := S524288x16) ![0, 0] S524288x16.size Facts₀.inb_S524288x16_S524288x16_0_0)
    (fun _ => rfl)

variable {c : Fin τ.nSC} {s : Fin τ.nSub}

/-- The sixteen rows of groups asked for. -/
def ask (cp : Memref sig .scVector .hbm S524288x16 .f32) (g : Memref sig .scVector .vmem S16x128x16 .f32)
    (ix : Memref sig .scVector .vmem S16x128 .i32) (sem : DmaSems sig S_) (m : Fin 16) : TP F c s PUnit :=
  SparseCore.enqueueIndirectGather rfl (cpW cp) (gRow g m) Facts₀.gathers_S524288x16_S128x16 (iRow ix m) rfl
    sem.sem (View.wordExact_bits rfl) rfl (Or.inl rfl)

/-- One of the sixteen rows waited for. -/
def await (cp : Memref sig .scVector .hbm S524288x16 .f32) (g : Memref sig .scVector .vmem S16x128x16 .f32)
    (sem : DmaSems sig S_) (m : Fin 16) : TP F c s PUnit :=
  SparseCore.waitIndirectGather sem.sem (cpW cp) (gRow g m) (View.wordExact_bits rfl)
    ((View.wordExact_bits rfl).reshape _ _)

/-- The index `k`, when below sixteen. -/
abbrev f16 (k : ℕ) : Fin 16 := ⟨k % 16, Nat.mod_lt _ (by omega)⟩

/-- One round of the kernel's loop. -/
def round (i : grid0.Coords) (arg2 : Memref sig .scVector .hbm S131072x3 .f32)
    (arg3 : Memref sig .scVector .hbm S524288x16 .f32) (arg7 : Memref sig .scVector .hbm S131072x3 .f32)
    (arg8 arg9 arg10 : Memref sig .scVector .vmem S132 .f32)
    (arg11 : Memref sig .scVector .vmem S64x3 .f32) (harg11 : arg11.IsWhole)
    (arg12 : Memref sig .scVector .vmem S16x128 .i32) (arg13 : Memref sig .scVector .vmem S16x128x16 .f32)
    (arg14 : Memref sig .scVector .vmem S12x64 .f32) (arg15 : Memref sig .scVector .vmem S64 .i32)
    (arg16 : Memref sig .scVector .vmem S64x3 .f32) (harg16 : arg16.IsWhole)
    (arg17 r3 r4 : DmaSems sig S_) (l : IVec S16 32)
    (t : Fin k0_t1_loop.trips) : TP F ((i 0).castLE Facts₀.hcore0) ((i 1).castLE Facts₀.hsub0) PUnit := do
  Prog.lift (.enqueueDma (arg2.slice (Rect.unit (s := S131072x3) (k0_off1 i t) S64x3.size (Facts₀.k0_off1_inb i t)) (fun _ => rfl))
    (.here arg11) (.dma r3.sem) (View.wordExact_bits rfl) harg11.wordExact ⟨Or.inl rfl, trivial⟩)
  Prog.lift (.waitDma2 r3.sem (arg2.slice (Rect.unit (s := S131072x3) (k0_off1 i t) S64x3.size (Facts₀.k0_off1_inb i t)) (fun _ => rfl))
    arg11 (View.wordExact_bits rfl) harg11.wordExact)
  up (fun v _ => phase1 arg8 arg9 arg10 arg11 arg12 arg14 arg15 l ⟨v % 4, Nat.mod_lt _ (by omega)⟩) 0 4 ⟨⟩
  up (fun m _ => ask arg3 arg13 arg12 arg17 (f16 m)) 0 16 ⟨⟩
  up (fun m _ => await arg3 arg13 arg17 (f16 m)) 0 16 ⟨⟩
  up (fun v _ => phase2 arg13 arg14 arg15 arg16 l ⟨v % 4, Nat.mod_lt _ (by omega)⟩) 0 4 ⟨⟩
  Prog.lift (.enqueueDma arg16 (.here (arg7.slice (Rect.unit (s := S131072x3) (k0_off2 i t) S64x3.size (Facts₀.k0_off2_inb i t)) (fun _ => rfl)))
    (.dma r4.sem) harg16.wordExact (View.wordExact_bits rfl) ⟨Or.inl rfl, trivial⟩)
  Prog.lift (.waitDma2 r4.sem arg16 (arg7.slice (Rect.unit (s := S131072x3) (k0_off2 i t) S64x3.size (Facts₀.k0_off2_inb i t)) (fun _ => rfl))
    harg16.wordExact (View.wordExact_bits rfl))

/-- The kernel with its loop's body in that form. -/
def rolled (i : grid0.Coords) (arg2 : Memref sig .scVector .hbm S131072x3 .f32)
    (arg3 : Memref sig .scVector .hbm S524288x16 .f32) (arg4 : Memref sig .scVector .hbm S132 .f32) (harg4 : arg4.IsWhole)
    (arg5 : Memref sig .scVector .hbm S132 .f32) (harg5 : arg5.IsWhole)
    (arg6 : Memref sig .scVector .hbm S132 .f32) (harg6 : arg6.IsWhole)
    (arg7 : Memref sig .scVector .hbm S131072x3 .f32)
    (arg8 : Memref sig .scVector .vmem S132 .f32) (harg8 : arg8.IsWhole)
    (arg9 : Memref sig .scVector .vmem S132 .f32) (harg9 : arg9.IsWhole)
    (arg10 : Memref sig .scVector .vmem S132 .f32) (harg10 : arg10.IsWhole)
    (arg11 : Memref sig .scVector .vmem S64x3 .f32) (harg11 : arg11.IsWhole)
    (arg12 : Memref sig .scVector .vmem S16x128 .i32) (arg13 : Memref sig .scVector .vmem S16x128x16 .f32)
    (arg14 : Memref sig .scVector .vmem S12x64 .f32) (arg15 : Memref sig .scVector .vmem S64 .i32)
    (arg16 : Memref sig .scVector .vmem S64x3 .f32) (harg16 : arg16.IsWhole)
    (arg17 r0 r1 r2 r3 r4 : DmaSems sig S_) : TP F ((i 0).castLE Facts₀.hcore0) ((i 1).castLE Facts₀.hsub0) PUnit := do
  Prog.lift (.enqueueDma arg4 (.here arg8) (.dma r0.sem) harg4.wordExact harg8.wordExact ⟨Or.inl rfl, trivial⟩)
  Prog.lift (.waitDma2 r0.sem arg4 arg8 harg4.wordExact harg8.wordExact)
  Prog.lift (.enqueueDma arg5 (.here arg9) (.dma r1.sem) harg5.wordExact harg9.wordExact ⟨Or.inl rfl, trivial⟩)
  Prog.lift (.waitDma2 r1.sem arg5 arg9 harg5.wordExact harg9.wordExact)
  Prog.lift (.enqueueDma arg6 (.here arg10) (.dma r2.sem) harg6.wordExact harg10.wordExact ⟨Or.inl rfl, trivial⟩)
  Prog.lift (.waitDma2 r2.sem arg6 arg10 harg6.wordExact harg10.wordExact)
  Scf.Loop.for k0_t1_loop Facts₀.k0_t1_ok ⟨⟩ fun t _ =>
    round i arg2 arg3 arg7 arg8 arg9 arg10 arg11 harg11 arg12 arg13 arg14 arg15 arg16 harg16 arg17 r3 r4
      (iota .scVector S16 32 [0] Facts₀.iota_S16_d0_w32_scVector) t
  pure ⟨⟩

end Cert.Kernel
-- ==== Proof.Fetch.lean ====
module

public import proofs.«01_k».proof.Proof.Sums
public import proofs.«01_k».proof.Proof.Streams
public import proofs.«01_k».proof.Proof.Asks

@[expose] public section

/-!
The sixteen gathers of one round: asked for together on one semaphore, waited for one by one, and what they leave.
-/

noncomputable section

namespace Cert.Kernel

open Idealize.ShloMosaic Idealize.ShloMosaic.SparseCore Idealize.SL
open Idealize.ShloMosaic.SparseCore.Cfg (HIx)
open Idealize.SL.BI (sProp Storable bigSep)
open scoped Idealize.SL.BI
open Idealize.SL.BI.BIBase Idealize.SL.BI.Laws Idealize.SL.Sem Idealize.SL.ProofMode
open Idealize.SL.RA Idealize.ShloMosaic.Transfers Idealize.ShloMosaic.Rounds Cert.Streams

variable {F : FTy → Type} [FloatOps F] [Facts]

/-! ### The rows of the two tables and of the array -/

theorem cpW_emb (cp : Memref sig .scVector .hbm S524288x16 .f32) (x : S524288x16.Idx) : (cpW cp).view.emb x = cp.view.emb x := by
  refine congrArg cp.view.emb (funext fun a => Fin.ext ?_)
  match a with
  | 0 => change 0 + 1 * (x 0).val = (x 0).val; omega
  | 1 => change 0 + 1 * (x 1).val = (x 1).val; omega

theorem cpW_set (cp : Memref sig .scVector .hbm S524288x16 .f32) : (cpW cp).view.set = cp.view.set := by
  ext y
  constructor
  · intro hy
    obtain ⟨x, -, rfl⟩ := Finset.mem_map.mp hy
    rw [cpW_emb]
    exact View.emb_mem_set _ _
  · intro hy
    obtain ⟨x, -, rfl⟩ := Finset.mem_map.mp hy
    rw [← cpW_emb]
    exact View.emb_mem_set _ _

theorem cpW_read (cp : Memref sig .scVector .hbm S524288x16 .f32) (f : cp.view.ty.Contents (Elt F)) :
    (cpW cp).view.read (Elt F) f = cp.view.read (Elt F) f := by
  funext x
  refine congrArg (cp.view.read (Elt F) f) (funext fun a => Fin.ext ?_)
  match a with
  | 0 => change 0 + 1 * (x 0).val = (x 0).val; omega
  | 1 => change 0 + 1 * (x 1).val = (x 1).val; omega

/-- Entry `(n, p)` of row `m` of the gathered groups. -/
theorem gRow_emb (g : Memref sig .scVector .vmem S16x128x16 .f32) (m : Fin 16) (x : S128x16.Idx) :
    (gRow g m).view.emb x = g.view.emb (ix3 16 128 16 m.val (x 0).val (x 1).val) := by
  refine congrArg g.view.emb ?_
  have h0 : (x 0).val < 128 := (x 0).isLt
  have h1 : (x 1).val < 16 := (x 1).isLt
  have e : Shape.reshapeEquiv Facts₀.squeezes_S1x128x16_S128x16.numel_eq x = ix3 1 128 16 0 (x 0).val (x 1).val := by
    refine Shape.reshapeEquiv_eq_of_rowMajor _ ?_
    rw [Shape.rowMajor_val_two, Shape.rowMajor_val_three]
    change (0 % 1 * 128 + (x 0).val % 128) * 16 + (x 1).val % 16 = (x 0).val * 16 + (x 1).val
    omega
  funext a
  refine Fin.ext ?_
  change ((Rect.unit (s := S16x128x16) ![m.val, 0, 0] S1x128x16.size _).emb (Shape.reshapeEquiv _ x) a).val = _
  rw [e]
  match a with
  | 0 => change m.val + 1 * (0 % 1) = m.val % 16; omega
  | 1 => change 0 + 1 * ((x 0).val % 128) = (x 0).val % 128; omega
  | 2 => change 0 + 1 * ((x 1).val % 16) = (x 1).val % 16; omega

/-- Entry `k` of row `m` of the groups' table. -/
theorem iRow_emb (ix : Memref sig .scVector .vmem S16x128 .i32) (m : Fin 16) (x : S128.Idx) :
    (iRow ix m).view.emb x = ix.view.emb (ix2 16 128 m.val (x 0).val) := by
  refine congrArg ix.view.emb ?_
  have hx : (x 0).val < 128 := (x 0).isLt
  have e : Shape.reshapeEquiv Facts₀.squeezes_S1x128_S128.numel_eq x = ix2 1 128 0 (x 0).val := by
    refine Shape.reshapeEquiv_eq_of_rowMajor _ ?_
    rw [Shape.rowMajor_val_one, Shape.rowMajor_val_two]
    change 0 % 1 * 128 + (x 0).val % 128 = (x 0).val
    omega
  funext a
  refine Fin.ext ?_
  change ((Rect.unit (s := S16x128) ![m.val, 0] S1x128.size _).emb (Shape.reshapeEquiv _ x) a).val = _
  rw [e]
  match a with
  | 0 => change m.val + 1 * (0 % 1) = m.val % 16; omega
  | 1 => change 0 + 1 * ((x 0).val % 128) = (x 0).val % 128; omega

theorem gRow_disjoint (g : Memref sig .scVector .vmem S16x128x16 .f32) {m m' : Fin 16} (h : m ≠ m') :
    Disjoint (gRow g m).view.set (gRow g m').view.set := by
  refine Finset.disjoint_left.mpr fun y hy hy' => h ?_
  obtain ⟨x, -, rfl⟩ := Finset.mem_map.mp hy
  obtain ⟨x', -, hx⟩ := Finset.mem_map.mp hy'
  rw [gRow_emb, gRow_emb] at hx
  have := congrArg Fin.val (congrFun (g.view.emb.injective hx) 0)
  change m'.val % 16 = m.val % 16 at this
  exact Fin.ext (by omega)

theorem iRow_disjoint (ix : Memref sig .scVector .vmem S16x128 .i32) {m m' : Fin 16} (h : m ≠ m') :
    Disjoint (iRow ix m).view.set (iRow ix m').view.set := by
  refine Finset.disjoint_left.mpr fun y hy hy' => h ?_
  obtain ⟨x, -, rfl⟩ := Finset.mem_map.mp hy
  obtain ⟨x', -, hx⟩ := Finset.mem_map.mp hy'
  rw [iRow_emb, iRow_emb] at hx
  have := congrArg Fin.val (congrFun (ix.view.emb.injective hx) 0)
  change m'.val % 16 = m.val % 16 at this
  exact Fin.ext (by omega)

theorem gRow_cover (g : Memref sig .scVector .vmem S16x128x16 .f32) :
    (Finset.univ : Finset (Fin 16)).biUnion (fun m => (gRow g m).view.set) = g.view.set := by
  ext y
  simp only [Finset.mem_biUnion, Finset.mem_univ, _root_.true_and]
  constructor
  · rintro ⟨m, hm⟩
    obtain ⟨x, -, rfl⟩ := Finset.mem_map.mp hm
    rw [gRow_emb]
    exact View.emb_mem_set _ _
  · intro hy
    obtain ⟨x, -, rfl⟩ := Finset.mem_map.mp hy
    refine ⟨⟨(x 0).val, (x 0).isLt⟩, Finset.mem_map.mpr ⟨ix2 128 16 (x 1).val (x 2).val, Finset.mem_univ _, ?_⟩⟩
    refine (gRow_emb g _ _).trans (congrArg g.view.emb (funext fun a => Fin.ext ?_))
    have h0 : (x 0).val < 16 := (x 0).isLt
    have h1 : (x 1).val < 128 := (x 1).isLt
    have h2 : (x 2).val < 16 := (x 2).isLt
    match a with
    | 0 => change (x 0).val % 16 = (x 0).val; omega
    | 1 => change (x 1).val % 128 % 128 = (x 1).val; omega
    | 2 => change (x 2).val % 16 % 16 = (x 2).val; omega

theorem iRow_cover (ix : Memref sig .scVector .vmem S16x128 .i32) :
    (Finset.univ : Finset (Fin 16)).biUnion (fun m => (iRow ix m).view.set) = ix.view.set := by
  ext y
  simp only [Finset.mem_biUnion, Finset.mem_univ, _root_.true_and]
  constructor
  · rintro ⟨m, hm⟩
    obtain ⟨x, -, rfl⟩ := Finset.mem_map.mp hm
    rw [iRow_emb]
    exact View.emb_mem_set _ _
  · intro hy
    obtain ⟨x, -, rfl⟩ := Finset.mem_map.mp hy
    refine ⟨⟨(x 0).val, (x 0).isLt⟩, Finset.mem_map.mpr ⟨ix1 128 (x 1).val, Finset.mem_univ _, ?_⟩⟩
    refine (iRow_emb ix _ _).trans (congrArg ix.view.emb (funext fun a => Fin.ext ?_))
    have h0 : (x 0).val < 16 := (x 0).isLt
    have h1 : (x 1).val < 128 := (x 1).isLt
    match a with
    | 0 => change (x 0).val % 16 = (x 0).val; omega
    | 1 => change (x 1).val % 128 % 128 = (x 1).val; omega

/-! ### The gathers -/

variable (d : Dev nD) (c : Fin τ.nSC) (s : Fin τ.nSub)

/-- The share of the groups that gather `m` reads. -/
abbrev sixteenth (q : PosShare TreeShare) (m : Fin 16) : PosShare TreeShare := pieceOf q 16 (by decide) m

/-- Waits recorded are those of `W` and ones owed to nobody. -/
def keeps (O : CellTallies nD τ sig (HIx 1)) (W : Waits sig (HIx 1)) : sProp (MM F) :=
  iprop(∃ W', ⌜∀ p ∈ W', p ∈ W ∨ p.2 = none⌝ ∗ owes (V d c s) O W')

/-- What the copy of row `k` of gather `m` brings. -/
def rowCame (cp : Memref sig .scVector .hbm S524288x16 .f32) (g : Memref sig .scVector .vmem S16x128x16 .f32)
    (ix : Memref sig .scVector .vmem S16x128 .i32) (q : PosShare TreeShare) (fs : cp.view.ty.Contents (Elt F))
    (fg : g.view.ty.Contents (Elt F)) (fi : ix.view.ty.Contents (Elt F))
    (hin : ∀ (m : Fin 16) x, ((iRow ix m).view.read (Elt F) fi x).toNat < 524288) (m : Fin 16) (k : Fin 128) : sProp (MM F) :=
  rowGot (V d c s) (cpW cp) (gRow g m) Facts₀.gathers_S524288x16_S128x16 (iRow ix m) rfl (show 0 < 128 by omega)
    (sixteenth q m) fullShare fs fg fi (hin m) k

instance (cp : Memref sig .scVector .hbm S524288x16 .f32) (g : Memref sig .scVector .vmem S16x128x16 .f32)
    (ix : Memref sig .scVector .vmem S16x128 .i32) (q : PosShare TreeShare) (fs : cp.view.ty.Contents (Elt F))
    (fg : g.view.ty.Contents (Elt F)) (fi : ix.view.ty.Contents (Elt F))
    (hin : ∀ (m : Fin 16) x, ((iRow ix m).view.read (Elt F) fi x).toNat < 524288) (m : Fin 16) (k : Fin 128) :
    Storable (upEmb : UEmb _ (MM F)) (rowCame d c s cp g ix q fs fg fi hin m k) :=
  rowGot_storable (V d c s) (cpW cp) (gRow g m) Facts₀.gathers_S524288x16_S128x16 (iRow ix m) rfl (show 0 < 128 by omega)
    (sixteenth q m) fullShare fs fg fi (hin m) k

variable {d c s}

/-- The credits of a row and of a gather. -/
structure Credit (g : Memref sig .scVector .vmem S16x128x16 .f32) (N : ℕ) : Prop where
  pos : 0 < N
  row : ∀ (m : Fin 16) (i : Fin 128), ((gRow g m).slice (S128x16.rowRect 0 i) (S128x16.stride_rowRect 0 i)).view.dmaCredit = N
  all : ∀ m : Fin 16, (gRow g m).view.dmaCredit = 128 * N

section
variable {cp : Memref sig .scVector .hbm S524288x16 .f32} {g : Memref sig .scVector .vmem S16x128x16 .f32}
    {ix : Memref sig .scVector .vmem S16x128 .i32} {sem : DmaSems sig S_} {q : PosShare TreeShare} {fs : cp.view.ty.Contents (Elt F)}
    {fg : g.view.ty.Contents (Elt F)} {fi : ix.view.ty.Contents (Elt F)}
    {hin : ∀ (m : Fin 16) x, ((iRow ix m).view.read (Elt F) fi x).toNat < 524288} {N : ℕ}

/-- The batch of every row of the sixteen gathers. -/
abbrev gathers (d : Dev nD) (c : Fin τ.nSC) (s : Fin τ.nSub) (sem : DmaSems sig S_) (N : ℕ) (q : PosShare TreeShare) (fs : cp.view.ty.Contents (Elt F))
    (fg : g.view.ty.Contents (Elt F)) (fi : ix.view.ty.Contents (Elt F))
    (hin : ∀ (m : Fin 16) x, ((iRow ix m).view.read (Elt F) fi x).toNat < 524288) (j u : ℕ) : sProp (MM F) :=
  Batch countersEmb (V d c s) (.dma sem.sem) none N (n := 16 * 128)
    (fun t => rowCame d c s cp g ix q fs fg fi hin t.divNat t.modNat) j u

theorem gathers_start : (semVal (V d c s, .dma sem.sem) 0 : sProp (MM F)) ⊢ |={Set.univ}=> gathers d c s sem N q fs fg fi hin 0 0 :=
  batch_alloc' countersEmb (V d c s) none N (fun t => rowCame d c s cp g ix q fs fg fi hin t.divNat t.modNat)

theorem gathers_end (hN : 0 < N) : gathers d c s sem N q fs fg fi hin (16 * 128) (N * (16 * 128))
    ⊢ (|={Set.univ}=> iprop((bigSep Finset.univ fun m : Fin 16 => bigSep Finset.univ fun k : Fin 128 => rowCame d c s cp g ix q fs fg fi hin m k)
      ∗ semVal (V d c s, .dma sem.sem) 0) : sProp (MM F)) := by
  have e : (bigSep Finset.univ fun t : Fin (16 * 128) => rowCame d c s cp g ix q fs fg fi hin t.divNat t.modNat)
      = bigSep Finset.univ fun m : Fin 16 => bigSep Finset.univ fun k : Fin 128 => rowCame d c s cp g ix q fs fg fi hin m k := by
    refine (BI.bigSep_univ_equiv (finProdFinEquiv (m := 16) (n := 128)) _).trans ((BI.bigSep_univ_prod _).trans ?_)
    refine BI.bigSep_congr fun m _ => BI.bigSep_congr fun k _ => ?_
    have e := (finProdFinEquiv (m := 16) (n := 128)).symm_apply_apply (m, k)
    have e1 : (finProdFinEquiv (m, k)).divNat = m := congrArg Prod.fst e
    have e2 : (finProdFinEquiv (m, k)).modNat = k := congrArg Prod.snd e
    rw [e1, e2]
  rw [← e]
  exact batch_collect' countersEmb (V d c s) hN

theorem run_ask (hc : Credit g N) (m : Fin 16) {Q : PUnit → sProp (MM F)} :
    iprop((cp.view.loc (V d c s) ↦[cp.view.set]{sixteenth q m} fs) ∗ (g.view.loc (V d c s) ↦[(gRow g m).view.set]{fullShare} fg)
        ∗ (ix.view.loc (V d c s) ↦[(iRow ix m).view.set]{fullShare} fi) ∗ gathers d c s sem N q fs fg fi hin (128 * m.val) 0)
      ⊢ iprop((gathers d c s sem N q fs fg fi hin (128 * (m.val + 1)) 0 -∗ Q ⟨⟩) -∗ run d (c := c) (s := s) (ask cp g ix sem m) Q) := by
  have hm := m.isLt
  have e : ask (F := F) (c := c) (s := s) cp g ix sem m = ask cp g ix sem m >>= pure := (bind_pure _).symm
  rw [e, ← cpW_set]
  iintro H Hk
  iapply (wp_gatherBatch (defs := defs₀ (F := F)) (Ix := HIx 1) (Name := ℕ) (U := UU) (Lvl := ℕ) countersEmb Variants.none (V d c s) none
    (src := cpW cp) (dst := gRow g m) (hg := Facts₀.gathers_S524288x16_S128x16) (offs := iRow ix m) (hn := rfl) (sem := sem.sem) (hp := rfl)
    (ho := show 0 < 128 by omega) (fs := fs) (fd := fg) (fo := fi) (q := sixteenth q m) (qo := fullShare) (j := 128 * m.val) (u := 0)
    (D := fun t => rowCame d c s cp g ix q fs fg fi hin t.divNat t.modNat) none N
    (show 128 * m.val + 128 ≤ 16 * 128 by omega) (Nat.zero_le _) (fun i => hc.row m i) (hin m) (fun i => by
      have hi : i.val < 128 := i.isLt
      have e1 : (⟨128 * m.val + i.val, by omega⟩ : Fin (16 * 128)).divNat = m := Fin.ext (by
        change (128 * m.val + i.val) / 128 = m.val
        omega)
      have e2 : (⟨128 * m.val + i.val, by omega⟩ : Fin (16 * 128)).modNat = ⟨i.val, hi⟩ := Fin.ext (by
        change (128 * m.val + i.val) % 128 = i.val
        omega)
      rw [e1, e2]
      exact Entails.refl)) $$ H
  iintro H
  iapply run_pure
  iapply Hk
  rw [show 128 * (m.val + 1) = 128 * m.val + 128 by omega]
  iexact H

theorem run_await (hc : Credit g N) (m : Fin 16) {O : CellTallies nD τ sig (HIx 1)} {W : Waits sig (HIx 1)} {Q : PUnit → sProp (MM F)} :
    iprop(gathers d c s sem N q fs fg fi hin (128 * 16) (128 * m.val * N) ∗ keeps d c s O W ∗ MayWaits (V d c s) none O)
      ⊢ iprop((iprop(gathers d c s sem N q fs fg fi hin (128 * 16) (128 * (m.val + 1) * N) ∗ keeps d c s O W) -∗ Q ⟨⟩)
        -∗ run d (c := c) (s := s) (await cp g sem m) Q) := by
  have hm := m.isLt
  unfold keeps
  iintro ⟨H, ⟨%W', %hW, HO⟩, Hmw⟩ Hk
  iapply (wp_waitBatchMulO (defs := defs₀ (F := F)) countersEmb Variants.none (V d c s) none (dstw := gRow g m) (srcw := cpW cp)
    (sem := sem.sem) (N := N) none 128 (hc.all m) (j := 128 * 16) (u := 128 * m.val * N)
    (by
      have : (128 * m.val + 128) * N ≤ (128 * 16) * N := Nat.mul_le_mul_right N (by omega)
      rw [Nat.add_mul] at this
      rw [Nat.mul_comm N]
      exact this) (k := .ret)) $$ [H HO Hmw]
  · isplitl [H]; · iexact H
    isplitl [HO]; · iexact HO
    iapply (MayWaits.elim _) $$ Hmw
  iintro ⟨H, HO⟩
  iapply (le_wp_ret _ _ _ _ _)
  iapply Hk
  isplitl [H]
  · rw [show 128 * (m.val + 1) * N = 128 * m.val * N + 128 * N by rw [← Nat.add_mul]; rfl]
    iexact H
  iexists _
  isplitr
  swap; · iexact HO
  ipureintro
  intro p hp
  rcases Finset.mem_insert.mp hp with h | h
  · exact .inr (h ▸ rfl)
  · exact hW p h

theorem entry_eq (k : Fin S128.numel) : S128.rowMajor.symm k = ix1 128 k.val := by
  rw [Equiv.symm_apply_eq]
  refine Fin.ext ?_
  rw [Shape.rowMajor_val_one]
  exact (Nat.mod_eq_of_lt k.isLt).symm

/-- What one gather leaves. -/
theorem row_value {C : S524288x16.Idx → F .f32} (hC : cp.view.read (Elt F) fs = C) {I : S16x128.Idx → BitVec 32} (hI : ix.view.read (Elt F) fi = I)
    {f : g.view.ty.Contents (Elt F)} (m : Fin 16)
    (hf : ∀ i ∈ (gRow g m).view.set, f i = (gRow g m).view.write (Elt F) fg
      (gatherPayload Facts₀.gathers_S524288x16_S128x16 ((cpW cp).view.read (Elt F) fs) (rows ((iRow ix m).view.read (Elt F) fi) rfl (hin m))) Finset.univ i)
    {n p : ℕ} (hn : n < 128) (hp : p < 16) :
    g.view.read (Elt F) f (ix3 16 128 16 m.val n p) = C (ix2 524288 16 (I (ix2 16 128 m.val n)).toNat p) := by
  subst hC hI
  have e1 : g.view.read (Elt F) f (ix3 16 128 16 m.val n p) = (gRow g m).view.read (Elt F) f (ix2 128 16 n p) := by
    have := gRow_emb g m (ix2 128 16 n p)
    have e : ix3 16 128 16 m.val n p = ix3 16 128 16 m.val ((ix2 128 16 n p) 0).val ((ix2 128 16 n p) 1).val := by
      change ix3 16 128 16 m.val n p = ix3 16 128 16 m.val (n % 128) (p % 16)
      rw [Nat.mod_eq_of_lt hn, Nat.mod_eq_of_lt hp]
    rw [View.read_apply, View.read_apply, e, ← this]
  have e2 : (gRow g m).view.read (Elt F) f = gatherPayload Facts₀.gathers_S524288x16_S128x16 ((cpW cp).view.read (Elt F) fs)
      (rows ((iRow ix m).view.read (Elt F) fi) rfl (hin m)) := by
    refine Eq.trans (funext fun x => ?_) (View.read_write_univ (v := (gRow g m).view) fg _)
    rw [View.read_apply, View.read_apply, hf _ (View.emb_mem_set _ _)]
  rw [e1, e2, cpW_read]
  have hr : (iRow ix m).view.read (Elt F) fi (ix1 128 n) = ix.view.read (Elt F) fi (ix2 16 128 m.val n) := by
    have e : ix2 16 128 m.val ((ix1 128 n) 0).val = ix2 16 128 m.val n := by
      change ix2 16 128 m.val (n % 128) = _
      rw [Nat.mod_eq_of_lt hn]
    rw [View.read_apply, View.read_apply, ← e, ← iRow_emb]
  have hlt := hin m (ix1 128 n)
  rw [hr] at hlt
  refine congrArg (cp.view.read (Elt F) fs) (funext fun a => Fin.ext ?_)
  match a with
  | 0 =>
    refine (congrArg Fin.val (Shape.Gathers.idx_axis Facts₀.gathers_S524288x16_S128x16 _ (ix2 128 16 n p))).trans ?_
    have e3 : ix1 128 (n % 128) = ix1 128 n := by rw [Nat.mod_eq_of_lt hn]
    exact (congrArg (fun y => ((iRow ix m).view.read (Elt F) fi y).toNat) ((entry_eq _).trans e3)).trans
      ((congrArg BitVec.toNat hr).trans (Nat.mod_eq_of_lt hlt).symm)
  | 1 =>
    refine (Shape.Gathers.idx_of_ne Facts₀.gathers_S524288x16_S128x16 _ (ix2 128 16 n p) 1 (by decide)).trans ?_
    rfl

end

/-- A row of the gathered groups, and of the groups' table, as sets of entries. -/
abbrev gSet (g : Memref sig .scVector .vmem S16x128x16 .f32) (d : Dev nD) (c : Fin τ.nSC) (s : Fin τ.nSub) (m : Fin 16) :
    Finset (Idx (g.view.loc (V d c s))) := (gRow g m).view.set
abbrev iSet (ix : Memref sig .scVector .vmem S16x128 .i32) (d : Dev nD) (c : Fin τ.nSC) (s : Fin τ.nSub) (m : Fin 16) :
    Finset (Idx (ix.view.loc (V d c s))) := (iRow ix m).view.set

theorem g_rows (g : Memref sig .scVector .vmem S16x128x16 .f32) (f : Buf (Elt F) (g.view.loc (V d c s))) :
    (g.view.loc (V d c s) ↦[g.view.set]{fullShare} f : sProp (MM F)) = bigSep Finset.univ fun m => g.view.loc (V d c s) ↦[gSet g d c s m]{fullShare} f := by
  rw [← pointsTo_biUnion (ℓ := g.view.loc (V d c s)) Finset.univ (gSet g d c s) fun m _ m' _ h => gRow_disjoint g h, gRow_cover g]

theorem i_rows (ix : Memref sig .scVector .vmem S16x128 .i32) (f : Buf (Elt F) (ix.view.loc (V d c s))) :
    (ix.view.loc (V d c s) ↦[ix.view.set]{fullShare} f : sProp (MM F)) = bigSep Finset.univ fun m => ix.view.loc (V d c s) ↦[iSet ix d c s m]{fullShare} f := by
  rw [← pointsTo_biUnion (ℓ := ix.view.loc (V d c s)) Finset.univ (iSet ix d c s) fun m _ m' _ h => iRow_disjoint ix h, iRow_cover ix]

/-- Row `m` of the gathered groups once there. -/
abbrev came (cp : Memref sig .scVector .hbm S524288x16 .f32) (g : Memref sig .scVector .vmem S16x128x16 .f32)
    (ix : Memref sig .scVector .vmem S16x128 .i32) (fs : cp.view.ty.Contents (Elt F))
    (fg : g.view.ty.Contents (Elt F)) (fi : ix.view.ty.Contents (Elt F))
    (hin : ∀ (m : Fin 16) x, ((iRow ix m).view.read (Elt F) fi x).toNat < 524288) (m : Fin 16) : g.view.ty.Contents (Elt F) :=
  (gRow g m).view.write (Elt F) fg
    (gatherPayload Facts₀.gathers_S524288x16_S128x16 ((cpW cp).view.read (Elt F) fs) (rows ((iRow ix m).view.read (Elt F) fi) rfl (hin m))) Finset.univ

theorem rows_came {cp : Memref sig .scVector .hbm S524288x16 .f32} {g : Memref sig .scVector .vmem S16x128x16 .f32}
    {ix : Memref sig .scVector .vmem S16x128 .i32} {q : PosShare TreeShare} {fs : cp.view.ty.Contents (Elt F)}
    {fg : g.view.ty.Contents (Elt F)} {fi : ix.view.ty.Contents (Elt F)}
    {hin : ∀ (m : Fin 16) x, ((iRow ix m).view.read (Elt F) fi x).toNat < 524288} :
    (bigSep Finset.univ fun m : Fin 16 => bigSep Finset.univ fun k : Fin 128 => rowCame d c s cp g ix q fs fg fi hin m k)
      ⊢ iprop((bigSep Finset.univ fun m => g.view.loc (V d c s) ↦[gSet g d c s m]{fullShare} came cp g ix fs fg fi hin m)
        ∗ (bigSep Finset.univ fun m => ix.view.loc (V d c s) ↦[iSet ix d c s m]{fullShare} fi)
        ∗ (bigSep Finset.univ fun m => cp.view.loc (V d c s) ↦[cp.view.set]{sixteenth q m} fs)) := by
  have h : (bigSep Finset.univ fun m : Fin 16 => bigSep Finset.univ fun k : Fin 128 => rowCame d c s cp g ix q fs fg fi hin m k)
      ⊢ bigSep Finset.univ fun m : Fin 16 => iprop((g.view.loc (V d c s) ↦[gSet g d c s m]{fullShare} came cp g ix fs fg fi hin m)
        ∗ (ix.view.loc (V d c s) ↦[iSet ix d c s m]{fullShare} fi) ∗ (cp.view.loc (V d c s) ↦[cp.view.set]{sixteenth q m} fs)) :=
    BI.bigSep_mono fun m _ => by
      rw [← cpW_set cp]
      exact rowGot_all (Ix := HIx 1) (Name := ℕ) (U := UU) (Lvl := ℕ) (V d c s) (src := cpW cp) (dst := gRow g m)
        (hg := Facts₀.gathers_S524288x16_S128x16) (offs := iRow ix m) (hn := rfl) (ho := show 0 < 128 by omega)
        (q := sixteenth q m) (qo := fullShare) (fs := fs) (fd := fg) (fo := fi) (hin := hin m)
  iintro H
  ihave H := h $$ H
  ihave H := bigSep_sep_out _ _ _ $$ H
  icases H with ⟨Hg, H⟩
  ihave H := bigSep_sep_out _ _ _ $$ H
  icases H with ⟨Hi, Hs⟩
  isplitl [Hg]; · iexact Hg
  isplitl [Hi]; · iexact Hi
  iexact Hs

theorem f16_eq {j : ℕ} (h : j < 16) : f16 j = ⟨j, h⟩ := Fin.ext (Nat.mod_eq_of_lt h)

variable {TX TY TZ : S132.Idx → F .f32} {B : S64x3.Idx → F .f32} {C : S524288x16.Idx → F .f32} {I : S16x128.Idx → BitVec 32}

/-- The sixteen gathers together. -/
theorem run_fetch {cp : Memref sig .scVector .hbm S524288x16 .f32} {g : Memref sig .scVector .vmem S16x128x16 .f32}
    {ix : Memref sig .scVector .vmem S16x128 .i32} {sem : DmaSems sig S_} {q : PosShare TreeShare} {fs : cp.view.ty.Contents (Elt F)} {N : ℕ}
    (hc : Credit g N) (hC : cp.view.read (Elt F) fs = C) (hI : It TX TY TZ B 4 0 0 I) {O : CellTallies nD τ sig (HIx 1)} {W : Waits sig (HIx 1)}
    {Q : PUnit → sProp (MM F)} :
    iprop((cp.view.loc (V d c s) ↦[cp.view.set]{q} fs) ∗ (∃ G, at' d c s g G) ∗ holds (F := F) (e := .i32) (V d c s) ix I
        ∗ semVal (V d c s, .dma sem.sem) 0 ∗ keeps d c s O W ∗ MayWaits (V d c s) none O)
      ⊢ iprop((iprop((cp.view.loc (V d c s) ↦[cp.view.set]{q} fs) ∗ (∃ G, at' d c s g G ∗ ⌜Gt C I G⌝) ∗ holds (F := F) (e := .i32) (V d c s) ix I
          ∗ semVal (V d c s, .dma sem.sem) 0 ∗ keeps d c s O W) -∗ Q ⟨⟩)
        -∗ run d (c := c) (s := s) (up (fun m _ => ask cp g ix sem (f16 m)) 0 16 ⟨⟩) fun _ =>
          run d (c := c) (s := s) (up (fun m _ => await cp g sem (f16 m)) 0 16 ⟨⟩) Q) := by
  unfold at' holds
  iintro ⟨Hs, ⟨%G, %fg, Hg, -⟩, ⟨%fi, Hi, %hfi⟩, Hv, HO, #Hmw⟩ Hk
  have hin : ∀ (m : Fin 16) x, ((iRow ix m).view.read (Elt F) fi x).toNat < 524288 := fun m x => by
    have := hI.inside (le_refl 4) (ix2 16 128 m.val (x 0).val)
    rw [← hfi] at this
    rw [View.read_apply] at this ⊢
    rw [iRow_emb]
    exact this
  ihave Hs := (Entails.of_eq (pointsTo_piecesOf (Ix := HIx 1) (Name := ℕ) (U := UU) (Lvl := ℕ) (cp.view.set) fs (show 0 < 16 by decide) q)) $$ Hs
  ihave Hg := (Entails.of_eq (g_rows g fg)) $$ Hg
  ihave Hi := (Entails.of_eq (i_rows ix fi)) $$ Hi
  imod (gathers_start (cp := cp) (g := g) (ix := ix) (N := N) (q := q) (fs := fs) (fg := fg) (fi := fi) (hin := hin)) $$ Hv with HB
  ihave H1 := bigSep_sep_in _ _ _ $$ [Hg Hi]; · isplitl [Hg] <;> iassumption
  ihave H2 := bigSep_sep_in _ _ _ $$ [Hs H1]; · isplitl [Hs] <;> iassumption
  iapply (run_rounds d (fun j _ => iprop(bigSep (pending (n := 16) j) (fun m : Fin 16 =>
      iprop((cp.view.loc (V d c s) ↦[cp.view.set]{sixteenth q m} fs) ∗ (g.view.loc (V d c s) ↦[(gRow g m).view.set]{fullShare} fg)
        ∗ (ix.view.loc (V d c s) ↦[(iRow ix m).view.set]{fullShare} fi)))
      ∗ gathers d c s sem N q fs fg fi hin (128 * j) 0)) fun j _ hj => ?_) $$ [H2 HB]
  · rw [bigSep_pending_step _ j hj, f16_eq hj]
    iintro ⟨⟨⟨Hs, Hg, Hi⟩, Hp⟩, HB⟩
    iapply (run_ask (q := q) hc ⟨j, hj⟩) $$ [Hs Hg Hi HB]
    · isplitl [Hs]; · iexact Hs
      isplitl [Hg]; · iexact Hg
      isplitl [Hi]; · iexact Hi
      iexact HB
    iintro HB
    isplitl [Hp]; · iexact Hp
    iexact HB
  · isplitl [H2]
    · rw [pending_zero]
      iexact H2
    · iexact HB
  iintro %_ ⟨-, HB⟩
  iapply (wp_fupd frame _ _ _ _)
  iapply (run_rounds d (fun j _ => iprop(gathers d c s sem N q fs fg fi hin (128 * 16) (128 * j * N) ∗ keeps d c s O W ∗ MayWaits (V d c s) none O))
    fun j _ hj => ?_) $$ [HB HO]
  · rw [f16_eq hj]
    iintro ⟨HB, HO, #Hmw⟩
    iapply (run_await (q := q) hc ⟨j, hj⟩) $$ [HB HO]
    · isplitl [HB]; · iexact HB
      isplitl [HO]; · iexact HO
      iexact Hmw
    iintro ⟨HB, HO⟩
    isplitl [HB]; · iexact HB
    isplitl [HO]; · iexact HO
    iexact Hmw
  · isplitl [HB]
    · rw [Nat.mul_zero, Nat.zero_mul]
      iexact HB
    isplitl [HO]; · iexact HO
    iexact Hmw
  iintro %_ ⟨HB, HO, -⟩
  rw [show 128 * 16 * N = N * (16 * 128) from Nat.mul_comm _ _]
  imod (gathers_end hc.pos) $$ HB with ⟨HD, Hv⟩
  ihave HD := rows_came $$ HD
  icases HD with ⟨Hg, Hi, Hs⟩
  ihave Hs := (Entails.of_eq (pointsTo_piecesOf (Ix := HIx 1) (Name := ℕ) (U := UU) (Lvl := ℕ) (cp.view.set) fs (show 0 < 16 by decide) q).symm) $$ Hs
  ihave Hi := (Entails.of_eq (i_rows ix fi).symm) $$ Hi
  ihave Hg := (pointsTo_biUnion_join (ℓ := g.view.loc (V d c s)) (q := fullShare) Finset.univ (gSet g d c s) _ fg
    fun m _ m' _ h => gRow_disjoint g h) $$ Hg
  icases Hg with ⟨%f, %hf, Hg⟩
  rw [gRow_cover]
  imodintro
  iapply Hk
  isplitl [Hs]; · iexact Hs
  isplitl [Hg]
  · iexists (g.view.read (Elt F) f)
    isplitl [Hg]
    · iexists f
      isplitl [Hg]
      · iexact Hg
      · ipureintro; rfl
    · ipureintro
      exact fun m hm n hn p hp => row_value (g := g) (fg := fg) (f := f) (hin := hin) hC hfi ⟨m, hm⟩ (hf ⟨m, hm⟩ (Finset.mem_univ _)) hn hp
  isplitl [Hi]
  · iexists fi
    isplitl [Hi]
    · iexact Hi
    · ipureintro
      exact hfi
  isplitl [Hv]; · iexact Hv
  iexact HO

end Cert.Kernel
-- ==== Proof.Round.lean ====
module

public import proofs.«01_k».proof.Proof.Fetch

@[expose] public section

/-!
One round of a subcore's loop — a block of sixty-four queries in, their results out — and the loop.
-/

noncomputable section

namespace Cert.Kernel

open Idealize.ShloMosaic Idealize.ShloMosaic.SparseCore Idealize.SL
open Idealize.ShloMosaic.SparseCore.Cfg (HIx)
open Idealize.SL.BI (sProp Storable bigSep)
open scoped Idealize.SL.BI
open Idealize.SL.BI.BIBase Idealize.SL.BI.Laws Idealize.SL.Sem Idealize.SL.ProofMode
open Idealize.SL.RA Idealize.ShloMosaic.Transfers Idealize.ShloMosaic.Rounds Cert.Streams

variable {F : FTy → Type} [FloatOps F] [Facts]

variable {d : Dev nD}

/-- A copy and its wait, among other waits. -/
theorem run_copy {c : Fin τ.nSC} {s : Fin τ.nSub} {sp sp' : Space} {sh : Shape} {e : EltTy}
    {src : Memref sig .scVector sp sh e} {dst : Memref sig .scVector sp' sh e} {sem : DmaSem sig}
    {hsrc hsrc' : src.view.WordExact} {hdst hdst' : dst.view.WordExact} {hsem : DmaTarget.Typed (nD := nD) (p := Proc.scVector (τ := τ) c s) sp (.dma sem) (.here dst)}
    {q : PosShare TreeShare} {fs : src.view.ty.Contents (Elt F)} (hN : 0 < dst.view.dmaCredit)
    {O : CellTallies nD τ sig (HIx 1)} {W : Waits sig (HIx 1)} {Q : PUnit → sProp (MM F)} :
    iprop((src.view.loc (V d c s) ↦[src.view.set]{q} fs) ∗ (∃ A, at' d c s dst A) ∗ semVal (V d c s, .dma sem) 0
        ∗ keeps d c s O W ∗ MayWaits (V d c s) none O)
      ⊢ iprop((iprop((src.view.loc (V d c s) ↦[src.view.set]{q} fs) ∗ at' d c s dst (src.view.read (Elt F) fs)
          ∗ semVal (V d c s, .dma sem) 0 ∗ keeps d c s O W) -∗ Q ⟨⟩)
        -∗ run d (c := c) (s := s) (Prog.lift (.enqueueDma src (.here dst) (.dma sem) hsrc hdst hsem)) fun _ =>
          run d (c := c) (s := s) (Prog.lift (.waitDma2 sem src dst hsrc' hdst')) Q) := by
  rw [← run_bind d (Prog.lift (.enqueueDma src (.here dst) (.dma sem) hsrc hdst hsem))
    (fun _ => Prog.lift (.waitDma2 sem src dst hsrc' hdst')) Q]
  have h := fun A W => wp_fetch (Q := Q) (defs := defs₀ (F := F)) (U := UU) (Lvl := ℕ) (Ix := HIx 1) (Name := ℕ) countersEmb Variants.none (V d c s) none
    (src := src) (dst := dst) (sem := sem) (hsrc := hsrc) (hsrc' := hsrc') (hdst := hdst) (hdst' := hdst') (hsem := hsem)
    (k := Prog.ret) (q := q) (fs := fs) (A := A) none dst.view.dmaCredit rfl hN (O := O) (W := W)
  unfold keeps
  iintro ⟨Hs, ⟨%A, Hd⟩, Hv, ⟨%W', %hW, HO⟩, #Hmw⟩ Hk
  iapply (h A W') $$ [Hs Hd Hv HO]
  · isplitl [Hs]; · iexact Hs
    isplitl [Hd]; · iexact Hd
    isplitl [Hv]; · iexact Hv
    isplitl [HO]; · iexact HO
    iapply (MayWaits.elim (SemLoc.dma sem)) $$ Hmw
  iintro ⟨Hs, Hd, Hv, HO⟩
  iapply le_wp_ret
  iapply Hk
  isplitl [Hs]; · iexact Hs
  isplitl [Hd]; · iexact Hd
  isplitl [Hv]; · iexact Hv
  iexists _
  isplitr
  swap
  · iexact HO
  ipureintro
  intro p hp
  rcases Finset.mem_insert.mp hp with hp | hp
  · exact .inr (hp ▸ rfl)
  · exact hW p hp

/-! ### Before anything is filled -/

section Zero
variable {TX TY TZ : S132.Idx → F .f32} {B : S64x3.Idx → F .f32} {C : S524288x16.Idx → F .f32}

theorem It.zero (I : S16x128.Idx → BitVec 32) : It TX TY TZ B 0 0 0 I := fun m _ =>
  ⟨fun k hk => absurd hk (by simp [upto]), fun k hk => absurd hk (by simp [upto])⟩
theorem Wt.zero (W : S12x64.Idx → F .f32) : Wt TX TY TZ B 0 0 W := fun r _ k hk => absurd hk (by simp [upto])
theorem St.zero (S : S64.Idx → BitVec 32) : St TX B 0 S := fun k hk => absurd hk (by omega)
theorem Ot.zero (O : S64x3.Idx → F .f32) : Ot TX TY TZ B C 0 0 O := fun e _ k hk => absurd hk (by simp [upto])
end Zero

/-! ### One round -/

section Round

variable (d) (i : grid0.Coords)

/-- The subcore at grid coordinates. -/
abbrev cI : Fin τ.nSC := (i 0).castLE Facts₀.hcore0
abbrev sI : Fin τ.nSub := (i 1).castLE Facts₀.hsub0

/-- The block of queries a round works on, and the block of results. -/
abbrev qBlk (a : Memref sig .scVector .hbm S131072x3 .f32) (t : Fin k0_t1_loop.trips) : Memref sig .scVector .hbm S64x3 .f32 :=
  a.slice (Rect.unit (s := S131072x3) (k0_off1 i t) S64x3.size (Facts₀.k0_off1_inb i t)) (fun _ => rfl)
abbrev oBlk (a : Memref sig .scVector .hbm S131072x3 .f32) (t : Fin k0_t1_loop.trips) : Memref sig .scVector .hbm S64x3 .f32 :=
  a.slice (Rect.unit (s := S131072x3) (k0_off2 i t) S64x3.size (Facts₀.k0_off2_inb i t)) (fun _ => rfl)

/-- What a subcore has for itself between rounds: the knots, tables of any contents, the semaphores at zero, and its
    shares of the queries and of the groups. -/
def own (arg2 : Memref sig .scVector .hbm S131072x3 .f32) (arg3 : Memref sig .scVector .hbm S524288x16 .f32)
    (arg8 arg9 arg10 : Memref sig .scVector .vmem S132 .f32) (arg11 : Memref sig .scVector .vmem S64x3 .f32)
    (arg12 : Memref sig .scVector .vmem S16x128 .i32) (arg13 : Memref sig .scVector .vmem S16x128x16 .f32)
    (arg14 : Memref sig .scVector .vmem S12x64 .f32) (arg15 : Memref sig .scVector .vmem S64 .i32)
    (arg16 : Memref sig .scVector .vmem S64x3 .f32) (arg17 r3 r4 : DmaSems sig S_)
    (TX TY TZ : S132.Idx → F .f32) (q : PosShare TreeShare) (f2 : arg2.view.ty.Contents (Elt F)) (f3 : arg3.view.ty.Contents (Elt F))
    (O : CellTallies nD τ sig (HIx 1)) (W : Waits sig (HIx 1)) : sProp (MM F) :=
  iprop((arg2.view.loc (V d (cI i) (sI i)) ↦[arg2.view.set]{q} f2) ∗ (arg3.view.loc (V d (cI i) (sI i)) ↦[arg3.view.set]{q} f3)
    ∗ at' d (cI i) (sI i) arg8 TX ∗ at' d (cI i) (sI i) arg9 TY ∗ at' d (cI i) (sI i) arg10 TZ
    ∗ (∃ B, at' d (cI i) (sI i) arg11 B) ∗ (∃ I, at' d (cI i) (sI i) arg12 I) ∗ (∃ G, at' d (cI i) (sI i) arg13 G)
    ∗ (∃ A, at' d (cI i) (sI i) arg14 A) ∗ (∃ S, at' d (cI i) (sI i) arg15 S) ∗ (∃ R, at' d (cI i) (sI i) arg16 R)
    ∗ semVal (V d (cI i) (sI i), .dma arg17.sem) 0 ∗ semVal (V d (cI i) (sI i), .dma r3.sem) 0 ∗ semVal (V d (cI i) (sI i), .dma r4.sem) 0
    ∗ keeps d (cI i) (sI i) O W)

variable {d i}
variable {arg2 : Memref sig .scVector .hbm S131072x3 .f32} {arg3 : Memref sig .scVector .hbm S524288x16 .f32}
    {arg7 : Memref sig .scVector .hbm S131072x3 .f32}
    {arg8 arg9 arg10 : Memref sig .scVector .vmem S132 .f32} {arg11 : Memref sig .scVector .vmem S64x3 .f32} {harg11 : arg11.IsWhole}
    {arg12 : Memref sig .scVector .vmem S16x128 .i32} {arg13 : Memref sig .scVector .vmem S16x128x16 .f32}
    {arg14 : Memref sig .scVector .vmem S12x64 .f32} {arg15 : Memref sig .scVector .vmem S64 .i32}
    {arg16 : Memref sig .scVector .vmem S64x3 .f32} {harg16 : arg16.IsWhole} {arg17 r3 r4 : DmaSems sig S_}
    {TX TY TZ : S132.Idx → F .f32} {q : PosShare TreeShare} {f2 : arg2.view.ty.Contents (Elt F)} {f3 : arg3.view.ty.Contents (Elt F)}
    {O : CellTallies nD τ sig (HIx 1)} {W : Waits sig (HIx 1)} {l : IVec S16 32} {N : ℕ} {OUT : arg7.view.ty.Contents (Elt F)}

/-- What the results' block holds after a round. -/
def Right (i : grid0.Coords) (arg2 arg7 : Memref sig .scVector .hbm S131072x3 .f32) (TX TY TZ : S132.Idx → F .f32)
    (C : S524288x16.Idx → F .f32) (f2 : arg2.view.ty.Contents (Elt F)) (OUT : arg7.view.ty.Contents (Elt F)) (t : Fin k0_t1_loop.trips) : Prop :=
  ∀ k < 64, ∀ e < 3, (oBlk i arg7 t).view.read (Elt F) OUT (ix2 64 3 k e)
    = outOf TX TY TZ C ((qBlk i arg2 t).view.read (Elt F) f2 (ix2 64 3 k 0)) ((qBlk i arg2 t).view.read (Elt F) f2 (ix2 64 3 k 1))
        ((qBlk i arg2 t).view.read (Elt F) f2 (ix2 64 3 k 2)) e

theorem run_round (hl : Counts l) (hc : Credit arg13 N) (h11 : 0 < arg11.view.dmaCredit) (t : Fin k0_t1_loop.trips)
    (h7 : 0 < (oBlk i arg7 t).view.dmaCredit)
    (hOUT : Right i arg2 arg7 TX TY TZ (arg3.view.read (Elt F) f3) f2 OUT t) {Q : PUnit → sProp (MM F)} :
    iprop(own d i arg2 arg3 arg8 arg9 arg10 arg11 arg12 arg13 arg14 arg15 arg16 arg17 r3 r4 TX TY TZ q f2 f3 O W
        ∗ (∃ f, (oBlk i arg7 t).view.loc (V d (cI i) (sI i)) ↦[(oBlk i arg7 t).view.set]{fullShare} f)
        ∗ MayWaits (V d (cI i) (sI i)) none O)
      ⊢ iprop((iprop(own d i arg2 arg3 arg8 arg9 arg10 arg11 arg12 arg13 arg14 arg15 arg16 arg17 r3 r4 TX TY TZ q f2 f3 O W
          ∗ (oBlk i arg7 t).view.loc (V d (cI i) (sI i)) ↦[(oBlk i arg7 t).view.set]{fullShare} OUT) -∗ Q ⟨⟩)
        -∗ run d (round i arg2 arg3 arg7 arg8 arg9 arg10 arg11 harg11 arg12 arg13 arg14 arg15 arg16 harg16 arg17 r3 r4 l t) Q) := by
  unfold round own
  simp only [run_bind]
  iintro ⟨⟨H2, H3, H8, H9, H10, H11, ⟨%I0, H12⟩, H13, ⟨%W0, H14⟩, ⟨%S0, H15⟩, ⟨%O0, H16⟩, Hv, Hv3, Hv4, HO⟩, ⟨%f7, H7⟩, #Hmw⟩ Hk
  have hsub : (qBlk i arg2 t).view.set ⊆ arg2.view.set := by
    intro y hy
    obtain ⟨x, -, rfl⟩ := Finset.mem_map.mp hy
    exact Finset.mem_map_of_mem _ (Finset.mem_univ _)
  ihave H2 := (pointsTo_split_subset (ℓ := arg2.view.loc (V d (cI i) (sI i))) (I := (qBlk i arg2 t).view.set) (S := arg2.view.set) (q := q) (f := f2) hsub).1 $$ H2
  icases H2 with ⟨H2, H2r⟩
  iapply (run_copy (src := qBlk i arg2 t) (fs := f2) (q := q) (O := O) (W := W) h11) $$ [H2 H11 Hv3 HO]
  · isplitl [H2]; · iexact H2
    isplitl [H11]; · iexact H11
    isplitl [Hv3]; · iexact Hv3
    isplitl [HO]; · iexact HO
    iexact Hmw
  iintro ⟨H2, H11, Hv3, HO⟩
  ihave H2 := (pointsTo_split_subset (ℓ := arg2.view.loc (V d (cI i) (sI i))) (I := (qBlk i arg2 t).view.set) (S := arg2.view.set) (q := q) (f := f2) hsub).2 $$ [H2 H2r]; · isplitl [H2] <;> iassumption
  generalize hB : (qBlk i arg2 t).view.read (Elt F) f2 = B
  iapply (run_rounds d (fun v _ => iprop(at' d (cI i) (sI i) arg8 TX ∗ at' d (cI i) (sI i) arg9 TY ∗ at' d (cI i) (sI i) arg10 TZ ∗ at' d (cI i) (sI i) arg11 B
        ∗ (∃ I, at' d (cI i) (sI i) arg12 I ∗ ⌜It TX TY TZ B v 0 0 I⌝) ∗ (∃ W, at' d (cI i) (sI i) arg14 W ∗ ⌜Wt TX TY TZ B v 0 W⌝)
        ∗ (∃ S, at' d (cI i) (sI i) arg15 S ∗ ⌜St TX B (16 * v) S⌝))) fun v _ hv => ?_) $$ [H8 H9 H10 H11 H12 H14 H15]
  · have e : (⟨v % 4, Nat.mod_lt _ (by omega)⟩ : Fin 4) = ⟨v, hv⟩ := Fin.ext (Nat.mod_eq_of_lt hv)
    rw [e]
    iintro H
    iapply (run_phase1 hl ⟨v, hv⟩) $$ H
    iintro H
    iexact H
  · isplitl [H8]; · iexact H8
    isplitl [H9]; · iexact H9
    isplitl [H10]; · iexact H10
    isplitl [H11]; · iexact H11
    isplitl [H12]
    · iexists I0
      isplitl [H12]; · iexact H12
      ipureintro
      exact It.zero _
    isplitl [H14]
    · iexists W0
      isplitl [H14]; · iexact H14
      ipureintro
      exact Wt.zero _
    · iexists S0
      isplitl [H15]; · iexact H15
      ipureintro
      exact St.zero _
  iintro %_ ⟨H8, H9, H10, H11, ⟨%I, H12, %hI⟩, ⟨%WT, H14, %hW⟩, ⟨%S, H15, %hS⟩⟩
  iapply (run_fetch (cp := arg3) (q := q) (fs := f3) (O := O) (W := W) hc rfl hI) $$ [H3 H13 H12 Hv HO]
  · isplitl [H3]; · iexact H3
    isplitl [H13]; · iexact H13
    isplitl [H12]; · iexact H12
    isplitl [Hv]; · iexact Hv
    isplitl [HO]; · iexact HO
    iexact Hmw
  iintro ⟨H3, ⟨%G, H13, %hG⟩, H12, Hv, HO⟩
  iapply (run_rounds d (fun v _ => iprop(at' d (cI i) (sI i) arg13 G ∗ at' d (cI i) (sI i) arg14 WT ∗ at' d (cI i) (sI i) arg15 S
        ∗ (∃ R, at' d (cI i) (sI i) arg16 R ∗ ⌜Ot TX TY TZ B (arg3.view.read (Elt F) f3) v 0 R⌝))) fun v _ hv => ?_) $$ [H13 H14 H15 H16]
  · have e : (⟨v % 4, Nat.mod_lt _ (by omega)⟩ : Fin 4) = ⟨v, hv⟩ := Fin.ext (Nat.mod_eq_of_lt hv)
    rw [e]
    iintro H
    iapply (run_phase2 hl ⟨v, hv⟩ hW hS hI hG) $$ H
    iintro H
    iexact H
  · isplitl [H13]; · iexact H13
    isplitl [H14]; · iexact H14
    isplitl [H15]; · iexact H15
    iexists O0
    isplitl [H16]; · iexact H16
    ipureintro
    exact Ot.zero _
  iintro %_ ⟨H13, H14, H15, ⟨%R, H16, %hR⟩⟩
  ihave H16 := (Entails.of_eq (show (at' d (cI i) (sI i) arg16 R : sProp (MM F)) = iprop(∃ f, (arg16.view.loc (V d (cI i) (sI i)) ↦[arg16.view.set]{fullShare} f)
    ∗ ⌜arg16.view.read (Elt F) f = R⌝) from rfl)) $$ H16
  icases H16 with ⟨%f16, H16, %h16⟩
  iapply (run_copy (src := arg16) (dst := oBlk i arg7 t) (fs := f16) (q := fullShare) (O := O) (W := W) h7) $$ [H16 H7 Hv4 HO]
  · isplitl [H16]; · iexact H16
    isplitl [H7]
    · iexists _
      iapply (holds_intro (V d (cI i) (sI i)) (m := oBlk i arg7 t) f7) $$ H7
    isplitl [Hv4]; · iexact Hv4
    isplitl [HO]; · iexact HO
    iexact Hmw
  iintro ⟨H16, H7, Hv4, HO⟩
  ihave H16 := (holds_intro (V d (cI i) (sI i)) (m := arg16) f16) $$ H16
  ihave H7 := (Entails.of_eq (show (at' d (cI i) (sI i) (oBlk i arg7 t) (arg16.view.read (Elt F) f16) : sProp (MM F))
    = iprop(∃ f, ((oBlk i arg7 t).view.loc (V d (cI i) (sI i)) ↦[(oBlk i arg7 t).view.set]{fullShare} f)
    ∗ ⌜(oBlk i arg7 t).view.read (Elt F) f = arg16.view.read (Elt F) f16⌝) from rfl)) $$ H7
  icases H7 with ⟨%g7, H7, %hg7⟩
  have hout : ∀ y ∈ (oBlk i arg7 t).view.set, g7 y = OUT y := by
    intro y hy
    obtain ⟨x, -, rfl⟩ := Finset.mem_map.mp hy
    have ex : x = ix2 64 3 (x 0).val (x 1).val := by
      funext a
      apply Fin.ext
      match a with
      | 0 => exact (Nat.mod_eq_of_lt (x 0).isLt).symm
      | 1 => exact (Nat.mod_eq_of_lt (x 1).isLt).symm
    have h1 := hOUT (x 0).val (x 0).isLt (x 1).val (x 1).isLt
    have h2 := hR (x 1).val (x 1).isLt (x 0).val (by
      have := (x 0).isLt
      rw [upto, if_neg (by omega)]
      exact this)
    rw [← ex] at h1 h2
    have h3 := congrFun hg7 x
    rw [h16, h2] at h3
    rw [hB] at h1
    have h4 := h3.trans h1.symm
    rw [View.read_apply, View.read_apply] at h4
    exact (cast_inj _).mp h4
  ihave H7 := (Entails.of_eq (pointsTo_congr hout)) $$ H7
  iapply Hk
  isplitr [H7]
  swap
  · iexact H7
  isplitl [H2]; · iexact H2
  isplitl [H3]; · iexact H3
  isplitl [H8]; · iexact H8
  isplitl [H9]; · iexact H9
  isplitl [H10]; · iexact H10
  isplitl [H11]; · iexists B; iexact H11
  isplitl [H12]; · iexists I; iexact H12
  isplitl [H13]; · iexists G; iexact H13
  isplitl [H14]; · iexists WT; iexact H14
  isplitl [H15]; · iexists S; iexact H15
  isplitl [H16]; · iexists _; iexact H16
  isplitl [Hv]; · iexact Hv
  isplitl [Hv3]; · iexact Hv3
  isplitl [Hv4]; · iexact Hv4
  iexact HO

/-- What the results' blocks hold after `n` rounds. -/
abbrev after (OUT f : arg7.view.ty.Contents (Elt F)) (n : ℕ) (t : Fin k0_t1_loop.trips) : arg7.view.ty.Contents (Elt F) :=
  if t.val < n then OUT else f

/-- The blocks of results. -/
abbrev outs (d : Dev nD) (i : grid0.Coords) (arg7 : Memref sig .scVector .hbm S131072x3 .f32)
    (g : Fin k0_t1_loop.trips → arg7.view.ty.Contents (Elt F)) : sProp (MM F) :=
  bigSep Finset.univ fun t => (oBlk i arg7 t).view.loc (V d (cI i) (sI i)) ↦[(oBlk i arg7 t).view.set]{fullShare} g t

theorem outs_take (f : arg7.view.ty.Contents (Elt F)) (t : Fin k0_t1_loop.trips) :
    outs d i arg7 (after OUT f t.val)
      ⊢ iprop(((oBlk i arg7 t).view.loc (V d (cI i) (sI i)) ↦[(oBlk i arg7 t).view.set]{fullShare} f)
        ∗ (((oBlk i arg7 t).view.loc (V d (cI i) (sI i)) ↦[(oBlk i arg7 t).view.set]{fullShare} OUT) -∗ outs d i arg7 (after OUT f (t.val + 1)))) := by
  unfold outs
  rw [SparseCore.bigSep_erase' (Finset.mem_univ t), SparseCore.bigSep_erase' (Finset.mem_univ t)]
  unfold after
  rw [if_neg (Nat.lt_irrefl _), if_pos (Nat.lt_succ_self _)]
  iintro ⟨H, Hr⟩
  isplitl [H]; · iexact H
  iintro H
  isplitl [H]; · iexact H
  iapply (Entails.of_eq (BI.bigSep_congr fun t' ht' => ?_)) $$ Hr
  have hne : t'.val ≠ t.val := fun e => (Finset.mem_erase.mp ht').1 (Fin.ext e)
  by_cases h : t'.val < t.val
  · rw [if_pos h, if_pos (Nat.lt_succ_of_lt h)]
  · rw [if_neg h, if_neg (by omega)]

/-- All the rounds. -/
theorem run_all (hl : Counts l) (hc : Credit arg13 N) (h11 : 0 < arg11.view.dmaCredit) (h7 : ∀ t, 0 < (oBlk i arg7 t).view.dmaCredit)
    (hOUT : ∀ t, Right i arg2 arg7 TX TY TZ (arg3.view.read (Elt F) f3) f2 OUT t) (f7 : arg7.view.ty.Contents (Elt F)) {Q : PUnit → sProp (MM F)} :
    iprop(own d i arg2 arg3 arg8 arg9 arg10 arg11 arg12 arg13 arg14 arg15 arg16 arg17 r3 r4 TX TY TZ q f2 f3 O W
        ∗ outs d i arg7 (fun _ => f7) ∗ MayWaits (V d (cI i) (sI i)) none O)
      ⊢ iprop((iprop(own d i arg2 arg3 arg8 arg9 arg10 arg11 arg12 arg13 arg14 arg15 arg16 arg17 r3 r4 TX TY TZ q f2 f3 O W
          ∗ outs d i arg7 fun _ => OUT) -∗ Q ⟨⟩)
        -∗ run d (c := cI i) (s := sI i) (Scf.Loop.for k0_t1_loop Facts₀.k0_t1_ok ⟨⟩ fun t _ =>
          round i arg2 arg3 arg7 arg8 arg9 arg10 arg11 harg11 arg12 arg13 arg14 arg15 arg16 harg16 arg17 r3 r4 l t) Q) := by
  iintro ⟨Hown, Hout, #Hmw⟩ Hk
  iapply (Scf.wp_for frame (wpE (defs₀ (F := F)) Variants.none (V d (cI i) (sI i)) none) Set.univ k0_t1_loop.lb k0_t1_loop.ub k0_t1_loop.st
    Facts₀.k0_t1_ok (⟨⟩ : PUnit) _
    (fun n _ => iprop(own d i arg2 arg3 arg8 arg9 arg10 arg11 arg12 arg13 arg14 arg15 arg16 arg17 r3 r4 TX TY TZ q f2 f3 O W
        ∗ outs d i arg7 (after OUT f7 n) ∗ MayWaits (V d (cI i) (sI i)) none O)) (fun t _ => ?_))
  · iintro ⟨Hown, Hout, #Hmw⟩
    ihave Hout := (outs_take f7 t) $$ Hout
    icases Hout with ⟨H7, Hout⟩
    iapply (run_round (OUT := OUT) hl hc h11 t (h7 t) (hOUT t)) $$ [Hown H7]
    · isplitl [Hown]; · iexact Hown
      isplitl [H7]
      · iexists f7
        iexact H7
      iexact Hmw
    iintro ⟨Hown, H7⟩
    isplitl [Hown]; · iexact Hown
    isplitl [H7 Hout]
    · iapply Hout $$ H7
    iexact Hmw
  isplitl [Hown Hout]
  · isplitl [Hown]; · iexact Hown
    isplitl [Hout]
    · iapply (Entails.of_eq (BI.bigSep_congr fun t' _ => ?_)) $$ Hout
      unfold after
      rw [if_neg (Nat.not_lt_zero _)]
    iexact Hmw
  iintro %_ ⟨Hown, Hout, -⟩
  iapply Hk
  isplitl [Hown]; · iexact Hown
  iapply (Entails.of_eq (BI.bigSep_congr fun t' _ => ?_)) $$ Hout
  unfold after
  rw [if_pos t'.isLt]

theorem counts_iota : Counts (iota .scVector S16 32 [0] Facts₀.iota_S16_d0_w32_scVector) := by
  intro x
  have h : ∀ n, n < 16 → (BitVec.ofNat 32 (0 * 16 + n)).toNat = n := by
    intro n hn
    rw [BitVec.toNat_ofNat]
    omega
  exact h _ (ln_lt x)

variable {arg4 arg5 arg6 : Memref sig .scVector .hbm S132 .f32} {harg4 : arg4.IsWhole} {harg5 : arg5.IsWhole} {harg6 : arg6.IsWhole}
  {harg8 : arg8.IsWhole} {harg9 : arg9.IsWhole} {harg10 : arg10.IsWhole} {r0 r1 r2 : DmaSems sig S_}
  {f4 : arg4.view.ty.Contents (Elt F)} {f5 : arg5.view.ty.Contents (Elt F)} {f6 : arg6.view.ty.Contents (Elt F)}

/-- The three arrays of knots and the semaphores of their copies. -/
def knots (d : Dev nD) (i : grid0.Coords) (arg4 arg5 arg6 : Memref sig .scVector .hbm S132 .f32) (r0 r1 r2 : DmaSems sig S_) (q : PosShare TreeShare)
    (f4 : arg4.view.ty.Contents (Elt F)) (f5 : arg5.view.ty.Contents (Elt F)) (f6 : arg6.view.ty.Contents (Elt F)) : sProp (MM F) :=
  iprop((arg4.view.loc (V d (cI i) (sI i)) ↦[arg4.view.set]{q} f4) ∗ (arg5.view.loc (V d (cI i) (sI i)) ↦[arg5.view.set]{q} f5)
    ∗ (arg6.view.loc (V d (cI i) (sI i)) ↦[arg6.view.set]{q} f6)
    ∗ semVal (V d (cI i) (sI i), .dma r0.sem) 0 ∗ semVal (V d (cI i) (sI i), .dma r1.sem) 0 ∗ semVal (V d (cI i) (sI i), .dma r2.sem) 0)

/-- The whole of a subcore's work. -/
theorem run_rolled (hc : Credit arg13 N) (h8 : 0 < arg8.view.dmaCredit) (h9 : 0 < arg9.view.dmaCredit) (h10 : 0 < arg10.view.dmaCredit)
    (h11 : 0 < arg11.view.dmaCredit) (h7 : ∀ t, 0 < (oBlk i arg7 t).view.dmaCredit)
    (hOUT : ∀ t, Right i arg2 arg7 (arg4.view.read (Elt F) f4) (arg5.view.read (Elt F) f5) (arg6.view.read (Elt F) f6)
      (arg3.view.read (Elt F) f3) f2 OUT t) (f7 : arg7.view.ty.Contents (Elt F)) :
    iprop(knots d i arg4 arg5 arg6 r0 r1 r2 q f4 f5 f6
        ∗ (∃ T1 T2 T3, own d i arg2 arg3 arg8 arg9 arg10 arg11 arg12 arg13 arg14 arg15 arg16 arg17 r3 r4 T1 T2 T3 q f2 f3 O W)
        ∗ outs d i arg7 (fun _ => f7) ∗ MayWaits (V d (cI i) (sI i)) none O)
      ⊢ run d (rolled i arg2 arg3 arg4 harg4 arg5 harg5 arg6 harg6 arg7 arg8 harg8 arg9 harg9 arg10 harg10 arg11 harg11 arg12 arg13 arg14 arg15
          arg16 harg16 arg17 r0 r1 r2 r3 r4) fun _ =>
        iprop(knots d i arg4 arg5 arg6 r0 r1 r2 q f4 f5 f6
        ∗ (∃ T1 T2 T3, own d i arg2 arg3 arg8 arg9 arg10 arg11 arg12 arg13 arg14 arg15 arg16 arg17 r3 r4 T1 T2 T3 q f2 f3 O W)
        ∗ outs d i arg7 (fun _ => OUT)) := by
  unfold rolled
  simp only [run_bind]
  unfold knots
  iintro ⟨⟨H4, H5, H6, Hv0, Hv1, Hv2⟩, ⟨%T1, %T2, %T3, Hown⟩, Hout, #Hmw⟩
  unfold own
  icases Hown with ⟨H2, H3, H8, H9, H10, H11, H12, H13, H14, H15, H16, Hv, Hv3, Hv4, HO⟩
  iapply (run_copy (src := arg4) (dst := arg8) (fs := f4) (q := q) (O := O) (W := W) h8) $$ [H4 H8 Hv0 HO]
  · isplitl [H4]; · iexact H4
    isplitl [H8]; · iexists T1; iexact H8
    isplitl [Hv0]; · iexact Hv0
    isplitl [HO]; · iexact HO
    iexact Hmw
  iintro ⟨H4, H8, Hv0, HO⟩
  iapply (run_copy (src := arg5) (dst := arg9) (fs := f5) (q := q) (O := O) (W := W) h9) $$ [H5 H9 Hv1 HO]
  · isplitl [H5]; · iexact H5
    isplitl [H9]; · iexists T2; iexact H9
    isplitl [Hv1]; · iexact Hv1
    isplitl [HO]; · iexact HO
    iexact Hmw
  iintro ⟨H5, H9, Hv1, HO⟩
  iapply (run_copy (src := arg6) (dst := arg10) (fs := f6) (q := q) (O := O) (W := W) h10) $$ [H6 H10 Hv2 HO]
  · isplitl [H6]; · iexact H6
    isplitl [H10]; · iexists T3; iexact H10
    isplitl [Hv2]; · iexact Hv2
    isplitl [HO]; · iexact HO
    iexact Hmw
  iintro ⟨H6, H10, Hv2, HO⟩
  ihave Hall := (run_all (OUT := OUT) (arg7 := arg7) (d := d) (i := i) (arg2 := arg2) (arg3 := arg3) (arg8 := arg8) (arg9 := arg9) (arg10 := arg10)
    (arg11 := arg11) (arg12 := arg12) (arg13 := arg13) (arg14 := arg14) (arg15 := arg15) (arg16 := arg16) (arg17 := arg17) (r3 := r3) (r4 := r4)
    (TX := arg4.view.read (Elt F) f4) (TY := arg5.view.read (Elt F) f5) (TZ := arg6.view.read (Elt F) f6)
    (q := q) (f2 := f2) (f3 := f3) (O := O) (W := W) (harg11 := harg11) (harg16 := harg16) counts_iota hc h11 h7 hOUT f7)
    $$ [H2 H3 H8 H9 H10 H11 H12 H13 H14 H15 H16 Hv Hv3 Hv4 HO Hout]
  · isplitr [Hout]
    · unfold own
      isplitl [H2]; · iexact H2
      isplitl [H3]; · iexact H3
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [Hv]; · iexact Hv
      isplitl [Hv3]; · iexact Hv3
      isplitl [Hv4]; · iexact Hv4
      iexact HO
    isplitl [Hout]; · iexact Hout
    iexact Hmw
  iapply Hall
  iintro ⟨Hown, Hout⟩
  iapply (run_pure d)
  isplitl [H4 H5 H6 Hv0 Hv1 Hv2]
  · isplitl [H4]; · iexact H4
    isplitl [H5]; · iexact H5
    isplitl [H6]; · iexact H6
    isplitl [Hv0]; · iexact Hv0
    isplitl [Hv1]; · iexact Hv1
    iexact Hv2
  isplitl [Hown]
  · iexists _, _, _
    unfold own
    iexact Hown
  iexact Hout

end Round

end Cert.Kernel
-- ==== Proof.RollT.lean ====
module

public import proofs.«01_k».proof.Proof.Asks

@[expose] public section

noncomputable section

namespace Cert.Kernel

open Idealize.ShloMosaic Idealize.SL Idealize.SL.Sem

variable {F : FTy → Type} [FloatOps F] [Facts]

variable {c : Fin τ.nSC} {s : Fin τ.nSub}

theorem lift_congr {E : Type → Type} {α : Type} {β : Type} {e : E β} {k k' : β → Prog E α} (h : ∀ x, k x = k' x) :
    (Prog.lift e >>= k) = (Prog.lift e >>= k') := congrArg _ (funext h)
theorem bnd_congr {E : Type → Type} {α : Type} {β : Type} {p q : Prog E α} (h : p = q) (k : α → Prog E β) :
    p >>= k = q >>= k := by rw [h]
theorem for_congr {E : Type → Type} {st : Type} {L : Scf.Loop 32} {h : L.OK} {a : st} {f g : Fin L.trips → st → Prog E st}
    (hf : ∀ t a, f t a = g t a) : Scf.Loop.for L h a f = Scf.Loop.for L h a g := by
  have : f = g := by funext t a; exact hf t a
  rw [this]

section Walk
variable {p : Proc τ} {sh t : Shape} {e : EltTy} {α β : Type}
theorem heads_bind {P : Prog (TpuEff nD τ sig (Elt F) Λ₀ p) α} {Q : Prog (TpuEff nD τ sig (Elt F) Λ₀ p) β}
    {k : β → Prog (TpuEff nD τ sig (Elt F) Λ₀ p) α} (h : P = Q.bind k) {γ : Type}
    (f : α → Prog (TpuEff nD τ sig (Elt F) Λ₀ p) γ) : P.bind f = Q.bind fun v => (k v).bind f := by
  subst h
  exact Prog.bind_assoc Q k f
theorem heads_bind' {P : Prog (TpuEff nD τ sig (Elt F) Λ₀ p) α} {Q : Prog (TpuEff nD τ sig (Elt F) Λ₀ p) β}
    {k : β → Prog (TpuEff nD τ sig (Elt F) Λ₀ p) α} (h : P = Q.bind k) {γ : Type}
    (f : α → Prog (TpuEff nD τ sig (Elt F) Λ₀ p) γ) : (P >>= f) = Q.bind fun v => (k v).bind f := heads_bind h f
theorem heads_ret {γ : Type} {P : Prog (TpuEff nD τ sig (Elt F) Λ₀ p) α} {a : α}
    {f : α → Prog (TpuEff nD τ sig (Elt F) Λ₀ p) γ}
    {Q : Prog (TpuEff nD τ sig (Elt F) Λ₀ p) β} {k : β → Prog (TpuEff nD τ sig (Elt F) Λ₀ p) γ}
    (hp : P = .ret a) (h : f a = Q.bind k) : P.bind f = Q.bind k := by
  rw [hp]
  exact h
theorem heads_ret' {γ : Type} {P : Prog (TpuEff nD τ sig (Elt F) Λ₀ p) α} {a : α}
    {f : α → Prog (TpuEff nD τ sig (Elt F) Λ₀ p) γ}
    {Q : Prog (TpuEff nD τ sig (Elt F) Λ₀ p) β} {k : β → Prog (TpuEff nD τ sig (Elt F) Λ₀ p) γ}
    (hp : P = .ret a) (h : f a = Q.bind k) : (P >>= f) = Q.bind k := heads_ret hp h
theorem heads_self (Q : Prog (TpuEff nD τ sig (Elt F) Λ₀ p) β) : Q = Q.bind .ret := (Prog.bind_pure Q).symm
theorem heads_op (e : TpuEff nD τ sig (Elt F) Λ₀ p β) (c : β → Prog (TpuEff nD τ sig (Elt F) Λ₀ p) α) :
    Prog.op e c = (Prog.lift e).bind c := rfl
theorem ld_step {base : Memref sig p.kind .vmem sh e} {idxs : Fin sh.rank → IVec t 32}
    {h h' : ∀ a x, (idxs a x).toNat < sh.size a} {hl hl' : base.view.Loads}
    {P Q : Prog (TpuEff nD τ sig (Elt F) Λ₀ p) α} {k k' : Vec F t e → Prog (TpuEff nD τ sig (Elt F) Λ₀ p) α}
    (hP : P = (SparseCore.vectorLoadIdx base idxs h hl).bind k)
    (hQ : Q = (SparseCore.vectorLoadIdx base idxs h' hl').bind k') (H : ∀ v, k v = k' v) : P = Q := by
  rw [hP, hQ, funext H]
theorem eff_step {e e' : TpuEff nD τ sig (Elt F) Λ₀ p β}
    {P Q : Prog (TpuEff nD τ sig (Elt F) Λ₀ p) α} {k k' : β → Prog (TpuEff nD τ sig (Elt F) Λ₀ p) α}
    (hP : P = (Prog.lift e).bind k) (hQ : Q = (Prog.lift e').bind k') (he : e = e') (H : ∀ v, k v = k' v) : P = Q := by
  rw [hP, hQ, he, funext H]
theorem as_step {c c' : Prop} {d : Decidable c} {d' : Decidable c'}
    {P Q : Prog (TpuEff nD τ sig (Elt F) Λ₀ p) α} {k : PLift c → Prog (TpuEff nD τ sig (Elt F) Λ₀ p) α}
    {k' : PLift c' → Prog (TpuEff nD τ sig (Elt F) Λ₀ p) α}
    (hP : P = (Prog.lift (.assume c d)).bind k) (hQ : Q = (Prog.lift (.assume c' d')).bind k') (hc : c = c')
    (H : ∀ h h', k h = k' h') : P = Q := by
  subst hc
  rw [hP, hQ, Subsingleton.elim d d', funext fun h => H h h]
end Walk

set_option maxRecDepth 100000 in
set_option maxHeartbeats 0 in
theorem body_rolled (i : grid0.Coords) (arg2 : Memref sig .scVector .hbm S131072x3 .f32) (harg2 : arg2.IsWhole) (arg3 : Memref sig .scVector .hbm S524288x16 .f32) (harg3 : arg3.IsWhole) (arg4 : Memref sig .scVector .hbm S132 .f32) (harg4 : arg4.IsWhole) (arg5 : Memref sig .scVector .hbm S132 .f32) (harg5 : arg5.IsWhole) (arg6 : Memref sig .scVector .hbm S132 .f32) (harg6 : arg6.IsWhole) (arg7 : Memref sig .scVector .hbm S131072x3 .f32) (harg7 : arg7.IsWhole) (arg8 : Memref sig .scVector .vmem S132 .f32) (harg8 : arg8.IsWhole) (arg9 : Memref sig .scVector .vmem S132 .f32) (harg9 : arg9.IsWhole) (arg10 : Memref sig .scVector .vmem S132 .f32) (harg10 : arg10.IsWhole) (arg11 : Memref sig .scVector .vmem S64x3 .f32) (harg11 : arg11.IsWhole) (arg12 : Memref sig .scVector .vmem S16x128 .i32) (harg12 : arg12.IsWhole) (arg13 : Memref sig .scVector .vmem S16x128x16 .f32) (harg13 : arg13.IsWhole) (arg14 : Memref sig .scVector .vmem S12x64 .f32) (harg14 : arg14.IsWhole) (arg15 : Memref sig .scVector .vmem S64 .i32) (harg15 : arg15.IsWhole) (arg16 : Memref sig .scVector .vmem S64x3 .f32) (harg16 : arg16.IsWhole) (arg17 : DmaSems sig S_) (v5_r0 : DmaSems sig S_) (v5_r1 : DmaSems sig S_) (v5_r2 : DmaSems sig S_) (v5861_r3 : DmaSems sig S_) (v5861_r4 : DmaSems sig S_) :
    cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 v5_r0 v5_r1 v5_r2 v5861_r3 v5861_r4
    = rolled i arg2 arg3 arg4 harg4 arg5 harg5 arg6 harg6 arg7 arg8 harg8 arg9 harg9 arg10 harg10 arg11 harg11 arg12 arg13 arg14 arg15 arg16 harg16 arg17 v5_r0 v5_r1 v5_r2 v5861_r3 v5861_r4 := by
  unfold cc0__body rolled
  iterate 6 refine lift_congr fun _ => ?_
  refine bnd_congr (for_congr fun t a => ?_) _
  iterate 2
    apply eff_step
    case hP => (repeat first | with_reducible exact heads_self _ | ((with_reducible apply heads_ret); exact rfl) | ((with_reducible apply heads_ret'); exact rfl) | with_reducible apply heads_bind | with_reducible apply heads_bind' | apply heads_bind | exact heads_self _ | exact heads_op _ _)
    case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
    case he => rfl
    intro _
  iterate 4
    iterate 27
      apply as_step
      case hP => (repeat first | with_reducible exact heads_self _ | ((with_reducible apply heads_ret); exact rfl) | ((with_reducible apply heads_ret'); exact rfl) | with_reducible apply heads_bind | with_reducible apply heads_bind' | apply heads_bind | exact heads_self _ | exact heads_op _ _)
      case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
      case hc => rfl
      intro h h1
      apply ld_step
      case hP => (repeat first | with_reducible exact heads_self _ | ((with_reducible apply heads_ret); exact rfl) | ((with_reducible apply heads_ret'); exact rfl) | with_reducible apply heads_bind | with_reducible apply heads_bind' | apply heads_bind | exact heads_self _ | exact heads_op _ _)
      case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
      intro v
      try clear h h1
    iterate 13
      apply eff_step
      case hP => (repeat first | with_reducible exact heads_self _ | ((with_reducible apply heads_ret); exact rfl) | ((with_reducible apply heads_ret'); exact rfl) | with_reducible apply heads_bind | with_reducible apply heads_bind' | apply heads_bind | exact heads_self _ | exact heads_op _ _)
      case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
      case he => rfl
      intro h
      apply eff_step
      case hP => (repeat first | with_reducible exact heads_self _ | ((with_reducible apply heads_ret); exact rfl) | ((with_reducible apply heads_ret'); exact rfl) | with_reducible apply heads_bind | with_reducible apply heads_bind' | apply heads_bind | exact heads_self _ | exact heads_op _ _)
      case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
      case he => rfl
      intro h1
      try clear h h1
    iterate 32
      apply as_step
      case hP => (repeat first | with_reducible exact heads_self _ | ((with_reducible apply heads_ret); exact rfl) | ((with_reducible apply heads_ret'); exact rfl) | with_reducible apply heads_bind | with_reducible apply heads_bind' | apply heads_bind | exact heads_self _ | exact heads_op _ _)
      case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
      case hc => rfl
      intro h h1
      apply eff_step
      case hP => (repeat first | with_reducible exact heads_self _ | ((with_reducible apply heads_ret); exact rfl) | ((with_reducible apply heads_ret'); exact rfl) | with_reducible apply heads_bind | with_reducible apply heads_bind' | apply heads_bind | exact heads_self _ | exact heads_op _ _)
      case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
      case he => rfl
      intro f
      apply eff_step
      case hP => (repeat first | with_reducible exact heads_self _ | ((with_reducible apply heads_ret); exact rfl) | ((with_reducible apply heads_ret'); exact rfl) | with_reducible apply heads_bind | with_reducible apply heads_bind' | apply heads_bind | exact heads_self _ | exact heads_op _ _)
      case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
      case he => rfl
      intro u
      try clear u f h h1
  iterate 32
    apply eff_step
    case hP => (repeat first | with_reducible exact heads_self _ | ((with_reducible apply heads_ret); exact rfl) | ((with_reducible apply heads_ret'); exact rfl) | with_reducible apply heads_bind | with_reducible apply heads_bind' | apply heads_bind | exact heads_self _ | exact heads_op _ _)
    case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
    case he => rfl
    intro h
  iterate 4
    iterate 13
      apply eff_step
      case hP => (repeat first | with_reducible exact heads_self _ | ((with_reducible apply heads_ret); exact rfl) | ((with_reducible apply heads_ret'); exact rfl) | with_reducible apply heads_bind | with_reducible apply heads_bind' | apply heads_bind | exact heads_self _ | exact heads_op _ _)
      case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
      case he => rfl
      intro v
    iterate 192
      apply as_step
      case hP => (repeat first | with_reducible exact heads_self _ | ((with_reducible apply heads_ret); exact rfl) | ((with_reducible apply heads_ret'); exact rfl) | with_reducible apply heads_bind | with_reducible apply heads_bind' | apply heads_bind | exact heads_self _ | exact heads_op _ _)
      case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
      case hc => rfl
      intro h h1
      apply ld_step
      case hP => (repeat first | with_reducible exact heads_self _ | ((with_reducible apply heads_ret); exact rfl) | ((with_reducible apply heads_ret'); exact rfl) | with_reducible apply heads_bind | with_reducible apply heads_bind' | apply heads_bind | exact heads_self _ | exact heads_op _ _)
      case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
      intro v
      try clear h h1
    iterate 3
      apply as_step
      case hP => (repeat first | with_reducible exact heads_self _ | ((with_reducible apply heads_ret); exact rfl) | ((with_reducible apply heads_ret'); exact rfl) | with_reducible apply heads_bind | with_reducible apply heads_bind' | apply heads_bind | exact heads_self _ | exact heads_op _ _)
      case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
      case hc => rfl
      intro h h1
      apply eff_step
      case hP => (repeat first | with_reducible exact heads_self _ | ((with_reducible apply heads_ret); exact rfl) | ((with_reducible apply heads_ret'); exact rfl) | with_reducible apply heads_bind | with_reducible apply heads_bind' | apply heads_bind | exact heads_self _ | exact heads_op _ _)
      case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
      case he => rfl
      intro f
      apply eff_step
      case hP => (repeat first | with_reducible exact heads_self _ | ((with_reducible apply heads_ret); exact rfl) | ((with_reducible apply heads_ret'); exact rfl) | with_reducible apply heads_bind | with_reducible apply heads_bind' | apply heads_bind | exact heads_self _ | exact heads_op _ _)
      case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
      case he => rfl
      intro u
      try clear u h h1
  iterate 2
    apply eff_step
    case hP => (repeat first | with_reducible exact heads_self _ | ((with_reducible apply heads_ret); exact rfl) | ((with_reducible apply heads_ret'); exact rfl) | with_reducible apply heads_bind | with_reducible apply heads_bind' | apply heads_bind | exact heads_self _ | exact heads_op _ _)
    case hQ => (repeat first | with_reducible exact heads_self _ | ((with_reducible apply heads_ret); exact rfl) | ((with_reducible apply heads_ret'); exact rfl) | with_reducible apply heads_bind | with_reducible apply heads_bind' | apply heads_bind | exact heads_self _ | exact heads_op _ _)
    case he => rfl
    intro h
  rfl

end Cert.Kernel
-- ==== Proof.Task.lean ====
module

public import proofs.«01_k».proof.Proof.Round
public import proofs.«01_k».proof.Proof.RollT
public import proofs.«01_k».proof.Proof.Gen.Kernel
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

/-!
A subcore's task: what the launch hands it, what it leaves.
-/

noncomputable section

namespace Cert.Kernel

open Idealize.ShloMosaic Idealize.SL
open Idealize.ShloMosaic.SparseCore (S V T)
open Idealize.ShloMosaic.SparseCore.Cfg (HIx Pay ownBufs ownSems0 ownCells ownRefs mem_ownCells mem_ownRefs)
open Idealize.SL.BI (sProp Storable bigSep)
open scoped Idealize.SL.BI
open Idealize.SL.BI.BIBase Idealize.SL.BI.Laws Idealize.SL.Sem Idealize.SL.ProofMode
open Idealize.SL.RA Idealize.ShloMosaic.Transfers Idealize.ShloMosaic.Rounds Cert.Streams

variable {F : FTy → Type} [FloatOps F] [Facts]

/-! ## The program and its launch -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem launch_facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev EH : Emb UH (MM F) := embL

local notation "qV" => (Memref.whole Cert.Kernel.main_arg0_scv : Memref Cert.Kernel.sig Kind.scVector Space.hbm Cert.Kernel.S131072x3 EltTy.f32)
local notation "gV" => (Memref.whole Cert.Kernel.main_v1_scv : Memref Cert.Kernel.sig Kind.scVector Space.hbm Cert.Kernel.S524288x16 EltTy.f32)
local notation "xV" => (Memref.whole Cert.Kernel.main_arg2_scv : Memref Cert.Kernel.sig Kind.scVector Space.hbm Cert.Kernel.S132 EltTy.f32)
local notation "yV" => (Memref.whole Cert.Kernel.main_arg3_scv : Memref Cert.Kernel.sig Kind.scVector Space.hbm Cert.Kernel.S132 EltTy.f32)
local notation "zV" => (Memref.whole Cert.Kernel.main_arg4_scv : Memref Cert.Kernel.sig Kind.scVector Space.hbm Cert.Kernel.S132 EltTy.f32)
local notation "oV" => (Memref.whole Cert.Kernel.main_v2_scv : Memref Cert.Kernel.sig Kind.scVector Space.hbm Cert.Kernel.S131072x3 EltTy.f32)

/-! ## The result -/

/-- The results for all the queries, from the queries, the groups and the knots. -/
def allOut (f0 : S131072x3.Idx → F .f32) (C : S524288x16.Idx → F .f32) (TX TY TZ : S132.Idx → F .f32) : S131072x3.Idx → F .f32 := fun x =>
  outOf TX TY TZ C (f0 (ix2 131072 3 (x 0).val 0)) (f0 (ix2 131072 3 (x 0).val 1)) (f0 (ix2 131072 3 (x 0).val 2)) (x 1).val

theorem bound_zero : grid0.bound 0 = 2 := rfl
theorem bound_one : grid0.bound 1 = 16 := rfl

theorem t_lt (t : Fin k0_t1_loop.trips) : t.val < 64 := lt_of_lt_of_le t.isLt Gen.k0_t1_abs.2.1

/-- Where the block of a round begins. -/
theorem blk_base (i : grid0.Coords) (t : Fin k0_t1_loop.trips) (k : ℕ) (hk : k < 64) :
    8192 * (i 1).val + 4096 * (i 0).val + 64 * t.val + k < 131072 := by
  have h0 : (i 0).val < 2 := (i 0).isLt
  have h1 : (i 1).val < 16 := (i 1).isLt
  have ht := t_lt t
  omega

theorem qBlk_read (i : grid0.Coords) (f : S131072x3.Idx → F .f32) (t : Fin k0_t1_loop.trips) (k e : ℕ) (hk : k < 64) (he : e < 3) :
    (qBlk i qV t).view.read (Elt F) f (ix2 64 3 k e)
      = f (ix2 131072 3 (8192 * (i 1).val + 4096 * (i 0).val + 64 * t.val + k) e) := by
  refine ((View.read_apply _ _).trans (cast_eq _ _)).trans (congrArg f (funext fun a => Fin.ext ?_))
  have hb := blk_base i t k hk
  have h0 := congrFun (Gen.k0_off1_eq i t) 0
  have h1 := congrFun (Gen.k0_off1_eq i t) 1
  match a with
  | 0 =>
    show k0_off1 i t 0 + 1 * (k % 64) = _ % 131072
    rw [h0, Nat.mod_eq_of_lt hk, Nat.mod_eq_of_lt hb]
    show 8192 * (i 1).val + 4096 * (i 0).val + 64 * t.val + 1 * k = _
    omega
  | 1 =>
    show k0_off1 i t 1 + 1 * (e % 3) = e % 3
    rw [h1]
    show 0 + 1 * (e % 3) = e % 3
    omega

theorem oBlk_emb (i : grid0.Coords) (t : Fin k0_t1_loop.trips) (k e : ℕ) (hk : k < 64) :
    (oBlk i oV t).view.emb (ix2 64 3 k e)
      = (ix2 131072 3 (8192 * (i 1).val + 4096 * (i 0).val + 64 * t.val + k) e : S131072x3.Idx) := by
  refine funext fun a => Fin.ext ?_
  have hb := blk_base i t k hk
  have h0 := congrFun (Gen.k0_off2_eq i t) 0
  have h1 := congrFun (Gen.k0_off2_eq i t) 1
  match a with
  | 0 =>
    show k0_off2 i t 0 + 1 * (k % 64) = _ % 131072
    rw [h0, Nat.mod_eq_of_lt hk, Nat.mod_eq_of_lt hb]
    show 8192 * (i 1).val + 4096 * (i 0).val + 64 * t.val + 1 * k = _
    omega
  | 1 =>
    show k0_off2 i t 1 + 1 * (e % 3) = e % 3
    rw [h1]
    show 0 + 1 * (e % 3) = e % 3
    omega

/-- A round's block of the results is the results of its block of queries. -/
theorem right_all (i : grid0.Coords) (f0 : S131072x3.Idx → F .f32) (C : S524288x16.Idx → F .f32) (TX TY TZ : S132.Idx → F .f32)
    (t : Fin k0_t1_loop.trips) : Right i qV oV TX TY TZ C f0 (allOut f0 C TX TY TZ) t := by
  intro k hk e he
  have hb := blk_base i t k hk
  rw [qBlk_read i f0 t k 0 hk (by omega), qBlk_read i f0 t k 1 hk (by omega), qBlk_read i f0 t k 2 hk (by omega)]
  refine ((View.read_apply _ _).trans (cast_eq _ _)).trans ?_
  rw [oBlk_emb i t k e hk]
  unfold allOut
  have e0 : ((ix2 131072 3 (8192 * (i 1).val + 4096 * (i 0).val + 64 * t.val + k) e : S131072x3.Idx) 0).val
      = 8192 * (i 1).val + 4096 * (i 0).val + 64 * t.val + k := Nat.mod_eq_of_lt hb
  have e1 : ((ix2 131072 3 (8192 * (i 1).val + 4096 * (i 0).val + 64 * t.val + k) e : S131072x3.Idx) 1).val = e := Nat.mod_eq_of_lt he
  rw [e0, e1]

/-! ## What a subcore owns -/

section Own

variable (d : Dev nD) (c : Fin τ.nSC) (s : Fin τ.nSub)

/-- A whole scratch array at any contents. -/
theorem own_in (r : Ref sig .scVector) :
    iprop(∃ f, (V d c s).loc r ↦{fullShare} f) ⊢ (iprop(∃ A, at' d c s (Memref.whole r) A) : sProp (MM F)) := by
  iintro ⟨%f, H⟩
  iexists _
  have hs : (Memref.whole r : Memref sig .scVector _ _ _).view.set = Finset.univ := View.set_whole _
  iapply (holds_intro (V d c s) (m := Memref.whole r) f)
  rw [hs]
  iexact H

theorem own_out (r : Ref sig .scVector) (A : r.ty.shape.Idx → Elt F r.ty.elt) :
    (at' d c s (Memref.whole r) A : sProp (MM F)) ⊢ iprop(∃ f, (V d c s).loc r ↦{fullShare} f) := by
  have hs : (Memref.whole r : Memref sig .scVector _ _ _).view.set = Finset.univ := View.set_whole _
  unfold at' holds
  rw [hs]
  iintro ⟨%f, H, -⟩
  iexists f
  iexact H

/-- The scratch arrays. -/
def scratch : Finset (Ref sig .scVector) :=
  {cc0_scratch0, cc0_scratch1, cc0_scratch2, cc0_scratch3, cc0_scratch4, cc0_scratch5, cc0_scratch6, cc0_scratch7, cc0_scratch8}

abbrev devOf : Ref sig .scVector ↪ DevRef τ sig := ⟨(Proc.scVector c s).devRef, Proc.devRef_injective _⟩

abbrev some' (r : Ref sig .scVector) : sProp (MM F) := iprop(∃ f, (V d c s).loc r ↦{fullShare} f)

theorem ownBufs_split :
    (ownBufs (V d c s) : sProp (MM F))
      = iprop((some' d c s cc0_scratch0 ∗ some' d c s cc0_scratch1 ∗ some' d c s cc0_scratch2 ∗ some' d c s cc0_scratch3
          ∗ some' d c s cc0_scratch4 ∗ some' d c s cc0_scratch5 ∗ some' d c s cc0_scratch6 ∗ some' d c s cc0_scratch7 ∗ some' d c s cc0_scratch8)
          ∗ bigSep (ownRefs (τ := τ) (.scVector c s) \ scratch.map (devOf c s)) fun b => iprop(∃ f, ((d, b) : Loc nD τ sig) ↦{fullShare} f)) := by
  have hsub : scratch.map (devOf c s) ⊆ ownRefs (τ := τ) (sig := sig) (.scVector c s) := by
    intro b hb
    obtain ⟨r, hr, rfl⟩ := Finset.mem_map.mp hb
    refine SparseCore.Cfg.mem_ownRefs_of_owner ?_
    have : ∀ r ∈ scratch, ((Proc.scVector c s : Proc τ).devRef r).owner = .proc (.scVector c s) := by
      intro r hr
      simp only [scratch, Finset.mem_insert, Finset.mem_singleton] at hr
      rcases hr with rfl | rfl | rfl | rfl | rfl | rfl | rfl | rfl | rfl <;> rfl
    exact this r hr
  unfold SparseCore.Cfg.ownBufs
  refine (BI.bigSep_sdiff_split hsub).trans ?_
  rw [BI.bigSep_map]
  unfold scratch
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), BI.bigSep_singleton]
  rfl

abbrev cellOf : DmaSem sig ↪ GSem nD τ sig := ⟨fun k => (V d c s, .dma k), fun a b h => by cases h; rfl⟩

abbrev zero' (k : DmaSem sig) : sProp (MM F) := semVal (V d c s, .dma k) 0

theorem ownSems_split :
    (ownSems0 (V d c s) : sProp (MM F))
      = iprop((zero' d c s cc0_scratch9.sem ∗ zero' d c s cc0_scoped0.sem ∗ zero' d c s cc0_scoped1.sem ∗ zero' d c s cc0_scoped2.sem
          ∗ zero' d c s cc0_scoped3.sem ∗ zero' d c s cc0_scoped4.sem)
          ∗ bigSep (ownCells (V d c s) \ (Finset.univ : Finset (DmaSem sig)).map (cellOf d c s)) fun g => semVal g 0) := by
  have hsub : (Finset.univ : Finset (DmaSem sig)).map (cellOf d c s) ⊆ ownCells (V d c s) := by
    intro g hg
    obtain ⟨k, -, rfl⟩ := Finset.mem_map.mp hg
    exact mem_ownCells.mpr ⟨rfl, (by decide : ∀ k : DmaSem sig, (SemLoc.dma k : SemLoc sig).isScoped .scVector = true) k⟩
  unfold SparseCore.Cfg.ownSems0
  refine (BI.bigSep_sdiff_split hsub).trans ?_
  rw [BI.bigSep_map, show (Finset.univ : Finset (DmaSem sig))
      = {cc0_scratch9.sem, cc0_scoped0.sem, cc0_scoped1.sem, cc0_scoped2.sem, cc0_scoped3.sem, cc0_scoped4.sem} by decide]
  rw [SparseCore.bigSep_insert' (by decide), SparseCore.bigSep_insert' (by decide), SparseCore.bigSep_insert' (by decide),
    SparseCore.bigSep_insert' (by decide), SparseCore.bigSep_insert' (by decide), BI.bigSep_singleton]
  rfl

end Own

/-! ## The task -/

section Task

variable (d : Dev nD) (i : grid0.Coords)

/-- What a task is handed and hands back: its shares of the queries, the groups and the knots, and its blocks of the results. -/
abbrev task (q : PosShare TreeShare) (f0 f7 : S131072x3.Idx → F .f32) (C : S524288x16.Idx → F .f32) (TX TY TZ : S132.Idx → F .f32) : sProp (MM F) :=
  iprop(((SparseCore.T d).loc main_arg0 ↦{q} f0) ∗ ((SparseCore.T d).loc main_v1 ↦{q} C) ∗ ((SparseCore.T d).loc main_arg2 ↦{q} TX) ∗ ((SparseCore.T d).loc main_arg3 ↦{q} TY)
    ∗ ((SparseCore.T d).loc main_arg4 ↦{q} TZ) ∗ outs d i oV (fun _ => f7))

theorem whole_set (r : Ref sig .scVector) : (Memref.whole r : Memref sig .scVector _ _ _).view.set = Finset.univ := View.set_whole _

theorem credit5 : Credit (Memref.whole cc0_scratch5) ((gRow (Memref.whole cc0_scratch5) 0).slice (S128x16.rowRect 0 ⟨0, by decide⟩) (S128x16.stride_rowRect 0 ⟨0, by decide⟩)).view.dmaCredit where
  pos := View.dmaCredit_pos _ (by decide)
  row m i := rfl
  all m := rfl

/-- A share of a whole array, by its view or by its place. -/
theorem whole_pts (c : Fin τ.nSC) (s : Fin τ.nSub) (r : Ref sig .scVector) (q : PosShare TreeShare) (f : r.ty.Contents (Elt F)) :
    ((Memref.whole r : Memref sig .scVector _ _ _).view.loc (V d c s) ↦[(Memref.whole r : Memref sig .scVector _ _ _).view.set]{q} f : sProp (MM F))
      = (V d c s).loc r ↦{q} f :=
  congrArg (fun S => ((V d c s).loc r ↦[S]{q} f : sProp (MM F))) (whole_set r)

theorem tile_body (hF : (K (F := F)).Facts) (O : CellTallies nD τ sig (HIx 1)) (W : Waits sig (HIx 1)) (hO : ∀ g, O g none = 0)
    (q : PosShare TreeShare) (f0 f7 : S131072x3.Idx → F .f32) (C : S524288x16.Idx → F .f32) (TX TY TZ : S132.Idx → F .f32) :
    iprop(levAts (K (F := F)).L (K (F := F)).lev ∗ emp ∗ task d i q f0 f7 C TX TY TZ
        ∗ scopedBufs (V d (cI i) (sI i)) ∗ scopedSems0 (V d (cI i) (sI i)) ∗ owes (V d (cI i) (sI i)) O W)
      ⊢ wp frame (wpE (defs₀ (F := F)) 𝒱₀ (V d (cI i) (sI i)) none) Set.univ
          (cc0__body i qV (Memref.isWhole_whole _) gV (Memref.isWhole_whole _) xV (Memref.isWhole_whole _) yV (Memref.isWhole_whole _)
            zV (Memref.isWhole_whole _) oV (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            (Memref.whole cc0_scratch5) (Memref.isWhole_whole _) (Memref.whole cc0_scratch6) (Memref.isWhole_whole _)
            (Memref.whole cc0_scratch7) (Memref.isWhole_whole _) (Memref.whole cc0_scratch8) (Memref.isWhole_whole _)
            cc0_scratch9 cc0_scoped0 cc0_scoped1 cc0_scoped2 cc0_scoped3 cc0_scoped4)
          fun _ => iprop(task d i q f0 (allOut f0 C TX TY TZ) C TX TY TZ
            ∗ scopedBufs (V d (cI i) (sI i)) ∗ scopedSems0 (V d (cI i) (sI i))
            ∗ ∃ W', ⌜∀ p ∈ W', p ∈ W ∨ p.2 = none⌝ ∗ owes (V d (cI i) (sI i)) O W') := by
  rw [body_rolled, (K (F := F)).scopedBufs_V hF d (cI i) (sI i), SparseCore.Cfg.scopedSems0_V (Val := Elt F) d (cI i) (sI i), ownSems_split, ownBufs_split]
  iintro ⟨#Hlv, -, ⟨Hq, Hg, Hx, Hy, Hz, Ho⟩, ⟨⟨H0, H1, H2, H3, H4, H5, H6, H7, H8⟩, Hbufs⟩, ⟨⟨Hv, Hv0, Hv1, Hv2, Hv3, Hv4⟩, Hsems⟩, HO⟩
  ihave Hmw := (show levAts (K (F := F)).L (K (F := F)).lev ⊢ Transfers.MayWaits (V d (cI i) (sI i)) (none : HIx 1) O from
    (K (F := F)).mayWaits_none (thr := V d (cI i) (sI i)) hO) $$ Hlv
  ihave ⟨%A0, H0⟩ := (own_in d (cI i) (sI i) cc0_scratch0) $$ H0
  ihave ⟨%A1, H1⟩ := (own_in d (cI i) (sI i) cc0_scratch1) $$ H1
  ihave ⟨%A2, H2⟩ := (own_in d (cI i) (sI i) cc0_scratch2) $$ H2
  ihave Hq := (Entails.of_eq (whole_pts d (cI i) (sI i) main_arg0_scv q f0).symm) $$ Hq
  ihave Hg := (Entails.of_eq (whole_pts d (cI i) (sI i) main_v1_scv q C).symm) $$ Hg
  ihave Hx := (Entails.of_eq (whole_pts d (cI i) (sI i) main_arg2_scv q TX).symm) $$ Hx
  ihave Hy := (Entails.of_eq (whole_pts d (cI i) (sI i) main_arg3_scv q TY).symm) $$ Hy
  ihave Hz := (Entails.of_eq (whole_pts d (cI i) (sI i) main_arg4_scv q TZ).symm) $$ Hz
  have h := run_rolled (F := F) (d := d) (i := i) (arg2 := qV) (arg3 := gV) (arg4 := xV) (arg5 := yV) (arg6 := zV) (arg7 := oV)
    (arg8 := Memref.whole cc0_scratch0) (arg9 := Memref.whole cc0_scratch1) (arg10 := Memref.whole cc0_scratch2)
    (arg11 := Memref.whole cc0_scratch3) (arg12 := Memref.whole cc0_scratch4) (arg13 := Memref.whole cc0_scratch5)
    (arg14 := Memref.whole cc0_scratch6) (arg15 := Memref.whole cc0_scratch7) (arg16 := Memref.whole cc0_scratch8)
    (arg17 := cc0_scratch9) (r0 := cc0_scoped0) (r1 := cc0_scoped1) (r2 := cc0_scoped2) (r3 := cc0_scoped3) (r4 := cc0_scoped4)
    (q := q) (f2 := f0) (f3 := C) (f4 := TX) (f5 := TY) (f6 := TZ) (OUT := allOut f0 C TX TY TZ) (O := O) (W := W)
    (harg4 := Memref.isWhole_whole _) (harg5 := Memref.isWhole_whole _) (harg6 := Memref.isWhole_whole _)
    (harg8 := Memref.isWhole_whole _) (harg9 := Memref.isWhole_whole _) (harg10 := Memref.isWhole_whole _)
    (harg11 := Memref.isWhole_whole _) (harg16 := Memref.isWhole_whole _)
    credit5 (View.dmaCredit_pos _ (by decide)) (View.dmaCredit_pos _ (by decide)) (View.dmaCredit_pos _ (by decide)) (View.dmaCredit_pos _ (by decide))
    (fun t => View.dmaCredit_pos _ (by decide))
    (fun t => right_all i f0 C TX TY TZ t) f7
  iapply (wp_wand frame _ _ (Q := fun _ => iprop(knots d i xV yV zV cc0_scoped0 cc0_scoped1 cc0_scoped2 q TX TY TZ
    ∗ (∃ T1 T2 T3, own d i qV gV (Memref.whole cc0_scratch0) (Memref.whole cc0_scratch1) (Memref.whole cc0_scratch2)
        (Memref.whole cc0_scratch3) (Memref.whole cc0_scratch4) (Memref.whole cc0_scratch5) (Memref.whole cc0_scratch6)
        (Memref.whole cc0_scratch7) (Memref.whole cc0_scratch8) cc0_scratch9 cc0_scoped3 cc0_scoped4 T1 T2 T3 q f0 C O W)
    ∗ outs d i oV (fun _ => allOut f0 C TX TY TZ)))) $$ [Hq Hg Hx Hy Hz Ho H0 H1 H2 H3 H4 H5 H6 H7 H8 Hv Hv0 Hv1 Hv2 Hv3 Hv4 HO]
  · iapply h
    unfold knots own keeps
    isplitl [Hx Hy Hz Hv0 Hv1 Hv2]
    · isplitl [Hx]; · iexact Hx
      isplitl [Hy]; · iexact Hy
      isplitl [Hz]; · iexact Hz
      isplitl [Hv0]; · iexact Hv0
      isplitl [Hv1]; · iexact Hv1
      iexact Hv2
    isplitr [Ho]
    · iexists A0, A1, A2
      isplitl [Hq]; · iexact Hq
      isplitl [Hg]; · iexact Hg
      isplitl [H0]; · iexact H0
      isplitl [H1]; · iexact H1
      isplitl [H2]; · iexact H2
      isplitl [H3]; · iapply (own_in d (cI i) (sI i) cc0_scratch3) $$ H3
      isplitl [H4]; · iapply (own_in d (cI i) (sI i) cc0_scratch4) $$ H4
      isplitl [H5]; · iapply (own_in d (cI i) (sI i) cc0_scratch5) $$ H5
      isplitl [H6]; · iapply (own_in d (cI i) (sI i) cc0_scratch6) $$ H6
      isplitl [H7]; · iapply (own_in d (cI i) (sI i) cc0_scratch7) $$ H7
      isplitl [H8]; · iapply (own_in d (cI i) (sI i) cc0_scratch8) $$ H8
      isplitl [Hv]; · iexact Hv
      isplitl [Hv3]; · iexact Hv3
      isplitl [Hv4]; · iexact Hv4
      iexists W
      isplitr
      · ipureintro; exact fun p hp => .inl hp
      · iexact HO
    isplitl [Ho]; · iexact Ho
    iexact Hmw
  iintro %_ ⟨Hk, ⟨%T1, %T2, %T3, Hown⟩, Ho⟩
  unfold knots own keeps
  icases Hk with ⟨Hx, Hy, Hz, Hv0, Hv1, Hv2⟩
  icases Hown with ⟨Hq, Hg, H0, H1, H2, ⟨%A3, H3⟩, ⟨%A4, H4⟩, ⟨%A5, H5⟩, ⟨%A6, H6⟩, ⟨%A7, H7⟩, ⟨%A8, H8⟩, Hv, Hv3, Hv4, HO⟩
  ihave Hq := (Entails.of_eq (whole_pts d (cI i) (sI i) main_arg0_scv q f0)) $$ Hq
  ihave Hg := (Entails.of_eq (whole_pts d (cI i) (sI i) main_v1_scv q C)) $$ Hg
  ihave Hx := (Entails.of_eq (whole_pts d (cI i) (sI i) main_arg2_scv q TX)) $$ Hx
  ihave Hy := (Entails.of_eq (whole_pts d (cI i) (sI i) main_arg3_scv q TY)) $$ Hy
  ihave Hz := (Entails.of_eq (whole_pts d (cI i) (sI i) main_arg4_scv q TZ)) $$ Hz
  isplitl [Hq Hg Hx Hy Hz Ho]
  · isplitl [Hq]; · iexact Hq
    isplitl [Hg]; · iexact Hg
    isplitl [Hx]; · iexact Hx
    isplitl [Hy]; · iexact Hy
    isplitl [Hz]; · iexact Hz
    iexact Ho
  isplitl [H0 H1 H2 H3 H4 H5 H6 H7 H8 Hbufs]
  · isplitr [Hbufs]
    · isplitl [H0]; · iapply (own_out d (cI i) (sI i) cc0_scratch0 T1) $$ H0
      isplitl [H1]; · iapply (own_out d (cI i) (sI i) cc0_scratch1 T2) $$ H1
      isplitl [H2]; · iapply (own_out d (cI i) (sI i) cc0_scratch2 T3) $$ H2
      isplitl [H3]; · iapply (own_out d (cI i) (sI i) cc0_scratch3 A3) $$ H3
      isplitl [H4]; · iapply (own_out d (cI i) (sI i) cc0_scratch4 A4) $$ H4
      isplitl [H5]; · iapply (own_out d (cI i) (sI i) cc0_scratch5 A5) $$ H5
      isplitl [H6]; · iapply (own_out d (cI i) (sI i) cc0_scratch6 A6) $$ H6
      isplitl [H7]; · iapply (own_out d (cI i) (sI i) cc0_scratch7 A7) $$ H7
      iapply (own_out d (cI i) (sI i) cc0_scratch8 A8) $$ H8
    iexact Hbufs
  isplitl [Hv Hv0 Hv1 Hv2 Hv3 Hv4 Hsems]
  · isplitr [Hsems]
    · isplitl [Hv]; · iexact Hv
      isplitl [Hv0]; · iexact Hv0
      isplitl [Hv1]; · iexact Hv1
      isplitl [Hv2]; · iexact Hv2
      isplitl [Hv3]; · iexact Hv3
      iexact Hv4
    iexact Hsems
  iexact HO

end Task

end Cert.Kernel

end
-- ==== Proof.Launch.lean ====
module

public import proofs.«01_k».proof.Proof.Task

@[expose] public section

/-!
The launch: the arrays dealt out to the subcores, the program run, its results gathered.
-/

noncomputable section

namespace Cert.Kernel

open Idealize.ShloMosaic Idealize.SL
open Idealize.ShloMosaic.SparseCore (S V)
open Idealize.ShloMosaic.SparseCore.Cfg (HIx Pay)
open Idealize.SL.BI (sProp Storable bigSep)
open scoped Idealize.SL.BI
open Idealize.SL.BI.BIBase Idealize.SL.BI.Laws Idealize.SL.Sem Idealize.SL.ProofMode
open Idealize.SL.RA Idealize.ShloMosaic.Transfers Idealize.ShloMosaic.Rounds Cert.Streams
open Idealize.ShloMosaic.StableHlo (seq held tcRefs launchContents)

variable {F : FTy → Type} [FloatOps F] [Facts]

local notation "oV" => (Memref.whole Cert.Kernel.main_v2_scv : Memref Cert.Kernel.sig Kind.scVector Space.hbm Cert.Kernel.S131072x3 EltTy.f32)

variable (m : (ℓ : Loc nD τ sig) → Buf (Elt F) ℓ) (ρ : Dev nD → PrngReg)

/-! ## The host's operations -/

/-- The operations before the launch. -/
def hops : List (HloOp τ sig (Elt F)) :=
  [StableHlo.reshape main_arg1 main_v0 (rfl : (.f32 : EltTy) = .f32) Facts₀.shapeCasts_S2097152x3_S524288x12,
    StableHlo.nullary main_c (constantI S_ 32 0#32),
    StableHlo.TRef.unary (.of main_c : StableHlo.TRef sig ⟨S_, .i32⟩) (.of main_call0_v0 : StableHlo.TRef sig ⟨S_, .f32⟩) (sitofp .f32),
    StableHlo.TRef.binary (.of main_v0 : StableHlo.TRef sig ⟨S524288x12, .f32⟩) (.of main_call0_v0 : StableHlo.TRef sig ⟨S_, .f32⟩)
      (.of main_v1 : StableHlo.TRef sig ⟨S524288x16, .f32⟩)
      (fun x v => pad S524288x16 ![0, 0] ![0, 4] ![0, 0] x v Facts₀.pads_S524288x12_S524288x16_000_040 Facts₀.h_S_)]

theorem main_eq (d : Dev nD) : main (F := F) d = (seq hops >>= fun _ => ((K (F := F)).run d 0 >>= fun _ => pure ⟨⟩)) := rfl

/-- The groups of control points, as the launch finds them. -/
def groups (d : Dev nD) : S524288x16.Idx → F .f32 := StableHlo.after hops (launchContents m d) (Proc.devRef .tc main_v1)

theorem after_same (d : Dev nD) (r : Ref sig .tc) (h : r ∉ [main_v0, main_c, main_call0_v0, main_v1]) :
    StableHlo.after hops (launchContents m d) (Proc.devRef .tc r) = m ((SparseCore.T d).loc r) :=
  StableHlo.after_of_writes_sub (W := [main_v0, main_c, main_call0_v0, main_v1]) hops _ (by simp [hops, List.Forall]) h

/-! ## Blocks and shares -/

/-- The grid's point of a core and a subcore. -/
def crd (c : Fin 2) (i : Fin 16) : grid0.Coords := fun | 0 => c | 1 => i | ⟨_ + 2, h⟩ => absurd h (Nat.not_lt.2 (Nat.le_add_left _ _))

/-- A subcore's share of what all read. -/
def shr (c : Fin 2) (i : Fin 16) : PosShare TreeShare := pieceOf (pieceOf fullShare 2 (by omega) c) 16 (by omega) i

theorem pts_shares {ℓ : Loc nD τ sig} (f : Buf (Elt F) ℓ) :
    (ℓ ↦{fullShare} f : sProp (MM F)) = bigSep Finset.univ fun c : Fin 2 => bigSep Finset.univ fun i : Fin 16 => ℓ ↦{shr c i} f := by
  rw [pointsTo_piecesOf _ f (show 0 < 2 by omega) fullShare]
  exact BI.bigSep_congr fun c _ => pointsTo_piecesOf _ f (show 0 < 16 by omega) _

abbrev OIx : Type := Fin 2 × Fin 16 × Fin k0_t1_loop.trips

/-- The block of results of a core, a subcore and a round. -/
def oSet (p : OIx) : Finset S131072x3.Idx := (oBlk (crd p.1 p.2.1) oV p.2.2).view.set

theorem mem_oSet (p : OIx) (x : S131072x3.Idx) : x ∈ oSet p ↔ (x 0).val / 64 = 128 * p.2.1.val + 64 * p.1.val + p.2.2.val := by
  have ht := t_lt p.2.2
  have hb : ∀ k < 64, 8192 * p.2.1.val + 4096 * p.1.val + 64 * p.2.2.val + k < 131072 := blk_base (crd p.1 p.2.1) p.2.2
  constructor
  · intro hx
    obtain ⟨j, -, rfl⟩ := Finset.mem_map.mp hx
    have hj : j = ix2 64 3 (j 0).val (j 1).val := by
      funext a
      match a with
      | 0 => exact Fin.ext (Nat.mod_eq_of_lt (j 0).isLt).symm
      | 1 => exact Fin.ext (Nat.mod_eq_of_lt (j 1).isLt).symm
    have hk : (j 0).val < 64 := (j 0).isLt
    rw [hj, oBlk_emb _ _ _ _ hk]
    show (8192 * p.2.1.val + 4096 * p.1.val + 64 * p.2.2.val + (j 0).val) % 131072 / 64 = _
    rw [Nat.mod_eq_of_lt (hb _ hk)]
    omega
  · intro h
    refine Finset.mem_map.mpr ⟨ix2 64 3 ((x 0).val % 64) (x 1).val, Finset.mem_univ _, ?_⟩
    have hk : (x 0).val % 64 < 64 := Nat.mod_lt _ (by omega)
    refine (oBlk_emb _ _ _ _ hk).trans ?_
    funext a
    match a with
    | 0 =>
      refine Fin.ext ?_
      show (8192 * p.2.1.val + 4096 * p.1.val + 64 * p.2.2.val + (x 0).val % 64) % 131072 = (x 0).val
      rw [Nat.mod_eq_of_lt (hb _ hk)]
      omega
    | 1 => exact Fin.ext (Nat.mod_eq_of_lt (x 1).isLt)

set_option maxRecDepth 8192 in
theorem trips_eq : k0_t1_loop.trips = 64 := rfl

set_option maxRecDepth 8192 in
theorem oSet_disjoint : ∀ p ∈ (Finset.univ : Finset OIx), ∀ p' ∈ (Finset.univ : Finset OIx), p ≠ p' → Disjoint (oSet p) (oSet p') := by
  intro p _ p' _ hne
  refine Finset.disjoint_left.mpr fun x hx hx' => hne ?_
  rw [mem_oSet] at hx hx'
  have h1 := p.1.isLt
  have h2 := p'.1.isLt
  have h3 := t_lt p.2.2
  have h4 := t_lt p'.2.2
  exact Prod.ext (Fin.ext (by omega)) (Prod.ext (Fin.ext (by omega)) (Fin.ext (by omega)))

/-- Every place of the results lies in some block. -/
theorem exists_block (x : S131072x3.Idx) : ∃ p : OIx, x ∈ oSet p := by
  obtain ⟨n, hn⟩ : ∃ n, n = (x 0).val := ⟨_, rfl⟩
  have hx : n < 131072 := hn ▸ Nat.lt_of_lt_of_eq (x 0).isLt (show S131072x3.size 0 = 131072 from rfl)
  refine ⟨(⟨n / 64 / 64 % 2, by omega⟩, ⟨n / 64 / 128, by omega⟩, ⟨n / 64 % 64, by rw [trips_eq]; omega⟩), (mem_oSet _ _).mpr ?_⟩
  rw [← hn]
  show n / 64 = 128 * (n / 64 / 128) + 64 * (n / 64 / 64 % 2) + n / 64 % 64
  omega

set_option maxRecDepth 65536 in
theorem oSet_cover : (Finset.univ : Finset OIx).biUnion oSet = Finset.univ :=
  Finset.eq_univ_iff_forall.mpr fun x => (exists_block x).elim fun p hp =>
    Finset.mem_biUnion.mpr (Exists.intro p (And.intro (Finset.mem_univ p) hp))

/-- The array of results is the blocks of all the tasks. -/
theorem outs_split (d : Dev nD) (f : S131072x3.Idx → F .f32) :
    ((SparseCore.T d).loc main_v2 ↦{fullShare} f : sProp (MM F))
      = bigSep Finset.univ fun c : Fin 2 => bigSep Finset.univ fun i : Fin 16 => outs d (crd c i) oV (fun _ => f) := by
  have h := pointsTo_biUnion (nD := nD) (τ := τ) (sig := sig) (U := UU) (Ix := HIx 1) (Name := ℕ) (Lvl := ℕ) (ℓ := (SparseCore.T d).loc main_v2) (Val := Elt F) (q := fullShare) (f := f) (Finset.univ : Finset OIx) oSet oSet_disjoint
  rw [oSet_cover] at h
  refine h.trans ((BI.bigSep_univ_prod (M := MM F) _).trans (BI.bigSep_congr fun c _ => (BI.bigSep_univ_prod (M := MM F) _).trans ?_))
  rfl

/-! ## What the launch carries -/

variable {m}

theorem nSub_zero : (K (F := F)).nSub 0 = 16 := rfl
theorem nCore_zero : (K (F := F)).nCore 0 = 2 := rfl

variable (m)

abbrev arr0 (d : Dev nD) : S131072x3.Idx → F .f32 := m ((SparseCore.T d).loc main_arg0)
abbrev arrX (d : Dev nD) : S132.Idx → F .f32 := m ((SparseCore.T d).loc main_arg2)
abbrev arrY (d : Dev nD) : S132.Idx → F .f32 := m ((SparseCore.T d).loc main_arg3)
abbrev arrZ (d : Dev nD) : S132.Idx → F .f32 := m ((SparseCore.T d).loc main_arg4)

/-- What the array of results holds before the launch. -/
abbrev arrO (d : Dev nD) : S131072x3.Idx → F .f32 := m ((SparseCore.T d).loc main_v2)

/-- The results of the launch. -/
def result (d : Dev nD) : S131072x3.Idx → F .f32 := allOut (arr0 m d) (groups m d) (arrX m d) (arrY m d) (arrZ m d)

/-- A task's part, its block of the results holding `f`. -/
def part (d : Dev nD) (c : Fin 2) (i : Fin 16) (f : S131072x3.Idx → F .f32) : sProp (MM F) :=
  task d (crd c i) (shr c i) (arr0 m d) f (groups m d) (arrX m d) (arrY m d) (arrZ m d)

def parts (d : Dev nD) (c : Fin 2) (f : S131072x3.Idx → F .f32) : sProp (MM F) :=
  bigSep Finset.univ fun i : Fin ((K (F := F)).nSub 0) => part m d c (Fin.cast nSub_zero i) f

theorem parts_eq (d : Dev nD) (c : Fin 2) (f : S131072x3.Idx → F .f32) :
    parts m d c f = bigSep Finset.univ fun i : Fin ((K (F := F)).nSub 0) => part m d c (Fin.cast nSub_zero i) f := rfl

instance part_storable (d : Dev nD) (c : Fin 2) (i : Fin 16) (f : S131072x3.Idx → F .f32) :
    BI.Storable (upEmb : UEmb _ (MM F)) (part m d c i f) := by
  unfold part
  infer_instance

instance parts_storable (d : Dev nD) (c : Fin 2) (f : S131072x3.Idx → F .f32) :
    BI.Storable (upEmb : UEmb _ (MM F)) (parts m d c f) := by
  unfold parts
  infer_instance

def P : (K (F := F)).Pay (nD := nD) (Val := Elt F) (Name := ℕ) (U := UU) where
  st := fun q d c => match q with | 0 => parts m d (Fin.cast nCore_zero c) (arrO m d)
  dn := fun q d c => match q with | 0 => parts m d (Fin.cast nCore_zero c) (result m d)
  go := fun q d c i => match q with | 0 => part m d (Fin.cast nCore_zero c) (Fin.cast nSub_zero i) (arrO m d)
  td := fun q d c i => match q with | 0 => part m d (Fin.cast nCore_zero c) (Fin.cast nSub_zero i) (result m d)
  x := fun _ _ => iprop(emp)

omit m in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  exact (tile_body d (crd (Fin.cast nCore_zero c) (Fin.cast nSub_zero i)) hF O W hO (shr (Fin.cast nCore_zero c) (Fin.cast nSub_zero i)) (arr0 m d)
    (arrO m d) (groups m d) (arrX m d) (arrY m d) (arrZ m d)).trans (wp_mono frame _ _ fun _ => obl_post)

attribute [local irreducible] part parts result

instance P_storable : (P (F := F) m).IsStorable where
  st q d c := match q with | 0 => parts_storable m d (Fin.cast nCore_zero c) (arrO m d)
  dn q d c := match q with | 0 => parts_storable m d (Fin.cast nCore_zero c) (result m d)
  go q d c i := match q with | 0 => part_storable m d (Fin.cast nCore_zero c) (Fin.cast nSub_zero i) (arrO m d)
  td q d c i := match q with | 0 => part_storable m d (Fin.cast nCore_zero c) (Fin.cast nSub_zero i) (result m d)

theorem vecSplit : (K (F := F)).VecSplit' (P m) 0 := by
  intro d c
  show parts m d (Fin.cast nCore_zero c) (arrO m d) ⊢ |={Set.univ}=> iprop(
      (bigSep Finset.univ fun i : Fin ((K (F := F)).nSub 0) => part m d (Fin.cast nCore_zero c) (Fin.cast nSub_zero i) (arrO m d))
      ∗ ((bigSep Finset.univ fun i : Fin ((K (F := F)).nSub 0) => part m d (Fin.cast nCore_zero c) (Fin.cast nSub_zero i) (result m d))
          -∗ parts m d (Fin.cast nCore_zero c) (result m d)))
  rw [← parts_eq, ← parts_eq]
  iintro H; imodintro
  isplitl [H]; · iexact H
  iintro H; iexact H

/-! ## The launch's ghost state -/

def u₀ : UU := (initOf (K (F := F)).hsCells (K (F := F)).hsToks, 1)

theorem hu₀ : (ownU (u₀ (F := F)) : sProp (MM F))
    ⊢ |={Set.univ}=> iprop(BI.own (EH (F := F) (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  have he : ∀ {J : Type} (s : Finset J), (bigSep s fun _ => iprop(emp)) = (iprop(emp) : sProp (MM F)) := fun s => BI.bigSep_emp_const s
  isplitr; · rw [he]; iempintro
  rw [show (bigSep Finset.univ fun thr : Thread nD τ => bigSep Finset.univ fun q : Fin 1 => (P (F := F) m).x q thr) = bigSep Finset.univ fun _ => iprop(emp) from
    BI.bigSep_congr fun _ _ => BI.bigSep_univ_of_subsingleton (0 : Fin 1), he]
  iempintro

end Cert.Kernel

end
-- ==== Proof.Whole.lean ====
module

public import proofs.«01_k».proof.Proof.Launch

@[expose] public section

/-!
The whole program: the host's operations, then the launch, and what memory holds when it has ended.
-/

noncomputable section

namespace Cert.Kernel

open Idealize.ShloMosaic Idealize.SL
open Idealize.ShloMosaic.SparseCore (S V)
open Idealize.ShloMosaic.SparseCore.Cfg (HIx Pay)
open Idealize.SL.BI (sProp Storable bigSep)
open scoped Idealize.SL.BI
open Idealize.SL.BI.BIBase Idealize.SL.BI.Laws Idealize.SL.Sem Idealize.SL.ProofMode
open Idealize.SL.RA Idealize.ShloMosaic.Transfers Idealize.ShloMosaic.Rounds Cert.Streams
open Idealize.ShloMosaic.StableHlo (seq held tcRefs launchContents)

variable {F : FTy → Type} [FloatOps F] [Facts]

local notation "oV" => (Memref.whole Cert.Kernel.main_v2_scv : Memref Cert.Kernel.sig Kind.scVector Space.hbm Cert.Kernel.S131072x3 EltTy.f32)

variable (m : (ℓ : Loc nD τ sig) → Buf (Elt F) ℓ) (ρ : Dev nD → PrngReg)

/-- A TensorCore buffer held whole. -/
abbrev pt (d : Dev nD) (r : Ref sig .tc) (f : Buf (Elt F) ((SparseCore.T d : Thread nD τ).loc r)) : sProp (MM F) :=
  (SparseCore.T d : Thread nD τ).loc r ↦{fullShare} f

/-- The six arrays the launch works on, the results holding `f`. -/
def arrays (d : Dev nD) (f : S131072x3.Idx → F .f32) : sProp (MM F) :=
  iprop(pt d main_arg0 (arr0 m d) ∗ pt d main_v1 (groups m d) ∗ pt d main_arg2 (arrX m d) ∗ pt d main_arg3 (arrY m d) ∗ pt d main_arg4 (arrZ m d) ∗ pt d main_v2 f)

theorem parts_all (d : Dev nD) (f : S131072x3.Idx → F .f32) :
    (bigSep Finset.univ fun c : Fin ((K (F := F)).nCore 0) => parts m d (Fin.cast nCore_zero c) f) = arrays m d f := by
  have e : (bigSep Finset.univ fun c : Fin ((K (F := F)).nCore 0) => parts m d (Fin.cast nCore_zero c) f)
      = bigSep Finset.univ fun c : Fin 2 => bigSep Finset.univ fun i : Fin 16 =>
          task d (crd c i) (shr c i) (arr0 m d) f (groups m d) (arrX m d) (arrY m d) (arrZ m d) := rfl
  rw [e]
  unfold arrays pt
  rw [outs_split, pts_shares (ℓ := (SparseCore.T d).loc main_arg0) (arr0 m d), pts_shares (ℓ := (SparseCore.T d).loc main_v1) (groups m d),
    pts_shares (ℓ := (SparseCore.T d).loc main_arg2) (arrX m d), pts_shares (ℓ := (SparseCore.T d).loc main_arg3) (arrY m d),
    pts_shares (ℓ := (SparseCore.T d).loc main_arg4) (arrZ m d)]
  simp only [BI.bigSep_sep']

theorem unscoped_all : (Finset.univ.filter fun b : Ref sig .tc => ¬ b.isScoped)
    = {main_arg0, main_arg1, main_arg2, main_arg3, main_arg4, main_v0, main_c, main_call0_v0, main_v1, main_v2} := by decide

theorem bufs_held (d : Dev nD) (W : Valuation τ sig (Elt F)) :
    (unscopedBufs d (fun b => W (Proc.devRef .tc b)) : sProp (MM F)) = held (d.tc : Thread nD τ) (tcRefs τ sig) W := by
  have h : (Finset.univ.filter fun b : Ref sig .tc => ¬ b.isScoped) = Finset.univ := by decide
  unfold unscopedBufs held tcRefs
  rw [h, BI.bigSep_map]
  rfl

theorem bufs_eq (d : Dev nD) (W : (b : Ref sig .tc) → Buf (Elt F) ((d.tc : Thread nD τ).loc b)) :
    (unscopedBufs d W : sProp (MM F)) = iprop(pt d main_arg0 (W main_arg0) ∗ pt d main_arg1 (W main_arg1) ∗ pt d main_arg2 (W main_arg2)
      ∗ pt d main_arg3 (W main_arg3) ∗ pt d main_arg4 (W main_arg4) ∗ pt d main_v0 (W main_v0) ∗ pt d main_c (W main_c)
      ∗ pt d main_call0_v0 (W main_call0_v0) ∗ pt d main_v1 (W main_v1) ∗ pt d main_v2 (W main_v2)) := by
  unfold unscopedBufs
  rw [unscoped_all, SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), BI.bigSep_singleton]

theorem hops_sub : ∀ op ∈ hops (F := F), op.bufs ⊆ tcRefs τ sig := by
  intro op h
  simp only [hops, List.mem_cons, List.not_mem_nil, or_false] at h
  rcases h with rfl | rfl | rfl | rfl
  · exact StableHlo.reshape_bufs_sub ..
  · exact StableHlo.nullary_bufs_sub ..
  · exact StableHlo.unary_bufs_sub ..
  · exact StableHlo.binary_bufs_sub ..

theorem hops_fresh : ∀ op ∈ hops (F := F), op.fresh = ∅ := by
  intro op h
  simp only [hops, List.mem_cons, List.not_mem_nil, or_false] at h
  rcases h with rfl | rfl | rfl | rfl <;> rfl

/-- What the program ends with. -/
abbrev FIN (d : Dev nD) : sProp (MM F) := iprop(pt d main_arg1 (m ((SparseCore.T d).loc main_arg1)) ∗ arrays m d (result m d))

theorem dealt (d : Dev nD) :
    (unscopedBufs d (fun b => StableHlo.after hops (launchContents m d) (Proc.devRef .tc b)) : sProp (MM F))
      ⊢ iprop(pt d main_arg1 (m ((SparseCore.T d).loc main_arg1)) ∗ arrays m d (arrO m d)) := by
  rw [bufs_eq, after_same m d main_arg0 (by decide), after_same m d main_arg1 (by decide), after_same m d main_arg2 (by decide),
    after_same m d main_arg3 (by decide), after_same m d main_arg4 (by decide), after_same m d main_v2 (by decide)]
  unfold arrays
  iintro ⟨H0, H1, H2, H3, H4, -, -, -, HC, HO⟩
  isplitl [H1]; · iexact H1
  isplitl [H0]; · iexact H0
  isplitl [HC]; · iexact HC
  isplitl [H2]; · iexact H2
  isplitl [H3]; · iexact H3
  isplitl [H4]; · iexact H4
  iexact HO

attribute [local irreducible] parts arrays result

theorem st_eq (d : Dev nD) : (bigSep Finset.univ fun c : Fin ((K (F := F)).nCore 0) => (P m).st 0 d c) = arrays m d (arrO m d) := parts_all m d (arrO m d)
theorem dn_eq (d : Dev nD) : (bigSep Finset.univ fun c : Fin ((K (F := F)).nCore 0) => (P m).dn 0 d c) = arrays m d (result m d) := parts_all m d (result m d)

/-- The launch, from the arrays. -/
theorem launch (κ : GSem nD τ sig → ℕ) (d : Dev nD) (A : sProp (MM F)) :
    iprop((K (F := F)).ctx EH (P m) κ ∗ (K (F := F)).tcSt EH d 0 ∗ arrays m d (arrO m d) ∗ A)
      ⊢ wp frame (wpE ((K (F := F)).defs (D (F := F))) 𝒱 (SparseCore.T d) none) Set.univ ((K (F := F)).run d 0 >>= fun _ => pure PUnit.unit)
          fun _ => iprop((K (F := F)).tcSt EH d 1 ∗ arrays m d (result m d) ∗ A) := by
  simp only [wp_bind, wp_pure]
  iintro ⟨#Hctx, Hst, Ha, HA⟩
  iapply ((K (F := F)).wp_run (D (F := F)) 𝒱 (EH := EH) (P := P m) κ d 0) $$ [Hst Ha HA]
  isplitr; · iexact Hctx
  isplitl [Hst]; · iexact Hst
  isplitl [Ha]; · rw [st_eq]; iexact Ha
  iintro ⟨Hst, Hdn⟩
  ihave Ha := (Entails.of_eq (dn_eq m d)) $$ Hdn
  imodintro
  isplitl [Hst]; · iexact Hst
  isplitl [Ha]; · iexact Ha
  iexact HA

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hu, Hts, -⟩, -⟩
  ihave Hu := (Entails.of_eq (bufs_held d (launchContents m d))) $$ Hu
  iapply (StableHlo.wp_seq 𝒱 none Set.univ d (tcRefs τ sig) _ hops hops_sub hops_fresh (launchContents m d)) $$ [Hb Hu]
  · isplitl [Hb]; · iexact Hb
    iexact Hu
  iintro ⟨Hb, Hu⟩
  ihave Hu := ((Entails.of_eq (bufs_held d _).symm).trans (dealt m d)) $$ Hu
  icases Hu with ⟨H1, Ha⟩
  iapply (wp_wand frame _ _ (Q := fun _ => iprop((K (F := F)).tcSt EH d 1 ∗ arrays m d (result m d)
    ∗ (pt d main_arg1 (m ((SparseCore.T d).loc main_arg1)) ∗ boundary (SparseCore.T d) ∗ (K (F := F)).tcSems0 d)))) $$ [Hst Ha H1 Hb Hts]
  · iapply (launch m κ d _)
    isplitr; · iexact Hctx
    isplitl [Hst]; · iexact Hst
    isplitl [Ha]; · iexact Ha
    isplitl [H1]; · iexact H1
    isplitl [Hb] <;> iassumption
  iintro %_ ⟨Hst, Ha, H1, Hb, Hts⟩
  isplitl [Hst]; · iexact Hst
  isplitl [Ha H1]
  · isplitl [H1]; · iexact H1
    iexact Ha
  isplitl [Hb] <;> iassumption

/-! ## What memory holds at the end -/

def fq (d : Dev nD) (s' : Phys nD τ sig (Elt F)) : Prop :=
  s'.mem.mem ((SparseCore.T d).loc main_v2) = result m d
    ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)
    ∧ s'.mem.mem ((SparseCore.T d).loc main_arg4) = m ((SparseCore.T d).loc main_arg4)

/-- A whole buffer's contents are what memory holds there. -/
theorem agree (s' : Phys nD τ sig (Elt F)) (ℓ : Loc nD τ sig) (f : Buf (Elt F) ℓ) (A : sProp (MM F)) :
    iprop((ℓ ↦{fullShare} f) ∗ A ∗ SI s') ⊢ iprop(⌜s'.mem.mem ℓ = f⌝ ∗ A ∗ SI s') := by
  iintro ⟨H, HA, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  isplitl [HA] <;> iassumption

theorem hfin (d : Dev nD) (s' : Phys nD τ sig (Elt F)) : iprop(FIN m d ∗ SI s') ⊢ (⌜fq m d s'⌝ : sProp (MM F)) := by
  unfold FIN arrays
  iintro ⟨⟨H1, H0, HC, H2, H3, H4, HO⟩, HSI⟩
  ihave H := (agree s' _ _ iprop(emp)) $$ [H1 HSI]
  · isplitl [H1]; · iexact H1
    isplitr; · iempintro
    iexact HSI
  icases H with ⟨%h1, -, HSI⟩
  ihave H := (agree s' _ _ iprop(emp)) $$ [H0 HSI]
  · isplitl [H0]; · iexact H0
    isplitr; · iempintro
    iexact HSI
  icases H with ⟨%h0, -, HSI⟩
  ihave H := (agree s' _ _ iprop(emp)) $$ [H2 HSI]
  · isplitl [H2]; · iexact H2
    isplitr; · iempintro
    iexact HSI
  icases H with ⟨%h2, -, HSI⟩
  ihave H := (agree s' _ _ iprop(emp)) $$ [H3 HSI]
  · isplitl [H3]; · iexact H3
    isplitr; · iempintro
    iexact HSI
  icases H with ⟨%h3, -, HSI⟩
  ihave H := (agree s' _ _ iprop(emp)) $$ [H4 HSI]
  · isplitl [H4]; · iexact H4
    isplitr; · iempintro
    iexact HSI
  icases H with ⟨%h4, -, HSI⟩
  ihave H := (agree s' _ _ iprop(emp)) $$ [HO HSI]
  · isplitl [HO]; · iexact HO
    isplitr; · iempintro
    iexact HSI
  icases H with ⟨%hO, -, HSI⟩
  ipureintro
  exact ⟨hO, h0, h1, h2, h3, h4⟩

def QC : PUnit × MemSt nD τ sig (Elt F) → Prop := fun r => (∀ d : Dev nD,
    r.2.mem ((SparseCore.T d).loc main_v2) = result m d
      ∧ r.2.mem ((SparseCore.T d).loc main_arg0) = m ((SparseCore.T d).loc main_arg0)
      ∧ r.2.mem ((SparseCore.T d).loc main_arg1) = m ((SparseCore.T d).loc main_arg1)
      ∧ r.2.mem ((SparseCore.T d).loc main_arg2) = m ((SparseCore.T d).loc main_arg2)
      ∧ r.2.mem ((SparseCore.T d).loc main_arg3) = m ((SparseCore.T d).loc main_arg3)
      ∧ r.2.mem ((SparseCore.T d).loc main_arg4) = m ((SparseCore.T d).loc main_arg4)) ∧ r.2.sem = fun _ => 0

theorem run_main [∀ e, Nonempty (Elt F e)] : θ_run (Cert.Kernel.defs (F := F)) (Cert.Kernel.threads (F := F)) ⟨m, fun _ => 0, ρ⟩ (QC m) :=
  SparseCore.Cfg.θ_run_sc_quiescent (K := K (F := F)) (D := D (F := F)) (𝒱 := 𝒱) (EH := EH) (P := P m) (A := ∅) launch_facts v₀
    (fun q hq => match q with | 0 => nomatch hq)
    (fun q _ => match q with | 0 => tileObl m launch_facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Kernel

end
-- ==== Proof.Frames.lean ====
module

public import proofs.«01_k».proof.Defs
public import proofs.«01_k».proof.Proof.Gen.Kernel
public import proofs.«01_k».proof.Proof.Gen.KernelIdeal
public import proofs.«01_k».proof.Proof.Whole
public import proofs.«01_k».proof.Proof.Gen.ReferenceIdeal.Run

@[expose] public section

/-!
The kernel's runs, as printed and as idealized (the two texts are one, so one proof serves both), and the reference's.
-/

noncomputable section

namespace Cert.Proof

open Idealize.ShloMosaic Idealize.SL.Sem

theorem frame_kernel : Cert.quiescent_Kernel (hKernel := Cert.Kernel.Gen.facts) := fun m ρ _ =>
  letI := Cert.Kernel.Gen.facts
  (θ_run Cert.Kernel.defs _ _).mono (fun _ h => ⟨fun c => (h.1 c).2, h.2⟩) (Cert.Kernel.run_main (F := Bits) m ρ)

/-- The idealized kernel's run. -/
theorem run_ideal (m : (ℓ : Loc Cert.KernelIdeal.nD Cert.KernelIdeal.τ Cert.KernelIdeal.sig) → Buf (Elt Ideal) ℓ) (ρ : Dev Cert.KernelIdeal.nD → PrngReg) :
    letI := Cert.KernelIdeal.Gen.facts
    letI := Cert.Kernel.Gen.facts
    θ_run (Cert.KernelIdeal.defs (F := Ideal)) (Cert.KernelIdeal.threads (F := Ideal)) ⟨m, fun _ => 0, ρ⟩ (Cert.Kernel.QC (F := Ideal) m) :=
  letI := Cert.Kernel.Gen.facts
  Cert.Kernel.run_main (F := Ideal) m ρ

theorem frame_ideal : Cert.quiescent_KernelIdeal (hKernelIdeal := Cert.KernelIdeal.Gen.facts) := fun m ρ _ =>
  letI := Cert.KernelIdeal.Gen.facts
  (θ_run Cert.KernelIdeal.defs _ _).mono (fun _ h => ⟨fun c => (h.1 c).2, h.2⟩) (run_ideal m ρ)

/-- The idealized reference's run: only host operations, no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Proof

end
-- ==== Proof.RefForm.lean ====
module

public import proofs.«01_k».proof.Proof.Gen.ReferenceIdeal.Run

@[expose] public section

/-!
The reference's result as one term: the three coordinates run through one function of the knots and of the queries' coordinate.
-/

noncomputable section

namespace Cert.Boor

open Cert.ReferenceIdeal Cert.ReferenceIdeal.Gen Idealize.ShloMosaic Idealize.ShloMosaic.TcCoe Idealize.SL.Sem Idealize.ShloMosaic.StableHlo

variable {F : FTy → Type} [FloatOps F]

/-- One word for every query. -/
abbrev sp (b : BitVec 32) : IVec S131072 32 := broadcastInDim S131072 ![] bcast_S_S131072 (constantI S_ 32 b)

/-- Coordinate `a` of the queries. -/
def colV (Q : FVec F S131072x3 .f32) (a : ℕ) (h : S131072x3.Slices ![0, a] S131072x1) : FVec F S131072 .f32 :=
  shapeCast _ (extractStridedSlice S131072x1 ![0, a] Q h) shapeCasts_S131072x1_S131072

/-- The coordinate kept inside the domain. -/
def clampV (T : FVec F S132 .f32) (X : FVec F S131072 .f32) : FVec F S131072 .f32 :=
  minimumf (broadcastInDim S131072 ![] bcast_S_S131072 (shapeCast _ (extractStridedSlice S1 ![128] T slices_S132_S1_128) shapeCasts_S1_S_))
    (maximumf (broadcastInDim S131072 ![] bcast_S_S131072 (shapeCast _ (extractStridedSlice S1 ![3] T slices_S132_S1_3) shapeCasts_S1_S_)) X)

/-- Which knots are at most the coordinate. -/
def maskV (T : FVec F S132 .f32) (X : FVec F S131072 .f32) : IVec S131072x132 1 :=
  cmpf .ole (broadcastInDim S131072x132 ![0, 1] bcast_S1x132_S131072x132_0_1 (broadcastInDim S1x132 ![1] bcast_S132_S1x132_1 T))
    (broadcastInDim S131072x132 ![0, 1] bcast_S131072x1_S131072x132_0_1 (broadcastInDim S131072x1 ![0] bcast_S131072_S131072x1_0 (clampV T X)))

/-- The knot below the coordinate. -/
def kV (T : FVec F S132 .f32) (X : FVec F S131072 .f32) : IVec S131072 32 :=
  minsi (broadcastInDim S131072 ![] bcast_S_S131072 (id (constantI S_ 32 127#32)))
    (maxsi (broadcastInDim S131072 ![] bcast_S_S131072 (id (constantI S_ 32 3#32)))
      (subi (Host.reduce IntOp.addi (extui 32 (maskV T X) natLt_1_32) (constantI S_ 32 0#32) reducesTo_S131072x132_S131072_d1 h_S_) (sp 1#32)))

/-- The knots at given indices. -/
def atV (T : FVec F S132 .f32) (I : IVec S131072 32) : FVec F S131072 .f32 :=
  Host.gather gather_S132_S131072x1_S131072_n_0_n_n_0_1_1 T
    (broadcastInDim S131072x1 ![0] bcast_S131072_S131072x1_0 (select (cmpi .slt I (sp 0#32)) (addi I (sp 132#32)) I))

/-- The index of the knot to the left of blend `j`. -/
def loV (K : IVec S131072 32) (j : BitVec 32) : IVec S131072 32 := subi (addi (sp j) K) (sp 3#32)

/-- The index of the knot to the right of blend `j` of round `r`. -/
def hiV (K : IVec S131072 32) (j r : BitVec 32) : IVec S131072 32 := subi (addi (addi (sp j) K) (sp 1#32)) (sp r)

/-- The share of blend `j` of round `r`. -/
def alV (T : FVec F S132 .f32) (X : FVec F S131072 .f32) (K : IVec S131072 32) (j r : BitVec 32) : FVec F S131072x1 .f32 :=
  broadcastInDim S131072x1 ![0] bcast_S131072_S131072x1_0 (Host.divf (subf X (atV T (loV K j))) (subf (atV T (hiV K j r)) (atV T (loV K j))))

/-- Two rows blended. -/
def blendV (a : FVec F S131072x1 .f32) (p q : FVec F S131072x4 .f32) : FVec F S131072x4 .f32 :=
  addf (mulf (broadcastInDim S131072x4 ![0, 1] bcast_S131072x1_S131072x4_0_1
      (subf (broadcastInDim S131072x1 ![] bcast_S_S131072x1 (constant S_ .f32 0x3F800000#32)) a)) p)
    (mulf (broadcastInDim S131072x4 ![0, 1] bcast_S131072x1_S131072x4_0_1 a) q)

/-- The identity matrix. -/
def eyeV : FVec F S4x4 .f32 :=
  uitofp .f32 (cmpi .eq (addi (iotaInDim S4x4 32 0) (broadcastInDim S4x4 ![] bcast_S_S4x4 (constantI S_ 32 0#32))) (iotaInDim S4x4 32 1))

/-- A row of it for every query. -/
def rowV (r : ℕ) (h : S4x4.Slices ![r, 0] S1x4) : FVec F S131072x4 .f32 :=
  broadcastInDim S131072x4 ![0, 1] bcast_S1x4_S131072x4_0_1
    (broadcastInDim S1x4 ![1] bcast_S4_S1x4_1 (shapeCast _ (extractStridedSlice S1x4 ![r, 0] (eyeV (F := F)) h) shapeCasts_S1x4_S4))

/-- The four weights of a coordinate. -/
def basisV (T : FVec F S132 .f32) (X : FVec F S131072 .f32) : FVec F S131072x4 .f32 :=
  blendV (alV T X (kV T X) 3#32 3#32)
    (blendV (alV T X (kV T X) 2#32 2#32)
      (blendV (alV T X (kV T X) 1#32 1#32) (rowV 0 slices_S4x4_S1x4_0_0) (rowV 1 slices_S4x4_S1x4_1_0))
      (blendV (alV T X (kV T X) 2#32 1#32) (rowV 1 slices_S4x4_S1x4_1_0) (rowV 2 slices_S4x4_S1x4_2_0)))
    (blendV (alV T X (kV T X) 3#32 2#32)
      (blendV (alV T X (kV T X) 2#32 1#32) (rowV 1 slices_S4x4_S1x4_1_0) (rowV 2 slices_S4x4_S1x4_2_0))
      (blendV (alV T X (kV T X) 3#32 1#32) (rowV 2 slices_S4x4_S1x4_2_0) (rowV 3 slices_S4x4_S1x4_3_0)))

/-- The four control-point indices of a coordinate. -/
def idxV (K : IVec S131072 32) : IVec S131072x4 32 :=
  addi (broadcastInDim S131072x4 ![0, 1] bcast_S131072x1_S131072x4_0_1 (broadcastInDim S131072x1 ![0] bcast_S131072_S131072x1_0 K))
    (broadcastInDim S131072x4 ![0, 1] bcast_S1x4_S131072x4_0_1
      (broadcastInDim S1x4 ![1] bcast_S4_S1x4_1 (addi (broadcastInDim S4 ![] bcast_S_S4 (constantI S_ 32 4294967293#32)) (iotaInDim S4 32 0))))

/-- The weights of the 64 control points. -/
def cubeV (bx bY bz : FVec F S131072x4 .f32) : FVec F S131072x4x4x4 .f32 :=
  mulf (broadcastInDim S131072x4x4x4 ![0, 1, 2, 3] bcast_S131072x4x4x1_S131072x4x4x4_0_1_2_3
      (mulf (broadcastInDim S131072x4x4x1 ![0, 1, 2, 3] bcast_S131072x4x1x1_S131072x4x4x1_0_1_2_3
          (broadcastInDim S131072x4x1x1 ![0, 1] bcast_S131072x4_S131072x4x1x1_0_1 bx))
        (broadcastInDim S131072x4x4x1 ![0, 1, 2, 3] bcast_S131072x1x4x1_S131072x4x4x1_0_1_2_3
          (broadcastInDim S131072x1x4x1 ![0, 2] bcast_S131072x4_S131072x1x4x1_0_2 bY))))
    (broadcastInDim S131072x4x4x4 ![0, 1, 2, 3] bcast_S131072x1x1x4_S131072x4x4x4_0_1_2_3
      (broadcastInDim S131072x1x1x4 ![0, 3] bcast_S131072x4_S131072x1x1x4_0_3 bz))

/-- Their places in the flat array. -/
def flatV (ix iy iz : IVec S131072x4 32) : IVec S131072x4x4x4 32 :=
  addi (broadcastInDim S131072x4x4x4 ![0, 1, 2, 3] bcast_S131072x4x1x1_S131072x4x4x4_0_1_2_3
      (broadcastInDim S131072x4x1x1 ![0, 1] bcast_S131072x4_S131072x4x1x1_0_1 ix))
    (broadcastInDim S131072x4x4x4 ![0, 1, 2, 3] bcast_S131072x1x4x4_S131072x4x4x4_0_1_2_3
      (muli (broadcastInDim S131072x1x4x4 ![] bcast_S_S131072x1x4x4 (constantI S_ 32 128#32))
        (addi (broadcastInDim S131072x1x4x4 ![0, 1, 2, 3] bcast_S131072x1x4x1_S131072x1x4x4_0_1_2_3
            (broadcastInDim S131072x1x4x1 ![0, 2] bcast_S131072x4_S131072x1x4x1_0_2 iy))
          (broadcastInDim S131072x1x4x4 ![0, 1, 2, 3] bcast_S131072x1x1x4_S131072x1x4x4_0_1_2_3
            (muli (broadcastInDim S131072x1x1x4 ![] bcast_S_S131072x1x1x4 (constantI S_ 32 128#32))
              (broadcastInDim S131072x1x1x4 ![0, 3] bcast_S131072x4_S131072x1x1x4_0_3 iz))))))

/-- The control points at given places. -/
def pickV (C : FVec F S2097152x3 .f32) (I : IVec S131072x4x4x4 32) : FVec F S131072x4x4x4x3 .f32 :=
  Host.gather gather_S2097152x3_S131072x4x4x4x1_S131072x4x4x4x3_4_0_n_n_0_4_13 C
    (broadcastInDim S131072x4x4x4x1 ![0, 1, 2, 3] bcast_S131072x4x4x4_S131072x4x4x4x1_0_1_2_3
      (select (cmpi .slt I (broadcastInDim S131072x4x4x4 ![] bcast_S_S131072x4x4x4 (constantI S_ 32 0#32)))
        (addi I (broadcastInDim S131072x4x4x4 ![] bcast_S_S131072x4x4x4 (constantI S_ 32 2097152#32))) I))

/-- The weighted control points summed. -/
def sumV (W : FVec F S131072x4x4x4 .f32) (G : FVec F S131072x4x4x4x3 .f32) : FVec F S131072x3 .f32 :=
  Host.reduceAdd (mulf (broadcastInDim S131072x4x4x4x3 ![0, 1, 2, 3, 4] bcast_S131072x4x4x4x1_S131072x4x4x4x3_0_1_2_3_4
      (broadcastInDim S131072x4x4x4x1 ![0, 1, 2, 3] bcast_S131072x4x4x4_S131072x4x4x4x1_0_1_2_3 W)) G)
    (constant S_ .f32 0x00000000#32) reducesTo_S131072x4x4x4x3_S131072x3_d1_2_3 h_S_

/-- The reference's result. -/
def refV (Q : FVec F S131072x3 .f32) (C : FVec F S2097152x3 .f32) (TX TY TZ : FVec F S132 .f32) : FVec F S131072x3 .f32 :=
  let x := colV Q 0 slices_S131072x3_S131072x1_0_0
  let y := colV Q 1 slices_S131072x3_S131072x1_0_1
  let z := colV Q 2 slices_S131072x3_S131072x1_0_2
  sumV (cubeV (basisV TX x) (basisV TY y) (basisV TZ z)) (pickV C (flatV (idxV (kV TX x)) (idxV (kV TY y)) (idxV (kV TZ z))))

/-- The reference's run, with its result as that term. -/
theorem run_ref (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v803) = refV (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := F)) _ _).mono (fun _ h c => ⟨(h c).1.trans rfl, (h c).2⟩) (Cert.ReferenceIdeal.Value.run (F := F) m ρ)

end Cert.Boor
-- ==== Proof.Knots.lean ====
module

public import proofs.«01_k».proof.Proof.Val
public import Idealize.ShloMosaic.PureOps.Ideal
public import Mathlib.Tactic.Linarith
public import Mathlib.Tactic.FieldSimp
public import Mathlib.Tactic.Ring
public import Mathlib.Tactic.NormNum

@[expose] public section

/-!
A coordinate's interval and weights over the reals, for knots that are sorted, strictly so across the domain and there nearly uniform:
the kernel's interval is the one that holds the query, and its weights are de Boor's.
-/

noncomputable section

namespace Cert.Spline

open Idealize.ShloMosaic Cert.Kernel

variable [Cert.Kernel.Facts]

/-- A coordinate's knots as reals `t`, with what is asked of them. -/
structure Knots (T : S132.Idx → Ideal .f32) (t : ℕ → ℝ) : Prop where
  val : ∀ n, n < 132 → T (ix1 132 n) = ((t n : ℝ) : EReal)
  le : ∀ n, n < 131 → t n ≤ t (n + 1)
  first : t 3 < t 4
  last : t 127 < t 128
  upper : ∀ i : ℕ, 1 ≤ i → i ≤ 123 → 125 * t (i + 3) ≤ (i : ℝ) + 1
  lower : ∀ i : ℕ, 2 ≤ i → i ≤ 124 → (i : ℝ) ≤ 125 * t (i + 3) + 1

theorem Knots.mono {T : S132.Idx → Ideal .f32} {t : ℕ → ℝ} (h : Knots T t) {a b : ℕ} (hab : a ≤ b) (hb : b < 132) : t a ≤ t b := by
  induction b, hab using Nat.le_induction with
  | base => exact le_refl _
  | succ n _ ih => exact (ih (by omega)).trans (h.le n (by omega))

/-- The interval `i` holds `x`, the first and the last interval reaching out to the sides. -/
def At (t : ℕ → ℝ) (x : ℝ) (i : ℕ) : Prop := i ≤ 124 ∧ (i = 0 ∨ t (i + 3) ≤ x) ∧ (i = 124 ∨ x < t (i + 4))

theorem At.not_lt {T : S132.Idx → Ideal .f32} {t : ℕ → ℝ} (h : Knots T t) {x : ℝ} {a b : ℕ} (ha : At t x a) (hb : At t x b) : ¬ a < b := by
  intro hab
  obtain ⟨_, _, h2⟩ := ha
  obtain ⟨hb, h3, _⟩ := hb
  rcases h2 with h2 | h2
  · omega
  rcases h3 with h3 | h3
  · omega
  have := h.mono (a := a + 4) (b := b + 3) (by omega) (by omega)
  linarith

theorem At.unique {T : S132.Idx → Ideal .f32} {t : ℕ → ℝ} (h : Knots T t) {x : ℝ} {a b : ℕ} (ha : At t x a) (hb : At t x b) : a = b :=
  Nat.le_antisymm (Nat.le_of_not_lt (At.not_lt h hb ha)) (Nat.le_of_not_lt (At.not_lt h ha hb))

/-- An interval that holds a coordinate is not empty. -/
theorem At.lt {T : S132.Idx → Ideal .f32} {t : ℕ → ℝ} (h : Knots T t) {x : ℝ} {i : ℕ} (ha : At t x i) : t (i + 3) < t (i + 4) := by
  obtain ⟨_, h1, h2⟩ := ha
  rcases h1 with rfl | h1
  · exact h.first
  · rcases h2 with rfl | h2
    · exact h.last
    · linarith

/-! ## The kernel's interval -/

/-- A word clipped to the intervals. -/
theorem clip_ofInt (z : ℤ) (h1 : -2147483648 ≤ z) (h2 : z ≤ 2147483647) :
    ((IntOp.minsi 124#32 (IntOp.maxsi 0#32 (BitVec.ofInt 32 z))).toNat : ℤ) = min 124 (max 0 z) := by
  have e : (BitVec.ofInt 32 z).toInt = z := by
    rw [BitVec.toInt_ofInt, Int.bmod_def]
    norm_num
    omega
  have e0 : (0#32 : BitVec 32).toInt = 0 := by decide
  have e1 : (124#32 : BitVec 32).toInt = 124 := by decide
  have e2 : (0#32 : BitVec 32).toNat = 0 := by decide
  have e3 : (124#32 : BitVec 32).toNat = 124 := by decide
  have e4 : (BitVec.ofInt 32 z).toNat = (z % 4294967296).toNat := by
    rw [BitVec.toNat_ofInt]
    norm_num
  unfold IntOp.minsi IntOp.maxsi
  simp only [BitVec.slt_eq_decide, decide_eq_true_eq]
  by_cases c : z < 0
  · have c' : (BitVec.ofInt 32 z).toInt < (0#32 : BitVec 32).toInt := by rw [e, e0]; exact c
    rw [if_pos c']
    rw [e1, e0]
    norm_num
    omega
  · by_cases c2 : z < 124
    · split <;> split <;> simp_all <;> omega
    · split <;> split <;> simp_all <;> omega

/-- The pattern of 125. -/
theorem ofBits_125 : (Scalar.ofBits .f32 0x42FA0000#32 : Ideal .f32) = ((125 : ℝ) : EReal) := by
  change Ideal.ofBits .f32 0x42FA0000#32 = _
  simp [Ideal.ofBits, Ideal.ieee]
  rw [← EReal.coe_mul]
  norm_num

/-- The pattern of one. -/
theorem ofBits_1 : (Scalar.ofBits .f32 0x3F800000#32 : Ideal .f32) = ((1 : ℝ) : EReal) := by
  change Ideal.ofBits .f32 0x3F800000#32 = _
  simp [Ideal.ofBits, Ideal.ieee]
  rw [← EReal.coe_mul]
  norm_num

theorem gOf_eq (x : ℝ) : gOf (F := Ideal) ((x : ℝ) : EReal) =
    IntOp.minsi 124#32 (IntOp.maxsi 0#32 (Ideal.fptosi 32 (((x : ℝ) : EReal) * ((125 : ℝ) : EReal)))) := by
  rw [← ofBits_125]
  rfl

/-- The first guess is off by less than one interval of the uniform grid. -/
theorem gOf_near (x : ℝ) : let g := (gOf (F := Ideal) ((x : ℝ) : EReal)).toNat
    (g = 0 ∨ (g : ℝ) ≤ 125 * x) ∧ (g = 124 ∨ 125 * x < (g : ℝ) + 1) := by
  intro g
  have hg : (g : ℤ) = min 124 (max 0 (max (-2147483648) (min 2147483647 (if 0 ≤ x * 125 then ⌊x * 125⌋ else ⌈x * 125⌉)))) := by
    have e := clip_ofInt (max (-2147483648) (min 2147483647 (if 0 ≤ x * 125 then ⌊x * 125⌋ else ⌈x * 125⌉))) (by omega) (by omega)
    rw [← e]
    change ((gOf (F := Ideal) ((x : ℝ) : EReal)).toNat : ℤ) = _
    rw [gOf_eq, ← EReal.coe_mul]
    rfl
  have f1 := Int.floor_le (x * 125)
  have f2 := Int.lt_floor_add_one (x * 125)
  by_cases c : 0 ≤ x * 125
  · rw [if_pos c] at hg
    have f3 : 0 ≤ ⌊x * 125⌋ := Int.floor_nonneg.mpr c
    constructor
    · by_cases hg0 : g = 0
      · exact .inl hg0
      · have : (g : ℤ) ≤ ⌊x * 125⌋ := by omega
        have : (g : ℝ) ≤ (⌊x * 125⌋ : ℝ) := by exact_mod_cast this
        right
        linarith
    · by_cases hg0 : g = 124
      · exact .inl hg0
      · have : ⌊x * 125⌋ ≤ (g : ℤ) := by omega
        have : (⌊x * 125⌋ : ℝ) ≤ (g : ℝ) := by exact_mod_cast this
        right
        linarith
  · rw [if_neg c] at hg
    have f3 : ⌈x * 125⌉ ≤ 0 := Int.ceil_le.mpr (by push_cast; linarith)
    have : g = 0 := by omega
    rw [this]
    refine ⟨.inl rfl, .inr ?_⟩
    push_cast
    linarith

/-- A bit as a number. -/
abbrev bit (p : Prop) [Decidable p] : ℤ := if p then 1 else 0

/-- The guess moved by one each way, as integers. -/
theorem fix_eq (x ta tb : ℝ) (g : BitVec 32) (hg : g.toNat ≤ 124) :
    ((fix (F := Ideal) (cs ((x : ℝ) : EReal)) (cs g) (cs ((ta : ℝ) : EReal)) (cs ((tb : ℝ) : EReal)) l0).toNat : ℤ) =
      min 124 (max 0 ((g.toNat : ℤ) + bit (tb ≤ x) - bit (x < ta))) := by
  have e : fix (F := Ideal) (cs ((x : ℝ) : EReal)) (cs g) (cs ((ta : ℝ) : EReal)) (cs ((tb : ℝ) : EReal)) l0 =
      IntOp.minsi 124#32 (IntOp.maxsi 0#32 ((g + (BitVec.ofBool (decide (((tb : ℝ) : EReal) ≤ (x : EReal)))).setWidth 32) -
        (BitVec.ofBool (decide (((x : ℝ) : EReal) < (ta : EReal)))).setWidth 32)) := rfl
  rw [e, ← clip_ofInt _ (by unfold bit; split <;> split <;> omega) (by unfold bit; split <;> split <;> omega)]
  congr 4
  simp only [EReal.coe_le_coe_iff, EReal.coe_lt_coe_iff]
  have o1 : ((BitVec.ofBool true).setWidth 32).toNat = 1 := by decide
  have o0 : ((BitVec.ofBool false).setWidth 32).toNat = 0 := by decide
  apply BitVec.eq_of_toNat_eq
  rw [BitVec.toNat_sub, BitVec.toNat_add, BitVec.toNat_ofInt]
  by_cases c1 : tb ≤ x <;> by_cases c2 : x < ta <;> simp only [c1, c2, decide_true, decide_false, o1, o0, bit, if_true, if_false] <;> omega

theorem toNat_add {j : BitVec 32} (hj : j.toNat ≤ 124) {k : ℕ} (hk : k ≤ 6) : (j + BitVec.ofNat 32 k).toNat = j.toNat + k := by
  rw [BitVec.toNat_add, BitVec.toNat_ofNat]
  omega

theorem kn_eq {T : S132.Idx → Ideal .f32} {t : ℕ → ℝ} (h : Knots T t) {j : BitVec 32} (hj : j.toNat ≤ 124) {k : ℕ} (hk : k ≤ 6) :
    kn T (j + BitVec.ofNat 32 k) = ((t (j.toNat + k) : ℝ) : EReal) := by
  unfold kn
  rw [toNat_add hj hk]
  exact h.val _ (by omega)

/-- The kernel's interval holds the query. -/
theorem jOf_at {T : S132.Idx → Ideal .f32} {t : ℕ → ℝ} (h : Knots T t) (x : ℝ) : At t x (jOf T ((x : ℝ) : EReal)).toNat := by
  obtain ⟨n1, n2⟩ := gOf_near x
  have hg := gOf_le (F := Ideal) ((x : ℝ) : EReal)
  have hj := fix_eq x (t ((gOf (F := Ideal) ((x : ℝ) : EReal)).toNat + 3)) (t ((gOf (F := Ideal) ((x : ℝ) : EReal)).toNat + 4)) (gOf (F := Ideal) ((x : ℝ) : EReal)) hg
  have e : jOf T ((x : ℝ) : EReal) = fix (F := Ideal) (cs ((x : ℝ) : EReal)) (cs (gOf (F := Ideal) ((x : ℝ) : EReal)))
      (cs ((t ((gOf (F := Ideal) ((x : ℝ) : EReal)).toNat + 3) : ℝ) : EReal)) (cs ((t ((gOf (F := Ideal) ((x : ℝ) : EReal)).toNat + 4) : ℝ) : EReal)) l0 := by
    rw [← kn_eq h hg (k := 3) (by omega), ← kn_eq h hg (k := 4) (by omega)]
    rfl
  rw [← e] at hj
  generalize (jOf T ((x : ℝ) : EReal)).toNat = j at hj ⊢
  generalize (gOf (F := Ideal) ((x : ℝ) : EReal)).toNat = g at hj n1 n2 hg ⊢
  unfold At
  have m34 := h.le (g + 3) (by omega)
  unfold bit at hj
  by_cases c1 : t (g + 4) ≤ x
  · have c2 : ¬ x < t (g + 3) := by linarith
    rw [if_pos c1, if_neg c2] at hj
    by_cases c3 : g = 124
    · have : j = 124 := by omega
      subst this c3
      exact ⟨le_refl _, .inr (by linarith), .inl rfl⟩
    · have : j = g + 1 := by omega
      subst this
      by_cases c4 : g = 123
      · exact ⟨by omega, .inr c1, .inl (by omega)⟩
      refine ⟨by omega, .inr c1, ?_⟩
      have n5 := h.lower (g + 2) (by omega) (by omega)
      have n4 : 125 * x < (g : ℝ) + 1 := by
        rcases n2 with n2 | n2
        · omega
        · exact n2
      right
      push_cast at n5
      rw [show g + 1 + 4 = g + 2 + 3 by omega]
      linarith
  · rw [if_neg c1] at hj
    by_cases c2 : x < t (g + 3)
    · rw [if_pos c2] at hj
      by_cases c3 : g = 0
      · have : j = 0 := by omega
        subst this c3
        exact ⟨by omega, .inl rfl, .inr (by linarith)⟩
      · have : g = j + 1 := by omega
        subst this
        by_cases c4 : j = 0
        · exact ⟨by omega, .inl c4, .inr c2⟩
        refine ⟨by omega, ?_, .inr c2⟩
        have n5 := h.upper j (by omega) (by omega)
        have n4 : ((j + 1 : ℕ) : ℝ) ≤ 125 * x := by
          rcases n1 with n1 | n1
          · omega
          · exact n1
        right
        push_cast at n4
        linarith
    · rw [if_neg c2] at hj
      have : j = g := by omega
      subst this
      exact ⟨hg, .inr (by linarith), .inr (by linarith)⟩

/-! ## The weights -/

/-- How far `x` is from `a` to `b`. -/
def al (x a b : ℝ) : ℝ := (x - a) / (b - a)

/-- De Boor's four weights in the interval between `t3` and `t4`. -/
def boor (x t1 t2 t3 t4 t5 t6 : ℝ) : ℕ → ℝ :=
  sel4 ((1 - al x t3 t4) * ((1 - al x t2 t4) * (1 - al x t1 t4)))
    ((1 - al x t3 t4) * ((1 - al x t2 t4) * al x t1 t4 + al x t2 t4 * (1 - al x t2 t5)) + al x t3 t4 * ((1 - al x t3 t5) * (1 - al x t2 t5)))
    ((1 - al x t3 t4) * (al x t2 t4 * al x t2 t5) + al x t3 t4 * ((1 - al x t3 t5) * al x t2 t5 + al x t3 t5 * (1 - al x t3 t6)))
    (al x t3 t4 * (al x t3 t5 * al x t3 t6))

/-- The weights of interval `i`. -/
def wR (t : ℕ → ℝ) (x : ℝ) (i : ℕ) : ℕ → ℝ :=
  boor x (t (i + 1)) (t (i + 2)) (t (i + 3)) (t (i + 4)) (t (i + 5)) (t (i + 6))

theorem div_real {b : ℝ} (hb : b ≠ 0) (a : ℝ) : Ideal.div ((a : ℝ) : EReal) ((b : ℝ) : EReal) = ((a / b : ℝ) : EReal) := by
  rw [Ideal.div_coe hb, ← EReal.coe_mul]
  congr 1
  ring

/-- The kernel's weights in the reals, before any of it is simplified. -/
def coxR (x t1 t2 t3 t4 t5 t6 : ℝ) : ℕ → ℝ :=
  sel4 ((t4 - x) * ((t4 - x) * ((t4 - x) * (1 / (t4 - t3)) / (t4 - t2)) / (t4 - t1)))
    ((x - t1) * ((t4 - x) * ((t4 - x) * (1 / (t4 - t3)) / (t4 - t2)) / (t4 - t1)) +
      (t5 - x) * (((x - t2) * ((t4 - x) * (1 / (t4 - t3)) / (t4 - t2)) + (t5 - x) * ((x - t3) * (1 / (t4 - t3)) / (t5 - t3))) / (t5 - t2)))
    ((x - t2) * (((x - t2) * ((t4 - x) * (1 / (t4 - t3)) / (t4 - t2)) + (t5 - x) * ((x - t3) * (1 / (t4 - t3)) / (t5 - t3))) / (t5 - t2)) +
      (t6 - x) * ((x - t3) * ((x - t3) * (1 / (t4 - t3)) / (t5 - t3)) / (t6 - t3)))
    ((x - t3) * ((x - t3) * ((x - t3) * (1 / (t4 - t3)) / (t5 - t3)) / (t6 - t3)))

theorem wts_real {x t1 t2 t3 t4 t5 t6 : ℝ} (h12 : t1 ≤ t2) (h23 : t2 ≤ t3) (h34 : t3 < t4) (h45 : t4 ≤ t5) (h56 : t5 ≤ t6) (r : ℕ) :
    wts (F := Ideal) (cs ((x : ℝ) : EReal)) (cs ((t1 : ℝ) : EReal)) (cs ((t2 : ℝ) : EReal)) (cs ((t3 : ℝ) : EReal)) (cs ((t4 : ℝ) : EReal))
      (cs ((t5 : ℝ) : EReal)) (cs ((t6 : ℝ) : EReal)) r l0 = ((coxR x t1 t2 t3 t4 t5 t6 r : ℝ) : EReal) := by
  have e (a b : ℝ) : b - x + (x - a) = b - a := by ring
  have d34 : t4 - t3 ≠ 0 := by linarith
  have d24 : t4 - t2 ≠ 0 := by linarith
  have d14 : t4 - t1 ≠ 0 := by linarith
  have d35 : t5 - t3 ≠ 0 := by linarith
  have d25 : t5 - t2 ≠ 0 := by linarith
  have d36 : t6 - t3 ≠ 0 := by linarith
  unfold coxR wts
  match r with
  | 0 | 1 | 2 | _ + 3 =>
    simp only [sel4, mulf, addf, subf, divf, broadcast, Ideal.mulf_def, Ideal.addf_def, Ideal.subf_def, Ideal.divf_def, ofBits_1,
      ← EReal.coe_sub, ← EReal.coe_add, ← EReal.coe_mul, e, div_real d34, div_real d24, div_real d14, div_real d35, div_real d25, div_real d36]

/-- The two ways to the weights agree. -/
theorem cox_boor {x t1 t2 t3 t4 t5 t6 : ℝ} (h12 : t1 ≤ t2) (h23 : t2 ≤ t3) (h34 : t3 < t4) (h45 : t4 ≤ t5) (h56 : t5 ≤ t6) (r : ℕ) :
    coxR x t1 t2 t3 t4 t5 t6 r = boor x t1 t2 t3 t4 t5 t6 r := by
  have d34 : t4 - t3 ≠ 0 := by linarith
  have d24 : t4 - t2 ≠ 0 := by linarith
  have d14 : t4 - t1 ≠ 0 := by linarith
  have d35 : t5 - t3 ≠ 0 := by linarith
  have d25 : t5 - t2 ≠ 0 := by linarith
  have d36 : t6 - t3 ≠ 0 := by linarith
  unfold coxR boor al
  match r with
  | 0 | 1 | 2 | _ + 3 =>
    simp only [sel4]
    field_simp
    all_goals ring

/-- The kernel's weights are de Boor's. -/
theorem wOf_eq {T : S132.Idx → Ideal .f32} {t : ℕ → ℝ} (h : Knots T t) (x : ℝ) (r : ℕ) :
    wOf T ((x : ℝ) : EReal) r = ((wR t x (jOf T ((x : ℝ) : EReal)).toNat r : ℝ) : EReal) := by
  have hj := jOf_le T ((x : ℝ) : EReal)
  unfold wOf wAt wR
  rw [kn_eq h hj (k := 1) (by omega), kn_eq h hj (k := 2) (by omega), kn_eq h hj (k := 3) (by omega), kn_eq h hj (k := 4) (by omega),
    kn_eq h hj (k := 5) (by omega), kn_eq h hj (k := 6) (by omega)]
  have o (k : ℕ) (hk : k ≤ 5) := h.le ((jOf T ((x : ℝ) : EReal)).toNat + k) (by omega)
  rw [wts_real (o 1 (by omega)) (o 2 (by omega)) (At.lt h (jOf_at h x)) (o 4 (by omega)) (o 5 (by omega)),
    cox_boor (o 1 (by omega)) (o 2 (by omega)) (At.lt h (jOf_at h x)) (o 4 (by omega)) (o 5 (by omega))]

end Cert.Spline
-- ==== Proof.RefEval.lean ====
module

public import proofs.«01_k».proof.Proof.RefForm
public import proofs.«01_k».proof.Proof.Knots
public import Idealize.ShloMosaic.Lib.StableHlo.Predicate

@[expose] public section

/-!
The reference's parts read at one query: the knot it finds, the weights and the control points' places.
-/

noncomputable section

namespace Cert.Boor

open Cert.ReferenceIdeal Cert.ReferenceIdeal.Gen Idealize.ShloMosaic Cert.Spline
open Cert.Kernel (ix1 ix2)

variable [Cert.Kernel.Facts]

/-- Query `n` in a vector over the queries. -/
def q1 (n : Fin 131072) : S131072.Idx := fun a => match a with
  | 0 => n

/-- Query `n` in a column. -/
def qc (n : Fin 131072) : S131072x1.Idx := fun a => match a with
  | 0 => n
  | 1 => (0 : Fin 1)

/-- Query `n` and place `c` of four. -/
def q4 (n : Fin 131072) (c : Fin 4) : S131072x4.Idx := fun a => match a with
  | 0 => n
  | 1 => c

theorem col_bc {α : Type} (x : S131072.Idx → α) (n : Fin 131072) :
    broadcastInDim S131072x1 ![0] bcast_S131072_S131072x1_0 x (qc n) = x (q1 n) :=
  congrArg x (funext fun a => match a with
    | 0 => rfl)

theorem wide_bc {α : Type} (x : S131072x1.Idx → α) (n : Fin 131072) (c : Fin 4) :
    broadcastInDim S131072x4 ![0, 1] bcast_S131072x1_S131072x4_0_1 x (q4 n c) = x (qc n) :=
  congrArg x (funext fun a => match a with
    | 0 => rfl
    | 1 => rfl)

/-! ## The knot below -/

theorem one_bc (T : FVec Ideal S132 .f32) (k : ℕ) (hk : k < 132) (h : S132.Slices ![k] S1) (n : Fin 131072) :
    broadcastInDim S131072 ![] bcast_S_S131072 (shapeCast _ (extractStridedSlice S1 ![k] T h) shapeCasts_S1_S_) (q1 n) = T (ix1 132 k) :=
  congrArg T (funext fun a => match a with
    | 0 => Fin.ext (by
        have h0 (i : Fin 1) : i.val = 0 := by omega
        exact (congrArg (k + ·) (h0 _)).trans (Nat.mod_eq_of_lt hk).symm))

theorem clampV_apply (T : FVec Ideal S132 .f32) (X : FVec Ideal S131072 .f32) (n : Fin 131072) :
    clampV T X (q1 n) = min (T (ix1 132 128)) (max (T (ix1 132 3)) (X (q1 n))) := by
  rw [← one_bc T 128 (by omega) slices_S132_S1_128 n, ← one_bc T 3 (by omega) slices_S132_S1_3 n]
  rfl

theorem maskV_apply (T : FVec Ideal S132 .f32) (X : FVec Ideal S131072 .f32) (n : Fin 131072) (k : Fin 132) :
    maskV T X (StableHlo.Predicate.ij n k) = BitVec.ofBool (decide (T (ix1 132 k.val) ≤ clampV T X (q1 n))) := by
  have e1 : broadcastInDim S131072x132 ![0, 1] bcast_S1x132_S131072x132_0_1 (broadcastInDim S1x132 ![1] bcast_S132_S1x132_1 T)
      (StableHlo.Predicate.ij n k) = T (ix1 132 k.val) :=
    congrArg T (funext fun a => match a with
      | 0 => Fin.ext (Nat.mod_eq_of_lt k.isLt).symm)
  have e2 : broadcastInDim S131072x132 ![0, 1] bcast_S131072x1_S131072x132_0_1 (broadcastInDim S131072x1 ![0] bcast_S131072_S131072x1_0 (clampV T X))
      (StableHlo.Predicate.ij n k) = clampV T X (q1 n) :=
    congrArg (clampV T X) (funext fun a => match a with
      | 0 => rfl)
  rw [← e1, ← e2]
  rfl

/-- How many knots are at most `c`. -/
def cnt (t : ℕ → ℝ) (c : ℝ) : ℕ := (Finset.univ.filter fun k : Fin 132 => t k.val ≤ c).card

theorem lt_cnt {T : S132.Idx → Ideal .f32} {t : ℕ → ℝ} (h : Knots T t) {c : ℝ} {k : ℕ} (hk : k < 132) : k < cnt t c ↔ t k ≤ c := by
  constructor
  · intro hc
    by_contra hn
    have : cnt t c ≤ (Finset.range k).card := by
      refine Finset.card_le_card_of_injOn (fun a => a.val) ?_ (fun a _ b _ e => Fin.ext e)
      intro a ha
      have ha := (Finset.mem_filter.mp ha).2
      refine Finset.mem_coe.mpr (Finset.mem_range.mpr ?_)
      by_contra hak
      change ¬ a.val < k at hak
      exact hn ((h.mono (by omega) a.isLt).trans ha)
    rw [Finset.card_range] at this
    omega
  · intro hc
    have : (Finset.univ.filter fun a : Fin 132 => a.val < k + 1).card ≤ cnt t c := by
      refine Finset.card_le_card fun a ha => ?_
      have ha := (Finset.mem_filter.mp ha).2
      exact Finset.mem_filter.mpr ⟨Finset.mem_univ _, (h.mono (by omega) hk).trans hc⟩
    have e : (Finset.univ.filter fun a : Fin 132 => a.val < k + 1).card = k + 1 := by
      rw [Fin.card_filter_val_lt]
      omega
    omega

theorem cnt_le (t : ℕ → ℝ) (c : ℝ) : cnt t c ≤ 132 := (Finset.card_le_univ _).trans (by simp)

/-- The count clipped to the knots that open an interval. -/
theorem clip_cnt : ∀ c : Fin 133, IntOp.minsi 127#32 (IntOp.maxsi 3#32 (BitVec.ofNat 32 c.val - 1#32)) = BitVec.ofNat 32 (min 127 (max 3 (c.val - 1))) := by
  decide

/-- The reference's interval holds the query. -/
theorem kV_at {T : FVec Ideal S132 .f32} {t : ℕ → ℝ} (h : Knots T t) {X : FVec Ideal S131072 .f32} {n : Fin 131072} {x : ℝ}
    (hx : X (q1 n) = ((x : ℝ) : EReal)) : ∃ i, kV T X (q1 n) = BitVec.ofNat 32 (i + 3) ∧ At t x i := by
  have hc : clampV T X (q1 n) = ((min (t 128) (max (t 3) x) : ℝ) : EReal) := by
    rw [clampV_apply, hx, h.val 128 (by omega), h.val 3 (by omega)]
    push_cast
    rfl
  have hn : Host.reduce IntOp.addi (extui 32 (maskV T X) natLt_1_32) (constantI S_ 32 0#32) reducesTo_S131072x132_S131072_d1 h_S_ (q1 n) =
      BitVec.ofNat 32 (cnt t (min (t 128) (max (t 3) x))) := by
    have hle := cnt_le t (min (t 128) (max (t 3) x))
    apply BitVec.eq_of_toNat_eq
    rw [StableHlo.Predicate.toNat_reduce_count_cols (by omega), BitVec.toNat_ofNat, Nat.mod_eq_of_lt (by omega)]
    refine congrArg Finset.card (Finset.filter_congr fun k _ => ?_)
    change maskV T X (StableHlo.Predicate.ij n k) = 1#1 ↔ _
    have e : T (ix1 132 k.val) ≤ clampV T X (q1 n) ↔ t k.val ≤ min (t 128) (max (t 3) x) := by
      rw [hc, h.val _ k.isLt]
      exact EReal.coe_le_coe_iff
    rw [maskV_apply, StableHlo.Predicate.ofBool_eq_one_iff, decide_eq_true_eq, e]
  have hk : kV T X (q1 n) = BitVec.ofNat 32 (min 127 (max 3 (cnt t (min (t 128) (max (t 3) x)) - 1))) := by
    rw [← clip_cnt ⟨cnt t (min (t 128) (max (t 3) x)), Nat.lt_succ_of_le (cnt_le _ _)⟩, ← hn]
    rfl
  have hlt (k : ℕ) (hk : k < 132) := lt_cnt h (c := min (t 128) (max (t 3) x)) hk
  generalize cnt t (min (t 128) (max (t 3) x)) = N at hk hlt
  refine ⟨min 127 (max 3 (N - 1)) - 3, ?_, by omega, ?_, ?_⟩
  · rw [hk]
    exact congrArg (BitVec.ofNat 32) (by omega)
  · by_cases c : N ≤ 4
    · left
      omega
    · right
      have h1 : t (min 127 (max 3 (N - 1)) - 3 + 3) ≤ min (t 128) (max (t 3) x) := (hlt _ (by omega)).mp (by omega)
      have h2 := h.first
      have h3 := h.mono (a := 4) (b := min 127 (max 3 (N - 1)) - 3 + 3) (by omega) (by omega)
      have h4 := h1.trans (min_le_right _ _)
      rcases le_max_iff.mp h4 with h5 | h5
      · linarith
      · exact h5
  · by_cases c : 128 ≤ N
    · left
      omega
    · right
      have h1 : ¬ t (min 127 (max 3 (N - 1)) - 3 + 4) ≤ min (t 128) (max (t 3) x) := fun e => by
        have := (hlt _ (by omega)).mpr e
        omega
      have h2 := h.last
      have h3 := h.mono (a := min 127 (max 3 (N - 1)) - 3 + 4) (b := 127) (by omega) (by omega)
      by_contra h4
      exact h1 (le_min (by linarith) (le_max_of_le_right (by linarith)))

/-! ## The weights -/

theorem slt_zero {b : ℕ} (hb : b < 2147483648) : IntOp.cmpi .slt (BitVec.ofNat 32 b) 0#32 = 0#1 := by
  have e : (BitVec.ofNat 32 b).slt 0#32 = false := by
    rw [BitVec.slt_eq_decide, StableHlo.Predicate.toInt_ofNat_small _ (by omega)]
    simp
  change BitVec.ofBool ((BitVec.ofNat 32 b).slt 0#32) = _
  rw [e]
  rfl

theorem atV_apply (T : FVec Ideal S132 .f32) (I : IVec S131072 32) (n : Fin 131072) {b : ℕ} (hb : b < 132)
    (hI : I (q1 n) = BitVec.ofNat 32 b) : atV T I (q1 n) = T (ix1 132 b) := by
  have e0 : q1 n = Shape.Idx.ofFin n := funext fun a => match a with
    | 0 => rfl
  have e1 : broadcastInDim S131072x1 ![0] bcast_S131072_S131072x1_0 (select (cmpi .slt I (sp 0#32)) (addi I (sp 132#32)) I)
      (StableHlo.Predicate.ixP n) = BitVec.ofNat 32 b := by
    have e2 : broadcastInDim S131072x1 ![0] bcast_S131072_S131072x1_0 (select (cmpi .slt I (sp 0#32)) (addi I (sp 132#32)) I)
        (StableHlo.Predicate.ixP n) = Scalar.select (IntOp.cmpi .slt (I (q1 n)) 0#32) (I (q1 n) + 132#32) (I (q1 n)) :=
      congrArg (select (cmpi .slt I (sp 0#32)) (addi I (sp 132#32)) I) (show _ = q1 n from funext fun a => match a with
        | 0 => rfl)
    rw [e2, hI, slt_zero (by omega)]
    rfl
  unfold atV
  rw [e0, StableHlo.Predicate.gather_take _ rfl rfl rfl rfl T _ n (by omega)]
  refine congrArg T (funext fun a => match a with
    | 0 => Fin.ext ?_)
  change min (broadcastInDim S131072x1 ![0] bcast_S131072_S131072x1_0 (select (cmpi .slt I (sp 0#32)) (addi I (sp 132#32)) I)
    (StableHlo.Predicate.ixP n)).toInt.toNat (132 - 1) = b % 132
  rw [e1, StableHlo.Predicate.toInt_ofNat_small _ (by omega)]
  omega

theorem loV_apply {K : IVec S131072 32} {n : Fin 131072} {i : ℕ} (hK : K (q1 n) = BitVec.ofNat 32 (i + 3)) (hi : i ≤ 124) {j : ℕ} (hj : j ≤ 3) :
    loV K (BitVec.ofNat 32 j) (q1 n) = BitVec.ofNat 32 (i + j) := by
  have e : loV K (BitVec.ofNat 32 j) (q1 n) = BitVec.ofNat 32 j + K (q1 n) - 3#32 := rfl
  rw [e, hK]
  apply BitVec.eq_of_toNat_eq
  simp only [BitVec.toNat_sub, BitVec.toNat_add, BitVec.toNat_ofNat]
  omega

theorem hiV_apply {K : IVec S131072 32} {n : Fin 131072} {i : ℕ} (hK : K (q1 n) = BitVec.ofNat 32 (i + 3)) (hi : i ≤ 124) {j r : ℕ} (hj : j ≤ 3)
    (hr : r ≤ 3) : hiV K (BitVec.ofNat 32 j) (BitVec.ofNat 32 r) (q1 n) = BitVec.ofNat 32 (i + (j + 4 - r)) := by
  have e : hiV K (BitVec.ofNat 32 j) (BitVec.ofNat 32 r) (q1 n) = BitVec.ofNat 32 j + K (q1 n) + 1#32 - BitVec.ofNat 32 r := rfl
  rw [e, hK]
  apply BitVec.eq_of_toNat_eq
  simp only [BitVec.toNat_sub, BitVec.toNat_add, BitVec.toNat_ofNat]
  omega

theorem alV_apply {T : FVec Ideal S132 .f32} {t : ℕ → ℝ} (h : Knots T t) {X : FVec Ideal S131072 .f32} {n : Fin 131072} {x : ℝ}
    (hx : X (q1 n) = ((x : ℝ) : EReal)) {K : IVec S131072 32} {i : ℕ} (hK : K (q1 n) = BitVec.ofNat 32 (i + 3)) (ha : At t x i)
    {j r : ℕ} (hj : j ≤ 3) (hr : r ≤ j) (hr1 : 1 ≤ r) :
    alV T X K (BitVec.ofNat 32 j) (BitVec.ofNat 32 r) (qc n) = ((al x (t (i + j)) (t (i + (j + 4 - r))) : ℝ) : EReal) := by
  have e : alV T X K (BitVec.ofNat 32 j) (BitVec.ofNat 32 r) (qc n) =
      Ideal.div (X (q1 n) - atV T (loV K (BitVec.ofNat 32 j)) (q1 n))
        (atV T (hiV K (BitVec.ofNat 32 j) (BitVec.ofNat 32 r)) (q1 n) - atV T (loV K (BitVec.ofNat 32 j)) (q1 n)) :=
    col_bc _ n
  have hi := ha.1
  have h1 := h.mono (a := i + j) (b := i + 3) (by omega) (by omega)
  have h2 := At.lt h ha
  have h3 := h.mono (a := i + 3 + 1) (b := i + (j + 4 - r)) (by omega) (by omega)
  rw [e, hx, atV_apply T _ n (by omega) (loV_apply hK hi hj), atV_apply T _ n (by omega) (hiV_apply hK hi hj (by omega)),
    h.val _ (by omega), h.val _ (by omega), ← EReal.coe_sub, ← EReal.coe_sub, div_real (by linarith)]
  rfl

/-- An entry of the identity matrix. -/
def eye (r c : ℕ) : ℝ := if r = c then 1 else 0

theorem rowV_apply (r : Fin 4) (h : S4x4.Slices ![r.val, 0] S1x4) (n : Fin 131072) (c : Fin 4) :
    rowV (F := Ideal) r.val h (q4 n c) = ((eye r.val c.val : ℝ) : EReal) := by
  have e4 : ∀ r c : Fin 4, IntOp.cmpi .eq (BitVec.ofNat 32 r.val + 0#32) (BitVec.ofNat 32 c.val) = if r = c then 1#1 else 0#1 := by decide
  have e3 : eyeV (F := Ideal) (ix2 4 4 r.val c.val) = ((eye r.val c.val : ℝ) : EReal) := by
    have e5 : eyeV (F := Ideal) (ix2 4 4 r.val c.val) =
        FloatOps.uitofp .f32 (IntOp.cmpi .eq (BitVec.ofNat 32 (r.val % 4) + 0#32) (BitVec.ofNat 32 (c.val % 4))) := rfl
    rw [e5, Nat.mod_eq_of_lt r.isLt, Nat.mod_eq_of_lt c.isLt, e4]
    unfold eye
    by_cases hrc : r = c
    · subst hrc
      simp only [if_true]
      change (((1#1 : BitVec 1).toNat : ℝ) : EReal) = _
      simp
    · have hne : r.val ≠ c.val := fun e => hrc (Fin.ext e)
      simp only [hrc, hne, if_false]
      change (((0#1 : BitVec 1).toNat : ℝ) : EReal) = _
      simp
  rw [← e3]
  unfold rowV
  have e1 : ∀ v : FVec Ideal S4 .f32, broadcastInDim S131072x4 ![0, 1] bcast_S1x4_S131072x4_0_1 (broadcastInDim S1x4 ![1] bcast_S4_S1x4_1 v) (q4 n c)
      = v (ix1 4 c.val) := fun v => congrArg v (funext fun a => match a with
    | 0 => Fin.ext (Nat.mod_eq_of_lt c.isLt).symm)
  rw [e1]
  have e2 : (Shape.reshapeEquiv shapeCasts_S1x4_S4) (ix1 4 c.val) = ix2 1 4 0 c.val :=
    Shape.reshapeEquiv_eq_of_rowMajor _ (by
      rw [Shape.rowMajor_val_one, Shape.rowMajor_val_two]
      change 0 % 1 * 4 + c.val % 4 = c.val % 4
      omega)
  refine congrArg (eyeV (F := Ideal)) (funext fun a => ?_)
  change (⟨![r.val, 0] a + ((Shape.reshapeEquiv shapeCasts_S1x4_S4) (ix1 4 c.val) _).val, _⟩ : Fin _) = _
  rw [e2]
  match a with
  | 0 => exact Fin.ext (Nat.mod_eq_of_lt r.isLt).symm
  | 1 => exact Fin.ext (Nat.zero_add _)

theorem blendV_apply (a : FVec Ideal S131072x1 .f32) (p q : FVec Ideal S131072x4 .f32) (n : Fin 131072) (c : Fin 4) {a' p' q' : ℝ}
    (ha : a (qc n) = ((a' : ℝ) : EReal)) (hp : p (q4 n c) = ((p' : ℝ) : EReal)) (hq : q (q4 n c) = ((q' : ℝ) : EReal)) :
    blendV a p q (q4 n c) = (((1 - a') * p' + a' * q' : ℝ) : EReal) := by
  have e1 := wide_bc a n c
  have e2 := wide_bc (subf (broadcastInDim S131072x1 ![] bcast_S_S131072x1 (constant (F := Ideal) S_ .f32 0x3F800000#32)) a) n c
  have e : blendV a p q (q4 n c) = ((Scalar.ofBits .f32 0x3F800000#32 : Ideal .f32) - a (qc n)) * p (q4 n c) + a (qc n) * q (q4 n c) := by
    unfold blendV
    simp only [addf, mulf, Ideal.addf_def, Ideal.mulf_def, e1, e2]
    rfl
  rw [e, ha, hp, hq, ofBits_1, ← EReal.coe_sub, ← EReal.coe_mul, ← EReal.coe_mul, ← EReal.coe_add]

/-- The rounds of blending the identity's rows, column by column. -/
theorem blend_rows (x t1 t2 t3 t4 t5 t6 : ℝ) (c : Fin 4) :
    (1 - al x t3 t4) * ((1 - al x t2 t4) * ((1 - al x t1 t4) * eye 0 c.val + al x t1 t4 * eye 1 c.val)
        + al x t2 t4 * ((1 - al x t2 t5) * eye 1 c.val + al x t2 t5 * eye 2 c.val))
      + al x t3 t4 * ((1 - al x t3 t5) * ((1 - al x t2 t5) * eye 1 c.val + al x t2 t5 * eye 2 c.val)
        + al x t3 t5 * ((1 - al x t3 t6) * eye 2 c.val + al x t3 t6 * eye 3 c.val)) = boor x t1 t2 t3 t4 t5 t6 c.val := by
  unfold boor eye
  fin_cases c <;> simp [Cert.Kernel.sel4]

/-- The reference's weights. -/
theorem basisV_apply {T : FVec Ideal S132 .f32} {t : ℕ → ℝ} (h : Knots T t) {X : FVec Ideal S131072 .f32} {n : Fin 131072} {x : ℝ}
    (hx : X (q1 n) = ((x : ℝ) : EReal)) {i : ℕ} (hK : kV T X (q1 n) = BitVec.ofNat 32 (i + 3)) (ha : At t x i) (c : Fin 4) :
    basisV T X (q4 n c) = ((wR t x i c.val : ℝ) : EReal) := by
  have a33 := alV_apply h hx hK ha (j := 3) (r := 3) (by omega) (by omega) (by omega)
  have a22 := alV_apply h hx hK ha (j := 2) (r := 2) (by omega) (by omega) (by omega)
  have a11 := alV_apply h hx hK ha (j := 1) (r := 1) (by omega) (by omega) (by omega)
  have a21 := alV_apply h hx hK ha (j := 2) (r := 1) (by omega) (by omega) (by omega)
  have a32 := alV_apply h hx hK ha (j := 3) (r := 2) (by omega) (by omega) (by omega)
  have a31 := alV_apply h hx hK ha (j := 3) (r := 1) (by omega) (by omega) (by omega)
  have r0 := rowV_apply 0 slices_S4x4_S1x4_0_0 n c
  have r1 := rowV_apply 1 slices_S4x4_S1x4_1_0 n c
  have r2 := rowV_apply 2 slices_S4x4_S1x4_2_0 n c
  have r3 := rowV_apply 3 slices_S4x4_S1x4_3_0 n c
  unfold basisV
  have m1 := blendV_apply _ _ _ n c a21 r1 r2
  refine (blendV_apply _ _ _ n c a33 (blendV_apply _ _ _ n c a22 (blendV_apply _ _ _ n c a11 r0 r1) m1)
    (blendV_apply _ _ _ n c a32 m1 (blendV_apply _ _ _ n c a31 r2 r3))).trans ?_
  exact congrArg (fun r : ℝ => (r : EReal)) (blend_rows x _ _ _ _ _ _ c)

/-! ## The places -/

theorem idxV_apply {K : IVec S131072 32} {n : Fin 131072} {i : ℕ} (hK : K (q1 n) = BitVec.ofNat 32 (i + 3)) (hi : i ≤ 124) (c : Fin 4) :
    idxV K (q4 n c) = BitVec.ofNat 32 (i + c.val) := by
  have e1 : broadcastInDim S131072x4 ![0, 1] bcast_S131072x1_S131072x4_0_1 (broadcastInDim S131072x1 ![0] bcast_S131072_S131072x1_0 K) (q4 n c) = K (q1 n) :=
    (wide_bc _ n c).trans (col_bc K n)
  have e : idxV K (q4 n c) = K (q1 n) + (4294967293#32 + BitVec.ofNat 32 c.val) := by
    rw [← e1]
    rfl
  have := c.isLt
  rw [e, hK]
  apply BitVec.eq_of_toNat_eq
  simp only [BitVec.toNat_add, BitVec.toNat_ofNat]
  omega

/-- Query `n` and one of its 64 control points. -/
def q64 (n : Fin 131072) (a b c : Fin 4) : S131072x4x4x4.Idx := fun i => match i with
  | 0 => n
  | 1 => a
  | 2 => b
  | 3 => c

/-- The same with a coordinate of the point. -/
def q192 (n : Fin 131072) (a b c : Fin 4) (d : Fin 3) : S131072x4x4x4x3.Idx := fun i => match i with
  | 0 => n
  | 1 => a
  | 2 => b
  | 3 => c
  | 4 => d

/-- Query `n` and a coordinate. -/
def q3 (n : Fin 131072) (d : Fin 3) : S131072x3.Idx := fun i => match i with
  | 0 => n
  | 1 => d

theorem ax_bc {α : Type} (x : S131072x4.Idx → α) (n : Fin 131072) (a b c : Fin 4) :
    broadcastInDim S131072x4x4x4 ![0, 1, 2, 3] bcast_S131072x4x1x1_S131072x4x4x4_0_1_2_3
      (broadcastInDim S131072x4x1x1 ![0, 1] bcast_S131072x4_S131072x4x1x1_0_1 x) (q64 n a b c) = x (q4 n a) :=
  congrArg x (funext fun i => match i with
    | 0 => rfl
    | 1 => rfl)

theorem cubeV_apply (bx bY bz : FVec Ideal S131072x4 .f32) (n : Fin 131072) (a b c : Fin 4) :
    cubeV bx bY bz (q64 n a b c) = bx (q4 n a) * bY (q4 n b) * bz (q4 n c) := by
  have e1 : broadcastInDim S131072x4x4x4 ![0, 1, 2, 3] bcast_S131072x4x4x1_S131072x4x4x4_0_1_2_3
      (broadcastInDim S131072x4x4x1 ![0, 1, 2, 3] bcast_S131072x4x1x1_S131072x4x4x1_0_1_2_3
          (broadcastInDim S131072x4x1x1 ![0, 1] bcast_S131072x4_S131072x4x1x1_0_1 bx)) (q64 n a b c) = bx (q4 n a) :=
    congrArg bx (funext fun i => match i with
      | 0 => rfl
      | 1 => rfl)
  have e2 : broadcastInDim S131072x4x4x4 ![0, 1, 2, 3] bcast_S131072x4x4x1_S131072x4x4x4_0_1_2_3
      (broadcastInDim S131072x4x4x1 ![0, 1, 2, 3] bcast_S131072x1x4x1_S131072x4x4x1_0_1_2_3
          (broadcastInDim S131072x1x4x1 ![0, 2] bcast_S131072x4_S131072x1x4x1_0_2 bY)) (q64 n a b c) = bY (q4 n b) :=
    congrArg bY (funext fun i => match i with
      | 0 => rfl
      | 1 => rfl)
  have e3 : broadcastInDim S131072x4x4x4 ![0, 1, 2, 3] bcast_S131072x1x1x4_S131072x4x4x4_0_1_2_3
      (broadcastInDim S131072x1x1x4 ![0, 3] bcast_S131072x4_S131072x1x1x4_0_3 bz) (q64 n a b c) = bz (q4 n c) :=
    congrArg bz (funext fun i => match i with
      | 0 => rfl
      | 1 => rfl)
  rw [← e1, ← e2, ← e3]
  rfl

theorem flatV_apply {ix iy iz : IVec S131072x4 32} {n : Fin 131072} {a b c : Fin 4} {x y z : ℕ} (hx : ix (q4 n a) = BitVec.ofNat 32 x)
    (hy : iy (q4 n b) = BitVec.ofNat 32 y) (hz : iz (q4 n c) = BitVec.ofNat 32 z) :
    flatV ix iy iz (q64 n a b c) = BitVec.ofNat 32 (x + 128 * (y + 128 * z)) := by
  have e1 := ax_bc ix n a b c
  have e2 : broadcastInDim S131072x4x4x4 ![0, 1, 2, 3] bcast_S131072x1x4x4_S131072x4x4x4_0_1_2_3
      (broadcastInDim S131072x1x4x4 ![0, 1, 2, 3] bcast_S131072x1x4x1_S131072x1x4x4_0_1_2_3
            (broadcastInDim S131072x1x4x1 ![0, 2] bcast_S131072x4_S131072x1x4x1_0_2 iy)) (q64 n a b c) = iy (q4 n b) :=
    congrArg iy (funext fun i => match i with
      | 0 => rfl
      | 1 => rfl)
  have e3 : broadcastInDim S131072x4x4x4 ![0, 1, 2, 3] bcast_S131072x1x4x4_S131072x4x4x4_0_1_2_3
      (broadcastInDim S131072x1x4x4 ![0, 1, 2, 3] bcast_S131072x1x1x4_S131072x1x4x4_0_1_2_3
            (broadcastInDim S131072x1x1x4 ![0, 3] bcast_S131072x4_S131072x1x1x4_0_3 iz)) (q64 n a b c) = iz (q4 n c) :=
    congrArg iz (funext fun i => match i with
      | 0 => rfl
      | 1 => rfl)
  have e : flatV ix iy iz (q64 n a b c) = ix (q4 n a) + 128#32 * (iy (q4 n b) + 128#32 * iz (q4 n c)) := by
    rw [← e1, ← e2, ← e3]
    rfl
  rw [e, hx, hy, hz, ← BitVec.ofNat_mul, ← BitVec.ofNat_add, ← BitVec.ofNat_mul, ← BitVec.ofNat_add]

/-- Where the picked coordinate's place is read. -/
def qi (n : Fin 131072) (a b c : Fin 4) : S131072x4x4x4x1.Idx := fun i => match i with
  | 0 => n
  | 1 => a
  | 2 => b
  | 3 => c
  | 4 => (0 : Fin 1)

theorem pickV_apply (C : FVec Ideal S2097152x3 .f32) {I : IVec S131072x4x4x4 32} {n : Fin 131072} {a b c : Fin 4} (d : Fin 3) {r : ℕ}
    (hr : r < 2097152) (hI : I (q64 n a b c) = BitVec.ofNat 32 r) : pickV C I (q192 n a b c d) = C (ix2 2097152 3 r d.val) := by
  have e1 : broadcastInDim S131072x4x4x4x1 ![0, 1, 2, 3] bcast_S131072x4x4x4_S131072x4x4x4x1_0_1_2_3
      (select (cmpi .slt I (broadcastInDim S131072x4x4x4 ![] bcast_S_S131072x4x4x4 (constantI S_ 32 0#32)))
        (addi I (broadcastInDim S131072x4x4x4 ![] bcast_S_S131072x4x4x4 (constantI S_ 32 2097152#32))) I) (qi n a b c) = BitVec.ofNat 32 r := by
    have e2 : broadcastInDim S131072x4x4x4x1 ![0, 1, 2, 3] bcast_S131072x4x4x4_S131072x4x4x4x1_0_1_2_3
        (select (cmpi .slt I (broadcastInDim S131072x4x4x4 ![] bcast_S_S131072x4x4x4 (constantI S_ 32 0#32)))
          (addi I (broadcastInDim S131072x4x4x4 ![] bcast_S_S131072x4x4x4 (constantI S_ 32 2097152#32))) I) (qi n a b c) =
        Scalar.select (IntOp.cmpi .slt (I (q64 n a b c)) 0#32) (I (q64 n a b c) + 2097152#32) (I (q64 n a b c)) :=
      congrArg (select (cmpi .slt I (broadcastInDim S131072x4x4x4 ![] bcast_S_S131072x4x4x4 (constantI S_ 32 0#32)))
          (addi I (broadcastInDim S131072x4x4x4 ![] bcast_S_S131072x4x4x4 (constantI S_ 32 2097152#32))) I)
        (show _ = q64 n a b c from funext fun i => match i with
          | 0 => rfl
          | 1 => rfl
          | 2 => rfl
          | 3 => rfl)
    rw [e2, hI, slt_zero (by omega)]
    rfl
  unfold pickV
  generalize broadcastInDim S131072x4x4x4x1 ![0, 1, 2, 3] bcast_S131072x4x4x4_S131072x4x4x4x1_0_1_2_3
      (select (cmpi .slt I (broadcastInDim S131072x4x4x4 ![] bcast_S_S131072x4x4x4 (constantI S_ 32 0#32)))
        (addi I (broadcastInDim S131072x4x4x4 ![] bcast_S_S131072x4x4x4 (constantI S_ 32 2097152#32))) I) = J at e1
  have es : GatherDims.siIdx gather_S2097152x3_S131072x4x4x4x1_S131072x4x4x4x3_4_0_n_n_0_4_13 (q192 n a b c d) ⟨0, Nat.one_pos⟩ = qi n a b c :=
    funext fun i => match i with
      | 0 => rfl
      | 1 => rfl
      | 2 => rfl
      | 3 => rfl
      | 4 => rfl
  refine congrArg C (funext fun i => match i with
    | 0 => Fin.ext ?_
    | 1 => Fin.ext ?_)
  · change min (J (GatherDims.siIdx gather_S2097152x3_S131072x4x4x4x1_S131072x4x4x4x3_4_0_n_n_0_4_13 (q192 n a b c d) ⟨0, Nat.one_pos⟩)).toInt.toNat 2097151 + 0 + 0 = r % 2097152
    rw [es, e1, StableHlo.Predicate.toInt_ofNat_small _ (by omega)]
    omega
  · change 0 + 0 + d.val = d.val % 3
    omega

/-- The weighted sum over a query's control points. -/
theorem sumV_apply (W : FVec Ideal S131072x4x4x4 .f32) (G : FVec Ideal S131072x4x4x4x3 .f32) (n : Fin 131072) (d : Fin 3) :
    sumV W G (q3 n d) = ∑ p : Fin 4 × Fin 4 × Fin 4, W (q64 n p.1 p.2.1 p.2.2) * G (q192 n p.1 p.2.1 p.2.2 d) := by
  have hd (i : S131072x4x4x4x3.Idx) : reducesTo_S131072x4x4x4x3_S131072x3_d1_2_3.drop i = q3 n d ↔ i 0 = n ∧ i 4 = d := by
    constructor
    · intro h
      exact ⟨congrFun h 0, congrFun h 1⟩
    · rintro ⟨h0, h1⟩
      exact funext fun k => match k with
        | 0 => h0
        | 1 => h1
  have e : sumV W G (q3 n d) = (FloatOps.ofBits .f32 0x00000000#32 : Ideal .f32) +
      ∑ i ∈ Finset.univ.filter (fun i => reducesTo_S131072x4x4x4x3_S131072x3_d1_2_3.drop i = q3 n d),
        (mulf (broadcastInDim S131072x4x4x4x3 ![0, 1, 2, 3, 4] bcast_S131072x4x4x4x1_S131072x4x4x4x3_0_1_2_3_4
          (broadcastInDim S131072x4x4x4x1 ![0, 1, 2, 3] bcast_S131072x4x4x4_S131072x4x4x4x1_0_1_2_3 W)) G) i := rfl
  rw [e]
  have z : (FloatOps.ofBits .f32 0x00000000#32 : Ideal .f32) = (0 : EReal) := by
    simp [Ideal.ofBits, Ideal.ieee]
  rw [z, zero_add]
  refine Finset.sum_nbij' (fun i => ((i 1, i 2, i 3) : Fin 4 × Fin 4 × Fin 4)) (fun p => q192 n p.1 p.2.1 p.2.2 d) (fun _ _ => Finset.mem_univ _)
    (fun p _ => Finset.mem_filter.mpr ⟨Finset.mem_univ _, (hd _).mpr ⟨rfl, rfl⟩⟩) ?_ (fun _ _ => rfl) ?_
  · intro i hi
    obtain ⟨h0, h1⟩ := (hd i).mp (Finset.mem_filter.mp hi).2
    exact funext fun k => match k with
      | 0 => h0.symm
      | 1 => rfl
      | 2 => rfl
      | 3 => rfl
      | 4 => h1.symm
  · intro i hi
    obtain ⟨h0, h1⟩ := (hd i).mp (Finset.mem_filter.mp hi).2
    have hi' : i = q192 n (i 1) (i 2) (i 3) d := funext fun k => match k with
      | 0 => h0
      | 1 => rfl
      | 2 => rfl
      | 3 => rfl
      | 4 => h1
    have ew : broadcastInDim S131072x4x4x4x3 ![0, 1, 2, 3, 4] bcast_S131072x4x4x4x1_S131072x4x4x4x3_0_1_2_3_4
          (broadcastInDim S131072x4x4x4x1 ![0, 1, 2, 3] bcast_S131072x4x4x4_S131072x4x4x4x1_0_1_2_3 W) i = W (q64 n (i 1) (i 2) (i 3)) := by
      rw [hi']
      exact congrArg W (funext fun k => match k with
        | 0 => rfl
        | 1 => rfl
        | 2 => rfl
        | 3 => rfl)
    change broadcastInDim S131072x4x4x4x3 ![0, 1, 2, 3, 4] bcast_S131072x4x4x4x1_S131072x4x4x4x3_0_1_2_3_4
          (broadcastInDim S131072x4x4x4x1 ![0, 1, 2, 3] bcast_S131072x4x4x4_S131072x4x4x4x1_0_1_2_3 W) i * G i = _
    rw [ew, ← hi']

theorem colV_apply (Q : FVec Ideal S131072x3 .f32) (a : ℕ) (ha : a < 3) (h : S131072x3.Slices ![0, a] S131072x1) (n : Fin 131072) :
    colV Q a h (q1 n) = Q (ix2 131072 3 n.val a) := by
  have e2 : (Shape.reshapeEquiv shapeCasts_S131072x1_S131072) (q1 n) = qc n :=
    Shape.reshapeEquiv_eq_of_rowMajor _ (by
      rw [Shape.rowMajor_val_one, Shape.rowMajor_val_two]
      change n.val * 1 + 0 = n.val
      omega)
  unfold colV
  refine congrArg Q (funext fun i => ?_)
  change (⟨![0, a] i + ((Shape.reshapeEquiv shapeCasts_S131072x1_S131072) (q1 n) _).val, _⟩ : Fin _) = _
  rw [e2]
  match i with
  | 0 => exact Fin.ext ((Nat.zero_add _).trans (Nat.mod_eq_of_lt n.isLt).symm)
  | 1 => exact Fin.ext (Nat.mod_eq_of_lt ha).symm

/-- The reference at a query, from the intervals that hold its coordinates. -/
theorem refV_apply {Q : FVec Ideal S131072x3 .f32} {C : FVec Ideal S2097152x3 .f32} {TX TY TZ : FVec Ideal S132 .f32} {tx ty tz : ℕ → ℝ}
    (kx : Knots TX tx) (ky : Knots TY ty) (kz : Knots TZ tz) {n : Fin 131072} {x y z : ℝ} (hx : Q (ix2 131072 3 n.val 0) = ((x : ℝ) : EReal))
    (hy : Q (ix2 131072 3 n.val 1) = ((y : ℝ) : EReal)) (hz : Q (ix2 131072 3 n.val 2) = ((z : ℝ) : EReal)) (d : Fin 3) {jx jy jz : ℕ}
    (ax : At tx x jx) (ay : At ty y jy) (az : At tz z jz) :
    refV Q C TX TY TZ (q3 n d) = ∑ p : Fin 4 × Fin 4 × Fin 4,
      (((wR tx x jx p.1.val : ℝ) : EReal) * ((wR ty y jy p.2.1.val : ℝ) : EReal) * ((wR tz z jz p.2.2.val : ℝ) : EReal)) *
        C (ix2 2097152 3 (jx + p.1.val + 128 * (jy + p.2.1.val + 128 * (jz + p.2.2.val))) d.val) := by
  have hx' := (colV_apply Q 0 (by omega) slices_S131072x3_S131072x1_0_0 n).trans hx
  have hy' := (colV_apply Q 1 (by omega) slices_S131072x3_S131072x1_0_1 n).trans hy
  have hz' := (colV_apply Q 2 (by omega) slices_S131072x3_S131072x1_0_2 n).trans hz
  obtain ⟨ix, ex, ax'⟩ := kV_at kx hx'
  obtain ⟨iy, ey, ay'⟩ := kV_at ky hy'
  obtain ⟨iz, ez, az'⟩ := kV_at kz hz'
  obtain rfl := At.unique kx ax' ax
  obtain rfl := At.unique ky ay' ay
  obtain rfl := At.unique kz az' az
  unfold refV
  rw [sumV_apply]
  refine Finset.sum_congr rfl fun p _ => ?_
  have h1 := p.1.isLt
  have h2 := p.2.1.isLt
  have h3 := p.2.2.isLt
  have l1 := ax.1
  have l2 := ay.1
  have l3 := az.1
  rw [cubeV_apply, basisV_apply kx hx' ex ax, basisV_apply ky hy' ey ay, basisV_apply kz hz' ez az,
    pickV_apply C d (by omega) (flatV_apply (idxV_apply ex ax.1 p.1) (idxV_apply ey ay.1 p.2.1) (idxV_apply ez az.1 p.2.2))]

end Cert.Boor
-- ==== Proof.Flat.lean ====
module

public import proofs.«01_k».proof.Proof.Knots
public import proofs.«01_k».proof.Proof.Launch
public import Idealize.ShloMosaic.Lib.KernelVsHost

@[expose] public section

/-!
The control points in groups of twelve coordinates, and the kernel's sum as one sum over 64 control points.
-/

noncomputable section

namespace Cert.Kernel

open Idealize.ShloMosaic Cert.Spline
open Idealize.ShloMosaic.TcCoe

variable [Facts]

/-! ## The groups -/

/-- An array of groups that holds the control points `P` in order, twelve coordinates to a group. -/
def Holds (C : S524288x16.Idx → Ideal .f32) (P : S2097152x3.Idx → Ideal .f32) : Prop :=
  ∀ g p r c : ℕ, g < 524288 → p < 12 → c < 3 → 3 * r + c = 12 * g + p → C (ix2 524288 16 g p) = P (ix2 2097152 3 r c)

/-- The control points cut into groups of twelve coordinates and padded. -/
theorem pad_groups (P : S2097152x3.Idx → Ideal .f32) (v : S_.Idx → Ideal .f32) :
    Holds (pad S524288x16 ![0, 0] ![0, 4] ![0, 0] (shapeCast S524288x12 P Facts₀.shapeCasts_S2097152x3_S524288x12) v
      Facts₀.pads_S524288x12_S524288x16_000_040 Facts₀.h_S_) P := by
  intro g p r c hg hp hc h
  have e0 : g % 524288 = 0 + g % 524288 * (0 + 1) := by omega
  have e1 : p % 16 = 0 + p % 12 * (0 + 1) := by omega
  refine (pad_apply_of_inside (s := S524288x12) (t := S524288x16) (![0, 0] : Fin 2 → ℕ) (![0, 4] : Fin 2 → ℕ) (![0, 0] : Fin 2 → ℕ) _ _ _ _
    (ix2 524288 16 g p) (ix2 524288 12 g p) (fun a => match a with
      | 0 => e0
      | 1 => e1)).trans ?_
  refine congrArg P (Shape.reshapeEquiv_eq_of_rowMajor _ ?_)
  rw [Shape.rowMajor_val_two, Shape.rowMajor_val_two]
  change r % 2097152 * 3 + c % 3 = g % 524288 * 12 + p % 12
  omega

theorem groups_holds (m : (ℓ : Loc nD τ sig) → Buf (Elt Ideal) ℓ) (d : Dev nD) :
    Holds (groups m d) (m ((d.tc : Thread nD τ).loc main_arg1)) :=
  pad_groups (m ((d.tc : Thread nD τ).loc main_arg1)) (sitofp (F := Ideal) .f32 (constantI S_ 32 0#32))

/-- The place of a coordinate, counted in groups and counted in control points, in the first group. -/
theorem place_first {a b e u v k : ℕ} (hk : k < 12) :
    3 * (a + k / 3 + 128 * (b + u + 128 * (e + v))) + k % 3 = 12 * (a / 4 + 32 * (b + u) + 4096 * (e + v)) + (a % 4 * 3 + k) := by
  omega

/-- The same in the second group. -/
theorem place_second {a b e u v k : ℕ} (ha : a ≤ 124) (hb : b + u ≤ 127) (he : e + v ≤ 127) (hk : k < 12) (w : 12 ≤ a % 4 * 3 + k) :
    3 * (a + k / 3 + 128 * (b + u + 128 * (e + v))) + k % 3 =
      12 * min (a / 4 + 32 * (b + u) + 4096 * (e + v) + 1) 524287 + (a % 4 * 3 + k - 12) := by
  omega

/-- The control point's coordinate that the kernel reads for place `k` of row `m`. -/
theorem cpOf_eq {C : S524288x16.Idx → Ideal .f32} {P : S2097152x3.Idx → Ideal .f32} (h : Holds C P) {jx jy jz : BitVec 32}
    (hx : jx.toNat ≤ 124) (hy : jy.toNat ≤ 124) (hz : jz.toNat ≤ 124) {m k : ℕ} (hm : m < 16) (hk : k < 12) :
    cpOf C jx jy jz m k = P (ix2 2097152 3 (jx.toNat + k / 3 + 128 * (jy.toNat + m % 4 + 128 * (jz.toNat + m / 4))) (k % 3)) := by
  have hs : (shOf jx).toNat ≤ 9 := by
    rw [shOf_toNat]
    omega
  have hg := grpOf_toNat hx hy hz hm
  have hn := nextOf_toNat (grpOf_lt hx hy hz hm)
  unfold cpOf
  rw [wrap_eq _ hs hk, plc_toNat _ hs hk]
  rw [shOf_toNat] at hs ⊢
  by_cases w : 12 ≤ jx.toNat % 4 * 3 + k
  · rw [if_pos w, if_pos w, if_neg (by decide), hn, hg]
    exact h _ _ _ _ (lt_of_le_of_lt (min_le_right _ _) (by norm_num)) (by omega) (by omega) (place_second hx (by omega) (by omega) hk w)
  · rw [if_neg w, if_neg w, if_pos rfl, hg]
    exact h _ _ _ _ (hg ▸ grpOf_lt hx hy hz hm) (by omega) (by omega) (place_first hk)

/-! ## The sum -/

theorem upv_sum (f : ℕ → EReal) (n : ℕ) : ∀ (s : ℕ) (a : EReal), upv (fun k a => a + f k) s n a = a + ∑ k ∈ Finset.range n, f (s + k) := by
  induction n with
  | zero => intro s a; simp [upv]
  | succ n ih =>
    intro s a
    change upv (fun k a => a + f k) (s + 1) n (a + f s) = _
    rw [ih, Finset.sum_range_succ', add_assoc, add_comm (∑ k ∈ Finset.range n, f (s + (k + 1)))]
    refine congrArg (a + ·) (congrArg (f s + ·) (Finset.sum_congr rfl fun k _ => congrArg f ?_))
    omega

/-- The kernel's result at a query as one sum. -/
theorem outOf_sum (TX TY TZ : S132.Idx → Ideal .f32) {C : S524288x16.Idx → Ideal .f32} {P : S2097152x3.Idx → Ideal .f32} (h : Holds C P)
    (x y z : Ideal .f32) {c : ℕ} (hc : c < 3) : outOf TX TY TZ C x y z c = ∑ p : Fin 4 × Fin 4 × Fin 4,
      ((wOf TX x p.1.val : EReal) * wOf TY y p.2.1.val * wOf TZ z p.2.2.val) *
        P (ix2 2097152 3 ((jOf TX x).toNat + p.1.val + 128 * ((jOf TY y).toNat + p.2.1.val + 128 * ((jOf TZ z).toNat + p.2.2.val))) c) := by
  have ha (m mx : ℕ) (a : EReal) : accOf C (jOf TX x) (jOf TY y) (jOf TZ z) (wOf TX x) (wOf TZ z) (wOf TY y) c m mx a =
      a + ((wOf TY y (m % 4) : EReal) * wOf TZ z (m / 4)) * wOf TX x mx * cpOf C (jOf TX x) (jOf TY y) (jOf TZ z) m (mx * 3 + c) := rfl
  have hz : (Scalar.ofBits .f32 0x00000000#32 : Ideal .f32) = (0 : EReal) := by
    simp [Ideal.ofBits, Ideal.ieee]
  unfold outOf
  simp only [ha, upv_sum, hz, zero_add]
  rw [← Finset.sum_product']
  refine Finset.sum_nbij' (fun q => ((⟨q.2 % 4, by omega⟩, ⟨q.1 % 4, by omega⟩, ⟨q.1 / 4 % 4, by omega⟩) : Fin 4 × Fin 4 × Fin 4))
    (fun p => (p.2.1.val + 4 * p.2.2.val, p.1.val)) (fun _ _ => Finset.mem_univ _) ?_ ?_ ?_ ?_
  · intro p _
    simp only [Finset.mem_product, Finset.mem_range]
    omega
  · rintro ⟨a, b⟩ hq
    simp only [Finset.mem_product, Finset.mem_range] at hq
    exact Prod.ext (show a % 4 + 4 * (a / 4 % 4) = a by omega) (show b % 4 = b by omega)
  · rintro ⟨p1, p2, p3⟩ _
    exact Prod.ext (Fin.ext (show p1.val % 4 = p1.val by omega)) (Prod.ext (Fin.ext (show (p2.val + 4 * p3.val) % 4 = p2.val by omega))
      (Fin.ext (show (p2.val + 4 * p3.val) / 4 % 4 = p3.val by omega)))
  · rintro ⟨a, b⟩ hq
    simp only [Finset.mem_product, Finset.mem_range] at hq
    have e1 : a / 4 % 4 = a / 4 := by omega
    have e2 : b % 4 = b := by omega
    have e3 : (b * 3 + c) / 3 = b := by omega
    have e4 : (b * 3 + c) % 3 = c := by omega
    dsimp only
    rw [cpOf_eq h (jOf_le _ _) (jOf_le _ _) (jOf_le _ _) hq.1 (by omega), e1, e2, e3, e4]
    congr 1
    rw [mul_comm, mul_assoc]

end Cert.Kernel
-- ==== Proof.Regular.lean ====
module

public import proofs.«01_k».proof.Defs
public import proofs.«01_k».proof.Proof.Knots
public import Idealize.ShloMosaic.Lib.ReduceAll
public import Idealize.ShloMosaic.Lib.StableHlo.Predicate

@[expose] public section

/-!
What the precondition says: finite queries, and knots that are finite, in order and close to evenly spaced ones.
-/

noncomputable section

namespace Cert.Pre_regular

open Idealize.ShloMosaic Cert.Spline
open Cert.Kernel (ix1 ix2)

theorem regular_facts : Facts where
  bcast_S_S131072x3 := by decide
  reducesTo_S131072x3_S_d0_1 := by decide
  h_S_ := by decide
  bcast_S_S132 := by decide
  reducesTo_S132_S_d0 := by decide
  slices_S132_S131_0 := by decide
  slices_S132_S131_1 := by decide
  reducesTo_S131_S_d0 := by decide
  slices_S132_S1_3 := by decide
  shapeCasts_S1_S_ := by decide
  slices_S132_S1_4 := by decide
  slices_S132_S1_127 := by decide
  slices_S132_S1_128 := by decide
  slices_S132_S123_4 := by decide
  bcast_S_S123 := by decide
  reducesTo_S123_S_d0 := by decide
  slices_S132_S123_5 := by decide

variable [Facts] [Cert.Kernel.Facts]

open Facts

/-- All of a vector of booleans. -/
def every {s : Shape} {axes : List (Fin s.rank)} (x : IVec s 1) (h : s.ReducesTo axes S_) : IVec S_ 1 :=
  Host.reduce IntOp.andi x (constantI S_ 1 1#1) h h_S_

/-- A knot as a scalar. -/
def one (T : FVec Ideal S132 .f32) (k : ℕ) (h : S132.Slices ![k] S1) : FVec Ideal S_ .f32 :=
  shapeCast S_ (extractStridedSlice S1 ![k] T h) shapeCasts_S1_S_

/-- A number for every inner knot. -/
def all (b : BitVec 32) : FVec Ideal S123 .f32 := broadcastInDim S123 ![] bcast_S_S123 (constant S_ .f32 b)

/-- The condition on a knot vector. -/
def good (T : FVec Ideal S132 .f32) : IVec S_ 1 :=
  andi (andi (andi
    (every (cmpf .olt (Host.absf T) (broadcastInDim S132 ![] bcast_S_S132 (constant S_ .f32 0x7F800000#32))) reducesTo_S132_S_d0)
    (every (cmpf .ole (extractStridedSlice S131 ![0] T slices_S132_S131_0) (extractStridedSlice S131 ![1] T slices_S132_S131_1)) reducesTo_S131_S_d0))
    (andi (cmpf .olt (one T 3 slices_S132_S1_3) (one T 4 slices_S132_S1_4)) (cmpf .olt (one T 127 slices_S132_S1_127) (one T 128 slices_S132_S1_128))))
    (andi
      (every (cmpf .ole (mulf (all 0x42FA0000#32) (extractStridedSlice S123 ![4] T slices_S132_S123_4))
        (addf (sitofp .f32 (iotaInDim S123 32 0)) (all 0x40000000#32))) reducesTo_S123_S_d0)
      (every (cmpf .ole (addf (sitofp .f32 (iotaInDim S123 32 0)) (all 0x3F800000#32))
        (mulf (all 0x42FA0000#32) (extractStridedSlice S123 ![5] T slices_S132_S123_5))) reducesTo_S123_S_d0))

/-- The condition on the queries. -/
def finiteQ (Q : FVec Ideal S131072x3 .f32) : IVec S_ 1 :=
  every (cmpf .olt (Host.absf Q) (broadcastInDim S131072x3 ![] bcast_S_S131072x3 (constant S_ .f32 0x7F800000#32))) reducesTo_S131072x3_S_d0_1

theorem fn_eq (Q : FVec Ideal S131072x3 .f32) (C : FVec Ideal S2097152x3 .f32) (TX TY TZ : FVec Ideal S132 .f32) :
    fn (F := Ideal) Q C TX TY TZ = andi (andi (andi (finiteQ Q) (good TX)) (good TY)) (good TZ) := rfl

theorem both : ∀ a b : BitVec 1, IntOp.andi a b = 1#1 → a = 1#1 ∧ b = 1#1 := by decide

/-- The only index of a scalar. -/
def s0 : S_.Idx := fun a => a.elim0

theorem one_idx : Subsingleton S_.Idx := ⟨fun a b => funext fun i => i.elim0⟩

theorem every_one {s : Shape} {axes : List (Fin s.rank)} {x : IVec s 1} {h : s.ReducesTo axes S_} (e : every x h s0 = 1#1) (i : s.Idx) : x i = 1#1 :=
  haveI := one_idx
  Host.reduce_andi_all x _ h h_S_ s0 e i

theorem inf_bits : (Scalar.ofBits .f32 0x7F800000#32 : Ideal .f32) = (⊤ : EReal) := by
  simp [Ideal.ofBits, Ideal.ieee]

/-- The pattern of two. -/
theorem ofBits_2 : (Scalar.ofBits .f32 0x40000000#32 : Ideal .f32) = ((2 : ℝ) : EReal) := by
  change Ideal.ofBits .f32 0x40000000#32 = _
  simp [Ideal.ofBits, Ideal.ieee]
  rw [← EReal.coe_mul]
  norm_num

theorem real_of_abs {a : EReal} (h : max a (-a) < ⊤) : a = ((a.toReal : ℝ) : EReal) := by
  induction a with
  | bot => simp at h
  | top => simp at h
  | coe r => rfl

theorem finiteQ_apply {Q : FVec Ideal S131072x3 .f32} (h : finiteQ Q s0 = 1#1) (i : S131072x3.Idx) :
    Q i = (((Q i : EReal).toReal : ℝ) : EReal) := by
  have e := every_one h i
  have e2 : max (Q i : EReal) (-(Q i : EReal)) < (Scalar.ofBits .f32 0x7F800000#32 : Ideal .f32) :=
    of_decide_eq_true ((StableHlo.Predicate.ofBool_eq_one_iff _).mp e)
  rw [inf_bits] at e2
  exact real_of_abs e2

/-- A knot vector that meets the condition. -/
theorem good_knots {T : FVec Ideal S132 .f32} (h : good T s0 = 1#1) : Knots T fun n => (T (ix1 132 n) : EReal).toReal := by
  obtain ⟨h123, h4⟩ := both _ _ h
  obtain ⟨h12, h3⟩ := both _ _ h123
  obtain ⟨h1, h2⟩ := both _ _ h12
  obtain ⟨h5, h6⟩ := both _ _ h3
  obtain ⟨h7, h8⟩ := both _ _ h4
  have hv (n : ℕ) : T (ix1 132 n) = (((T (ix1 132 n) : EReal).toReal : ℝ) : EReal) := by
    have e2 : max (T (ix1 132 n) : EReal) (-(T (ix1 132 n) : EReal)) < (Scalar.ofBits .f32 0x7F800000#32 : Ideal .f32) :=
      of_decide_eq_true ((StableHlo.Predicate.ofBool_eq_one_iff _).mp (every_one h1 (ix1 132 n)))
    rw [inf_bits] at e2
    exact real_of_abs e2
  have sl (k l n : ℕ) [NeZero l] (hs : S132.Slices ![k] ⟨1, ![l]⟩) (hn : n < l) (hk : k + n < 132) :
      extractStridedSlice ⟨1, ![l]⟩ ![k] T hs (ix1 l n) = T (ix1 132 (k + n)) :=
    congrArg T (funext fun a => match a with
      | 0 => Fin.ext (show k + n % l = (k + n) % 132 by rw [Nat.mod_eq_of_lt hn, Nat.mod_eq_of_lt hk]))
  have so (k : ℕ) (hs : S132.Slices ![k] S1) (hk : k < 132) : one T k hs s0 = T (ix1 132 k) :=
    congrArg T (funext fun a => match a with
      | 0 => Fin.ext (by
          have h0 (i : Fin 1) : i.val = 0 := by omega
          exact (congrArg (k + ·) (h0 _)).trans (Nat.mod_eq_of_lt hk).symm))
  have lt_of (j k : ℕ) (hs : S132.Slices ![j] S1) (ht : S132.Slices ![k] S1) (hj : j < 132) (hk : k < 132)
      (h : cmpf .olt (one T j hs) (one T k ht) s0 = 1#1) : (T (ix1 132 j) : EReal).toReal < (T (ix1 132 k) : EReal).toReal := by
    have e : (one T j hs s0 : EReal) < one T k ht s0 := of_decide_eq_true ((StableHlo.Predicate.ofBool_eq_one_iff _).mp h)
    rw [so j hs hj, so k ht hk, hv j, hv k] at e
    exact EReal.coe_lt_coe_iff.mp e
  refine ⟨fun n _ => hv n, fun n hn => ?_, lt_of 3 4 _ _ (by omega) (by omega) h5, lt_of 127 128 _ _ (by omega) (by omega) h6,
    fun i hi hi' => ?_, fun i hi hi' => ?_⟩
  · have e : (extractStridedSlice S131 ![0] T slices_S132_S131_0 (ix1 131 n) : EReal) ≤ extractStridedSlice S131 ![1] T slices_S132_S131_1 (ix1 131 n) :=
      of_decide_eq_true ((StableHlo.Predicate.ofBool_eq_one_iff _).mp (every_one h2 (ix1 131 n)))
    rw [sl 0 131 n _ (by omega) (by omega), sl 1 131 n _ (by omega) (by omega), Nat.zero_add, Nat.add_comm, hv n, hv (n + 1)] at e
    exact EReal.coe_le_coe_iff.mp e
  · obtain ⟨q, rfl⟩ := Nat.exists_eq_add_of_le hi
    have e : (Scalar.ofBits .f32 0x42FA0000#32 : Ideal .f32) * (extractStridedSlice S123 ![4] T slices_S132_S123_4 (ix1 123 q) : EReal) ≤
        (((BitVec.ofNat 32 (q % 123)).toInt : ℝ) : EReal) + (Scalar.ofBits .f32 0x40000000#32 : Ideal .f32) :=
      of_decide_eq_true ((StableHlo.Predicate.ofBool_eq_one_iff _).mp (every_one h7 (ix1 123 q)))
    rw [sl 4 123 q _ (by omega) (by omega), Nat.mod_eq_of_lt (by omega), StableHlo.Predicate.toInt_ofNat_small q (by omega), ofBits_125, ofBits_2,
      hv (4 + q), ← EReal.coe_mul, ← EReal.coe_add] at e
    have e' := EReal.coe_le_coe_iff.mp e
    rw [show 1 + q + 3 = 4 + q by omega]
    push_cast at e' ⊢
    linarith
  · obtain ⟨q, rfl⟩ := Nat.exists_eq_add_of_le hi
    have e : (((BitVec.ofNat 32 (q % 123)).toInt : ℝ) : EReal) + (Scalar.ofBits .f32 0x3F800000#32 : Ideal .f32) ≤
        (Scalar.ofBits .f32 0x42FA0000#32 : Ideal .f32) * (extractStridedSlice S123 ![5] T slices_S132_S123_5 (ix1 123 q) : EReal) :=
      of_decide_eq_true ((StableHlo.Predicate.ofBool_eq_one_iff _).mp (every_one h8 (ix1 123 q)))
    rw [sl 5 123 q _ (by omega) (by omega), Nat.mod_eq_of_lt (by omega), StableHlo.Predicate.toInt_ofNat_small q (by omega), ofBits_125, ofBits_1,
      hv (5 + q), ← EReal.coe_mul, ← EReal.coe_add] at e
    have e' := EReal.coe_le_coe_iff.mp e
    rw [show 2 + q + 3 = 5 + q by omega]
    push_cast at e' ⊢
    linarith

/-- What the precondition gives. -/
theorem of_fn {Q : FVec Ideal S131072x3 .f32} {C : FVec Ideal S2097152x3 .f32} {TX TY TZ : FVec Ideal S132 .f32}
    (h : fn (F := Ideal) Q C TX TY TZ = fun _ => 1#1) :
    (∀ i, Q i = (((Q i : EReal).toReal : ℝ) : EReal)) ∧ (Knots TX fun n => (TX (ix1 132 n) : EReal).toReal) ∧
      (Knots TY fun n => (TY (ix1 132 n) : EReal).toReal) ∧ Knots TZ fun n => (TZ (ix1 132 n) : EReal).toReal := by
  have h := congrFun h s0
  rw [fn_eq] at h
  obtain ⟨h123, h4⟩ := both _ _ h
  obtain ⟨h12, h3⟩ := both _ _ h123
  obtain ⟨h1, h2⟩ := both _ _ h12
  exact ⟨finiteQ_apply h1, good_knots h2, good_knots h3, good_knots h4⟩

end Cert.Pre_regular
-- ==== Proof.Equal.lean ====
module

public import proofs.«01_k».proof.Proof.Frames
public import proofs.«01_k».proof.Proof.RefEval
public import proofs.«01_k».proof.Proof.Flat
public import proofs.«01_k».proof.Proof.Regular

@[expose] public section

/-!
The idealized kernel and the reference end with the same results.
-/

noncomputable section

namespace Cert.Proof

open Idealize.ShloMosaic Idealize.SL.Sem Cert.Spline
open Cert.Kernel (ix1 ix2)

/-- The reference at a query and a coordinate is the kernel's sum. -/
theorem same_at [Cert.Kernel.Facts] {Q : FVec Ideal Cert.ReferenceIdeal.S131072x3 .f32} {C : FVec Ideal Cert.ReferenceIdeal.S2097152x3 .f32}
    {TX TY TZ : FVec Ideal Cert.ReferenceIdeal.S132 .f32} {G : Cert.Kernel.S524288x16.Idx → Ideal .f32} (hG : Cert.Kernel.Holds G C)
    {tx ty tz : ℕ → ℝ} (kx : Knots TX tx) (ky : Knots TY ty) (kz : Knots TZ tz) (hQ : ∀ i, Q i = (((Q i : EReal).toReal : ℝ) : EReal))
    (i : Cert.ReferenceIdeal.S131072x3.Idx) : Cert.Boor.refV Q C TX TY TZ i = Cert.Kernel.allOut Q G TX TY TZ i := by
  have hi : i = Cert.Boor.q3 (i 0) (i 1) := funext fun a => match a with
    | 0 => rfl
    | 1 => rfl
  have hx := hQ (ix2 131072 3 (i 0).val 0)
  have hy := hQ (ix2 131072 3 (i 0).val 1)
  have hz := hQ (ix2 131072 3 (i 0).val 2)
  rw [hi, Cert.Boor.refV_apply kx ky kz (n := i 0) hx hy hz (i 1) (jOf_at kx _) (jOf_at ky _) (jOf_at kz _), ← hi]
  unfold Cert.Kernel.allOut
  rw [Cert.Kernel.outOf_sum TX TY TZ hG _ _ _ (i 1).isLt, hx, hy, hz]
  refine Finset.sum_congr rfl fun p _ => ?_
  rw [wOf_eq kx, wOf_eq ky, wOf_eq kz]
  rfl

theorem frame_ideal_regular : Cert.quiescent_KernelIdeal_pre_regular (hKernelIdeal := Cert.KernelIdeal.Gen.facts)
    (hPre_regular := Cert.Pre_regular.regular_facts) := fun m ρ _ => frame_ideal m ρ trivial

theorem frame_reference_regular : Cert.quiescent_ReferenceIdeal_pre_regular (hReferenceIdeal := Cert.ReferenceIdeal.Gen.facts)
    (hPre_regular := Cert.Pre_regular.regular_facts) := fun m ρ _ => frame_reference m ρ trivial

theorem algebraic : Cert.algebraic_KernelIdeal_ReferenceIdeal_pre_regular (hKernelIdeal := Cert.KernelIdeal.Gen.facts)
    (hReferenceIdeal := Cert.ReferenceIdeal.Gen.facts) (hPre_regular := Cert.Pre_regular.regular_facts) := by
  intro m ρ m' ρ' hp hm
  letI := Cert.Kernel.Gen.facts
  letI := Cert.Pre_regular.regular_facts
  refine ⟨fun c => Cert.Kernel.result (F := Ideal) m c, (θ_run Cert.KernelIdeal.defs _ _).mono (fun _ h => h.1) (run_ideal m ρ),
    (θ_run Cert.ReferenceIdeal.defs _ _).mono (fun r h c => ⟨(h c).1.trans ?_, (h c).2⟩) (Cert.Boor.run_ref (F := Ideal) m' ρ')⟩
  obtain ⟨h0, h1, h2, h3, h4⟩ := hm c
  obtain ⟨hQ, kx, ky, kz⟩ := Cert.Pre_regular.of_fn (hp c)
  rw [h0, h1, h2, h3, h4]
  exact funext fun i => same_at (Cert.Kernel.groups_holds m c) kx ky kz hQ i

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_regular.regular_facts, frame_kernel, frame_ideal, frame_ideal_regular, frame_reference, frame_reference_regular, trivial, algebraic⟩

end Cert.Proof

end
